-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores [hPre_finite_scores : Cert.Pre_finite_scores.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1))) = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite_scores [hPre_finite_scores : Cert.Pre_finite_scores.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite_scores.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_DenseUp (m : (ℓ : Loc Cert.DenseUp.nD Cert.DenseUp.τ Cert.DenseUp.sig) → Buf (Elt Bits) ℓ) : Prop :=
  True

def Pre_DenseUpIdeal (m : (ℓ : Loc Cert.DenseUpIdeal.nD Cert.DenseUpIdeal.τ Cert.DenseUpIdeal.sig) → Buf (Elt Ideal) ℓ) : Prop :=
  True

def Pre_DenseUpReferenceIdeal (m : (ℓ : Loc Cert.DenseUpReferenceIdeal.nD Cert.DenseUpReferenceIdeal.τ Cert.DenseUpReferenceIdeal.sig) → Buf (Elt Ideal) ℓ) : Prop :=
  True

def Pre_DenseDown (m : (ℓ : Loc Cert.DenseDown.nD Cert.DenseDown.τ Cert.DenseDown.sig) → Buf (Elt Bits) ℓ) : Prop :=
  True

def Pre_DenseDownIdeal (m : (ℓ : Loc Cert.DenseDownIdeal.nD Cert.DenseDownIdeal.τ Cert.DenseDownIdeal.sig) → Buf (Elt Ideal) ℓ) : Prop :=
  True

def Pre_DenseDownReferenceIdeal (m : (ℓ : Loc Cert.DenseDownReferenceIdeal.nD Cert.DenseDownReferenceIdeal.τ Cert.DenseDownReferenceIdeal.sig) → Buf (Elt Ideal) ℓ) : Prop :=
  True

def Pre_MoeUp [hPre_tables_of_tiles : Cert.Pre_tables_of_tiles.Facts] (m : (ℓ : Loc Cert.MoeUp.nD Cert.MoeUp.τ Cert.MoeUp.sig) → Buf (Elt Bits) ℓ) : Prop :=
  ∀ c : Dev Cert.MoeUp.nD,
    (Cert.Pre_tables_of_tiles.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7)) (m ((c.tc : Thread Cert.MoeUp.nD Cert.MoeUp.τ).loc Cert.MoeUp.main_arg8)) (m ((c.tc : Thread Cert.MoeUp.nD Cert.MoeUp.τ).loc Cert.MoeUp.main_arg9))) = (fun _ => 1#1)

def Pre_MoeUpIdeal [hPre_tables_of_tiles : Cert.Pre_tables_of_tiles.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_tables_of_tiles.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7)) (m ((c.tc : Thread Cert.MoeUpIdeal.nD Cert.MoeUpIdeal.τ).loc Cert.MoeUpIdeal.main_arg8)) (m ((c.tc : Thread Cert.MoeUpIdeal.nD Cert.MoeUpIdeal.τ).loc Cert.MoeUpIdeal.main_arg9))) = (fun _ => 1#1)

def Pre_MoeUpReferenceIdeal (m : (ℓ : Loc Cert.MoeUpReferenceIdeal.nD Cert.MoeUpReferenceIdeal.τ Cert.MoeUpReferenceIdeal.sig) → Buf (Elt Ideal) ℓ) : Prop :=
  True

def Pre_MoeUpReferenceIdeal_tables_of_tiles [hPre_tables_of_tiles : Cert.Pre_tables_of_tiles.Facts] (m : (ℓ : Loc Cert.MoeUpReferenceIdeal.nD Cert.MoeUpReferenceIdeal.τ Cert.MoeUpReferenceIdeal.sig) → Buf (Elt Ideal) ℓ) : Prop :=
  ∀ c : Dev Cert.MoeUpReferenceIdeal.nD,
    (Cert.Pre_tables_of_tiles.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7)) (m ((c.tc : Thread Cert.MoeUpReferenceIdeal.nD Cert.MoeUpReferenceIdeal.τ).loc Cert.MoeUpReferenceIdeal.main_arg8)) (m ((c.tc : Thread Cert.MoeUpReferenceIdeal.nD Cert.MoeUpReferenceIdeal.τ).loc Cert.MoeUpReferenceIdeal.main_arg9))) = (fun _ => 1#1)

def Pre_MoeDown [hPre_tables_of_tiles_down : Cert.Pre_tables_of_tiles_down.Facts] (m : (ℓ : Loc Cert.MoeDown.nD Cert.MoeDown.τ Cert.MoeDown.sig) → Buf (Elt Bits) ℓ) : Prop :=
  ∀ c : Dev Cert.MoeDown.nD,
    (Cert.Pre_tables_of_tiles_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6)) (m ((c.tc : Thread Cert.MoeDown.nD Cert.MoeDown.τ).loc Cert.MoeDown.main_arg7)) (m ((c.tc : Thread Cert.MoeDown.nD Cert.MoeDown.τ).loc Cert.MoeDown.main_arg8))) = (fun _ => 1#1)

def Pre_MoeDownIdeal [hPre_tables_of_tiles_down : Cert.Pre_tables_of_tiles_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_tables_of_tiles_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6)) (m ((c.tc : Thread Cert.MoeDownIdeal.nD Cert.MoeDownIdeal.τ).loc Cert.MoeDownIdeal.main_arg7)) (m ((c.tc : Thread Cert.MoeDownIdeal.nD Cert.MoeDownIdeal.τ).loc Cert.MoeDownIdeal.main_arg8))) = (fun _ => 1#1)

def Pre_MoeDownReferenceIdeal (m : (ℓ : Loc Cert.MoeDownReferenceIdeal.nD Cert.MoeDownReferenceIdeal.τ Cert.MoeDownReferenceIdeal.sig) → Buf (Elt Ideal) ℓ) : Prop :=
  True

def Pre_MoeDownReferenceIdeal_tables_of_tiles_down [hPre_tables_of_tiles_down : Cert.Pre_tables_of_tiles_down.Facts] (m : (ℓ : Loc Cert.MoeDownReferenceIdeal.nD Cert.MoeDownReferenceIdeal.τ Cert.MoeDownReferenceIdeal.sig) → Buf (Elt Ideal) ℓ) : Prop :=
  ∀ c : Dev Cert.MoeDownReferenceIdeal.nD,
    (Cert.Pre_tables_of_tiles_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6)) (m ((c.tc : Thread Cert.MoeDownReferenceIdeal.nD Cert.MoeDownReferenceIdeal.τ).loc Cert.MoeDownReferenceIdeal.main_arg7)) (m ((c.tc : Thread Cert.MoeDownReferenceIdeal.nD Cert.MoeDownReferenceIdeal.τ).loc Cert.MoeDownReferenceIdeal.main_arg8))) = (fun _ => 1#1)

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVReferenceIdeal (m : (ℓ : Loc Cert.MemKVReferenceIdeal.nD Cert.MemKVReferenceIdeal.τ Cert.MemKVReferenceIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixReferenceIdeal (m : (ℓ : Loc Cert.NormMixReferenceIdeal.nD Cert.NormMixReferenceIdeal.τ Cert.NormMixReferenceIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemReferenceIdeal (m : (ℓ : Loc Cert.NormMemReferenceIdeal.nD Cert.NormMemReferenceIdeal.τ Cert.NormMemReferenceIdeal.sig) → Buf (Elt Ideal) ℓ) : Prop :=
  True

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearIdeal_finite_near_scores [hPre_finite_near_scores : Cert.Pre_finite_near_scores.Facts] (m : (ℓ : Loc Cert.NearIdeal.nD Cert.NearIdeal.τ Cert.NearIdeal.sig) → Buf (Elt Ideal) ℓ) : Prop :=
  ∀ c : Dev Cert.NearIdeal.nD,
    (Cert.Pre_finite_near_scores.fn (F := Ideal) (m ((c.tc : Thread Cert.NearIdeal.nD Cert.NearIdeal.τ).loc Cert.NearIdeal.main_arg0)) (m ((c.tc : Thread Cert.NearIdeal.nD Cert.NearIdeal.τ).loc Cert.NearIdeal.main_arg1))) = (fun _ => 1#1)

def Pre_NearReferenceIdeal (m : (ℓ : Loc Cert.NearReferenceIdeal.nD Cert.NearReferenceIdeal.τ Cert.NearReferenceIdeal.sig) → Buf (Elt Ideal) ℓ) : Prop :=
  True

def Pre_NearReferenceIdeal_finite_near_scores [hPre_finite_near_scores : Cert.Pre_finite_near_scores.Facts] (m : (ℓ : Loc Cert.NearReferenceIdeal.nD Cert.NearReferenceIdeal.τ Cert.NearReferenceIdeal.sig) → Buf (Elt Ideal) ℓ) : Prop :=
  ∀ c : Dev Cert.NearReferenceIdeal.nD,
    (Cert.Pre_finite_near_scores.fn (F := Ideal) (m ((c.tc : Thread Cert.NearReferenceIdeal.nD Cert.NearReferenceIdeal.τ).loc Cert.NearReferenceIdeal.main_arg0)) (m ((c.tc : Thread Cert.NearReferenceIdeal.nD Cert.NearReferenceIdeal.τ).loc Cert.NearReferenceIdeal.main_arg1))) = (fun _ => 1#1)

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierIdeal_finite_transform [hPre_finite_transform : Cert.Pre_finite_transform.Facts] (m : (ℓ : Loc Cert.FourierIdeal.nD Cert.FourierIdeal.τ Cert.FourierIdeal.sig) → Buf (Elt Ideal) ℓ) : Prop :=
  ∀ c : Dev Cert.FourierIdeal.nD,
    (Cert.Pre_finite_transform.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1)) (m ((c.tc : Thread Cert.FourierIdeal.nD Cert.FourierIdeal.τ).loc Cert.FourierIdeal.main_arg2)) (m ((c.tc : Thread Cert.FourierIdeal.nD Cert.FourierIdeal.τ).loc Cert.FourierIdeal.main_arg3)) (m ((c.tc : Thread Cert.FourierIdeal.nD Cert.FourierIdeal.τ).loc Cert.FourierIdeal.main_arg4))) = (fun _ => 1#1)

def Pre_FourierReferenceIdeal (m : (ℓ : Loc Cert.FourierReferenceIdeal.nD Cert.FourierReferenceIdeal.τ Cert.FourierReferenceIdeal.sig) → Buf (Elt Ideal) ℓ) : Prop :=
  True

def Pre_FourierReferenceIdeal_finite_transform [hPre_finite_transform : Cert.Pre_finite_transform.Facts] (m : (ℓ : Loc Cert.FourierReferenceIdeal.nD Cert.FourierReferenceIdeal.τ Cert.FourierReferenceIdeal.sig) → Buf (Elt Ideal) ℓ) : Prop :=
  ∀ c : Dev Cert.FourierReferenceIdeal.nD,
    (Cert.Pre_finite_transform.fn (F := Ideal) (m ((c.tc : Thread Cert.FourierReferenceIdeal.nD Cert.FourierReferenceIdeal.τ).loc Cert.FourierReferenceIdeal.main_arg0)) (m ((c.tc : Thread Cert.FourierReferenceIdeal.nD Cert.FourierReferenceIdeal.τ).loc Cert.FourierReferenceIdeal.main_arg1)) (m ((c.tc : Thread Cert.FourierReferenceIdeal.nD Cert.FourierReferenceIdeal.τ).loc Cert.FourierReferenceIdeal.main_arg2)) (m ((c.tc : Thread Cert.FourierReferenceIdeal.nD Cert.FourierReferenceIdeal.τ).loc Cert.FourierReferenceIdeal.main_arg3)) (m ((c.tc : Thread Cert.FourierReferenceIdeal.nD Cert.FourierReferenceIdeal.τ).loc Cert.FourierReferenceIdeal.main_arg4))) = (fun _ => 1#1)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossIdeal_pre_finite_scores [hCrossIdeal : Cert.CrossIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1))
      ∧ r.2.sem = fun _ => 0)

def quiescent_CrossReferenceIdeal_pre_finite_scores [hCrossReferenceIdeal : Cert.CrossReferenceIdeal.Facts] [hPre_finite_scores : Cert.Pre_finite_scores.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite_scores m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_DenseUp [hDenseUp : Cert.DenseUp.Facts] : Prop :=
  ∀ (m : (ℓ : Loc Cert.DenseUp.nD Cert.DenseUp.τ Cert.DenseUp.sig) → Buf (Elt Bits) ℓ) (g : Dev Cert.DenseUp.nD → PrngReg), Pre_DenseUp m →
    θ_run (Cert.DenseUp.defs (F := Bits)) (onTc (τ := Cert.DenseUp.τ) (Cert.DenseUp.main (F := Bits))) ⟨m, fun _ => 0, g⟩ (fun r => (∀ c : Dev Cert.DenseUp.nD,
      r.2.mem ((c.tc : Thread Cert.DenseUp.nD Cert.DenseUp.τ).loc Cert.DenseUp.main_arg0) = m ((c.tc : Thread Cert.DenseUp.nD Cert.DenseUp.τ).loc Cert.DenseUp.main_arg0)
      ∧ r.2.mem ((c.tc : Thread Cert.DenseUp.nD Cert.DenseUp.τ).loc Cert.DenseUp.main_arg1) = m ((c.tc : Thread Cert.DenseUp.nD Cert.DenseUp.τ).loc Cert.DenseUp.main_arg1)
      ∧ r.2.mem ((c.tc : Thread Cert.DenseUp.nD Cert.DenseUp.τ).loc Cert.DenseUp.main_arg2) = m ((c.tc : Thread Cert.DenseUp.nD Cert.DenseUp.τ).loc Cert.DenseUp.main_arg2)
      ∧ r.2.mem ((c.tc : Thread Cert.DenseUp.nD Cert.DenseUp.τ).loc Cert.DenseUp.main_arg3) = m ((c.tc : Thread Cert.DenseUp.nD Cert.DenseUp.τ).loc Cert.DenseUp.main_arg3))
      ∧ r.2.sem = fun _ => 0)

def quiescent_DenseUpIdeal [hDenseUpIdeal : Cert.DenseUpIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg), Pre_DenseUpIdeal m →
    θ_run (Cert.DenseUpIdeal.defs (F := Ideal)) (onTc (τ := Cert.DenseUpIdeal.τ) (Cert.DenseUpIdeal.main (F := Ideal))) ⟨m, fun _ => 0, g⟩ (fun r => (∀ c : Dev Cert.DenseUpIdeal.nD,
      r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
      ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
      ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2)
      ∧ r.2.mem ((c.tc : Thread Cert.DenseUpIdeal.nD Cert.DenseUpIdeal.τ).loc Cert.DenseUpIdeal.main_arg3) = m ((c.tc : Thread Cert.DenseUpIdeal.nD Cert.DenseUpIdeal.τ).loc Cert.DenseUpIdeal.main_arg3))
      ∧ r.2.sem = fun _ => 0)

def quiescent_DenseUpReferenceIdeal [hDenseUpReferenceIdeal : Cert.DenseUpReferenceIdeal.Facts] : Prop :=
  ∀ (m : (ℓ : Loc Cert.DenseUpReferenceIdeal.nD Cert.DenseUpReferenceIdeal.τ Cert.DenseUpReferenceIdeal.sig) → Buf (Elt Ideal) ℓ) (g : Dev Cert.DenseUpReferenceIdeal.nD → PrngReg), Pre_DenseUpReferenceIdeal m →
    θ_run (Cert.DenseUpReferenceIdeal.defs (F := Ideal)) (onTc (τ := Cert.DenseUpReferenceIdeal.τ) (Cert.DenseUpReferenceIdeal.main (F := Ideal))) ⟨m, fun _ => 0, g⟩ (fun r => (∀ c : Dev Cert.DenseUpReferenceIdeal.nD,
      r.2.mem ((c.tc : Thread Cert.DenseUpReferenceIdeal.nD Cert.DenseUpReferenceIdeal.τ).loc Cert.DenseUpReferenceIdeal.main_arg0) = m ((c.tc : Thread Cert.DenseUpReferenceIdeal.nD Cert.DenseUpReferenceIdeal.τ).loc Cert.DenseUpReferenceIdeal.main_arg0)
      ∧ r.2.mem ((c.tc : Thread Cert.DenseUpReferenceIdeal.nD Cert.DenseUpReferenceIdeal.τ).loc Cert.DenseUpReferenceIdeal.main_arg1) = m ((c.tc : Thread Cert.DenseUpReferenceIdeal.nD Cert.DenseUpReferenceIdeal.τ).loc Cert.DenseUpReferenceIdeal.main_arg1)
      ∧ r.2.mem ((c.tc : Thread Cert.DenseUpReferenceIdeal.nD Cert.DenseUpReferenceIdeal.τ).loc Cert.DenseUpReferenceIdeal.main_arg2) = m ((c.tc : Thread Cert.DenseUpReferenceIdeal.nD Cert.DenseUpReferenceIdeal.τ).loc Cert.DenseUpReferenceIdeal.main_arg2)
      ∧ r.2.mem ((c.tc : Thread Cert.DenseUpReferenceIdeal.nD Cert.DenseUpReferenceIdeal.τ).loc Cert.DenseUpReferenceIdeal.main_arg3) = m ((c.tc : Thread Cert.DenseUpReferenceIdeal.nD Cert.DenseUpReferenceIdeal.τ).loc Cert.DenseUpReferenceIdeal.main_arg3))
      ∧ r.2.sem = fun _ => 0)

def quiescent_DenseDown [hDenseDown : Cert.DenseDown.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2))
      ∧ r.2.sem = fun _ => 0)

def quiescent_DenseDownIdeal [hDenseDownIdeal : Cert.DenseDownIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2))
      ∧ r.2.sem = fun _ => 0)

def quiescent_DenseDownReferenceIdeal [hDenseDownReferenceIdeal : Cert.DenseDownReferenceIdeal.Facts] : Prop :=
  ∀ (m : (ℓ : Loc Cert.DenseDownReferenceIdeal.nD Cert.DenseDownReferenceIdeal.τ Cert.DenseDownReferenceIdeal.sig) → Buf (Elt Ideal) ℓ) (g : Dev Cert.DenseDownReferenceIdeal.nD → PrngReg), Pre_DenseDownReferenceIdeal m →
    θ_run (Cert.DenseDownReferenceIdeal.defs (F := Ideal)) (onTc (τ := Cert.DenseDownReferenceIdeal.τ) (Cert.DenseDownReferenceIdeal.main (F := Ideal))) ⟨m, fun _ => 0, g⟩ (fun r => (∀ c : Dev Cert.DenseDownReferenceIdeal.nD,
      r.2.mem ((c.tc : Thread Cert.DenseDownReferenceIdeal.nD Cert.DenseDownReferenceIdeal.τ).loc Cert.DenseDownReferenceIdeal.main_arg0) = m ((c.tc : Thread Cert.DenseDownReferenceIdeal.nD Cert.DenseDownReferenceIdeal.τ).loc Cert.DenseDownReferenceIdeal.main_arg0)
      ∧ r.2.mem ((c.tc : Thread Cert.DenseDownReferenceIdeal.nD Cert.DenseDownReferenceIdeal.τ).loc Cert.DenseDownReferenceIdeal.main_arg1) = m ((c.tc : Thread Cert.DenseDownReferenceIdeal.nD Cert.DenseDownReferenceIdeal.τ).loc Cert.DenseDownReferenceIdeal.main_arg1)
      ∧ r.2.mem ((c.tc : Thread Cert.DenseDownReferenceIdeal.nD Cert.DenseDownReferenceIdeal.τ).loc Cert.DenseDownReferenceIdeal.main_arg2) = m ((c.tc : Thread Cert.DenseDownReferenceIdeal.nD Cert.DenseDownReferenceIdeal.τ).loc Cert.DenseDownReferenceIdeal.main_arg2))
      ∧ r.2.sem = fun _ => 0)

def quiescent_MoeUp [hMoeUp : Cert.MoeUp.Facts] [hPre_tables_of_tiles : Cert.Pre_tables_of_tiles.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5)
      ∧ r.2.mem ((c.tc : Thread Cert.MoeUp.nD Cert.MoeUp.τ).loc Cert.MoeUp.main_arg6) = m ((c.tc : Thread Cert.MoeUp.nD Cert.MoeUp.τ).loc Cert.MoeUp.main_arg6)
      ∧ r.2.mem ((c.tc : Thread Cert.MoeUp.nD Cert.MoeUp.τ).loc Cert.MoeUp.main_arg7) = m ((c.tc : Thread Cert.MoeUp.nD Cert.MoeUp.τ).loc Cert.MoeUp.main_arg7)
      ∧ r.2.mem ((c.tc : Thread Cert.MoeUp.nD Cert.MoeUp.τ).loc Cert.MoeUp.main_arg8) = m ((c.tc : Thread Cert.MoeUp.nD Cert.MoeUp.τ).loc Cert.MoeUp.main_arg8)
      ∧ r.2.mem ((c.tc : Thread Cert.MoeUp.nD Cert.MoeUp.τ).loc Cert.MoeUp.main_arg9) = m ((c.tc : Thread Cert.MoeUp.nD Cert.MoeUp.τ).loc Cert.MoeUp.main_arg9))
      ∧ r.2.sem = fun _ => 0)

def quiescent_MoeUpIdeal [hMoeUpIdeal : Cert.MoeUpIdeal.Facts] [hPre_tables_of_tiles : Cert.Pre_tables_of_tiles.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5)
      ∧ r.2.mem ((c.tc : Thread Cert.MoeUpIdeal.nD Cert.MoeUpIdeal.τ).loc Cert.MoeUpIdeal.main_arg6) = m ((c.tc : Thread Cert.MoeUpIdeal.nD Cert.MoeUpIdeal.τ).loc Cert.MoeUpIdeal.main_arg6)
      ∧ r.2.mem ((c.tc : Thread Cert.MoeUpIdeal.nD Cert.MoeUpIdeal.τ).loc Cert.MoeUpIdeal.main_arg7) = m ((c.tc : Thread Cert.MoeUpIdeal.nD Cert.MoeUpIdeal.τ).loc Cert.MoeUpIdeal.main_arg7)
      ∧ r.2.mem ((c.tc : Thread Cert.MoeUpIdeal.nD Cert.MoeUpIdeal.τ).loc Cert.MoeUpIdeal.main_arg8) = m ((c.tc : Thread Cert.MoeUpIdeal.nD Cert.MoeUpIdeal.τ).loc Cert.MoeUpIdeal.main_arg8)
      ∧ r.2.mem ((c.tc : Thread Cert.MoeUpIdeal.nD Cert.MoeUpIdeal.τ).loc Cert.MoeUpIdeal.main_arg9) = m ((c.tc : Thread Cert.MoeUpIdeal.nD Cert.MoeUpIdeal.τ).loc Cert.MoeUpIdeal.main_arg9))
      ∧ r.2.sem = fun _ => 0)

def quiescent_MoeUpReferenceIdeal [hMoeUpReferenceIdeal : Cert.MoeUpReferenceIdeal.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4)
      ∧ r.2.mem ((c.tc : Thread Cert.MoeUpReferenceIdeal.nD Cert.MoeUpReferenceIdeal.τ).loc Cert.MoeUpReferenceIdeal.main_arg5) = m ((c.tc : Thread Cert.MoeUpReferenceIdeal.nD Cert.MoeUpReferenceIdeal.τ).loc Cert.MoeUpReferenceIdeal.main_arg5)
      ∧ r.2.mem ((c.tc : Thread Cert.MoeUpReferenceIdeal.nD Cert.MoeUpReferenceIdeal.τ).loc Cert.MoeUpReferenceIdeal.main_arg6) = m ((c.tc : Thread Cert.MoeUpReferenceIdeal.nD Cert.MoeUpReferenceIdeal.τ).loc Cert.MoeUpReferenceIdeal.main_arg6)
      ∧ r.2.mem ((c.tc : Thread Cert.MoeUpReferenceIdeal.nD Cert.MoeUpReferenceIdeal.τ).loc Cert.MoeUpReferenceIdeal.main_arg7) = m ((c.tc : Thread Cert.MoeUpReferenceIdeal.nD Cert.MoeUpReferenceIdeal.τ).loc Cert.MoeUpReferenceIdeal.main_arg7)
      ∧ r.2.mem ((c.tc : Thread Cert.MoeUpReferenceIdeal.nD Cert.MoeUpReferenceIdeal.τ).loc Cert.MoeUpReferenceIdeal.main_arg8) = m ((c.tc : Thread Cert.MoeUpReferenceIdeal.nD Cert.MoeUpReferenceIdeal.τ).loc Cert.MoeUpReferenceIdeal.main_arg8)
      ∧ r.2.mem ((c.tc : Thread Cert.MoeUpReferenceIdeal.nD Cert.MoeUpReferenceIdeal.τ).loc Cert.MoeUpReferenceIdeal.main_arg9) = m ((c.tc : Thread Cert.MoeUpReferenceIdeal.nD Cert.MoeUpReferenceIdeal.τ).loc Cert.MoeUpReferenceIdeal.main_arg9))
      ∧ r.2.sem = fun _ => 0)

def quiescent_MoeUpReferenceIdeal_pre_tables_of_tiles [hMoeUpReferenceIdeal : Cert.MoeUpReferenceIdeal.Facts] [hPre_tables_of_tiles : Cert.Pre_tables_of_tiles.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal_tables_of_tiles m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4)
      ∧ r.2.mem ((c.tc : Thread Cert.MoeUpReferenceIdeal.nD Cert.MoeUpReferenceIdeal.τ).loc Cert.MoeUpReferenceIdeal.main_arg5) = m ((c.tc : Thread Cert.MoeUpReferenceIdeal.nD Cert.MoeUpReferenceIdeal.τ).loc Cert.MoeUpReferenceIdeal.main_arg5)
      ∧ r.2.mem ((c.tc : Thread Cert.MoeUpReferenceIdeal.nD Cert.MoeUpReferenceIdeal.τ).loc Cert.MoeUpReferenceIdeal.main_arg6) = m ((c.tc : Thread Cert.MoeUpReferenceIdeal.nD Cert.MoeUpReferenceIdeal.τ).loc Cert.MoeUpReferenceIdeal.main_arg6)
      ∧ r.2.mem ((c.tc : Thread Cert.MoeUpReferenceIdeal.nD Cert.MoeUpReferenceIdeal.τ).loc Cert.MoeUpReferenceIdeal.main_arg7) = m ((c.tc : Thread Cert.MoeUpReferenceIdeal.nD Cert.MoeUpReferenceIdeal.τ).loc Cert.MoeUpReferenceIdeal.main_arg7)
      ∧ r.2.mem ((c.tc : Thread Cert.MoeUpReferenceIdeal.nD Cert.MoeUpReferenceIdeal.τ).loc Cert.MoeUpReferenceIdeal.main_arg8) = m ((c.tc : Thread Cert.MoeUpReferenceIdeal.nD Cert.MoeUpReferenceIdeal.τ).loc Cert.MoeUpReferenceIdeal.main_arg8)
      ∧ r.2.mem ((c.tc : Thread Cert.MoeUpReferenceIdeal.nD Cert.MoeUpReferenceIdeal.τ).loc Cert.MoeUpReferenceIdeal.main_arg9) = m ((c.tc : Thread Cert.MoeUpReferenceIdeal.nD Cert.MoeUpReferenceIdeal.τ).loc Cert.MoeUpReferenceIdeal.main_arg9))
      ∧ r.2.sem = fun _ => 0)

def quiescent_MoeDown [hMoeDown : Cert.MoeDown.Facts] [hPre_tables_of_tiles_down : Cert.Pre_tables_of_tiles_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4)
      ∧ r.2.mem ((c.tc : Thread Cert.MoeDown.nD Cert.MoeDown.τ).loc Cert.MoeDown.main_arg5) = m ((c.tc : Thread Cert.MoeDown.nD Cert.MoeDown.τ).loc Cert.MoeDown.main_arg5)
      ∧ r.2.mem ((c.tc : Thread Cert.MoeDown.nD Cert.MoeDown.τ).loc Cert.MoeDown.main_arg6) = m ((c.tc : Thread Cert.MoeDown.nD Cert.MoeDown.τ).loc Cert.MoeDown.main_arg6)
      ∧ r.2.mem ((c.tc : Thread Cert.MoeDown.nD Cert.MoeDown.τ).loc Cert.MoeDown.main_arg7) = m ((c.tc : Thread Cert.MoeDown.nD Cert.MoeDown.τ).loc Cert.MoeDown.main_arg7)
      ∧ r.2.mem ((c.tc : Thread Cert.MoeDown.nD Cert.MoeDown.τ).loc Cert.MoeDown.main_arg8) = m ((c.tc : Thread Cert.MoeDown.nD Cert.MoeDown.τ).loc Cert.MoeDown.main_arg8))
      ∧ r.2.sem = fun _ => 0)

def quiescent_MoeDownIdeal [hMoeDownIdeal : Cert.MoeDownIdeal.Facts] [hPre_tables_of_tiles_down : Cert.Pre_tables_of_tiles_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
      ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5)
      ∧ r.2.mem ((c.tc : Thread Cert.MoeDownIdeal.nD Cert.MoeDownIdeal.τ).loc Cert.MoeDownIdeal.main_arg6) = m ((c.tc : Thread Cert.MoeDownIdeal.nD Cert.MoeDownIdeal.τ).loc Cert.MoeDownIdeal.main_arg6)
      ∧ r.2.mem ((c.tc : Thread Cert.MoeDownIdeal.nD Cert.MoeDownIdeal.τ).loc Cert.MoeDownIdeal.main_arg7) = m ((c.tc : Thread Cert.MoeDownIdeal.nD Cert.MoeDownIdeal.τ).loc Cert.MoeDownIdeal.main_arg7)
      ∧ r.2.mem ((c.tc : Thread Cert.MoeDownIdeal.nD Cert.MoeDownIdeal.τ).loc Cert.MoeDownIdeal.main_arg8) = m ((c.tc : Thread Cert.MoeDownIdeal.nD Cert.MoeDownIdeal.τ).loc Cert.MoeDownIdeal.main_arg8))
      ∧ r.2.sem = fun _ => 0)

def quiescent_MoeDownReferenceIdeal [hMoeDownReferenceIdeal : Cert.MoeDownReferenceIdeal.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3)
      ∧ r.2.mem ((c.tc : Thread Cert.MoeDownReferenceIdeal.nD Cert.MoeDownReferenceIdeal.τ).loc Cert.MoeDownReferenceIdeal.main_arg4) = m ((c.tc : Thread Cert.MoeDownReferenceIdeal.nD Cert.MoeDownReferenceIdeal.τ).loc Cert.MoeDownReferenceIdeal.main_arg4)
      ∧ r.2.mem ((c.tc : Thread Cert.MoeDownReferenceIdeal.nD Cert.MoeDownReferenceIdeal.τ).loc Cert.MoeDownReferenceIdeal.main_arg5) = m ((c.tc : Thread Cert.MoeDownReferenceIdeal.nD Cert.MoeDownReferenceIdeal.τ).loc Cert.MoeDownReferenceIdeal.main_arg5)
      ∧ r.2.mem ((c.tc : Thread Cert.MoeDownReferenceIdeal.nD Cert.MoeDownReferenceIdeal.τ).loc Cert.MoeDownReferenceIdeal.main_arg6) = m ((c.tc : Thread Cert.MoeDownReferenceIdeal.nD Cert.MoeDownReferenceIdeal.τ).loc Cert.MoeDownReferenceIdeal.main_arg6)
      ∧ r.2.mem ((c.tc : Thread Cert.MoeDownReferenceIdeal.nD Cert.MoeDownReferenceIdeal.τ).loc Cert.MoeDownReferenceIdeal.main_arg7) = m ((c.tc : Thread Cert.MoeDownReferenceIdeal.nD Cert.MoeDownReferenceIdeal.τ).loc Cert.MoeDownReferenceIdeal.main_arg7)
      ∧ r.2.mem ((c.tc : Thread Cert.MoeDownReferenceIdeal.nD Cert.MoeDownReferenceIdeal.τ).loc Cert.MoeDownReferenceIdeal.main_arg8) = m ((c.tc : Thread Cert.MoeDownReferenceIdeal.nD Cert.MoeDownReferenceIdeal.τ).loc Cert.MoeDownReferenceIdeal.main_arg8))
      ∧ r.2.sem = fun _ => 0)

def quiescent_MoeDownReferenceIdeal_pre_tables_of_tiles_down [hMoeDownReferenceIdeal : Cert.MoeDownReferenceIdeal.Facts] [hPre_tables_of_tiles_down : Cert.Pre_tables_of_tiles_down.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal_tables_of_tiles_down m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3)
      ∧ r.2.mem ((c.tc : Thread Cert.MoeDownReferenceIdeal.nD Cert.MoeDownReferenceIdeal.τ).loc Cert.MoeDownReferenceIdeal.main_arg4) = m ((c.tc : Thread Cert.MoeDownReferenceIdeal.nD Cert.MoeDownReferenceIdeal.τ).loc Cert.MoeDownReferenceIdeal.main_arg4)
      ∧ r.2.mem ((c.tc : Thread Cert.MoeDownReferenceIdeal.nD Cert.MoeDownReferenceIdeal.τ).loc Cert.MoeDownReferenceIdeal.main_arg5) = m ((c.tc : Thread Cert.MoeDownReferenceIdeal.nD Cert.MoeDownReferenceIdeal.τ).loc Cert.MoeDownReferenceIdeal.main_arg5)
      ∧ r.2.mem ((c.tc : Thread Cert.MoeDownReferenceIdeal.nD Cert.MoeDownReferenceIdeal.τ).loc Cert.MoeDownReferenceIdeal.main_arg6) = m ((c.tc : Thread Cert.MoeDownReferenceIdeal.nD Cert.MoeDownReferenceIdeal.τ).loc Cert.MoeDownReferenceIdeal.main_arg6)
      ∧ r.2.mem ((c.tc : Thread Cert.MoeDownReferenceIdeal.nD Cert.MoeDownReferenceIdeal.τ).loc Cert.MoeDownReferenceIdeal.main_arg7) = m ((c.tc : Thread Cert.MoeDownReferenceIdeal.nD Cert.MoeDownReferenceIdeal.τ).loc Cert.MoeDownReferenceIdeal.main_arg7)
      ∧ r.2.mem ((c.tc : Thread Cert.MoeDownReferenceIdeal.nD Cert.MoeDownReferenceIdeal.τ).loc Cert.MoeDownReferenceIdeal.main_arg8) = m ((c.tc : Thread Cert.MoeDownReferenceIdeal.nD Cert.MoeDownReferenceIdeal.τ).loc Cert.MoeDownReferenceIdeal.main_arg8))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1))
      ∧ r.2.sem = fun _ => 0)

def quiescent_MemKVReferenceIdeal [hMemKVReferenceIdeal : Cert.MemKVReferenceIdeal.Facts] : Prop :=
  ∀ (m : (ℓ : Loc Cert.MemKVReferenceIdeal.nD Cert.MemKVReferenceIdeal.τ Cert.MemKVReferenceIdeal.sig) → Buf (Elt Ideal) ℓ) (g : Dev Cert.MemKVReferenceIdeal.nD → PrngReg), Pre_MemKVReferenceIdeal m →
    θ_run (Cert.MemKVReferenceIdeal.defs (F := Ideal)) (onTc (τ := Cert.MemKVReferenceIdeal.τ) (Cert.MemKVReferenceIdeal.main (F := Ideal))) ⟨m, fun _ => 0, g⟩ (fun r => (∀ c : Dev Cert.MemKVReferenceIdeal.nD,
      r.2.mem ((c.tc : Thread Cert.MemKVReferenceIdeal.nD Cert.MemKVReferenceIdeal.τ).loc Cert.MemKVReferenceIdeal.main_arg0) = m ((c.tc : Thread Cert.MemKVReferenceIdeal.nD Cert.MemKVReferenceIdeal.τ).loc Cert.MemKVReferenceIdeal.main_arg0)
      ∧ r.2.mem ((c.tc : Thread Cert.MemKVReferenceIdeal.nD Cert.MemKVReferenceIdeal.τ).loc Cert.MemKVReferenceIdeal.main_arg1) = m ((c.tc : Thread Cert.MemKVReferenceIdeal.nD Cert.MemKVReferenceIdeal.τ).loc Cert.MemKVReferenceIdeal.main_arg1))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixReferenceIdeal [hNormMixReferenceIdeal : Cert.NormMixReferenceIdeal.Facts] : Prop :=
  ∀ (m : (ℓ : Loc Cert.NormMixReferenceIdeal.nD Cert.NormMixReferenceIdeal.τ Cert.NormMixReferenceIdeal.sig) → Buf (Elt Ideal) ℓ) (g : Dev Cert.NormMixReferenceIdeal.nD → PrngReg), Pre_NormMixReferenceIdeal m →
    θ_run (Cert.NormMixReferenceIdeal.defs (F := Ideal)) (onTc (τ := Cert.NormMixReferenceIdeal.τ) (Cert.NormMixReferenceIdeal.main (F := Ideal))) ⟨m, fun _ => 0, g⟩ (fun r => (∀ c : Dev Cert.NormMixReferenceIdeal.nD,
      r.2.mem ((c.tc : Thread Cert.NormMixReferenceIdeal.nD Cert.NormMixReferenceIdeal.τ).loc Cert.NormMixReferenceIdeal.main_arg0) = m ((c.tc : Thread Cert.NormMixReferenceIdeal.nD Cert.NormMixReferenceIdeal.τ).loc Cert.NormMixReferenceIdeal.main_arg0)
      ∧ r.2.mem ((c.tc : Thread Cert.NormMixReferenceIdeal.nD Cert.NormMixReferenceIdeal.τ).loc Cert.NormMixReferenceIdeal.main_arg1) = m ((c.tc : Thread Cert.NormMixReferenceIdeal.nD Cert.NormMixReferenceIdeal.τ).loc Cert.NormMixReferenceIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemReferenceIdeal [hNormMemReferenceIdeal : Cert.NormMemReferenceIdeal.Facts] : Prop :=
  ∀ (m : (ℓ : Loc Cert.NormMemReferenceIdeal.nD Cert.NormMemReferenceIdeal.τ Cert.NormMemReferenceIdeal.sig) → Buf (Elt Ideal) ℓ) (g : Dev Cert.NormMemReferenceIdeal.nD → PrngReg), Pre_NormMemReferenceIdeal m →
    θ_run (Cert.NormMemReferenceIdeal.defs (F := Ideal)) (onTc (τ := Cert.NormMemReferenceIdeal.τ) (Cert.NormMemReferenceIdeal.main (F := Ideal))) ⟨m, fun _ => 0, g⟩ (fun r => (∀ c : Dev Cert.NormMemReferenceIdeal.nD,
      r.2.mem ((c.tc : Thread Cert.NormMemReferenceIdeal.nD Cert.NormMemReferenceIdeal.τ).loc Cert.NormMemReferenceIdeal.main_arg0) = m ((c.tc : Thread Cert.NormMemReferenceIdeal.nD Cert.NormMemReferenceIdeal.τ).loc Cert.NormMemReferenceIdeal.main_arg0)
      ∧ r.2.mem ((c.tc : Thread Cert.NormMemReferenceIdeal.nD Cert.NormMemReferenceIdeal.τ).loc Cert.NormMemReferenceIdeal.main_arg1) = m ((c.tc : Thread Cert.NormMemReferenceIdeal.nD Cert.NormMemReferenceIdeal.τ).loc Cert.NormMemReferenceIdeal.main_arg1))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0)
      ∧ r.2.mem ((c.tc : Thread Cert.Near.nD Cert.Near.τ).loc Cert.Near.main_arg1) = m ((c.tc : Thread Cert.Near.nD Cert.Near.τ).loc Cert.Near.main_arg1))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_NearIdeal_pre_finite_near_scores [hNearIdeal : Cert.NearIdeal.Facts] [hPre_finite_near_scores : Cert.Pre_finite_near_scores.Facts] : Prop :=
  ∀ (m : (ℓ : Loc Cert.NearIdeal.nD Cert.NearIdeal.τ Cert.NearIdeal.sig) → Buf (Elt Ideal) ℓ) (g : Dev Cert.NearIdeal.nD → PrngReg), Pre_NearIdeal_finite_near_scores m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_NearReferenceIdeal [hNearReferenceIdeal : Cert.NearReferenceIdeal.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0)
      ∧ r.2.mem ((c.tc : Thread Cert.NearReferenceIdeal.nD Cert.NearReferenceIdeal.τ).loc Cert.NearReferenceIdeal.main_arg1) = m ((c.tc : Thread Cert.NearReferenceIdeal.nD Cert.NearReferenceIdeal.τ).loc Cert.NearReferenceIdeal.main_arg1))
      ∧ r.2.sem = fun _ => 0)

def quiescent_NearReferenceIdeal_pre_finite_near_scores [hNearReferenceIdeal : Cert.NearReferenceIdeal.Facts] [hPre_finite_near_scores : Cert.Pre_finite_near_scores.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal_finite_near_scores m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0)
      ∧ r.2.mem ((c.tc : Thread Cert.NearReferenceIdeal.nD Cert.NearReferenceIdeal.τ).loc Cert.NearReferenceIdeal.main_arg1) = m ((c.tc : Thread Cert.NearReferenceIdeal.nD Cert.NearReferenceIdeal.τ).loc Cert.NearReferenceIdeal.main_arg1))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2)
      ∧ r.2.mem ((c.tc : Thread Cert.Fourier.nD Cert.Fourier.τ).loc Cert.Fourier.main_arg3) = m ((c.tc : Thread Cert.Fourier.nD Cert.Fourier.τ).loc Cert.Fourier.main_arg3)
      ∧ r.2.mem ((c.tc : Thread Cert.Fourier.nD Cert.Fourier.τ).loc Cert.Fourier.main_arg4) = m ((c.tc : Thread Cert.Fourier.nD Cert.Fourier.τ).loc Cert.Fourier.main_arg4))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4))
      ∧ r.2.sem = fun _ => 0)

def quiescent_FourierIdeal_pre_finite_transform [hFourierIdeal : Cert.FourierIdeal.Facts] [hPre_finite_transform : Cert.Pre_finite_transform.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal_finite_transform m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4))
      ∧ r.2.sem = fun _ => 0)

def quiescent_FourierReferenceIdeal [hFourierReferenceIdeal : Cert.FourierReferenceIdeal.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1)
      ∧ r.2.mem ((c.tc : Thread Cert.FourierReferenceIdeal.nD Cert.FourierReferenceIdeal.τ).loc Cert.FourierReferenceIdeal.main_arg2) = m ((c.tc : Thread Cert.FourierReferenceIdeal.nD Cert.FourierReferenceIdeal.τ).loc Cert.FourierReferenceIdeal.main_arg2)
      ∧ r.2.mem ((c.tc : Thread Cert.FourierReferenceIdeal.nD Cert.FourierReferenceIdeal.τ).loc Cert.FourierReferenceIdeal.main_arg3) = m ((c.tc : Thread Cert.FourierReferenceIdeal.nD Cert.FourierReferenceIdeal.τ).loc Cert.FourierReferenceIdeal.main_arg3)
      ∧ r.2.mem ((c.tc : Thread Cert.FourierReferenceIdeal.nD Cert.FourierReferenceIdeal.τ).loc Cert.FourierReferenceIdeal.main_arg4) = m ((c.tc : Thread Cert.FourierReferenceIdeal.nD Cert.FourierReferenceIdeal.τ).loc Cert.FourierReferenceIdeal.main_arg4))
      ∧ r.2.sem = fun _ => 0)

def quiescent_FourierReferenceIdeal_pre_finite_transform [hFourierReferenceIdeal : Cert.FourierReferenceIdeal.Facts] [hPre_finite_transform : Cert.Pre_finite_transform.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal_finite_transform m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1)
      ∧ r.2.mem ((c.tc : Thread Cert.FourierReferenceIdeal.nD Cert.FourierReferenceIdeal.τ).loc Cert.FourierReferenceIdeal.main_arg2) = m ((c.tc : Thread Cert.FourierReferenceIdeal.nD Cert.FourierReferenceIdeal.τ).loc Cert.FourierReferenceIdeal.main_arg2)
      ∧ r.2.mem ((c.tc : Thread Cert.FourierReferenceIdeal.nD Cert.FourierReferenceIdeal.τ).loc Cert.FourierReferenceIdeal.main_arg3) = m ((c.tc : Thread Cert.FourierReferenceIdeal.nD Cert.FourierReferenceIdeal.τ).loc Cert.FourierReferenceIdeal.main_arg3)
      ∧ r.2.mem ((c.tc : Thread Cert.FourierReferenceIdeal.nD Cert.FourierReferenceIdeal.τ).loc Cert.FourierReferenceIdeal.main_arg4) = m ((c.tc : Thread Cert.FourierReferenceIdeal.nD Cert.FourierReferenceIdeal.τ).loc Cert.FourierReferenceIdeal.main_arg4))
      ∧ r.2.sem = fun _ => 0)

def preserves_Cross_CrossIdeal : Prop :=
  True

def algebraic_CrossIdeal_CrossReferenceIdeal_pre_finite_scores [hCrossIdeal : Cert.CrossIdeal.Facts] [hCrossReferenceIdeal : Cert.CrossReferenceIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite_scores m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v26) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v47) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v4) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_DenseUp_DenseUpIdeal : Prop :=
  True

def algebraic_DenseUpIdeal_DenseUpReferenceIdeal [hDenseUpIdeal : Cert.DenseUpIdeal.Facts] [hDenseUpReferenceIdeal : Cert.DenseUpReferenceIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg)
    (m' : (ℓ : Loc Cert.DenseUpReferenceIdeal.nD Cert.DenseUpReferenceIdeal.τ Cert.DenseUpReferenceIdeal.sig) → Buf (Elt Ideal) ℓ) (g' : Dev Cert.DenseUpReferenceIdeal.nD → PrngReg), Pre_DenseUpIdeal m →
    (∀ c : Dev Cert.DenseUpIdeal.nD,
      m' ((c.tc : Thread Cert.DenseUpReferenceIdeal.nD Cert.DenseUpReferenceIdeal.τ).loc Cert.DenseUpReferenceIdeal.main_arg0) = m ((c.tc : Thread Cert.DenseUpIdeal.nD Cert.DenseUpIdeal.τ).loc Cert.DenseUpIdeal.main_arg0)
      ∧ m' ((c.tc : Thread Cert.DenseUpReferenceIdeal.nD Cert.DenseUpReferenceIdeal.τ).loc Cert.DenseUpReferenceIdeal.main_arg1) = m ((c.tc : Thread Cert.DenseUpIdeal.nD Cert.DenseUpIdeal.τ).loc Cert.DenseUpIdeal.main_arg1)
      ∧ m' ((c.tc : Thread Cert.DenseUpReferenceIdeal.nD Cert.DenseUpReferenceIdeal.τ).loc Cert.DenseUpReferenceIdeal.main_arg2) = m ((c.tc : Thread Cert.DenseUpIdeal.nD Cert.DenseUpIdeal.τ).loc Cert.DenseUpIdeal.main_arg2)
      ∧ m' ((c.tc : Thread Cert.DenseUpReferenceIdeal.nD Cert.DenseUpReferenceIdeal.τ).loc Cert.DenseUpReferenceIdeal.main_arg3) = m ((c.tc : Thread Cert.DenseUpIdeal.nD Cert.DenseUpIdeal.τ).loc Cert.DenseUpIdeal.main_arg3)) →
    ∃ (v0 : (c : Dev Cert.DenseUpIdeal.nD) → Buf (Elt Ideal) ((c.tc : Thread Cert.DenseUpIdeal.nD Cert.DenseUpIdeal.τ).loc Cert.DenseUpIdeal.main_v1)),
      θ_run (Cert.DenseUpIdeal.defs (F := Ideal)) (onTc (τ := Cert.DenseUpIdeal.τ) (Cert.DenseUpIdeal.main (F := Ideal))) ⟨m, fun _ => 0, g⟩ (fun r => ∀ c : Dev Cert.DenseUpIdeal.nD,
          r.2.mem ((c.tc : Thread Cert.DenseUpIdeal.nD Cert.DenseUpIdeal.τ).loc Cert.DenseUpIdeal.main_v1) = v0 c
          ∧ r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2)
          ∧ r.2.mem ((c.tc : Thread Cert.DenseUpIdeal.nD Cert.DenseUpIdeal.τ).loc Cert.DenseUpIdeal.main_arg3) = m ((c.tc : Thread Cert.DenseUpIdeal.nD Cert.DenseUpIdeal.τ).loc Cert.DenseUpIdeal.main_arg3))
      ∧ θ_run (Cert.DenseUpReferenceIdeal.defs (F := Ideal)) (onTc (τ := Cert.DenseUpReferenceIdeal.τ) (Cert.DenseUpReferenceIdeal.main (F := Ideal))) ⟨m', fun _ => 0, g'⟩ (fun r => ∀ c : Dev Cert.DenseUpReferenceIdeal.nD,
          r.2.mem ((c.tc : Thread Cert.DenseUpReferenceIdeal.nD Cert.DenseUpReferenceIdeal.τ).loc Cert.DenseUpReferenceIdeal.main_v19) = v0 c
          ∧ r.2.mem ((c.tc : Thread Cert.DenseUpReferenceIdeal.nD Cert.DenseUpReferenceIdeal.τ).loc Cert.DenseUpReferenceIdeal.main_arg0) = m' ((c.tc : Thread Cert.DenseUpReferenceIdeal.nD Cert.DenseUpReferenceIdeal.τ).loc Cert.DenseUpReferenceIdeal.main_arg0)
          ∧ r.2.mem ((c.tc : Thread Cert.DenseUpReferenceIdeal.nD Cert.DenseUpReferenceIdeal.τ).loc Cert.DenseUpReferenceIdeal.main_arg1) = m' ((c.tc : Thread Cert.DenseUpReferenceIdeal.nD Cert.DenseUpReferenceIdeal.τ).loc Cert.DenseUpReferenceIdeal.main_arg1)
          ∧ r.2.mem ((c.tc : Thread Cert.DenseUpReferenceIdeal.nD Cert.DenseUpReferenceIdeal.τ).loc Cert.DenseUpReferenceIdeal.main_arg2) = m' ((c.tc : Thread Cert.DenseUpReferenceIdeal.nD Cert.DenseUpReferenceIdeal.τ).loc Cert.DenseUpReferenceIdeal.main_arg2)
          ∧ r.2.mem ((c.tc : Thread Cert.DenseUpReferenceIdeal.nD Cert.DenseUpReferenceIdeal.τ).loc Cert.DenseUpReferenceIdeal.main_arg3) = m' ((c.tc : Thread Cert.DenseUpReferenceIdeal.nD Cert.DenseUpReferenceIdeal.τ).loc Cert.DenseUpReferenceIdeal.main_arg3))

def preserves_DenseDown_DenseDownIdeal : Prop :=
  True

def algebraic_DenseDownIdeal_DenseDownReferenceIdeal [hDenseDownIdeal : Cert.DenseDownIdeal.Facts] [hDenseDownReferenceIdeal : Cert.DenseDownReferenceIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownReferenceIdeal.nD Cert.DenseDownReferenceIdeal.τ Cert.DenseDownReferenceIdeal.sig) → Buf (Elt Ideal) ℓ) (g' : Dev Cert.DenseDownReferenceIdeal.nD → PrngReg), Pre_DenseDownIdeal m →
    (∀ c : Dev Cert.DenseDownIdeal.nD,
      m' ((c.tc : Thread Cert.DenseDownReferenceIdeal.nD Cert.DenseDownReferenceIdeal.τ).loc Cert.DenseDownReferenceIdeal.main_arg0) = m ((c.tc : Thread Cert.DenseDownIdeal.nD Cert.DenseDownIdeal.τ).loc Cert.DenseDownIdeal.main_arg0)
      ∧ m' ((c.tc : Thread Cert.DenseDownReferenceIdeal.nD Cert.DenseDownReferenceIdeal.τ).loc Cert.DenseDownReferenceIdeal.main_arg1) = m ((c.tc : Thread Cert.DenseDownIdeal.nD Cert.DenseDownIdeal.τ).loc Cert.DenseDownIdeal.main_arg1)
      ∧ m' ((c.tc : Thread Cert.DenseDownReferenceIdeal.nD Cert.DenseDownReferenceIdeal.τ).loc Cert.DenseDownReferenceIdeal.main_arg2) = m ((c.tc : Thread Cert.DenseDownIdeal.nD Cert.DenseDownIdeal.τ).loc Cert.DenseDownIdeal.main_arg2)) →
    ∃ (v0 : (c : Dev Cert.DenseDownIdeal.nD) → Buf (Elt Ideal) ((c.tc : Thread Cert.DenseDownIdeal.nD Cert.DenseDownIdeal.τ).loc Cert.DenseDownIdeal.main_v0)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v0) = v0 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2))
      ∧ θ_run (Cert.DenseDownReferenceIdeal.defs (F := Ideal)) (onTc (τ := Cert.DenseDownReferenceIdeal.τ) (Cert.DenseDownReferenceIdeal.main (F := Ideal))) ⟨m', fun _ => 0, g'⟩ (fun r => ∀ c : Dev Cert.DenseDownReferenceIdeal.nD,
          r.2.mem ((c.tc : Thread Cert.DenseDownReferenceIdeal.nD Cert.DenseDownReferenceIdeal.τ).loc Cert.DenseDownReferenceIdeal.main_v3) = v0 c
          ∧ r.2.mem ((c.tc : Thread Cert.DenseDownReferenceIdeal.nD Cert.DenseDownReferenceIdeal.τ).loc Cert.DenseDownReferenceIdeal.main_arg0) = m' ((c.tc : Thread Cert.DenseDownReferenceIdeal.nD Cert.DenseDownReferenceIdeal.τ).loc Cert.DenseDownReferenceIdeal.main_arg0)
          ∧ r.2.mem ((c.tc : Thread Cert.DenseDownReferenceIdeal.nD Cert.DenseDownReferenceIdeal.τ).loc Cert.DenseDownReferenceIdeal.main_arg1) = m' ((c.tc : Thread Cert.DenseDownReferenceIdeal.nD Cert.DenseDownReferenceIdeal.τ).loc Cert.DenseDownReferenceIdeal.main_arg1)
          ∧ r.2.mem ((c.tc : Thread Cert.DenseDownReferenceIdeal.nD Cert.DenseDownReferenceIdeal.τ).loc Cert.DenseDownReferenceIdeal.main_arg2) = m' ((c.tc : Thread Cert.DenseDownReferenceIdeal.nD Cert.DenseDownReferenceIdeal.τ).loc Cert.DenseDownReferenceIdeal.main_arg2))

def preserves_MoeUp_MoeUpIdeal : Prop :=
  True

def algebraic_MoeUpIdeal_MoeUpReferenceIdeal [hMoeUpIdeal : Cert.MoeUpIdeal.Facts] [hMoeUpReferenceIdeal : Cert.MoeUpReferenceIdeal.Facts] [hPre_tables_of_tiles : Cert.Pre_tables_of_tiles.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)
      ∧ m' ((c.tc : Thread Cert.MoeUpReferenceIdeal.nD Cert.MoeUpReferenceIdeal.τ).loc Cert.MoeUpReferenceIdeal.main_arg4) = m ((c.tc : Thread Cert.MoeUpIdeal.nD Cert.MoeUpIdeal.τ).loc Cert.MoeUpIdeal.main_arg4)
      ∧ m' ((c.tc : Thread Cert.MoeUpReferenceIdeal.nD Cert.MoeUpReferenceIdeal.τ).loc Cert.MoeUpReferenceIdeal.main_arg5) = m ((c.tc : Thread Cert.MoeUpIdeal.nD Cert.MoeUpIdeal.τ).loc Cert.MoeUpIdeal.main_arg5)
      ∧ m' ((c.tc : Thread Cert.MoeUpReferenceIdeal.nD Cert.MoeUpReferenceIdeal.τ).loc Cert.MoeUpReferenceIdeal.main_arg6) = m ((c.tc : Thread Cert.MoeUpIdeal.nD Cert.MoeUpIdeal.τ).loc Cert.MoeUpIdeal.main_arg6)
      ∧ m' ((c.tc : Thread Cert.MoeUpReferenceIdeal.nD Cert.MoeUpReferenceIdeal.τ).loc Cert.MoeUpReferenceIdeal.main_arg7) = m ((c.tc : Thread Cert.MoeUpIdeal.nD Cert.MoeUpIdeal.τ).loc Cert.MoeUpIdeal.main_arg7)
      ∧ m' ((c.tc : Thread Cert.MoeUpReferenceIdeal.nD Cert.MoeUpReferenceIdeal.τ).loc Cert.MoeUpReferenceIdeal.main_arg8) = m ((c.tc : Thread Cert.MoeUpIdeal.nD Cert.MoeUpIdeal.τ).loc Cert.MoeUpIdeal.main_arg8)
      ∧ m' ((c.tc : Thread Cert.MoeUpReferenceIdeal.nD Cert.MoeUpReferenceIdeal.τ).loc Cert.MoeUpReferenceIdeal.main_arg9) = m ((c.tc : Thread Cert.MoeUpIdeal.nD Cert.MoeUpIdeal.τ).loc Cert.MoeUpIdeal.main_arg9)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5)
          ∧ r.2.mem ((c.tc : Thread Cert.MoeUpIdeal.nD Cert.MoeUpIdeal.τ).loc Cert.MoeUpIdeal.main_arg6) = m ((c.tc : Thread Cert.MoeUpIdeal.nD Cert.MoeUpIdeal.τ).loc Cert.MoeUpIdeal.main_arg6)
          ∧ r.2.mem ((c.tc : Thread Cert.MoeUpIdeal.nD Cert.MoeUpIdeal.τ).loc Cert.MoeUpIdeal.main_arg7) = m ((c.tc : Thread Cert.MoeUpIdeal.nD Cert.MoeUpIdeal.τ).loc Cert.MoeUpIdeal.main_arg7)
          ∧ r.2.mem ((c.tc : Thread Cert.MoeUpIdeal.nD Cert.MoeUpIdeal.τ).loc Cert.MoeUpIdeal.main_arg8) = m ((c.tc : Thread Cert.MoeUpIdeal.nD Cert.MoeUpIdeal.τ).loc Cert.MoeUpIdeal.main_arg8)
          ∧ r.2.mem ((c.tc : Thread Cert.MoeUpIdeal.nD Cert.MoeUpIdeal.τ).loc Cert.MoeUpIdeal.main_arg9) = m ((c.tc : Thread Cert.MoeUpIdeal.nD Cert.MoeUpIdeal.τ).loc Cert.MoeUpIdeal.main_arg9))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          r.2.mem ((c.tc : Thread Cert.MoeUpReferenceIdeal.nD Cert.MoeUpReferenceIdeal.τ).loc Cert.MoeUpReferenceIdeal.main_v110) = v0 c
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3)
          ∧ r.2.mem ((c.tc : Thread Cert.MoeUpReferenceIdeal.nD Cert.MoeUpReferenceIdeal.τ).loc Cert.MoeUpReferenceIdeal.main_arg4) = m' ((c.tc : Thread Cert.MoeUpReferenceIdeal.nD Cert.MoeUpReferenceIdeal.τ).loc Cert.MoeUpReferenceIdeal.main_arg4)
          ∧ r.2.mem ((c.tc : Thread Cert.MoeUpReferenceIdeal.nD Cert.MoeUpReferenceIdeal.τ).loc Cert.MoeUpReferenceIdeal.main_arg5) = m' ((c.tc : Thread Cert.MoeUpReferenceIdeal.nD Cert.MoeUpReferenceIdeal.τ).loc Cert.MoeUpReferenceIdeal.main_arg5)
          ∧ r.2.mem ((c.tc : Thread Cert.MoeUpReferenceIdeal.nD Cert.MoeUpReferenceIdeal.τ).loc Cert.MoeUpReferenceIdeal.main_arg6) = m' ((c.tc : Thread Cert.MoeUpReferenceIdeal.nD Cert.MoeUpReferenceIdeal.τ).loc Cert.MoeUpReferenceIdeal.main_arg6)
          ∧ r.2.mem ((c.tc : Thread Cert.MoeUpReferenceIdeal.nD Cert.MoeUpReferenceIdeal.τ).loc Cert.MoeUpReferenceIdeal.main_arg7) = m' ((c.tc : Thread Cert.MoeUpReferenceIdeal.nD Cert.MoeUpReferenceIdeal.τ).loc Cert.MoeUpReferenceIdeal.main_arg7)
          ∧ r.2.mem ((c.tc : Thread Cert.MoeUpReferenceIdeal.nD Cert.MoeUpReferenceIdeal.τ).loc Cert.MoeUpReferenceIdeal.main_arg8) = m' ((c.tc : Thread Cert.MoeUpReferenceIdeal.nD Cert.MoeUpReferenceIdeal.τ).loc Cert.MoeUpReferenceIdeal.main_arg8)
          ∧ r.2.mem ((c.tc : Thread Cert.MoeUpReferenceIdeal.nD Cert.MoeUpReferenceIdeal.τ).loc Cert.MoeUpReferenceIdeal.main_arg9) = m' ((c.tc : Thread Cert.MoeUpReferenceIdeal.nD Cert.MoeUpReferenceIdeal.τ).loc Cert.MoeUpReferenceIdeal.main_arg9))

def preserves_MoeDown_MoeDownIdeal : Prop :=
  True

def algebraic_MoeDownIdeal_MoeDownReferenceIdeal [hMoeDownIdeal : Cert.MoeDownIdeal.Facts] [hMoeDownReferenceIdeal : Cert.MoeDownReferenceIdeal.Facts] [hPre_tables_of_tiles_down : Cert.Pre_tables_of_tiles_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)
      ∧ m' ((c.tc : Thread Cert.MoeDownReferenceIdeal.nD Cert.MoeDownReferenceIdeal.τ).loc Cert.MoeDownReferenceIdeal.main_arg3) = m ((c.tc : Thread Cert.MoeDownIdeal.nD Cert.MoeDownIdeal.τ).loc Cert.MoeDownIdeal.main_arg3)
      ∧ m' ((c.tc : Thread Cert.MoeDownReferenceIdeal.nD Cert.MoeDownReferenceIdeal.τ).loc Cert.MoeDownReferenceIdeal.main_arg4) = m ((c.tc : Thread Cert.MoeDownIdeal.nD Cert.MoeDownIdeal.τ).loc Cert.MoeDownIdeal.main_arg4)
      ∧ m' ((c.tc : Thread Cert.MoeDownReferenceIdeal.nD Cert.MoeDownReferenceIdeal.τ).loc Cert.MoeDownReferenceIdeal.main_arg5) = m ((c.tc : Thread Cert.MoeDownIdeal.nD Cert.MoeDownIdeal.τ).loc Cert.MoeDownIdeal.main_arg5)
      ∧ m' ((c.tc : Thread Cert.MoeDownReferenceIdeal.nD Cert.MoeDownReferenceIdeal.τ).loc Cert.MoeDownReferenceIdeal.main_arg6) = m ((c.tc : Thread Cert.MoeDownIdeal.nD Cert.MoeDownIdeal.τ).loc Cert.MoeDownIdeal.main_arg6)
      ∧ m' ((c.tc : Thread Cert.MoeDownReferenceIdeal.nD Cert.MoeDownReferenceIdeal.τ).loc Cert.MoeDownReferenceIdeal.main_arg7) = m ((c.tc : Thread Cert.MoeDownIdeal.nD Cert.MoeDownIdeal.τ).loc Cert.MoeDownIdeal.main_arg7)
      ∧ m' ((c.tc : Thread Cert.MoeDownReferenceIdeal.nD Cert.MoeDownReferenceIdeal.τ).loc Cert.MoeDownReferenceIdeal.main_arg8) = m ((c.tc : Thread Cert.MoeDownIdeal.nD Cert.MoeDownIdeal.τ).loc Cert.MoeDownIdeal.main_arg8)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
          ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5)
          ∧ r.2.mem ((c.tc : Thread Cert.MoeDownIdeal.nD Cert.MoeDownIdeal.τ).loc Cert.MoeDownIdeal.main_arg6) = m ((c.tc : Thread Cert.MoeDownIdeal.nD Cert.MoeDownIdeal.τ).loc Cert.MoeDownIdeal.main_arg6)
          ∧ r.2.mem ((c.tc : Thread Cert.MoeDownIdeal.nD Cert.MoeDownIdeal.τ).loc Cert.MoeDownIdeal.main_arg7) = m ((c.tc : Thread Cert.MoeDownIdeal.nD Cert.MoeDownIdeal.τ).loc Cert.MoeDownIdeal.main_arg7)
          ∧ r.2.mem ((c.tc : Thread Cert.MoeDownIdeal.nD Cert.MoeDownIdeal.τ).loc Cert.MoeDownIdeal.main_arg8) = m ((c.tc : Thread Cert.MoeDownIdeal.nD Cert.MoeDownIdeal.τ).loc Cert.MoeDownIdeal.main_arg8))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          r.2.mem ((c.tc : Thread Cert.MoeDownReferenceIdeal.nD Cert.MoeDownReferenceIdeal.τ).loc Cert.MoeDownReferenceIdeal.main_v69) = v0 c
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2)
          ∧ r.2.mem ((c.tc : Thread Cert.MoeDownReferenceIdeal.nD Cert.MoeDownReferenceIdeal.τ).loc Cert.MoeDownReferenceIdeal.main_arg3) = m' ((c.tc : Thread Cert.MoeDownReferenceIdeal.nD Cert.MoeDownReferenceIdeal.τ).loc Cert.MoeDownReferenceIdeal.main_arg3)
          ∧ r.2.mem ((c.tc : Thread Cert.MoeDownReferenceIdeal.nD Cert.MoeDownReferenceIdeal.τ).loc Cert.MoeDownReferenceIdeal.main_arg4) = m' ((c.tc : Thread Cert.MoeDownReferenceIdeal.nD Cert.MoeDownReferenceIdeal.τ).loc Cert.MoeDownReferenceIdeal.main_arg4)
          ∧ r.2.mem ((c.tc : Thread Cert.MoeDownReferenceIdeal.nD Cert.MoeDownReferenceIdeal.τ).loc Cert.MoeDownReferenceIdeal.main_arg5) = m' ((c.tc : Thread Cert.MoeDownReferenceIdeal.nD Cert.MoeDownReferenceIdeal.τ).loc Cert.MoeDownReferenceIdeal.main_arg5)
          ∧ r.2.mem ((c.tc : Thread Cert.MoeDownReferenceIdeal.nD Cert.MoeDownReferenceIdeal.τ).loc Cert.MoeDownReferenceIdeal.main_arg6) = m' ((c.tc : Thread Cert.MoeDownReferenceIdeal.nD Cert.MoeDownReferenceIdeal.τ).loc Cert.MoeDownReferenceIdeal.main_arg6)
          ∧ r.2.mem ((c.tc : Thread Cert.MoeDownReferenceIdeal.nD Cert.MoeDownReferenceIdeal.τ).loc Cert.MoeDownReferenceIdeal.main_arg7) = m' ((c.tc : Thread Cert.MoeDownReferenceIdeal.nD Cert.MoeDownReferenceIdeal.τ).loc Cert.MoeDownReferenceIdeal.main_arg7)
          ∧ r.2.mem ((c.tc : Thread Cert.MoeDownReferenceIdeal.nD Cert.MoeDownReferenceIdeal.τ).loc Cert.MoeDownReferenceIdeal.main_arg8) = m' ((c.tc : Thread Cert.MoeDownReferenceIdeal.nD Cert.MoeDownReferenceIdeal.τ).loc Cert.MoeDownReferenceIdeal.main_arg8))

def preserves_MemKV_MemKVIdeal : Prop :=
  True

def algebraic_MemKVIdeal_MemKVReferenceIdeal [hMemKVIdeal : Cert.MemKVIdeal.Facts] [hMemKVReferenceIdeal : Cert.MemKVReferenceIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVReferenceIdeal.nD Cert.MemKVReferenceIdeal.τ Cert.MemKVReferenceIdeal.sig) → Buf (Elt Ideal) ℓ) (g' : Dev Cert.MemKVReferenceIdeal.nD → PrngReg), Pre_MemKVIdeal m →
    (∀ c : Dev Cert.MemKVIdeal.nD,
      m' ((c.tc : Thread Cert.MemKVReferenceIdeal.nD Cert.MemKVReferenceIdeal.τ).loc Cert.MemKVReferenceIdeal.main_arg0) = m ((c.tc : Thread Cert.MemKVIdeal.nD Cert.MemKVIdeal.τ).loc Cert.MemKVIdeal.main_arg0)
      ∧ m' ((c.tc : Thread Cert.MemKVReferenceIdeal.nD Cert.MemKVReferenceIdeal.τ).loc Cert.MemKVReferenceIdeal.main_arg1) = m ((c.tc : Thread Cert.MemKVIdeal.nD Cert.MemKVIdeal.τ).loc Cert.MemKVIdeal.main_arg1)) →
    ∃ (v0 : (c : Dev Cert.MemKVIdeal.nD) → Buf (Elt Ideal) ((c.tc : Thread Cert.MemKVIdeal.nD Cert.MemKVIdeal.τ).loc Cert.MemKVIdeal.main_v0)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v0) = v0 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1))
      ∧ θ_run (Cert.MemKVReferenceIdeal.defs (F := Ideal)) (onTc (τ := Cert.MemKVReferenceIdeal.τ) (Cert.MemKVReferenceIdeal.main (F := Ideal))) ⟨m', fun _ => 0, g'⟩ (fun r => ∀ c : Dev Cert.MemKVReferenceIdeal.nD,
          r.2.mem ((c.tc : Thread Cert.MemKVReferenceIdeal.nD Cert.MemKVReferenceIdeal.τ).loc Cert.MemKVReferenceIdeal.main_v4) = v0 c
          ∧ r.2.mem ((c.tc : Thread Cert.MemKVReferenceIdeal.nD Cert.MemKVReferenceIdeal.τ).loc Cert.MemKVReferenceIdeal.main_arg0) = m' ((c.tc : Thread Cert.MemKVReferenceIdeal.nD Cert.MemKVReferenceIdeal.τ).loc Cert.MemKVReferenceIdeal.main_arg0)
          ∧ r.2.mem ((c.tc : Thread Cert.MemKVReferenceIdeal.nD Cert.MemKVReferenceIdeal.τ).loc Cert.MemKVReferenceIdeal.main_arg1) = m' ((c.tc : Thread Cert.MemKVReferenceIdeal.nD Cert.MemKVReferenceIdeal.τ).loc Cert.MemKVReferenceIdeal.main_arg1))

def preserves_NormMix_NormMixIdeal : Prop :=
  True

def algebraic_NormMixIdeal_NormMixReferenceIdeal [hNormMixIdeal : Cert.NormMixIdeal.Facts] [hNormMixReferenceIdeal : Cert.NormMixReferenceIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixReferenceIdeal.nD Cert.NormMixReferenceIdeal.τ Cert.NormMixReferenceIdeal.sig) → Buf (Elt Ideal) ℓ) (g' : Dev Cert.NormMixReferenceIdeal.nD → PrngReg), Pre_NormMixIdeal m →
    (∀ c : Dev Cert.NormMixIdeal.nD,
      m' ((c.tc : Thread Cert.NormMixReferenceIdeal.nD Cert.NormMixReferenceIdeal.τ).loc Cert.NormMixReferenceIdeal.main_arg0) = m ((c.tc : Thread Cert.NormMixIdeal.nD Cert.NormMixIdeal.τ).loc Cert.NormMixIdeal.main_arg0)
      ∧ m' ((c.tc : Thread Cert.NormMixReferenceIdeal.nD Cert.NormMixReferenceIdeal.τ).loc Cert.NormMixReferenceIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v1) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixReferenceIdeal.defs (F := Ideal)) (onTc (τ := Cert.NormMixReferenceIdeal.τ) (Cert.NormMixReferenceIdeal.main (F := Ideal))) ⟨m', fun _ => 0, g'⟩ (fun r => ∀ c : Dev Cert.NormMixReferenceIdeal.nD,
          r.2.mem ((c.tc : Thread Cert.NormMixReferenceIdeal.nD Cert.NormMixReferenceIdeal.τ).loc Cert.NormMixReferenceIdeal.main_v13) = v0 c
          ∧ r.2.mem ((c.tc : Thread Cert.NormMixReferenceIdeal.nD Cert.NormMixReferenceIdeal.τ).loc Cert.NormMixReferenceIdeal.main_arg0) = m' ((c.tc : Thread Cert.NormMixReferenceIdeal.nD Cert.NormMixReferenceIdeal.τ).loc Cert.NormMixReferenceIdeal.main_arg0)
          ∧ r.2.mem ((c.tc : Thread Cert.NormMixReferenceIdeal.nD Cert.NormMixReferenceIdeal.τ).loc Cert.NormMixReferenceIdeal.main_arg1) = m' ((c.tc : Thread Cert.NormMixReferenceIdeal.nD Cert.NormMixReferenceIdeal.τ).loc Cert.NormMixReferenceIdeal.main_arg1))

def preserves_NormMem_NormMemIdeal : Prop :=
  True

def algebraic_NormMemIdeal_NormMemReferenceIdeal [hNormMemIdeal : Cert.NormMemIdeal.Facts] [hNormMemReferenceIdeal : Cert.NormMemReferenceIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemReferenceIdeal.nD Cert.NormMemReferenceIdeal.τ Cert.NormMemReferenceIdeal.sig) → Buf (Elt Ideal) ℓ) (g' : Dev Cert.NormMemReferenceIdeal.nD → PrngReg), Pre_NormMemIdeal m →
    (∀ c : Dev Cert.NormMemIdeal.nD,
      m' ((c.tc : Thread Cert.NormMemReferenceIdeal.nD Cert.NormMemReferenceIdeal.τ).loc Cert.NormMemReferenceIdeal.main_arg0) = m ((c.tc : Thread Cert.NormMemIdeal.nD Cert.NormMemIdeal.τ).loc Cert.NormMemIdeal.main_arg0)
      ∧ m' ((c.tc : Thread Cert.NormMemReferenceIdeal.nD Cert.NormMemReferenceIdeal.τ).loc Cert.NormMemReferenceIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemReferenceIdeal.defs (F := Ideal)) (onTc (τ := Cert.NormMemReferenceIdeal.τ) (Cert.NormMemReferenceIdeal.main (F := Ideal))) ⟨m', fun _ => 0, g'⟩ (fun r => ∀ c : Dev Cert.NormMemReferenceIdeal.nD,
          r.2.mem ((c.tc : Thread Cert.NormMemReferenceIdeal.nD Cert.NormMemReferenceIdeal.τ).loc Cert.NormMemReferenceIdeal.main_v13) = v0 c
          ∧ r.2.mem ((c.tc : Thread Cert.NormMemReferenceIdeal.nD Cert.NormMemReferenceIdeal.τ).loc Cert.NormMemReferenceIdeal.main_arg0) = m' ((c.tc : Thread Cert.NormMemReferenceIdeal.nD Cert.NormMemReferenceIdeal.τ).loc Cert.NormMemReferenceIdeal.main_arg0)
          ∧ r.2.mem ((c.tc : Thread Cert.NormMemReferenceIdeal.nD Cert.NormMemReferenceIdeal.τ).loc Cert.NormMemReferenceIdeal.main_arg1) = m' ((c.tc : Thread Cert.NormMemReferenceIdeal.nD Cert.NormMemReferenceIdeal.τ).loc Cert.NormMemReferenceIdeal.main_arg1))

def preserves_Near_NearIdeal : Prop :=
  True

def algebraic_NearIdeal_NearReferenceIdeal_pre_finite_near_scores [hNearIdeal : Cert.NearIdeal.Facts] [hNearReferenceIdeal : Cert.NearReferenceIdeal.Facts] [hPre_finite_near_scores : Cert.Pre_finite_near_scores.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearReferenceIdeal.nD Cert.NearReferenceIdeal.τ Cert.NearReferenceIdeal.sig) → Buf (Elt Ideal) ℓ) (g' : Dev Cert.NearReferenceIdeal.nD → PrngReg), Pre_NearIdeal_finite_near_scores m →
    (∀ c : Dev Cert.NearIdeal.nD,
      m' ((c.tc : Thread Cert.NearReferenceIdeal.nD Cert.NearReferenceIdeal.τ).loc Cert.NearReferenceIdeal.main_arg0) = m ((c.tc : Thread Cert.NearIdeal.nD Cert.NearIdeal.τ).loc Cert.NearIdeal.main_arg0)
      ∧ m' ((c.tc : Thread Cert.NearReferenceIdeal.nD Cert.NearReferenceIdeal.τ).loc Cert.NearReferenceIdeal.main_arg1) = m ((c.tc : Thread Cert.NearIdeal.nD Cert.NearIdeal.τ).loc Cert.NearIdeal.main_arg1)) →
    ∃ (v0 : (c : Dev Cert.NearIdeal.nD) → Buf (Elt Ideal) ((c.tc : Thread Cert.NearIdeal.nD Cert.NearIdeal.τ).loc Cert.NearIdeal.main_v0)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v0) = v0 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ θ_run (Cert.NearReferenceIdeal.defs (F := Ideal)) (onTc (τ := Cert.NearReferenceIdeal.τ) (Cert.NearReferenceIdeal.main (F := Ideal))) ⟨m', fun _ => 0, g'⟩ (fun r => ∀ c : Dev Cert.NearReferenceIdeal.nD,
          r.2.mem ((c.tc : Thread Cert.NearReferenceIdeal.nD Cert.NearReferenceIdeal.τ).loc Cert.NearReferenceIdeal.main_v76) = v0 c
          ∧ r.2.mem ((c.tc : Thread Cert.NearReferenceIdeal.nD Cert.NearReferenceIdeal.τ).loc Cert.NearReferenceIdeal.main_arg0) = m' ((c.tc : Thread Cert.NearReferenceIdeal.nD Cert.NearReferenceIdeal.τ).loc Cert.NearReferenceIdeal.main_arg0)
          ∧ r.2.mem ((c.tc : Thread Cert.NearReferenceIdeal.nD Cert.NearReferenceIdeal.τ).loc Cert.NearReferenceIdeal.main_arg1) = m' ((c.tc : Thread Cert.NearReferenceIdeal.nD Cert.NearReferenceIdeal.τ).loc Cert.NearReferenceIdeal.main_arg1))

def preserves_Fourier_FourierIdeal : Prop :=
  True

def algebraic_FourierIdeal_FourierReferenceIdeal_pre_finite_transform [hFourierIdeal : Cert.FourierIdeal.Facts] [hFourierReferenceIdeal : Cert.FourierReferenceIdeal.Facts] [hPre_finite_transform : Cert.Pre_finite_transform.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierReferenceIdeal.nD Cert.FourierReferenceIdeal.τ Cert.FourierReferenceIdeal.sig) → Buf (Elt Ideal) ℓ) (g' : Dev Cert.FourierReferenceIdeal.nD → PrngReg), Pre_FourierIdeal_finite_transform m →
    (∀ c : Dev Cert.FourierIdeal.nD,
      m' ((c.tc : Thread Cert.FourierReferenceIdeal.nD Cert.FourierReferenceIdeal.τ).loc Cert.FourierReferenceIdeal.main_arg0) = m ((c.tc : Thread Cert.FourierIdeal.nD Cert.FourierIdeal.τ).loc Cert.FourierIdeal.main_arg0)
      ∧ m' ((c.tc : Thread Cert.FourierReferenceIdeal.nD Cert.FourierReferenceIdeal.τ).loc Cert.FourierReferenceIdeal.main_arg1) = m ((c.tc : Thread Cert.FourierIdeal.nD Cert.FourierIdeal.τ).loc Cert.FourierIdeal.main_arg1)
      ∧ m' ((c.tc : Thread Cert.FourierReferenceIdeal.nD Cert.FourierReferenceIdeal.τ).loc Cert.FourierReferenceIdeal.main_arg2) = m ((c.tc : Thread Cert.FourierIdeal.nD Cert.FourierIdeal.τ).loc Cert.FourierIdeal.main_arg2)
      ∧ m' ((c.tc : Thread Cert.FourierReferenceIdeal.nD Cert.FourierReferenceIdeal.τ).loc Cert.FourierReferenceIdeal.main_arg3) = m ((c.tc : Thread Cert.FourierIdeal.nD Cert.FourierIdeal.τ).loc Cert.FourierIdeal.main_arg3)
      ∧ m' ((c.tc : Thread Cert.FourierReferenceIdeal.nD Cert.FourierReferenceIdeal.τ).loc Cert.FourierReferenceIdeal.main_arg4) = m ((c.tc : Thread Cert.FourierIdeal.nD Cert.FourierIdeal.τ).loc Cert.FourierIdeal.main_arg4)) →
    ∃ (v0 : (c : Dev Cert.FourierIdeal.nD) → Buf (Elt Ideal) ((c.tc : Thread Cert.FourierIdeal.nD Cert.FourierIdeal.τ).loc Cert.FourierIdeal.main_v4)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v4) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
          ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
          ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4))
      ∧ θ_run (Cert.FourierReferenceIdeal.defs (F := Ideal)) (onTc (τ := Cert.FourierReferenceIdeal.τ) (Cert.FourierReferenceIdeal.main (F := Ideal))) ⟨m', fun _ => 0, g'⟩ (fun r => ∀ c : Dev Cert.FourierReferenceIdeal.nD,
          r.2.mem ((c.tc : Thread Cert.FourierReferenceIdeal.nD Cert.FourierReferenceIdeal.τ).loc Cert.FourierReferenceIdeal.main_v50) = v0 c
          ∧ r.2.mem ((c.tc : Thread Cert.FourierReferenceIdeal.nD Cert.FourierReferenceIdeal.τ).loc Cert.FourierReferenceIdeal.main_arg0) = m' ((c.tc : Thread Cert.FourierReferenceIdeal.nD Cert.FourierReferenceIdeal.τ).loc Cert.FourierReferenceIdeal.main_arg0)
          ∧ r.2.mem ((c.tc : Thread Cert.FourierReferenceIdeal.nD Cert.FourierReferenceIdeal.τ).loc Cert.FourierReferenceIdeal.main_arg1) = m' ((c.tc : Thread Cert.FourierReferenceIdeal.nD Cert.FourierReferenceIdeal.τ).loc Cert.FourierReferenceIdeal.main_arg1)
          ∧ r.2.mem ((c.tc : Thread Cert.FourierReferenceIdeal.nD Cert.FourierReferenceIdeal.τ).loc Cert.FourierReferenceIdeal.main_arg2) = m' ((c.tc : Thread Cert.FourierReferenceIdeal.nD Cert.FourierReferenceIdeal.τ).loc Cert.FourierReferenceIdeal.main_arg2)
          ∧ r.2.mem ((c.tc : Thread Cert.FourierReferenceIdeal.nD Cert.FourierReferenceIdeal.τ).loc Cert.FourierReferenceIdeal.main_arg3) = m' ((c.tc : Thread Cert.FourierReferenceIdeal.nD Cert.FourierReferenceIdeal.τ).loc Cert.FourierReferenceIdeal.main_arg3)
          ∧ r.2.mem ((c.tc : Thread Cert.FourierReferenceIdeal.nD Cert.FourierReferenceIdeal.τ).loc Cert.FourierReferenceIdeal.main_arg4) = m' ((c.tc : Thread Cert.FourierReferenceIdeal.nD Cert.FourierReferenceIdeal.τ).loc Cert.FourierReferenceIdeal.main_arg4))

def Claim : Prop :=
  ∃ (hCross : Cert.Cross.Facts) (hCrossIdeal : Cert.CrossIdeal.Facts) (hCrossReferenceIdeal : Cert.CrossReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hDenseUp : Cert.DenseUp.Facts) (hDenseUpIdeal : Cert.DenseUpIdeal.Facts) (hDenseUpReferenceIdeal : Cert.DenseUpReferenceIdeal.Facts) (hDenseDown : Cert.DenseDown.Facts) (hDenseDownIdeal : Cert.DenseDownIdeal.Facts) (hDenseDownReferenceIdeal : Cert.DenseDownReferenceIdeal.Facts) (hMoeUp : Cert.MoeUp.Facts) (hMoeUpIdeal : Cert.MoeUpIdeal.Facts) (hMoeUpReferenceIdeal : Cert.MoeUpReferenceIdeal.Facts) (hMoeDown : Cert.MoeDown.Facts) (hMoeDownIdeal : Cert.MoeDownIdeal.Facts) (hMoeDownReferenceIdeal : Cert.MoeDownReferenceIdeal.Facts) (hMemKV : Cert.MemKV.Facts) (hMemKVIdeal : Cert.MemKVIdeal.Facts) (hMemKVReferenceIdeal : Cert.MemKVReferenceIdeal.Facts) (hNormMix : Cert.NormMix.Facts) (hNormMixIdeal : Cert.NormMixIdeal.Facts) (hNormMixReferenceIdeal : Cert.NormMixReferenceIdeal.Facts) (hNormMem : Cert.NormMem.Facts) (hNormMemIdeal : Cert.NormMemIdeal.Facts) (hNormMemReferenceIdeal : Cert.NormMemReferenceIdeal.Facts) (hNear : Cert.Near.Facts) (hNearIdeal : Cert.NearIdeal.Facts) (hNearReferenceIdeal : Cert.NearReferenceIdeal.Facts) (hFourier : Cert.Fourier.Facts) (hFourierIdeal : Cert.FourierIdeal.Facts) (hFourierReferenceIdeal : Cert.FourierReferenceIdeal.Facts) (hPre_finite_scores : Cert.Pre_finite_scores.Facts) (hPre_tables_of_tiles : Cert.Pre_tables_of_tiles.Facts) (hPre_tables_of_tiles_down : Cert.Pre_tables_of_tiles_down.Facts) (hPre_finite_near_scores : Cert.Pre_finite_near_scores.Facts) (hPre_finite_transform : Cert.Pre_finite_transform.Facts),
    quiescent_Cross (hCross := hCross)
    ∧ quiescent_CrossIdeal (hCrossIdeal := hCrossIdeal)
    ∧ quiescent_CrossIdeal_pre_finite_scores (hCrossIdeal := hCrossIdeal) (hPre_finite_scores := hPre_finite_scores)
    ∧ quiescent_CrossReferenceIdeal (hCrossReferenceIdeal := hCrossReferenceIdeal)
    ∧ quiescent_CrossReferenceIdeal_pre_finite_scores (hCrossReferenceIdeal := hCrossReferenceIdeal) (hPre_finite_scores := hPre_finite_scores)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_DenseUp (hDenseUp := hDenseUp)
    ∧ quiescent_DenseUpIdeal (hDenseUpIdeal := hDenseUpIdeal)
    ∧ quiescent_DenseUpReferenceIdeal (hDenseUpReferenceIdeal := hDenseUpReferenceIdeal)
    ∧ quiescent_DenseDown (hDenseDown := hDenseDown)
    ∧ quiescent_DenseDownIdeal (hDenseDownIdeal := hDenseDownIdeal)
    ∧ quiescent_DenseDownReferenceIdeal (hDenseDownReferenceIdeal := hDenseDownReferenceIdeal)
    ∧ quiescent_MoeUp (hMoeUp := hMoeUp) (hPre_tables_of_tiles := hPre_tables_of_tiles)
    ∧ quiescent_MoeUpIdeal (hMoeUpIdeal := hMoeUpIdeal) (hPre_tables_of_tiles := hPre_tables_of_tiles)
    ∧ quiescent_MoeUpReferenceIdeal (hMoeUpReferenceIdeal := hMoeUpReferenceIdeal)
    ∧ quiescent_MoeUpReferenceIdeal_pre_tables_of_tiles (hMoeUpReferenceIdeal := hMoeUpReferenceIdeal) (hPre_tables_of_tiles := hPre_tables_of_tiles)
    ∧ quiescent_MoeDown (hMoeDown := hMoeDown) (hPre_tables_of_tiles_down := hPre_tables_of_tiles_down)
    ∧ quiescent_MoeDownIdeal (hMoeDownIdeal := hMoeDownIdeal) (hPre_tables_of_tiles_down := hPre_tables_of_tiles_down)
    ∧ quiescent_MoeDownReferenceIdeal (hMoeDownReferenceIdeal := hMoeDownReferenceIdeal)
    ∧ quiescent_MoeDownReferenceIdeal_pre_tables_of_tiles_down (hMoeDownReferenceIdeal := hMoeDownReferenceIdeal) (hPre_tables_of_tiles_down := hPre_tables_of_tiles_down)
    ∧ quiescent_MemKV (hMemKV := hMemKV)
    ∧ quiescent_MemKVIdeal (hMemKVIdeal := hMemKVIdeal)
    ∧ quiescent_MemKVReferenceIdeal (hMemKVReferenceIdeal := hMemKVReferenceIdeal)
    ∧ quiescent_NormMix (hNormMix := hNormMix)
    ∧ quiescent_NormMixIdeal (hNormMixIdeal := hNormMixIdeal)
    ∧ quiescent_NormMixReferenceIdeal (hNormMixReferenceIdeal := hNormMixReferenceIdeal)
    ∧ quiescent_NormMem (hNormMem := hNormMem)
    ∧ quiescent_NormMemIdeal (hNormMemIdeal := hNormMemIdeal)
    ∧ quiescent_NormMemReferenceIdeal (hNormMemReferenceIdeal := hNormMemReferenceIdeal)
    ∧ quiescent_Near (hNear := hNear)
    ∧ quiescent_NearIdeal (hNearIdeal := hNearIdeal)
    ∧ quiescent_NearIdeal_pre_finite_near_scores (hNearIdeal := hNearIdeal) (hPre_finite_near_scores := hPre_finite_near_scores)
    ∧ quiescent_NearReferenceIdeal (hNearReferenceIdeal := hNearReferenceIdeal)
    ∧ quiescent_NearReferenceIdeal_pre_finite_near_scores (hNearReferenceIdeal := hNearReferenceIdeal) (hPre_finite_near_scores := hPre_finite_near_scores)
    ∧ quiescent_Fourier (hFourier := hFourier)
    ∧ quiescent_FourierIdeal (hFourierIdeal := hFourierIdeal)
    ∧ quiescent_FourierIdeal_pre_finite_transform (hFourierIdeal := hFourierIdeal) (hPre_finite_transform := hPre_finite_transform)
    ∧ quiescent_FourierReferenceIdeal (hFourierReferenceIdeal := hFourierReferenceIdeal)
    ∧ quiescent_FourierReferenceIdeal_pre_finite_transform (hFourierReferenceIdeal := hFourierReferenceIdeal) (hPre_finite_transform := hPre_finite_transform)
    ∧ preserves_Cross_CrossIdeal
    ∧ algebraic_CrossIdeal_CrossReferenceIdeal_pre_finite_scores (hCrossIdeal := hCrossIdeal) (hCrossReferenceIdeal := hCrossReferenceIdeal) (hPre_finite_scores := hPre_finite_scores)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_DenseUp_DenseUpIdeal
    ∧ algebraic_DenseUpIdeal_DenseUpReferenceIdeal (hDenseUpIdeal := hDenseUpIdeal) (hDenseUpReferenceIdeal := hDenseUpReferenceIdeal)
    ∧ preserves_DenseDown_DenseDownIdeal
    ∧ algebraic_DenseDownIdeal_DenseDownReferenceIdeal (hDenseDownIdeal := hDenseDownIdeal) (hDenseDownReferenceIdeal := hDenseDownReferenceIdeal)
    ∧ preserves_MoeUp_MoeUpIdeal
    ∧ algebraic_MoeUpIdeal_MoeUpReferenceIdeal (hMoeUpIdeal := hMoeUpIdeal) (hMoeUpReferenceIdeal := hMoeUpReferenceIdeal) (hPre_tables_of_tiles := hPre_tables_of_tiles)
    ∧ preserves_MoeDown_MoeDownIdeal
    ∧ algebraic_MoeDownIdeal_MoeDownReferenceIdeal (hMoeDownIdeal := hMoeDownIdeal) (hMoeDownReferenceIdeal := hMoeDownReferenceIdeal) (hPre_tables_of_tiles_down := hPre_tables_of_tiles_down)
    ∧ preserves_MemKV_MemKVIdeal
    ∧ algebraic_MemKVIdeal_MemKVReferenceIdeal (hMemKVIdeal := hMemKVIdeal) (hMemKVReferenceIdeal := hMemKVReferenceIdeal)
    ∧ preserves_NormMix_NormMixIdeal
    ∧ algebraic_NormMixIdeal_NormMixReferenceIdeal (hNormMixIdeal := hNormMixIdeal) (hNormMixReferenceIdeal := hNormMixReferenceIdeal)
    ∧ preserves_NormMem_NormMemIdeal
    ∧ algebraic_NormMemIdeal_NormMemReferenceIdeal (hNormMemIdeal := hNormMemIdeal) (hNormMemReferenceIdeal := hNormMemReferenceIdeal)
    ∧ preserves_Near_NearIdeal
    ∧ algebraic_NearIdeal_NearReferenceIdeal_pre_finite_near_scores (hNearIdeal := hNearIdeal) (hNearReferenceIdeal := hNearReferenceIdeal) (hPre_finite_near_scores := hPre_finite_near_scores)
    ∧ preserves_Fourier_FourierIdeal
    ∧ algebraic_FourierIdeal_FourierReferenceIdeal_pre_finite_transform (hFourierIdeal := hFourierIdeal) (hFourierReferenceIdeal := hFourierReferenceIdeal) (hPre_finite_transform := hPre_finite_transform)
-- ==== Pre_finite_near_scores.lean ====
abbrev S4x2048x6144 : Shape := ⟨3, ![4, 2048, 6144]⟩
abbrev S3x6x256x768 : Shape := ⟨4, ![3, 6, 256, 768]⟩
abbrev S4x2048x1536 : Shape := ⟨3, ![4, 2048, 1536]⟩
abbrev S_ : Shape := ⟨0, ![]⟩

class Facts : Prop where
  slices_S4x2048x6144_S4x2048x1536_0_0_0 : S4x2048x6144.Slices ![0, 0, 0] S4x2048x1536
  bitsLt_bf16_f32 : FTy.bits .bf16 < FTy.bits .f32
  bcast_S_S4x2048x1536 : S_.BroadcastsInDim S4x2048x1536 (![] : Fin 0 → Fin S4x2048x1536.rank)
  bcast_S_S3x6x256x768 : S_.BroadcastsInDim S3x6x256x768 (![] : Fin 0 → Fin S3x6x256x768.rank)
  reducesTo_S4x2048x1536_S_d0_1_2 : S4x2048x1536.ReducesTo [0, 1, 2] S_
  h_S_ : 0 < S_.numel
  reducesTo_S3x6x256x768_S_d0_1_2_3 : S3x6x256x768.ReducesTo [0, 1, 2, 3] S_

variable [Facts]

def fn {F : FTy → Type} [FloatOps F] (main_arg0 : FVec F S4x2048x6144 .bf16) (main_arg1 : FVec F S3x6x256x768 .f32) : IVec S_ 1 :=
  let main_v0 : FVec F S4x2048x1536 .bf16 := (extractStridedSlice S4x2048x1536 ![0, 0, 0] · slices_S4x2048x6144_S4x2048x1536_0_0_0) main_arg0
  let main_v1 : FVec F S4x2048x1536 .f32 := (extf .f32 · bitsLt_bf16_f32) main_v0
  let main_v2 : FVec F S4x2048x1536 .f32 := Host.absf main_v1
  let main_cst : FVec F S_ .f32 := constant S_ .f32 0x7F800000#32
  let main_v3 : FVec F S4x2048x1536 .f32 := broadcastInDim S4x2048x1536 ![] bcast_S_S4x2048x1536 main_cst
  let main_v4 : IVec S4x2048x1536 1 := cmpf .olt main_v2 main_v3
  let main_v5 : FVec F S3x6x256x768 .f32 := Host.absf main_arg1
  let main_cst_0 : FVec F S_ .f32 := constant S_ .f32 0x7F800000#32
  let main_v6 : FVec F S3x6x256x768 .f32 := broadcastInDim S3x6x256x768 ![] bcast_S_S3x6x256x768 main_cst_0
  let main_v7 : IVec S3x6x256x768 1 := cmpf .olt main_v5 main_v6
  let main_c : IVec S_ 1 := constantI S_ 1 1#1
  let main_v8 : IVec S_ 1 := (fun x v => Host.reduce IntOp.andi x v reducesTo_S4x2048x1536_S_d0_1_2 h_S_) main_v4 main_c
  let main_c_1 : IVec S_ 1 := constantI S_ 1 1#1
  let main_v9 : IVec S_ 1 := (fun x v => Host.reduce IntOp.andi x v reducesTo_S3x6x256x768_S_d0_1_2_3 h_S_) main_v7 main_c_1
  let main_v10 : IVec S_ 1 := andi main_v8 main_v9
  main_v10
-- ==== Pre_finite_scores.lean ====
abbrev S4x2048x6144 : Shape := ⟨3, ![4, 2048, 6144]⟩
abbrev S4x256x1536 : Shape := ⟨3, ![4, 256, 1536]⟩
abbrev S4x2048x768 : Shape := ⟨3, ![4, 2048, 768]⟩
abbrev S_ : Shape := ⟨0, ![]⟩
abbrev S4x256x768 : Shape := ⟨3, ![4, 256, 768]⟩

class Facts : Prop where
  slices_S4x2048x6144_S4x2048x768_0_0_5376 : S4x2048x6144.Slices ![0, 0, 5376] S4x2048x768
  bitsLt_bf16_f32 : FTy.bits .bf16 < FTy.bits .f32
  bcast_S_S4x2048x768 : S_.BroadcastsInDim S4x2048x768 (![] : Fin 0 → Fin S4x2048x768.rank)
  slices_S4x256x1536_S4x256x768_0_0_0 : S4x256x1536.Slices ![0, 0, 0] S4x256x768
  bcast_S_S4x256x768 : S_.BroadcastsInDim S4x256x768 (![] : Fin 0 → Fin S4x256x768.rank)
  reducesTo_S4x2048x768_S_d0_1_2 : S4x2048x768.ReducesTo [0, 1, 2] S_
  h_S_ : 0 < S_.numel
  reducesTo_S4x256x768_S_d0_1_2 : S4x256x768.ReducesTo [0, 1, 2] S_

variable [Facts]

def fn {F : FTy → Type} [FloatOps F] (main_arg0 : FVec F S4x2048x6144 .bf16) (main_arg1 : FVec F S4x256x1536 .bf16) : IVec S_ 1 :=
  let main_v0 : FVec F S4x2048x768 .bf16 := (extractStridedSlice S4x2048x768 ![0, 0, 5376] · slices_S4x2048x6144_S4x2048x768_0_0_5376) main_arg0
  let main_v1 : FVec F S4x2048x768 .f32 := (extf .f32 · bitsLt_bf16_f32) main_v0
  let main_v2 : FVec F S4x2048x768 .f32 := Host.absf main_v1
  let main_cst : FVec F S_ .f32 := constant S_ .f32 0x7F800000#32
  let main_v3 : FVec F S4x2048x768 .f32 := broadcastInDim S4x2048x768 ![] bcast_S_S4x2048x768 main_cst
  let main_v4 : IVec S4x2048x768 1 := cmpf .olt main_v2 main_v3
  let main_v5 : FVec F S4x256x768 .bf16 := (extractStridedSlice S4x256x768 ![0, 0, 0] · slices_S4x256x1536_S4x256x768_0_0_0) main_arg1
  let main_v6 : FVec F S4x256x768 .f32 := (extf .f32 · bitsLt_bf16_f32) main_v5
  let main_v7 : FVec F S4x256x768 .f32 := Host.absf main_v6
  let main_cst_0 : FVec F S_ .f32 := constant S_ .f32 0x7F800000#32
  let main_v8 : FVec F S4x256x768 .f32 := broadcastInDim S4x256x768 ![] bcast_S_S4x256x768 main_cst_0
  let main_v9 : IVec S4x256x768 1 := cmpf .olt main_v7 main_v8
  let main_c : IVec S_ 1 := constantI S_ 1 1#1
  let main_v10 : IVec S_ 1 := (fun x v => Host.reduce IntOp.andi x v reducesTo_S4x2048x768_S_d0_1_2 h_S_) main_v4 main_c
  let main_c_1 : IVec S_ 1 := constantI S_ 1 1#1
  let main_v11 : IVec S_ 1 := (fun x v => Host.reduce IntOp.andi x v reducesTo_S4x256x768_S_d0_1_2 h_S_) main_v9 main_c_1
  let main_v12 : IVec S_ 1 := andi main_v10 main_v11
  main_v12
-- ==== Pre_finite_transform.lean ====
abbrev S4x2048x6144 : Shape := ⟨3, ![4, 2048, 6144]⟩
abbrev S128x256 : Shape := ⟨2, ![128, 256]⟩
abbrev S1024 : Shape := ⟨1, ![1024]⟩
abbrev S1024x2048 : Shape := ⟨2, ![1024, 2048]⟩
abbrev S4x2048x768 : Shape := ⟨3, ![4, 2048, 768]⟩
abbrev S_ : Shape := ⟨0, ![]⟩

class Facts : Prop where
  slices_S4x2048x6144_S4x2048x768_0_0_4608 : S4x2048x6144.Slices ![0, 0, 4608] S4x2048x768
  bitsLt_bf16_f32 : FTy.bits .bf16 < FTy.bits .f32
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg4 : FVec F S1024x2048 .bf16) (main_v11 : IVec S_ 1) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S1024x2048 .f32 := (extf .f32 · bitsLt_bf16_f32) main_arg4
  let main_v22 : FVec F S1024x2048 .f32 := Host.absf main_v21
  let main_cst_6 : FVec F S_ .f32 := constant S_ .f32 0x7F800000#32
  let main_v23 : FVec F S1024x2048 .f32 := broadcastInDim S1024x2048 ![] bcast_S_S1024x2048 main_cst_6
  let main_v24 : IVec S1024x2048 1 := cmpf .olt main_v22 main_v23
  let main_c_7 : IVec S_ 1 := constantI S_ 1 1#1
  let main_v25 : IVec S_ 1 := (fun x v => Host.reduce IntOp.andi x v reducesTo_S1024x2048_S_d0_1 h_S_) main_v24 main_c_7
  let main_v26 : IVec S_ 1 := andi main_v20 main_v25
  let main_v27 : IVec S_ 1 := andi main_v11 main_v26
  main_v27

def fn {F : FTy → Type} [FloatOps F] (main_arg0 : FVec F S4x2048x6144 .bf16) (main_arg1 : FVec F S128x256 .bf16) (main_arg2 : FVec F S1024 .f32) (main_arg3 : FVec F S1024 .f32) (main_arg4 : FVec F S1024x2048 .bf16) : IVec S_ 1 :=
  let main_v0 : FVec F S4x2048x768 .bf16 := (extractStridedSlice S4x2048x768 ![0, 0, 4608] · slices_S4x2048x6144_S4x2048x768_0_0_4608) main_arg0
  let main_v1 : FVec F S4x2048x768 .f32 := (extf .f32 · bitsLt_bf16_f32) main_v0
  let main_v2 : FVec F S4x2048x768 .f32 := Host.absf main_v1
  let main_cst : FVec F S_ .f32 := constant S_ .f32 0x7F800000#32
  let main_v3 : FVec F S4x2048x768 .f32 := broadcastInDim S4x2048x768 ![] bcast_S_S4x2048x768 main_cst
  let main_v4 : IVec S4x2048x768 1 := cmpf .olt main_v2 main_v3
  let main_c : IVec S_ 1 := constantI S_ 1 1#1
  let main_v5 : IVec S_ 1 := (fun x v => Host.reduce IntOp.andi x v reducesTo_S4x2048x768_S_d0_1_2 h_S_) main_v4 main_c
  let main_v6 : FVec F S128x256 .f32 := (extf .f32 · bitsLt_bf16_f32) main_arg1
  let main_v7 : FVec F S128x256 .f32 := Host.absf main_v6
  let main_cst_0 : FVec F S_ .f32 := constant S_ .f32 0x7F800000#32
  let main_v8 : FVec F S128x256 .f32 := broadcastInDim S128x256 ![] bcast_S_S128x256 main_cst_0
  let main_v9 : IVec S128x256 1 := cmpf .olt main_v7 main_v8
  let main_c_1 : IVec S_ 1 := constantI S_ 1 1#1
  let main_v10 : IVec S_ 1 := (fun x v => Host.reduce IntOp.andi x v reducesTo_S128x256_S_d0_1 h_S_) main_v9 main_c_1
  let main_v11 : IVec S_ 1 := andi main_v5 main_v10
  let main_v12 : FVec F S1024 .f32 := Host.absf main_arg2
  let main_cst_2 : FVec F S_ .f32 := constant S_ .f32 0x7F800000#32
  let main_v13 : FVec F S1024 .f32 := broadcastInDim S1024 ![] bcast_S_S1024 main_cst_2
  let main_v14 : IVec S1024 1 := cmpf .olt main_v12 main_v13
  let main_c_3 : IVec S_ 1 := constantI S_ 1 1#1
  let main_v15 : IVec S_ 1 := (fun x v => Host.reduce IntOp.andi x v reducesTo_S1024_S_d0 h_S_) main_v14 main_c_3
  let main_v16 : FVec F S1024 .f32 := Host.absf main_arg3
  let main_cst_4 : FVec F S_ .f32 := constant S_ .f32 0x7F800000#32
  fn_part1 (F := F) main_arg4 main_v11 main_v15 main_v16 main_cst_4
-- ==== Pre_tables_of_tiles.lean ====
abbrev S40 : Shape := ⟨1, ![40]⟩
abbrev S1 : Shape := ⟨1, ![1]⟩
abbrev S20480x2048 : Shape := ⟨2, ![20480, 2048]⟩
abbrev S1x8x2048x7168 : Shape := ⟨4, ![1, 8, 2048, 7168]⟩
abbrev S_ : Shape := ⟨0, ![]⟩
abbrev S40x40 : Shape := ⟨2, ![40, 40]⟩
abbrev S40x1 : Shape := ⟨2, ![40, 1]⟩
abbrev S1x1 : Shape := ⟨2, ![1, 1]⟩
abbrev S1x40 : Shape := ⟨2, ![1, 40]⟩

class Facts : Prop where
  bcast_S_S40 : S_.BroadcastsInDim S40 (![] : Fin 0 → Fin S40.rank)
  bcast_S40_S40x1_0 : S40.BroadcastsInDim S40x1 (![0] : Fin 1 → Fin S40x1.rank)
  bcast_S40x1_S40x40_0_1 : S40x1.BroadcastsInDim S40x40 (![0, 1] : Fin 2 → Fin S40x40.rank)
  bcast_S_S40x40 : S_.BroadcastsInDim S40x40 (![] : Fin 0 → Fin S40x40.rank)
  bcast_S1_S1x1_1 : S1.BroadcastsInDim S1x1 (![1] : Fin 1 → Fin S1x1.rank)
  bcast_S1x1_S40x40_0_1 : S1x1.BroadcastsInDim S40x40 (![0, 1] : Fin 2 → Fin S40x40.rank)
  bcast_S40_S1x40_1 : S40.BroadcastsInDim S1x40 (![1] : Fin 1 → Fin S1x40.rank)
  bcast_S1x40_S40x40_0_1 : S1x40.BroadcastsInDim S40x40 (![0, 1] : Fin 2 → Fin S40x40.rank)
  reducesTo_S40_S_d0 : S40.ReducesTo [0] S_
  h_S_ : 0 < S_.numel
  reducesTo_S40x40_S_d0_1 : S40x40.ReducesTo [0, 1] S_

variable [Facts]

def fn_where {F : FTy → Type} [FloatOps F] (arg0 : IVec S40x40 1) (arg1 : IVec S_ 32) (arg2 : IVec S_ 32) : IVec S40x40 32 :=
  let v0 : IVec S40x40 32 := broadcastInDim S40x40 ![] bcast_S_S40x40 arg1
  let v1 : IVec S40x40 32 := broadcastInDim S40x40 ![] bcast_S_S40x40 arg2
  let v2 : IVec S40x40 32 := select arg0 v0 v1
  v2

def fn_part4 {F : FTy → Type} [FloatOps F] (main_arg0 : IVec S40 32) (main_arg5 : IVec S40 32) (main_v10 : IVec S40 1) (main_v20 : IVec S40x40 1) (main_v32 : IVec S40x40 1) (main_v48 : IVec S40x40 1) (main_v58 : IVec S40x40 1) (main_v69 : IVec S40x40 1) (main_v73 : IVec S40x40 1) (main_v75 : IVec S40x40 32) (main_v79 : IVec S40x40 32) : IVec S_ 1 :=
  let main_v80 : IVec S40x40 1 := cmpi .ne main_v75 main_v79
  let main_v81 : IVec S40x40 1 := ori main_v73 main_v80
  let main_v82 : IVec S40x1 32 := broadcastInDim S40x1 ![0] bcast_S40_S40x1_0 main_arg5
  let main_v83 : IVec S40x40 32 := broadcastInDim S40x40 ![0, 1] bcast_S40x1_S40x40_0_1 main_v82
  let main_v84 : IVec S1x40 32 := broadcastInDim S1x40 ![1] bcast_S40_S1x40_1 main_arg0
  let main_v85 : IVec S40x40 32 := broadcastInDim S40x40 ![0, 1] bcast_S1x40_S40x40_0_1 main_v84
  let main_v86 : IVec S40x40 1 := cmpi .eq main_v83 main_v85
  let main_v87 : IVec S40x40 1 := ori main_v81 main_v86
  let main_c_15 : IVec S_ 1 := constantI S_ 1 1#1
  let main_v88 : IVec S_ 1 := (fun x v => Host.reduce IntOp.andi x v reducesTo_S40_S_d0 h_S_) main_v10 main_c_15
  let main_v89 : IVec S40x40 1 := andi main_v20 main_v32
  let main_v90 : IVec S40x40 1 := andi main_v89 main_v48
  let main_v91 : IVec S40x40 1 := andi main_v90 main_v58
  let main_v92 : IVec S40x40 1 := andi main_v91 main_v69
  let main_v93 : IVec S40x40 1 := andi main_v92 main_v87
  let main_c_16 : IVec S_ 1 := constantI S_ 1 1#1
  let main_v94 : IVec S_ 1 := (fun x v => Host.reduce IntOp.andi x v reducesTo_S40x40_S_d0_1 h_S_) main_v93 main_c_16
  let main_v95 : IVec S_ 1 := andi main_v88 main_v94
  main_v95

def fn_part3 {F : FTy → Type} [FloatOps F] (main_arg0 : IVec S40 32) (main_arg3 : IVec S40 32) (main_arg4 : IVec S40 32) (main_arg5 : IVec S40 32) (main_v10 : IVec S40 1) (main_v20 : IVec S40x40 1) (main_v32 : IVec S40x40 1) (main_v48 : IVec S40x40 1) (main_v50 : IVec S40x40 1) (main_v57 : IVec S40x40 1) : IVec S_ 1 :=
  let main_v58 : IVec S40x40 1 := ori main_v50 main_v57
  let main_v59 : IVec S40x1 32 := broadcastInDim S40x1 ![0] bcast_S40_S40x1_0 main_arg4
  let main_v60 : IVec S40x40 32 := broadcastInDim S40x40 ![0, 1] bcast_S40x1_S40x40_0_1 main_v59
  let main_v61 : IVec S1x40 32 := broadcastInDim S1x40 ![1] bcast_S40_S1x40_1 main_arg4
  let main_v62 : IVec S40x40 32 := broadcastInDim S40x40 ![0, 1] bcast_S1x40_S40x40_0_1 main_v61
  let main_v63 : IVec S40x40 1 := cmpi .ne main_v60 main_v62
  let main_v64 : IVec S40x1 32 := broadcastInDim S40x1 ![0] bcast_S40_S40x1_0 main_arg0
  let main_v65 : IVec S40x40 32 := broadcastInDim S40x40 ![0, 1] bcast_S40x1_S40x40_0_1 main_v64
  let main_v66 : IVec S1x40 32 := broadcastInDim S1x40 ![1] bcast_S40_S1x40_1 main_arg0
  let main_v67 : IVec S40x40 32 := broadcastInDim S40x40 ![0, 1] bcast_S1x40_S40x40_0_1 main_v66
  let main_v68 : IVec S40x40 1 := cmpi .eq main_v65 main_v67
  let main_v69 : IVec S40x40 1 := ori main_v63 main_v68
  let main_v70 : IVec S40x1 32 := broadcastInDim S40x1 ![0] bcast_S40_S40x1_0 main_arg3
  let main_v71 : IVec S40x40 32 := broadcastInDim S40x40 ![0, 1] bcast_S40x1_S40x40_0_1 main_v70
  let main_c_13 : IVec S_ 32 := constantI S_ 32 1#32
  let main_v72 : IVec S40x40 32 := broadcastInDim S40x40 ![] bcast_S_S40x40 main_c_13
  let main_v73 : IVec S40x40 1 := cmpi .ne main_v71 main_v72
  let main_v74 : IVec S1x40 32 := broadcastInDim S1x40 ![1] bcast_S40_S1x40_1 main_arg4
  let main_v75 : IVec S40x40 32 := broadcastInDim S40x40 ![0, 1] bcast_S1x40_S40x40_0_1 main_v74
  let main_v76 : IVec S40x1 32 := broadcastInDim S40x1 ![0] bcast_S40_S40x1_0 main_arg4
  let main_v77 : IVec S40x40 32 := broadcastInDim S40x40 ![0, 1] bcast_S40x1_S40x40_0_1 main_v76
  let main_c_14 : IVec S_ 32 := constantI S_ 32 1#32
  let main_v78 : IVec S40x40 32 := broadcastInDim S40x40 ![] bcast_S_S40x40 main_c_14
  let main_v79 : IVec S40x40 32 := addi main_v77 main_v78
  fn_part4 (F := F) main_arg0 main_arg5 main_v10 main_v20 main_v32 main_v48 main_v58 main_v69 main_v73 main_v75 main_v79

def fn_part2 {F : FTy → Type} [FloatOps F] (main_arg0 : IVec S40 32) (main_arg3 : IVec S40 32) (main_arg4 : IVec S40 32) (main_arg5 : IVec S40 32) (main_arg6 : IVec S1 32) (main_v10 : IVec S40 1) (main_v11 : IVec S40x40 32) (main_v20 : IVec S40x40 1) (main_v32 : IVec S40x40 1) (main_v35 : IVec S40x40 1) (main_v37 : IVec S40x40 32) (main_v38 : IVec S40x1 32) : IVec S_ 1 :=
  let main_v39 : IVec S40x40 32 := broadcastInDim S40x40 ![0, 1] bcast_S40x1_S40x40_0_1 main_v38
  let main_v40 : IVec S1x40 32 := broadcastInDim S1x40 ![1] bcast_S40_S1x40_1 main_arg3
  let main_v41 : IVec S40x40 32 := broadcastInDim S40x40 ![0, 1] bcast_S1x40_S40x40_0_1 main_v40
  let main_c_8 : IVec S_ 32 := constantI S_ 32 1#32
  let main_v42 : IVec S40x40 32 := broadcastInDim S40x40 ![] bcast_S_S40x40 main_c_8
  let main_v43 : IVec S40x40 1 := cmpi .eq main_v41 main_v42
  let main_c_9 : IVec S_ 32 := constantI S_ 32 1#32
  let main_c_10 : IVec S_ 32 := constantI S_ 32 0#32
  let main_v44 : IVec S40x40 32 := fn_where (F := F) main_v43 main_c_9 main_c_10
  let main_v45 : IVec S40x40 32 := id main_v44
  let main_v46 : IVec S40x40 32 := addi main_v39 main_v45
  let main_v47 : IVec S40x40 1 := cmpi .eq main_v37 main_v46
  let main_v48 : IVec S40x40 1 := ori main_v35 main_v47
  let main_c_11 : IVec S_ 32 := constantI S_ 32 39#32
  let main_v49 : IVec S40x40 32 := broadcastInDim S40x40 ![] bcast_S_S40x40 main_c_11
  let main_v50 : IVec S40x40 1 := cmpi .ne main_v11 main_v49
  let main_v51 : IVec S1x1 32 := broadcastInDim S1x1 ![1] bcast_S1_S1x1_1 main_arg6
  let main_v52 : IVec S40x40 32 := broadcastInDim S40x40 ![0, 1] bcast_S1x1_S40x40_0_1 main_v51
  let main_v53 : IVec S40x1 32 := broadcastInDim S40x1 ![0] bcast_S40_S40x1_0 main_arg4
  let main_v54 : IVec S40x40 32 := broadcastInDim S40x40 ![0, 1] bcast_S40x1_S40x40_0_1 main_v53
  let main_c_12 : IVec S_ 32 := constantI S_ 32 1#32
  let main_v55 : IVec S40x40 32 := broadcastInDim S40x40 ![] bcast_S_S40x40 main_c_12
  let main_v56 : IVec S40x40 32 := addi main_v54 main_v55
  let main_v57 : IVec S40x40 1 := cmpi .eq main_v52 main_v56
  fn_part3 (F := F) main_arg0 main_arg3 main_arg4 main_arg5 main_v10 main_v20 main_v32 main_v48 main_v50 main_v57

def fn_part1 {F : FTy → Type} [FloatOps F] (main_arg0 : IVec S40 32) (main_arg3 : IVec S40 32) (main_arg4 : IVec S40 32) (main_arg5 : IVec S40 32) (main_arg6 : IVec S1 32) (main_v10 : IVec S40 1) (main_v11 : IVec S40x40 32) (main_v12 : IVec S40x40 32) (main_v16 : IVec S40x40 1) (main_v18 : IVec S40x40 32) : IVec S_ 1 :=
  let main_v19 : IVec S40x40 1 := cmpi .slt main_v11 main_v18
  let main_v20 : IVec S40x40 1 := ori main_v16 main_v19
  let main_c_4 : IVec S_ 32 := constantI S_ 32 0#32
  let main_v21 : IVec S40x40 32 := broadcastInDim S40x40 ![] bcast_S_S40x40 main_c_4
  let main_v22 : IVec S40x40 1 := cmpi .ne main_v11 main_v21
  let main_v23 : IVec S40x1 32 := broadcastInDim S40x1 ![0] bcast_S40_S40x1_0 main_arg4
  let main_v24 : IVec S40x40 32 := broadcastInDim S40x40 ![0, 1] bcast_S40x1_S40x40_0_1 main_v23
  let main_c_5 : IVec S_ 32 := constantI S_ 32 0#32
  let main_v25 : IVec S40x40 32 := broadcastInDim S40x40 ![] bcast_S_S40x40 main_c_5
  let main_v26 : IVec S40x40 1 := cmpi .eq main_v24 main_v25
  let main_v27 : IVec S40x1 32 := broadcastInDim S40x1 ![0] bcast_S40_S40x1_0 main_arg3
  let main_v28 : IVec S40x40 32 := broadcastInDim S40x40 ![0, 1] bcast_S40x1_S40x40_0_1 main_v27
  let main_c_6 : IVec S_ 32 := constantI S_ 32 1#32
  let main_v29 : IVec S40x40 32 := broadcastInDim S40x40 ![] bcast_S_S40x40 main_c_6
  let main_v30 : IVec S40x40 1 := cmpi .eq main_v28 main_v29
  let main_v31 : IVec S40x40 1 := andi main_v26 main_v30
  let main_v32 : IVec S40x40 1 := ori main_v22 main_v31
  let main_c_7 : IVec S_ 32 := constantI S_ 32 1#32
  let main_v33 : IVec S40x40 32 := broadcastInDim S40x40 ![] bcast_S_S40x40 main_c_7
  let main_v34 : IVec S40x40 32 := addi main_v11 main_v33
  let main_v35 : IVec S40x40 1 := cmpi .ne main_v12 main_v34
  let main_v36 : IVec S1x40 32 := broadcastInDim S1x40 ![1] bcast_S40_S1x40_1 main_arg4
  let main_v37 : IVec S40x40 32 := broadcastInDim S40x40 ![0, 1] bcast_S1x40_S40x40_0_1 main_v36
  let main_v38 : IVec S40x1 32 := broadcastInDim S40x1 ![0] bcast_S40_S40x1_0 main_arg4
  fn_part2 (F := F) main_arg0 main_arg3 main_arg4 main_arg5 main_arg6 main_v10 main_v11 main_v20 main_v32 main_v35 main_v37 main_v38

def fn {F : FTy → Type} [FloatOps F] (main_arg0 : IVec S40 32) (main_arg1 : IVec S1 32) (main_arg2 : IVec S40 32) (main_arg3 : IVec S40 32) (main_arg4 : IVec S40 32) (main_arg5 : IVec S40 32) (main_arg6 : IVec S1 32) (main_arg7 : FVec F S20480x2048 .bf16) (main_arg8 : FVec F S1x8x2048x7168 .f32) (main_arg9 : FVec F S1x8x2048x7168 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 0#32
  let main_v5 : IVec S40 32 := broadcastInDim S40 ![] bcast_S_S40 main_c_1
  let main_v6 : IVec S40 1 := cmpi .sge main_arg2 main_v5
  let main_v7 : IVec S40 1 := andi main_v4 main_v6
  let main_c_2 : IVec S_ 32 := constantI S_ 32 512#32
  let main_v8 : IVec S40 32 := broadcastInDim S40 ![] bcast_S_S40 main_c_2
  let main_v9 : IVec S40 1 := cmpi .sle main_arg2 main_v8
  let main_v10 : IVec S40 1 := andi main_v7 main_v9
  let main_v11 : IVec S40x40 32 := iotaInDim S40x40 32 0
  let main_v12 : IVec S40x40 32 := iotaInDim S40x40 32 1
  let main_v13 : IVec S40x1 32 := broadcastInDim S40x1 ![0] bcast_S40_S40x1_0 main_arg2
  let main_v14 : IVec S40x40 32 := broadcastInDim S40x40 ![0, 1] bcast_S40x1_S40x40_0_1 main_v13
  let main_c_3 : IVec S_ 32 := constantI S_ 32 0#32
  let main_v15 : IVec S40x40 32 := broadcastInDim S40x40 ![] bcast_S_S40x40 main_c_3
  let main_v16 : IVec S40x40 1 := cmpi .eq main_v14 main_v15
  let main_v17 : IVec S1x1 32 := broadcastInDim S1x1 ![1] bcast_S1_S1x1_1 main_arg1
  let main_v18 : IVec S40x40 32 := broadcastInDim S40x40 ![0, 1] bcast_S1x1_S40x40_0_1 main_v17
  fn_part1 (F := F) main_arg0 main_arg3 main_arg4 main_arg5 main_arg6 main_v10 main_v11 main_v12 main_v16 main_v18
-- ==== Pre_tables_of_tiles_down.lean ====
abbrev S40 : Shape := ⟨1, ![40]⟩
abbrev S1 : Shape := ⟨1, ![1]⟩
abbrev S20480x7168 : Shape := ⟨2, ![20480, 7168]⟩
abbrev S1x8x7168x2048 : Shape := ⟨4, ![1, 8, 7168, 2048]⟩
abbrev S_ : Shape := ⟨0, ![]⟩
abbrev S40x40 : Shape := ⟨2, ![40, 40]⟩
abbrev S40x1 : Shape := ⟨2, ![40, 1]⟩
abbrev S1x1 : Shape := ⟨2, ![1, 1]⟩
abbrev S1x40 : Shape := ⟨2, ![1, 40]⟩

class Facts : Prop where
  bcast_S_S40 : S_.BroadcastsInDim S40 (![] : Fin 0 → Fin S40.rank)
  bcast_S40_S40x1_0 : S40.BroadcastsInDim S40x1 (![0] : Fin 1 → Fin S40x1.rank)
  bcast_S40x1_S40x40_0_1 : S40x1.BroadcastsInDim S40x40 (![0, 1] : Fin 2 → Fin S40x40.rank)
  bcast_S_S40x40 : S_.BroadcastsInDim S40x40 (![] : Fin 0 → Fin S40x40.rank)
  bcast_S1_S1x1_1 : S1.BroadcastsInDim S1x1 (![1] : Fin 1 → Fin S1x1.rank)
  bcast_S1x1_S40x40_0_1 : S1x1.BroadcastsInDim S40x40 (![0, 1] : Fin 2 → Fin S40x40.rank)
  bcast_S40_S1x40_1 : S40.BroadcastsInDim S1x40 (![1] : Fin 1 → Fin S1x40.rank)
  bcast_S1x40_S40x40_0_1 : S1x40.BroadcastsInDim S40x40 (![0, 1] : Fin 2 → Fin S40x40.rank)
  reducesTo_S40_S_d0 : S40.ReducesTo [0] S_
  h_S_ : 0 < S_.numel
  reducesTo_S40x40_S_d0_1 : S40x40.ReducesTo [0, 1] S_

variable [Facts]

def fn_where {F : FTy → Type} [FloatOps F] (arg0 : IVec S40x40 1) (arg1 : IVec S_ 32) (arg2 : IVec S_ 32) : IVec S40x40 32 :=
  let v0 : IVec S40x40 32 := broadcastInDim S40x40 ![] bcast_S_S40x40 arg1
  let v1 : IVec S40x40 32 := broadcastInDim S40x40 ![] bcast_S_S40x40 arg2
  let v2 : IVec S40x40 32 := select arg0 v0 v1
  v2

def fn_part4 {F : FTy → Type} [FloatOps F] (main_arg0 : IVec S40 32) (main_arg5 : IVec S40 32) (main_v10 : IVec S40 1) (main_v20 : IVec S40x40 1) (main_v32 : IVec S40x40 1) (main_v48 : IVec S40x40 1) (main_v58 : IVec S40x40 1) (main_v69 : IVec S40x40 1) (main_v73 : IVec S40x40 1) (main_v75 : IVec S40x40 32) (main_v79 : IVec S40x40 32) : IVec S_ 1 :=
  let main_v80 : IVec S40x40 1 := cmpi .ne main_v75 main_v79
  let main_v81 : IVec S40x40 1 := ori main_v73 main_v80
  let main_v82 : IVec S40x1 32 := broadcastInDim S40x1 ![0] bcast_S40_S40x1_0 main_arg5
  let main_v83 : IVec S40x40 32 := broadcastInDim S40x40 ![0, 1] bcast_S40x1_S40x40_0_1 main_v82
  let main_v84 : IVec S1x40 32 := broadcastInDim S1x40 ![1] bcast_S40_S1x40_1 main_arg0
  let main_v85 : IVec S40x40 32 := broadcastInDim S40x40 ![0, 1] bcast_S1x40_S40x40_0_1 main_v84
  let main_v86 : IVec S40x40 1 := cmpi .eq main_v83 main_v85
  let main_v87 : IVec S40x40 1 := ori main_v81 main_v86
  let main_c_15 : IVec S_ 1 := constantI S_ 1 1#1
  let main_v88 : IVec S_ 1 := (fun x v => Host.reduce IntOp.andi x v reducesTo_S40_S_d0 h_S_) main_v10 main_c_15
  let main_v89 : IVec S40x40 1 := andi main_v20 main_v32
  let main_v90 : IVec S40x40 1 := andi main_v89 main_v48
  let main_v91 : IVec S40x40 1 := andi main_v90 main_v58
  let main_v92 : IVec S40x40 1 := andi main_v91 main_v69
  let main_v93 : IVec S40x40 1 := andi main_v92 main_v87
  let main_c_16 : IVec S_ 1 := constantI S_ 1 1#1
  let main_v94 : IVec S_ 1 := (fun x v => Host.reduce IntOp.andi x v reducesTo_S40x40_S_d0_1 h_S_) main_v93 main_c_16
  let main_v95 : IVec S_ 1 := andi main_v88 main_v94
  main_v95

def fn_part3 {F : FTy → Type} [FloatOps F] (main_arg0 : IVec S40 32) (main_arg3 : IVec S40 32) (main_arg4 : IVec S40 32) (main_arg5 : IVec S40 32) (main_v10 : IVec S40 1) (main_v20 : IVec S40x40 1) (main_v32 : IVec S40x40 1) (main_v48 : IVec S40x40 1) (main_v50 : IVec S40x40 1) (main_v57 : IVec S40x40 1) : IVec S_ 1 :=
  let main_v58 : IVec S40x40 1 := ori main_v50 main_v57
  let main_v59 : IVec S40x1 32 := broadcastInDim S40x1 ![0] bcast_S40_S40x1_0 main_arg4
  let main_v60 : IVec S40x40 32 := broadcastInDim S40x40 ![0, 1] bcast_S40x1_S40x40_0_1 main_v59
  let main_v61 : IVec S1x40 32 := broadcastInDim S1x40 ![1] bcast_S40_S1x40_1 main_arg4
  let main_v62 : IVec S40x40 32 := broadcastInDim S40x40 ![0, 1] bcast_S1x40_S40x40_0_1 main_v61
  let main_v63 : IVec S40x40 1 := cmpi .ne main_v60 main_v62
  let main_v64 : IVec S40x1 32 := broadcastInDim S40x1 ![0] bcast_S40_S40x1_0 main_arg0
  let main_v65 : IVec S40x40 32 := broadcastInDim S40x40 ![0, 1] bcast_S40x1_S40x40_0_1 main_v64
  let main_v66 : IVec S1x40 32 := broadcastInDim S1x40 ![1] bcast_S40_S1x40_1 main_arg0
  let main_v67 : IVec S40x40 32 := broadcastInDim S40x40 ![0, 1] bcast_S1x40_S40x40_0_1 main_v66
  let main_v68 : IVec S40x40 1 := cmpi .eq main_v65 main_v67
  let main_v69 : IVec S40x40 1 := ori main_v63 main_v68
  let main_v70 : IVec S40x1 32 := broadcastInDim S40x1 ![0] bcast_S40_S40x1_0 main_arg3
  let main_v71 : IVec S40x40 32 := broadcastInDim S40x40 ![0, 1] bcast_S40x1_S40x40_0_1 main_v70
  let main_c_13 : IVec S_ 32 := constantI S_ 32 1#32
  let main_v72 : IVec S40x40 32 := broadcastInDim S40x40 ![] bcast_S_S40x40 main_c_13
  let main_v73 : IVec S40x40 1 := cmpi .ne main_v71 main_v72
  let main_v74 : IVec S1x40 32 := broadcastInDim S1x40 ![1] bcast_S40_S1x40_1 main_arg4
  let main_v75 : IVec S40x40 32 := broadcastInDim S40x40 ![0, 1] bcast_S1x40_S40x40_0_1 main_v74
  let main_v76 : IVec S40x1 32 := broadcastInDim S40x1 ![0] bcast_S40_S40x1_0 main_arg4
  let main_v77 : IVec S40x40 32 := broadcastInDim S40x40 ![0, 1] bcast_S40x1_S40x40_0_1 main_v76
  let main_c_14 : IVec S_ 32 := constantI S_ 32 1#32
  let main_v78 : IVec S40x40 32 := broadcastInDim S40x40 ![] bcast_S_S40x40 main_c_14
  let main_v79 : IVec S40x40 32 := addi main_v77 main_v78
  fn_part4 (F := F) main_arg0 main_arg5 main_v10 main_v20 main_v32 main_v48 main_v58 main_v69 main_v73 main_v75 main_v79

def fn_part2 {F : FTy → Type} [FloatOps F] (main_arg0 : IVec S40 32) (main_arg3 : IVec S40 32) (main_arg4 : IVec S40 32) (main_arg5 : IVec S40 32) (main_arg6 : IVec S1 32) (main_v10 : IVec S40 1) (main_v11 : IVec S40x40 32) (main_v20 : IVec S40x40 1) (main_v32 : IVec S40x40 1) (main_v35 : IVec S40x40 1) (main_v37 : IVec S40x40 32) (main_v38 : IVec S40x1 32) : IVec S_ 1 :=
  let main_v39 : IVec S40x40 32 := broadcastInDim S40x40 ![0, 1] bcast_S40x1_S40x40_0_1 main_v38
  let main_v40 : IVec S1x40 32 := broadcastInDim S1x40 ![1] bcast_S40_S1x40_1 main_arg3
  let main_v41 : IVec S40x40 32 := broadcastInDim S40x40 ![0, 1] bcast_S1x40_S40x40_0_1 main_v40
  let main_c_8 : IVec S_ 32 := constantI S_ 32 1#32
  let main_v42 : IVec S40x40 32 := broadcastInDim S40x40 ![] bcast_S_S40x40 main_c_8
  let main_v43 : IVec S40x40 1 := cmpi .eq main_v41 main_v42
  let main_c_9 : IVec S_ 32 := constantI S_ 32 1#32
  let main_c_10 : IVec S_ 32 := constantI S_ 32 0#32
  let main_v44 : IVec S40x40 32 := fn_where (F := F) main_v43 main_c_9 main_c_10
  let main_v45 : IVec S40x40 32 := id main_v44
  let main_v46 : IVec S40x40 32 := addi main_v39 main_v45
  let main_v47 : IVec S40x40 1 := cmpi .eq main_v37 main_v46
  let main_v48 : IVec S40x40 1 := ori main_v35 main_v47
  let main_c_11 : IVec S_ 32 := constantI S_ 32 39#32
  let main_v49 : IVec S40x40 32 := broadcastInDim S40x40 ![] bcast_S_S40x40 main_c_11
  let main_v50 : IVec S40x40 1 := cmpi .ne main_v11 main_v49
  let main_v51 : IVec S1x1 32 := broadcastInDim S1x1 ![1] bcast_S1_S1x1_1 main_arg6
  let main_v52 : IVec S40x40 32 := broadcastInDim S40x40 ![0, 1] bcast_S1x1_S40x40_0_1 main_v51
  let main_v53 : IVec S40x1 32 := broadcastInDim S40x1 ![0] bcast_S40_S40x1_0 main_arg4
  let main_v54 : IVec S40x40 32 := broadcastInDim S40x40 ![0, 1] bcast_S40x1_S40x40_0_1 main_v53
  let main_c_12 : IVec S_ 32 := constantI S_ 32 1#32
  let main_v55 : IVec S40x40 32 := broadcastInDim S40x40 ![] bcast_S_S40x40 main_c_12
  let main_v56 : IVec S40x40 32 := addi main_v54 main_v55
  let main_v57 : IVec S40x40 1 := cmpi .eq main_v52 main_v56
  fn_part3 (F := F) main_arg0 main_arg3 main_arg4 main_arg5 main_v10 main_v20 main_v32 main_v48 main_v50 main_v57

def fn_part1 {F : FTy → Type} [FloatOps F] (main_arg0 : IVec S40 32) (main_arg3 : IVec S40 32) (main_arg4 : IVec S40 32) (main_arg5 : IVec S40 32) (main_arg6 : IVec S1 32) (main_v10 : IVec S40 1) (main_v11 : IVec S40x40 32) (main_v12 : IVec S40x40 32) (main_v16 : IVec S40x40 1) (main_v18 : IVec S40x40 32) : IVec S_ 1 :=
  let main_v19 : IVec S40x40 1 := cmpi .slt main_v11 main_v18
  let main_v20 : IVec S40x40 1 := ori main_v16 main_v19
  let main_c_4 : IVec S_ 32 := constantI S_ 32 0#32
  let main_v21 : IVec S40x40 32 := broadcastInDim S40x40 ![] bcast_S_S40x40 main_c_4
  let main_v22 : IVec S40x40 1 := cmpi .ne main_v11 main_v21
  let main_v23 : IVec S40x1 32 := broadcastInDim S40x1 ![0] bcast_S40_S40x1_0 main_arg4
  let main_v24 : IVec S40x40 32 := broadcastInDim S40x40 ![0, 1] bcast_S40x1_S40x40_0_1 main_v23
  let main_c_5 : IVec S_ 32 := constantI S_ 32 0#32
  let main_v25 : IVec S40x40 32 := broadcastInDim S40x40 ![] bcast_S_S40x40 main_c_5
  let main_v26 : IVec S40x40 1 := cmpi .eq main_v24 main_v25
  let main_v27 : IVec S40x1 32 := broadcastInDim S40x1 ![0] bcast_S40_S40x1_0 main_arg3
  let main_v28 : IVec S40x40 32 := broadcastInDim S40x40 ![0, 1] bcast_S40x1_S40x40_0_1 main_v27
  let main_c_6 : IVec S_ 32 := constantI S_ 32 1#32
  let main_v29 : IVec S40x40 32 := broadcastInDim S40x40 ![] bcast_S_S40x40 main_c_6
  let main_v30 : IVec S40x40 1 := cmpi .eq main_v28 main_v29
  let main_v31 : IVec S40x40 1 := andi main_v26 main_v30
  let main_v32 : IVec S40x40 1 := ori main_v22 main_v31
  let main_c_7 : IVec S_ 32 := constantI S_ 32 1#32
  let main_v33 : IVec S40x40 32 := broadcastInDim S40x40 ![] bcast_S_S40x40 main_c_7
  let main_v34 : IVec S40x40 32 := addi main_v11 main_v33
  let main_v35 : IVec S40x40 1 := cmpi .ne main_v12 main_v34
  let main_v36 : IVec S1x40 32 := broadcastInDim S1x40 ![1] bcast_S40_S1x40_1 main_arg4
  let main_v37 : IVec S40x40 32 := broadcastInDim S40x40 ![0, 1] bcast_S1x40_S40x40_0_1 main_v36
  let main_v38 : IVec S40x1 32 := broadcastInDim S40x1 ![0] bcast_S40_S40x1_0 main_arg4
  fn_part2 (F := F) main_arg0 main_arg3 main_arg4 main_arg5 main_arg6 main_v10 main_v11 main_v20 main_v32 main_v35 main_v37 main_v38

def fn {F : FTy → Type} [FloatOps F] (main_arg0 : IVec S40 32) (main_arg1 : IVec S1 32) (main_arg2 : IVec S40 32) (main_arg3 : IVec S40 32) (main_arg4 : IVec S40 32) (main_arg5 : IVec S40 32) (main_arg6 : IVec S1 32) (main_arg7 : FVec F S20480x7168 .bf16) (main_arg8 : FVec F S1x8x7168x2048 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 0#32
  let main_v5 : IVec S40 32 := broadcastInDim S40 ![] bcast_S_S40 main_c_1
  let main_v6 : IVec S40 1 := cmpi .sge main_arg2 main_v5
  let main_v7 : IVec S40 1 := andi main_v4 main_v6
  let main_c_2 : IVec S_ 32 := constantI S_ 32 512#32
  let main_v8 : IVec S40 32 := broadcastInDim S40 ![] bcast_S_S40 main_c_2
  let main_v9 : IVec S40 1 := cmpi .sle main_arg2 main_v8
  let main_v10 : IVec S40 1 := andi main_v7 main_v9
  let main_v11 : IVec S40x40 32 := iotaInDim S40x40 32 0
  let main_v12 : IVec S40x40 32 := iotaInDim S40x40 32 1
  let main_v13 : IVec S40x1 32 := broadcastInDim S40x1 ![0] bcast_S40_S40x1_0 main_arg2
  let main_v14 : IVec S40x40 32 := broadcastInDim S40x40 ![0, 1] bcast_S40x1_S40x40_0_1 main_v13
  let main_c_3 : IVec S_ 32 := constantI S_ 32 0#32
  let main_v15 : IVec S40x40 32 := broadcastInDim S40x40 ![] bcast_S_S40x40 main_c_3
  let main_v16 : IVec S40x40 1 := cmpi .eq main_v14 main_v15
  let main_v17 : IVec S1x1 32 := broadcastInDim S1x1 ![1] bcast_S1_S1x1_1 main_arg1
  let main_v18 : IVec S40x40 32 := broadcastInDim S40x40 ![0, 1] bcast_S1x1_S40x40_0_1 main_v17
  fn_part1 (F := F) main_arg0 main_arg3 main_arg4 main_arg5 main_arg6 main_v10 main_v11 main_v12 main_v16 main_v18
-- ==== Cross.lean ====
abbrev S4x2048x6144 : Shape := ⟨3, ![4, 2048, 6144]⟩
abbrev S4x256x1536 : Shape := ⟨3, ![4, 256, 1536]⟩
abbrev S4x2048x768 : Shape := ⟨3, ![4, 2048, 768]⟩
abbrev S1x512x768 : Shape := ⟨3, ![1, 512, 768]⟩
abbrev S1x256x768 : Shape := ⟨3, ![1, 256, 768]⟩
abbrev S1x256 : Shape := ⟨2, ![1, 256]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S256x512 : Shape := ⟨2, ![256, 512]⟩
abbrev S512x512 : Shape := ⟨2, ![512, 512]⟩
abbrev S512x768 : Shape := ⟨2, ![512, 768]⟩
abbrev S512x128 : Shape := ⟨2, ![512, 128]⟩
abbrev S512x384 : Shape := ⟨2, ![512, 384]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x6144, .bf16⟩
  | .hbm, ⟨1, _⟩ => ⟨S4x256x1536, .bf16⟩
  | .hbm, ⟨2, _⟩ => ⟨S4x2048x768, .bf16⟩
  | .local _ .vmem, ⟨0, _⟩ => ⟨S1x512x768, .bf16⟩
  | .local _ .vmem, ⟨1, _⟩ => ⟨S1x512x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x512x768, .bf16⟩
  | .local _ .vmem, ⟨7, _⟩ => ⟨S1x512x768, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossReferenceIdeal.lean ====
abbrev S4x2048x6144 : Shape := ⟨3, ![4, 2048, 6144]⟩
abbrev S4x256x1536 : Shape := ⟨3, ![4, 256, 1536]⟩
abbrev S4x2048x768 : Shape := ⟨3, ![4, 2048, 768]⟩
abbrev S4x2048x4x192 : Shape := ⟨4, ![4, 2048, 4, 192]⟩
abbrev S4x256x768 : Shape := ⟨3, ![4, 256, 768]⟩
abbrev S4x256x4x192 : Shape := ⟨4, ![4, 256, 4, 192]⟩
abbrev S_ : Shape := ⟨0, ![]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x192x2048 : Shape := ⟨4, ![4, 4, 192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S4x256x1536, .bf16⟩
  | .hbm, ⟨2, _⟩ => ⟨S4x2048x768, .bf16⟩
  | .hbm, ⟨3, _⟩ => ⟨S4x2048x768, .f32⟩
  | .hbm, ⟨4, _⟩ => ⟨S4x2048x4x192, .f32⟩
  | .hbm, ⟨5, _⟩ => ⟨S4x256x768, .bf16⟩
  | .hbm, ⟨6, _⟩ => ⟨S4x256x768, .f32⟩
  | .hbm, ⟨7, _⟩ => ⟨S4x256x4x192, .f32⟩
  | .hbm, ⟨8, _⟩ => ⟨S4x256x768, .bf16⟩
  | .hbm, ⟨9, _⟩ => ⟨S4x256x768, .f32⟩
  | .hbm, ⟨10, _⟩ => ⟨S4x256x4x192, .f32⟩
  | .hbm, ⟨11, _⟩ => ⟨S_, .f32⟩
  | .hbm, ⟨12, _⟩ => ⟨S4x2048x4x192, .f32⟩
  | .hbm, ⟨13, _⟩ => ⟨S4x2048x4x192, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S_, .f32⟩
  | .hbm, ⟨18, _⟩ => ⟨S4x4x2048, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .f32⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x256, .f32⟩
  | .hbm, ⟨28, _⟩ => ⟨S4x4x2048x256, .f32⟩
  | .hbm, ⟨29, _⟩ => ⟨S4x4x192x2048, .f32⟩
  | .hbm, ⟨30, _⟩ => ⟨S4x2048x4x192, .f32⟩
  | .hbm, ⟨31, _⟩ => ⟨S4x2048x768, .f32⟩
  | .hbm, ⟨32, _⟩ => ⟨S4x2048x768, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Merge.lean ====
abbrev S8192x2048 : Shape := ⟨2, ![8192, 2048]⟩
abbrev S8192x768 : Shape := ⟨2, ![8192, 768]⟩
abbrev S8192x256 : Shape := ⟨2, ![8192, 256]⟩
abbrev S2x2048x8192 : Shape := ⟨3, ![2, 2048, 8192]⟩
abbrev S2x8192 : Shape := ⟨2, ![2, 8192]⟩
abbrev S2x768x2048 : Shape := ⟨3, ![2, 768, 2048]⟩
abbrev S2x256x2048 : Shape := ⟨3, ![2, 256, 2048]⟩
abbrev S2x1x8192 : Shape := ⟨3, ![2, 1, 8192]⟩
abbrev S1024x2048 : Shape := ⟨2, ![1024, 2048]⟩
abbrev S1024x768 : Shape := ⟨2, ![1024, 768]⟩
abbrev S1024x256 : Shape := ⟨2, ![1024, 256]⟩
abbrev S1x2048x256 : Shape := ⟨3, ![1, 2048, 256]⟩
abbrev S1x1x256 : Shape := ⟨3, ![1, 1, 256]⟩
abbrev S1x768x256 : Shape := ⟨3, ![1, 768, 256]⟩
abbrev S1x256x256 : Shape := ⟨3, ![1, 256, 256]⟩
abbrev S2048x256 : Shape := ⟨2, ![2048, 256]⟩
abbrev S1x256 : Shape := ⟨2, ![1, 256]⟩
abbrev S768x256 : Shape := ⟨2, ![768, 256]⟩
abbrev S256x256 : Shape := ⟨2, ![256, 256]⟩

abbrev nBuf : Space → Nat
  | .hbm => 13
  | .vmem => 36
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S8192x768, .bf16⟩
  | .hbm, ⟨3, _⟩ => ⟨S8192x256, .bf16⟩
  | .hbm, ⟨4, _⟩ => ⟨S8192x768, .bf16⟩
  | .hbm, ⟨5, _⟩ => ⟨S2x2048x8192, .f32⟩
  | .hbm, ⟨6, _⟩ => ⟨S2x8192, .f32⟩
  | .hbm, ⟨7, _⟩ => ⟨S2x768x2048, .f32⟩
  | .hbm, ⟨8, _⟩ => ⟨S2x768x2048, .f32⟩
  | .hbm, ⟨9, _⟩ => ⟨S2x256x2048, .f32⟩
  | .hbm, ⟨10, _⟩ => ⟨S2x768x2048, .f32⟩
  | .hbm, ⟨11, _⟩ => ⟨S2x1x8192, .f32⟩
  | .hbm, ⟨12, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x256, .bf16⟩
  | .local _ .vmem, ⟨7, _⟩ => ⟨S1024x256, .bf16⟩
  | .local _ .vmem, ⟨8, _⟩ => ⟨S1024x768, .bf16⟩
  | .local _ .vmem, ⟨9, _⟩ => ⟨S1024x768, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x768x256, .f32⟩
  | .local _ .vmem, ⟨27, _⟩ => ⟨S1x768x256, .f32⟩
  | .local _ .vmem, ⟨28, _⟩ => ⟨S1x768x256, .f32⟩
  | .local _ .vmem, ⟨29, _⟩ => ⟨S1x768x256, .f32⟩
  | .local _ .vmem, ⟨30, _⟩ => ⟨S1x256x256, .f32⟩
  | .local _ .vmem, ⟨31, _⟩ => ⟨S1x256x256, .f32⟩
  | .local _ .vmem, ⟨32, _⟩ => ⟨S1x768x256, .f32⟩
  | .local _ .vmem, ⟨33, _⟩ => ⟨S1x768x256, .f32⟩
  | .local _ .vmem, ⟨34, _⟩ => ⟨S1024x256, .bf16⟩
  | .local _ .vmem, ⟨35, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_12 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x768x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x768x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x768x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeReferenceIdeal.lean ====
abbrev S8192x2048 : Shape := ⟨2, ![8192, 2048]⟩
abbrev S8192x768 : Shape := ⟨2, ![8192, 768]⟩
abbrev S8192x256 : Shape := ⟨2, ![8192, 256]⟩
abbrev S2x2048x8192 : Shape := ⟨3, ![2, 2048, 8192]⟩
abbrev S2x8192 : Shape := ⟨2, ![2, 8192]⟩
abbrev S2x768x2048 : Shape := ⟨3, ![2, 768, 2048]⟩
abbrev S2x256x2048 : Shape := ⟨3, ![2, 256, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192 : Shape := ⟨2, ![1, 8192]⟩
abbrev S8192 : Shape := ⟨1, ![8192]⟩
abbrev S_ : Shape := ⟨0, ![]⟩
abbrev S8192x4x2048 : Shape := ⟨3, ![8192, 4, 2048]⟩
abbrev S8192x1x2048 : Shape := ⟨3, ![8192, 1, 2048]⟩
abbrev S1x768x2048 : Shape := ⟨3, ![1, 768, 2048]⟩
abbrev S768x2048 : Shape := ⟨2, ![768, 2048]⟩
abbrev S1x256x2048 : Shape := ⟨3, ![1, 256, 2048]⟩
abbrev S256x2048 : Shape := ⟨2, ![256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S8192x768, .bf16⟩
  | .hbm, ⟨3, _⟩ => ⟨S8192x256, .bf16⟩
  | .hbm, ⟨4, _⟩ => ⟨S8192x768, .bf16⟩
  | .hbm, ⟨5, _⟩ => ⟨S2x2048x8192, .f32⟩
  | .hbm, ⟨6, _⟩ => ⟨S2x8192, .f32⟩
  | .hbm, ⟨7, _⟩ => ⟨S2x768x2048, .f32⟩
  | .hbm, ⟨8, _⟩ => ⟨S2x768x2048, .f32⟩
  | .hbm, ⟨9, _⟩ => ⟨S2x256x2048, .f32⟩
  | .hbm, ⟨10, _⟩ => ⟨S2x768x2048, .f32⟩
  | .hbm, ⟨11, _⟩ => ⟨S8192x2048, .f32⟩
  | .hbm, ⟨12, _⟩ => ⟨S8192x768, .f32⟩
  | .hbm, ⟨13, _⟩ => ⟨S8192x768, .f32⟩
  | .hbm, ⟨14, _⟩ => ⟨S8192x256, .f32⟩
  | .hbm, ⟨15, _⟩ => ⟨S8192x768, .f32⟩
  | .hbm, ⟨16, _⟩ => ⟨S1x2048x8192, .f32⟩
  | .hbm, ⟨17, _⟩ => ⟨S2048x8192, .f32⟩
  | .hbm, ⟨18, _⟩ => ⟨S8192x8192, .f32⟩
  | .hbm, ⟨19, _⟩ => ⟨S1x8192, .f32⟩
  | .hbm, ⟨20, _⟩ => ⟨S8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x4x2048, .f32⟩
  | .hbm, ⟨33, _⟩ => ⟨S8192x1x2048, .f32⟩
  | .hbm, ⟨34, _⟩ => ⟨S8192x2048, .f32⟩
  | .hbm, ⟨35, _⟩ => ⟨S1x768x2048, .f32⟩
  | .hbm, ⟨36, _⟩ => ⟨S768x2048, .f32⟩
  | .hbm, ⟨37, _⟩ => ⟨S8192x2048, .f32⟩
  | .hbm, ⟨38, _⟩ => ⟨S8192x2048, .f32⟩
  | .hbm, ⟨39, _⟩ => ⟨S8192x1x2048, .f32⟩
  | .hbm, ⟨40, _⟩ => ⟨S8192x2048, .f32⟩
  | .hbm, ⟨41, _⟩ => ⟨S1x768x2048, .f32⟩
  | .hbm, ⟨42, _⟩ => ⟨S768x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1x2048, .f32⟩
  | .hbm, ⟨47, _⟩ => ⟨S8192x2048, .f32⟩
  | .hbm, ⟨48, _⟩ => ⟨S1x256x2048, .f32⟩
  | .hbm, ⟨49, _⟩ => ⟨S256x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x1x2048, .f32⟩
  | .hbm, ⟨54, _⟩ => ⟨S8192x2048, .f32⟩
  | .hbm, ⟨55, _⟩ => ⟨S1x768x2048, .f32⟩
  | .hbm, ⟨56, _⟩ => ⟨S768x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== InProj.lean ====
abbrev S8192x2048 : Shape := ⟨2, ![8192, 2048]⟩
abbrev S2x2048x6144 : Shape := ⟨3, ![2, 2048, 6144]⟩
abbrev S8192x6144 : Shape := ⟨2, ![8192, 6144]⟩
abbrev S2048x2048 : Shape := ⟨2, ![2048, 2048]⟩
abbrev S1x2048x768 : Shape := ⟨3, ![1, 2048, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .f32⟩
  | .local _ .vmem, ⟨3, _⟩ => ⟨S1x2048x768, .f32⟩
  | .local _ .vmem, ⟨4, _⟩ => ⟨S2048x768, .bf16⟩
  | .local _ .vmem, ⟨5, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S8192x2048 : Shape := ⟨2, ![8192, 2048]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DenseUp.lean ====
abbrev S8192x2048 : Shape := ⟨2, ![8192, 2048]⟩
abbrev S2048 : Shape := ⟨1, ![2048]⟩
abbrev S1x2048x5632 : Shape := ⟨3, ![1, 2048, 5632]⟩
abbrev S1x2048 : Shape := ⟨2, ![1, 2048]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x5632, .f32⟩
  | .hbm, ⟨3, _⟩ => ⟨S1x2048x5632, .f32⟩
  | .hbm, ⟨4, _⟩ => ⟨S1x2048, .f32⟩
  | .hbm, ⟨5, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DenseUpReferenceIdeal.lean ====
abbrev S8192x2048 : Shape := ⟨2, ![8192, 2048]⟩
abbrev S2048 : Shape := ⟨1, ![2048]⟩
abbrev S1x2048x5632 : Shape := ⟨3, ![1, 2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x5632 : Shape := ⟨2, ![2048, 5632]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x5632, .f32⟩
  | .hbm, ⟨3, _⟩ => ⟨S1x2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S2048x5632, .f32⟩
  | .hbm, ⟨32, _⟩ => ⟨S8192x5632, .f32⟩
  | .hbm, ⟨33, _⟩ => ⟨S8192x5632, .f32⟩
  | .hbm, ⟨34, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== DenseDown.lean ====
abbrev S8192x5632 : Shape := ⟨2, ![8192, 5632]⟩
abbrev S1x5632x2048 : Shape := ⟨3, ![1, 5632, 2048]⟩
abbrev S8192x2048 : Shape := ⟨2, ![8192, 2048]⟩
abbrev S1024x5632 : Shape := ⟨2, ![1024, 5632]⟩
abbrev S1x5632x256 : Shape := ⟨3, ![1, 5632, 256]⟩
abbrev S1024x256 : Shape := ⟨2, ![1024, 256]⟩
abbrev S5632x256 : Shape := ⟨2, ![5632, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x256, .f32⟩
  | .local _ .vmem, ⟨3, _⟩ => ⟨S1x5632x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseDownReferenceIdeal.lean ====
abbrev S8192x5632 : Shape := ⟨2, ![8192, 5632]⟩
abbrev S1x5632x2048 : Shape := ⟨3, ![1, 5632, 2048]⟩
abbrev S8192x2048 : Shape := ⟨2, ![8192, 2048]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1x5632x2048, .f32⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MoeUp.lean ====
abbrev S40 : Shape := ⟨1, ![40]⟩
abbrev S1 : Shape := ⟨1, ![1]⟩
abbrev S20480x2048 : Shape := ⟨2, ![20480, 2048]⟩
abbrev S1x8x2048x7168 : Shape := ⟨4, ![1, 8, 2048, 7168]⟩
abbrev S20480x7168 : Shape := ⟨2, ![20480, 7168]⟩
abbrev S512x2048 : Shape := ⟨2, ![512, 2048]⟩
abbrev S512x1024 : Shape := ⟨2, ![512, 1024]⟩
abbrev S2x2x2048x1024 : Shape := ⟨4, ![2, 2, 2048, 1024]⟩
abbrev S2x2 : Shape := ⟨2, ![2, 2]⟩
abbrev S1x1 : Shape := ⟨2, ![1, 1]⟩
abbrev S_ : Shape := ⟨0, ![]⟩
abbrev S1x1x2048x1024 : Shape := ⟨4, ![1, 1, 2048, 1024]⟩
abbrev S2048x1024 : Shape := ⟨2, ![2048, 1024]⟩
abbrev S128x2048 : Shape := ⟨2, ![128, 2048]⟩
abbrev S128x1024 : Shape := ⟨2, ![128, 1024]⟩
abbrev S384x1024 : Shape := ⟨2, ![384, 1024]⟩
abbrev S256x2048 : Shape := ⟨2, ![256, 2048]⟩
abbrev S256x1024 : Shape := ⟨2, ![256, 1024]⟩
abbrev S384x2048 : Shape := ⟨2, ![384, 2048]⟩

abbrev nBuf : Space → Nat
  | .hbm => 4
  | .vmem => 5
  | .smem => 7
  | _ => 0

abbrev bufTy : (tb : Table) → Fin (tcTables nBuf tb) → BufTy
  | .hbm, ⟨0, _⟩ => ⟨S20480x2048, .bf16⟩
  | .hbm, ⟨1, _⟩ => ⟨S1x8x2048x7168, .f32⟩
  | .hbm, ⟨2, _⟩ => ⟨S1x8x2048x7168, .f32⟩
  | .hbm, ⟨3, _⟩ => ⟨S20480x7168, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2x2x2048x1024, .f32⟩
  | .local _ .smem, ⟨0, _⟩ => ⟨S40, .i32⟩
  | .local _ .smem, ⟨1, _⟩ => ⟨S1, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S40, .i32⟩
  | .local _ .smem, ⟨6, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg7 : Ref sig .tc := ⟨.hbm, 0, rfl⟩
abbrev main_arg8 : Ref sig .tc := ⟨.hbm, 1, rfl⟩
abbrev main_arg9 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![7, 40], ![false, false]⟩

abbrev pre0 : Pipeline.Prefetch sig := ⟨7, ![main_arg0.idx, main_arg1.idx, main_arg2.idx, main_arg3.idx, main_arg4.idx, main_arg5.idx, main_arg6.idx], fun | 0 => main_arg0.names | 1 => main_arg1.names | 2 => main_arg2.names | 3 => main_arg3.names | 4 => main_arg4.names | 5 => main_arg5.names | 6 => main_arg6.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v65 : Index := Scalar.indexCast arg1
  ![v65.toNat]
def k0_mult1 (i : grid0.Coords) : BitVec 32 :=
  let arg0 : BitVec 32 := BitVec.ofNat 32 (i 0).val
  let c1024_i32_28 : BitVec 32 := 1024#32
  let v67 : BitVec 32 := Scalar.muli arg0 c1024_i32_28
  v67
def k0_off3 (i : grid0.Coords) (v1 : BitVec 32) (v2 : BitVec 32) : Fin 2 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_31 : BitVec 32 := 0#32
  ![v5.toNat, 0]
def k0_cond1 (v7 : BitVec 32) : BitVec 1 :=
  let c1_i32 : BitVec 32 := 1#32
  let v8 : BitVec 1 := Scalar.cmpi .eq v7 c1_i32
  let v9 : BitVec 32 := Scalar.extui v8
  let c0_i32 : BitVec 32 := 0#32
  let v10 : BitVec 1 := Scalar.cmpi .ne v9 c0_i32
  v10

def k0_cond2 (i : grid0.Coords) (v1 : BitVec 32) (v2 : BitVec 32) : BitVec 1 :=
  let arg0 : BitVec 32 := BitVec.ofNat 32 (i 0).val
  let v3 : BitVec 32 := Scalar.muli arg0 v2
  let v4 : BitVec 32 := Scalar.addi v3 v1
  let c0_i32_10 : BitVec 32 := 0#32
  let v36 : BitVec 1 := Scalar.cmpi .eq v4 c0_i32_10
  let v37 : BitVec 32 := Scalar.extui v36
  let c0_i32_11 : BitVec 32 := 0#32
  let v38 : BitVec 1 := Scalar.cmpi .ne v37 c0_i32_11
  v38

def k0_off4 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_30 : BitVec 32 := 0#32
  let c0_i32_32 : BitVec 32 := 0#32
  let c0_i32_33 : BitVec 32 := 0#32
  ![v5.toNat, 0, 0, 0]
def k0_off5 (i : grid0.Coords) (v66 : BitVec 32) : Fin 4 → Nat :=
  let c0_i32_29 : BitVec 32 := 0#32
  let c0_i32_34 : BitVec 32 := 0#32
  let arg0 : BitVec 32 := BitVec.ofNat 32 (i 0).val
  let c1024_i32_28 : BitVec 32 := 1024#32
  let v67 : BitVec 32 := Scalar.muli arg0 c1024_i32_28
  let v68 : BitVec 32 := v67
  ![0, v66.toNat, 0, v68.toNat]

def k0_chk2 (i : grid0.Coords) (v1 : BitVec 32) (v2 : BitVec 32) (v7 : BitVec 32) (v66 : BitVec 32) : Prop :=
  (∀ (k0_h1 : k0_cond1 v7 = 1#1), ∀ (k0_h2 : k0_cond2 i v1 v2 = 1#1), ∀ a, (k0_off5 i v66) a + S1x1x2048x1024.size a ≤ S1x8x2048x7168.size a)
theorem k0_off5_inb : ∀ (i : grid0.Coords) (v1 : BitVec 32) (v2 : BitVec 32) (v7 : BitVec 32) (v66 : BitVec 32) (k0_hw2 : k0_chk2 i v1 v2 v7 v66), ∀ (k0_h1 : k0_cond1 v7 = 1#1), ∀ (k0_h2 : k0_cond2 i v1 v2 = 1#1), ∀ a, (k0_off5 i v66) a + S1x1x2048x1024.size a ≤ S1x8x2048x7168.size a := fun i v1 v2 v7 v66 k0_hw2 k0_h1 k0_h2 => k0_hw2 k0_h1 k0_h2

def k0_off6 (i : grid0.Coords) (v1 : BitVec 32) (v2 : BitVec 32) : Fin 2 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c1_i32_37 : BitVec 32 := 1#32
  ![v5.toNat, 1]
def k0_off7 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c1_i32_36 : BitVec 32 := 1#32
  let c0_i32_38 : BitVec 32 := 0#32
  let c0_i32_39 : BitVec 32 := 0#32
  ![v5.toNat, 1, 0, 0]
def k0_off8 (i : grid0.Coords) : Fin 1 → Nat :=
  let arg1 : BitVec 32 := BitVec.ofNat 32 (i 1).val
  let v39 : Index := Scalar.indexCast arg1
  ![v39.toNat]
def k0_mult2 (i : grid0.Coords) : BitVec 32 :=
  let arg0 : BitVec 32 := BitVec.ofNat 32 (i 0).val
  let c1024_i32 : BitVec 32 := 1024#32
  let v41 : BitVec 32 := Scalar.muli arg0 c1024_i32
  v41
def k0_off9 (i : grid0.Coords) (v1 : BitVec 32) (v2 : BitVec 32) : Fin 2 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_14 : BitVec 32 := 0#32
  ![v5.toNat, 0]
def k0_off10 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_13 : BitVec 32 := 0#32
  let c0_i32_15 : BitVec 32 := 0#32
  let c0_i32_16 : BitVec 32 := 0#32
  ![v5.toNat, 0, 0, 0]
def k0_off11 (i : grid0.Coords) (v40 : BitVec 32) : Fin 4 → Nat :=
  let c0_i32_12 : BitVec 32 := 0#32
  let c0_i32_17 : BitVec 32 := 0#32
  let arg0 : BitVec 32 := BitVec.ofNat 32 (i 0).val
  let c1024_i32 : BitVec 32 := 1024#32
  let v41 : BitVec 32 := Scalar.muli arg0 c1024_i32
  let v42 : BitVec 32 := v41
  ![0, v40.toNat, 0, v42.toNat]

def k0_chk3 (i : grid0.Coords) (v7 : BitVec 32) (v40 : BitVec 32) : Prop :=
  (∀ (k0_h1 : k0_cond1 v7 = 1#1), ∀ a, (k0_off11 i v40) a + S1x1x2048x1024.size a ≤ S1x8x2048x7168.size a)
theorem k0_off11_inb : ∀ (i : grid0.Coords) (v7 : BitVec 32) (v40 : BitVec 32) (k0_hw3 : k0_chk3 i v7 v40), ∀ (k0_h1 : k0_cond1 v7 = 1#1), ∀ a, (k0_off11 i v40) a + S1x1x2048x1024.size a ≤ S1x8x2048x7168.size a := fun i v7 v40 k0_hw3 k0_h1 => k0_hw3 k0_h1

def k0_off12 (i : grid0.Coords) (v1 : BitVec 32) (v2 : BitVec 32) : Fin 2 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c1_i32_20 : BitVec 32 := 1#32
  ![v5.toNat, 1]
def k0_off13 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c1_i32_19 : BitVec 32 := 1#32
  let c0_i32_21 : BitVec 32 := 0#32
  let c0_i32_22 : BitVec 32 := 0#32
  ![v5.toNat, 1, 0, 0]
def k0_off14 (i : grid0.Coords) : Fin 1 → Nat :=
  let arg1 : BitVec 32 := BitVec.ofNat 32 (i 1).val
  let v65 : Index := Scalar.indexCast arg1
  ![v65.toNat]
def k0_mult3 (i : grid0.Coords) : BitVec 32 :=
  let arg0 : BitVec 32 := BitVec.ofNat 32 (i 0).val
  let c1024_i32_29 : BitVec 32 := 1024#32
  let v68 : BitVec 32 := Scalar.muli arg0 c1024_i32_29
  v68
def k0_off15 (i : grid0.Coords) (v1 : BitVec 32) (v2 : BitVec 32) : Fin 2 → Nat :=
  let c1_i32_28 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_28 v5
  let c0_i32_32 : BitVec 32 := 0#32
  ![v67.toNat, 0]
def k0_cond3 (v1 : BitVec 32) (v2 : BitVec 32) : BitVec 1 :=
  let c1_i32_24 : BitVec 32 := 1#32
  let v55 : BitVec 32 := Scalar.addi v1 c1_i32_24
  let v56 : BitVec 1 := Scalar.cmpi .slt v55 v2
  let v57 : BitVec 32 := Scalar.extui v56
  let c0_i32_25 : BitVec 32 := 0#32
  let v58 : BitVec 1 := Scalar.cmpi .ne v57 c0_i32_25
  v58

def k0_off16 (i : grid0.Coords) (v1 : BitVec 32) (v2 : BitVec 32) : Fin 4 → Nat :=
  let c1_i32_28 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_28 v5
  let c0_i32_31 : BitVec 32 := 0#32
  let c0_i32_33 : BitVec 32 := 0#32
  let c0_i32_34 : BitVec 32 := 0#32
  ![v67.toNat, 0, 0, 0]
def k0_off17 (i : grid0.Coords) (v66 : BitVec 32) : Fin 4 → Nat :=
  let c0_i32_30 : BitVec 32 := 0#32
  let c0_i32_35 : BitVec 32 := 0#32
  let arg0 : BitVec 32 := BitVec.ofNat 32 (i 0).val
  let c1024_i32_29 : BitVec 32 := 1024#32
  let v68 : BitVec 32 := Scalar.muli arg0 c1024_i32_29
  let v69 : BitVec 32 := v68
  ![0, v66.toNat, 0, v69.toNat]

def k0_chk4 (i : grid0.Coords) (v1 : BitVec 32) (v2 : BitVec 32) (v7 : BitVec 32) (v66 : BitVec 32) : Prop :=
  (∀ (k0_h1 : k0_cond1 v7 = 1#1), ∀ (k0_h3 : k0_cond3 v1 v2 = 1#1), ∀ a, (k0_off17 i v66) a + S1x1x2048x1024.size a ≤ S1x8x2048x7168.size a)
theorem k0_off17_inb : ∀ (i : grid0.Coords) (v1 : BitVec 32) (v2 : BitVec 32) (v7 : BitVec 32) (v66 : BitVec 32) (k0_hw4 : k0_chk4 i v1 v2 v7 v66), ∀ (k0_h1 : k0_cond1 v7 = 1#1), ∀ (k0_h3 : k0_cond3 v1 v2 = 1#1), ∀ a, (k0_off17 i v66) a + S1x1x2048x1024.size a ≤ S1x8x2048x7168.size a := fun i v1 v2 v7 v66 k0_hw4 k0_h1 k0_h3 => k0_hw4 k0_h1 k0_h3

def k0_off18 (i : grid0.Coords) (v1 : BitVec 32) (v2 : BitVec 32) : Fin 2 → Nat :=
  let c1_i32_28 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_28 v5
  let c1_i32_38 : BitVec 32 := 1#32
  ![v67.toNat, 1]
def k0_off19 (i : grid0.Coords) (v1 : BitVec 32) (v2 : BitVec 32) : Fin 4 → Nat :=
  let c1_i32_28 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_28 v5
  let c1_i32_37 : BitVec 32 := 1#32
  let c0_i32_39 : BitVec 32 := 0#32
  let c0_i32_40 : BitVec 32 := 0#32
  ![v67.toNat, 1, 0, 0]
def k0_mult4 (i : grid0.Coords) : BitVec 32 :=
  let arg0 : BitVec 32 := BitVec.ofNat 32 (i 0).val
  let c1_i32_29 : BitVec 32 := 1#32
  let v66 : BitVec 32 := Scalar.addi arg0 c1_i32_29
  let c1024_i32_31 : BitVec 32 := 1024#32
  let v68 : BitVec 32 := Scalar.muli v66 c1024_i32_31
  v68
def k0_off20 (i : grid0.Coords) (v1 : BitVec 32) (v2 : BitVec 32) : Fin 2 → Nat :=
  let c1_i32_30 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_30 v5
  let c0_i32_34 : BitVec 32 := 0#32
  ![v67.toNat, 0]
def k0_cond4 (i : grid0.Coords) (v1 : BitVec 32) (v2 : BitVec 32) : BitVec 1 :=
  let c1_i32_24 : BitVec 32 := 1#32
  let v55 : BitVec 32 := Scalar.addi v1 c1_i32_24
  let v56 : BitVec 1 := Scalar.cmpi .slt v55 v2
  let v_true : BitVec 1 := 1#1
  let v59 : BitVec 1 := Scalar.xori v56 v_true
  let arg0 : BitVec 32 := BitVec.ofNat 32 (i 0).val
  let c1_i32_26 : BitVec 32 := 1#32
  let v60 : BitVec 32 := Scalar.addi arg0 c1_i32_26
  let c7_i32 : BitVec 32 := 7#32
  let v61 : BitVec 1 := Scalar.cmpi .slt v60 c7_i32
  let v62 : BitVec 1 := Scalar.andi v59 v61
  let v63 : BitVec 32 := Scalar.extui v62
  let c0_i32_27 : BitVec 32 := 0#32
  let v64 : BitVec 1 := Scalar.cmpi .ne v63 c0_i32_27
  v64

def k0_off21 (i : grid0.Coords) (v1 : BitVec 32) (v2 : BitVec 32) : Fin 4 → Nat :=
  let c1_i32_30 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_30 v5
  let c0_i32_33 : BitVec 32 := 0#32
  let c0_i32_35 : BitVec 32 := 0#32
  let c0_i32_36 : BitVec 32 := 0#32
  ![v67.toNat, 0, 0, 0]
def k0_off22 (i : grid0.Coords) (v65 : BitVec 32) : Fin 4 → Nat :=
  let c0_i32_32 : BitVec 32 := 0#32
  let c0_i32_37 : BitVec 32 := 0#32
  let arg0 : BitVec 32 := BitVec.ofNat 32 (i 0).val
  let c1_i32_29 : BitVec 32 := 1#32
  let v66 : BitVec 32 := Scalar.addi arg0 c1_i32_29
  let c1024_i32_31 : BitVec 32 := 1024#32
  let v68 : BitVec 32 := Scalar.muli v66 c1024_i32_31
  let v69 : BitVec 32 := v68
  ![0, v65.toNat, 0, v69.toNat]

def k0_chk5 (i : grid0.Coords) (v1 : BitVec 32) (v2 : BitVec 32) (v7 : BitVec 32) (v65 : BitVec 32) : Prop :=
  (∀ (k0_h1 : k0_cond1 v7 = 1#1), ∀ (k0_h4 : k0_cond4 i v1 v2 = 1#1), ∀ a, (k0_off22 i v65) a + S1x1x2048x1024.size a ≤ S1x8x2048x7168.size a)
theorem k0_off22_inb : ∀ (i : grid0.Coords) (v1 : BitVec 32) (v2 : BitVec 32) (v7 : BitVec 32) (v65 : BitVec 32) (k0_hw5 : k0_chk5 i v1 v2 v7 v65), ∀ (k0_h1 : k0_cond1 v7 = 1#1), ∀ (k0_h4 : k0_cond4 i v1 v2 = 1#1), ∀ a, (k0_off22 i v65) a + S1x1x2048x1024.size a ≤ S1x8x2048x7168.size a := fun i v1 v2 v7 v65 k0_hw5 k0_h1 k0_h4 => k0_hw5 k0_h1 k0_h4

def k0_off23 (i : grid0.Coords) (v1 : BitVec 32) (v2 : BitVec 32) : Fin 2 → Nat :=
  let c1_i32_30 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_30 v5
  let c1_i32_40 : BitVec 32 := 1#32
  ![v67.toNat, 1]
def k0_off24 (i : grid0.Coords) (v1 : BitVec 32) (v2 : BitVec 32) : Fin 4 → Nat :=
  let c1_i32_30 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v67 : BitVec 32 := Scalar.subi c1_i32_30 v5
  let c1_i32_39 : BitVec 32 := 1#32
  let c0_i32_41 : BitVec 32 := 0#32
  let c0_i32_42 : BitVec 32 := 0#32
  ![v67.toNat, 1, 0, 0]

def k0_chk1 (i : grid0.Coords) (v1 : BitVec 32) (v2 : BitVec 32) (v7 : BitVec 32) : Prop :=
  (∀ (k0_h1 : k0_cond1 v7 = 1#1), ∀ (k0_h2 : k0_cond2 i v1 v2 = 1#1), ∀ a, (k0_off3 i v1 v2) a + S1x1.size a ≤ S2x2.size a) ∧
  (∀ (k0_h1 : k0_cond1 v7 = 1#1), ∀ (k0_h2 : k0_cond2 i v1 v2 = 1#1), ∀ a, (k0_off4 i v1 v2) a + S1x1x2048x1024.size a ≤ S2x2x2048x1024.size a) ∧
  (∀ (k0_h1 : k0_cond1 v7 = 1#1), ∀ (k0_h2 : k0_cond2 i v1 v2 = 1#1), ∀ a, (k0_off6 i v1 v2) a + S1x1.size a ≤ S2x2.size a) ∧
  (∀ (k0_h1 : k0_cond1 v7 = 1#1), ∀ (k0_h2 : k0_cond2 i v1 v2 = 1#1), ∀ a, (k0_off7 i v1 v2) a + S1x1x2048x1024.size a ≤ S2x2x2048x1024.size a) ∧
  (∀ (k0_h1 : k0_cond1 v7 = 1#1), ∀ a, (k0_off9 i v1 v2) a + S1x1.size a ≤ S2x2.size a) ∧
  (∀ (k0_h1 : k0_cond1 v7 = 1#1), ∀ a, (k0_off10 i v1 v2) a + S1x1x2048x1024.size a ≤ S2x2x2048x1024.size a) ∧
  (∀ (k0_h1 : k0_cond1 v7 = 1#1), ∀ a, (k0_off12 i v1 v2) a + S1x1.size a ≤ S2x2.size a) ∧
  (∀ (k0_h1 : k0_cond1 v7 = 1#1), ∀ a, (k0_off13 i v1 v2) a + S1x1x2048x1024.size a ≤ S2x2x2048x1024.size a) ∧
  (∀ (k0_h1 : k0_cond1 v7 = 1#1), ∀ (k0_h3 : k0_cond3 v1 v2 = 1#1), ∀ a, (k0_off15 i v1 v2) a + S1x1.size a ≤ S2x2.size a) ∧
  (∀ (k0_h1 : k0_cond1 v7 = 1#1), ∀ (k0_h3 : k0_cond3 v1 v2 = 1#1), ∀ a, (k0_off16 i v1 v2) a + S1x1x2048x1024.size a ≤ S2x2x2048x1024.size a) ∧
  (∀ (k0_h1 : k0_cond1 v7 = 1#1), ∀ (k0_h3 : k0_cond3 v1 v2 = 1#1), ∀ a, (k0_off18 i v1 v2) a + S1x1.size a ≤ S2x2.size a) ∧
  (∀ (k0_h1 : k0_cond1 v7 = 1#1), ∀ (k0_h3 : k0_cond3 v1 v2 = 1#1), ∀ a, (k0_off19 i v1 v2) a + S1x1x2048x1024.size a ≤ S2x2x2048x1024.size a) ∧
  (∀ (k0_h1 : k0_cond1 v7 = 1#1), ∀ (k0_h4 : k0_cond4 i v1 v2 = 1#1), ∀ a, (k0_off20 i v1 v2) a + S1x1.size a ≤ S2x2.size a) ∧
  (∀ (k0_h1 : k0_cond1 v7 = 1#1), ∀ (k0_h4 : k0_cond4 i v1 v2 = 1#1), ∀ a, (k0_off21 i v1 v2) a + S1x1x2048x1024.size a ≤ S2x2x2048x1024.size a) ∧
  (∀ (k0_h1 : k0_cond1 v7 = 1#1), ∀ (k0_h4 : k0_cond4 i v1 v2 = 1#1), ∀ a, (k0_off23 i v1 v2) a + S1x1.size a ≤ S2x2.size a) ∧
  (∀ (k0_h1 : k0_cond1 v7 = 1#1), ∀ (k0_h4 : k0_cond4 i v1 v2 = 1#1), ∀ a, (k0_off24 i v1 v2) a + S1x1x2048x1024.size a ≤ S2x2x2048x1024.size a)
theorem k0_off3_inb : ∀ (i : grid0.Coords) (v1 : BitVec 32) (v2 : BitVec 32) (v7 : BitVec 32) (k0_hw1 : k0_chk1 i v1 v2 v7), ∀ (k0_h1 : k0_cond1 v7 = 1#1), ∀ (k0_h2 : k0_cond2 i v1 v2 = 1#1), ∀ a, (k0_off3 i v1 v2) a + S1x1.size a ≤ S2x2.size a := fun i v1 v2 v7 k0_hw1 k0_h1 k0_h2 => k0_hw1.1 k0_h1 k0_h2
theorem k0_off4_inb : ∀ (i : grid0.Coords) (v1 : BitVec 32) (v2 : BitVec 32) (v7 : BitVec 32) (k0_hw1 : k0_chk1 i v1 v2 v7), ∀ (k0_h1 : k0_cond1 v7 = 1#1), ∀ (k0_h2 : k0_cond2 i v1 v2 = 1#1), ∀ a, (k0_off4 i v1 v2) a + S1x1x2048x1024.size a ≤ S2x2x2048x1024.size a := fun i v1 v2 v7 k0_hw1 k0_h1 k0_h2 => k0_hw1.2.1 k0_h1 k0_h2
theorem k0_off6_inb : ∀ (i : grid0.Coords) (v1 : BitVec 32) (v2 : BitVec 32) (v7 : BitVec 32) (k0_hw1 : k0_chk1 i v1 v2 v7), ∀ (k0_h1 : k0_cond1 v7 = 1#1), ∀ (k0_h2 : k0_cond2 i v1 v2 = 1#1), ∀ a, (k0_off6 i v1 v2) a + S1x1.size a ≤ S2x2.size a := fun i v1 v2 v7 k0_hw1 k0_h1 k0_h2 => k0_hw1.2.2.1 k0_h1 k0_h2
theorem k0_off7_inb : ∀ (i : grid0.Coords) (v1 : BitVec 32) (v2 : BitVec 32) (v7 : BitVec 32) (k0_hw1 : k0_chk1 i v1 v2 v7), ∀ (k0_h1 : k0_cond1 v7 = 1#1), ∀ (k0_h2 : k0_cond2 i v1 v2 = 1#1), ∀ a, (k0_off7 i v1 v2) a + S1x1x2048x1024.size a ≤ S2x2x2048x1024.size a := fun i v1 v2 v7 k0_hw1 k0_h1 k0_h2 => k0_hw1.2.2.2.1 k0_h1 k0_h2
theorem k0_off9_inb : ∀ (i : grid0.Coords) (v1 : BitVec 32) (v2 : BitVec 32) (v7 : BitVec 32) (k0_hw1 : k0_chk1 i v1 v2 v7), ∀ (k0_h1 : k0_cond1 v7 = 1#1), ∀ a, (k0_off9 i v1 v2) a + S1x1.size a ≤ S2x2.size a := fun i v1 v2 v7 k0_hw1 k0_h1 => k0_hw1.2.2.2.2.1 k0_h1
theorem k0_off10_inb : ∀ (i : grid0.Coords) (v1 : BitVec 32) (v2 : BitVec 32) (v7 : BitVec 32) (k0_hw1 : k0_chk1 i v1 v2 v7), ∀ (k0_h1 : k0_cond1 v7 = 1#1), ∀ a, (k0_off10 i v1 v2) a + S1x1x2048x1024.size a ≤ S2x2x2048x1024.size a := fun i v1 v2 v7 k0_hw1 k0_h1 => k0_hw1.2.2.2.2.2.1 k0_h1
theorem k0_off12_inb : ∀ (i : grid0.Coords) (v1 : BitVec 32) (v2 : BitVec 32) (v7 : BitVec 32) (k0_hw1 : k0_chk1 i v1 v2 v7), ∀ (k0_h1 : k0_cond1 v7 = 1#1), ∀ a, (k0_off12 i v1 v2) a + S1x1.size a ≤ S2x2.size a := fun i v1 v2 v7 k0_hw1 k0_h1 => k0_hw1.2.2.2.2.2.2.1 k0_h1
theorem k0_off13_inb : ∀ (i : grid0.Coords) (v1 : BitVec 32) (v2 : BitVec 32) (v7 : BitVec 32) (k0_hw1 : k0_chk1 i v1 v2 v7), ∀ (k0_h1 : k0_cond1 v7 = 1#1), ∀ a, (k0_off13 i v1 v2) a + S1x1x2048x1024.size a ≤ S2x2x2048x1024.size a := fun i v1 v2 v7 k0_hw1 k0_h1 => k0_hw1.2.2.2.2.2.2.2.1 k0_h1
theorem k0_off15_inb : ∀ (i : grid0.Coords) (v1 : BitVec 32) (v2 : BitVec 32) (v7 : BitVec 32) (k0_hw1 : k0_chk1 i v1 v2 v7), ∀ (k0_h1 : k0_cond1 v7 = 1#1), ∀ (k0_h3 : k0_cond3 v1 v2 = 1#1), ∀ a, (k0_off15 i v1 v2) a + S1x1.size a ≤ S2x2.size a := fun i v1 v2 v7 k0_hw1 k0_h1 k0_h3 => k0_hw1.2.2.2.2.2.2.2.2.1 k0_h1 k0_h3
theorem k0_off16_inb : ∀ (i : grid0.Coords) (v1 : BitVec 32) (v2 : BitVec 32) (v7 : BitVec 32) (k0_hw1 : k0_chk1 i v1 v2 v7), ∀ (k0_h1 : k0_cond1 v7 = 1#1), ∀ (k0_h3 : k0_cond3 v1 v2 = 1#1), ∀ a, (k0_off16 i v1 v2) a + S1x1x2048x1024.size a ≤ S2x2x2048x1024.size a := fun i v1 v2 v7 k0_hw1 k0_h1 k0_h3 => k0_hw1.2.2.2.2.2.2.2.2.2.1 k0_h1 k0_h3
theorem k0_off18_inb : ∀ (i : grid0.Coords) (v1 : BitVec 32) (v2 : BitVec 32) (v7 : BitVec 32) (k0_hw1 : k0_chk1 i v1 v2 v7), ∀ (k0_h1 : k0_cond1 v7 = 1#1), ∀ (k0_h3 : k0_cond3 v1 v2 = 1#1), ∀ a, (k0_off18 i v1 v2) a + S1x1.size a ≤ S2x2.size a := fun i v1 v2 v7 k0_hw1 k0_h1 k0_h3 => k0_hw1.2.2.2.2.2.2.2.2.2.2.1 k0_h1 k0_h3
theorem k0_off19_inb : ∀ (i : grid0.Coords) (v1 : BitVec 32) (v2 : BitVec 32) (v7 : BitVec 32) (k0_hw1 : k0_chk1 i v1 v2 v7), ∀ (k0_h1 : k0_cond1 v7 = 1#1), ∀ (k0_h3 : k0_cond3 v1 v2 = 1#1), ∀ a, (k0_off19 i v1 v2) a + S1x1x2048x1024.size a ≤ S2x2x2048x1024.size a := fun i v1 v2 v7 k0_hw1 k0_h1 k0_h3 => k0_hw1.2.2.2.2.2.2.2.2.2.2.2.1 k0_h1 k0_h3
theorem k0_off20_inb : ∀ (i : grid0.Coords) (v1 : BitVec 32) (v2 : BitVec 32) (v7 : BitVec 32) (k0_hw1 : k0_chk1 i v1 v2 v7), ∀ (k0_h1 : k0_cond1 v7 = 1#1), ∀ (k0_h4 : k0_cond4 i v1 v2 = 1#1), ∀ a, (k0_off20 i v1 v2) a + S1x1.size a ≤ S2x2.size a := fun i v1 v2 v7 k0_hw1 k0_h1 k0_h4 => k0_hw1.2.2.2.2.2.2.2.2.2.2.2.2.1 k0_h1 k0_h4
theorem k0_off21_inb : ∀ (i : grid0.Coords) (v1 : BitVec 32) (v2 : BitVec 32) (v7 : BitVec 32) (k0_hw1 : k0_chk1 i v1 v2 v7), ∀ (k0_h1 : k0_cond1 v7 = 1#1), ∀ (k0_h4 : k0_cond4 i v1 v2 = 1#1), ∀ a, (k0_off21 i v1 v2) a + S1x1x2048x1024.size a ≤ S2x2x2048x1024.size a := fun i v1 v2 v7 k0_hw1 k0_h1 k0_h4 => k0_hw1.2.2.2.2.2.2.2.2.2.2.2.2.2.1 k0_h1 k0_h4
theorem k0_off23_inb : ∀ (i : grid0.Coords) (v1 : BitVec 32) (v2 : BitVec 32) (v7 : BitVec 32) (k0_hw1 : k0_chk1 i v1 v2 v7), ∀ (k0_h1 : k0_cond1 v7 = 1#1), ∀ (k0_h4 : k0_cond4 i v1 v2 = 1#1), ∀ a, (k0_off23 i v1 v2) a + S1x1.size a ≤ S2x2.size a := fun i v1 v2 v7 k0_hw1 k0_h1 k0_h4 => k0_hw1.2.2.2.2.2.2.2.2.2.2.2.2.2.2.1 k0_h1 k0_h4
theorem k0_off24_inb : ∀ (i : grid0.Coords) (v1 : BitVec 32) (v2 : BitVec 32) (v7 : BitVec 32) (k0_hw1 : k0_chk1 i v1 v2 v7), ∀ (k0_h1 : k0_cond1 v7 = 1#1), ∀ (k0_h4 : k0_cond4 i v1 v2 = 1#1), ∀ a, (k0_off24 i v1 v2) a + S1x1x2048x1024.size a ≤ S2x2x2048x1024.size a := fun i v1 v2 v7 k0_hw1 k0_h1 k0_h4 => k0_hw1.2.2.2.2.2.2.2.2.2.2.2.2.2.2.2 k0_h1 k0_h4

def k0_off25 (i : grid0.Coords) : Fin 1 → Nat :=
  let arg1 : BitVec 32 := BitVec.ofNat 32 (i 1).val
  let v11 : Index := Scalar.indexCast arg1
  ![v11.toNat]
def k0_off26 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond5 (v12 : BitVec 32) : BitVec 1 :=
  let c0_i32_0 : BitVec 32 := 0#32
  let v13 : BitVec 1 := Scalar.cmpi .sgt v12 c0_i32_0
  let c128_i32 : BitVec 32 := 128#32
  let v14 : BitVec 1 := Scalar.cmpi .sle v12 c128_i32
  let v15 : BitVec 1 := Scalar.andi v13 v14
  let v16 : BitVec 32 := Scalar.extui v15
  let c0_i32_1 : BitVec 32 := 0#32
  let v17 : BitVec 1 := Scalar.cmpi .ne v16 c0_i32_1
  v17

def k0_off27 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v42 : Index := Scalar.indexCast v5
  let c1 : Index := 1#32
  let c0_15 : Index := 0#32
  let c0_16 : Index := 0#32
  ![v42.toNat, 1, 0, 0]
def k0_off28 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond6 (v12 : BitVec 32) : BitVec 1 :=
  let c128_i32_2 : BitVec 32 := 128#32
  let v18 : BitVec 1 := Scalar.cmpi .sgt v12 c128_i32_2
  let c256_i32 : BitVec 32 := 256#32
  let v19 : BitVec 1 := Scalar.cmpi .sle v12 c256_i32
  let v20 : BitVec 1 := Scalar.andi v18 v19
  let v21 : BitVec 32 := Scalar.extui v20
  let c0_i32_3 : BitVec 32 := 0#32
  let v22 : BitVec 1 := Scalar.cmpi .ne v21 c0_i32_3
  v22

def k0_off29 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v42 : Index := Scalar.indexCast v5
  let c1 : Index := 1#32
  let c0_15 : Index := 0#32
  let c0_16 : Index := 0#32
  ![v42.toNat, 1, 0, 0]
def k0_off30 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond7 (v12 : BitVec 32) : BitVec 1 :=
  let c256_i32_4 : BitVec 32 := 256#32
  let v23 : BitVec 1 := Scalar.cmpi .sgt v12 c256_i32_4
  let c384_i32 : BitVec 32 := 384#32
  let v24 : BitVec 1 := Scalar.cmpi .sle v12 c384_i32
  let v25 : BitVec 1 := Scalar.andi v23 v24
  let v26 : BitVec 32 := Scalar.extui v25
  let c0_i32_5 : BitVec 32 := 0#32
  let v27 : BitVec 1 := Scalar.cmpi .ne v26 c0_i32_5
  v27

def k0_off31 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v42 : Index := Scalar.indexCast v5
  let c1 : Index := 1#32
  let c0_15 : Index := 0#32
  let c0_16 : Index := 0#32
  ![v42.toNat, 1, 0, 0]
def k0_off32 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond8 (v12 : BitVec 32) : BitVec 1 :=
  let c384_i32_6 : BitVec 32 := 384#32
  let v28 : BitVec 1 := Scalar.cmpi .sgt v12 c384_i32_6
  let c512_i32 : BitVec 32 := 512#32
  let v29 : BitVec 1 := Scalar.cmpi .sle v12 c512_i32
  let v30 : BitVec 1 := Scalar.andi v28 v29
  let v31 : BitVec 32 := Scalar.extui v30
  let c0_i32_7 : BitVec 32 := 0#32
  let v32 : BitVec 1 := Scalar.cmpi .ne v31 c0_i32_7
  v32

def k0_off33 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v42 : Index := Scalar.indexCast v5
  let c1 : Index := 1#32
  let c0_15 : Index := 0#32
  let c0_16 : Index := 0#32
  ![v42.toNat, 1, 0, 0]

def k0_chk6 (i : grid0.Coords) (v1 : BitVec 32) (v2 : BitVec 32) (v12 : BitVec 32) : Prop :=
  (∀ (k0_h5 : k0_cond5 v12 = 1#1), ∀ a, (k0_off26 i v1 v2) a + S1x1x2048x1024.size a ≤ S2x2x2048x1024.size a) ∧
  (∀ (k0_h5 : k0_cond5 v12 = 1#1), ∀ a, (k0_off27 i v1 v2) a + S1x1x2048x1024.size a ≤ S2x2x2048x1024.size a) ∧
  (∀ (k0_h6 : k0_cond6 v12 = 1#1), ∀ a, (k0_off28 i v1 v2) a + S1x1x2048x1024.size a ≤ S2x2x2048x1024.size a) ∧
  (∀ (k0_h6 : k0_cond6 v12 = 1#1), ∀ a, (k0_off29 i v1 v2) a + S1x1x2048x1024.size a ≤ S2x2x2048x1024.size a) ∧
  (∀ (k0_h7 : k0_cond7 v12 = 1#1), ∀ a, (k0_off30 i v1 v2) a + S1x1x2048x1024.size a ≤ S2x2x2048x1024.size a) ∧
  (∀ (k0_h7 : k0_cond7 v12 = 1#1), ∀ a, (k0_off31 i v1 v2) a + S1x1x2048x1024.size a ≤ S2x2x2048x1024.size a) ∧
  (∀ (k0_h8 : k0_cond8 v12 = 1#1), ∀ a, (k0_off32 i v1 v2) a + S1x1x2048x1024.size a ≤ S2x2x2048x1024.size a) ∧
  (∀ (k0_h8 : k0_cond8 v12 = 1#1), ∀ a, (k0_off33 i v1 v2) a + S1x1x2048x1024.size a ≤ S2x2x2048x1024.size a)
theorem k0_off26_inb : ∀ (i : grid0.Coords) (v1 : BitVec 32) (v2 : BitVec 32) (v12 : BitVec 32) (k0_hw6 : k0_chk6 i v1 v2 v12), ∀ (k0_h5 : k0_cond5 v12 = 1#1), ∀ a, (k0_off26 i v1 v2) a + S1x1x2048x1024.size a ≤ S2x2x2048x1024.size a := fun i v1 v2 v12 k0_hw6 k0_h5 => k0_hw6.1 k0_h5
theorem k0_off27_inb : ∀ (i : grid0.Coords) (v1 : BitVec 32) (v2 : BitVec 32) (v12 : BitVec 32) (k0_hw6 : k0_chk6 i v1 v2 v12), ∀ (k0_h5 : k0_cond5 v12 = 1#1), ∀ a, (k0_off27 i v1 v2) a + S1x1x2048x1024.size a ≤ S2x2x2048x1024.size a := fun i v1 v2 v12 k0_hw6 k0_h5 => k0_hw6.2.1 k0_h5
theorem k0_off28_inb : ∀ (i : grid0.Coords) (v1 : BitVec 32) (v2 : BitVec 32) (v12 : BitVec 32) (k0_hw6 : k0_chk6 i v1 v2 v12), ∀ (k0_h6 : k0_cond6 v12 = 1#1), ∀ a, (k0_off28 i v1 v2) a + S1x1x2048x1024.size a ≤ S2x2x2048x1024.size a := fun i v1 v2 v12 k0_hw6 k0_h6 => k0_hw6.2.2.1 k0_h6
theorem k0_off29_inb : ∀ (i : grid0.Coords) (v1 : BitVec 32) (v2 : BitVec 32) (v12 : BitVec 32) (k0_hw6 : k0_chk6 i v1 v2 v12), ∀ (k0_h6 : k0_cond6 v12 = 1#1), ∀ a, (k0_off29 i v1 v2) a + S1x1x2048x1024.size a ≤ S2x2x2048x1024.size a := fun i v1 v2 v12 k0_hw6 k0_h6 => k0_hw6.2.2.2.1 k0_h6
theorem k0_off30_inb : ∀ (i : grid0.Coords) (v1 : BitVec 32) (v2 : BitVec 32) (v12 : BitVec 32) (k0_hw6 : k0_chk6 i v1 v2 v12), ∀ (k0_h7 : k0_cond7 v12 = 1#1), ∀ a, (k0_off30 i v1 v2) a + S1x1x2048x1024.size a ≤ S2x2x2048x1024.size a := fun i v1 v2 v12 k0_hw6 k0_h7 => k0_hw6.2.2.2.2.1 k0_h7
theorem k0_off31_inb : ∀ (i : grid0.Coords) (v1 : BitVec 32) (v2 : BitVec 32) (v12 : BitVec 32) (k0_hw6 : k0_chk6 i v1 v2 v12), ∀ (k0_h7 : k0_cond7 v12 = 1#1), ∀ a, (k0_off31 i v1 v2) a + S1x1x2048x1024.size a ≤ S2x2x2048x1024.size a := fun i v1 v2 v12 k0_hw6 k0_h7 => k0_hw6.2.2.2.2.2.1 k0_h7
theorem k0_off32_inb : ∀ (i : grid0.Coords) (v1 : BitVec 32) (v2 : BitVec 32) (v12 : BitVec 32) (k0_hw6 : k0_chk6 i v1 v2 v12), ∀ (k0_h8 : k0_cond8 v12 = 1#1), ∀ a, (k0_off32 i v1 v2) a + S1x1x2048x1024.size a ≤ S2x2x2048x1024.size a := fun i v1 v2 v12 k0_hw6 k0_h8 => k0_hw6.2.2.2.2.2.2.1 k0_h8
theorem k0_off33_inb : ∀ (i : grid0.Coords) (v1 : BitVec 32) (v2 : BitVec 32) (v12 : BitVec 32) (k0_hw6 : k0_chk6 i v1 v2 v12), ∀ (k0_h8 : k0_cond8 v12 = 1#1), ∀ a, (k0_off33 i v1 v2) a + S1x1x2048x1024.size a ≤ S2x2x2048x1024.size a := fun i v1 v2 v12 k0_hw6 k0_h8 => k0_hw6.2.2.2.2.2.2.2 k0_h8

def k0_cond9 (v12 : BitVec 32) : BitVec 1 :=
  let c0_i32_8 : BitVec 32 := 0#32
  let v33 : BitVec 1 := Scalar.cmpi .eq v12 c0_i32_8
  let v34 : BitVec 32 := Scalar.extui v33
  let c0_i32_9 : BitVec 32 := 0#32
  let v35 : BitVec 1 := Scalar.cmpi .ne v34 c0_i32_9
  v35

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== MoeUpReferenceIdeal.lean ====
abbrev S40 : Shape := ⟨1, ![40]⟩
abbrev S1 : Shape := ⟨1, ![1]⟩
abbrev S20480x2048 : Shape := ⟨2, ![20480, 2048]⟩
abbrev S1x8x2048x7168 : Shape := ⟨4, ![1, 8, 2048, 7168]⟩
abbrev S40x1 : Shape := ⟨2, ![40, 1]⟩
abbrev S40x512 : Shape := ⟨2, ![40, 512]⟩
abbrev S20480 : Shape := ⟨1, ![20480]⟩
abbrev S40x4x128 : Shape := ⟨3, ![40, 4, 128]⟩
abbrev S_ : Shape := ⟨0, ![]⟩
abbrev S40x1x1 : Shape := ⟨3, ![40, 1, 1]⟩
abbrev S20480x7168 : Shape := ⟨2, ![20480, 7168]⟩
abbrev S20480x1 : Shape := ⟨2, ![20480, 1]⟩
abbrev S1x1x2048x7168 : Shape := ⟨4, ![1, 1, 2048, 7168]⟩
abbrev S2048x7168 : Shape := ⟨2, ![2048, 7168]⟩

abbrev nBuf : Space → Nat
  | .hbm => 207
  | .vmem => 0
  | .smem => 0
  | _ => 0

abbrev hbmTy0_0 (i : Nat) : BufTy := match i % 128 with
  | 0 => ⟨S40, .i32⟩
  | 1 => ⟨S1, .i32⟩
  | 2 => ⟨S40, .i32⟩
  | 3 => ⟨S40, .i32⟩
  | 4 => ⟨S40, .i32⟩
  | 5 => ⟨S40, .i32⟩
  | 6 => ⟨S1, .i32⟩
  | 7 => ⟨S20480x2048, .bf16⟩
  | 8 => ⟨S1x8x2048x7168, .f32⟩
  | 9 => ⟨S1x8x2048x7168, .f32⟩
  | 10 => ⟨S20480x2048, .f32⟩
  | 11 => ⟨S40x1, .i32⟩
  | 12 => ⟨S40x512, .i32⟩
  | 13 => ⟨S20480, .i32⟩
  | 14 => ⟨S40x4x128, .i32⟩
  | 15 => ⟨S_, .i32⟩
  | 16 => ⟨S40x4x128, .i32⟩
  | 17 => ⟨S40x4x128, .i32⟩
  | 18 => ⟨S40x1x1, .i32⟩
  | 19 => ⟨S40x4x128, .i32⟩
  | 20 => ⟨S40x4x128, .i1⟩
  | 21 => ⟨S20480, .i1⟩
  | 22 => ⟨S_, .f32⟩
  | 23 => ⟨S20480x7168, .f32⟩
  | 24 => ⟨S_, .i32⟩
  | 25 => ⟨S20480, .i32⟩
  | 26 => ⟨S20480, .i1⟩
  | 27 => ⟨S20480x1, .i1⟩
  | 28 => ⟨S1x1x2048x7168, .f32⟩
  | 29 => ⟨S2048x7168, .f32⟩
  | 30 => ⟨S20480x7168, .f32⟩
  | 31 => ⟨S20480x7168, .f32⟩
  | 32 => ⟨S20480x7168, .f32⟩
  | 33 => ⟨S_, .f32⟩
  | 34 => ⟨S20480x7168, .f32⟩
  | 35 => ⟨S20480x7168, .f32⟩
  | 36 => ⟨S_, .f32⟩
  | 37 => ⟨S20480x7168, .f32⟩
  | 38 => ⟨S20480x7168, .f32⟩
  | 39 => ⟨S20480x7168, .f32⟩
  | 40 => ⟨S1x1x2048x7168, .f32⟩
  | 41 => ⟨S2048x7168, .f32⟩
  | 42 => ⟨S20480x7168, .f32⟩
  | 43 => ⟨S20480x7168, .f32⟩
  | 44 => ⟨S20480x7168, .i1⟩
  | 45 => ⟨S20480x7168, .f32⟩
  | 46 => ⟨S_, .i32⟩
  | 47 => ⟨S20480, .i32⟩
  | 48 => ⟨S20480, .i1⟩
  | 49 => ⟨S20480x1, .i1⟩
  | 50 => ⟨S1x1x2048x7168, .f32⟩
  | 51 => ⟨S2048x7168, .f32⟩
  | 52 => ⟨S20480x7168, .f32⟩
  | 53 => ⟨S20480x7168, .f32⟩
  | 54 => ⟨S20480x7168, .f32⟩
  | 55 => ⟨S_, .f32⟩
  | 56 => ⟨S20480x7168, .f32⟩
  | 57 => ⟨S20480x7168, .f32⟩
  | 58 => ⟨S_, .f32⟩
  | 59 => ⟨S20480x7168, .f32⟩
  | 60 => ⟨S20480x7168, .f32⟩
  | 61 => ⟨S20480x7168, .f32⟩
  | 62 => ⟨S1x1x2048x7168, .f32⟩
  | 63 => ⟨S2048x7168, .f32⟩
  | 64 => ⟨S20480x7168, .f32⟩
  | 65 => ⟨S20480x7168, .f32⟩
  | 66 => ⟨S20480x7168, .i1⟩
  | 67 => ⟨S20480x7168, .f32⟩
  | 68 => ⟨S_, .i32⟩
  | 69 => ⟨S20480, .i32⟩
  | 70 => ⟨S20480, .i1⟩
  | 71 => ⟨S20480x1, .i1⟩
  | 72 => ⟨S1x1x2048x7168, .f32⟩
  | 73 => ⟨S2048x7168, .f32⟩
  | 74 => ⟨S20480x7168, .f32⟩
  | 75 => ⟨S20480x7168, .f32⟩
  | 76 => ⟨S20480x7168, .f32⟩
  | 77 => ⟨S_, .f32⟩
  | 78 => ⟨S20480x7168, .f32⟩
  | 79 => ⟨S20480x7168, .f32⟩
  | 80 => ⟨S_, .f32⟩
  | 81 => ⟨S20480x7168, .f32⟩
  | 82 => ⟨S20480x7168, .f32⟩
  | 83 => ⟨S20480x7168, .f32⟩
  | 84 => ⟨S1x1x2048x7168, .f32⟩
  | 85 => ⟨S2048x7168, .f32⟩
  | 86 => ⟨S20480x7168, .f32⟩
  | 87 => ⟨S20480x7168, .f32⟩
  | 88 => ⟨S20480x7168, .i1⟩
  | 89 => ⟨S20480x7168, .f32⟩
  | 90 => ⟨S_, .i32⟩
  | 91 => ⟨S20480, .i32⟩
  | 92 => ⟨S20480, .i1⟩
  | 93 => ⟨S20480x1, .i1⟩
  | 94 => ⟨S1x1x2048x7168, .f32⟩
  | 95 => ⟨S2048x7168, .f32⟩
  | 96 => ⟨S20480x7168, .f32⟩
  | 97 => ⟨S20480x7168, .f32⟩
  | 98 => ⟨S20480x7168, .f32⟩
  | 99 => ⟨S_, .f32⟩
  | 100 => ⟨S20480x7168, .f32⟩
  | 101 => ⟨S20480x7168, .f32⟩
  | 102 => ⟨S_, .f32⟩
  | 103 => ⟨S20480x7168, .f32⟩
  | 104 => ⟨S20480x7168, .f32⟩
  | 105 => ⟨S20480x7168, .f32⟩
  | 106 => ⟨S1x1x2048x7168, .f32⟩
  | 107 => ⟨S2048x7168, .f32⟩
  | 108 => ⟨S20480x7168, .f32⟩
  | 109 => ⟨S20480x7168, .f32⟩
  | 110 => ⟨S20480x7168, .i1⟩
  | 111 => ⟨S20480x7168, .f32⟩
  | 112 => ⟨S_, .i32⟩
  | 113 => ⟨S20480, .i32⟩
  | 114 => ⟨S20480, .i1⟩
  | 115 => ⟨S20480x1, .i1⟩
  | 116 => ⟨S1x1x2048x7168, .f32⟩
  | 117 => ⟨S2048x7168, .f32⟩
  | 118 => ⟨S20480x7168, .f32⟩
  | 119 => ⟨S20480x7168, .f32⟩
  | 120 => ⟨S20480x7168, .f32⟩
  | 121 => ⟨S_, .f32⟩
  | 122 => ⟨S20480x7168, .f32⟩
  | 123 => ⟨S20480x7168, .f32⟩
  | 124 => ⟨S_, .f32⟩
  | 125 => ⟨S20480x7168, .f32⟩
  | 126 => ⟨S20480x7168, .f32⟩
  | 127 => ⟨S20480x7168, .f32⟩
  | _ => ⟨S40, .i32⟩

abbrev hbmTy0_1 (i : Nat) : BufTy := match i % 128 with
  | 0 => ⟨S1x1x2048x7168, .f32⟩
  | 1 => ⟨S2048x7168, .f32⟩
  | 2 => ⟨S20480x7168, .f32⟩
  | 3 => ⟨S20480x7168, .f32⟩
  | 4 => ⟨S20480x7168, .i1⟩
  | 5 => ⟨S20480x7168, .f32⟩
  | 6 => ⟨S_, .i32⟩
  | 7 => ⟨S20480, .i32⟩
  | 8 => ⟨S20480, .i1⟩
  | 9 => ⟨S20480x1, .i1⟩
  | 10 => ⟨S1x1x2048x7168, .f32⟩
  | 11 => ⟨S2048x7168, .f32⟩
  | 12 => ⟨S20480x7168, .f32⟩
  | 13 => ⟨S20480x7168, .f32⟩
  | 14 => ⟨S20480x7168, .f32⟩
  | 15 => ⟨S_, .f32⟩
  | 16 => ⟨S20480x7168, .f32⟩
  | 17 => ⟨S20480x7168, .f32⟩
  | 18 => ⟨S_, .f32⟩
  | 19 => ⟨S20480x7168, .f32⟩
  | 20 => ⟨S20480x7168, .f32⟩
  | 21 => ⟨S20480x7168, .f32⟩
  | 22 => ⟨S1x1x2048x7168, .f32⟩
  | 23 => ⟨S2048x7168, .f32⟩
  | 24 => ⟨S20480x7168, .f32⟩
  | 25 => ⟨S20480x7168, .f32⟩
  | 26 => ⟨S20480x7168, .i1⟩
  | 27 => ⟨S20480x7168, .f32⟩
  | 28 => ⟨S_, .i32⟩
  | 29 => ⟨S20480, .i32⟩
  | 30 => ⟨S20480, .i1⟩
  | 31 => ⟨S20480x1, .i1⟩
  | 32 => ⟨S1x1x2048x7168, .f32⟩
  | 33 => ⟨S2048x7168, .f32⟩
  | 34 => ⟨S20480x7168, .f32⟩
  | 35 => ⟨S20480x7168, .f32⟩
  | 36 => ⟨S20480x7168, .f32⟩
  | 37 => ⟨S_, .f32⟩
  | 38 => ⟨S20480x7168, .f32⟩
  | 39 => ⟨S20480x7168, .f32⟩
  | 40 => ⟨S_, .f32⟩
  | 41 => ⟨S20480x7168, .f32⟩
  | 42 => ⟨S20480x7168, .f32⟩
  | 43 => ⟨S20480x7168, .f32⟩
  | 44 => ⟨S1x1x2048x7168, .f32⟩
  | 45 => ⟨S2048x7168, .f32⟩
  | 46 => ⟨S20480x7168, .f32⟩
  | 47 => ⟨S20480x7168, .f32⟩
  | 48 => ⟨S20480x7168, .i1⟩
  | 49 => ⟨S20480x7168, .f32⟩
  | 50 => ⟨S_, .i32⟩
  | 51 => ⟨S20480, .i32⟩
  | 52 => ⟨S20480, .i1⟩
  | 53 => ⟨S20480x1, .i1⟩
  | 54 => ⟨S1x1x2048x7168, .f32⟩
  | 55 => ⟨S2048x7168, .f32⟩
  | 56 => ⟨S20480x7168, .f32⟩
  | 57 => ⟨S20480x7168, .f32⟩
  | 58 => ⟨S20480x7168, .f32⟩
  | 59 => ⟨S_, .f32⟩
  | 60 => ⟨S20480x7168, .f32⟩
  | 61 => ⟨S20480x7168, .f32⟩
  | 62 => ⟨S_, .f32⟩
  | 63 => ⟨S20480x7168, .f32⟩
  | 64 => ⟨S20480x7168, .f32⟩
  | 65 => ⟨S20480x7168, .f32⟩
  | 66 => ⟨S1x1x2048x7168, .f32⟩
  | 67 => ⟨S2048x7168, .f32⟩
  | 68 => ⟨S20480x7168, .f32⟩
  | 69 => ⟨S20480x7168, .f32⟩
  | 70 => ⟨S20480x7168, .i1⟩
  | 71 => ⟨S20480x7168, .f32⟩
  | 72 => ⟨S20480x1, .i1⟩
  | 73 => ⟨S_, .f32⟩
  | 74 => ⟨S_, .f32⟩
  | 75 => ⟨S20480x7168, .i1⟩
  | 76 => ⟨S20480x7168, .f32⟩
  | 77 => ⟨S20480x7168, .f32⟩
  | 78 => ⟨S20480x7168, .bf16⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call3_v0 : Ref sig .tc := ⟨.hbm, 66, rfl⟩
abbrev main_v35 : Ref sig .tc := ⟨.hbm, 67, rfl⟩
abbrev main_c_2 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call5_v0 : Ref sig .tc := ⟨.hbm, 88, rfl⟩
abbrev main_v47 : Ref sig .tc := ⟨.hbm, 89, rfl⟩
abbrev main_c_3 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call6_v0 : Ref sig .tc := ⟨.hbm, 97, rfl⟩
abbrev main_call6_v1 : Ref sig .tc := ⟨.hbm, 98, rfl⟩
abbrev main_call6_cst : Ref sig .tc := ⟨.hbm, 99, rfl⟩
abbrev main_call6_v2 : Ref sig .tc := ⟨.hbm, 100, rfl⟩
abbrev main_call6_v3 : Ref sig .tc := ⟨.hbm, 101, rfl⟩
abbrev main_call6_cst_0 : Ref sig .tc := ⟨.hbm, 102, rfl⟩
abbrev main_call6_v4 : Ref sig .tc := ⟨.hbm, 103, rfl⟩
abbrev main_call6_v5 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_call7_v0 : Ref sig .tc := ⟨.hbm, 110, rfl⟩
abbrev main_v59 : Ref sig .tc := ⟨.hbm, 111, rfl⟩
abbrev main_c_4 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_call8_v0 : Ref sig .tc := ⟨.hbm, 119, rfl⟩
abbrev main_call8_v1 : Ref sig .tc := ⟨.hbm, 120, rfl⟩
abbrev main_call8_cst : Ref sig .tc := ⟨.hbm, 121, rfl⟩
abbrev main_call8_v2 : Ref sig .tc := ⟨.hbm, 122, rfl⟩
abbrev main_call8_v3 : Ref sig .tc := ⟨.hbm, 123, rfl⟩
abbrev main_call8_cst_0 : Ref sig .tc := ⟨.hbm, 124, rfl⟩
abbrev main_call8_v4 : Ref sig .tc := ⟨.hbm, 125, rfl⟩
abbrev main_call8_v5 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call9_v0 : Ref sig .tc := ⟨.hbm, 132, rfl⟩
abbrev main_v71 : Ref sig .tc := ⟨.hbm, 133, rfl⟩
abbrev main_c_5 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_call10_v0 : Ref sig .tc := ⟨.hbm, 141, rfl⟩
abbrev main_call10_v1 : Ref sig .tc := ⟨.hbm, 142, rfl⟩
abbrev main_call10_cst : Ref sig .tc := ⟨.hbm, 143, rfl⟩
abbrev main_call10_v2 : Ref sig .tc := ⟨.hbm, 144, rfl⟩
abbrev main_call10_v3 : Ref sig .tc := ⟨.hbm, 145, rfl⟩
abbrev main_call10_cst_0 : Ref sig .tc := ⟨.hbm, 146, rfl⟩
abbrev main_call10_v4 : Ref sig .tc := ⟨.hbm, 147, rfl⟩
abbrev main_call10_v5 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_call11_v0 : Ref sig .tc := ⟨.hbm, 154, rfl⟩
abbrev main_v83 : Ref sig .tc := ⟨.hbm, 155, rfl⟩
abbrev main_c_6 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_call12_v0 : Ref sig .tc := ⟨.hbm, 163, rfl⟩
abbrev main_call12_v1 : Ref sig .tc := ⟨.hbm, 164, rfl⟩
abbrev main_call12_cst : Ref sig .tc := ⟨.hbm, 165, rfl⟩
abbrev main_call12_v2 : Ref sig .tc := ⟨.hbm, 166, rfl⟩
abbrev main_call12_v3 : Ref sig .tc := ⟨.hbm, 167, rfl⟩
abbrev main_call12_cst_0 : Ref sig .tc := ⟨.hbm, 168, rfl⟩
abbrev main_call12_v4 : Ref sig .tc := ⟨.hbm, 169, rfl⟩
abbrev main_call12_v5 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_call13_v0 : Ref sig .tc := ⟨.hbm, 176, rfl⟩
abbrev main_v95 : Ref sig .tc := ⟨.hbm, 177, rfl⟩
abbrev main_c_7 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_call14_v0 : Ref sig .tc := ⟨.hbm, 185, rfl⟩
abbrev main_call14_v1 : Ref sig .tc := ⟨.hbm, 186, rfl⟩
abbrev main_call14_cst : Ref sig .tc := ⟨.hbm, 187, rfl⟩
abbrev main_call14_v2 : Ref sig .tc := ⟨.hbm, 188, rfl⟩
abbrev main_call14_v3 : Ref sig .tc := ⟨.hbm, 189, rfl⟩
abbrev main_call14_cst_0 : Ref sig .tc := ⟨.hbm, 190, rfl⟩
abbrev main_call14_v4 : Ref sig .tc := ⟨.hbm, 191, rfl⟩
abbrev main_call14_v5 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_call15_v0 : Ref sig .tc := ⟨.hbm, 198, rfl⟩
abbrev main_v107 : Ref sig .tc := ⟨.hbm, 199, rfl⟩
abbrev main_v108 : Ref sig .tc := ⟨.hbm, 200, rfl⟩
abbrev main_cst_8 : Ref sig .tc := ⟨.hbm, 201, rfl⟩
abbrev main_call16_v0 : Ref sig .tc := ⟨.hbm, 202, rfl⟩
abbrev main_call16_v1 : Ref sig .tc := ⟨.hbm, 203, rfl⟩
abbrev main_call16_v2 : Ref sig .tc := ⟨.hbm, 204, rfl⟩
abbrev main_v109 : Ref sig .tc := ⟨.hbm, 205, rfl⟩
abbrev main_v110 : Ref sig .tc := ⟨.hbm, 206, rfl⟩

abbrev nD : Nat := 1
abbrev τ : Topo := Topo.v7x

variable {F : FTy → Type} [FloatOps F]
-- ==== MoeDown.lean ====
abbrev S40 : Shape := ⟨1, ![40]⟩
abbrev S1 : Shape := ⟨1, ![1]⟩
abbrev S20480x7168 : Shape := ⟨2, ![20480, 7168]⟩
abbrev S1x8x7168x2048 : Shape := ⟨4, ![1, 8, 7168, 2048]⟩
abbrev S20480x2048 : Shape := ⟨2, ![20480, 2048]⟩
abbrev S512x7168 : Shape := ⟨2, ![512, 7168]⟩
abbrev S512x512 : Shape := ⟨2, ![512, 512]⟩
abbrev S2x1x7168x512 : Shape := ⟨4, ![2, 1, 7168, 512]⟩
abbrev S2x1 : Shape := ⟨2, ![2, 1]⟩
abbrev S1x1 : Shape := ⟨2, ![1, 1]⟩
abbrev S_ : Shape := ⟨0, ![]⟩
abbrev S1x1x7168x512 : Shape := ⟨4, ![1, 1, 7168, 512]⟩
abbrev S7168x512 : Shape := ⟨2, ![7168, 512]⟩
abbrev S128x1024 : Shape := ⟨2, ![128, 1024]⟩
abbrev S1x1x1024x512 : Shape := ⟨4, ![1, 1, 1024, 512]⟩
abbrev S1024x512 : Shape := ⟨2, ![1024, 512]⟩
abbrev S128x512 : Shape := ⟨2, ![128, 512]⟩
abbrev S384x512 : Shape := ⟨2, ![384, 512]⟩
abbrev S256x1024 : Shape := ⟨2, ![256, 1024]⟩
abbrev S256x512 : Shape := ⟨2, ![256, 512]⟩
abbrev S384x1024 : Shape := ⟨2, ![384, 1024]⟩
abbrev S512x1024 : Shape := ⟨2, ![512, 1024]⟩

abbrev nBuf : Space → Nat
  | .hbm => 3
  | .vmem => 5
  | .smem => 7
  | _ => 0

abbrev bufTy : (tb : Table) → Fin (tcTables nBuf tb) → BufTy
  | .hbm, ⟨0, _⟩ => ⟨S20480x7168, .bf16⟩
  | .hbm, ⟨1, _⟩ => ⟨S1x8x7168x2048, .f32⟩
  | .hbm, ⟨2, _⟩ => ⟨S20480x2048, .f32⟩
  | .local _ .vmem, ⟨0, _⟩ => ⟨S512x7168, .bf16⟩
  | .local _ .vmem, ⟨1, _⟩ => ⟨S512x7168, .bf16⟩
  | .local _ .vmem, ⟨2, _⟩ => ⟨S512x512, .f32⟩
  | .local _ .vmem, ⟨3, _⟩ => ⟨S512x512, .f32⟩
  | .local _ .vmem, ⟨4, _⟩ => ⟨S2x1x7168x512, .f32⟩
  | .local _ .smem, ⟨0, _⟩ => ⟨S40, .i32⟩
  | .local _ .smem, ⟨1, _⟩ => ⟨S1, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S40, .i32⟩
  | .local _ .smem, ⟨6, _⟩ => ⟨S1, .i32⟩
  | _, _ => ⟨S20480x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg7 : Ref sig .tc := ⟨.hbm, 0, rfl⟩
abbrev main_arg8 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 40], ![false, false]⟩

abbrev pre0 : Pipeline.Prefetch sig := ⟨7, ![main_arg0.idx, main_arg1.idx, main_arg2.idx, main_arg3.idx, main_arg4.idx, main_arg5.idx, main_arg6.idx], fun | 0 => main_arg0.names | 1 => main_arg1.names | 2 => main_arg2.names | 3 => main_arg3.names | 4 => main_arg4.names | 5 => main_arg5.names | 6 => main_arg6.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v59 : Index := Scalar.indexCast arg1
  ![v59.toNat]
def k0_mult1 (i : grid0.Coords) : BitVec 32 :=
  let arg0 : BitVec 32 := BitVec.ofNat 32 (i 0).val
  let c512_i32_23 : BitVec 32 := 512#32
  let v61 : BitVec 32 := Scalar.muli arg0 c512_i32_23
  v61
def k0_off3 (i : grid0.Coords) (v1 : BitVec 32) (v2 : BitVec 32) : Fin 2 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_26 : BitVec 32 := 0#32
  ![v5.toNat, 0]
def k0_cond1 (v7 : BitVec 32) : BitVec 1 :=
  let c1_i32 : BitVec 32 := 1#32
  let v8 : BitVec 1 := Scalar.cmpi .eq v7 c1_i32
  let v9 : BitVec 32 := Scalar.extui v8
  let c0_i32 : BitVec 32 := 0#32
  let v10 : BitVec 1 := Scalar.cmpi .ne v9 c0_i32
  v10

def k0_cond2 (i : grid0.Coords) (v1 : BitVec 32) (v2 : BitVec 32) : BitVec 1 :=
  let arg0 : BitVec 32 := BitVec.ofNat 32 (i 0).val
  let v3 : BitVec 32 := Scalar.muli arg0 v2
  let v4 : BitVec 32 := Scalar.addi v3 v1
  let c0_i32_10 : BitVec 32 := 0#32
  let v36 : BitVec 1 := Scalar.cmpi .eq v4 c0_i32_10
  let v37 : BitVec 32 := Scalar.extui v36
  let c0_i32_11 : BitVec 32 := 0#32
  let v38 : BitVec 1 := Scalar.cmpi .ne v37 c0_i32_11
  v38

def k0_off4 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_25 : BitVec 32 := 0#32
  let c0_i32_27 : BitVec 32 := 0#32
  let c0_i32_28 : BitVec 32 := 0#32
  ![v5.toNat, 0, 0, 0]
def k0_off5 (i : grid0.Coords) (v60 : BitVec 32) : Fin 4 → Nat :=
  let c0_i32_24 : BitVec 32 := 0#32
  let c0_i32_29 : BitVec 32 := 0#32
  let arg0 : BitVec 32 := BitVec.ofNat 32 (i 0).val
  let c512_i32_23 : BitVec 32 := 512#32
  let v61 : BitVec 32 := Scalar.muli arg0 c512_i32_23
  let v62 : BitVec 32 := v61
  ![0, v60.toNat, 0, v62.toNat]

def k0_chk2 (i : grid0.Coords) (v1 : BitVec 32) (v2 : BitVec 32) (v7 : BitVec 32) (v60 : BitVec 32) : Prop :=
  (∀ (k0_h1 : k0_cond1 v7 = 1#1), ∀ (k0_h2 : k0_cond2 i v1 v2 = 1#1), ∀ a, (k0_off5 i v60) a + S1x1x7168x512.size a ≤ S1x8x7168x2048.size a)
theorem k0_off5_inb : ∀ (i : grid0.Coords) (v1 : BitVec 32) (v2 : BitVec 32) (v7 : BitVec 32) (v60 : BitVec 32) (k0_hw2 : k0_chk2 i v1 v2 v7 v60), ∀ (k0_h1 : k0_cond1 v7 = 1#1), ∀ (k0_h2 : k0_cond2 i v1 v2 = 1#1), ∀ a, (k0_off5 i v60) a + S1x1x7168x512.size a ≤ S1x8x7168x2048.size a := fun i v1 v2 v7 v60 k0_hw2 k0_h1 k0_h2 => k0_hw2 k0_h1 k0_h2

def k0_off6 (i : grid0.Coords) : Fin 1 → Nat :=
  let arg1 : BitVec 32 := BitVec.ofNat 32 (i 1).val
  let v39 : Index := Scalar.indexCast arg1
  ![v39.toNat]
def k0_mult2 (i : grid0.Coords) : BitVec 32 :=
  let arg0 : BitVec 32 := BitVec.ofNat 32 (i 0).val
  let c512_i32_12 : BitVec 32 := 512#32
  let v41 : BitVec 32 := Scalar.muli arg0 c512_i32_12
  v41
def k0_off7 (i : grid0.Coords) (v1 : BitVec 32) (v2 : BitVec 32) : Fin 2 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_15 : BitVec 32 := 0#32
  ![v5.toNat, 0]
def k0_off8 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let c0_i32_14 : BitVec 32 := 0#32
  let c0_i32_16 : BitVec 32 := 0#32
  let c0_i32_17 : BitVec 32 := 0#32
  ![v5.toNat, 0, 0, 0]
def k0_off9 (i : grid0.Coords) (v40 : BitVec 32) : Fin 4 → Nat :=
  let c0_i32_13 : BitVec 32 := 0#32
  let c0_i32_18 : BitVec 32 := 0#32
  let arg0 : BitVec 32 := BitVec.ofNat 32 (i 0).val
  let c512_i32_12 : BitVec 32 := 512#32
  let v41 : BitVec 32 := Scalar.muli arg0 c512_i32_12
  let v42 : BitVec 32 := v41
  ![0, v40.toNat, 0, v42.toNat]

def k0_chk3 (i : grid0.Coords) (v7 : BitVec 32) (v40 : BitVec 32) : Prop :=
  (∀ (k0_h1 : k0_cond1 v7 = 1#1), ∀ a, (k0_off9 i v40) a + S1x1x7168x512.size a ≤ S1x8x7168x2048.size a)
theorem k0_off9_inb : ∀ (i : grid0.Coords) (v7 : BitVec 32) (v40 : BitVec 32) (k0_hw3 : k0_chk3 i v7 v40), ∀ (k0_h1 : k0_cond1 v7 = 1#1), ∀ a, (k0_off9 i v40) a + S1x1x7168x512.size a ≤ S1x8x7168x2048.size a := fun i v7 v40 k0_hw3 k0_h1 => k0_hw3 k0_h1

def k0_off10 (i : grid0.Coords) : Fin 1 → Nat :=
  let arg1 : BitVec 32 := BitVec.ofNat 32 (i 1).val
  let v59 : Index := Scalar.indexCast arg1
  ![v59.toNat]
def k0_mult3 (i : grid0.Coords) : BitVec 32 :=
  let arg0 : BitVec 32 := BitVec.ofNat 32 (i 0).val
  let c512_i32_24 : BitVec 32 := 512#32
  let v62 : BitVec 32 := Scalar.muli arg0 c512_i32_24
  v62
def k0_off11 (i : grid0.Coords) (v1 : BitVec 32) (v2 : BitVec 32) : Fin 2 → Nat :=
  let c1_i32_23 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v61 : BitVec 32 := Scalar.subi c1_i32_23 v5
  let c0_i32_27 : BitVec 32 := 0#32
  ![v61.toNat, 0]
def k0_cond3 (v1 : BitVec 32) (v2 : BitVec 32) : BitVec 1 :=
  let c1_i32_19 : BitVec 32 := 1#32
  let v49 : BitVec 32 := Scalar.addi v1 c1_i32_19
  let v50 : BitVec 1 := Scalar.cmpi .slt v49 v2
  let v51 : BitVec 32 := Scalar.extui v50
  let c0_i32_20 : BitVec 32 := 0#32
  let v52 : BitVec 1 := Scalar.cmpi .ne v51 c0_i32_20
  v52

def k0_off12 (i : grid0.Coords) (v1 : BitVec 32) (v2 : BitVec 32) : Fin 4 → Nat :=
  let c1_i32_23 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v61 : BitVec 32 := Scalar.subi c1_i32_23 v5
  let c0_i32_26 : BitVec 32 := 0#32
  let c0_i32_28 : BitVec 32 := 0#32
  let c0_i32_29 : BitVec 32 := 0#32
  ![v61.toNat, 0, 0, 0]
def k0_off13 (i : grid0.Coords) (v60 : BitVec 32) : Fin 4 → Nat :=
  let c0_i32_25 : BitVec 32 := 0#32
  let c0_i32_30 : BitVec 32 := 0#32
  let arg0 : BitVec 32 := BitVec.ofNat 32 (i 0).val
  let c512_i32_24 : BitVec 32 := 512#32
  let v62 : BitVec 32 := Scalar.muli arg0 c512_i32_24
  let v63 : BitVec 32 := v62
  ![0, v60.toNat, 0, v63.toNat]

def k0_chk4 (i : grid0.Coords) (v1 : BitVec 32) (v2 : BitVec 32) (v7 : BitVec 32) (v60 : BitVec 32) : Prop :=
  (∀ (k0_h1 : k0_cond1 v7 = 1#1), ∀ (k0_h3 : k0_cond3 v1 v2 = 1#1), ∀ a, (k0_off13 i v60) a + S1x1x7168x512.size a ≤ S1x8x7168x2048.size a)
theorem k0_off13_inb : ∀ (i : grid0.Coords) (v1 : BitVec 32) (v2 : BitVec 32) (v7 : BitVec 32) (v60 : BitVec 32) (k0_hw4 : k0_chk4 i v1 v2 v7 v60), ∀ (k0_h1 : k0_cond1 v7 = 1#1), ∀ (k0_h3 : k0_cond3 v1 v2 = 1#1), ∀ a, (k0_off13 i v60) a + S1x1x7168x512.size a ≤ S1x8x7168x2048.size a := fun i v1 v2 v7 v60 k0_hw4 k0_h1 k0_h3 => k0_hw4 k0_h1 k0_h3

def k0_mult4 (i : grid0.Coords) : BitVec 32 :=
  let arg0 : BitVec 32 := BitVec.ofNat 32 (i 0).val
  let c1_i32_24 : BitVec 32 := 1#32
  let v60 : BitVec 32 := Scalar.addi arg0 c1_i32_24
  let c512_i32_26 : BitVec 32 := 512#32
  let v62 : BitVec 32 := Scalar.muli v60 c512_i32_26
  v62
def k0_off14 (i : grid0.Coords) (v1 : BitVec 32) (v2 : BitVec 32) : Fin 2 → Nat :=
  let c1_i32_25 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v61 : BitVec 32 := Scalar.subi c1_i32_25 v5
  let c0_i32_29 : BitVec 32 := 0#32
  ![v61.toNat, 0]
def k0_cond4 (i : grid0.Coords) (v1 : BitVec 32) (v2 : BitVec 32) : BitVec 1 :=
  let c1_i32_19 : BitVec 32 := 1#32
  let v49 : BitVec 32 := Scalar.addi v1 c1_i32_19
  let v50 : BitVec 1 := Scalar.cmpi .slt v49 v2
  let v_true : BitVec 1 := 1#1
  let v53 : BitVec 1 := Scalar.xori v50 v_true
  let arg0 : BitVec 32 := BitVec.ofNat 32 (i 0).val
  let c1_i32_21 : BitVec 32 := 1#32
  let v54 : BitVec 32 := Scalar.addi arg0 c1_i32_21
  let c4_i32 : BitVec 32 := 4#32
  let v55 : BitVec 1 := Scalar.cmpi .slt v54 c4_i32
  let v56 : BitVec 1 := Scalar.andi v53 v55
  let v57 : BitVec 32 := Scalar.extui v56
  let c0_i32_22 : BitVec 32 := 0#32
  let v58 : BitVec 1 := Scalar.cmpi .ne v57 c0_i32_22
  v58

def k0_off15 (i : grid0.Coords) (v1 : BitVec 32) (v2 : BitVec 32) : Fin 4 → Nat :=
  let c1_i32_25 : BitVec 32 := 1#32
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v61 : BitVec 32 := Scalar.subi c1_i32_25 v5
  let c0_i32_28 : BitVec 32 := 0#32
  let c0_i32_30 : BitVec 32 := 0#32
  let c0_i32_31 : BitVec 32 := 0#32
  ![v61.toNat, 0, 0, 0]

def k0_chk1 (i : grid0.Coords) (v1 : BitVec 32) (v2 : BitVec 32) (v7 : BitVec 32) : Prop :=
  (∀ (k0_h1 : k0_cond1 v7 = 1#1), ∀ (k0_h2 : k0_cond2 i v1 v2 = 1#1), ∀ a, (k0_off3 i v1 v2) a + S1x1.size a ≤ S2x1.size a) ∧
  (∀ (k0_h1 : k0_cond1 v7 = 1#1), ∀ (k0_h2 : k0_cond2 i v1 v2 = 1#1), ∀ a, (k0_off4 i v1 v2) a + S1x1x7168x512.size a ≤ S2x1x7168x512.size a) ∧
  (∀ (k0_h1 : k0_cond1 v7 = 1#1), ∀ a, (k0_off7 i v1 v2) a + S1x1.size a ≤ S2x1.size a) ∧
  (∀ (k0_h1 : k0_cond1 v7 = 1#1), ∀ a, (k0_off8 i v1 v2) a + S1x1x7168x512.size a ≤ S2x1x7168x512.size a) ∧
  (∀ (k0_h1 : k0_cond1 v7 = 1#1), ∀ (k0_h3 : k0_cond3 v1 v2 = 1#1), ∀ a, (k0_off11 i v1 v2) a + S1x1.size a ≤ S2x1.size a) ∧
  (∀ (k0_h1 : k0_cond1 v7 = 1#1), ∀ (k0_h3 : k0_cond3 v1 v2 = 1#1), ∀ a, (k0_off12 i v1 v2) a + S1x1x7168x512.size a ≤ S2x1x7168x512.size a) ∧
  (∀ (k0_h1 : k0_cond1 v7 = 1#1), ∀ (k0_h4 : k0_cond4 i v1 v2 = 1#1), ∀ a, (k0_off14 i v1 v2) a + S1x1.size a ≤ S2x1.size a) ∧
  (∀ (k0_h1 : k0_cond1 v7 = 1#1), ∀ (k0_h4 : k0_cond4 i v1 v2 = 1#1), ∀ a, (k0_off15 i v1 v2) a + S1x1x7168x512.size a ≤ S2x1x7168x512.size a)
theorem k0_off3_inb : ∀ (i : grid0.Coords) (v1 : BitVec 32) (v2 : BitVec 32) (v7 : BitVec 32) (k0_hw1 : k0_chk1 i v1 v2 v7), ∀ (k0_h1 : k0_cond1 v7 = 1#1), ∀ (k0_h2 : k0_cond2 i v1 v2 = 1#1), ∀ a, (k0_off3 i v1 v2) a + S1x1.size a ≤ S2x1.size a := fun i v1 v2 v7 k0_hw1 k0_h1 k0_h2 => k0_hw1.1 k0_h1 k0_h2
theorem k0_off4_inb : ∀ (i : grid0.Coords) (v1 : BitVec 32) (v2 : BitVec 32) (v7 : BitVec 32) (k0_hw1 : k0_chk1 i v1 v2 v7), ∀ (k0_h1 : k0_cond1 v7 = 1#1), ∀ (k0_h2 : k0_cond2 i v1 v2 = 1#1), ∀ a, (k0_off4 i v1 v2) a + S1x1x7168x512.size a ≤ S2x1x7168x512.size a := fun i v1 v2 v7 k0_hw1 k0_h1 k0_h2 => k0_hw1.2.1 k0_h1 k0_h2
theorem k0_off7_inb : ∀ (i : grid0.Coords) (v1 : BitVec 32) (v2 : BitVec 32) (v7 : BitVec 32) (k0_hw1 : k0_chk1 i v1 v2 v7), ∀ (k0_h1 : k0_cond1 v7 = 1#1), ∀ a, (k0_off7 i v1 v2) a + S1x1.size a ≤ S2x1.size a := fun i v1 v2 v7 k0_hw1 k0_h1 => k0_hw1.2.2.1 k0_h1
theorem k0_off8_inb : ∀ (i : grid0.Coords) (v1 : BitVec 32) (v2 : BitVec 32) (v7 : BitVec 32) (k0_hw1 : k0_chk1 i v1 v2 v7), ∀ (k0_h1 : k0_cond1 v7 = 1#1), ∀ a, (k0_off8 i v1 v2) a + S1x1x7168x512.size a ≤ S2x1x7168x512.size a := fun i v1 v2 v7 k0_hw1 k0_h1 => k0_hw1.2.2.2.1 k0_h1
theorem k0_off11_inb : ∀ (i : grid0.Coords) (v1 : BitVec 32) (v2 : BitVec 32) (v7 : BitVec 32) (k0_hw1 : k0_chk1 i v1 v2 v7), ∀ (k0_h1 : k0_cond1 v7 = 1#1), ∀ (k0_h3 : k0_cond3 v1 v2 = 1#1), ∀ a, (k0_off11 i v1 v2) a + S1x1.size a ≤ S2x1.size a := fun i v1 v2 v7 k0_hw1 k0_h1 k0_h3 => k0_hw1.2.2.2.2.1 k0_h1 k0_h3
theorem k0_off12_inb : ∀ (i : grid0.Coords) (v1 : BitVec 32) (v2 : BitVec 32) (v7 : BitVec 32) (k0_hw1 : k0_chk1 i v1 v2 v7), ∀ (k0_h1 : k0_cond1 v7 = 1#1), ∀ (k0_h3 : k0_cond3 v1 v2 = 1#1), ∀ a, (k0_off12 i v1 v2) a + S1x1x7168x512.size a ≤ S2x1x7168x512.size a := fun i v1 v2 v7 k0_hw1 k0_h1 k0_h3 => k0_hw1.2.2.2.2.2.1 k0_h1 k0_h3
theorem k0_off14_inb : ∀ (i : grid0.Coords) (v1 : BitVec 32) (v2 : BitVec 32) (v7 : BitVec 32) (k0_hw1 : k0_chk1 i v1 v2 v7), ∀ (k0_h1 : k0_cond1 v7 = 1#1), ∀ (k0_h4 : k0_cond4 i v1 v2 = 1#1), ∀ a, (k0_off14 i v1 v2) a + S1x1.size a ≤ S2x1.size a := fun i v1 v2 v7 k0_hw1 k0_h1 k0_h4 => k0_hw1.2.2.2.2.2.2.1 k0_h1 k0_h4
theorem k0_off15_inb : ∀ (i : grid0.Coords) (v1 : BitVec 32) (v2 : BitVec 32) (v7 : BitVec 32) (k0_hw1 : k0_chk1 i v1 v2 v7), ∀ (k0_h1 : k0_cond1 v7 = 1#1), ∀ (k0_h4 : k0_cond4 i v1 v2 = 1#1), ∀ a, (k0_off15 i v1 v2) a + S1x1x7168x512.size a ≤ S2x1x7168x512.size a := fun i v1 v2 v7 k0_hw1 k0_h1 k0_h4 => k0_hw1.2.2.2.2.2.2.2 k0_h1 k0_h4

def k0_off16 (i : grid0.Coords) (v59 : BitVec 32) : Fin 4 → Nat :=
  let c0_i32_27 : BitVec 32 := 0#32
  let c0_i32_32 : BitVec 32 := 0#32
  let arg0 : BitVec 32 := BitVec.ofNat 32 (i 0).val
  let c1_i32_24 : BitVec 32 := 1#32
  let v60 : BitVec 32 := Scalar.addi arg0 c1_i32_24
  let c512_i32_26 : BitVec 32 := 512#32
  let v62 : BitVec 32 := Scalar.muli v60 c512_i32_26
  let v63 : BitVec 32 := v62
  ![0, v59.toNat, 0, v63.toNat]

def k0_chk5 (i : grid0.Coords) (v1 : BitVec 32) (v2 : BitVec 32) (v7 : BitVec 32) (v59 : BitVec 32) : Prop :=
  (∀ (k0_h1 : k0_cond1 v7 = 1#1), ∀ (k0_h4 : k0_cond4 i v1 v2 = 1#1), ∀ a, (k0_off16 i v59) a + S1x1x7168x512.size a ≤ S1x8x7168x2048.size a)
theorem k0_off16_inb : ∀ (i : grid0.Coords) (v1 : BitVec 32) (v2 : BitVec 32) (v7 : BitVec 32) (v59 : BitVec 32) (k0_hw5 : k0_chk5 i v1 v2 v7 v59), ∀ (k0_h1 : k0_cond1 v7 = 1#1), ∀ (k0_h4 : k0_cond4 i v1 v2 = 1#1), ∀ a, (k0_off16 i v59) a + S1x1x7168x512.size a ≤ S1x8x7168x2048.size a := fun i v1 v2 v7 v59 k0_hw5 k0_h1 k0_h4 => k0_hw5 k0_h1 k0_h4

def k0_off17 (i : grid0.Coords) : Fin 1 → Nat :=
  let arg1 : BitVec 32 := BitVec.ofNat 32 (i 1).val
  let v11 : Index := Scalar.indexCast arg1
  ![v11.toNat]
def k0_off18 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond5 (v12 : BitVec 32) : BitVec 1 :=
  let c0_i32_0 : BitVec 32 := 0#32
  let v13 : BitVec 1 := Scalar.cmpi .sgt v12 c0_i32_0
  let c128_i32 : BitVec 32 := 128#32
  let v14 : BitVec 1 := Scalar.cmpi .sle v12 c128_i32
  let v15 : BitVec 1 := Scalar.andi v13 v14
  let v16 : BitVec 32 := Scalar.extui v15
  let c0_i32_1 : BitVec 32 := 0#32
  let v17 : BitVec 1 := Scalar.cmpi .ne v16 c0_i32_1
  v17

def k0_off19 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v43 : Index := Scalar.indexCast v5
  let c0_16 : Index := 0#32
  let c1024_17 : Index := 1024#32
  let c0_18 : Index := 0#32
  ![v43.toNat, 0, 1024, 0]
def k0_off20 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v50 : Index := Scalar.indexCast v5
  let c0_21 : Index := 0#32
  let c2048_22 : Index := 2048#32
  let c0_23 : Index := 0#32
  ![v50.toNat, 0, 2048, 0]
def k0_off21 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v57 : Index := Scalar.indexCast v5
  let c0_26 : Index := 0#32
  let c3072_27 : Index := 3072#32
  let c0_28 : Index := 0#32
  ![v57.toNat, 0, 3072, 0]
def k0_off22 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v64 : Index := Scalar.indexCast v5
  let c0_31 : Index := 0#32
  let c4096_32 : Index := 4096#32
  let c0_33 : Index := 0#32
  ![v64.toNat, 0, 4096, 0]
def k0_off23 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v71 : Index := Scalar.indexCast v5
  let c0_36 : Index := 0#32
  let c5120_37 : Index := 5120#32
  let c0_38 : Index := 0#32
  ![v71.toNat, 0, 5120, 0]
def k0_off24 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v78 : Index := Scalar.indexCast v5
  let c0_41 : Index := 0#32
  let c6144_42 : Index := 6144#32
  let c0_43 : Index := 0#32
  ![v78.toNat, 0, 6144, 0]
def k0_off25 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond6 (v12 : BitVec 32) : BitVec 1 :=
  let c128_i32_2 : BitVec 32 := 128#32
  let v18 : BitVec 1 := Scalar.cmpi .sgt v12 c128_i32_2
  let c256_i32 : BitVec 32 := 256#32
  let v19 : BitVec 1 := Scalar.cmpi .sle v12 c256_i32
  let v20 : BitVec 1 := Scalar.andi v18 v19
  let v21 : BitVec 32 := Scalar.extui v20
  let c0_i32_3 : BitVec 32 := 0#32
  let v22 : BitVec 1 := Scalar.cmpi .ne v21 c0_i32_3
  v22

def k0_off26 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v43 : Index := Scalar.indexCast v5
  let c0_16 : Index := 0#32
  let c1024_17 : Index := 1024#32
  let c0_18 : Index := 0#32
  ![v43.toNat, 0, 1024, 0]
def k0_off27 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v50 : Index := Scalar.indexCast v5
  let c0_21 : Index := 0#32
  let c2048_22 : Index := 2048#32
  let c0_23 : Index := 0#32
  ![v50.toNat, 0, 2048, 0]
def k0_off28 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v57 : Index := Scalar.indexCast v5
  let c0_26 : Index := 0#32
  let c3072_27 : Index := 3072#32
  let c0_28 : Index := 0#32
  ![v57.toNat, 0, 3072, 0]
def k0_off29 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v64 : Index := Scalar.indexCast v5
  let c0_31 : Index := 0#32
  let c4096_32 : Index := 4096#32
  let c0_33 : Index := 0#32
  ![v64.toNat, 0, 4096, 0]
def k0_off30 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v71 : Index := Scalar.indexCast v5
  let c0_36 : Index := 0#32
  let c5120_37 : Index := 5120#32
  let c0_38 : Index := 0#32
  ![v71.toNat, 0, 5120, 0]
def k0_off31 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v78 : Index := Scalar.indexCast v5
  let c0_41 : Index := 0#32
  let c6144_42 : Index := 6144#32
  let c0_43 : Index := 0#32
  ![v78.toNat, 0, 6144, 0]
def k0_off32 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond7 (v12 : BitVec 32) : BitVec 1 :=
  let c256_i32_4 : BitVec 32 := 256#32
  let v23 : BitVec 1 := Scalar.cmpi .sgt v12 c256_i32_4
  let c384_i32 : BitVec 32 := 384#32
  let v24 : BitVec 1 := Scalar.cmpi .sle v12 c384_i32
  let v25 : BitVec 1 := Scalar.andi v23 v24
  let v26 : BitVec 32 := Scalar.extui v25
  let c0_i32_5 : BitVec 32 := 0#32
  let v27 : BitVec 1 := Scalar.cmpi .ne v26 c0_i32_5
  v27

def k0_off33 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v43 : Index := Scalar.indexCast v5
  let c0_16 : Index := 0#32
  let c1024_17 : Index := 1024#32
  let c0_18 : Index := 0#32
  ![v43.toNat, 0, 1024, 0]
def k0_off34 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v50 : Index := Scalar.indexCast v5
  let c0_21 : Index := 0#32
  let c2048_22 : Index := 2048#32
  let c0_23 : Index := 0#32
  ![v50.toNat, 0, 2048, 0]
def k0_off35 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v57 : Index := Scalar.indexCast v5
  let c0_26 : Index := 0#32
  let c3072_27 : Index := 3072#32
  let c0_28 : Index := 0#32
  ![v57.toNat, 0, 3072, 0]
def k0_off36 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v64 : Index := Scalar.indexCast v5
  let c0_31 : Index := 0#32
  let c4096_32 : Index := 4096#32
  let c0_33 : Index := 0#32
  ![v64.toNat, 0, 4096, 0]
def k0_off37 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v71 : Index := Scalar.indexCast v5
  let c0_36 : Index := 0#32
  let c5120_37 : Index := 5120#32
  let c0_38 : Index := 0#32
  ![v71.toNat, 0, 5120, 0]
def k0_off38 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v78 : Index := Scalar.indexCast v5
  let c0_41 : Index := 0#32
  let c6144_42 : Index := 6144#32
  let c0_43 : Index := 0#32
  ![v78.toNat, 0, 6144, 0]
def k0_off39 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v37 : Index := Scalar.indexCast v5
  let c0_12 : Index := 0#32
  let c0_13 : Index := 0#32
  let c0_14 : Index := 0#32
  ![v37.toNat, 0, 0, 0]
def k0_cond8 (v12 : BitVec 32) : BitVec 1 :=
  let c384_i32_6 : BitVec 32 := 384#32
  let v28 : BitVec 1 := Scalar.cmpi .sgt v12 c384_i32_6
  let c512_i32 : BitVec 32 := 512#32
  let v29 : BitVec 1 := Scalar.cmpi .sle v12 c512_i32
  let v30 : BitVec 1 := Scalar.andi v28 v29
  let v31 : BitVec 32 := Scalar.extui v30
  let c0_i32_7 : BitVec 32 := 0#32
  let v32 : BitVec 1 := Scalar.cmpi .ne v31 c0_i32_7
  v32

def k0_off40 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v43 : Index := Scalar.indexCast v5
  let c0_16 : Index := 0#32
  let c1024_17 : Index := 1024#32
  let c0_18 : Index := 0#32
  ![v43.toNat, 0, 1024, 0]
def k0_off41 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v50 : Index := Scalar.indexCast v5
  let c0_21 : Index := 0#32
  let c2048_22 : Index := 2048#32
  let c0_23 : Index := 0#32
  ![v50.toNat, 0, 2048, 0]
def k0_off42 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v57 : Index := Scalar.indexCast v5
  let c0_26 : Index := 0#32
  let c3072_27 : Index := 3072#32
  let c0_28 : Index := 0#32
  ![v57.toNat, 0, 3072, 0]
def k0_off43 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v64 : Index := Scalar.indexCast v5
  let c0_31 : Index := 0#32
  let c4096_32 : Index := 4096#32
  let c0_33 : Index := 0#32
  ![v64.toNat, 0, 4096, 0]
def k0_off44 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v71 : Index := Scalar.indexCast v5
  let c0_36 : Index := 0#32
  let c5120_37 : Index := 5120#32
  let c0_38 : Index := 0#32
  ![v71.toNat, 0, 5120, 0]
def k0_off45 (i : grid0.Coords) (v1 : BitVec 32) (v2 : BitVec 32) : Fin 4 → Nat :=
  let arg0 : BitVec 32 := BitVec.ofNat 32 (i 0).val
  let v3 : BitVec 32 := Scalar.muli arg0 v2
  let v4 : BitVec 32 := Scalar.addi v3 v1
  let c2_i32 : BitVec 32 := 2#32
  let v5 : BitVec 32 := Scalar.remsi v4 c2_i32
  let v78 : Index := Scalar.indexCast v5
  let c0_41 : Index := 0#32
  let c6144_42 : Index := 6144#32
  let c0_43 : Index := 0#32
  ![v78.toNat, 0, 6144, 0]

def k0_chk6 (i : grid0.Coords) (v1 : BitVec 32) (v2 : BitVec 32) (v12 : BitVec 32) : Prop :=
  (∀ (k0_h5 : k0_cond5 v12 = 1#1), ∀ a, (k0_off18 i v1 v2) a + S1x1x1024x512.size a ≤ S2x1x7168x512.size a) ∧
  (∀ (k0_h5 : k0_cond5 v12 = 1#1), ∀ a, (k0_off19 i v1 v2) a + S1x1x1024x512.size a ≤ S2x1x7168x512.size a) ∧
  (∀ (k0_h5 : k0_cond5 v12 = 1#1), ∀ a, (k0_off20 i v1 v2) a + S1x1x1024x512.size a ≤ S2x1x7168x512.size a) ∧
  (∀ (k0_h5 : k0_cond5 v12 = 1#1), ∀ a, (k0_off21 i v1 v2) a + S1x1x1024x512.size a ≤ S2x1x7168x512.size a) ∧
  (∀ (k0_h5 : k0_cond5 v12 = 1#1), ∀ a, (k0_off22 i v1 v2) a + S1x1x1024x512.size a ≤ S2x1x7168x512.size a) ∧
  (∀ (k0_h5 : k0_cond5 v12 = 1#1), ∀ a, (k0_off23 i v1 v2) a + S1x1x1024x512.size a ≤ S2x1x7168x512.size a) ∧
  (∀ (k0_h5 : k0_cond5 v12 = 1#1), ∀ a, (k0_off24 i v1 v2) a + S1x1x1024x512.size a ≤ S2x1x7168x512.size a) ∧
  (∀ (k0_h6 : k0_cond6 v12 = 1#1), ∀ a, (k0_off25 i v1 v2) a + S1x1x1024x512.size a ≤ S2x1x7168x512.size a) ∧
  (∀ (k0_h6 : k0_cond6 v12 = 1#1), ∀ a, (k0_off26 i v1 v2) a + S1x1x1024x512.size a ≤ S2x1x7168x512.size a) ∧
  (∀ (k0_h6 : k0_cond6 v12 = 1#1), ∀ a, (k0_off27 i v1 v2) a + S1x1x1024x512.size a ≤ S2x1x7168x512.size a) ∧
  (∀ (k0_h6 : k0_cond6 v12 = 1#1), ∀ a, (k0_off28 i v1 v2) a + S1x1x1024x512.size a ≤ S2x1x7168x512.size a) ∧
  (∀ (k0_h6 : k0_cond6 v12 = 1#1), ∀ a, (k0_off29 i v1 v2) a + S1x1x1024x512.size a ≤ S2x1x7168x512.size a) ∧
  (∀ (k0_h6 : k0_cond6 v12 = 1#1), ∀ a, (k0_off30 i v1 v2) a + S1x1x1024x512.size a ≤ S2x1x7168x512.size a) ∧
  (∀ (k0_h6 : k0_cond6 v12 = 1#1), ∀ a, (k0_off31 i v1 v2) a + S1x1x1024x512.size a ≤ S2x1x7168x512.size a) ∧
  (∀ (k0_h7 : k0_cond7 v12 = 1#1), ∀ a, (k0_off32 i v1 v2) a + S1x1x1024x512.size a ≤ S2x1x7168x512.size a) ∧
  (∀ (k0_h7 : k0_cond7 v12 = 1#1), ∀ a, (k0_off33 i v1 v2) a + S1x1x1024x512.size a ≤ S2x1x7168x512.size a) ∧
  (∀ (k0_h7 : k0_cond7 v12 = 1#1), ∀ a, (k0_off34 i v1 v2) a + S1x1x1024x512.size a ≤ S2x1x7168x512.size a) ∧
  (∀ (k0_h7 : k0_cond7 v12 = 1#1), ∀ a, (k0_off35 i v1 v2) a + S1x1x1024x512.size a ≤ S2x1x7168x512.size a) ∧
  (∀ (k0_h7 : k0_cond7 v12 = 1#1), ∀ a, (k0_off36 i v1 v2) a + S1x1x1024x512.size a ≤ S2x1x7168x512.size a) ∧
  (∀ (k0_h7 : k0_cond7 v12 = 1#1), ∀ a, (k0_off37 i v1 v2) a + S1x1x1024x512.size a ≤ S2x1x7168x512.size a) ∧
  (∀ (k0_h7 : k0_cond7 v12 = 1#1), ∀ a, (k0_off38 i v1 v2) a + S1x1x1024x512.size a ≤ S2x1x7168x512.size a) ∧
  (∀ (k0_h8 : k0_cond8 v12 = 1#1), ∀ a, (k0_off39 i v1 v2) a + S1x1x1024x512.size a ≤ S2x1x7168x512.size a) ∧
  (∀ (k0_h8 : k0_cond8 v12 = 1#1), ∀ a, (k0_off40 i v1 v2) a + S1x1x1024x512.size a ≤ S2x1x7168x512.size a) ∧
  (∀ (k0_h8 : k0_cond8 v12 = 1#1), ∀ a, (k0_off41 i v1 v2) a + S1x1x1024x512.size a ≤ S2x1x7168x512.size a) ∧
  (∀ (k0_h8 : k0_cond8 v12 = 1#1), ∀ a, (k0_off42 i v1 v2) a + S1x1x1024x512.size a ≤ S2x1x7168x512.size a) ∧
  (∀ (k0_h8 : k0_cond8 v12 = 1#1), ∀ a, (k0_off43 i v1 v2) a + S1x1x1024x512.size a ≤ S2x1x7168x512.size a) ∧
  (∀ (k0_h8 : k0_cond8 v12 = 1#1), ∀ a, (k0_off44 i v1 v2) a + S1x1x1024x512.size a ≤ S2x1x7168x512.size a) ∧
  (∀ (k0_h8 : k0_cond8 v12 = 1#1), ∀ a, (k0_off45 i v1 v2) a + S1x1x1024x512.size a ≤ S2x1x7168x512.size a)
theorem k0_off18_inb : ∀ (i : grid0.Coords) (v1 : BitVec 32) (v2 : BitVec 32) (v12 : BitVec 32) (k0_hw6 : k0_chk6 i v1 v2 v12), ∀ (k0_h5 : k0_cond5 v12 = 1#1), ∀ a, (k0_off18 i v1 v2) a + S1x1x1024x512.size a ≤ S2x1x7168x512.size a := fun i v1 v2 v12 k0_hw6 k0_h5 => k0_hw6.1 k0_h5
theorem k0_off19_inb : ∀ (i : grid0.Coords) (v1 : BitVec 32) (v2 : BitVec 32) (v12 : BitVec 32) (k0_hw6 : k0_chk6 i v1 v2 v12), ∀ (k0_h5 : k0_cond5 v12 = 1#1), ∀ a, (k0_off19 i v1 v2) a + S1x1x1024x512.size a ≤ S2x1x7168x512.size a := fun i v1 v2 v12 k0_hw6 k0_h5 => k0_hw6.2.1 k0_h5
theorem k0_off20_inb : ∀ (i : grid0.Coords) (v1 : BitVec 32) (v2 : BitVec 32) (v12 : BitVec 32) (k0_hw6 : k0_chk6 i v1 v2 v12), ∀ (k0_h5 : k0_cond5 v12 = 1#1), ∀ a, (k0_off20 i v1 v2) a + S1x1x1024x512.size a ≤ S2x1x7168x512.size a := fun i v1 v2 v12 k0_hw6 k0_h5 => k0_hw6.2.2.1 k0_h5
theorem k0_off21_inb : ∀ (i : grid0.Coords) (v1 : BitVec 32) (v2 : BitVec 32) (v12 : BitVec 32) (k0_hw6 : k0_chk6 i v1 v2 v12), ∀ (k0_h5 : k0_cond5 v12 = 1#1), ∀ a, (k0_off21 i v1 v2) a + S1x1x1024x512.size a ≤ S2x1x7168x512.size a := fun i v1 v2 v12 k0_hw6 k0_h5 => k0_hw6.2.2.2.1 k0_h5
theorem k0_off22_inb : ∀ (i : grid0.Coords) (v1 : BitVec 32) (v2 : BitVec 32) (v12 : BitVec 32) (k0_hw6 : k0_chk6 i v1 v2 v12), ∀ (k0_h5 : k0_cond5 v12 = 1#1), ∀ a, (k0_off22 i v1 v2) a + S1x1x1024x512.size a ≤ S2x1x7168x512.size a := fun i v1 v2 v12 k0_hw6 k0_h5 => k0_hw6.2.2.2.2.1 k0_h5
theorem k0_off23_inb : ∀ (i : grid0.Coords) (v1 : BitVec 32) (v2 : BitVec 32) (v12 : BitVec 32) (k0_hw6 : k0_chk6 i v1 v2 v12), ∀ (k0_h5 : k0_cond5 v12 = 1#1), ∀ a, (k0_off23 i v1 v2) a + S1x1x1024x512.size a ≤ S2x1x7168x512.size a := fun i v1 v2 v12 k0_hw6 k0_h5 => k0_hw6.2.2.2.2.2.1 k0_h5
theorem k0_off24_inb : ∀ (i : grid0.Coords) (v1 : BitVec 32) (v2 : BitVec 32) (v12 : BitVec 32) (k0_hw6 : k0_chk6 i v1 v2 v12), ∀ (k0_h5 : k0_cond5 v12 = 1#1), ∀ a, (k0_off24 i v1 v2) a + S1x1x1024x512.size a ≤ S2x1x7168x512.size a := fun i v1 v2 v12 k0_hw6 k0_h5 => k0_hw6.2.2.2.2.2.2.1 k0_h5
theorem k0_off25_inb : ∀ (i : grid0.Coords) (v1 : BitVec 32) (v2 : BitVec 32) (v12 : BitVec 32) (k0_hw6 : k0_chk6 i v1 v2 v12), ∀ (k0_h6 : k0_cond6 v12 = 1#1), ∀ a, (k0_off25 i v1 v2) a + S1x1x1024x512.size a ≤ S2x1x7168x512.size a := fun i v1 v2 v12 k0_hw6 k0_h6 => k0_hw6.2.2.2.2.2.2.2.1 k0_h6
theorem k0_off26_inb : ∀ (i : grid0.Coords) (v1 : BitVec 32) (v2 : BitVec 32) (v12 : BitVec 32) (k0_hw6 : k0_chk6 i v1 v2 v12), ∀ (k0_h6 : k0_cond6 v12 = 1#1), ∀ a, (k0_off26 i v1 v2) a + S1x1x1024x512.size a ≤ S2x1x7168x512.size a := fun i v1 v2 v12 k0_hw6 k0_h6 => k0_hw6.2.2.2.2.2.2.2.2.1 k0_h6
theorem k0_off27_inb : ∀ (i : grid0.Coords) (v1 : BitVec 32) (v2 : BitVec 32) (v12 : BitVec 32) (k0_hw6 : k0_chk6 i v1 v2 v12), ∀ (k0_h6 : k0_cond6 v12 = 1#1), ∀ a, (k0_off27 i v1 v2) a + S1x1x1024x512.size a ≤ S2x1x7168x512.size a := fun i v1 v2 v12 k0_hw6 k0_h6 => k0_hw6.2.2.2.2.2.2.2.2.2.1 k0_h6
theorem k0_off28_inb : ∀ (i : grid0.Coords) (v1 : BitVec 32) (v2 : BitVec 32) (v12 : BitVec 32) (k0_hw6 : k0_chk6 i v1 v2 v12), ∀ (k0_h6 : k0_cond6 v12 = 1#1), ∀ a, (k0_off28 i v1 v2) a + S1x1x1024x512.size a ≤ S2x1x7168x512.size a := fun i v1 v2 v12 k0_hw6 k0_h6 => k0_hw6.2.2.2.2.2.2.2.2.2.2.1 k0_h6
theorem k0_off29_inb : ∀ (i : grid0.Coords) (v1 : BitVec 32) (v2 : BitVec 32) (v12 : BitVec 32) (k0_hw6 : k0_chk6 i v1 v2 v12), ∀ (k0_h6 : k0_cond6 v12 = 1#1), ∀ a, (k0_off29 i v1 v2) a + S1x1x1024x512.size a ≤ S2x1x7168x512.size a := fun i v1 v2 v12 k0_hw6 k0_h6 => k0_hw6.2.2.2.2.2.2.2.2.2.2.2.1 k0_h6
theorem k0_off30_inb : ∀ (i : grid0.Coords) (v1 : BitVec 32) (v2 : BitVec 32) (v12 : BitVec 32) (k0_hw6 : k0_chk6 i v1 v2 v12), ∀ (k0_h6 : k0_cond6 v12 = 1#1), ∀ a, (k0_off30 i v1 v2) a + S1x1x1024x512.size a ≤ S2x1x7168x512.size a := fun i v1 v2 v12 k0_hw6 k0_h6 => k0_hw6.2.2.2.2.2.2.2.2.2.2.2.2.1 k0_h6
theorem k0_off31_inb : ∀ (i : grid0.Coords) (v1 : BitVec 32) (v2 : BitVec 32) (v12 : BitVec 32) (k0_hw6 : k0_chk6 i v1 v2 v12), ∀ (k0_h6 : k0_cond6 v12 = 1#1), ∀ a, (k0_off31 i v1 v2) a + S1x1x1024x512.size a ≤ S2x1x7168x512.size a := fun i v1 v2 v12 k0_hw6 k0_h6 => k0_hw6.2.2.2.2.2.2.2.2.2.2.2.2.2.1 k0_h6
theorem k0_off32_inb : ∀ (i : grid0.Coords) (v1 : BitVec 32) (v2 : BitVec 32) (v12 : BitVec 32) (k0_hw6 : k0_chk6 i v1 v2 v12), ∀ (k0_h7 : k0_cond7 v12 = 1#1), ∀ a, (k0_off32 i v1 v2) a + S1x1x1024x512.size a ≤ S2x1x7168x512.size a := fun i v1 v2 v12 k0_hw6 k0_h7 => k0_hw6.2.2.2.2.2.2.2.2.2.2.2.2.2.2.1 k0_h7
theorem k0_off33_inb : ∀ (i : grid0.Coords) (v1 : BitVec 32) (v2 : BitVec 32) (v12 : BitVec 32) (k0_hw6 : k0_chk6 i v1 v2 v12), ∀ (k0_h7 : k0_cond7 v12 = 1#1), ∀ a, (k0_off33 i v1 v2) a + S1x1x1024x512.size a ≤ S2x1x7168x512.size a := fun i v1 v2 v12 k0_hw6 k0_h7 => k0_hw6.2.2.2.2.2.2.2.2.2.2.2.2.2.2.2.1 k0_h7
theorem k0_off34_inb : ∀ (i : grid0.Coords) (v1 : BitVec 32) (v2 : BitVec 32) (v12 : BitVec 32) (k0_hw6 : k0_chk6 i v1 v2 v12), ∀ (k0_h7 : k0_cond7 v12 = 1#1), ∀ a, (k0_off34 i v1 v2) a + S1x1x1024x512.size a ≤ S2x1x7168x512.size a := fun i v1 v2 v12 k0_hw6 k0_h7 => k0_hw6.2.2.2.2.2.2.2.2.2.2.2.2.2.2.2.2.1 k0_h7
theorem k0_off35_inb : ∀ (i : grid0.Coords) (v1 : BitVec 32) (v2 : BitVec 32) (v12 : BitVec 32) (k0_hw6 : k0_chk6 i v1 v2 v12), ∀ (k0_h7 : k0_cond7 v12 = 1#1), ∀ a, (k0_off35 i v1 v2) a + S1x1x1024x512.size a ≤ S2x1x7168x512.size a := fun i v1 v2 v12 k0_hw6 k0_h7 => k0_hw6.2.2.2.2.2.2.2.2.2.2.2.2.2.2.2.2.2.1 k0_h7
theorem k0_off36_inb : ∀ (i : grid0.Coords) (v1 : BitVec 32) (v2 : BitVec 32) (v12 : BitVec 32) (k0_hw6 : k0_chk6 i v1 v2 v12), ∀ (k0_h7 : k0_cond7 v12 = 1#1), ∀ a, (k0_off36 i v1 v2) a + S1x1x1024x512.size a ≤ S2x1x7168x512.size a := fun i v1 v2 v12 k0_hw6 k0_h7 => k0_hw6.2.2.2.2.2.2.2.2.2.2.2.2.2.2.2.2.2.2.1 k0_h7
theorem k0_off37_inb : ∀ (i : grid0.Coords) (v1 : BitVec 32) (v2 : BitVec 32) (v12 : BitVec 32) (k0_hw6 : k0_chk6 i v1 v2 v12), ∀ (k0_h7 : k0_cond7 v12 = 1#1), ∀ a, (k0_off37 i v1 v2) a + S1x1x1024x512.size a ≤ S2x1x7168x512.size a := fun i v1 v2 v12 k0_hw6 k0_h7 => k0_hw6.2.2.2.2.2.2.2.2.2.2.2.2.2.2.2.2.2.2.2.1 k0_h7
theorem k0_off38_inb : ∀ (i : grid0.Coords) (v1 : BitVec 32) (v2 : BitVec 32) (v12 : BitVec 32) (k0_hw6 : k0_chk6 i v1 v2 v12), ∀ (k0_h7 : k0_cond7 v12 = 1#1), ∀ a, (k0_off38 i v1 v2) a + S1x1x1024x512.size a ≤ S2x1x7168x512.size a := fun i v1 v2 v12 k0_hw6 k0_h7 => k0_hw6.2.2.2.2.2.2.2.2.2.2.2.2.2.2.2.2.2.2.2.2.1 k0_h7
theorem k0_off39_inb : ∀ (i : grid0.Coords) (v1 : BitVec 32) (v2 : BitVec 32) (v12 : BitVec 32) (k0_hw6 : k0_chk6 i v1 v2 v12), ∀ (k0_h8 : k0_cond8 v12 = 1#1), ∀ a, (k0_off39 i v1 v2) a + S1x1x1024x512.size a ≤ S2x1x7168x512.size a := fun i v1 v2 v12 k0_hw6 k0_h8 => k0_hw6.2.2.2.2.2.2.2.2.2.2.2.2.2.2.2.2.2.2.2.2.2.1 k0_h8
theorem k0_off40_inb : ∀ (i : grid0.Coords) (v1 : BitVec 32) (v2 : BitVec 32) (v12 : BitVec 32) (k0_hw6 : k0_chk6 i v1 v2 v12), ∀ (k0_h8 : k0_cond8 v12 = 1#1), ∀ a, (k0_off40 i v1 v2) a + S1x1x1024x512.size a ≤ S2x1x7168x512.size a := fun i v1 v2 v12 k0_hw6 k0_h8 => k0_hw6.2.2.2.2.2.2.2.2.2.2.2.2.2.2.2.2.2.2.2.2.2.2.1 k0_h8
theorem k0_off41_inb : ∀ (i : grid0.Coords) (v1 : BitVec 32) (v2 : BitVec 32) (v12 : BitVec 32) (k0_hw6 : k0_chk6 i v1 v2 v12), ∀ (k0_h8 : k0_cond8 v12 = 1#1), ∀ a, (k0_off41 i v1 v2) a + S1x1x1024x512.size a ≤ S2x1x7168x512.size a := fun i v1 v2 v12 k0_hw6 k0_h8 => k0_hw6.2.2.2.2.2.2.2.2.2.2.2.2.2.2.2.2.2.2.2.2.2.2.2.1 k0_h8
theorem k0_off42_inb : ∀ (i : grid0.Coords) (v1 : BitVec 32) (v2 : BitVec 32) (v12 : BitVec 32) (k0_hw6 : k0_chk6 i v1 v2 v12), ∀ (k0_h8 : k0_cond8 v12 = 1#1), ∀ a, (k0_off42 i v1 v2) a + S1x1x1024x512.size a ≤ S2x1x7168x512.size a := fun i v1 v2 v12 k0_hw6 k0_h8 => k0_hw6.2.2.2.2.2.2.2.2.2.2.2.2.2.2.2.2.2.2.2.2.2.2.2.2.1 k0_h8
theorem k0_off43_inb : ∀ (i : grid0.Coords) (v1 : BitVec 32) (v2 : BitVec 32) (v12 : BitVec 32) (k0_hw6 : k0_chk6 i v1 v2 v12), ∀ (k0_h8 : k0_cond8 v12 = 1#1), ∀ a, (k0_off43 i v1 v2) a + S1x1x1024x512.size a ≤ S2x1x7168x512.size a := fun i v1 v2 v12 k0_hw6 k0_h8 => k0_hw6.2.2.2.2.2.2.2.2.2.2.2.2.2.2.2.2.2.2.2.2.2.2.2.2.2.1 k0_h8
theorem k0_off44_inb : ∀ (i : grid0.Coords) (v1 : BitVec 32) (v2 : BitVec 32) (v12 : BitVec 32) (k0_hw6 : k0_chk6 i v1 v2 v12), ∀ (k0_h8 : k0_cond8 v12 = 1#1), ∀ a, (k0_off44 i v1 v2) a + S1x1x1024x512.size a ≤ S2x1x7168x512.size a := fun i v1 v2 v12 k0_hw6 k0_h8 => k0_hw6.2.2.2.2.2.2.2.2.2.2.2.2.2.2.2.2.2.2.2.2.2.2.2.2.2.2.1 k0_h8
theorem k0_off45_inb : ∀ (i : grid0.Coords) (v1 : BitVec 32) (v2 : BitVec 32) (v12 : BitVec 32) (k0_hw6 : k0_chk6 i v1 v2 v12), ∀ (k0_h8 : k0_cond8 v12 = 1#1), ∀ a, (k0_off45 i v1 v2) a + S1x1x1024x512.size a ≤ S2x1x7168x512.size a := fun i v1 v2 v12 k0_hw6 k0_h8 => k0_hw6.2.2.2.2.2.2.2.2.2.2.2.2.2.2.2.2.2.2.2.2.2.2.2.2.2.2.2 k0_h8

def k0_cond9 (v12 : BitVec 32) : BitVec 1 :=
  let c0_i32_8 : BitVec 32 := 0#32
  let v33 : BitVec 1 := Scalar.cmpi .eq v12 c0_i32_8
  let v34 : BitVec 32 := Scalar.extui v33
  let c0_i32_9 : BitVec 32 := 0#32
  let v35 : BitVec 1 := Scalar.cmpi .ne v34 c0_i32_9
  v35

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== MoeDownReferenceIdeal.lean ====
abbrev S40 : Shape := ⟨1, ![40]⟩
abbrev S1 : Shape := ⟨1, ![1]⟩
abbrev S20480x7168 : Shape := ⟨2, ![20480, 7168]⟩
abbrev S1x8x7168x2048 : Shape := ⟨4, ![1, 8, 7168, 2048]⟩
abbrev S40x1 : Shape := ⟨2, ![40, 1]⟩
abbrev S40x512 : Shape := ⟨2, ![40, 512]⟩
abbrev S20480 : Shape := ⟨1, ![20480]⟩
abbrev S40x4x128 : Shape := ⟨3, ![40, 4, 128]⟩
abbrev S_ : Shape := ⟨0, ![]⟩
abbrev S40x1x1 : Shape := ⟨3, ![40, 1, 1]⟩
abbrev S20480x2048 : Shape := ⟨2, ![20480, 2048]⟩
abbrev S20480x1 : Shape := ⟨2, ![20480, 1]⟩
abbrev S1x1x7168x2048 : Shape := ⟨4, ![1, 1, 7168, 2048]⟩
abbrev S7168x2048 : Shape := ⟨2, ![7168, 2048]⟩

abbrev nBuf : Space → Nat
  | .hbm => 101
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40, .i32⟩
  | .hbm, ⟨3, _⟩ => ⟨S40, .i32⟩
  | .hbm, ⟨4, _⟩ => ⟨S40, .i32⟩
  | .hbm, ⟨5, _⟩ => ⟨S40, .i32⟩
  | .hbm, ⟨6, _⟩ => ⟨S1, .i32⟩
  | .hbm, ⟨7, _⟩ => ⟨S20480x7168, .bf16⟩
  | .hbm, ⟨8, _⟩ => ⟨S1x8x7168x2048, .f32⟩
  | .hbm, ⟨9, _⟩ => ⟨S20480x7168, .f32⟩
  | .hbm, ⟨10, _⟩ => ⟨S40x1, .i32⟩
  | .hbm, ⟨11, _⟩ => ⟨S40x512, .i32⟩
  | .hbm, ⟨12, _⟩ => ⟨S20480, .i32⟩
  | .hbm, ⟨13, _⟩ => ⟨S40x4x128, .i32⟩
  | .hbm, ⟨14, _⟩ => ⟨S_, .i32⟩
  | .hbm, ⟨15, _⟩ => ⟨S40x4x128, .i32⟩
  | .hbm, ⟨16, _⟩ => ⟨S40x4x128, .i32⟩
  | .hbm, ⟨17, _⟩ => ⟨S40x1x1, .i32⟩
  | .hbm, ⟨18, _⟩ => ⟨S40x4x128, .i32⟩
  | .hbm, ⟨19, _⟩ => ⟨S40x4x128, .i1⟩
  | .hbm, ⟨20, _⟩ => ⟨S20480, .i1⟩
  | .hbm, ⟨21, _⟩ => ⟨S_, .f32⟩
  | .hbm, ⟨22, _⟩ => ⟨S20480x2048, .f32⟩
  | .hbm, ⟨23, _⟩ => ⟨S_, .i32⟩
  | .hbm, ⟨24, _⟩ => ⟨S20480, .i32⟩
  | .hbm, ⟨25, _⟩ => ⟨S20480, .i1⟩
  | .hbm, ⟨26, _⟩ => ⟨S20480x1, .i1⟩
  | .hbm, ⟨27, _⟩ => ⟨S1x1x7168x2048, .f32⟩
  | .hbm, ⟨28, _⟩ => ⟨S7168x2048, .f32⟩
  | .hbm, ⟨29, _⟩ => ⟨S20480x2048, .f32⟩
  | .hbm, ⟨30, _⟩ => ⟨S20480x2048, .i1⟩
  | .hbm, ⟨31, _⟩ => ⟨S20480x2048, .f32⟩
  | .hbm, ⟨32, _⟩ => ⟨S_, .i32⟩
  | .hbm, ⟨33, _⟩ => ⟨S20480, .i32⟩
  | .hbm, ⟨34, _⟩ => ⟨S20480, .i1⟩
  | .hbm, ⟨35, _⟩ => ⟨S20480x1, .i1⟩
  | .hbm, ⟨36, _⟩ => ⟨S1x1x7168x2048, .f32⟩
  | .hbm, ⟨37, _⟩ => ⟨S7168x2048, .f32⟩
  | .hbm, ⟨38, _⟩ => ⟨S20480x2048, .f32⟩
  | .hbm, ⟨39, _⟩ => ⟨S20480x2048, .i1⟩
  | .hbm, ⟨40, _⟩ => ⟨S20480x2048, .f32⟩
  | .hbm, ⟨41, _⟩ => ⟨S_, .i32⟩
  | .hbm, ⟨42, _⟩ => ⟨S20480, .i32⟩
  | .hbm, ⟨43, _⟩ => ⟨S20480, .i1⟩
  | .hbm, ⟨44, _⟩ => ⟨S20480x1, .i1⟩
  | .hbm, ⟨45, _⟩ => ⟨S1x1x7168x2048, .f32⟩
  | .hbm, ⟨46, _⟩ => ⟨S7168x2048, .f32⟩
  | .hbm, ⟨47, _⟩ => ⟨S20480x2048, .f32⟩
  | .hbm, ⟨48, _⟩ => ⟨S20480x2048, .i1⟩
  | .hbm, ⟨49, _⟩ => ⟨S20480x2048, .f32⟩
  | .hbm, ⟨50, _⟩ => ⟨S_, .i32⟩
  | .hbm, ⟨51, _⟩ => ⟨S20480, .i32⟩
  | .hbm, ⟨52, _⟩ => ⟨S20480, .i1⟩
  | .hbm, ⟨53, _⟩ => ⟨S20480x1, .i1⟩
  | .hbm, ⟨54, _⟩ => ⟨S1x1x7168x2048, .f32⟩
  | .hbm, ⟨55, _⟩ => ⟨S7168x2048, .f32⟩
  | .hbm, ⟨56, _⟩ => ⟨S20480x2048, .f32⟩
  | .hbm, ⟨57, _⟩ => ⟨S20480x2048, .i1⟩
  | .hbm, ⟨58, _⟩ => ⟨S20480x2048, .f32⟩
  | .hbm, ⟨59, _⟩ => ⟨S_, .i32⟩
  | .hbm, ⟨60, _⟩ => ⟨S20480, .i32⟩
  | .hbm, ⟨61, _⟩ => ⟨S20480, .i1⟩
  | .hbm, ⟨62, _⟩ => ⟨S20480x1, .i1⟩
  | .hbm, ⟨63, _⟩ => ⟨S1x1x7168x2048, .f32⟩
  | .hbm, ⟨64, _⟩ => ⟨S7168x2048, .f32⟩
  | .hbm, ⟨65, _⟩ => ⟨S20480x2048, .f32⟩
  | .hbm, ⟨66, _⟩ => ⟨S20480x2048, .i1⟩
  | .hbm, ⟨67, _⟩ => ⟨S20480x2048, .f32⟩
  | .hbm, ⟨68, _⟩ => ⟨S_, .i32⟩
  | .hbm, ⟨69, _⟩ => ⟨S20480, .i32⟩
  | .hbm, ⟨70, _⟩ => ⟨S20480, .i1⟩
  | .hbm, ⟨71, _⟩ => ⟨S20480x1, .i1⟩
  | .hbm, ⟨72, _⟩ => ⟨S1x1x7168x2048, .f32⟩
  | .hbm, ⟨73, _⟩ => ⟨S7168x2048, .f32⟩
  | .hbm, ⟨74, _⟩ => ⟨S20480x2048, .f32⟩
  | .hbm, ⟨75, _⟩ => ⟨S20480x2048, .i1⟩
  | .hbm, ⟨76, _⟩ => ⟨S20480x2048, .f32⟩
  | .hbm, ⟨77, _⟩ => ⟨S_, .i32⟩
  | .hbm, ⟨78, _⟩ => ⟨S20480, .i32⟩
  | .hbm, ⟨79, _⟩ => ⟨S20480, .i1⟩
  | .hbm, ⟨80, _⟩ => ⟨S20480x1, .i1⟩
  | .hbm, ⟨81, _⟩ => ⟨S1x1x7168x2048, .f32⟩
  | .hbm, ⟨82, _⟩ => ⟨S7168x2048, .f32⟩
  | .hbm, ⟨83, _⟩ => ⟨S20480x2048, .f32⟩
  | .hbm, ⟨84, _⟩ => ⟨S20480x2048, .i1⟩
  | .hbm, ⟨85, _⟩ => ⟨S20480x2048, .f32⟩
  | .hbm, ⟨86, _⟩ => ⟨S_, .i32⟩
  | .hbm, ⟨87, _⟩ => ⟨S20480, .i32⟩
  | .hbm, ⟨88, _⟩ => ⟨S20480, .i1⟩
  | .hbm, ⟨89, _⟩ => ⟨S20480x1, .i1⟩
  | .hbm, ⟨90, _⟩ => ⟨S1x1x7168x2048, .f32⟩
  | .hbm, ⟨91, _⟩ => ⟨S7168x2048, .f32⟩
  | .hbm, ⟨92, _⟩ => ⟨S20480x2048, .f32⟩
  | .hbm, ⟨93, _⟩ => ⟨S20480x2048, .i1⟩
  | .hbm, ⟨94, _⟩ => ⟨S20480x2048, .f32⟩
  | .hbm, ⟨95, _⟩ => ⟨S20480x1, .i1⟩
  | .hbm, ⟨96, _⟩ => ⟨S_, .f32⟩
  | .hbm, ⟨97, _⟩ => ⟨S_, .f32⟩
  | .hbm, ⟨98, _⟩ => ⟨S20480x2048, .i1⟩
  | .hbm, ⟨99, _⟩ => ⟨S20480x2048, .f32⟩
  | .hbm, ⟨100, _⟩ => ⟨S20480x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call2_v0 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call3_v0 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call4_v0 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call5_v0 : Ref sig .tc := ⟨.hbm, 75, rfl⟩
abbrev main_v53 : Ref sig .tc := ⟨.hbm, 76, rfl⟩
abbrev main_c_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call6_v0 : Ref sig .tc := ⟨.hbm, 84, rfl⟩
abbrev main_v60 : Ref sig .tc := ⟨.hbm, 85, rfl⟩
abbrev main_c_7 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call7_v0 : Ref sig .tc := ⟨.hbm, 93, rfl⟩
abbrev main_v67 : Ref sig .tc := ⟨.hbm, 94, rfl⟩
abbrev main_v68 : Ref sig .tc := ⟨.hbm, 95, rfl⟩
abbrev main_cst_8 : Ref sig .tc := ⟨.hbm, 96, rfl⟩
abbrev main_call8_v0 : Ref sig .tc := ⟨.hbm, 97, rfl⟩
abbrev main_call8_v1 : Ref sig .tc := ⟨.hbm, 98, rfl⟩
abbrev main_call8_v2 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== MemKV.lean ====
abbrev S1024x2048 : Shape := ⟨2, ![1024, 2048]⟩
abbrev S2x2048x1536 : Shape := ⟨3, ![2, 2048, 1536]⟩
abbrev S1024x1536 : Shape := ⟨2, ![1024, 1536]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2x2048x1536, .f32⟩
  | .hbm, ⟨2, _⟩ => ⟨S1024x1536, .bf16⟩
  | .local _ .vmem, ⟨0, _⟩ => ⟨S1024x2048, .bf16⟩
  | .local _ .vmem, ⟨1, _⟩ => ⟨S1x2048x768, .f32⟩
  | .local _ .vmem, ⟨2, _⟩ => ⟨S1x2048x768, .f32⟩
  | .local _ .vmem, ⟨3, _⟩ => ⟨S1024x768, .bf16⟩
  | .local _ .vmem, ⟨4, _⟩ => ⟨S1024x768, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKVReferenceIdeal.lean ====
abbrev S1024x2048 : Shape := ⟨2, ![1024, 2048]⟩
abbrev S2x2048x1536 : Shape := ⟨3, ![2, 2048, 1536]⟩
abbrev S1x2048x1536 : Shape := ⟨3, ![1, 2048, 1536]⟩
abbrev S2048x1536 : Shape := ⟨2, ![2048, 1536]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x1536, .f32⟩
  | .hbm, ⟨2, _⟩ => ⟨S1024x2048, .f32⟩
  | .hbm, ⟨3, _⟩ => ⟨S1x2048x1536, .f32⟩
  | .hbm, ⟨4, _⟩ => ⟨S2048x1536, .f32⟩
  | .hbm, ⟨5, _⟩ => ⟨S1024x1536, .f32⟩
  | .hbm, ⟨6, _⟩ => ⟨S1024x1536, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormMix.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMem.lean ====
abbrev S1024x2048 : Shape := ⟨2, ![1024, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048, .f32⟩
  | .hbm, ⟨3, _⟩ => ⟨S1024x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMemReferenceIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .f32⟩
  | .hbm, ⟨14, _⟩ => ⟨S1024x2048, .f32⟩
  | .hbm, ⟨15, _⟩ => ⟨S1x2048, .f32⟩
  | .hbm, ⟨16, _⟩ => ⟨S1024x2048, .f32⟩
  | .hbm, ⟨17, _⟩ => ⟨S1024x2048, .f32⟩
  | .hbm, ⟨18, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Near.lean ====
abbrev S4x2048x6144 : Shape := ⟨3, ![4, 2048, 6144]⟩
abbrev S3x6x256x768 : Shape := ⟨4, ![3, 6, 256, 768]⟩
abbrev S4x2048x768 : Shape := ⟨3, ![4, 2048, 768]⟩
abbrev S1x256x768 : Shape := ⟨3, ![1, 256, 768]⟩
abbrev S1x2048x768 : Shape := ⟨3, ![1, 2048, 768]⟩
abbrev S1x6x256x768 : Shape := ⟨4, ![1, 6, 256, 768]⟩
abbrev S1x768x128 : Shape := ⟨3, ![1, 768, 128]⟩
abbrev S768x128 : Shape := ⟨2, ![768, 128]⟩
abbrev S1x256x128 : Shape := ⟨3, ![1, 256, 128]⟩
abbrev S256x128 : Shape := ⟨2, ![256, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩
abbrev S768x256 : Shape := ⟨2, ![768, 256]⟩
abbrev S256x256 : Shape := ⟨2, ![256, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x2048x6144, .bf16⟩
  | .hbm, ⟨1, _⟩ => ⟨S3x6x256x768, .f32⟩
  | .hbm, ⟨2, _⟩ => ⟨S4x2048x768, .bf16⟩
  | .local _ .vmem, ⟨0, _⟩ => ⟨S1x256x768, .bf16⟩
  | .local _ .vmem, ⟨1, _⟩ => ⟨S1x256x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S1x6x256x768, .f32⟩
  | .local _ .vmem, ⟨7, _⟩ => ⟨S1x6x256x768, .f32⟩
  | .local _ .vmem, ⟨8, _⟩ => ⟨S1x256x768, .bf16⟩
  | .local _ .vmem, ⟨9, _⟩ => ⟨S1x256x768, .bf16⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 3 → Nat :=
  let c0 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v6 : Index := Scalar.indexCast v5
  let c0_1 : Index := 0#32
  ![0, v6.toNat, 0]
def k0_off2 (i : grid0.Coords) : Fin 3 → Nat :=
  let c0_18 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v36 : Index := Scalar.indexCast v5
  let c128 : Index := 128#32
  ![0, v36.toNat, 128]
def k0_off3 (i : grid0.Coords) : Fin 3 → Nat :=
  let c0_35 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v66 : Index := Scalar.indexCast v5
  let c256 : Index := 256#32
  ![0, v66.toNat, 256]
def k0_off4 (i : grid0.Coords) : Fin 3 → Nat :=
  let c0_52 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v96 : Index := Scalar.indexCast v5
  let c384 : Index := 384#32
  ![0, v96.toNat, 384]
def k0_off5 (i : grid0.Coords) : Fin 3 → Nat :=
  let c0_69 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v126 : Index := Scalar.indexCast v5
  let c512 : Index := 512#32
  ![0, v126.toNat, 512]
def k0_off6 (i : grid0.Coords) : Fin 3 → Nat :=
  let c0_86 : Index := 0#32
  let c20_i32 : BitVec 32 := 20#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v156 : Index := Scalar.indexCast v5
  let c640 : Index := 640#32
  ![0, v156.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c7_i32 : BitVec 32 := 7#32
  let v1 : BitVec 1 := Scalar.cmpi .eq arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NearReferenceIdeal.lean ====
abbrev S4x2048x6144 : Shape := ⟨3, ![4, 2048, 6144]⟩
abbrev S3x6x256x768 : Shape := ⟨4, ![3, 6, 256, 768]⟩
abbrev S4x2048x768 : Shape := ⟨3, ![4, 2048, 768]⟩
abbrev S4x8x256x6x128 : Shape := ⟨5, ![4, 8, 256, 6, 128]⟩
abbrev S4x768x768 : Shape := ⟨3, ![4, 768, 768]⟩
abbrev S4x1x768x768 : Shape := ⟨4, ![4, 1, 768, 768]⟩
abbrev S4x8x768x768 : Shape := ⟨4, ![4, 8, 768, 768]⟩
abbrev S4x8x768x6x128 : Shape := ⟨5, ![4, 8, 768, 6, 128]⟩
abbrev S1x6x256x768 : Shape := ⟨4, ![1, 6, 256, 768]⟩
abbrev S6x256x768 : Shape := ⟨3, ![6, 256, 768]⟩
abbrev S8x6x256x768 : Shape := ⟨4, ![8, 6, 256, 768]⟩
abbrev S_ : Shape := ⟨0, ![]⟩
abbrev S4x8x6x256x768 : Shape := ⟨5, ![4, 8, 6, 256, 768]⟩
abbrev S1x8x6x256x768 : Shape := ⟨5, ![1, 8, 6, 256, 768]⟩
abbrev S4x8x6x256 : Shape := ⟨4, ![4, 8, 6, 256]⟩
abbrev S4x8x6x256x1 : Shape := ⟨5, ![4, 8, 6, 256, 1]⟩
abbrev S4x8x6x128x256 : Shape := ⟨5, ![4, 8, 6, 128, 256]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S3x6x256x768, .f32⟩
  | .hbm, ⟨2, _⟩ => ⟨S4x2048x6144, .f32⟩
  | .hbm, ⟨3, _⟩ => ⟨S4x2048x768, .f32⟩
  | .hbm, ⟨4, _⟩ => ⟨S4x8x256x6x128, .f32⟩
  | .hbm, ⟨5, _⟩ => ⟨S4x2048x768, .f32⟩
  | .hbm, ⟨6, _⟩ => ⟨S4x768x768, .f32⟩
  | .hbm, ⟨7, _⟩ => ⟨S4x768x768, .f32⟩
  | .hbm, ⟨8, _⟩ => ⟨S4x768x768, .f32⟩
  | .hbm, ⟨9, _⟩ => ⟨S4x768x768, .f32⟩
  | .hbm, ⟨10, _⟩ => ⟨S4x768x768, .f32⟩
  | .hbm, ⟨11, _⟩ => ⟨S4x768x768, .f32⟩
  | .hbm, ⟨12, _⟩ => ⟨S4x768x768, .f32⟩
  | .hbm, ⟨13, _⟩ => ⟨S4x768x768, .f32⟩
  | .hbm, ⟨14, _⟩ => ⟨S4x1x768x768, .f32⟩
  | .hbm, ⟨15, _⟩ => ⟨S4x1x768x768, .f32⟩
  | .hbm, ⟨16, _⟩ => ⟨S4x1x768x768, .f32⟩
  | .hbm, ⟨17, _⟩ => ⟨S4x1x768x768, .f32⟩
  | .hbm, ⟨18, _⟩ => ⟨S4x1x768x768, .f32⟩
  | .hbm, ⟨19, _⟩ => ⟨S4x1x768x768, .f32⟩
  | .hbm, ⟨20, _⟩ => ⟨S4x1x768x768, .f32⟩
  | .hbm, ⟨21, _⟩ => ⟨S4x1x768x768, .f32⟩
  | .hbm, ⟨22, _⟩ => ⟨S4x8x768x768, .f32⟩
  | .hbm, ⟨23, _⟩ => ⟨S4x8x768x6x128, .f32⟩
  | .hbm, ⟨24, _⟩ => ⟨S4x2048x768, .f32⟩
  | .hbm, ⟨25, _⟩ => ⟨S4x768x768, .f32⟩
  | .hbm, ⟨26, _⟩ => ⟨S4x768x768, .f32⟩
  | .hbm, ⟨27, _⟩ => ⟨S4x768x768, .f32⟩
  | .hbm, ⟨28, _⟩ => ⟨S4x768x768, .f32⟩
  | .hbm, ⟨29, _⟩ => ⟨S4x768x768, .f32⟩
  | .hbm, ⟨30, _⟩ => ⟨S4x768x768, .f32⟩
  | .hbm, ⟨31, _⟩ => ⟨S4x768x768, .f32⟩
  | .hbm, ⟨32, _⟩ => ⟨S4x768x768, .f32⟩
  | .hbm, ⟨33, _⟩ => ⟨S4x1x768x768, .f32⟩
  | .hbm, ⟨34, _⟩ => ⟨S4x1x768x768, .f32⟩
  | .hbm, ⟨35, _⟩ => ⟨S4x1x768x768, .f32⟩
  | .hbm, ⟨36, _⟩ => ⟨S4x1x768x768, .f32⟩
  | .hbm, ⟨37, _⟩ => ⟨S4x1x768x768, .f32⟩
  | .hbm, ⟨38, _⟩ => ⟨S4x1x768x768, .f32⟩
  | .hbm, ⟨39, _⟩ => ⟨S4x1x768x768, .f32⟩
  | .hbm, ⟨40, _⟩ => ⟨S4x1x768x768, .f32⟩
  | .hbm, ⟨41, _⟩ => ⟨S4x8x768x768, .f32⟩
  | .hbm, ⟨42, _⟩ => ⟨S4x8x768x6x128, .f32⟩
  | .hbm, ⟨43, _⟩ => ⟨S1x6x256x768, .f32⟩
  | .hbm, ⟨44, _⟩ => ⟨S6x256x768, .f32⟩
  | .hbm, ⟨45, _⟩ => ⟨S1x6x256x768, .f32⟩
  | .hbm, ⟨46, _⟩ => ⟨S6x256x768, .f32⟩
  | .hbm, ⟨47, _⟩ => ⟨S1x6x256x768, .f32⟩
  | .hbm, ⟨48, _⟩ => ⟨S6x256x768, .f32⟩
  | .hbm, ⟨49, _⟩ => ⟨S1x6x256x768, .f32⟩
  | .hbm, ⟨50, _⟩ => ⟨S1x6x256x768, .f32⟩
  | .hbm, ⟨51, _⟩ => ⟨S1x6x256x768, .f32⟩
  | .hbm, ⟨52, _⟩ => ⟨S1x6x256x768, .f32⟩
  | .hbm, ⟨53, _⟩ => ⟨S1x6x256x768, .f32⟩
  | .hbm, ⟨54, _⟩ => ⟨S1x6x256x768, .f32⟩
  | .hbm, ⟨55, _⟩ => ⟨S1x6x256x768, .f32⟩
  | .hbm, ⟨56, _⟩ => ⟨S1x6x256x768, .f32⟩
  | .hbm, ⟨57, _⟩ => ⟨S8x6x256x768, .f32⟩
  | .hbm, ⟨58, _⟩ => ⟨S_, .f32⟩
  | .hbm, ⟨59, _⟩ => ⟨S4x8x256x6x128, .f32⟩
  | .hbm, ⟨60, _⟩ => ⟨S4x8x256x6x128, .f32⟩
  | .hbm, ⟨61, _⟩ => ⟨S4x8x6x256x768, .f32⟩
  | .hbm, ⟨62, _⟩ => ⟨S1x8x6x256x768, .f32⟩
  | .hbm, ⟨63, _⟩ => ⟨S4x8x6x256x768, .f32⟩
  | .hbm, ⟨64, _⟩ => ⟨S4x8x6x256x768, .f32⟩
  | .hbm, ⟨65, _⟩ => ⟨S_, .f32⟩
  | .hbm, ⟨66, _⟩ => ⟨S4x8x6x256, .f32⟩
  | .hbm, ⟨67, _⟩ => ⟨S_, .f32⟩
  | .hbm, ⟨68, _⟩ => ⟨S4x8x6x256, .f32⟩
  | .hbm, ⟨69, _⟩ => ⟨S4x8x6x256, .f32⟩
  | .hbm, ⟨70, _⟩ => ⟨S4x8x6x256x1, .f32⟩
  | .hbm, ⟨71, _⟩ => ⟨S4x8x6x256x768, .f32⟩
  | .hbm, ⟨72, _⟩ => ⟨S4x8x6x256x768, .f32⟩
  | .hbm, ⟨73, _⟩ => ⟨S4x8x6x256x768, .f32⟩
  | .hbm, ⟨74, _⟩ => ⟨S_, .f32⟩
  | .hbm, ⟨75, _⟩ => ⟨S4x8x6x256, .f32⟩
  | .hbm, ⟨76, _⟩ => ⟨S4x8x6x256x1, .f32⟩
  | .hbm, ⟨77, _⟩ => ⟨S4x8x6x256x768, .f32⟩
  | .hbm, ⟨78, _⟩ => ⟨S4x8x6x256x768, .f32⟩
  | .hbm, ⟨79, _⟩ => ⟨S4x8x6x128x256, .f32⟩
  | .hbm, ⟨80, _⟩ => ⟨S4x8x256x6x128, .f32⟩
  | .hbm, ⟨81, _⟩ => ⟨S4x2048x768, .f32⟩
  | .hbm, ⟨82, _⟩ => ⟨S4x2048x768, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_cst : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_cst_0 : Ref sig .tc := ⟨.hbm, 65, rfl⟩
abbrev main_v62 : Ref sig .tc := ⟨.hbm, 66, rfl⟩
abbrev main_cst_1 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_cst_2 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩

abbrev nD : Nat := 1
abbrev τ : Topo := Topo.v7x

variable {F : FTy → Type} [FloatOps F]
-- ==== Fourier.lean ====
abbrev S4x2048x6144 : Shape := ⟨3, ![4, 2048, 6144]⟩
abbrev S128x256 : Shape := ⟨2, ![128, 256]⟩
abbrev S1024 : Shape := ⟨1, ![1024]⟩
abbrev S1024x2048 : Shape := ⟨2, ![1024, 2048]⟩
abbrev S1024x1 : Shape := ⟨2, ![1024, 1]⟩
abbrev S1024x128 : Shape := ⟨2, ![1024, 128]⟩
abbrev S4x2048x768 : Shape := ⟨3, ![4, 2048, 768]⟩
abbrev S1x2048x768 : Shape := ⟨3, ![1, 2048, 768]⟩
abbrev S512x2048 : Shape := ⟨2, ![512, 2048]⟩
abbrev S1x1024x768 : Shape := ⟨3, ![1, 1024, 768]⟩
abbrev S2048x768 : Shape := ⟨2, ![2048, 768]⟩
abbrev S6x1024x128 : Shape := ⟨3, ![6, 1024, 128]⟩
abbrev S1x2048x128 : Shape := ⟨3, ![1, 2048, 128]⟩
abbrev S2048x128 : Shape := ⟨2, ![2048, 128]⟩
abbrev S2048x256 : Shape := ⟨2, ![2048, 256]⟩
abbrev S1024x256 : Shape := ⟨2, ![1024, 256]⟩
abbrev S512x768 : Shape := ⟨2, ![512, 768]⟩
abbrev S512x128 : Shape := ⟨2, ![512, 128]⟩
abbrev S1x512x128 : Shape := ⟨3, ![1, 512, 128]⟩
abbrev S1x1024x128 : Shape := ⟨3, ![1, 1024, 128]⟩

abbrev nBuf : Space → Nat
  | .hbm => 10
  | .vmem => 12
  | .smem => 0
  | _ => 0

abbrev bufTy : (tb : Table) → Fin (tcTables nBuf tb) → BufTy
  | .hbm, ⟨0, _⟩ => ⟨S4x2048x6144, .bf16⟩
  | .hbm, ⟨1, _⟩ => ⟨S128x256, .bf16⟩
  | .hbm, ⟨2, _⟩ => ⟨S1024, .f32⟩
  | .hbm, ⟨3, _⟩ => ⟨S1024, .f32⟩
  | .hbm, ⟨4, _⟩ => ⟨S1024x2048, .bf16⟩
  | .hbm, ⟨5, _⟩ => ⟨S1024x1, .f32⟩
  | .hbm, ⟨6, _⟩ => ⟨S1024x128, .f32⟩
  | .hbm, ⟨7, _⟩ => ⟨S1024x1, .f32⟩
  | .hbm, ⟨8, _⟩ => ⟨S1024x128, .f32⟩
  | .hbm, ⟨9, _⟩ => ⟨S4x2048x768, .bf16⟩
  | .local _ .vmem, ⟨0, _⟩ => ⟨S1x2048x768, .bf16⟩
  | .local _ .vmem, ⟨1, _⟩ => ⟨S1x2048x768, .bf16⟩
  | .local _ .vmem, ⟨2, _⟩ => ⟨S128x256, .bf16⟩
  | .local _ .vmem, ⟨3, _⟩ => ⟨S1024x128, .f32⟩
  | .local _ .vmem, ⟨4, _⟩ => ⟨S1024x128, .f32⟩
  | .local _ .vmem, ⟨5, _⟩ => ⟨S512x2048, .bf16⟩
  | .local _ .vmem, ⟨6, _⟩ => ⟨S512x2048, .bf16⟩
  | .local _ .vmem, ⟨7, _⟩ => ⟨S1x1024x768, .bf16⟩
  | .local _ .vmem, ⟨8, _⟩ => ⟨S1x1024x768, .bf16⟩
  | .local _ .vmem, ⟨9, _⟩ => ⟨S2048x768, .bf16⟩
  | .local _ .vmem, ⟨10, _⟩ => ⟨S2048x768, .bf16⟩
  | .local _ .vmem, ⟨11, _⟩ => ⟨S6x1024x128, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FourierReferenceIdeal.lean ====
abbrev S4x2048x6144 : Shape := ⟨3, ![4, 2048, 6144]⟩
abbrev S128x256 : Shape := ⟨2, ![128, 256]⟩
abbrev S1024 : Shape := ⟨1, ![1024]⟩
abbrev S1024x2048 : Shape := ⟨2, ![1024, 2048]⟩
abbrev S4x2048x768 : Shape := ⟨3, ![4, 2048, 768]⟩
abbrev S4x2048x6x128 : Shape := ⟨4, ![4, 2048, 6, 128]⟩
abbrev S128x128 : Shape := ⟨2, ![128, 128]⟩
abbrev S1024x1024 : Shape := ⟨2, ![1024, 1024]⟩
abbrev S1x1024 : Shape := ⟨2, ![1, 1024]⟩
abbrev S1024x1x2048 : Shape := ⟨3, ![1024, 1, 2048]⟩
abbrev S1024x2x2048 : Shape := ⟨3, ![1024, 2, 2048]⟩
abbrev S2048x2048 : Shape := ⟨2, ![2048, 2048]⟩
abbrev S4x6x128x2048 : Shape := ⟨4, ![4, 6, 128, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x6144, .bf16⟩
  | .hbm, ⟨1, _⟩ => ⟨S128x256, .bf16⟩
  | .hbm, ⟨2, _⟩ => ⟨S1024, .f32⟩
  | .hbm, ⟨3, _⟩ => ⟨S1024, .f32⟩
  | .hbm, ⟨4, _⟩ => ⟨S1024x2048, .bf16⟩
  | .hbm, ⟨5, _⟩ => ⟨S4x2048x768, .bf16⟩
  | .hbm, ⟨6, _⟩ => ⟨S4x2048x768, .f32⟩
  | .hbm, ⟨7, _⟩ => ⟨S4x2048x6x128, .f32⟩
  | .hbm, ⟨8, _⟩ => ⟨S128x128, .bf16⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1x1024, .f32⟩
  | .hbm, ⟨25, _⟩ => ⟨S1024x1024, .f32⟩
  | .hbm, ⟨26, _⟩ => ⟨S1024x1024, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S4x2048x6x128, .f32⟩
  | .hbm, ⟨32, _⟩ => ⟨S4x2048x6x128, .f32⟩
  | .hbm, ⟨33, _⟩ => ⟨S1024x2048, .f32⟩
  | .hbm, ⟨34, _⟩ => ⟨S1024x1024, .f32⟩
  | .hbm, ⟨35, _⟩ => ⟨S1024x2048, .f32⟩
  | .hbm, ⟨36, _⟩ => ⟨S1024x1x2048, .f32⟩
  | .hbm, ⟨37, _⟩ => ⟨S1024x1x2048, .f32⟩
  | .hbm, ⟨38, _⟩ => ⟨S1024x2x2048, .f32⟩
  | .hbm, ⟨39, _⟩ => ⟨S2048x2048, .f32⟩
  | .hbm, ⟨40, _⟩ => ⟨S4x6x128x2048, .f32⟩
  | .hbm, ⟨41, _⟩ => ⟨S4x2048x6x128, .f32⟩
  | .hbm, ⟨42, _⟩ => ⟨S1024x2048, .f32⟩
  | .hbm, ⟨43, _⟩ => ⟨S1024x1024, .f32⟩
  | .hbm, ⟨44, _⟩ => ⟨S1024x2048, .f32⟩
  | .hbm, ⟨45, _⟩ => ⟨S1024x1x2048, .f32⟩
  | .hbm, ⟨46, _⟩ => ⟨S1024x1x2048, .f32⟩
  | .hbm, ⟨47, _⟩ => ⟨S1024x2x2048, .f32⟩
  | .hbm, ⟨48, _⟩ => ⟨S2048x2048, .f32⟩
  | .hbm, ⟨49, _⟩ => ⟨S4x6x128x2048, .f32⟩
  | .hbm, ⟨50, _⟩ => ⟨S4x2048x6x128, .f32⟩
  | .hbm, ⟨51, _⟩ => ⟨S4x2048x6x128, .f32⟩
  | .hbm, ⟨52, _⟩ => ⟨S_, .f32⟩
  | .hbm, ⟨53, _⟩ => ⟨S4x2048x6x128, .f32⟩
  | .hbm, ⟨54, _⟩ => ⟨S4x2048x6x128, .f32⟩
  | .hbm, ⟨55, _⟩ => ⟨S4x2048x768, .f32⟩
  | .hbm, ⟨56, _⟩ => ⟨S4x2048x768, .bf16⟩
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩

abbrev nD : Nat := 1
abbrev τ : Topo := Topo.v7x

variable {F : FTy → Type} [FloatOps F]
-- ==== Proof.Softmax.lean ====
/- Extended-real facts about a softmax whose scores are finite: what the kernel does (sum the weighted values, sum the
   weights, divide once) equals what the reference does (divide each weight, then sum the weighted values). -/
module

public import Idealize.ShloMosaic.PureOps
public import Idealize.ShloMosaic.Lib.Pointwise

@[expose] public section

noncomputable section

namespace Cert.Softmax

open Idealize.ShloMosaic

/-- A finite extended real. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.sum {ι : Type*} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An extended real whose absolute value is below plus infinity is finite. -/
theorem Fin'.of_abs_lt {x : EReal} (h : max x (-x) < ⊤) : Fin' x := by
  induction x with
  | bot => simp at h
  | top => simp at h
  | coe r => exact ⟨r, rfl⟩

/-- Multiplying by a nonnegative real goes through a finite sum of any extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm,
      EReal.left_distrib_of_nonneg_of_ne_top (by exact_mod_cast hc) (EReal.coe_ne_top c), mul_comm, mul_comm (c : EReal)]

/-- The maximum of finitely many finite numbers, started from minus infinity, is finite as soon as there is one. -/
theorem Fin'.fold_max {n : ℕ} (hn : 0 < n) (s : Fin n → EReal) (h : ∀ i, Fin' (s i)) :
    Fin' (Finset.univ.fold max ⊥ s) := by
  have e : Finset.univ.fold max ⊥ s = Finset.univ.sup s := rfl
  rw [e]
  have hne : (Finset.univ : Finset (Fin n)).Nonempty := ⟨⟨0, hn⟩, Finset.mem_univ _⟩
  obtain ⟨i, -, hi⟩ := Finset.exists_mem_eq_sup Finset.univ hne s
  rw [hi]; exact h i

/-- The exponential of a difference of two finite numbers is a positive real. -/
theorem exp_sub {x y : EReal} (hx : Fin' x) (hy : Fin' y) : ∃ r : ℝ, 0 < r ∧ Ideal.exp (x - y) = (r : EReal) := by
  obtain ⟨a, rfl⟩ := hx; obtain ⟨b, rfl⟩ := hy
  refine ⟨Real.exp (a - b), Real.exp_pos _, ?_⟩
  rw [← EReal.coe_sub, Ideal.exp_coe]

/-- A sum of positive reals over a nonempty index set is a positive real. -/
theorem sum_pos_real {n : ℕ} (hn : 0 < n) (f : Fin n → EReal) (h : ∀ i, ∃ r : ℝ, 0 < r ∧ f i = (r : EReal)) :
    ∃ r : ℝ, 0 < r ∧ ∑ i, f i = (r : EReal) := by
  choose g hg hf using h
  refine ⟨∑ i, g i, ?_, ?_⟩
  · haveI : Nonempty (Fin n) := ⟨⟨0, hn⟩⟩
    exact Finset.sum_pos (fun i _ => hg i) Finset.univ_nonempty
  · rw [Finset.sum_congr rfl fun i _ => hf i]
    exact (map_sum (⟨⟨fun r : ℝ => (r : EReal), EReal.coe_zero⟩, EReal.coe_add⟩ : ℝ →+ EReal) g Finset.univ).symm

/-- One quotient of the two sums is the sum of the quotients: the weights are positive reals, the values any. -/
theorem quot_sum {n : ℕ} (hn : 0 < n) (w v : Fin n → EReal) (hw : ∀ i, ∃ r : ℝ, 0 < r ∧ w i = (r : EReal)) :
    Ideal.div (∑ i, w i * v i) (∑ i, w i) = ∑ i, v i * Ideal.div (w i) (∑ i, w i) := by
  obtain ⟨d, hd, e⟩ := sum_pos_real hn w hw
  rw [e, Ideal.div_coe hd.ne', sum_mul_real _ _ _ (by positivity)]
  refine Finset.sum_congr rfl fun i _ => ?_
  rw [Ideal.div_coe hd.ne', mul_comm (w i), mul_assoc]

/-- The softmax-weighted sum in its two forms, at finite scores. -/
theorem softmax {n : ℕ} (hn : 0 < n) (s v : Fin n → EReal) (hs : ∀ i, Fin' (s i)) :
    Ideal.div (∑ i, Ideal.exp (s i - Finset.univ.fold max ⊥ s) * v i) (∑ i, Ideal.exp (s i - Finset.univ.fold max ⊥ s))
      = ∑ i, v i * Ideal.div (Ideal.exp (s i - Finset.univ.fold max ⊥ s))
          (∑ i, Ideal.exp (s i - Finset.univ.fold max ⊥ s)) :=
  quot_sum hn _ v fun i => exp_sub (hs i) (Fin'.fold_max hn s hs)

/-- A sum over `N` lanes of a function that vanishes outside the `n` lanes from `lo` is the sum over those lanes. -/
theorem sum_window {N n : ℕ} (lo : ℕ) (h : lo + n ≤ N) (f : Fin N → EReal)
    (hf : ∀ d : Fin N, ¬ (lo ≤ d.val ∧ d.val < lo + n) → f d = 0) :
    ∑ d, f d = ∑ e : Fin n, f ⟨lo + e.val, by have := e.isLt; omega⟩ := by
  symm
  refine Fintype.sum_of_injective (fun e : Fin n => (⟨lo + e.val, by have := e.isLt; omega⟩ : Fin N)) ?_ _ f ?_ fun _ => rfl
  · intro a b hab
    have := congrArg Fin.val hab
    exact Fin.ext (by simpa using this)
  · intro d hd
    refine hf d fun ⟨h1, h2⟩ => hd ⟨⟨d.val - lo, by omega⟩, ?_⟩
    exact Fin.ext (by simp; omega)

end Cert.Softmax

end
-- ==== Proof.CrossPure.lean ====
/- What one grid point of the memory attention computes, read at an index. -/
module

public import proofs.«01_k».proof.Proof.Gen.CrossIdeal.Frame
public import proofs.«01_k».proof.Proof.Softmax
public import Idealize.ShloMosaic.Lib.Pointwise

@[expose] public section

set_option maxRecDepth 16384

noncomputable section

namespace Cert.CrossIdeal.Pure

open Idealize.ShloMosaic Idealize.ShloMosaic.TcCoe Cert.CrossIdeal Cert.CrossIdeal.Gen Cert.Softmax

/-- The lanes of a 256-lane window that belong to a head: those from `lo` up to `hi`. -/
def lanes (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- The scores of one head: its masked queries times the keys, scaled. -/
def scores (lo hi : BitVec 32) (q : FVec Ideal S1x512x256 .bf16) (k : FVec Ideal S1x256x256 .bf16) : FVec Ideal S512x256 .f32 :=
  mulf (matmul dot_S512x256_S256x256_S512x256_1_1_0_0_n_n none
      (select (broadcastTo S512x256 (shapeCast S1x256 (lanes lo hi) shapeCasts_S1x256_S1x256) broadcasts_S1x256_S512x256)
        (shapeCast S512x256 q shapeCasts_S1x512x256_S512x256) (broadcast S512x256 (Scalar.ofBits .bf16 0x0000#16)))
      (shapeCast S256x256 k shapeCasts_S1x256x256_S256x256) (constant S512x256 .f32 0x00000000#32))
    (broadcast S512x256 (Scalar.ofBits .f32 0x3D93CD3A#32))

/-- The weighted values and the weights' sum, side by side. -/
def weighted (s : FVec Ideal S512x256 .f32) (v : FVec Ideal S1x256x256 .bf16) : FVec Ideal S512x512 .f32 :=
  matmul dot_S512x256_S256x512_S512x512_1_0_0_1_n_n none
    (exp (truncf .bf16 (subf s (broadcastTo S512x256 (shapeCast S512x1
      (multiReduction .maximumf [1] S512 s 0xFF800000#32 reduces_S512x256_S512 (.inl rfl) rfl) shapeCasts_S512_S512x1)
      broadcasts_S512x1_S512x256)) bitsLt_bf16_f32))
    (concatenate S256x512 1 [⟨S256x256, shapeCast S256x256 v shapeCasts_S1x256x256_S256x256⟩,
      ⟨S256x256, broadcast S256x256 (Scalar.ofBits .bf16 0x3F80#16)⟩] concatenates_S256x256_S256x256_S256x512_d1)
    (constant S512x512 .f32 0x00000000#32)

/-- One head's output over its window of 256 lanes, zero outside the head's lanes. -/
def head (lo hi : BitVec 32) (q : FVec Ideal S1x512x256 .bf16) (k v : FVec Ideal S1x256x256 .bf16) : FVec Ideal S512x256 .f32 :=
  select (broadcastTo S512x256 (shapeCast S1x256 (lanes lo hi) shapeCasts_S1x256_S1x256) broadcasts_S1x256_S512x256)
    (divf (extractStridedSlice S512x256 ![0, 0] (weighted (scores lo hi q k) v) slices_S512x512_o0_0_S512x256)
      (extractStridedSlice S512x256 ![0, 256] (weighted (scores lo hi q k) v) slices_S512x512_o0_256_S512x256))
    (broadcast S512x256 (Scalar.ofBits .f32 0x00000000#32))

theorem pay1_eq (q : FVec Ideal S1x512x256 .bf16) (k v : FVec Ideal S1x256x256 .bf16) :
    k0_pay1 (F := Ideal) q k v = concatenate S512x768 1 [⟨S512x256, head 0#32 192#32 q k v⟩,
      ⟨S512x512, broadcast S512x512 (Scalar.ofBits .f32 0x00000000#32)⟩] concatenates_S512x256_S512x512_S512x768_d1 := rfl

theorem pay3_eq (x0 : Vec Ideal S1x512x768 .bf16) (x1 x2 : Vec Ideal S1x256x768 .bf16)
    (q : FVec Ideal S1x512x256 .bf16) (k v : FVec Ideal S1x256x256 .bf16) :
    k0_pay3 (F := Ideal) (k0_pay9 x0 x1 x2) k0_pay2 q k v
      = concatenate S512x768 1 [⟨S512x128, broadcast S512x128 (Scalar.ofBits .f32 0x00000000#32)⟩, ⟨S512x256, head 64#32 256#32 q k v⟩,
        ⟨S512x384, broadcast S512x384 (Scalar.ofBits .f32 0x00000000#32)⟩] concatenates_S512x128_S512x256_S512x384_S512x768_d1 := rfl

theorem pay6_eq (x0 : Vec Ideal S1x512x768 .bf16) (x1 x2 : Vec Ideal S1x256x768 .bf16)
    (q : FVec Ideal S1x512x256 .bf16) (k v : FVec Ideal S1x256x256 .bf16) :
    k0_pay6 (F := Ideal) (k0_pay9 x0 x1 x2) (k0_pay4 (k0_pay9 x0 x1 x2)) k0_pay5 q k v
      = concatenate S512x768 1 [⟨S512x384, broadcast S512x384 (Scalar.ofBits .f32 0x00000000#32)⟩, ⟨S512x256, head 0#32 192#32 q k v⟩,
        ⟨S512x128, broadcast S512x128 (Scalar.ofBits .f32 0x00000000#32)⟩] concatenates_S512x384_S512x256_S512x128_S512x768_d1 := rfl

theorem pay8_eq (x0 : Vec Ideal S1x512x768 .bf16) (x1 x2 : Vec Ideal S1x256x768 .bf16) (a b c : FVec Ideal S512x768 .f32)
    (q : FVec Ideal S1x512x256 .bf16) (k v : FVec Ideal S1x256x256 .bf16) :
    k0_pay8 (F := Ideal) a b c (k0_pay7 (k0_pay9 x0 x1 x2)) q k v
      = shapeCast S1x512x768 (truncf .bf16 (addf (addf (addf (addf (broadcast S512x768 (Scalar.ofBits .f32 0x00000000#32)) a) b) c)
        (concatenate S512x768 1 [⟨S512x512, broadcast S512x512 (Scalar.ofBits .f32 0x00000000#32)⟩, ⟨S512x256, head 64#32 256#32 q k v⟩]
          concatenates_S512x512_S512x256_S512x768_d1)) bitsLt_bf16_f32) shapeCasts_S512x768_S1x512x768 := rfl

theorem lanes_apply (lo hi : BitVec 32) (d : Fin 256) (c : Fin 1) : lanes lo hi (ix2 c d)
    = IntOp.andi (IntOp.cmpi CmpIPredicate.sge (BitVec.ofNat 32 d.val) lo) (IntOp.cmpi CmpIPredicate.slt (BitVec.ofNat 32 d.val) hi) := by
  pointwise [lanes]

theorem lanes_0 (d : Fin 256) (c : Fin 1) : lanes 0#32 192#32 (ix2 c d) = BitVec.ofBool (decide (0 ≤ d.val ∧ d.val < 0 + 192)) := by
  rw [lanes_apply]; revert d; decide +kernel

theorem lanes_64 (d : Fin 256) (c : Fin 1) : lanes 64#32 256#32 (ix2 c d) = BitVec.ofBool (decide (64 ≤ d.val ∧ d.val < 64 + 192)) := by
  rw [lanes_apply]; revert d; decide +kernel

/-- The scale of the scores as an extended real. -/
abbrev scl : EReal := Ideal.ofBits .f32 0x3D93CD3A#32

theorem scl_real : ∃ c : ℝ, 0 ≤ c ∧ scl = (c : EReal) := by
  have h : scl = (((2 : ℝ) ^ (-27 : ℤ) * 9686330 : ℝ) : EReal) := by
    simp [scl, Ideal.ofBits, Ideal.ieee, -EReal.coe_mul]
    norm_num
  exact ⟨_, by positivity, h⟩

theorem neg_inf : Ideal.ofBits .f32 0xFF800000#32 = ⊥ := by
  simp [Ideal.ofBits, Ideal.ieee]

/-- A row's attention: the values weighted by the softmax of the scores. -/
def att (s v : Fin 256 → EReal) : EReal :=
  ∑ m, v m * Ideal.div (Ideal.exp (s m - Finset.univ.fold max ⊥ s)) (∑ m, Ideal.exp (s m - Finset.univ.fold max ⊥ s))

theorem scores_apply (lo hi : BitVec 32) (L : ℕ) (hL : L + 192 ≤ 256)
    (hl : ∀ (d : Fin 256) (c : Fin 1), lanes lo hi (ix2 c d) = BitVec.ofBool (decide (L ≤ d.val ∧ d.val < L + 192)))
    (q : FVec Ideal S1x512x256 .bf16) (k : FVec Ideal S1x256x256 .bf16) (r : Fin 512) (m : Fin 256) :
    scores lo hi q k (ix2 r m) = (∑ e : Fin 192, q (ix3 0 r ⟨L + e.val, by have := e.isLt; omega⟩) * k (ix3 0 m ⟨L + e.val, by have := e.isLt; omega⟩)) * scl := by
  pointwise [scores]
  congr 1
  rw [sum_window L hL]
  · refine Finset.sum_congr rfl fun e _ => ?_
    rw [hl]
    have he := e.isLt
    simp [Scalar.select, he]
  · intro d hd
    rw [hl, decide_eq_false hd]
    rfl

theorem weighted_apply (s : FVec Ideal S512x256 .f32) (v : FVec Ideal S1x256x256 .bf16) (r : Fin 512) (d : Fin 512) :
    weighted s v (ix2 r d) = ∑ x : Fin 256, Ideal.exp (s (ix2 r x) - Finset.univ.fold max ⊥ (fun x => s (ix2 r x))) *
        if h : d.val < 256 then v (ix3 0 x ⟨d.val, h⟩) else 1 := by
  pointwise [weighted]
  rw [neg_inf]

theorem head_apply (lo hi : BitVec 32) (L : ℕ) (hL : L + 192 ≤ 256)
    (hl : ∀ (d : Fin 256) (c : Fin 1), lanes lo hi (ix2 c d) = BitVec.ofBool (decide (L ≤ d.val ∧ d.val < L + 192)))
    (q : FVec Ideal S1x512x256 .bf16) (k v : FVec Ideal S1x256x256 .bf16) (hq : ∀ i, Fin' (q i)) (hk : ∀ i, Fin' (k i))
    (r : Fin 512) (d : Fin 256) :
    head lo hi q k v (ix2 r d) = if L ≤ d.val ∧ d.val < L + 192 then
      att (fun m => (∑ e : Fin 192, q (ix3 0 r ⟨L + e.val, by have := e.isLt; omega⟩) * k (ix3 0 m ⟨L + e.val, by have := e.isLt; omega⟩)) * scl)
        (fun m => v (ix3 0 m d)) else 0 := by
  pointwise [head]
  rw [hl]
  by_cases h : L ≤ d.val ∧ d.val < L + 192
  · rw [if_pos h, decide_eq_true h]
    show Ideal.div _ _ = _
    rw [weighted_apply, weighted_apply]
    have hd := d.isLt
    simp only [hd, dif_pos, show ¬ (256 + d.val < 256) by omega, dif_neg, not_false_eq_true, mul_one]
    simp only [scores_apply lo hi L hL hl]
    refine softmax (by omega) _ _ fun m => ?_
    obtain ⟨c, -, hc⟩ := scl_real
    exact (Fin'.sum _ _ fun e _ => (hq _).mul (hk _)).mul ⟨c, hc⟩
  · rw [if_neg h, decide_eq_false h]; rfl

end Cert.CrossIdeal.Pure

end
-- ==== Proof.CrossBlock.lean ====
/- The four heads of one grid point put together: the block the memory attention stores, at an index. -/
module

public import proofs.«01_k».proof.Proof.CrossPure

@[expose] public section

set_option maxRecDepth 16384

noncomputable section

namespace Cert.CrossIdeal.Pure

open Idealize.ShloMosaic Idealize.ShloMosaic.TcCoe Cert.CrossIdeal Cert.CrossIdeal.Gen Cert.Softmax

/-- The column `192 * (col / 192) + e`: lane `e` of the head that column `col` belongs to. -/
def hcol (col : Fin 768) (e : Fin 192) : Fin 768 := ⟨col.val / 192 * 192 + e.val, by have := col.isLt; have := e.isLt; omega⟩

/-- The attention of a block of 512 queries over 256 keys and values, at row `r` and column `col`. -/
def blk (X0 : FVec Ideal S1x512x768 .bf16) (X1 X2 : FVec Ideal S1x256x768 .bf16) (r : Fin 512) (col : Fin 768) : EReal :=
  att (fun m => (∑ e : Fin 192, X0 (ix3 0 r (hcol col e)) * X1 (ix3 0 m (hcol col e))) * scl) (fun m => X2 (ix3 0 m col))

/-- One head's window inside the block: the block's attention on the head's own columns, zero on the others. -/
theorem head_blk (lo hi : BitVec 32) (L W : ℕ) (hL : L + 192 ≤ 256) (h192 : (W + L) % 192 = 0) (hW : W + 256 ≤ 768)
    (hl : ∀ (d : Fin 256) (c : Fin 1), lanes lo hi (ix2 c d) = BitVec.ofBool (decide (L ≤ d.val ∧ d.val < L + 192)))
    (X0 : FVec Ideal S1x512x768 .bf16) (X1 X2 : FVec Ideal S1x256x768 .bf16)
    (h0 : ∀ i, Fin' (X0 i)) (h1 : ∀ i, Fin' (X1 i))
    (q : FVec Ideal S1x512x256 .bf16) (k v : FVec Ideal S1x256x256 .bf16)
    (hq : ∀ (z : Fin 1) (r : Fin 512) (d : Fin 256), q (ix3 z r d) = X0 (ix3 0 r ⟨W + d.val, by have := d.isLt; omega⟩))
    (hk : ∀ (z : Fin 1) (r : Fin 256) (d : Fin 256), k (ix3 z r d) = X1 (ix3 0 r ⟨W + d.val, by have := d.isLt; omega⟩))
    (hv : ∀ (z : Fin 1) (r : Fin 256) (d : Fin 256), v (ix3 z r d) = X2 (ix3 0 r ⟨W + d.val, by have := d.isLt; omega⟩))
    (r : Fin 512) (col : Fin 768) (d : Fin 256) (hd : col.val = W + d.val) :
    head lo hi q k v (ix2 r d) = if (W + L) / 192 = col.val / 192 then blk X0 X1 X2 r col else 0 := by
  have hq' : ∀ i, Fin' (q i) := fun i => by
    rw [eq_ix3 i]; exact (hq (i 0) (i 1) (i 2)) ▸ h0 _
  have hk' : ∀ i, Fin' (k i) := fun i => by
    rw [eq_ix3 i]; exact (hk (i 0) (i 1) (i 2)) ▸ h1 _
  rw [head_apply lo hi L hL hl q k v hq' hk']
  have hdl := d.isLt
  refine ite_congr (propext ?_) (fun h => ?_) (fun _ => rfl)
  · constructor
    · rintro ⟨a, b⟩; omega
    · intro h; omega
  · unfold blk
    congr 1
    · funext m
      congr 1
      refine Finset.sum_congr rfl fun e _ => ?_
      have he := e.isLt
      have e1 : (⟨W + (L + e.val), by omega⟩ : Fin 768) = hcol col e := Fin.ext (by simp only [hcol]; omega)
      rw [hq, hk, e1]
    · funext m
      rw [hv]
      congr 2
      exact Fin.ext hd.symm

theorem pay_blk (x0 : Vec Ideal S1x512x768 .bf16) (x1 x2 : Vec Ideal S1x256x768 .bf16)
    (X0 : FVec Ideal S1x512x768 .bf16) (X1 X2 : FVec Ideal S1x256x768 .bf16)
    (h0 : ∀ i, Fin' (X0 i)) (h1 : ∀ i, Fin' (X1 i))
    (q0 q1 q2 q3 : FVec Ideal S1x512x256 .bf16) (k0 v0 k1 v1 k2 v2 k3 v3 : FVec Ideal S1x256x256 .bf16)
    (hq0 : ∀ (z : Fin 1) (r : Fin 512) (d : Fin 256), q0 (ix3 z r d) = X0 (ix3 0 r ⟨0 + d.val, by have := d.isLt; omega⟩))
    (hk0 : ∀ (z : Fin 1) (r : Fin 256) (d : Fin 256), k0 (ix3 z r d) = X1 (ix3 0 r ⟨0 + d.val, by have := d.isLt; omega⟩))
    (hv0 : ∀ (z : Fin 1) (r : Fin 256) (d : Fin 256), v0 (ix3 z r d) = X2 (ix3 0 r ⟨0 + d.val, by have := d.isLt; omega⟩))
    (hq1 : ∀ (z : Fin 1) (r : Fin 512) (d : Fin 256), q1 (ix3 z r d) = X0 (ix3 0 r ⟨128 + d.val, by have := d.isLt; omega⟩))
    (hk1 : ∀ (z : Fin 1) (r : Fin 256) (d : Fin 256), k1 (ix3 z r d) = X1 (ix3 0 r ⟨128 + d.val, by have := d.isLt; omega⟩))
    (hv1 : ∀ (z : Fin 1) (r : Fin 256) (d : Fin 256), v1 (ix3 z r d) = X2 (ix3 0 r ⟨128 + d.val, by have := d.isLt; omega⟩))
    (hq2 : ∀ (z : Fin 1) (r : Fin 512) (d : Fin 256), q2 (ix3 z r d) = X0 (ix3 0 r ⟨384 + d.val, by have := d.isLt; omega⟩))
    (hk2 : ∀ (z : Fin 1) (r : Fin 256) (d : Fin 256), k2 (ix3 z r d) = X1 (ix3 0 r ⟨384 + d.val, by have := d.isLt; omega⟩))
    (hv2 : ∀ (z : Fin 1) (r : Fin 256) (d : Fin 256), v2 (ix3 z r d) = X2 (ix3 0 r ⟨384 + d.val, by have := d.isLt; omega⟩))
    (hq3 : ∀ (z : Fin 1) (r : Fin 512) (d : Fin 256), q3 (ix3 z r d) = X0 (ix3 0 r ⟨512 + d.val, by have := d.isLt; omega⟩))
    (hk3 : ∀ (z : Fin 1) (r : Fin 256) (d : Fin 256), k3 (ix3 z r d) = X1 (ix3 0 r ⟨512 + d.val, by have := d.isLt; omega⟩))
    (hv3 : ∀ (z : Fin 1) (r : Fin 256) (d : Fin 256), v3 (ix3 z r d) = X2 (ix3 0 r ⟨512 + d.val, by have := d.isLt; omega⟩))
    (r : Fin 512) (col : Fin 768) :
    k0_pay8 (F := Ideal) (k0_pay1 q0 k0 v0) (k0_pay3 (k0_pay9 x0 x1 x2) k0_pay2 q1 k1 v1)
        (k0_pay6 (k0_pay9 x0 x1 x2) (k0_pay4 (k0_pay9 x0 x1 x2)) k0_pay5 q2 k2 v2) (k0_pay7 (k0_pay9 x0 x1 x2)) q3 k3 v3 (ix3 0 r col)
      = blk X0 X1 X2 r col := by
  rw [pay8_eq, pay1_eq, pay3_eq, pay6_eq]
  pointwise
  have hc := col.isLt
  have a0 := fun d hd => head_blk 0#32 192#32 0 0 (by omega) rfl (by omega) lanes_0 X0 X1 X2 h0 h1 q0 k0 v0 hq0 hk0 hv0 r col d hd
  have a1 := fun d hd => head_blk 64#32 256#32 64 128 (by omega) rfl (by omega) lanes_64 X0 X1 X2 h0 h1 q1 k1 v1 hq1 hk1 hv1 r col d hd
  have a2 := fun d hd => head_blk 0#32 192#32 0 384 (by omega) rfl (by omega) lanes_0 X0 X1 X2 h0 h1 q2 k2 v2 hq2 hk2 hv2 r col d hd
  have a3 := fun d hd => head_blk 64#32 256#32 64 512 (by omega) rfl (by omega) lanes_64 X0 X1 X2 h0 h1 q3 k3 v3 hq3 hk3 hv3 r col d hd
  have b0 : (if h : col.val < 256 then head 0#32 192#32 q0 k0 v0 (ix2 r ⟨col.val, h⟩) else 0)
      = if 0 = col.val / 192 then blk X0 X1 X2 r col else 0 := by
    split
    · exact a0 _ (by simp)
    · rw [if_neg (by omega)]
  have b1 : (if h : col.val < 128 then 0 else if h : col.val - 128 < 256 then head 64#32 256#32 q1 k1 v1 (ix2 r ⟨col.val - 128, h⟩) else 0)
      = if 1 = col.val / 192 then blk X0 X1 X2 r col else 0 := by
    split
    · rw [if_neg (by omega)]
    · split
      · exact a1 _ (by simp only; omega)
      · rw [if_neg (by omega)]
  have b2 : (if h : col.val < 384 then 0 else if h : col.val - 384 < 256 then head 0#32 192#32 q2 k2 v2 (ix2 r ⟨col.val - 384, h⟩) else 0)
      = if 2 = col.val / 192 then blk X0 X1 X2 r col else 0 := by
    split
    · rw [if_neg (by omega)]
    · split
      · exact a2 _ (by simp only; omega)
      · rw [if_neg (by omega)]
  have b3 : (if h : col.val < 512 then 0 else head 64#32 256#32 q3 k3 v3 (ix2 r ⟨col.val - 512, by omega⟩))
      = if 3 = col.val / 192 then blk X0 X1 X2 r col else 0 := by
    split
    · rw [if_neg (by omega)]
    · exact a3 _ (by simp only; omega)
  refine (congrArg₂ (· + ·) (congrArg₂ (· + ·) (congrArg₂ (· + ·) b0 b1) b2) b3).trans ?_
  have hcase : col.val / 192 = 0 ∨ col.val / 192 = 1 ∨ col.val / 192 = 2 ∨ col.val / 192 = 3 := by omega
  rcases hcase with h | h | h | h <;> rw [h] <;> simp

end Cert.CrossIdeal.Pure

end
-- ==== Proof.CrossValue.lean ====
/- The memory attention's result array after the run: one whole-array function of the two arguments. -/
module

public import proofs.«01_k».proof.Proof.CrossBlock
public import proofs.«01_k».proof.Proof.Gen.CrossIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CrossIdeal.Pure

open Cert.CrossIdeal Cert.CrossIdeal.Gen Cert.Softmax

/-- The whole attention: batch `b`, query row `s`, column `col` of the result. -/
def whole (Z : FVec Ideal S4x2048x6144 .bf16) (KV : FVec Ideal S4x256x1536 .bf16) (b : Fin 4) (s : Fin 2048) (col : Fin 768) : EReal :=
  att (fun m => (∑ e : Fin 192, Z (ix3 b s ⟨5376 + (hcol col e).val, by have := (hcol col e).isLt; omega⟩)
      * KV (ix3 b m ⟨(hcol col e).val, by have := (hcol col e).isLt; omega⟩)) * scl)
    (fun m => KV (ix3 b m ⟨768 + col.val, by have := col.isLt; omega⟩))

variable (m : (ℓ : Loc nD τ sig) → Buf (Elt Ideal) ℓ)

/-- The windows' block indices at every grid point. -/
theorem idx : ∀ t : Fin cfg0.N, win0_0.index t = ![t.val / 4, t.val % 4, 7] ∧ win0_1.index t = ![t.val / 4, 0, 0]
    ∧ win0_2.index t = ![t.val / 4, 0, 1] ∧ win0_3.index t = ![t.val / 4, t.val % 4, 0] ∧ t.val < 16 :=
  (by decide +kernel : ∀ t : Fin grid0.N, _)

theorem final (c : Dev nD)
    (hz : ∀ (b : Fin 4) (s : Fin 2048) (d : Fin 768), Fin' ((m ((c : Thread nD τ).loc main_arg0) : FVec Ideal S4x2048x6144 .bf16) (ix3 b s ⟨5376 + d.val, by have := d.isLt; omega⟩)))
    (hk : ∀ (b : Fin 4) (s : Fin 256) (d : Fin 768), Fin' ((m ((c : Thread nD τ).loc main_arg1) : FVec Ideal S4x256x1536 .bf16) (ix3 b s ⟨d.val, by have := d.isLt; omega⟩))) :
    (dats m 0 c).arrAt 3 (cfgs 0).N
      = fun i : S4x2048x768.Idx => whole (m ((c : Thread nD τ).loc main_arg0)) (m ((c : Thread nD τ).loc main_arg1)) (i 0) (i 1) (i 2) := by
  refine (dats m 0 c).arrAt_eq_of_covers 3 _ (by decide +kernel) fun t _ y => ?_
  blk_simp
  rw [after0_3]; frame_out
  obtain ⟨z, r, col, rfl⟩ : ∃ (z : Fin 1) (r : Fin 512) (col : Fin 768), y = ix3 z r col := ⟨y 0, y 1, y 2, eq_ix3 y⟩
  obtain rfl : z = 0 := Subsingleton.elim _ _
  have e0 : ∀ (r : Fin 512) (d : Fin 768), (iblk m c 0 t : FVec Ideal S1x512x768 .bf16) (ix3 0 r d)
      = (m ((c : Thread nD τ).loc main_arg0) : FVec Ideal S4x2048x6144 .bf16)
        (ix3 ⟨t.val / 4, by have := (idx t).2.2.2.2; omega⟩ ⟨t.val % 4 * 512 + r.val, by have := r.isLt; omega⟩ ⟨5376 + d.val, by have := d.isLt; omega⟩) := by
    intro r d; blk_ext [iblk, V, idx t]
  have e1 : ∀ (r : Fin 256) (d : Fin 768), (iblk m c 1 t : FVec Ideal S1x256x768 .bf16) (ix3 0 r d)
      = (m ((c : Thread nD τ).loc main_arg1) : FVec Ideal S4x256x1536 .bf16)
        (ix3 ⟨t.val / 4, by have := (idx t).2.2.2.2; omega⟩ r ⟨d.val, by have := d.isLt; omega⟩) := by
    intro r d; blk_ext [iblk, V, idx t]
  have e2 : ∀ (r : Fin 256) (d : Fin 768), (iblk m c 2 t : FVec Ideal S1x256x768 .bf16) (ix3 0 r d)
      = (m ((c : Thread nD τ).loc main_arg1) : FVec Ideal S4x256x1536 .bf16)
        (ix3 ⟨t.val / 4, by have := (idx t).2.2.2.2; omega⟩ r ⟨768 + d.val, by have := d.isLt; omega⟩) := by
    intro r d; blk_ext [iblk, V, idx t]
  refine (pay_blk _ _ _ (iblk m c 0 t) (iblk m c 1 t) (iblk m c 2 t) ?_ ?_ _ _ _ _ _ _ _ _ _ _ _ _
    ?_ ?_ ?_ ?_ ?_ ?_ ?_ ?_ ?_ ?_ ?_ ?_ r col).trans ?_
  · intro i; rw [eq_ix3 i, show i 0 = (0 : Fin 1) from Subsingleton.elim (α := Fin 1) _ _]
    exact (e0 (i 1) (i 2)) ▸ hz _ _ _
  · intro i; rw [eq_ix3 i, show i 0 = (0 : Fin 1) from Subsingleton.elim (α := Fin 1) _ _]
    exact (e1 (i 1) (i 2)) ▸ hk _ _ _
  any_goals (intro z r d; obtain rfl : z = 0 := Subsingleton.elim _ _; pointwise; done)
  have f : (((View.whole main_v0).slice (win0_3.rect t)).emb (ix3 0 r col) : S4x2048x768.Idx)
      = ix3 ⟨t.val / 4, by have := (idx t).2.2.2.2; omega⟩ ⟨t.val % 4 * 512 + r.val, by have := r.isLt; omega⟩ col := by
    blk_ext [idx t]
  refine Eq.trans ?_ (congrArg (fun i : S4x2048x768.Idx => whole (m ((c : Thread nD τ).loc main_arg0)) (m ((c : Thread nD τ).loc main_arg1)) (i 0) (i 1) (i 2)) f.symm)
  show _ = whole _ _ _ _ _
  unfold blk whole
  simp only [e0, e1, e2]
  rfl

end Cert.CrossIdeal.Pure

end
-- ==== Proof.CrossRef.lean ====
/- The memory attention's reference, read at an index. -/
module

public import proofs.«01_k».proof.Proof.CrossPure
public import proofs.«01_k».proof.Proof.CrossValue
public import proofs.«01_k».proof.Proof.Gen.CrossReferenceIdeal.Run

@[expose] public section

set_option maxRecDepth 16384

noncomputable section

namespace Cert.CrossReferenceIdeal.Pure

open Idealize.ShloMosaic Idealize.ShloMosaic.TcCoe Cert.CrossReferenceIdeal Cert.CrossReferenceIdeal.Gen Cert.Softmax
open Cert.CrossIdeal.Pure (scl att whole hcol scl_real neg_inf)

/-- The reference's scores, per batch, head, query and key. -/
def rscore (Z : FVec Ideal S4x2048x6144 .bf16) (KV : FVec Ideal S4x256x1536 .bf16) : FVec Ideal S4x4x2048x256 .f32 :=
  Host.dotGeneral dot_S4x2048x4x192_S4x256x4x192_S4x4x2048x256_3_3_1_1_02_02 none (mulf (shapeCast _ (extf .f32 (extractStridedSlice S4x2048x768 ![0, 0, 5376] Z slices_S4x2048x6144_S4x2048x768_0_0_5376) bitsLt_bf16_f32) shapeCasts_S4x2048x768_S4x2048x4x192) (broadcastInDim S4x2048x4x192 ![] bcast_S_S4x2048x4x192 (constant S_ .f32 0x3D93CD3A#32))) (shapeCast _ (extf .f32 (extractStridedSlice S4x256x768 ![0, 0, 0] KV slices_S4x256x1536_S4x256x768_0_0_0) bitsLt_bf16_f32) shapeCasts_S4x256x768_S4x256x4x192)

/-- The largest score of each query, per head. -/
def rmax (Z : FVec Ideal S4x2048x6144 .bf16) (KV : FVec Ideal S4x256x1536 .bf16) : FVec Ideal S4x4x2048 .f32 :=
  Host.reduce FloatOps.maximumf (rscore Z KV) (constant S_ .f32 0xFF800000#32) reducesTo_S4x4x2048x256_S4x4x2048_d3 h_S_

/-- The same, at least minus infinity. -/
def rtop (Z : FVec Ideal S4x2048x6144 .bf16) (KV : FVec Ideal S4x256x1536 .bf16) : FVec Ideal S4x4x2048 .f32 :=
  maximumf (broadcastInDim S4x4x2048 ![] bcast_S_S4x4x2048 (constant S_ .f32 0xFF800000#32)) (rmax Z KV)

/-- The exponentials of the scores less the largest. -/
def rexp (Z : FVec Ideal S4x2048x6144 .bf16) (KV : FVec Ideal S4x256x1536 .bf16) : FVec Ideal S4x4x2048x256 .f32 :=
  Host.exp (subf (rscore Z KV) (broadcastInDim S4x4x2048x256 ![0, 1, 2, 3] bcast_S4x4x2048x1_S4x4x2048x256_0_1_2_3 (broadcastInDim S4x4x2048x1 ![0, 1, 2] bcast_S4x4x2048_S4x4x2048x1_0_1_2 (rtop Z KV))))

/-- The softmax's weights. -/
def rweight (Z : FVec Ideal S4x2048x6144 .bf16) (KV : FVec Ideal S4x256x1536 .bf16) : FVec Ideal S4x4x2048x256 .f32 :=
  Host.divf (rexp Z KV) (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd (rexp Z KV) (constant S_ .f32 0x00000000#32) reducesTo_S4x4x2048x256_S4x4x2048_d3 h_S_)))

/-- The weighted values, head dimension before the queries. -/
def rout (Z : FVec Ideal S4x2048x6144 .bf16) (KV : FVec Ideal S4x256x1536 .bf16) : FVec Ideal S4x4x192x2048 .f32 :=
  Host.dotGeneral dot_S4x256x4x192_S4x4x2048x256_S4x4x192x2048_1_3_3_2_02_01 none (shapeCast _ (extf .f32 (extractStridedSlice S4x256x768 ![0, 0, 768] KV slices_S4x256x1536_S4x256x768_0_0_768) bitsLt_bf16_f32) shapeCasts_S4x256x768_S4x256x4x192) (rweight Z KV)

/-- The reference's result as a function of its two arguments. -/
def ref (Z : FVec Ideal S4x2048x6144 .bf16) (KV : FVec Ideal S4x256x1536 .bf16) : FVec Ideal S4x2048x768 .bf16 :=
  truncf .bf16 (shapeCast _ (transpose S4x2048x4x192 [0, 3, 1, 2] (rout Z KV) transposes_S4x4x192x2048_S4x2048x4x192_0_3_1_2) shapeCasts_S4x2048x4x192_S4x2048x768) bitsLt_bf16_f32

theorem rscore_apply (Z : FVec Ideal S4x2048x6144 .bf16) (KV : FVec Ideal S4x256x1536 .bf16) (b : Fin 4) (h : Fin 4) (s : Fin 2048) (k : Fin 256) :
    rscore Z KV (ix4 b h s k) = ∑ e : Fin 192, Z (ix3 b s ⟨5376 + (h.val * 192 + e.val), by have := h.isLt; have := e.isLt; omega⟩) * scl
      * KV (ix3 b k ⟨h.val * 192 + e.val, by have := h.isLt; have := e.isLt; omega⟩) := by
  pointwise [rscore]

theorem reduce_apply (X : FVec Ideal S4x4x2048x256 .f32) (b : Fin 4) (h : Fin 4) (s : Fin 2048) :
    Host.reduce FloatOps.maximumf X (constant S_ .f32 0xFF800000#32) reducesTo_S4x4x2048x256_S4x4x2048_d3 h_S_ (ix3 b h s)
      = Finset.univ.fold max (Ideal.ofBits .f32 0xFF800000#32) (fun k => X (ix4 b h s k)) := by
  pointwise

theorem floor_apply (X : FVec Ideal S4x4x2048 .f32) (b : Fin 4) (h : Fin 4) (s : Fin 2048) :
    maximumf (broadcastInDim S4x4x2048 ![] bcast_S_S4x4x2048 (constant S_ .f32 0xFF800000#32)) X (ix3 b h s)
      = max (Ideal.ofBits .f32 0xFF800000#32) (X (ix3 b h s)) := by
  pointwise

theorem rtop_apply (Z : FVec Ideal S4x2048x6144 .bf16) (KV : FVec Ideal S4x256x1536 .bf16) (b : Fin 4) (h : Fin 4) (s : Fin 2048) :
    rtop Z KV (ix3 b h s) = Finset.univ.fold max ⊥ (fun k => rscore Z KV (ix4 b h s k)) := by
  unfold rtop rmax
  generalize rscore Z KV = X
  rw [floor_apply, reduce_apply, neg_inf]
  exact max_eq_right bot_le

theorem rexp_apply (Z : FVec Ideal S4x2048x6144 .bf16) (KV : FVec Ideal S4x256x1536 .bf16) (b : Fin 4) (h : Fin 4) (s : Fin 2048) (k : Fin 256) :
    rexp Z KV (ix4 b h s k) = Ideal.exp (rscore Z KV (ix4 b h s k) - rtop Z KV (ix3 b h s)) := by
  pointwise [rexp]

theorem rweight_apply (Z : FVec Ideal S4x2048x6144 .bf16) (KV : FVec Ideal S4x256x1536 .bf16) (b : Fin 4) (h : Fin 4) (s : Fin 2048) (k : Fin 256) :
    rweight Z KV (ix4 b h s k) = Ideal.div (rexp Z KV (ix4 b h s k)) (∑ k, rexp Z KV (ix4 b h s k)) := by
  pointwise [rweight]

theorem rout_apply (Z : FVec Ideal S4x2048x6144 .bf16) (KV : FVec Ideal S4x256x1536 .bf16) (b : Fin 4) (h : Fin 4) (s : Fin 2048) (e : Fin 192) :
    rout Z KV (ix4 b h e s) = ∑ k : Fin 256, KV (ix3 b k ⟨768 + (h.val * 192 + e.val), by have := h.isLt; have := e.isLt; omega⟩) * rweight Z KV (ix4 b h s k) := by
  pointwise [rout]

theorem ref_apply' (Z : FVec Ideal S4x2048x6144 .bf16) (KV : FVec Ideal S4x256x1536 .bf16) (b : Fin 4) (s : Fin 2048) (col : Fin 768) :
    ref Z KV (ix3 b s col) = rout Z KV (ix4 b ⟨col.val / 192, by have := col.isLt; omega⟩ ⟨col.val % 192, by omega⟩ s) := by
  pointwise [ref]

/-- The reference's result at an index: the same attention, the scale moved out of the scores' sums. -/
theorem ref_apply (Z : FVec Ideal S4x2048x6144 .bf16) (KV : FVec Ideal S4x256x1536 .bf16) (b : Fin 4) (s : Fin 2048) (col : Fin 768) :
    ref Z KV (ix3 b s col) = whole Z KV b s col := by
  rw [ref_apply', rout_apply]
  simp only [rweight_apply, rexp_apply, rtop_apply]
  have hs : ∀ k : Fin 256, rscore Z KV (ix4 b ⟨col.val / 192, by have := col.isLt; omega⟩ s k)
      = (∑ e : Fin 192, Z (ix3 b s ⟨5376 + (hcol col e).val, by have := (hcol col e).isLt; omega⟩)
        * KV (ix3 b k ⟨(hcol col e).val, by have := (hcol col e).isLt; omega⟩)) * scl := by
    intro k
    obtain ⟨c, hc, hs⟩ := scl_real
    rw [rscore_apply, hs, sum_mul_real _ _ _ hc]
    exact Finset.sum_congr rfl fun e _ => mul_right_comm _ _ _
  simp only [hs]
  unfold whole att
  refine Finset.sum_congr rfl fun k _ => ?_
  have hc : (⟨768 + (col.val / 192 * 192 + col.val % 192), by have := col.isLt; omega⟩ : Fin 1536) = ⟨768 + col.val, by have := col.isLt; omega⟩ :=
    Fin.ext (by simp only; omega)
  rw [hc]

end Cert.CrossReferenceIdeal.Pure

end
-- ==== Proof.CrossClaim.lean ====
/- The memory attention's claims. -/
module

public import proofs.«01_k».proof.Defs
public import proofs.«01_k».proof.Proof.CrossValue
public import proofs.«01_k».proof.Proof.CrossRef
public import proofs.«01_k».proof.Proof.Gen.Cross.Frame
public import proofs.«01_k».proof.Proof.Gen.CrossIdeal.Frame
public import proofs.«01_k».proof.Proof.Gen.CrossIdeal.Value
public import proofs.«01_k».proof.Proof.Gen.CrossReferenceIdeal.Run
public import proofs.«01_k».proof.Proof.Gen.Pre_finite_scores
public import Idealize.ShloMosaic.Lib.ReduceAll
public import Idealize.ShloMosaic.Lib.Quiescent
public import Idealize.ShloMosaic.Lib.Pointwise

@[expose] public section

set_option maxRecDepth 16384

noncomputable section

open Idealize.ShloMosaic Idealize.ShloMosaic.TcCoe Idealize.SL.Sem Cert.Softmax

namespace Cert.Pre_finite_scores

open Cert.Pre_finite_scores.Gen

/-- The precondition, read: the queries and the keys are real numbers. -/
theorem finite (Z : FVec Ideal S4x2048x6144 .bf16) (KV : FVec Ideal S4x256x1536 .bf16) (h : fn (F := Ideal) Z KV = fun _ => 1#1) :
    (∀ (b : Fin 4) (s : Fin 2048) (d : Fin 768), Fin' (Z (ix3 b s ⟨5376 + d.val, by have := d.isLt; omega⟩)))
    ∧ ∀ (b : Fin 4) (s : Fin 256) (d : Fin 768), Fin' (KV (ix3 b s ⟨d.val, by have := d.isLt; omega⟩)) := by
  have h0 := congrFun h (Shape.Idx.first h_S_)
  obtain ⟨h1, h2⟩ := IntOp.andi_eq_one.1 h0
  haveI : Subsingleton S_.Idx := ⟨fun a b => funext fun i => i.elim0⟩
  have top : Ideal.ofBits .f32 0x7F800000#32 = (⊤ : EReal) := by simp [Ideal.ofBits, Ideal.ieee]
  constructor
  · intro b s d
    have e := Host.reduce_andi_all _ _ _ _ _ h1 (ix3 b s d)
    refine Fin'.of_abs_lt ?_
    have e' : Ideal.cmp .olt (max (Z (ix3 b s ⟨5376 + d.val, by have := d.isLt; omega⟩)) (-(Z (ix3 b s ⟨5376 + d.val, by have := d.isLt; omega⟩)))) (Ideal.ofBits .f32 0x7F800000#32) = 1#1 := by
      refine Eq.trans ?_ e
      pointwise
      rfl
    rw [top] at e'
    by_contra hn
    simp [Ideal.cmp, hn] at e'
  · intro b s d
    have e := Host.reduce_andi_all _ _ _ _ _ h2 (ix3 b s d)
    refine Fin'.of_abs_lt ?_
    have e' : Ideal.cmp .olt (max (KV (ix3 b s ⟨d.val, by have := d.isLt; omega⟩)) (-(KV (ix3 b s ⟨d.val, by have := d.isLt; omega⟩)))) (Ideal.ofBits .f32 0x7F800000#32) = 1#1 := by
      refine Eq.trans ?_ e
      pointwise
      rfl
    rw [top] at e'
    by_contra hn
    simp [Ideal.cmp, hn] at e'

end Cert.Pre_finite_scores

namespace Cert.Proof.Cross

theorem frame : Cert.quiescent_Cross := fun m ρ _ => Cert.Cross.Gen.frame m ρ
theorem frameI : Cert.quiescent_CrossIdeal := fun m ρ _ => Cert.CrossIdeal.Gen.frame m ρ
theorem frameIP : Cert.quiescent_CrossIdeal_pre_finite_scores := fun m ρ _ => Cert.CrossIdeal.Gen.frame m ρ
theorem frameR : Cert.quiescent_CrossReferenceIdeal := fun m ρ _ =>
  (θ_run Cert.CrossReferenceIdeal.defs _ _).mono (fun r h => ⟨fun c => (h c).2, sem_eq_zero_of_no_sems (by decide) r.2⟩)
    (Cert.CrossReferenceIdeal.Value.run (F := Ideal) m ρ)
theorem frameRP : Cert.quiescent_CrossReferenceIdeal_pre_finite_scores := fun m ρ _ =>
  (θ_run Cert.CrossReferenceIdeal.defs _ _).mono (fun r h => ⟨fun c => (h c).2, sem_eq_zero_of_no_sems (by decide) r.2⟩)
    (Cert.CrossReferenceIdeal.Value.run (F := Ideal) m ρ)

theorem algebraic : Cert.algebraic_CrossIdeal_CrossReferenceIdeal_pre_finite_scores := by
  intro m ρ m' ρ' hpre hag
  refine ⟨fun c => fun i : Cert.CrossIdeal.S4x2048x768.Idx =>
    Cert.CrossIdeal.Pure.whole (m ((c.tc : Thread Cert.CrossIdeal.nD Cert.CrossIdeal.τ).loc Cert.CrossIdeal.main_arg0))
      (m ((c.tc : Thread Cert.CrossIdeal.nD Cert.CrossIdeal.τ).loc Cert.CrossIdeal.main_arg1)) (i 0) (i 1) (i 2), ?_, ?_⟩
  · refine (θ_run Cert.CrossIdeal.defs _ _).mono (fun _ h c => ⟨(h c).1.trans ?_, (h c).2⟩) (Cert.CrossIdeal.Value.run_blocks (F := Ideal) m ρ)
    have hf := Cert.Pre_finite_scores.finite _ _ (hpre c)
    exact Cert.CrossIdeal.Pure.final m c hf.1 hf.2
  · refine (θ_run Cert.CrossReferenceIdeal.defs _ _).mono (fun _ h c => ⟨(h c).1.trans ?_, (h c).2⟩) (Cert.CrossReferenceIdeal.Value.run (F := Ideal) m' ρ')
    rw [(hag c).1, (hag c).2]
    funext i
    obtain ⟨b, s, col, rfl⟩ : ∃ (b : Fin 4) (s : Fin 2048) (col : Fin 768), i = ix3 b s col := ⟨i 0, i 1, i 2, eq_ix3 i⟩
    exact Cert.CrossReferenceIdeal.Pure.ref_apply _ _ b s col

end Cert.Proof.Cross

end
-- ==== Proof.MergeValue.lean ====
/- The gated merge of the four mixers: each branch's product, gated, summed. -/
module

public import proofs.«01_k».proof.Defs
public import proofs.«01_k».proof.Proof.Gen.Merge.Frame
public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.Pure

open Cert.MergeIdeal Cert.MergeIdeal.Gen

/-- A gate: the logistic of the row's product with column `j` of the gate weights, the bias added. -/
def gate (H : FVec Ideal S8192x2048 .bf16) (Wg : FVec Ideal S2x2048x8192 .f32) (bg : FVec Ideal S2x8192 .f32) (i : Fin 8192) (j : Fin 8192) : EReal :=
  Ideal.logistic ((∑ k : Fin 2048, H (ix2 i k) * Wg (ix3 0 k j)) + bg (ix2 0 j))

/-- The merged row: the four branches' products, each under its gate. -/
def whole (H : FVec Ideal S8192x2048 .bf16) (Ya Yb : FVec Ideal S8192x768 .bf16) (Yc : FVec Ideal S8192x256 .bf16) (Ym : FVec Ideal S8192x768 .bf16)
    (Wg : FVec Ideal S2x2048x8192 .f32) (bg : FVec Ideal S2x8192 .f32) (Wa Wb : FVec Ideal S2x768x2048 .f32) (Wc : FVec Ideal S2x256x2048 .f32)
    (Wm : FVec Ideal S2x768x2048 .f32) (i : Fin 8192) (j : Fin 2048) : EReal :=
  gate H Wg bg i ⟨j.val, by omega⟩ * (∑ k : Fin 768, Ya (ix2 i k) * Wa (ix3 0 k j))
    + gate H Wg bg i ⟨2048 + j.val, by omega⟩ * (∑ k : Fin 768, Yb (ix2 i k) * Wb (ix3 0 k j))
    + gate H Wg bg i ⟨4096 + j.val, by omega⟩ * (∑ k : Fin 256, Yc (ix2 i k) * Wc (ix3 0 k j))
    + gate H Wg bg i ⟨6144 + j.val, by omega⟩ * (∑ k : Fin 768, Ym (ix2 i k) * Wm (ix3 0 k j))

theorem pay2 (H : Vec Ideal S1024x2048 .bf16) (G : Vec Ideal S1x2048x256 .f32) (B : Vec Ideal S1x1x256 .f32) (Y : Vec Ideal S1024x768 .bf16)
    (W : Vec Ideal S1x768x256 .f32) (r : Fin 1024) (q : Fin 256) :
    k0_pay2 H G B Y W (ix2 r q) = Ideal.logistic ((∑ k : Fin 2048, H (ix2 r k) * G (ix3 0 k q)) + B (ix3 0 0 q)) * (∑ k : Fin 768, Y (ix2 r k) * W (ix3 0 k q)) := by
  pointwise [k0_pay2]

theorem pay3 (H : Vec Ideal S1024x2048 .bf16) (G : Vec Ideal S1x2048x256 .f32) (B : Vec Ideal S1x1x256 .f32) (r : Fin 1024) (q : Fin 256) :
    k0_pay3 H G B (ix2 r q) = Ideal.logistic ((∑ k : Fin 2048, H (ix2 r k) * G (ix3 0 k q)) + B (ix3 0 0 q)) := by
  pointwise [k0_pay3]

theorem pay4 (Y : Vec Ideal S1024x768 .bf16) (W : Vec Ideal S1x768x256 .f32) (r : Fin 1024) (q : Fin 256) :
    k0_pay4 Y W (ix2 r q) = ∑ k : Fin 768, Y (ix2 r k) * W (ix3 0 k q) := by
  pointwise [k0_pay4]

theorem pay5 (H : Vec Ideal S1024x2048 .bf16) (A B C : FVec Ideal S1024x256 .f32) (G2 : Vec Ideal S1x2048x256 .f32) (B2 : Vec Ideal S1x1x256 .f32)
    (Y2 : Vec Ideal S1024x256 .bf16) (W2 : Vec Ideal S1x256x256 .f32) (G3 : Vec Ideal S1x2048x256 .f32) (B3 : Vec Ideal S1x1x256 .f32)
    (Y3 : Vec Ideal S1024x768 .bf16) (W3 : Vec Ideal S1x768x256 .f32) (r : Fin 1024) (q : Fin 256) :
    k0_pay1 (k0_pay5 H A B C G2 B2 Y2 W2 G3 B3 Y3 W3) (ix2 r q)
      = A (ix2 r q) + B (ix2 r q) * C (ix2 r q)
        + Ideal.logistic ((∑ k : Fin 2048, H (ix2 r k) * G2 (ix3 0 k q)) + B2 (ix3 0 0 q)) * (∑ k : Fin 256, Y2 (ix2 r k) * W2 (ix3 0 k q))
        + Ideal.logistic ((∑ k : Fin 2048, H (ix2 r k) * G3 (ix3 0 k q)) + B3 (ix3 0 0 q)) * (∑ k : Fin 768, Y3 (ix2 r k) * W3 (ix3 0 k q)) := by
  pointwise [k0_pay1, k0_pay5]

variable (m : (ℓ : Loc nD τ sig) → Buf (Elt Ideal) ℓ)

theorem idx : ∀ t : Fin cfg0.N, win0_0.index t = ![t.val / 8, 0]
    ∧ win0_1.index t = ![t.val / 8, 0]
    ∧ win0_2.index t = ![t.val / 8, 0]
    ∧ win0_3.index t = ![t.val / 8, 0]
    ∧ win0_4.index t = ![t.val / 8, 0]
    ∧ win0_5.index t = ![0, 0, 0 + t.val % 8]
    ∧ win0_6.index t = ![0, 0, 8 + t.val % 8]
    ∧ win0_7.index t = ![0, 0, 16 + t.val % 8]
    ∧ win0_8.index t = ![0, 0, 24 + t.val % 8]
    ∧ win0_9.index t = ![0, 0, 0 + t.val % 8]
    ∧ win0_10.index t = ![0, 0, 8 + t.val % 8]
    ∧ win0_11.index t = ![0, 0, 16 + t.val % 8]
    ∧ win0_12.index t = ![0, 0, 24 + t.val % 8]
    ∧ win0_13.index t = ![0, 0, t.val % 8]
    ∧ win0_14.index t = ![0, 0, t.val % 8]
    ∧ win0_15.index t = ![0, 0, t.val % 8]
    ∧ win0_16.index t = ![0, 0, t.val % 8]
    ∧ win0_17.index t = ![t.val / 8, t.val % 8]
    ∧ t.val < 64 :=
  (by decide +kernel : ∀ t : Fin grid0.N, _)

theorem lt64 (t : Fin cfg0.N) : t.val < 64 := (idx t).2.2.2.2.2.2.2.2.2.2.2.2.2.2.2.2.2.2

theorem cast_at (x : FVec Ideal S2x8192 .f32) (j : Fin 8192) :
    shapeCast S2x1x8192 x shapeCasts_S2x8192_S2x1x8192 (ix3 0 0 j) = x (ix2 0 j) := by
  pointwise

/-- The bias array the windows stage: the reshaped argument. -/
theorem bias (c : Dev nD) (j : Fin 8192) : (V m c main_v0 : FVec Ideal S2x1x8192 .f32) (ix3 0 0 j) = (m ((c : Thread nD τ).loc main_arg6) : FVec Ideal S2x8192 .f32) (ix2 0 j) := by
  have e : (V m c main_v0 : FVec Ideal S2x1x8192 .f32) = shapeCast S2x1x8192 (m ((c : Thread nD τ).loc main_arg6) : FVec Ideal S2x8192 .f32) shapeCasts_S2x8192_S2x1x8192 := by
    unfold V; after_results; try rfl
  rw [e]; exact cast_at _ j

set_option maxHeartbeats 2000000 in
theorem final (c : Dev nD) :
    (dats m 0 c).arrAt 17 (cfgs 0).N = fun i : S8192x2048.Idx => whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) := by
  refine (dats m 0 c).arrAt_eq_of_covers 17 _ (by decide +kernel) fun t _ y => ?_
  blk_simp
  rw [after0_17]; frame_out
  obtain ⟨r, q, rfl⟩ : ∃ (r : Fin 1024) (q : Fin 256), y = ix2 r q := ⟨y 0, y 1, eq_ix2 y⟩
  have e0 : ∀ (k : Fin 2048), (iblk m c 0 t : FVec Ideal S1024x2048 .bf16) (ix2 r k)
      = ((m ((c : Thread nD τ).loc main_arg0)) : FVec Ideal S8192x2048 .bf16) (ix2 ⟨t.val / 8 * 1024 + r.val, by have := lt64 t; have := r.isLt; omega⟩ k) := by
    intro k; blk_ext [iblk, V_main_arg0, idx t]
  have e1 : ∀ (k : Fin 768), (iblk m c 1 t : FVec Ideal S1024x768 .bf16) (ix2 r k)
      = ((m ((c : Thread nD τ).loc main_arg1)) : FVec Ideal S8192x768 .bf16) (ix2 ⟨t.val / 8 * 1024 + r.val, by have := lt64 t; have := r.isLt; omega⟩ k) := by
    intro k; blk_ext [iblk, V_main_arg1, idx t]
  have e2 : ∀ (k : Fin 768), (iblk m c 2 t : FVec Ideal S1024x768 .bf16) (ix2 r k)
      = ((m ((c : Thread nD τ).loc main_arg2)) : FVec Ideal S8192x768 .bf16) (ix2 ⟨t.val / 8 * 1024 + r.val, by have := lt64 t; have := r.isLt; omega⟩ k) := by
    intro k; blk_ext [iblk, V_main_arg2, idx t]
  have e3 : ∀ (k : Fin 256), (iblk m c 3 t : FVec Ideal S1024x256 .bf16) (ix2 r k)
      = ((m ((c : Thread nD τ).loc main_arg3)) : FVec Ideal S8192x256 .bf16) (ix2 ⟨t.val / 8 * 1024 + r.val, by have := lt64 t; have := r.isLt; omega⟩ k) := by
    intro k; blk_ext [iblk, V_main_arg3, idx t]
  have e4 : ∀ (k : Fin 768), (iblk m c 4 t : FVec Ideal S1024x768 .bf16) (ix2 r k)
      = ((m ((c : Thread nD τ).loc main_arg4)) : FVec Ideal S8192x768 .bf16) (ix2 ⟨t.val / 8 * 1024 + r.val, by have := lt64 t; have := r.isLt; omega⟩ k) := by
    intro k; blk_ext [iblk, V_main_arg4, idx t]
  have e5 : ∀ (k : Fin 2048), (iblk m c 5 t : FVec Ideal S1x2048x256 .f32) (ix3 0 k q)
      = ((m ((c : Thread nD τ).loc main_arg5)) : FVec Ideal S2x2048x8192 .f32) (ix3 0 k ⟨0 + (t.val % 8 * 256 + q.val), by have := q.isLt; omega⟩) := by
    intro k; blk_ext [iblk, V_main_arg5, idx t]
  have e6 : ∀ (k : Fin 2048), (iblk m c 6 t : FVec Ideal S1x2048x256 .f32) (ix3 0 k q)
      = ((m ((c : Thread nD τ).loc main_arg5)) : FVec Ideal S2x2048x8192 .f32) (ix3 0 k ⟨2048 + (t.val % 8 * 256 + q.val), by have := q.isLt; omega⟩) := by
    intro k; blk_ext [iblk, V_main_arg5, idx t]
  have e7 : ∀ (k : Fin 2048), (iblk m c 7 t : FVec Ideal S1x2048x256 .f32) (ix3 0 k q)
      = ((m ((c : Thread nD τ).loc main_arg5)) : FVec Ideal S2x2048x8192 .f32) (ix3 0 k ⟨4096 + (t.val % 8 * 256 + q.val), by have := q.isLt; omega⟩) := by
    intro k; blk_ext [iblk, V_main_arg5, idx t]
  have e8 : ∀ (k : Fin 2048), (iblk m c 8 t : FVec Ideal S1x2048x256 .f32) (ix3 0 k q)
      = ((m ((c : Thread nD τ).loc main_arg5)) : FVec Ideal S2x2048x8192 .f32) (ix3 0 k ⟨6144 + (t.val % 8 * 256 + q.val), by have := q.isLt; omega⟩) := by
    intro k; blk_ext [iblk, V_main_arg5, idx t]
  have e9 : (iblk m c 9 t : FVec Ideal S1x1x256 .f32) (ix3 0 0 q)
      = ((m ((c : Thread nD τ).loc main_arg6)) : FVec Ideal S2x8192 .f32) (ix2 0 ⟨0 + (t.val % 8 * 256 + q.val), by have := q.isLt; omega⟩) := by
    rw [← bias m c]; blk_ext [iblk, idx t]
  have e10 : (iblk m c 10 t : FVec Ideal S1x1x256 .f32) (ix3 0 0 q)
      = ((m ((c : Thread nD τ).loc main_arg6)) : FVec Ideal S2x8192 .f32) (ix2 0 ⟨2048 + (t.val % 8 * 256 + q.val), by have := q.isLt; omega⟩) := by
    rw [← bias m c]; blk_ext [iblk, idx t]
  have e11 : (iblk m c 11 t : FVec Ideal S1x1x256 .f32) (ix3 0 0 q)
      = ((m ((c : Thread nD τ).loc main_arg6)) : FVec Ideal S2x8192 .f32) (ix2 0 ⟨4096 + (t.val % 8 * 256 + q.val), by have := q.isLt; omega⟩) := by
    rw [← bias m c]; blk_ext [iblk, idx t]
  have e12 : (iblk m c 12 t : FVec Ideal S1x1x256 .f32) (ix3 0 0 q)
      = ((m ((c : Thread nD τ).loc main_arg6)) : FVec Ideal S2x8192 .f32) (ix2 0 ⟨6144 + (t.val % 8 * 256 + q.val), by have := q.isLt; omega⟩) := by
    rw [← bias m c]; blk_ext [iblk, idx t]
  have e13 : ∀ (k : Fin 768), (iblk m c 13 t : FVec Ideal S1x768x256 .f32) (ix3 0 k q)
      = ((m ((c : Thread nD τ).loc main_arg7)) : FVec Ideal S2x768x2048 .f32) (ix3 0 k ⟨t.val % 8 * 256 + q.val, by have := q.isLt; omega⟩) := by
    intro k; blk_ext [iblk, V_main_arg7, idx t]
  have e14 : ∀ (k : Fin 768), (iblk m c 14 t : FVec Ideal S1x768x256 .f32) (ix3 0 k q)
      = ((m ((c : Thread nD τ).loc main_arg8)) : FVec Ideal S2x768x2048 .f32) (ix3 0 k ⟨t.val % 8 * 256 + q.val, by have := q.isLt; omega⟩) := by
    intro k; blk_ext [iblk, V_main_arg8, idx t]
  have e15 : ∀ (k : Fin 256), (iblk m c 15 t : FVec Ideal S1x256x256 .f32) (ix3 0 k q)
      = ((m ((c : Thread nD τ).loc main_arg9)) : FVec Ideal S2x256x2048 .f32) (ix3 0 k ⟨t.val % 8 * 256 + q.val, by have := q.isLt; omega⟩) := by
    intro k; blk_ext [iblk, V_main_arg9, idx t]
  have e16 : ∀ (k : Fin 768), (iblk m c 16 t : FVec Ideal S1x768x256 .f32) (ix3 0 k q)
      = ((m ((c : Thread nD τ).loc main_arg10)) : FVec Ideal S2x768x2048 .f32) (ix3 0 k ⟨t.val % 8 * 256 + q.val, by have := q.isLt; omega⟩) := by
    intro k; blk_ext [iblk, V_main_arg10, idx t]
  have f : (((View.whole main_v1).slice (win0_17.rect t)).emb (ix2 r q) : S8192x2048.Idx) = ix2 ⟨t.val / 8 * 1024 + r.val, by have := lt64 t; have := r.isLt; omega⟩ ⟨t.val % 8 * 256 + q.val, by have := q.isLt; omega⟩ := by
    blk_ext [idx t]
  refine Eq.trans ?_ (congrArg (fun i : S8192x2048.Idx => whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)) f.symm)
  refine (pay5 _ _ _ _ _ _ _ _ _ _ _ _ r q).trans ?_
  rw [pay2, pay3, pay4]
  show _ = whole _ _ _ _ _ _ _ _ _ _ _ _ _
  unfold whole gate
  simp only [View.ld_unit_zero, e0, e1, e2, e3, e4, e5, e6, e7, e8, e9, e10, e11, e12, e13, e14, e15, e16, Nat.zero_add]
  rfl

end Cert.MergeIdeal.Pure

end
-- ==== Proof.MergeClaim.lean ====
/- The gated merge's reference, and its claims. -/
module

public import proofs.«01_k».proof.Proof.MergeValue

@[expose] public section

set_option maxRecDepth 16384

noncomputable section

open Idealize.ShloMosaic Idealize.ShloMosaic.TcCoe Idealize.SL.Sem

namespace Cert.MergeReferenceIdeal.Pure

open Cert.MergeReferenceIdeal Cert.MergeReferenceIdeal.Gen
open Cert.MergeIdeal.Pure (gate whole)

/-- The reference's gates, all four branches side by side. -/
def rgate (H : FVec Ideal S8192x2048 .bf16) (Wg : FVec Ideal S2x2048x8192 .f32) (bg : FVec Ideal S2x8192 .f32) : FVec Ideal S8192x8192 .f32 :=
  Host.divf (broadcastInDim S8192x8192 ![] bcast_S_S8192x8192 (constant S_ .f32 0x3F800000#32)) (addf (broadcastInDim S8192x8192 ![] bcast_S_S8192x8192 (constant S_ .f32 0x3F800000#32)) (Host.exp (Host.negf (addf (Host.dotGeneral dot_S8192x2048_S2048x8192_S8192x8192_1_0_0_1_n_n none (extf .f32 H bitsLt_bf16_f32) (shapeCast _ (extractStridedSlice S1x2048x8192 ![0, 0, 0] Wg slices_S2x2048x8192_S1x2048x8192_0_0_0) shapeCasts_S1x2048x8192_S2048x8192)) (broadcastInDim S8192x8192 ![0, 1] bcast_S1x8192_S8192x8192_0_1 (broadcastInDim S1x8192 ![1] bcast_S8192_S1x8192_1 (shapeCast _ (extractStridedSlice S1x8192 ![0, 0] bg slices_S2x8192_S1x8192_0_0) shapeCasts_S1x8192_S8192)))))))

theorem one : Ideal.ofBits .f32 0x3F800000#32 = (1 : EReal) := by
  rw [show Ideal.ofBits .f32 0x3F800000#32 = ((1 : ℝ) : EReal) from by simp [Ideal.ofBits, Ideal.ieee]; norm_num; rw [← EReal.coe_mul]; norm_num]
  exact EReal.coe_one

theorem rgate_apply (H : FVec Ideal S8192x2048 .bf16) (Wg : FVec Ideal S2x2048x8192 .f32) (bg : FVec Ideal S2x8192 .f32) (i j : Fin 8192) :
    rgate H Wg bg (ix2 i j) = gate H Wg bg i j := by
  unfold gate Ideal.logistic
  pointwise [rgate]

/-- The reference's merged rows. -/
def ref (H : FVec Ideal S8192x2048 .bf16) (Ya Yb : FVec Ideal S8192x768 .bf16) (Yc : FVec Ideal S8192x256 .bf16) (Ym : FVec Ideal S8192x768 .bf16)
    (Wg : FVec Ideal S2x2048x8192 .f32) (bg : FVec Ideal S2x8192 .f32) (Wa Wb : FVec Ideal S2x768x2048 .f32) (Wc : FVec Ideal S2x256x2048 .f32)
    (Wm : FVec Ideal S2x768x2048 .f32) : FVec Ideal S8192x2048 .bf16 :=
  truncf .bf16 (addf (addf (addf (mulf (shapeCast _ (extractStridedSlice S8192x1x2048 ![0, 0, 0] (shapeCast _ (rgate H Wg bg) shapeCasts_S8192x8192_S8192x4x2048) slices_S8192x4x2048_S8192x1x2048_0_0_0) shapeCasts_S8192x1x2048_S8192x2048) (Host.dotGeneral dot_S8192x768_S768x2048_S8192x2048_1_0_0_1_n_n none (extf .f32 Ya bitsLt_bf16_f32) (shapeCast _ (extractStridedSlice S1x768x2048 ![0, 0, 0] Wa slices_S2x768x2048_S1x768x2048_0_0_0) shapeCasts_S1x768x2048_S768x2048))) (mulf (shapeCast _ (extractStridedSlice S8192x1x2048 ![0, 1, 0] (shapeCast _ (rgate H Wg bg) shapeCasts_S8192x8192_S8192x4x2048) slices_S8192x4x2048_S8192x1x2048_0_1_0) shapeCasts_S8192x1x2048_S8192x2048) (Host.dotGeneral dot_S8192x768_S768x2048_S8192x2048_1_0_0_1_n_n none (extf .f32 Yb bitsLt_bf16_f32) (shapeCast _ (extractStridedSlice S1x768x2048 ![0, 0, 0] Wb slices_S2x768x2048_S1x768x2048_0_0_0) shapeCasts_S1x768x2048_S768x2048)))) (mulf (shapeCast _ (extractStridedSlice S8192x1x2048 ![0, 2, 0] (shapeCast _ (rgate H Wg bg) shapeCasts_S8192x8192_S8192x4x2048) slices_S8192x4x2048_S8192x1x2048_0_2_0) shapeCasts_S8192x1x2048_S8192x2048) (Host.dotGeneral dot_S8192x256_S256x2048_S8192x2048_1_0_0_1_n_n none (extf .f32 Yc bitsLt_bf16_f32) (shapeCast _ (extractStridedSlice S1x256x2048 ![0, 0, 0] Wc slices_S2x256x2048_S1x256x2048_0_0_0) shapeCasts_S1x256x2048_S256x2048)))) (mulf (shapeCast _ (extractStridedSlice S8192x1x2048 ![0, 3, 0] (shapeCast _ (rgate H Wg bg) shapeCasts_S8192x8192_S8192x4x2048) slices_S8192x4x2048_S8192x1x2048_0_3_0) shapeCasts_S8192x1x2048_S8192x2048) (Host.dotGeneral dot_S8192x768_S768x2048_S8192x2048_1_0_0_1_n_n none (extf .f32 Ym bitsLt_bf16_f32) (shapeCast _ (extractStridedSlice S1x768x2048 ![0, 0, 0] Wm slices_S2x768x2048_S1x768x2048_0_0_0) shapeCasts_S1x768x2048_S768x2048)))) bitsLt_bf16_f32

theorem ref_apply' (H : FVec Ideal S8192x2048 .bf16) (Ya Yb : FVec Ideal S8192x768 .bf16) (Yc : FVec Ideal S8192x256 .bf16) (Ym : FVec Ideal S8192x768 .bf16)
    (Wg : FVec Ideal S2x2048x8192 .f32) (bg : FVec Ideal S2x8192 .f32) (Wa Wb : FVec Ideal S2x768x2048 .f32) (Wc : FVec Ideal S2x256x2048 .f32)
    (Wm : FVec Ideal S2x768x2048 .f32) (i : Fin 8192) (j : Fin 2048) :
    ref H Ya Yb Yc Ym Wg bg Wa Wb Wc Wm (ix2 i j) =
      rgate H Wg bg (ix2 i ⟨j.val, by omega⟩) * (∑ k : Fin 768, Ya (ix2 i k) * Wa (ix3 0 k j))
        + rgate H Wg bg (ix2 i ⟨2048 + j.val, by omega⟩) * (∑ k : Fin 768, Yb (ix2 i k) * Wb (ix3 0 k j))
        + rgate H Wg bg (ix2 i ⟨4096 + j.val, by omega⟩) * (∑ k : Fin 256, Yc (ix2 i k) * Wc (ix3 0 k j))
        + rgate H Wg bg (ix2 i ⟨6144 + j.val, by omega⟩) * (∑ k : Fin 768, Ym (ix2 i k) * Wm (ix3 0 k j)) := by
  unfold ref
  generalize rgate H Wg bg = G
  pointwise

theorem ref_apply (H : FVec Ideal S8192x2048 .bf16) (Ya Yb : FVec Ideal S8192x768 .bf16) (Yc : FVec Ideal S8192x256 .bf16) (Ym : FVec Ideal S8192x768 .bf16)
    (Wg : FVec Ideal S2x2048x8192 .f32) (bg : FVec Ideal S2x8192 .f32) (Wa Wb : FVec Ideal S2x768x2048 .f32) (Wc : FVec Ideal S2x256x2048 .f32)
    (Wm : FVec Ideal S2x768x2048 .f32) (i : Fin 8192) (j : Fin 2048) :
    ref H Ya Yb Yc Ym Wg bg Wa Wb Wc Wm (ix2 i j) = whole H Ya Yb Yc Ym Wg bg Wa Wb Wc Wm i j := by
  rw [ref_apply']
  simp only [rgate_apply]
  rfl

end Cert.MergeReferenceIdeal.Pure

namespace Cert.Proof.Merge

theorem frame : Cert.quiescent_Merge := fun m ρ _ => Cert.Merge.Gen.frame m ρ
theorem frameI : Cert.quiescent_MergeIdeal := fun m ρ _ => Cert.MergeIdeal.Gen.frame m ρ
theorem frameR : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem algebraic : Cert.algebraic_MergeIdeal_MergeReferenceIdeal := by
  intro m ρ m' ρ' _ hag
  refine ⟨fun c => fun i : Cert.MergeIdeal.S8192x2048.Idx => Cert.MergeIdeal.Pure.whole
    (m ((c.tc : Thread Cert.MergeIdeal.nD Cert.MergeIdeal.τ).loc Cert.MergeIdeal.main_arg0))
    (m ((c.tc : Thread Cert.MergeIdeal.nD Cert.MergeIdeal.τ).loc Cert.MergeIdeal.main_arg1))
    (m ((c.tc : Thread Cert.MergeIdeal.nD Cert.MergeIdeal.τ).loc Cert.MergeIdeal.main_arg2))
    (m ((c.tc : Thread Cert.MergeIdeal.nD Cert.MergeIdeal.τ).loc Cert.MergeIdeal.main_arg3))
    (m ((c.tc : Thread Cert.MergeIdeal.nD Cert.MergeIdeal.τ).loc Cert.MergeIdeal.main_arg4))
    (m ((c.tc : Thread Cert.MergeIdeal.nD Cert.MergeIdeal.τ).loc Cert.MergeIdeal.main_arg5))
    (m ((c.tc : Thread Cert.MergeIdeal.nD Cert.MergeIdeal.τ).loc Cert.MergeIdeal.main_arg6))
    (m ((c.tc : Thread Cert.MergeIdeal.nD Cert.MergeIdeal.τ).loc Cert.MergeIdeal.main_arg7))
    (m ((c.tc : Thread Cert.MergeIdeal.nD Cert.MergeIdeal.τ).loc Cert.MergeIdeal.main_arg8))
    (m ((c.tc : Thread Cert.MergeIdeal.nD Cert.MergeIdeal.τ).loc Cert.MergeIdeal.main_arg9))
    (m ((c.tc : Thread Cert.MergeIdeal.nD Cert.MergeIdeal.τ).loc Cert.MergeIdeal.main_arg10)) (i 0) (i 1), ?_, ?_⟩
  · exact (θ_run Cert.MergeIdeal.defs _ _).mono (fun _ h c => ⟨(h c).1.trans (Cert.MergeIdeal.Pure.final m c), (h c).2⟩)
      (Cert.MergeIdeal.Value.run_blocks (F := Ideal) m ρ)
  · refine (θ_run Cert.MergeReferenceIdeal.defs _ _).mono (fun _ h c => ⟨(h c).1.trans ?_, (h c).2⟩)
      (Cert.MergeReferenceIdeal.Value.run (F := Ideal) m' ρ')
    obtain ⟨h0, h1, h2, h3, h4, h5, h6, h7, h8, h9, h10⟩ := hag c
    funext i
    obtain ⟨i, j, rfl⟩ : ∃ (p : Fin 8192) (q : Fin 2048), i = ix2 p q := ⟨i 0, i 1, eq_ix2 i⟩
    refine (Cert.MergeReferenceIdeal.Pure.ref_apply _ _ _ _ _ _ _ _ _ _ _ i j).trans ?_
    rw [h0, h1, h2, h3, h4, h5, h6, h7, h8, h9, h10]
    rfl

end Cert.Proof.Merge

end
-- ==== Proof.InProj.lean ====
/- The input projection: each column block of the product of the rows with the weights. -/
module

public import proofs.«01_k».proof.Defs
public import proofs.«01_k».proof.Proof.Gen.InProj.Frame
public import proofs.«01_k».proof.Proof.Gen.InProjIdeal.Value
public import proofs.«01_k».proof.Proof.Gen.InProjReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.Pure

open Cert.InProjIdeal Cert.InProjIdeal.Gen

/-- The product at row `i`, column `j`. -/
def whole (X : FVec Ideal S8192x2048 .bf16) (W : FVec Ideal S2x2048x6144 .f32) (i : Fin 8192) (j : Fin 6144) : EReal :=
  ∑ k : Fin 2048, X (ix2 i k) * W (ix3 0 k j)

theorem pay (X : Vec Ideal S2048x2048 .bf16) (W : Vec Ideal S1x2048x768 .f32) (r : Fin 2048) (q : Fin 768) :
    k0_pay1 X W (ix2 r q) = ∑ k : Fin 2048, X (ix2 r k) * W (ix3 0 k q) := by
  pointwise [k0_pay1]

variable (m : (ℓ : Loc nD τ sig) → Buf (Elt Ideal) ℓ)

theorem idx : ∀ t : Fin cfg0.N, win0_0.index t = ![t.val / 8, 0] ∧ win0_1.index t = ![0, 0, t.val % 8]
    ∧ win0_2.index t = ![t.val / 8, t.val % 8] ∧ t.val < 32 :=
  (by decide +kernel : ∀ t : Fin grid0.N, _)

theorem final (c : Dev nD) :
    (dats m 0 c).arrAt 2 (cfgs 0).N = fun i : S8192x6144.Idx => whole (m ((c : Thread nD τ).loc main_arg0)) (m ((c : Thread nD τ).loc main_arg1)) (i 0) (i 1) := by
  refine (dats m 0 c).arrAt_eq_of_covers 2 _ (by decide +kernel) fun t _ y => ?_
  blk_simp
  rw [after0_2]; frame_out
  obtain ⟨r, q, rfl⟩ : ∃ (r : Fin 2048) (q : Fin 768), y = ix2 r q := ⟨y 0, y 1, eq_ix2 y⟩
  have e0 : ∀ (r : Fin 2048) (k : Fin 2048), (iblk m c 0 t : FVec Ideal S2048x2048 .bf16) (ix2 r k)
      = ((m ((c : Thread nD τ).loc main_arg0)) : FVec Ideal S8192x2048 .bf16) (ix2 ⟨t.val / 8 * 2048 + r.val, by have := (idx t).2.2.2; have := r.isLt; omega⟩ k) := by
    intro r k; blk_ext [iblk, V, idx t]
  have e1 : ∀ (k : Fin 2048) (q : Fin 768), (iblk m c 1 t : FVec Ideal S1x2048x768 .f32) (ix3 0 k q)
      = ((m ((c : Thread nD τ).loc main_arg1)) : FVec Ideal S2x2048x6144 .f32) (ix3 0 k ⟨t.val % 8 * 768 + q.val, by have := q.isLt; omega⟩) := by
    intro k q; blk_ext [iblk, V, idx t]
  have f : (((View.whole main_v0).slice (win0_2.rect t)).emb (ix2 r q) : S8192x6144.Idx) = ix2 ⟨t.val / 8 * 2048 + r.val, by have := (idx t).2.2.2; have := r.isLt; omega⟩ ⟨t.val % 8 * 768 + q.val, by have := q.isLt; omega⟩ := by
    blk_ext [idx t]
  refine Eq.trans ?_ (congrArg (fun i : S8192x6144.Idx => whole (m ((c : Thread nD τ).loc main_arg0)) (m ((c : Thread nD τ).loc main_arg1)) (i 0) (i 1)) f.symm)
  refine (pay _ _ r q).trans ?_
  show _ = whole _ _ _ _
  unfold whole
  simp only [View.ld_unit_zero, e0, e1]
  try rfl

end Cert.InProjIdeal.Pure

namespace Cert.Proof.InProj

theorem frame : Cert.quiescent_InProj := fun m ρ _ => Cert.InProj.Gen.frame m ρ
theorem frameI : Cert.quiescent_InProjIdeal := fun m ρ _ => Cert.InProjIdeal.Gen.frame m ρ
theorem frameR : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

open Cert.InProjReferenceIdeal Cert.InProjReferenceIdeal.Gen in
/-- The reference's result at an index. -/
theorem ref (X : FVec Ideal S8192x2048 .bf16) (W : FVec Ideal S2x2048x6144 .f32) (i : Fin 8192) (j : Fin 6144) :
    ((truncf .bf16 (Host.dotGeneral dot_S8192x2048_S2048x6144_S8192x6144_1_0_0_1_n_n none (extf .f32 X bitsLt_bf16_f32) (shapeCast _ (extractStridedSlice S1x2048x6144 ![0, 0, 0] W slices_S2x2048x6144_S1x2048x6144_0_0_0) shapeCasts_S1x2048x6144_S2048x6144)) bitsLt_bf16_f32) : FVec Ideal S8192x6144 .bf16) (ix2 i j) = Cert.InProjIdeal.Pure.whole X W i j := by
  pointwise [Cert.InProjIdeal.Pure.whole]

theorem algebraic : Cert.algebraic_InProjIdeal_InProjReferenceIdeal := by
  intro m ρ m' ρ' _ hag
  refine ⟨fun c => fun i : Cert.InProjIdeal.S8192x6144.Idx => Cert.InProjIdeal.Pure.whole
    (m ((c.tc : Thread Cert.InProjIdeal.nD Cert.InProjIdeal.τ).loc Cert.InProjIdeal.main_arg0))
    (m ((c.tc : Thread Cert.InProjIdeal.nD Cert.InProjIdeal.τ).loc Cert.InProjIdeal.main_arg1)) (i 0) (i 1), ?_, ?_⟩
  · exact (θ_run Cert.InProjIdeal.defs _ _).mono (fun _ h c => ⟨(h c).1.trans (Cert.InProjIdeal.Pure.final m c), (h c).2⟩)
      (Cert.InProjIdeal.Value.run_blocks (F := Ideal) m ρ)
  · refine (θ_run Cert.InProjReferenceIdeal.defs _ _).mono (fun _ h c => ⟨(h c).1.trans ?_, (h c).2⟩)
      (Cert.InProjReferenceIdeal.Value.run (F := Ideal) m' ρ')
    rw [(hag c).1, (hag c).2]
    funext i
    obtain ⟨i, j, rfl⟩ : ∃ (p : Fin 8192) (q : Fin 6144), i = ix2 p q := ⟨i 0, i 1, eq_ix2 i⟩
    exact ref _ _ i j

end Cert.Proof.InProj

end
-- ==== Proof.OutProj.lean ====
/- The output projection: the product of the merged rows with the weights, added to the residual. -/
module

public import proofs.«01_k».proof.Defs
public import proofs.«01_k».proof.Proof.Gen.OutProj.Frame
public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Pure

open Cert.OutProjIdeal Cert.OutProjIdeal.Gen

/-- The product at row `i`, column `j`, the residual added. -/
def whole (X : FVec Ideal S8192x2048 .bf16) (W : FVec Ideal S2x2048x2048 .f32) (R : FVec Ideal S8192x2048 .f32) (i : Fin 8192) (j : Fin 2048) : EReal :=
  R (ix2 i j) + ∑ k : Fin 2048, X (ix2 i k) * W (ix3 0 k j)

theorem pay (X : Vec Ideal S2048x2048 .bf16) (W : Vec Ideal S1x2048x512 .f32) (R : Vec Ideal S2048x512 .f32) (r : Fin 2048) (q : Fin 512) :
    k0_pay1 R X W (ix2 r q) = R (ix2 r q) + ∑ k : Fin 2048, X (ix2 r k) * W (ix3 0 k q) := by
  pointwise [k0_pay1]

variable (m : (ℓ : Loc nD τ sig) → Buf (Elt Ideal) ℓ)

theorem idx : ∀ t : Fin cfg0.N, win0_0.index t = ![t.val / 4, 0] ∧ win0_1.index t = ![0, 0, t.val % 4] ∧ win0_2.index t = ![t.val / 4, t.val % 4]
    ∧ win0_3.index t = ![t.val / 4, t.val % 4] ∧ t.val < 16 :=
  (by decide +kernel : ∀ t : Fin grid0.N, _)

theorem final (c : Dev nD) :
    (dats m 0 c).arrAt 3 (cfgs 0).N = fun i : S8192x2048.Idx => whole (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]; frame_out
  obtain ⟨r, q, rfl⟩ : ∃ (r : Fin 2048) (q : Fin 512), y = ix2 r q := ⟨y 0, y 1, eq_ix2 y⟩
  have e0 : ∀ (r : Fin 2048) (k : Fin 2048), (iblk m c 0 t : FVec Ideal S2048x2048 .bf16) (ix2 r k)
      = ((m ((c : Thread nD τ).loc main_arg0)) : FVec Ideal S8192x2048 .bf16) (ix2 ⟨t.val / 4 * 2048 + r.val, by have := (idx t).2.2.2.2; have := r.isLt; omega⟩ k) := by
    intro r k; blk_ext [iblk, V, idx t]
  have e1 : ∀ (k : Fin 2048) (q : Fin 512), (iblk m c 1 t : FVec Ideal S1x2048x512 .f32) (ix3 0 k q)
      = ((m ((c : Thread nD τ).loc main_arg1)) : FVec Ideal S2x2048x2048 .f32) (ix3 0 k ⟨t.val % 4 * 512 + q.val, by have := q.isLt; omega⟩) := by
    intro k q; blk_ext [iblk, V, idx t]
  have e2 : (iblk m c 2 t : FVec Ideal S2048x512 .f32) (ix2 r q)
      = ((m ((c : Thread nD τ).loc main_arg2)) : FVec Ideal S8192x2048 .f32) (ix2 ⟨t.val / 4 * 2048 + r.val, by have := (idx t).2.2.2.2; have := r.isLt; omega⟩ ⟨t.val % 4 * 512 + q.val, by have := q.isLt; omega⟩) := by
    blk_ext [iblk, V, idx t]
  have f : (((View.whole main_v0).slice (win0_3.rect t)).emb (ix2 r q) : S8192x2048.Idx) = ix2 ⟨t.val / 4 * 2048 + r.val, by have := (idx t).2.2.2.2; have := r.isLt; omega⟩ ⟨t.val % 4 * 512 + q.val, by have := q.isLt; omega⟩ := by
    blk_ext [idx t]
  refine Eq.trans ?_ (congrArg (fun i : S8192x2048.Idx => whole (m ((c : Thread nD τ).loc main_arg0)) (m ((c : Thread nD τ).loc main_arg1)) (m ((c : Thread nD τ).loc main_arg2)) (i 0) (i 1)) f.symm)
  refine (pay _ _ _ r q).trans ?_
  show _ = whole _ _ _ _ _
  unfold whole
  simp only [View.ld_unit_zero, e0, e1, e2]
  try rfl

end Cert.OutProjIdeal.Pure

namespace Cert.Proof.OutProj

theorem frame : Cert.quiescent_OutProj := fun m ρ _ => Cert.OutProj.Gen.frame m ρ
theorem frameI : Cert.quiescent_OutProjIdeal := fun m ρ _ => Cert.OutProjIdeal.Gen.frame m ρ
theorem frameR : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

open Cert.OutProjReferenceIdeal Cert.OutProjReferenceIdeal.Gen in
/-- The reference's result at an index. -/
theorem ref (X : FVec Ideal S8192x2048 .bf16) (W : FVec Ideal S2x2048x2048 .f32) (R : FVec Ideal S8192x2048 .f32) (i : Fin 8192) (j : Fin 2048) :
    ((addf R (Host.dotGeneral dot_S8192x2048_S2048x2048_S8192x2048_1_0_0_1_n_n none (extf .f32 X bitsLt_bf16_f32) (shapeCast _ (extractStridedSlice S1x2048x2048 ![0, 0, 0] W slices_S2x2048x2048_S1x2048x2048_0_0_0) shapeCasts_S1x2048x2048_S2048x2048))) : FVec Ideal S8192x2048 .f32) (ix2 i j) = Cert.OutProjIdeal.Pure.whole X W R i j := by
  pointwise [Cert.OutProjIdeal.Pure.whole]

theorem algebraic : Cert.algebraic_OutProjIdeal_OutProjReferenceIdeal := by
  intro m ρ m' ρ' _ hag
  refine ⟨fun c => fun i : Cert.OutProjIdeal.S8192x2048.Idx => Cert.OutProjIdeal.Pure.whole
    (m ((c.tc : Thread Cert.OutProjIdeal.nD Cert.OutProjIdeal.τ).loc Cert.OutProjIdeal.main_arg0))
    (m ((c.tc : Thread Cert.OutProjIdeal.nD Cert.OutProjIdeal.τ).loc Cert.OutProjIdeal.main_arg1))
    (m ((c.tc : Thread Cert.OutProjIdeal.nD Cert.OutProjIdeal.τ).loc Cert.OutProjIdeal.main_arg2)) (i 0) (i 1), ?_, ?_⟩
  · exact (θ_run Cert.OutProjIdeal.defs _ _).mono (fun _ h c => ⟨(h c).1.trans (Cert.OutProjIdeal.Pure.final m c), (h c).2⟩)
      (Cert.OutProjIdeal.Value.run_blocks (F := Ideal) m ρ)
  · refine (θ_run Cert.OutProjReferenceIdeal.defs _ _).mono (fun _ h c => ⟨(h c).1.trans ?_, (h c).2⟩)
      (Cert.OutProjReferenceIdeal.Value.run (F := Ideal) m' ρ')
    rw [(hag c).1, (hag c).2.1, (hag c).2.2]
    funext i
    obtain ⟨i, j, rfl⟩ : ∃ (p : Fin 8192) (q : Fin 2048), i = ix2 p q := ⟨i 0, i 1, eq_ix2 i⟩
    exact ref _ _ _ i j

end Cert.Proof.OutProj

end
-- ==== Proof.DenseUp.lean ====
/- The dense up projection: the normalised rows against two weights, the first product through the gate and times the second. -/
module

public import proofs.«01_k».proof.Defs
public import proofs.«01_k».proof.Proof.Gen.DenseUp.Frame
public import proofs.«01_k».proof.Proof.Gen.DenseUpIdeal.Value
public import proofs.«01_k».proof.Proof.Gen.DenseUpReferenceIdeal.Run
public import Idealize.ShloMosaic.Lib.Pipeline.ValueKit
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DenseUpIdeal.Pure

open Cert.DenseUpIdeal Cert.DenseUpIdeal.Gen

/-- The normalised entry: the row's entry over the root of the row's mean square, times the gain. -/
def nrow {n : ℕ} (X : Fin n → Fin 2048 → EReal) (g : Fin 2048 → EReal) (i : Fin n) (k : Fin 2048) : EReal :=
  X i k * Ideal.rsqrt (Ideal.div (∑ l : Fin 2048, X i l * X i l) (Ideal.ofBits .f32 0x45000000#32) + Ideal.ofBits .f32 0x358637BD#32) * g k

/-- The gate of a value: the value times its logistic. -/
def silu (a : EReal) : EReal := a * Ideal.logistic a

/-- The gated product at row `i`, column `j`. -/
def whole (X : FVec Ideal S8192x2048 .f32) (g : FVec Ideal S2048 .f32) (Wg Wu : FVec Ideal S1x2048x5632 .f32) (i : Fin 8192) (j : Fin 5632) : EReal :=
  silu (∑ k : Fin 2048, nrow (fun i k => X (ix2 i k)) (fun k => g (ix1 k)) i k * Wg (ix3 0 k j))
    * ∑ k : Fin 2048, nrow (fun i k => X (ix2 i k)) (fun k => g (ix1 k)) i k * Wu (ix3 0 k j)

theorem pay1 (X : Vec Ideal S1024x2048 .f32) (g : Vec Ideal S1x2048 .f32) (r : Fin 1024) (k : Fin 2048) :
    k0_pay1 X g (ix2 r k) = nrow (fun i k => X (ix2 i k)) (fun k => g (ix2 0 k)) r k := by
  unfold nrow
  pointwise [k0_pay1]

theorem pay2 (A : Vec Ideal S1024x2048 .bf16) (Wg Wu : Vec Ideal S1x2048x512 .f32) (r : Fin 1024) (q : Fin 512) :
    k0_pay2 A Wg Wu (ix2 r q) = silu (∑ k : Fin 2048, A (ix2 r k) * Wg (ix3 0 k q)) * ∑ k : Fin 2048, A (ix2 r k) * Wu (ix3 0 k q) := by
  unfold silu
  pointwise [k0_pay2]

variable (m : (ℓ : Loc nD τ sig) → Buf (Elt Ideal) ℓ)

theorem idx : ∀ t : Fin cfg0.N, win0_0.index t = ![t.val / 11, 0] ∧ win0_1.index t = ![0, 0] ∧ win0_2.index t = ![0, 0, t.val % 11]
    ∧ win0_3.index t = ![0, 0, t.val % 11] ∧ win0_4.index t = ![t.val / 11, t.val % 11] ∧ t.val < 88 :=
  (by decide +kernel : ∀ t : Fin grid0.N, _)

/-- The gain's row, laid out by the reshape. -/
theorem cast_g (g : FVec Ideal S2048 .f32) (k : Fin 2048) : shapeCast S1x2048 g shapeCasts_S2048_S1x2048 (ix2 0 k) = g (ix1 k) := by
  pointwise

theorem gain (c : Dev nD) (t : Fin cfg0.N) (k : Fin 2048) :
    (iblk m c 1 t : FVec Ideal S1x2048 .f32) (ix2 0 k) = (m ((c : Thread nD τ).loc main_arg1) : FVec Ideal S2048 .f32) (ix1 k) := by
  have e : V m c main_v0 = shapeCast S1x2048 (m ((c : Thread nD τ).loc main_arg1) : FVec Ideal S2048 .f32) shapeCasts_S2048_S1x2048 := by
    unfold V; after_results; try rfl
  refine Eq.trans ?_ (cast_g _ k)
  refine Eq.trans (b := (V m c main_v0 : FVec Ideal S1x2048 .f32) (ix2 0 k)) ?_ (congrFun e _)
  blk_ext [iblk, idx t]

theorem rows (c : Dev nD) (t : Fin cfg0.N) (r : Fin 1024) (k : Fin 2048) : (iblk m c 0 t : FVec Ideal S1024x2048 .f32) (ix2 r k)
    = ((m ((c : Thread nD τ).loc main_arg0)) : FVec Ideal S8192x2048 .f32) (ix2 ⟨t.val / 11 * 1024 + r.val, by have := (idx t).2.2.2.2.2; have := r.isLt; omega⟩ k) := by
  blk_ext [iblk, V_main_arg0, idx t]

/-- What the scratch holds after a point: the normalised rows of the point's row block. -/
theorem scratch (c : Dev nD) (n : ℕ) : ∀ h : n < cfg0.N, ∀ (r : Fin 1024) (k : Fin 2048), ((outsAt0 m c n h).2 : FVec Ideal S1024x2048 .bf16) (ix2 r k)
    = nrow (fun i k => ((m ((c : Thread nD τ).loc main_arg0)) : FVec Ideal S8192x2048 .f32) (ix2 i k)) (fun k => (m ((c : Thread nD τ).loc main_arg1) : FVec Ideal S2048 .f32) (ix1 k))
        ⟨n / 11 * 1024 + r.val, by have : n < 88 := (idx ⟨n, h⟩).2.2.2.2.2; have := r.isLt; omega⟩ k := by
  induction n with
  | zero =>
    intro h r k
    rw [outsAt0_A m c ⟨0, h⟩ rfl]; frame_out
    refine (pay1 _ _ r k).trans ?_
    unfold nrow
    simp only [View.ld_unit_zero, rows, gain]
  | succ n ih =>
    intro h r k
    by_cases hn : (n + 1) % 11 = 0
    · rw [outsAt0_A m c ⟨n + 1, h⟩ hn]; frame_out
      refine (pay1 _ _ r k).trans ?_
      unfold nrow
      simp only [View.ld_unit_zero, rows, gain]
    · rw [outsAt0_B m c ⟨n + 1, h⟩ hn]
      refine (ih (Nat.lt_of_succ_lt h) r k).trans ?_
      have e : n / 11 = (n + 1) / 11 := by omega
      simp only [e]

/-- The product of a point, whichever of the two cases it falls in: over what the scratch holds after it. -/
theorem point (c : Dev nD) (t : Fin cfg0.N) (r : Fin 1024) (q : Fin 512) :
    ((outsAt0 m c t.val t.isLt).1 : FVec Ideal S1024x512 .bf16) (ix2 r q)
      = silu (∑ k : Fin 2048, ((outsAt0 m c t.val t.isLt).2 : FVec Ideal S1024x2048 .bf16) (ix2 r k) * (iblk m c 2 t : FVec Ideal S1x2048x512 .f32) (ix3 0 k q))
        * ∑ k : Fin 2048, ((outsAt0 m c t.val t.isLt).2 : FVec Ideal S1024x2048 .bf16) (ix2 r k) * (iblk m c 3 t : FVec Ideal S1x2048x512 .f32) (ix3 0 k q) := by
  by_cases hn : t.val % 11 = 0
  · rw [outsAt0_A m c t hn]; frame_out
    refine (pay2 _ _ _ r q).trans ?_
    simp only [View.ld_unit_zero]
  · rw [outsAt0_B m c t hn]; frame_out
    refine (pay2 _ _ _ r q).trans ?_
    simp only [View.ld_unit_zero, read_unread_whole]
    rfl

theorem final (c : Dev nD) :
    (dats m 0 c).arrAt 4 (cfgs 0).N = fun i : S8192x5632.Idx => whole (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t _ y => ?_
  blk_simp
  rw [after0_4]
  obtain ⟨r, q, rfl⟩ : ∃ (r : Fin 1024) (q : Fin 512), y = ix2 r q := ⟨y 0, y 1, eq_ix2 y⟩
  have e2 : ∀ (k : Fin 2048) (q : Fin 512), (iblk m c 2 t : FVec Ideal S1x2048x512 .f32) (ix3 0 k q)
      = ((m ((c : Thread nD τ).loc main_arg2)) : FVec Ideal S1x2048x5632 .f32) (ix3 0 k ⟨t.val % 11 * 512 + q.val, by have := q.isLt; omega⟩) := by
    intro k q; blk_ext [iblk, V_main_arg2, idx t]
  have e3 : ∀ (k : Fin 2048) (q : Fin 512), (iblk m c 3 t : FVec Ideal S1x2048x512 .f32) (ix3 0 k q)
      = ((m ((c : Thread nD τ).loc main_arg3)) : FVec Ideal S1x2048x5632 .f32) (ix3 0 k ⟨t.val % 11 * 512 + q.val, by have := q.isLt; omega⟩) := by
    intro k q; blk_ext [iblk, V_main_arg3, idx t]
  have f : (((View.whole main_v1).slice (win0_4.rect t)).emb (ix2 r q) : S8192x5632.Idx) = ix2 ⟨t.val / 11 * 1024 + r.val, by have := (idx t).2.2.2.2.2; have := r.isLt; omega⟩ ⟨t.val % 11 * 512 + q.val, by have := q.isLt; omega⟩ := by
    blk_ext [idx t]
  refine Eq.trans ?_ (congrArg (fun i : S8192x5632.Idx => whole (m ((c : Thread nD τ).loc main_arg0)) (m ((c : Thread nD τ).loc main_arg1))
      (m ((c : Thread nD τ).loc main_arg2)) (m ((c : Thread nD τ).loc main_arg3)) (i 0) (i 1)) f.symm)
  refine (point m c t r q).trans ?_
  show _ = whole _ _ _ _ _ _
  unfold whole
  simp only [scratch, e2, e3]
  try rfl

end Cert.DenseUpIdeal.Pure

namespace Cert.DenseUpReferenceIdeal.Pure

open Cert.DenseUpReferenceIdeal Cert.DenseUpReferenceIdeal.Gen
open Cert.DenseUpIdeal.Pure (nrow silu whole)

/-- The reference's normalised rows. -/
def rows (X : FVec Ideal S8192x2048 .f32) (g : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem rows_apply (X : FVec Ideal S8192x2048 .f32) (g : FVec Ideal S2048 .f32) (i : Fin 8192) (k : Fin 2048) :
    rows X g (ix2 i k) = nrow (fun i k => X (ix2 i k)) (fun k => g (ix1 k)) i k := by
  unfold nrow
  pointwise [rows]

/-- A product of the rows with a weight. -/
def prod (A : FVec Ideal S8192x2048 .f32) (W : FVec Ideal S1x2048x5632 .f32) : FVec Ideal S8192x5632 .f32 :=
  Host.dotGeneral dot_S8192x2048_S2048x5632_S8192x5632_1_0_0_1_n_n none A (shapeCast _ W shapeCasts_S1x2048x5632_S2048x5632)

theorem prod_apply (A : FVec Ideal S8192x2048 .f32) (W : FVec Ideal S1x2048x5632 .f32) (i : Fin 8192) (j : Fin 5632) :
    prod A W (ix2 i j) = ∑ k : Fin 2048, A (ix2 i k) * W (ix3 0 k j) := by
  pointwise [prod]

/-- The reference's gated product. -/
def ref (G U : FVec Ideal S8192x5632 .f32) : FVec Ideal S8192x5632 .bf16 :=
  truncf .bf16 (mulf (mulf G (Host.divf (broadcastInDim S8192x5632 ![] bcast_S_S8192x5632 (constant S_ .f32 0x3F800000#32)) (addf (broadcastInDim S8192x5632 ![] bcast_S_S8192x5632 (constant S_ .f32 0x3F800000#32)) (Host.exp (Host.negf G))))) U) bitsLt_bf16_f32

theorem one : Ideal.ofBits .f32 0x3F800000#32 = (1 : EReal) := by
  rw [show Ideal.ofBits .f32 0x3F800000#32 = ((1 : ℝ) : EReal) from by simp [Ideal.ofBits, Ideal.ieee]; norm_num; rw [← EReal.coe_mul]; norm_num]
  exact EReal.coe_one

theorem ref_apply (G U : FVec Ideal S8192x5632 .f32) (i : S8192x5632.Idx) : ref G U i = silu (G i) * U i := by
  unfold silu Ideal.logistic
  pointwise [ref]

theorem at' (X : FVec Ideal S8192x2048 .f32) (g : FVec Ideal S2048 .f32) (Wg Wu : FVec Ideal S1x2048x5632 .f32) (i : Fin 8192) (j : Fin 5632) :
    ref (prod (rows X g) Wg) (prod (rows X g) Wu) (ix2 i j) = whole X g Wg Wu i j := by
  rw [ref_apply, prod_apply, prod_apply]
  unfold whole
  simp only [rows_apply]

end Cert.DenseUpReferenceIdeal.Pure

namespace Cert.Proof.DenseUp

theorem frame : Cert.quiescent_DenseUp := fun m ρ _ => Cert.DenseUp.Gen.frame m ρ
theorem frameI : Cert.quiescent_DenseUpIdeal := fun m ρ _ => Cert.DenseUpIdeal.Gen.frame m ρ
theorem frameR : Cert.quiescent_DenseUpReferenceIdeal := fun m ρ _ =>
  (θ_run Cert.DenseUpReferenceIdeal.defs _ _).mono (fun r h => ⟨fun c => (h c).2, sem_eq_zero_of_no_sems (by decide) r.2⟩)
    (Cert.DenseUpReferenceIdeal.Value.run (F := Ideal) m ρ)

theorem algebraic : Cert.algebraic_DenseUpIdeal_DenseUpReferenceIdeal := by
  intro m ρ m' ρ' _ hag
  refine ⟨fun c => fun i : Cert.DenseUpIdeal.S8192x5632.Idx => Cert.DenseUpIdeal.Pure.whole
    (m ((c.tc : Thread Cert.DenseUpIdeal.nD Cert.DenseUpIdeal.τ).loc Cert.DenseUpIdeal.main_arg0))
    (m ((c.tc : Thread Cert.DenseUpIdeal.nD Cert.DenseUpIdeal.τ).loc Cert.DenseUpIdeal.main_arg1))
    (m ((c.tc : Thread Cert.DenseUpIdeal.nD Cert.DenseUpIdeal.τ).loc Cert.DenseUpIdeal.main_arg2))
    (m ((c.tc : Thread Cert.DenseUpIdeal.nD Cert.DenseUpIdeal.τ).loc Cert.DenseUpIdeal.main_arg3)) (i 0) (i 1), ?_, ?_⟩
  · exact (θ_run Cert.DenseUpIdeal.defs _ _).mono (fun _ h c => ⟨(h c).1.trans (Cert.DenseUpIdeal.Pure.final m c), (h c).2⟩)
      (Cert.DenseUpIdeal.Value.run_blocks (F := Ideal) m ρ)
  · refine (θ_run Cert.DenseUpReferenceIdeal.defs _ _).mono (fun _ h c => ⟨(h c).1.trans ?_, (h c).2⟩)
      (Cert.DenseUpReferenceIdeal.Value.run (F := Ideal) m' ρ')
    rw [(hag c).1, (hag c).2.1, (hag c).2.2.1, (hag c).2.2.2]
    funext i
    obtain ⟨i, j, rfl⟩ : ∃ (p : Fin 8192) (q : Fin 5632), i = ix2 p q := ⟨i 0, i 1, eq_ix2 i⟩
    exact Cert.DenseUpReferenceIdeal.Pure.at' _ _ _ _ i j

end Cert.Proof.DenseUp

end
-- ==== Proof.DenseDown.lean ====
/- The dense down projection: the product of the gated rows with the weights, added to the residual. -/
module

public import proofs.«01_k».proof.Defs
public import proofs.«01_k».proof.Proof.Gen.DenseDown.Frame
public import proofs.«01_k».proof.Proof.Gen.DenseDownIdeal.Value
public import proofs.«01_k».proof.Proof.Gen.DenseDownReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DenseDownIdeal.Pure

open Cert.DenseDownIdeal Cert.DenseDownIdeal.Gen

/-- The product at row `i`, column `j`, the residual added. -/
def whole (X : FVec Ideal S8192x5632 .bf16) (W : FVec Ideal S1x5632x2048 .f32) (R : FVec Ideal S8192x2048 .f32) (i : Fin 8192) (j : Fin 2048) : EReal :=
  R (ix2 i j) + ∑ k : Fin 5632, X (ix2 i k) * W (ix3 0 k j)

theorem pay (X : Vec Ideal S1024x5632 .bf16) (W : Vec Ideal S1x5632x256 .f32) (R : Vec Ideal S1024x256 .f32) (r : Fin 1024) (q : Fin 256) :
    k0_pay1 R X W (ix2 r q) = R (ix2 r q) + ∑ k : Fin 5632, X (ix2 r k) * W (ix3 0 k q) := by
  pointwise [k0_pay1]

variable (m : (ℓ : Loc nD τ sig) → Buf (Elt Ideal) ℓ)

theorem idx : ∀ t : Fin cfg0.N, win0_0.index t = ![t.val / 8, 0] ∧ win0_1.index t = ![0, 0, t.val % 8] ∧ win0_2.index t = ![t.val / 8, t.val % 8]
    ∧ win0_3.index t = ![t.val / 8, t.val % 8] ∧ t.val < 64 :=
  (by decide +kernel : ∀ t : Fin grid0.N, _)

theorem final (c : Dev nD) :
    (dats m 0 c).arrAt 3 (cfgs 0).N = fun i : S8192x2048.Idx => whole (m ((c : Thread nD τ).loc main_arg0)) (m ((c : Thread nD τ).loc main_arg1)) (m ((c : Thread nD τ).loc main_arg2)) (i 0) (i 1) := by
  refine (dats m 0 c).arrAt_eq_of_covers 3 _ (by decide +kernel) fun t _ y => ?_
  blk_simp
  rw [after0_3]; frame_out
  obtain ⟨r, q, rfl⟩ : ∃ (r : Fin 1024) (q : Fin 256), y = ix2 r q := ⟨y 0, y 1, eq_ix2 y⟩
  have e0 : ∀ (r : Fin 1024) (k : Fin 5632), (iblk m c 0 t : FVec Ideal S1024x5632 .bf16) (ix2 r k)
      = ((m ((c : Thread nD τ).loc main_arg0)) : FVec Ideal S8192x5632 .bf16) (ix2 ⟨t.val / 8 * 1024 + r.val, by have := (idx t).2.2.2.2; have := r.isLt; omega⟩ k) := by
    intro r k; blk_ext [iblk, V, idx t]
  have e1 : ∀ (k : Fin 5632) (q : Fin 256), (iblk m c 1 t : FVec Ideal S1x5632x256 .f32) (ix3 0 k q)
      = ((m ((c : Thread nD τ).loc main_arg1)) : FVec Ideal S1x5632x2048 .f32) (ix3 0 k ⟨t.val % 8 * 256 + q.val, by have := q.isLt; omega⟩) := by
    intro k q; blk_ext [iblk, V, idx t]
  have e2 : (iblk m c 2 t : FVec Ideal S1024x256 .f32) (ix2 r q)
      = ((m ((c : Thread nD τ).loc main_arg2)) : FVec Ideal S8192x2048 .f32) (ix2 ⟨t.val / 8 * 1024 + r.val, by have := (idx t).2.2.2.2; have := r.isLt; omega⟩ ⟨t.val % 8 * 256 + q.val, by have := q.isLt; omega⟩) := by
    blk_ext [iblk, V, idx t]
  have f : (((View.whole main_v0).slice (win0_3.rect t)).emb (ix2 r q) : S8192x2048.Idx) = ix2 ⟨t.val / 8 * 1024 + r.val, by have := (idx t).2.2.2.2; have := r.isLt; omega⟩ ⟨t.val % 8 * 256 + q.val, by have := q.isLt; omega⟩ := by
    blk_ext [idx t]
  refine Eq.trans ?_ (congrArg (fun i : S8192x2048.Idx => whole (m ((c : Thread nD τ).loc main_arg0)) (m ((c : Thread nD τ).loc main_arg1)) (m ((c : Thread nD τ).loc main_arg2)) (i 0) (i 1)) f.symm)
  refine (pay _ _ _ r q).trans ?_
  show _ = whole _ _ _ _ _
  unfold whole
  simp only [View.ld_unit_zero, e0, e1, e2]
  try rfl

end Cert.DenseDownIdeal.Pure

namespace Cert.Proof.DenseDown

theorem frame : Cert.quiescent_DenseDown := fun m ρ _ => Cert.DenseDown.Gen.frame m ρ
theorem frameI : Cert.quiescent_DenseDownIdeal := fun m ρ _ => Cert.DenseDownIdeal.Gen.frame m ρ
theorem frameR : Cert.quiescent_DenseDownReferenceIdeal := fun m ρ _ =>
  (θ_run Cert.DenseDownReferenceIdeal.defs _ _).mono (fun r h => ⟨fun c => (h c).2, sem_eq_zero_of_no_sems (by decide) r.2⟩)
    (Cert.DenseDownReferenceIdeal.Value.run (F := Ideal) m ρ)

open Cert.DenseDownReferenceIdeal Cert.DenseDownReferenceIdeal.Gen in
/-- The reference's result at an index. -/
theorem ref (X : FVec Ideal S8192x5632 .bf16) (W : FVec Ideal S1x5632x2048 .f32) (R : FVec Ideal S8192x2048 .f32) (i : Fin 8192) (j : Fin 2048) :
    ((addf R (Host.dotGeneral dot_S8192x5632_S5632x2048_S8192x2048_1_0_0_1_n_n none (extf .f32 X bitsLt_bf16_f32) (shapeCast _ W shapeCasts_S1x5632x2048_S5632x2048))) : FVec Ideal S8192x2048 .f32) (ix2 i j) = Cert.DenseDownIdeal.Pure.whole X W R i j := by
  pointwise [Cert.DenseDownIdeal.Pure.whole]

theorem algebraic : Cert.algebraic_DenseDownIdeal_DenseDownReferenceIdeal := by
  intro m ρ m' ρ' _ hag
  refine ⟨fun c => fun i : Cert.DenseDownIdeal.S8192x2048.Idx => Cert.DenseDownIdeal.Pure.whole
    (m ((c.tc : Thread Cert.DenseDownIdeal.nD Cert.DenseDownIdeal.τ).loc Cert.DenseDownIdeal.main_arg0))
    (m ((c.tc : Thread Cert.DenseDownIdeal.nD Cert.DenseDownIdeal.τ).loc Cert.DenseDownIdeal.main_arg1))
    (m ((c.tc : Thread Cert.DenseDownIdeal.nD Cert.DenseDownIdeal.τ).loc Cert.DenseDownIdeal.main_arg2)) (i 0) (i 1), ?_, ?_⟩
  · exact (θ_run Cert.DenseDownIdeal.defs _ _).mono (fun _ h c => ⟨(h c).1.trans (Cert.DenseDownIdeal.Pure.final m c), (h c).2⟩)
      (Cert.DenseDownIdeal.Value.run_blocks (F := Ideal) m ρ)
  · refine (θ_run Cert.DenseDownReferenceIdeal.defs _ _).mono (fun _ h c => ⟨(h c).1.trans ?_, (h c).2⟩)
      (Cert.DenseDownReferenceIdeal.Value.run (F := Ideal) m' ρ')
    rw [(hag c).1, (hag c).2.1, (hag c).2.2]
    funext i
    obtain ⟨i, j, rfl⟩ : ∃ (p : Fin 8192) (q : Fin 2048), i = ix2 p q := ⟨i 0, i 1, eq_ix2 i⟩
    exact ref _ _ _ i j

end Cert.Proof.DenseDown

end
-- ==== Proof.UpIBody.lean ====
module

public import proofs.«01_k».proof.Proof.Gen.MoeUpIdeal.Launch
public import proofs.«01_k».proof.Proof.Gen.MoeUpIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option synthInstance.maxSize 4096

noncomputable section

namespace Cert.MoeUpIdeal.Hand

open Cert.MoeUpIdeal Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]

/-- The streaming part of a step: the transfers it begins and the ones it waits for, over the words it has read. -/
def streamP (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) : Prog (TpuEff nD τ sig (Elt F) Λ₀ .tc) PUnit := do
  if k0_h1 : k0_cond1 v7 = 1#1 then do
    if k0_h2 : k0_cond2 i v1 v2 = 1#1 then do
      let v66 : Elt F .i32 ← smemLoad arg2 (Rect.unit (s := S40) (k0_off2 i) S1.size (k0_off2_inb i)) numel1_S1 rfl
      have k0_hw2 : k0_chk2 i v1 v2 v7 v66 := (← Prog.lift (TpuEff.assume (k0_chk2 i v1 v2 v7 v66) (k0_chk2.dec i v1 v2 v7 v66))).down
      let v69 : DmaSems sig S1x1 := arg14.slice (Rect.unit (s := S2x2) (k0_off3 i v1 v2) S1x1.size (k0_off3_inb i v1 v2 v7 k0_hw1 k0_h1 k0_h2))
      let v70 : DmaSems sig S_ := v69.squeeze S_ squeezes_S1x1_S_
      let v71 : Memref sig .tc .vmem S1x1x2048x1024 .f32 := arg13.slice (Rect.unit (s := S2x2x2048x1024) (k0_off4 i v1 v2) S1x1x2048x1024.size (k0_off4_inb i v1 v2 v7 k0_hw1 k0_h1 k0_h2)) (fun _ => rfl)
      let v72 : Memref sig .tc .vmem S2048x1024 .f32 := v71.squeeze S2048x1024 squeezes_S1x1x2048x1024_S2048x1024
      let v73 : Memref sig .tc .hbm S1x1x2048x1024 .f32 := arg10.slice (Rect.unit (s := S1x8x2048x7168) (k0_off5 i v66) S1x1x2048x1024.size (k0_off5_inb i v1 v2 v7 v66 k0_hw2 k0_h1 k0_h2)) (fun _ => rfl)
      let v74 : Memref sig .tc .hbm S2048x1024 .f32 := v73.squeeze S2048x1024 squeezes_S1x1x2048x1024_S2048x1024
      Prog.lift (.enqueueDma v74 (.here v72) (.dma v70.sem) ((View.wordExact_bits rfl).reshape _ _) ((View.wordExact_bits rfl).reshape _ _) ⟨Or.inl rfl, trivial⟩)
      let v75 : DmaSems sig S1x1 := arg14.slice (Rect.unit (s := S2x2) (k0_off6 i v1 v2) S1x1.size (k0_off6_inb i v1 v2 v7 k0_hw1 k0_h1 k0_h2))
      let v76 : DmaSems sig S_ := v75.squeeze S_ squeezes_S1x1_S_
      let v77 : Memref sig .tc .vmem S1x1x2048x1024 .f32 := arg13.slice (Rect.unit (s := S2x2x2048x1024) (k0_off7 i v1 v2) S1x1x2048x1024.size (k0_off7_inb i v1 v2 v7 k0_hw1 k0_h1 k0_h2)) (fun _ => rfl)
      let v78 : Memref sig .tc .vmem S2048x1024 .f32 := v77.squeeze S2048x1024 squeezes_S1x1x2048x1024_S2048x1024
      let v79 : Memref sig .tc .hbm S1x1x2048x1024 .f32 := arg11.slice (Rect.unit (s := S1x8x2048x7168) (k0_off5 i v66) S1x1x2048x1024.size (k0_off5_inb i v1 v2 v7 v66 k0_hw2 k0_h1 k0_h2)) (fun _ => rfl)
      let v80 : Memref sig .tc .hbm S2048x1024 .f32 := v79.squeeze S2048x1024 squeezes_S1x1x2048x1024_S2048x1024
      Prog.lift (.enqueueDma v80 (.here v78) (.dma v76.sem) ((View.wordExact_bits rfl).reshape _ _) ((View.wordExact_bits rfl).reshape _ _) ⟨Or.inl rfl, trivial⟩)
      pure ⟨⟩
    else do
      pure ⟨⟩
    let v40 : Elt F .i32 ← smemLoad arg2 (Rect.unit (s := S40) (k0_off8 i) S1.size (k0_off8_inb i)) numel1_S1 rfl
    have k0_hw3 : k0_chk3 i v7 v40 := (← Prog.lift (TpuEff.assume (k0_chk3 i v7 v40) (k0_chk3.dec i v7 v40))).down
    let v43 : DmaSems sig S1x1 := arg14.slice (Rect.unit (s := S2x2) (k0_off9 i v1 v2) S1x1.size (k0_off9_inb i v1 v2 v7 k0_hw1 k0_h1))
    let v44 : DmaSems sig S_ := v43.squeeze S_ squeezes_S1x1_S_
    let v45 : Memref sig .tc .vmem S1x1x2048x1024 .f32 := arg13.slice (Rect.unit (s := S2x2x2048x1024) (k0_off10 i v1 v2) S1x1x2048x1024.size (k0_off10_inb i v1 v2 v7 k0_hw1 k0_h1)) (fun _ => rfl)
    let v46 : Memref sig .tc .vmem S2048x1024 .f32 := v45.squeeze S2048x1024 squeezes_S1x1x2048x1024_S2048x1024
    let v47 : Memref sig .tc .hbm S1x1x2048x1024 .f32 := arg10.slice (Rect.unit (s := S1x8x2048x7168) (k0_off11 i v40) S1x1x2048x1024.size (k0_off11_inb i v7 v40 k0_hw3 k0_h1)) (fun _ => rfl)
    let v48 : Memref sig .tc .hbm S2048x1024 .f32 := v47.squeeze S2048x1024 squeezes_S1x1x2048x1024_S2048x1024
    Prog.lift (.waitDma2 v44.sem v48 v46 ((View.wordExact_bits rfl).reshape _ _) ((View.wordExact_bits rfl).reshape _ _))
    let v49 : DmaSems sig S1x1 := arg14.slice (Rect.unit (s := S2x2) (k0_off12 i v1 v2) S1x1.size (k0_off12_inb i v1 v2 v7 k0_hw1 k0_h1))
    let v50 : DmaSems sig S_ := v49.squeeze S_ squeezes_S1x1_S_
    let v51 : Memref sig .tc .vmem S1x1x2048x1024 .f32 := arg13.slice (Rect.unit (s := S2x2x2048x1024) (k0_off13 i v1 v2) S1x1x2048x1024.size (k0_off13_inb i v1 v2 v7 k0_hw1 k0_h1)) (fun _ => rfl)
    let v52 : Memref sig .tc .vmem S2048x1024 .f32 := v51.squeeze S2048x1024 squeezes_S1x1x2048x1024_S2048x1024
    let v53 : Memref sig .tc .hbm S1x1x2048x1024 .f32 := arg11.slice (Rect.unit (s := S1x8x2048x7168) (k0_off11 i v40) S1x1x2048x1024.size (k0_off11_inb i v7 v40 k0_hw3 k0_h1)) (fun _ => rfl)
    let v54 : Memref sig .tc .hbm S2048x1024 .f32 := v53.squeeze S2048x1024 squeezes_S1x1x2048x1024_S2048x1024
    Prog.lift (.waitDma2 v50.sem v54 v52 ((View.wordExact_bits rfl).reshape _ _) ((View.wordExact_bits rfl).reshape _ _))
    if k0_h3 : k0_cond3 v1 v2 = 1#1 then do
      let v66 : Elt F .i32 ← smemLoad arg7 (Rect.unit (s := S40) (k0_off14 i) S1.size (k0_off14_inb i)) numel1_S1 rfl
      have k0_hw4 : k0_chk4 i v1 v2 v7 v66 := (← Prog.lift (TpuEff.assume (k0_chk4 i v1 v2 v7 v66) (k0_chk4.dec i v1 v2 v7 v66))).down
      let v70 : DmaSems sig S1x1 := arg14.slice (Rect.unit (s := S2x2) (k0_off15 i v1 v2) S1x1.size (k0_off15_inb i v1 v2 v7 k0_hw1 k0_h1 k0_h3))
      let v71 : DmaSems sig S_ := v70.squeeze S_ squeezes_S1x1_S_
      let v72 : Memref sig .tc .vmem S1x1x2048x1024 .f32 := arg13.slice (Rect.unit (s := S2x2x2048x1024) (k0_off16 i v1 v2) S1x1x2048x1024.size (k0_off16_inb i v1 v2 v7 k0_hw1 k0_h1 k0_h3)) (fun _ => rfl)
      let v73 : Memref sig .tc .vmem S2048x1024 .f32 := v72.squeeze S2048x1024 squeezes_S1x1x2048x1024_S2048x1024
      let v74 : Memref sig .tc .hbm S1x1x2048x1024 .f32 := arg10.slice (Rect.unit (s := S1x8x2048x7168) (k0_off17 i v66) S1x1x2048x1024.size (k0_off17_inb i v1 v2 v7 v66 k0_hw4 k0_h1 k0_h3)) (fun _ => rfl)
      let v75 : Memref sig .tc .hbm S2048x1024 .f32 := v74.squeeze S2048x1024 squeezes_S1x1x2048x1024_S2048x1024
      Prog.lift (.enqueueDma v75 (.here v73) (.dma v71.sem) ((View.wordExact_bits rfl).reshape _ _) ((View.wordExact_bits rfl).reshape _ _) ⟨Or.inl rfl, trivial⟩)
      let v76 : DmaSems sig S1x1 := arg14.slice (Rect.unit (s := S2x2) (k0_off18 i v1 v2) S1x1.size (k0_off18_inb i v1 v2 v7 k0_hw1 k0_h1 k0_h3))
      let v77 : DmaSems sig S_ := v76.squeeze S_ squeezes_S1x1_S_
      let v78 : Memref sig .tc .vmem S1x1x2048x1024 .f32 := arg13.slice (Rect.unit (s := S2x2x2048x1024) (k0_off19 i v1 v2) S1x1x2048x1024.size (k0_off19_inb i v1 v2 v7 k0_hw1 k0_h1 k0_h3)) (fun _ => rfl)
      let v79 : Memref sig .tc .vmem S2048x1024 .f32 := v78.squeeze S2048x1024 squeezes_S1x1x2048x1024_S2048x1024
      let v80 : Memref sig .tc .hbm S1x1x2048x1024 .f32 := arg11.slice (Rect.unit (s := S1x8x2048x7168) (k0_off17 i v66) S1x1x2048x1024.size (k0_off17_inb i v1 v2 v7 v66 k0_hw4 k0_h1 k0_h3)) (fun _ => rfl)
      let v81 : Memref sig .tc .hbm S2048x1024 .f32 := v80.squeeze S2048x1024 squeezes_S1x1x2048x1024_S2048x1024
      Prog.lift (.enqueueDma v81 (.here v79) (.dma v77.sem) ((View.wordExact_bits rfl).reshape _ _) ((View.wordExact_bits rfl).reshape _ _) ⟨Or.inl rfl, trivial⟩)
      pure ⟨⟩
    else do
      pure ⟨⟩
    if k0_h4 : k0_cond4 i v1 v2 = 1#1 then do
      let v65 : Elt F .i32 ← smemLoad arg2 (Rect.unit (s := S40) ![0] S1.size inb_S40_S1_0) numel1_S1 rfl
      have k0_hw5 : k0_chk5 i v1 v2 v7 v65 := (← Prog.lift (TpuEff.assume (k0_chk5 i v1 v2 v7 v65) (k0_chk5.dec i v1 v2 v7 v65))).down
      let v70 : DmaSems sig S1x1 := arg14.slice (Rect.unit (s := S2x2) (k0_off20 i v1 v2) S1x1.size (k0_off20_inb i v1 v2 v7 k0_hw1 k0_h1 k0_h4))
      let v71 : DmaSems sig S_ := v70.squeeze S_ squeezes_S1x1_S_
      let v72 : Memref sig .tc .vmem S1x1x2048x1024 .f32 := arg13.slice (Rect.unit (s := S2x2x2048x1024) (k0_off21 i v1 v2) S1x1x2048x1024.size (k0_off21_inb i v1 v2 v7 k0_hw1 k0_h1 k0_h4)) (fun _ => rfl)
      let v73 : Memref sig .tc .vmem S2048x1024 .f32 := v72.squeeze S2048x1024 squeezes_S1x1x2048x1024_S2048x1024
      let v74 : Memref sig .tc .hbm S1x1x2048x1024 .f32 := arg10.slice (Rect.unit (s := S1x8x2048x7168) (k0_off22 i v65) S1x1x2048x1024.size (k0_off22_inb i v1 v2 v7 v65 k0_hw5 k0_h1 k0_h4)) (fun _ => rfl)
      let v75 : Memref sig .tc .hbm S2048x1024 .f32 := v74.squeeze S2048x1024 squeezes_S1x1x2048x1024_S2048x1024
      Prog.lift (.enqueueDma v75 (.here v73) (.dma v71.sem) ((View.wordExact_bits rfl).reshape _ _) ((View.wordExact_bits rfl).reshape _ _) ⟨Or.inl rfl, trivial⟩)
      let v76 : DmaSems sig S1x1 := arg14.slice (Rect.unit (s := S2x2) (k0_off23 i v1 v2) S1x1.size (k0_off23_inb i v1 v2 v7 k0_hw1 k0_h1 k0_h4))
      let v77 : DmaSems sig S_ := v76.squeeze S_ squeezes_S1x1_S_
      let v78 : Memref sig .tc .vmem S1x1x2048x1024 .f32 := arg13.slice (Rect.unit (s := S2x2x2048x1024) (k0_off24 i v1 v2) S1x1x2048x1024.size (k0_off24_inb i v1 v2 v7 k0_hw1 k0_h1 k0_h4)) (fun _ => rfl)
      let v79 : Memref sig .tc .vmem S2048x1024 .f32 := v78.squeeze S2048x1024 squeezes_S1x1x2048x1024_S2048x1024
      let v80 : Memref sig .tc .hbm S1x1x2048x1024 .f32 := arg11.slice (Rect.unit (s := S1x8x2048x7168) (k0_off22 i v65) S1x1x2048x1024.size (k0_off22_inb i v1 v2 v7 v65 k0_hw5 k0_h1 k0_h4)) (fun _ => rfl)
      let v81 : Memref sig .tc .hbm S2048x1024 .f32 := v80.squeeze S2048x1024 squeezes_S1x1x2048x1024_S2048x1024
      Prog.lift (.enqueueDma v81 (.here v79) (.dma v77.sem) ((View.wordExact_bits rfl).reshape _ _) ((View.wordExact_bits rfl).reshape _ _) ⟨Or.inl rfl, trivial⟩)
      pure ⟨⟩
    else do
      pure ⟨⟩
    pure ⟨⟩
  else do
    pure ⟨⟩

/-- The computing part of a step, over the words it has read. -/
def computeP (i : grid0.Coords) (arg9 : Memref sig .tc .vmem S512x2048 .bf16) (arg12 : Memref sig .tc .vmem S512x1024 .bf16) (harg12 : arg12.IsWhole) (arg13 : Memref sig .tc .vmem S2x2x2048x1024 .f32) (v1 v2 v12 : Elt F .i32) (k0_hw6 : k0_chk6 i v1 v2 v12) : Prog (TpuEff nD τ sig (Elt F) Λ₀ .tc) PUnit := do
  if k0_h5 : k0_cond5 v12 = 1#1 then do
    let v36 : Vec F S128x2048 .bf16 ← Prog.lift (.load arg9 (Rect.unit (s := S512x2048) ![0, 0] S128x2048.size inb_S512x2048_S128x2048_0_0).toLoadRect (View.loadsAt_vmem h_S128x2048))
    let v38 : Vec F S1x1x2048x1024 .f32 ← Prog.lift (.load arg13 (Rect.unit (s := S2x2x2048x1024) (k0_off26 i v1 v2) S1x1x2048x1024.size (k0_off26_inb i v1 v2 v12 k0_hw6 k0_h5)).toLoadRect (View.loadsAt_vmem h_S1x1x2048x1024))
    let v43 : Vec F S1x1x2048x1024 .f32 ← Prog.lift (.load arg13 (Rect.unit (s := S2x2x2048x1024) (k0_off27 i v1 v2) S1x1x2048x1024.size (k0_off27_inb i v1 v2 v12 k0_hw6 k0_h5)).toLoadRect (View.loadsAt_vmem h_S1x1x2048x1024))
    let v51 : Vec F S128x1024 .bf16 ← Prog.lift (.load arg12 (Rect.unit (s := S512x1024) ![0, 0] S128x1024.size inb_S512x1024_S128x1024_0_0).toLoadRect (View.loadsAt_vmem h_S128x1024))
    Prog.lift (.store arg12 (Rect.unit (s := S512x1024) ![0, 0] S128x1024.size inb_S512x1024_S128x1024_0_0) (k0_pay2 v36 v38 v43) Finset.univ (View.stores_vmem h_S128x1024 (harg12.storeExact_slice rfl _ packedbf16_S512x1024_S128x1024_0_0) (fun _ => rfl)) (.inl rfl))
    let v53 : Vec F S384x1024 .bf16 ← Prog.lift (.load arg12 (Rect.unit (s := S512x1024) ![128, 0] S384x1024.size inb_S512x1024_S384x1024_128_0).toLoadRect (View.loadsAt_vmem h_S384x1024))
    Prog.lift (.store arg12 (Rect.unit (s := S512x1024) ![128, 0] S384x1024.size inb_S512x1024_S384x1024_128_0) (k0_pay3 (F := F)) Finset.univ (View.stores_vmem h_S384x1024 (harg12.storeExact_slice rfl _ packedbf16_S512x1024_S384x1024_128_0) (fun _ => rfl)) (.inl rfl))
    pure ⟨⟩
  else do
    pure ⟨⟩
  if k0_h6 : k0_cond6 v12 = 1#1 then do
    let v36 : Vec F S256x2048 .bf16 ← Prog.lift (.load arg9 (Rect.unit (s := S512x2048) ![0, 0] S256x2048.size inb_S512x2048_S256x2048_0_0).toLoadRect (View.loadsAt_vmem h_S256x2048))
    let v38 : Vec F S1x1x2048x1024 .f32 ← Prog.lift (.load arg13 (Rect.unit (s := S2x2x2048x1024) (k0_off28 i v1 v2) S1x1x2048x1024.size (k0_off28_inb i v1 v2 v12 k0_hw6 k0_h6)).toLoadRect (View.loadsAt_vmem h_S1x1x2048x1024))
    let v43 : Vec F S1x1x2048x1024 .f32 ← Prog.lift (.load arg13 (Rect.unit (s := S2x2x2048x1024) (k0_off29 i v1 v2) S1x1x2048x1024.size (k0_off29_inb i v1 v2 v12 k0_hw6 k0_h6)).toLoadRect (View.loadsAt_vmem h_S1x1x2048x1024))
    let v51 : Vec F S256x1024 .bf16 ← Prog.lift (.load arg12 (Rect.unit (s := S512x1024) ![0, 0] S256x1024.size inb_S512x1024_S256x1024_0_0).toLoadRect (View.loadsAt_vmem h_S256x1024))
    Prog.lift (.store arg12 (Rect.unit (s := S512x1024) ![0, 0] S256x1024.size inb_S512x1024_S256x1024_0_0) (k0_pay4 v36 v38 v43) Finset.univ (View.stores_vmem h_S256x1024 (harg12.storeExact_slice rfl _ packedbf16_S512x1024_S256x1024_0_0) (fun _ => rfl)) (.inl rfl))
    let v53 : Vec F S256x1024 .bf16 ← Prog.lift (.load arg12 (Rect.unit (s := S512x1024) ![256, 0] S256x1024.size inb_S512x1024_S256x1024_256_0).toLoadRect (View.loadsAt_vmem h_S256x1024))
    Prog.lift (.store arg12 (Rect.unit (s := S512x1024) ![256, 0] S256x1024.size inb_S512x1024_S256x1024_256_0) (k0_pay5 (F := F)) Finset.univ (View.stores_vmem h_S256x1024 (harg12.storeExact_slice rfl _ packedbf16_S512x1024_S256x1024_256_0) (fun _ => rfl)) (.inl rfl))
    pure ⟨⟩
  else do
    pure ⟨⟩
  if k0_h7 : k0_cond7 v12 = 1#1 then do
    let v36 : Vec F S384x2048 .bf16 ← Prog.lift (.load arg9 (Rect.unit (s := S512x2048) ![0, 0] S384x2048.size inb_S512x2048_S384x2048_0_0).toLoadRect (View.loadsAt_vmem h_S384x2048))
    let v38 : Vec F S1x1x2048x1024 .f32 ← Prog.lift (.load arg13 (Rect.unit (s := S2x2x2048x1024) (k0_off30 i v1 v2) S1x1x2048x1024.size (k0_off30_inb i v1 v2 v12 k0_hw6 k0_h7)).toLoadRect (View.loadsAt_vmem h_S1x1x2048x1024))
    let v43 : Vec F S1x1x2048x1024 .f32 ← Prog.lift (.load arg13 (Rect.unit (s := S2x2x2048x1024) (k0_off31 i v1 v2) S1x1x2048x1024.size (k0_off31_inb i v1 v2 v12 k0_hw6 k0_h7)).toLoadRect (View.loadsAt_vmem h_S1x1x2048x1024))
    let v51 : Vec F S384x1024 .bf16 ← Prog.lift (.load arg12 (Rect.unit (s := S512x1024) ![0, 0] S384x1024.size inb_S512x1024_S384x1024_0_0).toLoadRect (View.loadsAt_vmem h_S384x1024))
    Prog.lift (.store arg12 (Rect.unit (s := S512x1024) ![0, 0] S384x1024.size inb_S512x1024_S384x1024_0_0) (k0_pay6 v36 v38 v43) Finset.univ (View.stores_vmem h_S384x1024 (harg12.storeExact_slice rfl _ packedbf16_S512x1024_S384x1024_0_0) (fun _ => rfl)) (.inl rfl))
    let v53 : Vec F S128x1024 .bf16 ← Prog.lift (.load arg12 (Rect.unit (s := S512x1024) ![384, 0] S128x1024.size inb_S512x1024_S128x1024_384_0).toLoadRect (View.loadsAt_vmem h_S128x1024))
    Prog.lift (.store arg12 (Rect.unit (s := S512x1024) ![384, 0] S128x1024.size inb_S512x1024_S128x1024_384_0) (k0_pay7 (F := F)) Finset.univ (View.stores_vmem h_S128x1024 (harg12.storeExact_slice rfl _ packedbf16_S512x1024_S128x1024_384_0) (fun _ => rfl)) (.inl rfl))
    pure ⟨⟩
  else do
    pure ⟨⟩
  if k0_h8 : k0_cond8 v12 = 1#1 then do
    let v36 : Vec F S512x2048 .bf16 ← Prog.lift (.load arg9 (Rect.unit (s := S512x2048) ![0, 0] S512x2048.size inb_S512x2048_S512x2048_0_0).toLoadRect (View.loadsAt_vmem h_S512x2048))
    let v38 : Vec F S1x1x2048x1024 .f32 ← Prog.lift (.load arg13 (Rect.unit (s := S2x2x2048x1024) (k0_off32 i v1 v2) S1x1x2048x1024.size (k0_off32_inb i v1 v2 v12 k0_hw6 k0_h8)).toLoadRect (View.loadsAt_vmem h_S1x1x2048x1024))
    let v43 : Vec F S1x1x2048x1024 .f32 ← Prog.lift (.load arg13 (Rect.unit (s := S2x2x2048x1024) (k0_off33 i v1 v2) S1x1x2048x1024.size (k0_off33_inb i v1 v2 v12 k0_hw6 k0_h8)).toLoadRect (View.loadsAt_vmem h_S1x1x2048x1024))
    let v51 : Vec F S512x1024 .bf16 ← Prog.lift (.load arg12 (Rect.unit (s := S512x1024) ![0, 0] S512x1024.size inb_S512x1024_S512x1024_0_0).toLoadRect (View.loadsAt_vmem h_S512x1024))
    Prog.lift (.store arg12 (Rect.unit (s := S512x1024) ![0, 0] S512x1024.size inb_S512x1024_S512x1024_0_0) (k0_pay8 v36 v38 v43) Finset.univ (View.stores_vmem h_S512x1024 (harg12.storeExact_slice rfl _ packedbf16_S512x1024_S512x1024_0_0) (fun _ => rfl)) (.inl rfl))
    pure ⟨⟩
  else do
    pure ⟨⟩
  if k0_h9 : k0_cond9 v12 = 1#1 then do
    let v37 : Vec F S512x1024 .bf16 ← Prog.lift (.load arg12 (Rect.unit (s := S512x1024) ![0, 0] S512x1024.size inb_S512x1024_S512x1024_0_0).toLoadRect (View.loadsAt_vmem h_S512x1024))
    Prog.lift (.store arg12 (Rect.unit (s := S512x1024) ![0, 0] S512x1024.size inb_S512x1024_S512x1024_0_0) (k0_pay1 (F := F)) Finset.univ (View.stores_vmem h_S512x1024 (harg12.storeExact_slice rfl _ packedbf16_S512x1024_S512x1024_0_0) (fun _ => rfl)) (.inl rfl))
    pure ⟨⟩
  else do
    pure ⟨⟩

theorem dite_bnd {α β : Type} (c : Prop) [Decidable c] (a : c → Prog (TpuEff nD τ sig (Elt F) Λ₀ .tc) α) (b : ¬ c → Prog (TpuEff nD τ sig (Elt F) Λ₀ .tc) α)
    (k : α → Prog (TpuEff nD τ sig (Elt F) Λ₀ .tc) β) : (if h : c then a h else b h) >>= k = if h : c then a h >>= k else b h >>= k := by
  split <;> rfl
/-- The computing part where 128 rows are counted. -/
def case5 (arg9 : Memref sig .tc .vmem S512x2048 .bf16) (arg12 : Memref sig .tc .vmem S512x1024 .bf16) (harg12 : arg12.IsWhole) (arg13 : Memref sig .tc .vmem S2x2x2048x1024 .f32) (oG oU : Fin 4 → Nat) (hG : ∀ a, oG a + S1x1x2048x1024.size a ≤ S2x2x2048x1024.size a) (hU : ∀ a, oU a + S1x1x2048x1024.size a ≤ S2x2x2048x1024.size a) : Prog (TpuEff nD τ sig (Elt F) Λ₀ .tc) PUnit := do
  let v36 : Vec F S128x2048 .bf16 ← Prog.lift (.load arg9 (Rect.unit (s := S512x2048) ![0, 0] S128x2048.size inb_S512x2048_S128x2048_0_0).toLoadRect (View.loadsAt_vmem h_S128x2048))
  let v38 : Vec F S1x1x2048x1024 .f32 ← Prog.lift (.load arg13 (Rect.unit (s := S2x2x2048x1024) oG S1x1x2048x1024.size hG).toLoadRect (View.loadsAt_vmem h_S1x1x2048x1024))
  let v43 : Vec F S1x1x2048x1024 .f32 ← Prog.lift (.load arg13 (Rect.unit (s := S2x2x2048x1024) oU S1x1x2048x1024.size hU).toLoadRect (View.loadsAt_vmem h_S1x1x2048x1024))
  let v51 : Vec F S128x1024 .bf16 ← Prog.lift (.load arg12 (Rect.unit (s := S512x1024) ![0, 0] S128x1024.size inb_S512x1024_S128x1024_0_0).toLoadRect (View.loadsAt_vmem h_S128x1024))
  Prog.lift (.store arg12 (Rect.unit (s := S512x1024) ![0, 0] S128x1024.size inb_S512x1024_S128x1024_0_0) (k0_pay2 v36 v38 v43) Finset.univ (View.stores_vmem h_S128x1024 (harg12.storeExact_slice rfl _ packedbf16_S512x1024_S128x1024_0_0) (fun _ => rfl)) (.inl rfl))
  let v53 : Vec F S384x1024 .bf16 ← Prog.lift (.load arg12 (Rect.unit (s := S512x1024) ![128, 0] S384x1024.size inb_S512x1024_S384x1024_128_0).toLoadRect (View.loadsAt_vmem h_S384x1024))
  Prog.lift (.store arg12 (Rect.unit (s := S512x1024) ![128, 0] S384x1024.size inb_S512x1024_S384x1024_128_0) (k0_pay3 (F := F)) Finset.univ (View.stores_vmem h_S384x1024 (harg12.storeExact_slice rfl _ packedbf16_S512x1024_S384x1024_128_0) (fun _ => rfl)) (.inl rfl))
/-- The computing part where 256 rows are counted. -/
def case6 (arg9 : Memref sig .tc .vmem S512x2048 .bf16) (arg12 : Memref sig .tc .vmem S512x1024 .bf16) (harg12 : arg12.IsWhole) (arg13 : Memref sig .tc .vmem S2x2x2048x1024 .f32) (oG oU : Fin 4 → Nat) (hG : ∀ a, oG a + S1x1x2048x1024.size a ≤ S2x2x2048x1024.size a) (hU : ∀ a, oU a + S1x1x2048x1024.size a ≤ S2x2x2048x1024.size a) : Prog (TpuEff nD τ sig (Elt F) Λ₀ .tc) PUnit := do
  let v36 : Vec F S256x2048 .bf16 ← Prog.lift (.load arg9 (Rect.unit (s := S512x2048) ![0, 0] S256x2048.size inb_S512x2048_S256x2048_0_0).toLoadRect (View.loadsAt_vmem h_S256x2048))
  let v38 : Vec F S1x1x2048x1024 .f32 ← Prog.lift (.load arg13 (Rect.unit (s := S2x2x2048x1024) oG S1x1x2048x1024.size hG).toLoadRect (View.loadsAt_vmem h_S1x1x2048x1024))
  let v43 : Vec F S1x1x2048x1024 .f32 ← Prog.lift (.load arg13 (Rect.unit (s := S2x2x2048x1024) oU S1x1x2048x1024.size hU).toLoadRect (View.loadsAt_vmem h_S1x1x2048x1024))
  let v51 : Vec F S256x1024 .bf16 ← Prog.lift (.load arg12 (Rect.unit (s := S512x1024) ![0, 0] S256x1024.size inb_S512x1024_S256x1024_0_0).toLoadRect (View.loadsAt_vmem h_S256x1024))
  Prog.lift (.store arg12 (Rect.unit (s := S512x1024) ![0, 0] S256x1024.size inb_S512x1024_S256x1024_0_0) (k0_pay4 v36 v38 v43) Finset.univ (View.stores_vmem h_S256x1024 (harg12.storeExact_slice rfl _ packedbf16_S512x1024_S256x1024_0_0) (fun _ => rfl)) (.inl rfl))
  let v53 : Vec F S256x1024 .bf16 ← Prog.lift (.load arg12 (Rect.unit (s := S512x1024) ![256, 0] S256x1024.size inb_S512x1024_S256x1024_256_0).toLoadRect (View.loadsAt_vmem h_S256x1024))
  Prog.lift (.store arg12 (Rect.unit (s := S512x1024) ![256, 0] S256x1024.size inb_S512x1024_S256x1024_256_0) (k0_pay5 (F := F)) Finset.univ (View.stores_vmem h_S256x1024 (harg12.storeExact_slice rfl _ packedbf16_S512x1024_S256x1024_256_0) (fun _ => rfl)) (.inl rfl))
/-- The computing part where 384 rows are counted. -/
def case7 (arg9 : Memref sig .tc .vmem S512x2048 .bf16) (arg12 : Memref sig .tc .vmem S512x1024 .bf16) (harg12 : arg12.IsWhole) (arg13 : Memref sig .tc .vmem S2x2x2048x1024 .f32) (oG oU : Fin 4 → Nat) (hG : ∀ a, oG a + S1x1x2048x1024.size a ≤ S2x2x2048x1024.size a) (hU : ∀ a, oU a + S1x1x2048x1024.size a ≤ S2x2x2048x1024.size a) : Prog (TpuEff nD τ sig (Elt F) Λ₀ .tc) PUnit := do
  let v36 : Vec F S384x2048 .bf16 ← Prog.lift (.load arg9 (Rect.unit (s := S512x2048) ![0, 0] S384x2048.size inb_S512x2048_S384x2048_0_0).toLoadRect (View.loadsAt_vmem h_S384x2048))
  let v38 : Vec F S1x1x2048x1024 .f32 ← Prog.lift (.load arg13 (Rect.unit (s := S2x2x2048x1024) oG S1x1x2048x1024.size hG).toLoadRect (View.loadsAt_vmem h_S1x1x2048x1024))
  let v43 : Vec F S1x1x2048x1024 .f32 ← Prog.lift (.load arg13 (Rect.unit (s := S2x2x2048x1024) oU S1x1x2048x1024.size hU).toLoadRect (View.loadsAt_vmem h_S1x1x2048x1024))
  let v51 : Vec F S384x1024 .bf16 ← Prog.lift (.load arg12 (Rect.unit (s := S512x1024) ![0, 0] S384x1024.size inb_S512x1024_S384x1024_0_0).toLoadRect (View.loadsAt_vmem h_S384x1024))
  Prog.lift (.store arg12 (Rect.unit (s := S512x1024) ![0, 0] S384x1024.size inb_S512x1024_S384x1024_0_0) (k0_pay6 v36 v38 v43) Finset.univ (View.stores_vmem h_S384x1024 (harg12.storeExact_slice rfl _ packedbf16_S512x1024_S384x1024_0_0) (fun _ => rfl)) (.inl rfl))
  let v53 : Vec F S128x1024 .bf16 ← Prog.lift (.load arg12 (Rect.unit (s := S512x1024) ![384, 0] S128x1024.size inb_S512x1024_S128x1024_384_0).toLoadRect (View.loadsAt_vmem h_S128x1024))
  Prog.lift (.store arg12 (Rect.unit (s := S512x1024) ![384, 0] S128x1024.size inb_S512x1024_S128x1024_384_0) (k0_pay7 (F := F)) Finset.univ (View.stores_vmem h_S128x1024 (harg12.storeExact_slice rfl _ packedbf16_S512x1024_S128x1024_384_0) (fun _ => rfl)) (.inl rfl))
/-- The computing part where 512 rows are counted. -/
def case8 (arg9 : Memref sig .tc .vmem S512x2048 .bf16) (arg12 : Memref sig .tc .vmem S512x1024 .bf16) (harg12 : arg12.IsWhole) (arg13 : Memref sig .tc .vmem S2x2x2048x1024 .f32) (oG oU : Fin 4 → Nat) (hG : ∀ a, oG a + S1x1x2048x1024.size a ≤ S2x2x2048x1024.size a) (hU : ∀ a, oU a + S1x1x2048x1024.size a ≤ S2x2x2048x1024.size a) : Prog (TpuEff nD τ sig (Elt F) Λ₀ .tc) PUnit := do
  let v36 : Vec F S512x2048 .bf16 ← Prog.lift (.load arg9 (Rect.unit (s := S512x2048) ![0, 0] S512x2048.size inb_S512x2048_S512x2048_0_0).toLoadRect (View.loadsAt_vmem h_S512x2048))
  let v38 : Vec F S1x1x2048x1024 .f32 ← Prog.lift (.load arg13 (Rect.unit (s := S2x2x2048x1024) oG S1x1x2048x1024.size hG).toLoadRect (View.loadsAt_vmem h_S1x1x2048x1024))
  let v43 : Vec F S1x1x2048x1024 .f32 ← Prog.lift (.load arg13 (Rect.unit (s := S2x2x2048x1024) oU S1x1x2048x1024.size hU).toLoadRect (View.loadsAt_vmem h_S1x1x2048x1024))
  let v51 : Vec F S512x1024 .bf16 ← Prog.lift (.load arg12 (Rect.unit (s := S512x1024) ![0, 0] S512x1024.size inb_S512x1024_S512x1024_0_0).toLoadRect (View.loadsAt_vmem h_S512x1024))
  Prog.lift (.store arg12 (Rect.unit (s := S512x1024) ![0, 0] S512x1024.size inb_S512x1024_S512x1024_0_0) (k0_pay8 v36 v38 v43) Finset.univ (View.stores_vmem h_S512x1024 (harg12.storeExact_slice rfl _ packedbf16_S512x1024_S512x1024_0_0) (fun _ => rfl)) (.inl rfl))
/-- The computing part where no row is counted. -/
def case9 (arg12 : Memref sig .tc .vmem S512x1024 .bf16) (harg12 : arg12.IsWhole) : Prog (TpuEff nD τ sig (Elt F) Λ₀ .tc) PUnit := do
  let v37 : Vec F S512x1024 .bf16 ← Prog.lift (.load arg12 (Rect.unit (s := S512x1024) ![0, 0] S512x1024.size inb_S512x1024_S512x1024_0_0).toLoadRect (View.loadsAt_vmem h_S512x1024))
  Prog.lift (.store arg12 (Rect.unit (s := S512x1024) ![0, 0] S512x1024.size inb_S512x1024_S512x1024_0_0) (k0_pay1 (F := F)) Finset.univ (View.stores_vmem h_S512x1024 (harg12.storeExact_slice rfl _ packedbf16_S512x1024_S512x1024_0_0) (fun _ => rfl)) (.inl rfl))
theorem bind_pure_unit' (p : Prog (TpuEff nD τ sig (Elt F) Λ₀ .tc) PUnit) : (p >>= fun _ => pure ⟨⟩) = p := bind_pure p
theorem compute_eq (i : grid0.Coords) (arg9 : Memref sig .tc .vmem S512x2048 .bf16) (arg12 : Memref sig .tc .vmem S512x1024 .bf16) (harg12 : arg12.IsWhole) (arg13 : Memref sig .tc .vmem S2x2x2048x1024 .f32) (v1 v2 v12 : Elt F .i32) (k0_hw6 : k0_chk6 i v1 v2 v12) :
    computeP i arg9 arg12 harg12 arg13 v1 v2 v12 k0_hw6 = (do
  if k0_h5 : k0_cond5 v12 = 1#1 then case5 arg9 arg12 harg12 arg13 (k0_off26 i v1 v2) (k0_off27 i v1 v2) (k0_off26_inb i v1 v2 v12 k0_hw6 k0_h5) (k0_off27_inb i v1 v2 v12 k0_hw6 k0_h5) else pure ⟨⟩
  if k0_h6 : k0_cond6 v12 = 1#1 then case6 arg9 arg12 harg12 arg13 (k0_off28 i v1 v2) (k0_off29 i v1 v2) (k0_off28_inb i v1 v2 v12 k0_hw6 k0_h6) (k0_off29_inb i v1 v2 v12 k0_hw6 k0_h6) else pure ⟨⟩
  if k0_h7 : k0_cond7 v12 = 1#1 then case7 arg9 arg12 harg12 arg13 (k0_off30 i v1 v2) (k0_off31 i v1 v2) (k0_off30_inb i v1 v2 v12 k0_hw6 k0_h7) (k0_off31_inb i v1 v2 v12 k0_hw6 k0_h7) else pure ⟨⟩
  if k0_h8 : k0_cond8 v12 = 1#1 then case8 arg9 arg12 harg12 arg13 (k0_off32 i v1 v2) (k0_off33 i v1 v2) (k0_off32_inb i v1 v2 v12 k0_hw6 k0_h8) (k0_off33_inb i v1 v2 v12 k0_hw6 k0_h8) else pure ⟨⟩
  if k0_h9 : k0_cond9 v12 = 1#1 then case9 arg12 harg12 else pure ⟨⟩) := by
  unfold computeP case5 case6 case7 case8 case9
  simp only [bind_assoc, pure_bind, dite_bnd, bind_pure_unit']
end

section
variable {F : FTy → Type} [FloatOps F]
/-- Begin the two copies of a block, each on its own semaphore. -/
def issueTwo (sa sb : Memref sig .tc .hbm S2048x1024 .f32) (da db : Memref sig .tc .vmem S2048x1024 .f32) (ca cb : DmaSem sig)
    (hsa : sa.view.WordExact) (hsb : sb.view.WordExact) (hda : da.view.WordExact) (hdb : db.view.WordExact) : Prog (TpuEff nD τ sig (Elt F) Λ₀ .tc) PUnit := do
  Prog.lift (.enqueueDma sa (.here da) (.dma ca) hsa hda ⟨Or.inl rfl, trivial⟩)
  Prog.lift (.enqueueDma sb (.here db) (.dma cb) hsb hdb ⟨Or.inl rfl, trivial⟩)
/-- Wait for them. -/
def waitTwo (sa sb : Memref sig .tc .hbm S2048x1024 .f32) (da db : Memref sig .tc .vmem S2048x1024 .f32) (ca cb : DmaSem sig)
    (hsa : sa.view.WordExact) (hsb : sb.view.WordExact) (hda : da.view.WordExact) (hdb : db.view.WordExact) : Prog (TpuEff nD τ sig (Elt F) Λ₀ .tc) PUnit := do
  Prog.lift (.waitDma2 ca sa da hsa hda)
  Prog.lift (.waitDma2 cb sb db hsb hdb)
end

section
variable {F : FTy → Type} [FloatOps F]
/-- Read a word of a table, assume a fact of it, go on with both. -/
def withWord (M : Memref sig .tc .smem S40 .i32) (o : Fin 1 → Nat) (h : ∀ a, o a + S1.size a ≤ S40.size a)
    (P : Elt F .i32 → Prop) (dec : ∀ v, Decidable (P v)) (K : ∀ v, P v → Prog (TpuEff nD τ sig (Elt F) Λ₀ .tc) PUnit) : Prog (TpuEff nD τ sig (Elt F) Λ₀ .tc) PUnit := do
  let v ← smemLoad M (Rect.unit (s := S40) o S1.size h) numel1_S1 rfl
  have hw : P v := (← Prog.lift (TpuEff.assume (P v) (dec v))).down
  K v hw
/-- The first block of all is begun. -/
def begin0 (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) (k0_h1 : k0_cond1 v7 = 1#1) (k0_h2 : k0_cond2 i v1 v2 = 1#1) : Prog (TpuEff nD τ sig (Elt F) Λ₀ .tc) PUnit :=
    withWord arg2 (k0_off2 i) (k0_off2_inb i) (fun w => k0_chk2 i v1 v2 v7 w) (fun w => k0_chk2.dec i v1 v2 v7 w) fun v66 k0_hw2 =>
      issueTwo ((arg10.slice (Rect.unit (s := S1x8x2048x7168) (k0_off5 i v66) S1x1x2048x1024.size (k0_off5_inb i v1 v2 v7 v66 k0_hw2 k0_h1 k0_h2)) (fun _ => rfl)).squeeze S2048x1024 squeezes_S1x1x2048x1024_S2048x1024)
      ((arg11.slice (Rect.unit (s := S1x8x2048x7168) (k0_off5 i v66) S1x1x2048x1024.size (k0_off5_inb i v1 v2 v7 v66 k0_hw2 k0_h1 k0_h2)) (fun _ => rfl)).squeeze S2048x1024 squeezes_S1x1x2048x1024_S2048x1024)
      ((arg13.slice (Rect.unit (s := S2x2x2048x1024) (k0_off4 i v1 v2) S1x1x2048x1024.size (k0_off4_inb i v1 v2 v7 k0_hw1 k0_h1 k0_h2)) (fun _ => rfl)).squeeze S2048x1024 squeezes_S1x1x2048x1024_S2048x1024)
      ((arg13.slice (Rect.unit (s := S2x2x2048x1024) (k0_off7 i v1 v2) S1x1x2048x1024.size (k0_off7_inb i v1 v2 v7 k0_hw1 k0_h1 k0_h2)) (fun _ => rfl)).squeeze S2048x1024 squeezes_S1x1x2048x1024_S2048x1024)
      ((arg14.slice (Rect.unit (s := S2x2) (k0_off3 i v1 v2) S1x1.size (k0_off3_inb i v1 v2 v7 k0_hw1 k0_h1 k0_h2))).squeeze S_ squeezes_S1x1_S_).sem ((arg14.slice (Rect.unit (s := S2x2) (k0_off6 i v1 v2) S1x1.size (k0_off6_inb i v1 v2 v7 k0_hw1 k0_h1 k0_h2))).squeeze S_ squeezes_S1x1_S_).sem ((View.wordExact_bits rfl).reshape _ _) ((View.wordExact_bits rfl).reshape _ _) ((View.wordExact_bits rfl).reshape _ _) ((View.wordExact_bits rfl).reshape _ _)
/-- The next group's block is begun. -/
def beginN (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) (k0_h1 : k0_cond1 v7 = 1#1) (k0_h3 : k0_cond3 v1 v2 = 1#1) : Prog (TpuEff nD τ sig (Elt F) Λ₀ .tc) PUnit :=
    withWord arg7 (k0_off14 i) (k0_off14_inb i) (fun w => k0_chk4 i v1 v2 v7 w) (fun w => k0_chk4.dec i v1 v2 v7 w) fun v66 k0_hw4 =>
      issueTwo ((arg10.slice (Rect.unit (s := S1x8x2048x7168) (k0_off17 i v66) S1x1x2048x1024.size (k0_off17_inb i v1 v2 v7 v66 k0_hw4 k0_h1 k0_h3)) (fun _ => rfl)).squeeze S2048x1024 squeezes_S1x1x2048x1024_S2048x1024)
      ((arg11.slice (Rect.unit (s := S1x8x2048x7168) (k0_off17 i v66) S1x1x2048x1024.size (k0_off17_inb i v1 v2 v7 v66 k0_hw4 k0_h1 k0_h3)) (fun _ => rfl)).squeeze S2048x1024 squeezes_S1x1x2048x1024_S2048x1024)
      ((arg13.slice (Rect.unit (s := S2x2x2048x1024) (k0_off16 i v1 v2) S1x1x2048x1024.size (k0_off16_inb i v1 v2 v7 k0_hw1 k0_h1 k0_h3)) (fun _ => rfl)).squeeze S2048x1024 squeezes_S1x1x2048x1024_S2048x1024)
      ((arg13.slice (Rect.unit (s := S2x2x2048x1024) (k0_off19 i v1 v2) S1x1x2048x1024.size (k0_off19_inb i v1 v2 v7 k0_hw1 k0_h1 k0_h3)) (fun _ => rfl)).squeeze S2048x1024 squeezes_S1x1x2048x1024_S2048x1024)
      ((arg14.slice (Rect.unit (s := S2x2) (k0_off15 i v1 v2) S1x1.size (k0_off15_inb i v1 v2 v7 k0_hw1 k0_h1 k0_h3))).squeeze S_ squeezes_S1x1_S_).sem ((arg14.slice (Rect.unit (s := S2x2) (k0_off18 i v1 v2) S1x1.size (k0_off18_inb i v1 v2 v7 k0_hw1 k0_h1 k0_h3))).squeeze S_ squeezes_S1x1_S_).sem ((View.wordExact_bits rfl).reshape _ _) ((View.wordExact_bits rfl).reshape _ _) ((View.wordExact_bits rfl).reshape _ _) ((View.wordExact_bits rfl).reshape _ _)
/-- The next column's first block is begun. -/
def beginC (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) (k0_h1 : k0_cond1 v7 = 1#1) (k0_h4 : k0_cond4 i v1 v2 = 1#1) : Prog (TpuEff nD τ sig (Elt F) Λ₀ .tc) PUnit :=
    withWord arg2 ![0] inb_S40_S1_0 (fun w => k0_chk5 i v1 v2 v7 w) (fun w => k0_chk5.dec i v1 v2 v7 w) fun v65 k0_hw5 =>
      issueTwo ((arg10.slice (Rect.unit (s := S1x8x2048x7168) (k0_off22 i v65) S1x1x2048x1024.size (k0_off22_inb i v1 v2 v7 v65 k0_hw5 k0_h1 k0_h4)) (fun _ => rfl)).squeeze S2048x1024 squeezes_S1x1x2048x1024_S2048x1024)
      ((arg11.slice (Rect.unit (s := S1x8x2048x7168) (k0_off22 i v65) S1x1x2048x1024.size (k0_off22_inb i v1 v2 v7 v65 k0_hw5 k0_h1 k0_h4)) (fun _ => rfl)).squeeze S2048x1024 squeezes_S1x1x2048x1024_S2048x1024)
      ((arg13.slice (Rect.unit (s := S2x2x2048x1024) (k0_off21 i v1 v2) S1x1x2048x1024.size (k0_off21_inb i v1 v2 v7 k0_hw1 k0_h1 k0_h4)) (fun _ => rfl)).squeeze S2048x1024 squeezes_S1x1x2048x1024_S2048x1024)
      ((arg13.slice (Rect.unit (s := S2x2x2048x1024) (k0_off24 i v1 v2) S1x1x2048x1024.size (k0_off24_inb i v1 v2 v7 k0_hw1 k0_h1 k0_h4)) (fun _ => rfl)).squeeze S2048x1024 squeezes_S1x1x2048x1024_S2048x1024)
      ((arg14.slice (Rect.unit (s := S2x2) (k0_off20 i v1 v2) S1x1.size (k0_off20_inb i v1 v2 v7 k0_hw1 k0_h1 k0_h4))).squeeze S_ squeezes_S1x1_S_).sem ((arg14.slice (Rect.unit (s := S2x2) (k0_off23 i v1 v2) S1x1.size (k0_off23_inb i v1 v2 v7 k0_hw1 k0_h1 k0_h4))).squeeze S_ squeezes_S1x1_S_).sem ((View.wordExact_bits rfl).reshape _ _) ((View.wordExact_bits rfl).reshape _ _) ((View.wordExact_bits rfl).reshape _ _) ((View.wordExact_bits rfl).reshape _ _)
/-- The block of this group is waited for. -/
def waitB (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) (k0_h1 : k0_cond1 v7 = 1#1) : Prog (TpuEff nD τ sig (Elt F) Λ₀ .tc) PUnit :=
    withWord arg2 (k0_off8 i) (k0_off8_inb i) (fun w => k0_chk3 i v7 w) (fun w => k0_chk3.dec i v7 w) fun v40 k0_hw3 =>
      waitTwo ((arg10.slice (Rect.unit (s := S1x8x2048x7168) (k0_off11 i v40) S1x1x2048x1024.size (k0_off11_inb i v7 v40 k0_hw3 k0_h1)) (fun _ => rfl)).squeeze S2048x1024 squeezes_S1x1x2048x1024_S2048x1024)
      ((arg11.slice (Rect.unit (s := S1x8x2048x7168) (k0_off11 i v40) S1x1x2048x1024.size (k0_off11_inb i v7 v40 k0_hw3 k0_h1)) (fun _ => rfl)).squeeze S2048x1024 squeezes_S1x1x2048x1024_S2048x1024)
      ((arg13.slice (Rect.unit (s := S2x2x2048x1024) (k0_off10 i v1 v2) S1x1x2048x1024.size (k0_off10_inb i v1 v2 v7 k0_hw1 k0_h1)) (fun _ => rfl)).squeeze S2048x1024 squeezes_S1x1x2048x1024_S2048x1024)
      ((arg13.slice (Rect.unit (s := S2x2x2048x1024) (k0_off13 i v1 v2) S1x1x2048x1024.size (k0_off13_inb i v1 v2 v7 k0_hw1 k0_h1)) (fun _ => rfl)).squeeze S2048x1024 squeezes_S1x1x2048x1024_S2048x1024)
      ((arg14.slice (Rect.unit (s := S2x2) (k0_off9 i v1 v2) S1x1.size (k0_off9_inb i v1 v2 v7 k0_hw1 k0_h1))).squeeze S_ squeezes_S1x1_S_).sem ((arg14.slice (Rect.unit (s := S2x2) (k0_off12 i v1 v2) S1x1.size (k0_off12_inb i v1 v2 v7 k0_hw1 k0_h1))).squeeze S_ squeezes_S1x1_S_).sem ((View.wordExact_bits rfl).reshape _ _) ((View.wordExact_bits rfl).reshape _ _) ((View.wordExact_bits rfl).reshape _ _) ((View.wordExact_bits rfl).reshape _ _)
theorem stream_eq (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) :
    streamP i arg2 arg7 arg10 arg11 arg13 arg14 v1 v2 v7 k0_hw1 = if k0_h1 : k0_cond1 v7 = 1#1 then (do
      if k0_h2 : k0_cond2 i v1 v2 = 1#1 then begin0 i arg2 arg7 arg10 arg11 arg13 arg14 v1 v2 v7 k0_hw1 k0_h1 k0_h2 else pure ⟨⟩
      waitB i arg2 arg7 arg10 arg11 arg13 arg14 v1 v2 v7 k0_hw1 k0_h1
      if k0_h3 : k0_cond3 v1 v2 = 1#1 then beginN i arg2 arg7 arg10 arg11 arg13 arg14 v1 v2 v7 k0_hw1 k0_h1 k0_h3 else pure ⟨⟩
      if k0_h4 : k0_cond4 i v1 v2 = 1#1 then beginC i arg2 arg7 arg10 arg11 arg13 arg14 v1 v2 v7 k0_hw1 k0_h1 k0_h4 else pure ⟨⟩) else pure ⟨⟩ := by
  unfold streamP begin0 waitB beginN beginC issueTwo waitTwo withWord
  simp only [bind_assoc, pure_bind, dite_bnd, bind_pure_unit']
end

variable {F : FTy → Type} [FloatOps F]
local notation "𝕄" => MT nD τ sig Unit (Elt F) ℕ (Pipeline.UD sig nD τ) ℕ

theorem inbS (s w : Fin 2) : ∀ a, (![s.val, w.val, 0, 0] : Fin 4 → Nat) a + S1x1x2048x1024.size a ≤ S2x2x2048x1024.size a := by
  have := s.isLt; have := w.isLt; intro a; fin_cases a
  · show s.val + 1 ≤ 2; omega
  · show w.val + 1 ≤ 2; omega
  · show 0 + 2048 ≤ 2048; omega
  · show 0 + 1024 ≤ 1024; omega
theorem inbW (e : Fin 8) (k : Fin 7) : ∀ a, (![0, e.val, 0, 1024 * k.val] : Fin 4 → Nat) a + S1x1x2048x1024.size a ≤ S1x8x2048x7168.size a := by
  have := e.isLt; have := k.isLt; intro a; fin_cases a
  · show 0 + 1 ≤ 1; omega
  · show e.val + 1 ≤ 8; omega
  · show 0 + 2048 ≤ 2048; omega
  · show 1024 * k.val + 1024 ≤ 7168; omega
theorem inbC (s w : Fin 2) : ∀ a, (![s.val, w.val] : Fin 2 → Nat) a + S1x1.size a ≤ S2x2.size a := by
  have := s.isLt; have := w.isLt; intro a; fin_cases a
  · show s.val + 1 ≤ 2; omega
  · show w.val + 1 ≤ 2; omega
/-- Half `w` of slot `s` of the scratch. -/
def slotM (s w : Fin 2) : Memref sig .tc .vmem S2048x1024 .f32 :=
  ((Memref.whole cc0_scratch0 : Memref sig .tc .vmem S2x2x2048x1024 .f32).slice (Rect.unit (s := S2x2x2048x1024) ![s.val, w.val, 0, 0] S1x1x2048x1024.size (inbS s w)) (fun _ => rfl)).squeeze S2048x1024 squeezes_S1x1x2048x1024_S2048x1024
/-- Expert `e`'s column block `k` of the first weights, and of the second. -/
def srcG (e : Fin 8) (k : Fin 7) : Memref sig .tc .hbm S2048x1024 .f32 :=
  ((Memref.whole main_arg8 : Memref sig .tc .hbm S1x8x2048x7168 .f32).slice (Rect.unit (s := S1x8x2048x7168) ![0, e.val, 0, 1024 * k.val] S1x1x2048x1024.size (inbW e k)) (fun _ => rfl)).squeeze S2048x1024 squeezes_S1x1x2048x1024_S2048x1024
def srcU (e : Fin 8) (k : Fin 7) : Memref sig .tc .hbm S2048x1024 .f32 :=
  ((Memref.whole main_arg9 : Memref sig .tc .hbm S1x8x2048x7168 .f32).slice (Rect.unit (s := S1x8x2048x7168) ![0, e.val, 0, 1024 * k.val] S1x1x2048x1024.size (inbW e k)) (fun _ => rfl)).squeeze S2048x1024 squeezes_S1x1x2048x1024_S2048x1024
/-- The semaphore of half `w` of slot `s`. -/
def cellK (s w : Fin 2) : DmaSem sig := ⟨4 + 2 * s.val + w.val, by have := s.isLt; have := w.isLt; show _ < 8; omega⟩
theorem cell_eq (s w : Fin 2) : ((cc0_scratch1.slice (Rect.unit (s := S2x2) ![s.val, w.val] S1x1.size (inbC s w))).squeeze S_ squeezes_S1x1_S_).sem = cellK s w := by
  fin_cases s <;> fin_cases w <;> rfl
abbrev WBuf (c : Dev nD) : Type := Buf (Elt F) ((Memref.whole main_arg8 : Memref sig .tc .hbm S1x8x2048x7168 .f32).view.loc (c : Thread nD τ))
abbrev UBuf (c : Dev nD) : Type := Buf (Elt F) ((Memref.whole main_arg9 : Memref sig .tc .hbm S1x8x2048x7168 .f32).view.loc (c : Thread nD τ))

section
variable (c : Dev nD) (fg : WBuf (F := F) c) (fu : UBuf (F := F) c)
/-- Slot `s`'s read token of each weight array, over the elements `S`. -/
abbrev tokG (s : Fin 2) (S : Finset (Idx ((Memref.whole main_arg8 : Memref sig .tc .hbm S1x8x2048x7168 .f32).view.loc (c : Thread nD τ)))) : sProp 𝕄 :=
  (Memref.whole main_arg8 : Memref sig .tc .hbm S1x8x2048x7168 .f32).view.loc (c : Thread nD τ) ↦[S]{Transfers.shareTok fullShare 2 s} fg
abbrev tokU (s : Fin 2) (S : Finset (Idx ((Memref.whole main_arg9 : Memref sig .tc .hbm S1x8x2048x7168 .f32).view.loc (c : Thread nD τ)))) : sProp 𝕄 :=
  (Memref.whole main_arg9 : Memref sig .tc .hbm S1x8x2048x7168 .f32).view.loc (c : Thread nD τ) ↦[S]{Transfers.shareTok fullShare 2 s} fu
abbrev slotPt (s w : Fin 2) (f : Buf (Elt F) ((slotM s w).view.loc (c : Thread nD τ))) : sProp 𝕄 :=
  (slotM s w).view.loc (c : Thread nD τ) ↦[(slotM s w).view.set]{fullShare} f
abbrev landG (s : Fin 2) (e : Fin 8) (k : Fin 7) (f : Buf (Elt F) ((slotM s 0).view.loc (c : Thread nD τ))) : Buf (Elt F) ((slotM s 0).view.loc (c : Thread nD τ)) :=
  (slotM s 0).view.writes (Elt F) f [⟨Rect.whole S2048x1024, ReadAs.same.apply ((srcG e k).view.read (Elt F) fg)⟩]
abbrev landU (s : Fin 2) (e : Fin 8) (k : Fin 7) (f : Buf (Elt F) ((slotM s 1).view.loc (c : Thread nD τ))) : Buf (Elt F) ((slotM s 1).view.loc (c : Thread nD τ)) :=
  (slotM s 1).view.writes (Elt F) f [⟨Rect.whole S2048x1024, ReadAs.same.apply ((srcU e k).view.read (Elt F) fu)⟩]

/-- Slot `s` at rest: its semaphores at zero, its halves at anything, its tokens whole. -/
def FREE (s : Fin 2) : sProp 𝕄 :=
  iprop(semVal ((c : Thread nD τ), SemLoc.dma (cellK s 0)) 0 ∗ semVal ((c : Thread nD τ), SemLoc.dma (cellK s 1)) 0
    ∗ (∃ f, slotPt c s 0 f) ∗ (∃ f, slotPt c s 1 f) ∗ tokG c fg s Finset.univ ∗ tokU c fu s Finset.univ)
/-- Slot `s` at rest, holding expert `e`'s column block `k` of both weights. -/
def KEPT (s : Fin 2) (e : Fin 8) (k : Fin 7) : sProp 𝕄 :=
  iprop(semVal ((c : Thread nD τ), SemLoc.dma (cellK s 0)) 0 ∗ semVal ((c : Thread nD τ), SemLoc.dma (cellK s 1)) 0
    ∗ (∃ f, slotPt c s 0 (landG c fg s e k f)) ∗ (∃ f, slotPt c s 1 (landU c fu s e k f)) ∗ tokG c fg s Finset.univ ∗ tokU c fu s Finset.univ)
/-- Slot `s` with the two copies of that block under way. -/
def FLY (s : Fin 2) (e : Fin 8) (k : Fin 7) : sProp 𝕄 :=
  iprop((∃ f, Transfers.Flight (countersEmb (U := Pipeline.UD sig nD τ)) (c : Thread nD τ) (SemLoc.dma (cellK s 0)) () 262144
            iprop(slotPt c s 0 (landG c fg s e k f) ∗ tokG c fg s (srcG e k).view.set))
    ∗ (∃ f, Transfers.Flight (countersEmb (U := Pipeline.UD sig nD τ)) (c : Thread nD τ) (SemLoc.dma (cellK s 1)) () 262144
            iprop(slotPt c s 1 (landU c fu s e k f) ∗ tokU c fu s (srcU e k).view.set))
    ∗ tokG c fg s (Finset.univ \ (srcG e k).view.set) ∗ tokU c fu s (Finset.univ \ (srcU e k).view.set))

theorem issue_run (s : Fin 2) (e : Fin 8) (k : Fin 7) (h1 h2 h3 h4) (Q : PUnit → sProp 𝕄) :
    iprop(FREE c fg fu s ∗ (FLY c fg fu s e k -∗ Q ⟨⟩))
      ⊢ wp frame (wpE (defs₀ (F := F)) Variants.none (c : Thread nD τ) none) Set.univ
          (issueTwo (F := F) (srcG e k) (srcU e k) (slotM s 0) (slotM s 1) (cellK s 0) (cellK s 1) h1 h2 h3 h4) Q := by
  unfold FREE FLY issueTwo
  iintro ⟨⟨Hc0, Hc1, ⟨%f0, Hs0⟩, ⟨%f1, Hs1⟩, Ht0, Ht1⟩, Hk⟩
  sl_exec
  sl_step
  iapply Hk
  isplitl [Hc0]; · iexists f0; iexact Hc0
  isplitl [Hc1]; · iexists f1; iexact Hc1
  isplitl [Ht0]; · iexact Ht0
  iexact Ht1

theorem wait_run (s : Fin 2) (e : Fin 8) (k : Fin 7) (h1 h2 h3 h4) (W : Waits sig Unit) (Q : PUnit → sProp 𝕄) :
    iprop(FLY c fg fu s e k ∗ owes (c : Thread nD τ) 0 W ∗ (KEPT c fg fu s e k ∗ (∃ W, owes (c : Thread nD τ) 0 W) -∗ Q ⟨⟩))
      ⊢ wp frame (wpE (defs₀ (F := F)) Variants.none (c : Thread nD τ) none) Set.univ
          (waitTwo (F := F) (srcG e k) (srcU e k) (slotM s 0) (slotM s 1) (cellK s 0) (cellK s 1) h1 h2 h3 h4) Q := by
  unfold KEPT FLY waitTwo
  iintro ⟨⟨⟨%f0, Hc0⟩, ⟨%f1, Hc1⟩, Ht0, Ht1⟩, HO, Hk⟩
  sl_exec
  sl_step
  iapply Hk
  isplitr [HO]
  · isplitl [Hc0]; · iexact Hc0
    isplitl [Hc1]; · iexact Hc1
    isplitl [Hc0_dst]; · iexists _; iexact Hc0_dst
    isplitl [Hc1_dst]; · iexists _; iexact Hc1_dst
    isplitl [Ht0]; · iexact Ht0
    iexact Ht1
  · iexists _; iexact HO
end
theorem issue_congr {sa sb sa' sb' : Memref sig .tc .hbm S2048x1024 .f32} {da db da' db' : Memref sig .tc .vmem S2048x1024 .f32} {ca cb ca' cb' : DmaSem sig}
    (h1 : sa = sa') (h2 : sb = sb') (h3 : da = da') (h4 : db = db') (h5 : ca = ca') (h6 : cb = cb') (p q r t) :
    issueTwo (F := F) sa sb da db ca cb p q r t = issueTwo sa' sb' da' db' ca' cb' (h1 ▸ p) (h2 ▸ q) (h3 ▸ r) (h4 ▸ t) := by
  subst h1 h2 h3 h4 h5 h6; rfl
theorem wait_congr {sa sb sa' sb' : Memref sig .tc .hbm S2048x1024 .f32} {da db da' db' : Memref sig .tc .vmem S2048x1024 .f32} {ca cb ca' cb' : DmaSem sig}
    (h1 : sa = sa') (h2 : sb = sb') (h3 : da = da') (h4 : db = db') (h5 : ca = ca') (h6 : cb = cb') (p q r t) :
    waitTwo (F := F) sa sb da db ca cb p q r t = waitTwo sa' sb' da' db' ca' cb' (h1 ▸ p) (h2 ▸ q) (h3 ▸ r) (h4 ▸ t) := by
  subst h1 h2 h3 h4 h5 h6; rfl
theorem slot_of {o : Fin 4 → Nat} {s w : Fin 2} (h : o = ![s.val, w.val, 0, 0]) (p : ∀ a, o a + S1x1x2048x1024.size a ≤ S2x2x2048x1024.size a) :
    ((Memref.whole cc0_scratch0 : Memref sig .tc .vmem S2x2x2048x1024 .f32).slice (Rect.unit (s := S2x2x2048x1024) o S1x1x2048x1024.size p) (fun _ => rfl)).squeeze S2048x1024 squeezes_S1x1x2048x1024_S2048x1024 = slotM s w := by
  subst h; rfl
theorem srcG_of {o : Fin 4 → Nat} {e : Fin 8} {k : Fin 7} (h : o = ![0, e.val, 0, 1024 * k.val]) (p : ∀ a, o a + S1x1x2048x1024.size a ≤ S1x8x2048x7168.size a) :
    ((Memref.whole main_arg8 : Memref sig .tc .hbm S1x8x2048x7168 .f32).slice (Rect.unit (s := S1x8x2048x7168) o S1x1x2048x1024.size p) (fun _ => rfl)).squeeze S2048x1024 squeezes_S1x1x2048x1024_S2048x1024 = srcG e k := by
  subst h; rfl
theorem srcU_of {o : Fin 4 → Nat} {e : Fin 8} {k : Fin 7} (h : o = ![0, e.val, 0, 1024 * k.val]) (p : ∀ a, o a + S1x1x2048x1024.size a ≤ S1x8x2048x7168.size a) :
    ((Memref.whole main_arg9 : Memref sig .tc .hbm S1x8x2048x7168 .f32).slice (Rect.unit (s := S1x8x2048x7168) o S1x1x2048x1024.size p) (fun _ => rfl)).squeeze S2048x1024 squeezes_S1x1x2048x1024_S2048x1024 = srcU e k := by
  subst h; rfl
theorem cell_of {o : Fin 2 → Nat} {s w : Fin 2} (h : o = ![s.val, w.val]) (p : ∀ a, o a + S1x1.size a ≤ S2x2.size a) :
    ((cc0_scratch1.slice (Rect.unit (s := S2x2) o S1x1.size p)).squeeze S_ squeezes_S1x1_S_).sem = cellK s w := by
  subst h; exact cell_eq s w

section
variable (c : Dev nD) (fg : WBuf (F := F) c) (fu : UBuf (F := F) c)
abbrev TBuf (c : Dev nD) (M : Memref sig .tc .smem S40 .i32) : Type := Buf (Elt F) (M.view.loc (c : Thread nD τ))
/-- Word `j` of a table as the kernel reads it. -/
abbrev rdW (M : Memref sig .tc .smem S40 .i32) (T : Buf (Elt F) (M.view.loc (c : Thread nD τ))) (o : Fin 1 → Nat) (h : ∀ a, o a + S1.size a ≤ S40.size a) : Elt F .i32 :=
  View.readAt (Elt F) M.view (Rect.unit (s := S40) o S1.size h).toLoadRect T (Shape.Idx.first (numel1_S1.symm ▸ Nat.one_pos))

/-- A word read from a table and a fact assumed of it, before a program that uses both. -/
theorem word_run (M : Memref sig .tc .smem S40 .i32) (hM : M.IsWhole) (T : Buf (Elt F) (M.view.loc (c : Thread nD τ))) (o : Fin 1 → Nat) (h : ∀ a, o a + S1.size a ≤ S40.size a)
    (P : Elt F .i32 → Prop) (dec : ∀ v, Decidable (P v)) (K : ∀ v, P v → Prog (TpuEff nD τ sig (Elt F) Λ₀ .tc) PUnit) (hP : P (rdW c M T o h)) (Q : PUnit → sProp 𝕄) :
    iprop((M.view.loc (c : Thread nD τ) ↦{fullShare.right} T) ∗ ((M.view.loc (c : Thread nD τ) ↦{fullShare.right} T) -∗ wp frame (wpE (defs₀ (F := F)) Variants.none (c : Thread nD τ) none) Set.univ (K _ hP) Q))
      ⊢ wp frame (wpE (defs₀ (F := F)) Variants.none (c : Thread nD τ) none) Set.univ (withWord M o h P dec K) Q := by
  unfold withWord
  iintro ⟨HT, Hk⟩
  sl_exec
  iapply Hk
  iexact HT

/-- What a run of one of the parts that begin a block does. -/
theorem begin0_run (i : grid0.Coords) (v1 v2 v7 : Elt F .i32) (hw1 h1 h2) (s : Fin 2) (e : Fin 8) (k : Fin 7)
    (T0 : Buf (Elt F) ((Memref.whole main_arg0 : Memref sig .tc .smem S40 .i32).view.loc (c : Thread nD τ)))
    (ho3 : k0_off3 i v1 v2 = ![s.val, 0]) (ho6 : k0_off6 i v1 v2 = ![s.val, 1])
    (ho4 : k0_off4 i v1 v2 = ![s.val, 0, 0, 0]) (ho7 : k0_off7 i v1 v2 = ![s.val, 1, 0, 0])
    (ho5 : k0_off5 i (rdW c (Memref.whole main_arg0) T0 (k0_off2 i) (k0_off2_inb i)) = ![0, e.val, 0, 1024 * k.val]) (Q : PUnit → sProp 𝕄) :
    iprop(FREE c fg fu s ∗ ((Memref.whole main_arg0 : Memref sig .tc .smem S40 .i32).view.loc (c : Thread nD τ) ↦{fullShare.right} T0)
        ∗ (FLY c fg fu s e k ∗ ((Memref.whole main_arg0 : Memref sig .tc .smem S40 .i32).view.loc (c : Thread nD τ) ↦{fullShare.right} T0) -∗ Q ⟨⟩))
      ⊢ wp frame (wpE (defs₀ (F := F)) Variants.none (c : Thread nD τ) none) Set.univ
          (begin0 (F := F) i (Memref.whole main_arg0) (Memref.whole main_arg5) (Memref.whole main_arg8) (Memref.whole main_arg9) (Memref.whole cc0_scratch0) cc0_scratch1 v1 v2 v7 hw1 h1 h2) Q := by
  have hchk : k0_chk2 i v1 v2 v7 (rdW c (Memref.whole main_arg0) T0 (k0_off2 i) (k0_off2_inb i)) := by
    intro _ _; rw [ho5]; exact inbW e k
  unfold begin0
  iintro ⟨HF, HT, Hk⟩
  iapply (word_run c (Memref.whole main_arg0) (Memref.isWhole_whole _) T0 (k0_off2 i) (k0_off2_inb i) _ _ _ hchk Q)
  isplitl [HT]; · iexact HT
  iintro HT
  rw [issue_congr (srcG_of ho5 _) (srcU_of ho5 _) (slot_of (s := s) (w := 0) ho4 _) (slot_of (s := s) (w := 1) ho7 _) (cell_of (s := s) (w := 0) ho3 _) (cell_of (s := s) (w := 1) ho6 _)]
  iapply (issue_run c fg fu s e k _ _ _ _ Q)
  isplitl [HF]; · iexact HF
  iintro HF
  iapply Hk
  isplitl [HF]; · iexact HF
  iexact HT

theorem beginN_run (i : grid0.Coords) (v1 v2 v7 : Elt F .i32) (hw1 h1 h3) (s : Fin 2) (e : Fin 8) (k : Fin 7)
    (T0 : Buf (Elt F) ((Memref.whole main_arg5 : Memref sig .tc .smem S40 .i32).view.loc (c : Thread nD τ)))
    (ho3 : k0_off15 i v1 v2 = ![s.val, 0]) (ho6 : k0_off18 i v1 v2 = ![s.val, 1])
    (ho4 : k0_off16 i v1 v2 = ![s.val, 0, 0, 0]) (ho7 : k0_off19 i v1 v2 = ![s.val, 1, 0, 0])
    (hoW : k0_off17 i (rdW c (Memref.whole main_arg5) T0 (k0_off14 i) (k0_off14_inb i)) = ![0, e.val, 0, 1024 * k.val]) (Q : PUnit → sProp 𝕄) :
    iprop(FREE c fg fu s ∗ ((Memref.whole main_arg5 : Memref sig .tc .smem S40 .i32).view.loc (c : Thread nD τ) ↦{fullShare.right} T0)
        ∗ (FLY c fg fu s e k ∗ ((Memref.whole main_arg5 : Memref sig .tc .smem S40 .i32).view.loc (c : Thread nD τ) ↦{fullShare.right} T0) -∗ Q ⟨⟩))
      ⊢ wp frame (wpE (defs₀ (F := F)) Variants.none (c : Thread nD τ) none) Set.univ
          (beginN (F := F) i (Memref.whole main_arg0) (Memref.whole main_arg5) (Memref.whole main_arg8) (Memref.whole main_arg9) (Memref.whole cc0_scratch0) cc0_scratch1 v1 v2 v7 hw1 h1 h3) Q := by
  have hchk : k0_chk4 i v1 v2 v7 (rdW c (Memref.whole main_arg5) T0 (k0_off14 i) (k0_off14_inb i)) := by
    intro _ _; rw [hoW]; exact inbW e k
  unfold beginN
  iintro ⟨HF, HT, Hk⟩
  iapply (word_run c (Memref.whole main_arg5) (Memref.isWhole_whole _) T0 (k0_off14 i) (k0_off14_inb i) _ _ _ hchk Q)
  isplitl [HT]; · iexact HT
  iintro HT
  rw [issue_congr (srcG_of hoW _) (srcU_of hoW _) (slot_of (s := s) (w := 0) ho4 _) (slot_of (s := s) (w := 1) ho7 _) (cell_of (s := s) (w := 0) ho3 _) (cell_of (s := s) (w := 1) ho6 _)]
  iapply (issue_run c fg fu s e k _ _ _ _ Q)
  isplitl [HF]; · iexact HF
  iintro HF
  iapply Hk
  isplitl [HF]; · iexact HF
  iexact HT

theorem beginC_run (i : grid0.Coords) (v1 v2 v7 : Elt F .i32) (hw1 h1 h4) (s : Fin 2) (e : Fin 8) (k : Fin 7)
    (T0 : Buf (Elt F) ((Memref.whole main_arg0 : Memref sig .tc .smem S40 .i32).view.loc (c : Thread nD τ)))
    (ho3 : k0_off20 i v1 v2 = ![s.val, 0]) (ho6 : k0_off23 i v1 v2 = ![s.val, 1])
    (ho4 : k0_off21 i v1 v2 = ![s.val, 0, 0, 0]) (ho7 : k0_off24 i v1 v2 = ![s.val, 1, 0, 0])
    (hoW : k0_off22 i (rdW c (Memref.whole main_arg0) T0 ![0] inb_S40_S1_0) = ![0, e.val, 0, 1024 * k.val]) (Q : PUnit → sProp 𝕄) :
    iprop(FREE c fg fu s ∗ ((Memref.whole main_arg0 : Memref sig .tc .smem S40 .i32).view.loc (c : Thread nD τ) ↦{fullShare.right} T0)
        ∗ (FLY c fg fu s e k ∗ ((Memref.whole main_arg0 : Memref sig .tc .smem S40 .i32).view.loc (c : Thread nD τ) ↦{fullShare.right} T0) -∗ Q ⟨⟩))
      ⊢ wp frame (wpE (defs₀ (F := F)) Variants.none (c : Thread nD τ) none) Set.univ
          (beginC (F := F) i (Memref.whole main_arg0) (Memref.whole main_arg5) (Memref.whole main_arg8) (Memref.whole main_arg9) (Memref.whole cc0_scratch0) cc0_scratch1 v1 v2 v7 hw1 h1 h4) Q := by
  have hchk : k0_chk5 i v1 v2 v7 (rdW c (Memref.whole main_arg0) T0 ![0] inb_S40_S1_0) := by
    intro _ _; rw [hoW]; exact inbW e k
  unfold beginC
  iintro ⟨HF, HT, Hk⟩
  iapply (word_run c (Memref.whole main_arg0) (Memref.isWhole_whole _) T0 ![0] inb_S40_S1_0 _ _ _ hchk Q)
  isplitl [HT]; · iexact HT
  iintro HT
  rw [issue_congr (srcG_of hoW _) (srcU_of hoW _) (slot_of (s := s) (w := 0) ho4 _) (slot_of (s := s) (w := 1) ho7 _) (cell_of (s := s) (w := 0) ho3 _) (cell_of (s := s) (w := 1) ho6 _)]
  iapply (issue_run c fg fu s e k _ _ _ _ Q)
  isplitl [HF]; · iexact HF
  iintro HF
  iapply Hk
  isplitl [HF]; · iexact HF
  iexact HT

theorem waitB_run (i : grid0.Coords) (v1 v2 v7 : Elt F .i32) (hw1 h1) (s : Fin 2) (e : Fin 8) (k : Fin 7)
    (T0 : Buf (Elt F) ((Memref.whole main_arg0 : Memref sig .tc .smem S40 .i32).view.loc (c : Thread nD τ)))
    (ho3 : k0_off9 i v1 v2 = ![s.val, 0]) (ho6 : k0_off12 i v1 v2 = ![s.val, 1])
    (ho4 : k0_off10 i v1 v2 = ![s.val, 0, 0, 0]) (ho7 : k0_off13 i v1 v2 = ![s.val, 1, 0, 0])
    (hoW : k0_off11 i (rdW c (Memref.whole main_arg0) T0 (k0_off8 i) (k0_off8_inb i)) = ![0, e.val, 0, 1024 * k.val]) (W : Waits sig Unit) (Q : PUnit → sProp 𝕄) :
    iprop(FLY c fg fu s e k ∗ owes (c : Thread nD τ) 0 W ∗ ((Memref.whole main_arg0 : Memref sig .tc .smem S40 .i32).view.loc (c : Thread nD τ) ↦{fullShare.right} T0)
        ∗ (KEPT c fg fu s e k ∗ (∃ W, owes (c : Thread nD τ) 0 W) ∗ ((Memref.whole main_arg0 : Memref sig .tc .smem S40 .i32).view.loc (c : Thread nD τ) ↦{fullShare.right} T0) -∗ Q ⟨⟩))
      ⊢ wp frame (wpE (defs₀ (F := F)) Variants.none (c : Thread nD τ) none) Set.univ
          (waitB (F := F) i (Memref.whole main_arg0) (Memref.whole main_arg5) (Memref.whole main_arg8) (Memref.whole main_arg9) (Memref.whole cc0_scratch0) cc0_scratch1 v1 v2 v7 hw1 h1) Q := by
  have hchk : k0_chk3 i v7 (rdW c (Memref.whole main_arg0) T0 (k0_off8 i) (k0_off8_inb i)) := by
    intro _; rw [hoW]; exact inbW e k
  unfold waitB
  iintro ⟨HF, HO, HT, Hk⟩
  iapply (word_run c (Memref.whole main_arg0) (Memref.isWhole_whole _) T0 (k0_off8 i) (k0_off8_inb i) _ _ _ hchk Q)
  isplitl [HT]; · iexact HT
  iintro HT
  rw [wait_congr (srcG_of hoW _) (srcU_of hoW _) (slot_of (s := s) (w := 0) ho4 _) (slot_of (s := s) (w := 1) ho7 _) (cell_of (s := s) (w := 0) ho3 _) (cell_of (s := s) (w := 1) ho6 _)]
  iapply (wait_run c fg fu s e k _ _ _ _ W Q)
  isplitl [HF]; · iexact HF
  isplitl [HO]; · iexact HO
  iintro ⟨HF, HO⟩
  iapply Hk
  isplitl [HF]; · iexact HF
  isplitl [HO]; · iexact HO
  iexact HT

end
end Cert.MoeUpIdeal.Hand
end
-- ==== Proof.UpSched.lean ====
/- The order in which the expert weights' blocks are streamed, as numbers. -/
module

public import Mathlib.Data.Fin.Basic
public import Mathlib.Tactic.Linarith
public import Mathlib.Tactic.Ring
public import Mathlib.Tactic.IntervalCases

@[expose] public section

noncomputable section

namespace Cert.Moe

/-- The tables of a run of tiles: each tile's group, whether it opens it, its expert, the next group's
    expert; and the number of groups. -/
structure Sched where
  grp : Nat → Nat
  fst : Nat → Prop
  te : Nat → Fin 8
  nx : Nat → Fin 8
  ng : Nat
  grp0 : grp 0 = 0
  fst0 : fst 0
  step_fst : ∀ j, j + 1 < 40 → fst (j + 1) → grp (j + 1) = grp j + 1
  step_not : ∀ j, j + 1 < 40 → ¬fst (j + 1) → grp (j + 1) = grp j
  hng : ng = grp 39 + 1
  hte : ∀ j j', j < 40 → j' < 40 → grp j = grp j' → te j = te j'
  hnx : ∀ j j', j < 40 → j' < 40 → fst j → grp j' = grp j + 1 → nx j = te j'

namespace Sched
variable (S : Sched)

theorem grp_succ_le (j : Nat) (h : j + 1 < 40) : S.grp j ≤ S.grp (j + 1) ∧ S.grp (j + 1) ≤ S.grp j + 1 := by
  by_cases hf : S.fst (j + 1)
  · rw [S.step_fst j h hf]; omega
  · rw [S.step_not j h hf]; omega

theorem grp_le (j : Nat) : j < 40 → S.grp j ≤ j := by
  induction j with
  | zero => intro _; rw [S.grp0]
  | succ j ih => intro h; have := S.grp_succ_le j h; have := ih (by omega); omega

theorem grp_mono (j : Nat) : ∀ d, j + d < 40 → S.grp j ≤ S.grp (j + d) := by
  intro d
  induction d with
  | zero => intro _; exact le_refl _
  | succ d ih => intro h; have := S.grp_succ_le (j + d) h; have := ih (by omega); show _ ≤ S.grp (j + d + 1); omega

theorem grp_lt {j : Nat} (h : j < 40) : S.grp j < S.ng := by
  have := S.grp_mono j (39 - j) (by omega)
  rw [show j + (39 - j) = 39 from by omega] at this
  rw [S.hng]; omega

theorem ng_pos : 0 < S.ng := by rw [S.hng]; omega
theorem ng_le : S.ng ≤ 40 := by rw [S.hng]; have := S.grp_le 39 (by omega); omega

theorem surj (m : Nat) (hm : m < 40) : ∀ γ, γ ≤ S.grp m → ∃ j, j < 40 ∧ S.grp j = γ := by
  induction m with
  | zero => intro γ h; rw [S.grp0] at h; exact ⟨0, by omega, by rw [S.grp0]; omega⟩
  | succ m ih =>
    intro γ h
    by_cases h' : γ ≤ S.grp m
    · exact ih (by omega) γ h'
    · exact ⟨m + 1, hm, by have := S.grp_succ_le m hm; omega⟩

open Classical in
/-- Group `γ`'s expert. -/
def E (γ : Nat) : Fin 8 := if h : ∃ j, j < 40 ∧ S.grp j = γ then S.te h.choose else 0

theorem E_grp {j : Nat} (hj : j < 40) : S.E (S.grp j) = S.te j := by
  have h : ∃ j', j' < 40 ∧ S.grp j' = S.grp j := ⟨j, hj, rfl⟩
  rw [E, dif_pos h]
  exact S.hte _ _ h.choose_spec.1 hj h.choose_spec.2
theorem E_next {j : Nat} (hj : j < 40) (hf : S.fst j) (hn : S.grp j + 1 < S.ng) : S.E (S.grp j + 1) = S.nx j := by
  obtain ⟨j', hj', e⟩ := S.surj 39 (by omega) (S.grp j + 1) (by rw [S.hng] at hn; omega)
  rw [← e, S.E_grp hj', S.hnx j j' hj hj' hf e]
theorem E_zero : S.E 0 = S.te 0 := by
  have := S.E_grp (j := 0) (by omega); rwa [S.grp0] at this

/-- How many blocks have been waited for before point `t`. -/
def done (t : Nat) : Nat := (t / 40) * S.ng + (if t % 40 = 0 then 0 else S.grp (t % 40 - 1) + 1)
/-- The block point `t` uses. -/
def blk (t : Nat) : Nat := (t / 40) * S.ng + S.grp (t % 40)
/-- A block's slot, its expert and its column. -/
def sl (b : Nat) : Fin 2 := ⟨b % 2, by omega⟩
def eb (b : Nat) : Fin 8 := S.E (b % S.ng)
def kb (K : Nat) (hK : 0 < K) (b : Nat) : Fin K := ⟨(b / S.ng) % K, Nat.mod_lt _ hK⟩

theorem done_zero : S.done 0 = 0 := by simp [done]
theorem done_last (K : Nat) : S.done (40 * K) = K * S.ng := by
  unfold done; rw [Nat.mul_div_cancel_left _ (by omega), Nat.mul_mod_right]; simp
theorem done_fst (t : Nat) (hf : S.fst (t % 40)) : S.done t = S.blk t := by
  unfold done blk
  split
  · next h => rw [h, S.grp0]
  · next h =>
    have := S.step_fst (t % 40 - 1) (by omega) (by rwa [show t % 40 - 1 + 1 = t % 40 from by omega])
    rw [show t % 40 - 1 + 1 = t % 40 from by omega] at this
    omega
theorem done_not (t : Nat) (hf : ¬S.fst (t % 40)) : S.done t = S.blk t + 1 := by
  unfold done blk
  split
  · next h => exact absurd (h ▸ S.fst0) hf
  · next h =>
    have := S.step_not (t % 40 - 1) (by omega) (by rwa [show t % 40 - 1 + 1 = t % 40 from by omega])
    rw [show t % 40 - 1 + 1 = t % 40 from by omega] at this
    omega
theorem done_succ (t : Nat) : S.done (t + 1) = S.blk t + 1 := by
  unfold done blk
  by_cases h : (t + 1) % 40 = 0
  · rw [if_pos h, show (t + 1) / 40 = t / 40 + 1 from by omega, show t % 40 = 39 from by omega, Nat.add_mul, S.hng]; omega
  · rw [if_neg h, show (t + 1) / 40 = t / 40 from by omega, show (t + 1) % 40 - 1 = t % 40 from by omega]; omega

theorem blk_mod (t : Nat) : S.blk t % S.ng = S.grp (t % 40) := by
  unfold blk; rw [Nat.mul_comm, Nat.mul_add_mod, Nat.mod_eq_of_lt (S.grp_lt (by omega))]
theorem blk_div (t : Nat) : S.blk t / S.ng = t / 40 := by
  unfold blk; rw [Nat.mul_comm, Nat.mul_add_div S.ng_pos, Nat.div_eq_of_lt (S.grp_lt (by omega))]; rfl
theorem eb_blk (t : Nat) : S.eb (S.blk t) = S.te (t % 40) := by
  rw [eb, blk_mod, S.E_grp (by omega)]
theorem kb_blk (K : Nat) (hK : 0 < K) (t : Nat) (k : Fin K) (h : t / 40 = k.val) : S.kb K hK (S.blk t) = k := by
  apply Fin.ext; show _ % _ = _; rw [blk_div, h, Nat.mod_eq_of_lt k.isLt]

theorem next_mod (t : Nat) (h : S.grp (t % 40) + 1 < S.ng) : (S.blk t + 1) % S.ng = S.grp (t % 40) + 1 := by
  unfold blk; rw [Nat.add_assoc, Nat.mul_comm, Nat.mul_add_mod, Nat.mod_eq_of_lt h]
theorem next_div (t : Nat) (h : S.grp (t % 40) + 1 < S.ng) : (S.blk t + 1) / S.ng = t / 40 := by
  unfold blk; rw [Nat.add_assoc, Nat.mul_comm, Nat.mul_add_div S.ng_pos, Nat.div_eq_of_lt h]; rfl
theorem eb_next (t : Nat) (hf : S.fst (t % 40)) (h : S.grp (t % 40) + 1 < S.ng) : S.eb (S.blk t + 1) = S.nx (t % 40) := by
  rw [eb, S.next_mod t h, S.E_next (by omega) hf h]
theorem kb_next (K : Nat) (hK : 0 < K) (t : Nat) (k : Fin K) (hk : t / 40 = k.val) (h : S.grp (t % 40) + 1 < S.ng) : S.kb K hK (S.blk t + 1) = k := by
  apply Fin.ext; show _ % _ = _; rw [S.next_div t h, hk, Nat.mod_eq_of_lt k.isLt]
theorem last_eq (t : Nat) (h : ¬S.grp (t % 40) + 1 < S.ng) : S.blk t + 1 = (t / 40 + 1) * S.ng := by
  have := S.grp_lt (j := t % 40) (by omega); unfold blk; rw [Nat.add_mul]; omega
theorem eb_last (t : Nat) (h : ¬S.grp (t % 40) + 1 < S.ng) : S.eb (S.blk t + 1) = S.te 0 := by
  rw [eb, S.last_eq t h, Nat.mul_mod_left, E_zero]
theorem kb_last (K : Nat) (hK : 0 < K) (t : Nat) (k : Fin K) (hk : t / 40 + 1 = k.val) (h : ¬S.grp (t % 40) + 1 < S.ng) : S.kb K hK (S.blk t + 1) = k := by
  apply Fin.ext; show _ % _ = _; rw [S.last_eq t h, Nat.mul_div_cancel _ S.ng_pos, hk, Nat.mod_eq_of_lt k.isLt]
theorem blk_lt (K t : Nat) (h : t / 40 < K) : S.blk t < K * S.ng := by
  have := S.grp_lt (j := t % 40) (by omega)
  have : (t / 40 + 1) * S.ng ≤ K * S.ng := Nat.mul_le_mul_right _ h
  rw [Nat.add_mul] at this; unfold blk; omega
theorem next_lt (K t : Nat) (hk : t / 40 < K) (h : S.grp (t % 40) + 1 < S.ng) : S.blk t + 1 < K * S.ng := by
  have : (t / 40 + 1) * S.ng ≤ K * S.ng := Nat.mul_le_mul_right _ hk
  rw [Nat.add_mul] at this; unfold blk; omega
theorem last_lt (K t : Nat) (hk : t / 40 + 1 < K) (h : ¬S.grp (t % 40) + 1 < S.ng) : S.blk t + 1 < K * S.ng := by
  rw [S.last_eq t h]; exact Nat.mul_lt_mul_of_pos_right hk S.ng_pos
theorem end_eq (K t : Nat) (hk : t / 40 + 1 = K) (h : ¬S.grp (t % 40) + 1 < S.ng) : S.blk t + 1 = K * S.ng := by
  rw [S.last_eq t h, hk]
theorem blk_zero (t : Nat) : S.blk t = 0 ↔ t / 40 = 0 ∧ S.grp (t % 40) = 0 := by
  unfold blk; have := S.ng_pos; rw [Nat.add_eq_zero_iff, Nat.mul_eq_zero]; omega
end Sched

end Cert.Moe

end
-- ==== Proof.UpIWord.lean ====
/- The words the kernel computes with, as numbers. -/
module

public import proofs.«01_k».proof.Proof.UpIBody

@[expose] public section
noncomputable section
namespace Cert.MoeUpIdeal.Hand
open Cert.MoeUpIdeal Cert.MoeUpIdeal.Gen
open Idealize.ShloMosaic Idealize.ShloMosaic.TcCoe Idealize.ShloMosaic.WordCmp

theorem rem2 : ∀ m : Fin 400, Scalar.remsi (BitVec.ofNat 32 m.val) 2#32 = BitVec.ofNat 32 (m.val % 2) := by decide +kernel
theorem blkW {k g n : Nat} : Scalar.addi (Scalar.muli (BitVec.ofNat 32 k) (BitVec.ofNat 32 n)) (BitVec.ofNat 32 g) = BitVec.ofNat 32 (k * n + g) := by
  show IntOp.addi (IntOp.muli _ _) _ = _; rw [muli_ofNat, addi_ofNat]
theorem lt400 {k g n : Nat} (hk : k < 7) (hg : g < n) (hn : n ≤ 40) : k * n + g < 400 := by
  have : k * n ≤ 6 * n := Nat.mul_le_mul_right _ (by omega)
  omega
theorem slotW {k g n : Nat} (hk : k < 7) (hg : g < n) (hn : n ≤ 40) : Scalar.remsi (Scalar.addi (Scalar.muli (BitVec.ofNat 32 k) (BitVec.ofNat 32 n)) (BitVec.ofNat 32 g)) 2#32 = BitVec.ofNat 32 ((k * n + g) % 2) := by
  rw [blkW]; exact rem2 ⟨_, lt400 hk hg hn⟩
theorem otherW (b : Nat) : (Scalar.subi 1#32 (BitVec.ofNat 32 (b % 2))).toNat = (b + 1) % 2 := by
  rcases Nat.mod_two_eq_zero_or_one b with h | h <;> rw [h]
  · rw [show (b + 1) % 2 = 1 from by omega]; decide
  · rw [show (b + 1) % 2 = 0 from by omega]; decide
theorem nat2 (b : Nat) : (BitVec.ofNat 32 (b % 2)).toNat = b % 2 := by rw [BitVec.toNat_ofNat]; exact Nat.mod_eq_of_lt (by omega)
theorem colW : ∀ k : Fin 7, (Scalar.muli (BitVec.ofNat 32 k.val) 1024#32).toNat = 1024 * k.val := by decide
theorem colW' : ∀ k : Fin 7, (Scalar.muli (Scalar.addi (BitVec.ofNat 32 k.val) 1#32) 1024#32).toNat = 1024 * (k.val + 1) := by decide
theorem off3 (i : grid0.Coords) {g n : Nat} (hg : g < n) (hn : n ≤ 40) : k0_off3 i (BitVec.ofNat 32 g) (BitVec.ofNat 32 n) = ![((i 0).val * n + g) % 2, 0] := by
  show ![(Scalar.remsi _ _).toNat, 0] = _; rw [slotW (i 0).isLt hg hn, nat2]
theorem off6 (i : grid0.Coords) {g n : Nat} (hg : g < n) (hn : n ≤ 40) : k0_off6 i (BitVec.ofNat 32 g) (BitVec.ofNat 32 n) = ![((i 0).val * n + g) % 2, 1] := by
  show ![(Scalar.remsi _ _).toNat, 1] = _; rw [slotW (i 0).isLt hg hn, nat2]
theorem off9 (i : grid0.Coords) {g n : Nat} (hg : g < n) (hn : n ≤ 40) : k0_off9 i (BitVec.ofNat 32 g) (BitVec.ofNat 32 n) = ![((i 0).val * n + g) % 2, 0] := by
  show ![(Scalar.remsi _ _).toNat, 0] = _; rw [slotW (i 0).isLt hg hn, nat2]
theorem off12 (i : grid0.Coords) {g n : Nat} (hg : g < n) (hn : n ≤ 40) : k0_off12 i (BitVec.ofNat 32 g) (BitVec.ofNat 32 n) = ![((i 0).val * n + g) % 2, 1] := by
  show ![(Scalar.remsi _ _).toNat, 1] = _; rw [slotW (i 0).isLt hg hn, nat2]
theorem off4 (i : grid0.Coords) {g n : Nat} (hg : g < n) (hn : n ≤ 40) : k0_off4 i (BitVec.ofNat 32 g) (BitVec.ofNat 32 n) = ![((i 0).val * n + g) % 2, 0, 0, 0] := by
  show ![(Scalar.remsi _ _).toNat, 0, 0, 0] = _; rw [slotW (i 0).isLt hg hn, nat2]
theorem off7 (i : grid0.Coords) {g n : Nat} (hg : g < n) (hn : n ≤ 40) : k0_off7 i (BitVec.ofNat 32 g) (BitVec.ofNat 32 n) = ![((i 0).val * n + g) % 2, 1, 0, 0] := by
  show ![(Scalar.remsi _ _).toNat, 1, 0, 0] = _; rw [slotW (i 0).isLt hg hn, nat2]
theorem off10 (i : grid0.Coords) {g n : Nat} (hg : g < n) (hn : n ≤ 40) : k0_off10 i (BitVec.ofNat 32 g) (BitVec.ofNat 32 n) = ![((i 0).val * n + g) % 2, 0, 0, 0] := by
  show ![(Scalar.remsi _ _).toNat, 0, 0, 0] = _; rw [slotW (i 0).isLt hg hn, nat2]
theorem off13 (i : grid0.Coords) {g n : Nat} (hg : g < n) (hn : n ≤ 40) : k0_off13 i (BitVec.ofNat 32 g) (BitVec.ofNat 32 n) = ![((i 0).val * n + g) % 2, 1, 0, 0] := by
  show ![(Scalar.remsi _ _).toNat, 1, 0, 0] = _; rw [slotW (i 0).isLt hg hn, nat2]
theorem off26 (i : grid0.Coords) {g n : Nat} (hg : g < n) (hn : n ≤ 40) : k0_off26 i (BitVec.ofNat 32 g) (BitVec.ofNat 32 n) = ![((i 0).val * n + g) % 2, 0, 0, 0] := by
  show ![(Scalar.remsi _ _).toNat, 0, 0, 0] = _; rw [slotW (i 0).isLt hg hn, nat2]
theorem off27 (i : grid0.Coords) {g n : Nat} (hg : g < n) (hn : n ≤ 40) : k0_off27 i (BitVec.ofNat 32 g) (BitVec.ofNat 32 n) = ![((i 0).val * n + g) % 2, 1, 0, 0] := by
  show ![(Scalar.remsi _ _).toNat, 1, 0, 0] = _; rw [slotW (i 0).isLt hg hn, nat2]
theorem off28 (i : grid0.Coords) {g n : Nat} (hg : g < n) (hn : n ≤ 40) : k0_off28 i (BitVec.ofNat 32 g) (BitVec.ofNat 32 n) = ![((i 0).val * n + g) % 2, 0, 0, 0] := by
  show ![(Scalar.remsi _ _).toNat, 0, 0, 0] = _; rw [slotW (i 0).isLt hg hn, nat2]
theorem off29 (i : grid0.Coords) {g n : Nat} (hg : g < n) (hn : n ≤ 40) : k0_off29 i (BitVec.ofNat 32 g) (BitVec.ofNat 32 n) = ![((i 0).val * n + g) % 2, 1, 0, 0] := by
  show ![(Scalar.remsi _ _).toNat, 1, 0, 0] = _; rw [slotW (i 0).isLt hg hn, nat2]
theorem off30 (i : grid0.Coords) {g n : Nat} (hg : g < n) (hn : n ≤ 40) : k0_off30 i (BitVec.ofNat 32 g) (BitVec.ofNat 32 n) = ![((i 0).val * n + g) % 2, 0, 0, 0] := by
  show ![(Scalar.remsi _ _).toNat, 0, 0, 0] = _; rw [slotW (i 0).isLt hg hn, nat2]
theorem off31 (i : grid0.Coords) {g n : Nat} (hg : g < n) (hn : n ≤ 40) : k0_off31 i (BitVec.ofNat 32 g) (BitVec.ofNat 32 n) = ![((i 0).val * n + g) % 2, 1, 0, 0] := by
  show ![(Scalar.remsi _ _).toNat, 1, 0, 0] = _; rw [slotW (i 0).isLt hg hn, nat2]
theorem off32 (i : grid0.Coords) {g n : Nat} (hg : g < n) (hn : n ≤ 40) : k0_off32 i (BitVec.ofNat 32 g) (BitVec.ofNat 32 n) = ![((i 0).val * n + g) % 2, 0, 0, 0] := by
  show ![(Scalar.remsi _ _).toNat, 0, 0, 0] = _; rw [slotW (i 0).isLt hg hn, nat2]
theorem off33 (i : grid0.Coords) {g n : Nat} (hg : g < n) (hn : n ≤ 40) : k0_off33 i (BitVec.ofNat 32 g) (BitVec.ofNat 32 n) = ![((i 0).val * n + g) % 2, 1, 0, 0] := by
  show ![(Scalar.remsi _ _).toNat, 1, 0, 0] = _; rw [slotW (i 0).isLt hg hn, nat2]
theorem off15 (i : grid0.Coords) {g n : Nat} (hg : g < n) (hn : n ≤ 40) : k0_off15 i (BitVec.ofNat 32 g) (BitVec.ofNat 32 n) = ![((i 0).val * n + g + 1) % 2, 0] := by
  show ![(Scalar.subi _ (Scalar.remsi _ _)).toNat, 0] = _; rw [slotW (i 0).isLt hg hn, otherW]
theorem off18 (i : grid0.Coords) {g n : Nat} (hg : g < n) (hn : n ≤ 40) : k0_off18 i (BitVec.ofNat 32 g) (BitVec.ofNat 32 n) = ![((i 0).val * n + g + 1) % 2, 1] := by
  show ![(Scalar.subi _ (Scalar.remsi _ _)).toNat, 1] = _; rw [slotW (i 0).isLt hg hn, otherW]
theorem off20 (i : grid0.Coords) {g n : Nat} (hg : g < n) (hn : n ≤ 40) : k0_off20 i (BitVec.ofNat 32 g) (BitVec.ofNat 32 n) = ![((i 0).val * n + g + 1) % 2, 0] := by
  show ![(Scalar.subi _ (Scalar.remsi _ _)).toNat, 0] = _; rw [slotW (i 0).isLt hg hn, otherW]
theorem off23 (i : grid0.Coords) {g n : Nat} (hg : g < n) (hn : n ≤ 40) : k0_off23 i (BitVec.ofNat 32 g) (BitVec.ofNat 32 n) = ![((i 0).val * n + g + 1) % 2, 1] := by
  show ![(Scalar.subi _ (Scalar.remsi _ _)).toNat, 1] = _; rw [slotW (i 0).isLt hg hn, otherW]
theorem off16 (i : grid0.Coords) {g n : Nat} (hg : g < n) (hn : n ≤ 40) : k0_off16 i (BitVec.ofNat 32 g) (BitVec.ofNat 32 n) = ![((i 0).val * n + g + 1) % 2, 0, 0, 0] := by
  show ![(Scalar.subi _ (Scalar.remsi _ _)).toNat, 0, 0, 0] = _; rw [slotW (i 0).isLt hg hn, otherW]
theorem off19 (i : grid0.Coords) {g n : Nat} (hg : g < n) (hn : n ≤ 40) : k0_off19 i (BitVec.ofNat 32 g) (BitVec.ofNat 32 n) = ![((i 0).val * n + g + 1) % 2, 1, 0, 0] := by
  show ![(Scalar.subi _ (Scalar.remsi _ _)).toNat, 1, 0, 0] = _; rw [slotW (i 0).isLt hg hn, otherW]
theorem off21 (i : grid0.Coords) {g n : Nat} (hg : g < n) (hn : n ≤ 40) : k0_off21 i (BitVec.ofNat 32 g) (BitVec.ofNat 32 n) = ![((i 0).val * n + g + 1) % 2, 0, 0, 0] := by
  show ![(Scalar.subi _ (Scalar.remsi _ _)).toNat, 0, 0, 0] = _; rw [slotW (i 0).isLt hg hn, otherW]
theorem off24 (i : grid0.Coords) {g n : Nat} (hg : g < n) (hn : n ≤ 40) : k0_off24 i (BitVec.ofNat 32 g) (BitVec.ofNat 32 n) = ![((i 0).val * n + g + 1) % 2, 1, 0, 0] := by
  show ![(Scalar.subi _ (Scalar.remsi _ _)).toNat, 1, 0, 0] = _; rw [slotW (i 0).isLt hg hn, otherW]
theorem off5 (i : grid0.Coords) (w : BitVec 32) : k0_off5 i w = ![0, w.toNat, 0, 1024 * (i 0).val] := by
  show ![0, w.toNat, 0, (Scalar.muli _ _).toNat] = _; rw [colW (i 0)]
theorem off11 (i : grid0.Coords) (w : BitVec 32) : k0_off11 i w = ![0, w.toNat, 0, 1024 * (i 0).val] := by
  show ![0, w.toNat, 0, (Scalar.muli _ _).toNat] = _; rw [colW (i 0)]
theorem off17 (i : grid0.Coords) (w : BitVec 32) : k0_off17 i w = ![0, w.toNat, 0, 1024 * (i 0).val] := by
  show ![0, w.toNat, 0, (Scalar.muli _ _).toNat] = _; rw [colW (i 0)]
theorem off22 (i : grid0.Coords) (w : BitVec 32) : k0_off22 i w = ![0, w.toNat, 0, 1024 * ((i 0).val + 1)] := by
  show ![0, w.toNat, 0, (Scalar.muli (Scalar.addi _ _) _).toNat] = _; rw [colW' (i 0)]
theorem off1 (i : grid0.Coords) : k0_off1 i = ![(i 1).val] := by
  show ![(BitVec.ofNat 32 (i 1).val).toNat] = _; rw [BitVec.toNat_ofNat, Nat.mod_eq_of_lt (lt_of_lt_of_le (i 1).isLt (by decide))]
theorem off2 (i : grid0.Coords) : k0_off2 i = ![(i 1).val] := by
  show ![(BitVec.ofNat 32 (i 1).val).toNat] = _; rw [BitVec.toNat_ofNat, Nat.mod_eq_of_lt (lt_of_lt_of_le (i 1).isLt (by decide))]
theorem off8 (i : grid0.Coords) : k0_off8 i = ![(i 1).val] := by
  show ![(BitVec.ofNat 32 (i 1).val).toNat] = _; rw [BitVec.toNat_ofNat, Nat.mod_eq_of_lt (lt_of_lt_of_le (i 1).isLt (by decide))]
theorem off14 (i : grid0.Coords) : k0_off14 i = ![(i 1).val] := by
  show ![(BitVec.ofNat 32 (i 1).val).toNat] = _; rw [BitVec.toNat_ofNat, Nat.mod_eq_of_lt (lt_of_lt_of_le (i 1).isLt (by decide))]
theorem off25 (i : grid0.Coords) : k0_off25 i = ![(i 1).val] := by
  show ![(BitVec.ofNat 32 (i 1).val).toNat] = _; rw [BitVec.toNat_ofNat, Nat.mod_eq_of_lt (lt_of_lt_of_le (i 1).isLt (by decide))]
theorem cond1 (w : BitVec 32) : k0_cond1 w = 1#1 ↔ w = 1#32 := by
  unfold k0_cond1; simp only [scalar_cmpi_eq, cmpi_eq_eq, scalar_extui_ofBool]
  by_cases h : w = 1#32 <;> simp [h] <;> decide
theorem cond2 (i : grid0.Coords) {g n : Nat} (hg : g < n) (hn : n ≤ 40) : k0_cond2 i (BitVec.ofNat 32 g) (BitVec.ofNat 32 n) = 1#1 ↔ (i 0).val * n + g = 0 := by
  unfold k0_cond2; simp only [blkW, scalar_cmpi_eq, cmpi_eq_eq_toNat, scalar_extui_ofBool]
  rw [BitVec.toNat_ofNat, Nat.mod_eq_of_lt (lt_of_lt_of_le (lt400 (i 0).isLt hg hn) (by decide))]
  generalize (i 0).val * n + g = b
  show Scalar.cmpi .ne (if decide (b = 0) = true then 1#32 else 0#32) 0#32 = _ ↔ _
  by_cases h : b = 0
  · rw [if_pos (by simpa using h)]; exact ⟨fun _ => h, fun _ => by decide⟩
  · rw [if_neg (by simpa using h)]; exact ⟨fun h' => absurd h' (by decide), fun h' => absurd h' h⟩
theorem cond3 {g n : Nat} (hg : g < n) (hn : n ≤ 40) : k0_cond3 (BitVec.ofNat 32 g) (BitVec.ofNat 32 n) = 1#1 ↔ g + 1 < n := by
  unfold k0_cond3; show Scalar.cmpi .ne (Scalar.extui (IntOp.cmpi .slt (IntOp.addi (BitVec.ofNat 32 g) (BitVec.ofNat 32 1)) (BitVec.ofNat 32 n))) 0#32 = _ ↔ _
  rw [addi_ofNat, cmpi_slt_ofNat (by show _ < 2147483648; omega) (by show _ < 2147483648; omega), scalar_extui_ofBool]
  by_cases h : g + 1 < n <;> simp [h] <;> decide
theorem cond4 (i : grid0.Coords) {g n : Nat} (hg : g < n) (hn : n ≤ 40) : k0_cond4 i (BitVec.ofNat 32 g) (BitVec.ofNat 32 n) = 1#1 ↔ ¬g + 1 < n ∧ (i 0).val + 1 < 7 := by
  have hk : (i 0).val < 7 := (i 0).isLt
  unfold k0_cond4; show Scalar.cmpi .ne (Scalar.extui (Scalar.andi (Scalar.xori (IntOp.cmpi .slt (IntOp.addi (BitVec.ofNat 32 g) (BitVec.ofNat 32 1)) (BitVec.ofNat 32 n)) 1#1) (IntOp.cmpi .slt (IntOp.addi (BitVec.ofNat 32 (i 0).val) (BitVec.ofNat 32 1)) (BitVec.ofNat 32 7)))) 0#32 = _ ↔ _
  rw [addi_ofNat, addi_ofNat, cmpi_slt_ofNat (by show _ < 2147483648; omega) (by show _ < 2147483648; omega), cmpi_slt_ofNat (by show _ < 2147483648; omega) (by show _ < 2147483648; omega)]
  by_cases h : g + 1 < n <;> by_cases h' : (i 0).val + 1 < 7 <;> simp only [h, h', decide_true, decide_false] <;> decide
end Cert.MoeUpIdeal.Hand
end
-- ==== Proof.UpIStream.lean ====
/- One point's part of the stream of expert weights, against the schedule. -/
module

public import proofs.«01_k».proof.Proof.UpIBody
public import proofs.«01_k».proof.Proof.UpSched
public import proofs.«01_k».proof.Proof.UpIWord

@[expose] public section

set_option synthInstance.maxSize 4096

noncomputable section

namespace Cert.MoeUpIdeal.Hand

open Cert.MoeUpIdeal Cert.MoeUpIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The two parts that begin a later block. -/
def nextP (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) (k0_h1 : k0_cond1 v7 = 1#1) : Prog (TpuEff nD τ sig (Elt F) Λ₀ .tc) PUnit :=
  (if k0_h3 : k0_cond3 v1 v2 = 1#1 then beginN i arg2 arg7 arg10 arg11 arg13 arg14 v1 v2 v7 k0_hw1 k0_h1 k0_h3 else pure ⟨⟩) >>= fun _ =>
    if k0_h4 : k0_cond4 i v1 v2 = 1#1 then beginC i arg2 arg7 arg10 arg11 arg13 arg14 v1 v2 v7 k0_hw1 k0_h1 k0_h4 else pure ⟨⟩
theorem stream_eq' (i : grid0.Coords) (arg2 : Memref sig .tc .smem S40 .i32) (arg7 : Memref sig .tc .smem S40 .i32) (arg10 : Memref sig .tc .hbm S1x8x2048x7168 .f32) (arg11 : Memref sig .tc .hbm S1x8x2048x7168 .f32) (arg13 : Memref sig .tc .vmem S2x2x2048x1024 .f32) (arg14 : DmaSems sig S2x2) (v1 v2 v7 : Elt F .i32) (k0_hw1 : k0_chk1 i v1 v2 v7) :
    streamP i arg2 arg7 arg10 arg11 arg13 arg14 v1 v2 v7 k0_hw1 = if k0_h1 : k0_cond1 v7 = 1#1 then
      ((if k0_h2 : k0_cond2 i v1 v2 = 1#1 then begin0 i arg2 arg7 arg10 arg11 arg13 arg14 v1 v2 v7 k0_hw1 k0_h1 k0_h2 else pure ⟨⟩) >>= fun _ =>
        (waitB i arg2 arg7 arg10 arg11 arg13 arg14 v1 v2 v7 k0_hw1 k0_h1 >>= fun _ => nextP i arg2 arg7 arg10 arg11 arg13 arg14 v1 v2 v7 k0_hw1 k0_h1)) else pure ⟨⟩ := by
  rw [stream_eq]; unfold nextP; simp only [dite_bnd, pure_bind]

variable (c : Dev nD) (fg : WBuf (F := F) c) (fu : UBuf (F := F) c) (S : Sched)

abbrev kB (b : Nat) : Fin 7 := S.kb 7 (by decide) b

/-- What the streaming holds once `n` blocks have been waited for. -/
def SLOTS (n : Nat) : sProp 𝕄 :=
  if n = 0 then iprop(FREE c fg fu 0 ∗ FREE c fg fu 1)
  else iprop(KEPT c fg fu (Sched.sl (n - 1)) (S.eb (n - 1)) (kB S (n - 1))
    ∗ (if n < 7 * S.ng then FLY c fg fu (Sched.sl n) (S.eb n) (kB S n) else FREE c fg fu (Sched.sl n)))

theorem kept_free (s : Fin 2) (e : Fin 8) (k : Fin 7) : KEPT c fg fu s e k ⊢ FREE c fg fu s := by
  unfold KEPT FREE
  iintro ⟨H0, H1, ⟨%f0, H2⟩, ⟨%f1, H3⟩, H4, H5⟩
  isplitl [H0]; · iexact H0
  isplitl [H1]; · iexact H1
  isplitl [H2]; · iexists _; iexact H2
  isplitl [H3]; · iexists _; iexact H3
  isplitl [H4]; · iexact H4
  iexact H5

theorem sl_pred (b : Nat) (h : b ≠ 0) : Sched.sl (b - 1) = Sched.sl (b + 1) := Fin.ext (by show (b - 1) % 2 = (b + 1) % 2; omega)

theorem slots_start (b : Nat) (h : b ≠ 0) (hb : b < 7 * S.ng) :
    SLOTS c fg fu S b ⊢ iprop(FLY c fg fu (Sched.sl b) (S.eb b) (kB S b) ∗ FREE c fg fu (Sched.sl (b + 1))) := by
  unfold SLOTS
  rw [if_neg h, if_pos hb, ← sl_pred b h]
  iintro ⟨HK, HF⟩
  isplitl [HF]; · iexact HF
  iapply (kept_free c fg fu); iexact HK

abbrev T0At (T0 : TBuf (F := F) c (Memref.whole main_arg0)) : sProp 𝕄 := (Memref.whole main_arg0 : Memref sig .tc .smem S40 .i32).view.loc (c : Thread nD τ) ↦{fullShare.right} T0
abbrev T5At (T5 : TBuf (F := F) c (Memref.whole main_arg5)) : sProp 𝕄 := (Memref.whole main_arg5 : Memref sig .tc .smem S40 .i32).view.loc (c : Thread nD τ) ↦{fullShare.right} T5

/-- What the words of the two tables of experts are. -/
structure Words (T0 : TBuf (F := F) c (Memref.whole main_arg0)) (T5 : TBuf (F := F) c (Memref.whole main_arg5)) : Prop where
  te : ∀ (j : Nat) (o : Fin 1 → Nat) (h), j < 40 → o = ![j] → rdW c (Memref.whole main_arg0) T0 o h = BitVec.ofNat 32 (S.te j).val
  nx : ∀ (j : Nat) (o : Fin 1 → Nat) (h), j < 40 → o = ![j] → S.fst j → S.grp j + 1 < S.ng → rdW c (Memref.whole main_arg5) T5 o h = BitVec.ofNat 32 (S.nx j).val

theorem j_lt (t : Nat) : t % 40 < 40 := Nat.mod_lt _ (by decide)
theorem nat8 (e : Fin 8) : (BitVec.ofNat 32 e.val).toNat = e.val := by rw [BitVec.toNat_ofNat]; exact Nat.mod_eq_of_lt (lt_of_lt_of_le e.isLt (by decide))

variable (T0 : TBuf (F := F) c (Memref.whole main_arg0)) (T5 : TBuf (F := F) c (Memref.whole main_arg5))

theorem blk_coords (i : grid0.Coords) (t : Nat) (hk : (i 0).val = t / 40) : (i 0).val * S.ng + S.grp (t % 40) = S.blk t := by unfold Sched.blk; rw [hk]
theorem k_lt (i : grid0.Coords) (t : Nat) (hk : (i 0).val = t / 40) : t / 40 < 7 := by rw [← hk]; exact (i 0).isLt

section
variable (i : grid0.Coords) (t : Nat) (hk : (i 0).val = t / 40) (hj : (i 1).val = t % 40) (hW : Words c S T0 T5)
include hk hj hW
/-- The first block is begun, or is under way already. -/
theorem first_run (v7 : Elt F .i32) (hw1 h1) (Q : PUnit → sProp 𝕄) (hf : S.fst (t % 40)) :
    iprop(SLOTS c fg fu S (S.blk t) ∗ T0At c T0
        ∗ ((FLY c fg fu (Sched.sl (S.blk t)) (S.eb (S.blk t)) (kB S (S.blk t)) ∗ FREE c fg fu (Sched.sl (S.blk t + 1))) ∗ T0At c T0 -∗ Q ⟨⟩))
      ⊢ wp frame (wpE (defs₀ (F := F)) Variants.none (c : Thread nD τ) none) Set.univ
          (if h2 : k0_cond2 i (BitVec.ofNat 32 (S.grp (t % 40))) (BitVec.ofNat 32 S.ng) = 1#1 then
            begin0 (F := F) i (Memref.whole main_arg0) (Memref.whole main_arg5) (Memref.whole main_arg8) (Memref.whole main_arg9) (Memref.whole cc0_scratch0) cc0_scratch1 (BitVec.ofNat 32 (S.grp (t % 40))) (BitVec.ofNat 32 S.ng) v7 hw1 h1 h2
          else pure ⟨⟩) Q := by
  have hg := S.grp_lt (j_lt t)
  have hn := S.ng_le
  have hb := blk_coords S i t hk
  by_cases h2 : k0_cond2 i (BitVec.ofNat 32 (S.grp (t % 40))) (BitVec.ofNat 32 S.ng) = 1#1
  · have h0 : S.blk t = 0 := by rw [← hb]; exact (cond2 i hg hn).1 h2
    have hz := (S.blk_zero t).1 h0
    have he := S.eb_blk t
    have hkb : kB S (S.blk t) = i 0 := S.kb_blk 7 (by decide) t (i 0) hk.symm
    rw [dif_pos h2, he, hkb]
    rw [show Sched.sl (S.blk t) = 0 from Fin.ext (by show _ % 2 = 0; rw [h0]), show Sched.sl (S.blk t + 1) = 1 from Fin.ext (by show _ % 2 = 1; rw [h0])]
    unfold SLOTS
    rw [if_pos h0]
    iintro ⟨⟨HF, HG⟩, HT, Hk⟩
    iapply (begin0_run c fg fu i _ _ v7 hw1 h1 h2 0 (S.te (t % 40)) (i 0) T0
      (by rw [off3 i hg hn, hb, h0]; rfl) (by rw [off6 i hg hn, hb, h0]; rfl) (by rw [off4 i hg hn, hb, h0]; rfl) (by rw [off7 i hg hn, hb, h0]; rfl)
      (by rw [hW.te (t % 40) _ _ (j_lt t) (by rw [off2, hj]), off5, nat8]) Q)
    isplitl [HF]; · iexact HF
    isplitl [HT]; · iexact HT
    iintro ⟨HF, HT⟩
    iapply Hk
    isplitr [HT]
    · isplitl [HF]; · iexact HF
      iexact HG
    iexact HT
  · have h0 : S.blk t ≠ 0 := fun h => h2 ((cond2 i hg hn).2 (by rw [hb]; exact h))
    rw [dif_neg h2]
    iintro ⟨HS, HT, Hk⟩
    rw [wp_pure]
    imodintro
    iapply Hk
    isplitr [HT]
    · iapply (slots_start c fg fu S (S.blk t) h0 (S.blk_lt 7 t (k_lt i t hk))); iexact HS
    iexact HT

/-- This point's block is waited for. -/
theorem wait_step (v7 : Elt F .i32) (hw1 h1) (W : Waits sig Unit) (Q : PUnit → sProp 𝕄) :
    iprop(FLY c fg fu (Sched.sl (S.blk t)) (S.eb (S.blk t)) (kB S (S.blk t)) ∗ owes (c : Thread nD τ) 0 W ∗ T0At c T0
        ∗ (KEPT c fg fu (Sched.sl (S.blk t)) (S.eb (S.blk t)) (kB S (S.blk t)) ∗ (∃ W, owes (c : Thread nD τ) 0 W) ∗ T0At c T0 -∗ Q ⟨⟩))
      ⊢ wp frame (wpE (defs₀ (F := F)) Variants.none (c : Thread nD τ) none) Set.univ
          (waitB (F := F) i (Memref.whole main_arg0) (Memref.whole main_arg5) (Memref.whole main_arg8) (Memref.whole main_arg9) (Memref.whole cc0_scratch0) cc0_scratch1 (BitVec.ofNat 32 (S.grp (t % 40))) (BitVec.ofNat 32 S.ng) v7 hw1 h1) Q := by
  have hg := S.grp_lt (j_lt t)
  have hn := S.ng_le
  have hb := blk_coords S i t hk
  have he := S.eb_blk t
  have hkb : kB S (S.blk t) = i 0 := S.kb_blk 7 (by decide) t (i 0) hk.symm
  rw [he, hkb]
  exact waitB_run c fg fu i _ _ v7 hw1 h1 (Sched.sl (S.blk t)) (S.te (t % 40)) (i 0) T0
      (by rw [off9 i hg hn, hb]; rfl) (by rw [off12 i hg hn, hb]; rfl) (by rw [off10 i hg hn, hb]; rfl) (by rw [off13 i hg hn, hb]; rfl)
      (by rw [hW.te (t % 40) _ _ (j_lt t) (by rw [off8, hj]), off11, nat8]) W Q

/-- The next block is begun, the next group's or the next column's first, if there is one. -/
theorem next_run (v7 : Elt F .i32) (hw1 h1) (Q : PUnit → sProp 𝕄) (hf : S.fst (t % 40)) :
    iprop(FREE c fg fu (Sched.sl (S.blk t + 1)) ∗ T0At c T0 ∗ T5At c T5
        ∗ ((if S.blk t + 1 < 7 * S.ng then FLY c fg fu (Sched.sl (S.blk t + 1)) (S.eb (S.blk t + 1)) (kB S (S.blk t + 1)) else FREE c fg fu (Sched.sl (S.blk t + 1))) ∗ T0At c T0 ∗ T5At c T5 -∗ Q ⟨⟩))
      ⊢ wp frame (wpE (defs₀ (F := F)) Variants.none (c : Thread nD τ) none) Set.univ
          (nextP (F := F) i (Memref.whole main_arg0) (Memref.whole main_arg5) (Memref.whole main_arg8) (Memref.whole main_arg9) (Memref.whole cc0_scratch0) cc0_scratch1 (BitVec.ofNat 32 (S.grp (t % 40))) (BitVec.ofNat 32 S.ng) v7 hw1 h1) Q := by
  have hg := S.grp_lt (j_lt t)
  have hn := S.ng_le
  have hb := blk_coords S i t hk
  have hkl := k_lt i t hk
  unfold nextP
  rw [wp_bind]
  by_cases h3 : S.grp (t % 40) + 1 < S.ng
  · have h4 : ¬k0_cond4 i (BitVec.ofNat 32 (S.grp (t % 40))) (BitVec.ofNat 32 S.ng) = 1#1 := fun h => ((cond4 i hg hn).1 h).1 h3
    have hkb : kB S (S.blk t + 1) = i 0 := S.kb_next 7 (by decide) t (i 0) hk.symm h3
    rw [dif_pos ((cond3 hg hn).2 h3), if_pos (S.next_lt 7 t hkl h3), S.eb_next t hf h3, hkb]
    iintro ⟨HF, HT, HN, Hk⟩
    iapply (beginN_run c fg fu i _ _ v7 hw1 h1 _ (Sched.sl (S.blk t + 1)) (S.nx (t % 40)) (i 0) T5
      (by rw [off15 i hg hn, hb]; rfl) (by rw [off18 i hg hn, hb]; rfl) (by rw [off16 i hg hn, hb]; rfl) (by rw [off19 i hg hn, hb]; rfl)
      (by rw [hW.nx (t % 40) _ _ (j_lt t) (by rw [off14, hj]) hf h3, off17, nat8]) _)
    isplitl [HF]; · iexact HF
    isplitl [HN]; · iexact HN
    iintro ⟨HF, HN⟩
    rw [dif_neg h4, wp_pure]
    imodintro
    iapply Hk
    isplitl [HF]; · iexact HF
    isplitl [HT]; · iexact HT
    iexact HN
  · rw [dif_neg (fun h => h3 ((cond3 hg hn).1 h)), wp_pure]
    by_cases h4 : t / 40 + 1 < 7
    · have h4' : k0_cond4 i (BitVec.ofNat 32 (S.grp (t % 40))) (BitVec.ofNat 32 S.ng) = 1#1 := (cond4 i hg hn).2 ⟨h3, by rw [hk]; exact h4⟩
      have hkb : kB S (S.blk t + 1) = ⟨t / 40 + 1, h4⟩ := S.kb_last 7 (by decide) t ⟨t / 40 + 1, h4⟩ rfl h3
      rw [dif_pos h4', if_pos (S.last_lt 7 t h4 h3), S.eb_last t h3, hkb]
      iintro ⟨HF, HT, HN, Hk⟩
      imodintro
      iapply (beginC_run c fg fu i _ _ v7 hw1 h1 h4' (Sched.sl (S.blk t + 1)) (S.te 0) ⟨t / 40 + 1, h4⟩ T0
        (by rw [off20 i hg hn, hb]; rfl) (by rw [off23 i hg hn, hb]; rfl) (by rw [off21 i hg hn, hb]; rfl) (by rw [off24 i hg hn, hb]; rfl)
        (by rw [hW.te 0 _ _ (by decide) rfl, off22, nat8, hk]) Q)
      isplitl [HF]; · iexact HF
      isplitl [HT]; · iexact HT
      iintro ⟨HF, HT⟩
      iapply Hk
      isplitl [HF]; · iexact HF
      isplitl [HT]; · iexact HT
      iexact HN
    · have h4' : ¬k0_cond4 i (BitVec.ofNat 32 (S.grp (t % 40))) (BitVec.ofNat 32 S.ng) = 1#1 := fun h => h4 (by have := ((cond4 i hg hn).1 h).2; rwa [hk] at this)
      rw [dif_neg h4', wp_pure, if_neg (by rw [S.end_eq 7 t (by omega) h3]; exact lt_irrefl _)]
      iintro ⟨HF, HT, HN, Hk⟩
      imodintro
      imodintro
      iapply Hk
      isplitl [HF]; · iexact HF
      isplitl [HT]; · iexact HT
      iexact HN

/-- A point's part of the stream: the blocks waited for go from `done t` to `done (t + 1)`. -/
theorem stream_run (v7 : Elt F .i32) (h7 : v7 = 1#32 ↔ S.fst (t % 40)) (hw1) (W : Waits sig Unit) (Q : PUnit → sProp 𝕄) :
    iprop(SLOTS c fg fu S (S.done t) ∗ owes (c : Thread nD τ) 0 W ∗ T0At c T0 ∗ T5At c T5
        ∗ (SLOTS c fg fu S (S.blk t + 1) ∗ (∃ W, owes (c : Thread nD τ) 0 W) ∗ T0At c T0 ∗ T5At c T5 -∗ Q ⟨⟩))
      ⊢ wp frame (wpE (defs₀ (F := F)) Variants.none (c : Thread nD τ) none) Set.univ
          (streamP (F := F) i (Memref.whole main_arg0) (Memref.whole main_arg5) (Memref.whole main_arg8) (Memref.whole main_arg9) (Memref.whole cc0_scratch0) cc0_scratch1 (BitVec.ofNat 32 (S.grp (t % 40))) (BitVec.ofNat 32 S.ng) v7 hw1) Q := by
  rw [stream_eq']
  by_cases hf : S.fst (t % 40)
  · have h1 : k0_cond1 v7 = 1#1 := (cond1 v7).2 (h7.2 hf)
    rw [dif_pos h1, S.done_fst t hf, wp_bind]
    iintro ⟨HS, HO, HT, HN, Hk⟩
    iapply (first_run c fg fu S T0 T5 i t hk hj hW v7 hw1 h1 _ hf)
    isplitl [HS]; · iexact HS
    isplitl [HT]; · iexact HT
    iintro ⟨⟨HF, HG⟩, HT⟩
    rw [wp_bind]
    iapply (wait_step c fg fu S T0 T5 i t hk hj hW v7 hw1 h1 W _)
    isplitl [HF]; · iexact HF
    isplitl [HO]; · iexact HO
    isplitl [HT]; · iexact HT
    iintro ⟨HK, HO, HT⟩
    iapply (next_run c fg fu S T0 T5 i t hk hj hW v7 hw1 h1 _ hf)
    isplitl [HG]; · iexact HG
    isplitl [HT]; · iexact HT
    isplitl [HN]; · iexact HN
    iintro ⟨HF, HT, HN⟩
    iapply Hk
    isplitl [HK HF]
    · unfold SLOTS
      rw [if_neg (Nat.succ_ne_zero _), Nat.add_sub_cancel]
      isplitl [HK]; · iexact HK
      iexact HF
    isplitl [HO]; · iexact HO
    isplitl [HT]; · iexact HT
    iexact HN
  · have h1 : ¬k0_cond1 v7 = 1#1 := fun h => hf (h7.1 ((cond1 v7).1 h))
    rw [dif_neg h1, S.done_not t hf, wp_pure]
    iintro ⟨HS, HO, HT, HN, Hk⟩
    imodintro
    iapply Hk
    isplitl [HS]; · iexact HS
    isplitl [HO]; · iexists _; iexact HO
    isplitl [HT]; · iexact HT
    iexact HN
end

end Cert.MoeUpIdeal.Hand

end
-- ==== Proof.UpICompute.lean ====
/- One point's products, over the block its slot holds, and the whole of a point's body. -/
module

public import proofs.«01_k».proof.Proof.UpIStream
public import Idealize.ShloMosaic.Lib.WritesUnit

@[expose] public section

set_option synthInstance.maxSize 4096

noncomputable section

namespace Cert.MoeUpIdeal.Hand

open Cert.MoeUpIdeal Cert.MoeUpIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- Two boxes of one size that read the same once their unit axes are dropped read the same. -/
theorem readAt_of_squeeze {κ κ' : Kind} {sp sp' : Space} {e : EltTy} {d d' size : Fin 4 → Nat} (M : Memref sig κ sp ⟨4, d⟩ e) (M' : Memref sig κ' sp' ⟨4, d'⟩ e)
    (o o' : Fin 4 → Nat) (inb : ∀ a, o a + size a ≤ d a) (inb' : ∀ a, o' a + size a ≤ d' a) {sh : Shape} (hq : (⟨4, size⟩ : Shape).Squeezes sh) (f) (f')
    (h : ((M.slice (Rect.unit (s := ⟨4, d⟩) o size inb) (fun _ => rfl)).squeeze sh hq).view.read (Elt F) f = ((M'.slice (Rect.unit (s := ⟨4, d'⟩) o' size inb') (fun _ => rfl)).squeeze sh hq).view.read (Elt F) f') :
    View.readAt (Elt F) M.view (Rect.unit (s := ⟨4, d⟩) o size inb) f = View.readAt (Elt F) M'.view (Rect.unit (s := ⟨4, d'⟩) o' size inb') f' := by
  funext x
  have e : ∀ x, Shape.reshapeEquiv hq.numel_eq ((Shape.reshapeEquiv hq.numel_eq).symm x) = x := fun x => Equiv.apply_symm_apply _ x
  have := congrFun h ((Shape.reshapeEquiv hq.numel_eq).symm x)
  rw [← e x]
  exact this

variable (c : Dev nD) (fg : WBuf (F := F) c) (fu : UBuf (F := F) c)

/-- Expert `e`'s column block `k` of the first weights as a load of it reads it, and of the second. -/
def gW (e : Fin 8) (k : Fin 7) : Vec F S1x1x2048x1024 .f32 :=
  View.readAt (Elt F) (Memref.whole main_arg8 : Memref sig .tc .hbm S1x8x2048x7168 .f32).view (Rect.unit (s := S1x8x2048x7168) ![0, e.val, 0, 1024 * k.val] S1x1x2048x1024.size (inbW e k)) fg
def uW (e : Fin 8) (k : Fin 7) : Vec F S1x1x2048x1024 .f32 :=
  View.readAt (Elt F) (Memref.whole main_arg9 : Memref sig .tc .hbm S1x8x2048x7168 .f32).view (Rect.unit (s := S1x8x2048x7168) ![0, e.val, 0, 1024 * k.val] S1x1x2048x1024.size (inbW e k)) fu

theorem landG_read (s : Fin 2) (e : Fin 8) (k : Fin 7) (f0) :
    View.readAt (Elt F) (Memref.whole cc0_scratch0 : Memref sig .tc .vmem S2x2x2048x1024 .f32).view (Rect.unit (s := S2x2x2048x1024) ![s.val, 0, 0, 0] S1x1x2048x1024.size (inbS s 0)).toLoadRect (landG c fg s e k f0) = gW c fg e k := by
  refine readAt_of_squeeze (Memref.whole cc0_scratch0 : Memref sig .tc .vmem S2x2x2048x1024 .f32) (Memref.whole main_arg8 : Memref sig .tc .hbm S1x8x2048x7168 .f32) _ _ _ _ squeezes_S1x1x2048x1024_S2048x1024 _ _ ?_
  exact View.read_writes_whole (slotM s 0).view f0 ((srcG e k).view.read (Elt F) fg)

theorem landU_read (s : Fin 2) (e : Fin 8) (k : Fin 7) (f0) :
    View.readAt (Elt F) (Memref.whole cc0_scratch0 : Memref sig .tc .vmem S2x2x2048x1024 .f32).view (Rect.unit (s := S2x2x2048x1024) ![s.val, 1, 0, 0] S1x1x2048x1024.size (inbS s 1)).toLoadRect (landU c fu s e k f0) = uW c fu e k := by
  refine readAt_of_squeeze (Memref.whole cc0_scratch0 : Memref sig .tc .vmem S2x2x2048x1024 .f32) (Memref.whole main_arg9 : Memref sig .tc .hbm S1x8x2048x7168 .f32) _ _ _ _ squeezes_S1x1x2048x1024_S2048x1024 _ _ ?_
  exact View.read_writes_whole (slotM s 1).view f0 ((srcU e k).view.read (Elt F) fu)

/-- The rows of the point's row block the case multiplies. -/
def top128 (A : Vec F S512x2048 .bf16) : Vec F S128x2048 .bf16 := View.ld A (Rect.unit (s := S512x2048) ![0, 0] S128x2048.size inb_S512x2048_S128x2048_0_0)
/-- The output block where 128 rows are counted. -/
def out128 (A : Vec F S512x2048 .bf16) (g u : Vec F S1x1x2048x1024 .f32) : Vec F S512x1024 .bf16 := fun y =>
  if h : 0 ≤ (y (0 : Fin 2)).val ∧ (y (0 : Fin 2)).val < 0 + 128 then k0_pay2 (F := F) (top128 A) g u (Rect.unitLocal (s := S512x1024) (off := ![0, 0]) (size := S128x1024.size) y (Rect.unit_rows_mem y rfl rfl h)) else k0_pay1 (F := F) y

/-- The rows of the point's row block the case multiplies. -/
def top256 (A : Vec F S512x2048 .bf16) : Vec F S256x2048 .bf16 := View.ld A (Rect.unit (s := S512x2048) ![0, 0] S256x2048.size inb_S512x2048_S256x2048_0_0)
/-- The output block where 256 rows are counted. -/
def out256 (A : Vec F S512x2048 .bf16) (g u : Vec F S1x1x2048x1024 .f32) : Vec F S512x1024 .bf16 := fun y =>
  if h : 0 ≤ (y (0 : Fin 2)).val ∧ (y (0 : Fin 2)).val < 0 + 256 then k0_pay4 (F := F) (top256 A) g u (Rect.unitLocal (s := S512x1024) (off := ![0, 0]) (size := S256x1024.size) y (Rect.unit_rows_mem y rfl rfl h)) else k0_pay1 (F := F) y

/-- The rows of the point's row block the case multiplies. -/
def top384 (A : Vec F S512x2048 .bf16) : Vec F S384x2048 .bf16 := View.ld A (Rect.unit (s := S512x2048) ![0, 0] S384x2048.size inb_S512x2048_S384x2048_0_0)
/-- The output block where 384 rows are counted. -/
def out384 (A : Vec F S512x2048 .bf16) (g u : Vec F S1x1x2048x1024 .f32) : Vec F S512x1024 .bf16 := fun y =>
  if h : 0 ≤ (y (0 : Fin 2)).val ∧ (y (0 : Fin 2)).val < 0 + 384 then k0_pay6 (F := F) (top384 A) g u (Rect.unitLocal (s := S512x1024) (off := ![0, 0]) (size := S384x1024.size) y (Rect.unit_rows_mem y rfl rfl h)) else k0_pay1 (F := F) y

/-- The rows of the point's row block the case multiplies. -/
def top512 (A : Vec F S512x2048 .bf16) : Vec F S512x2048 .bf16 := View.ld A (Rect.unit (s := S512x2048) ![0, 0] S512x2048.size inb_S512x2048_S512x2048_0_0)
/-- The output block where 512 rows are counted. -/
def out512 (A : Vec F S512x2048 .bf16) (g u : Vec F S1x1x2048x1024 .f32) : Vec F S512x1024 .bf16 := fun y =>
  if h : 0 ≤ (y (0 : Fin 2)).val ∧ (y (0 : Fin 2)).val < 0 + 512 then k0_pay8 (F := F) (top512 A) g u (Rect.unitLocal (s := S512x1024) (off := ![0, 0]) (size := S512x1024.size) y (Rect.unit_rows_mem y rfl rfl h)) else k0_pay1 (F := F) y

variable (s : Fin 2) (arg9 : Memref sig .tc .vmem S512x2048 .bf16) (harg9 : arg9.IsWhole) (arg12 : Memref sig .tc .vmem S512x1024 .bf16) (harg12 : arg12.IsWhole)

theorem writes128 (fo : Buf (Elt F) (arg12.view.loc (c : Thread nD τ))) (A : Vec F S512x2048 .bf16) (g u : Vec F S1x1x2048x1024 .f32) :
    arg12.view.read (Elt F) (arg12.view.writes (Elt F) fo [⟨Rect.unit (s := S512x1024) ![128, 0] S384x1024.size inb_S512x1024_S384x1024_128_0, k0_pay3 (F := F)⟩, ⟨Rect.unit (s := S512x1024) ![0, 0] S128x1024.size inb_S512x1024_S128x1024_0_0, k0_pay2 (F := F) (top128 A) g u⟩]) = out128 (F := F) A g u := by
  funext y
  unfold out128
  by_cases h : 128 ≤ (y (0 : Fin 2)).val
  · rw [dif_neg (by omega)]
    rw [View.read_writes_cons_rows (size := S384x1024.size) (o := 128) (W := 384) _ _ _ _ _ y rfl rfl rfl, dif_pos ⟨h, by have : (y (0 : Fin 2)).val < 512 := (y 0).isLt; omega⟩]
    rfl
  · rw [dif_pos (by omega)]
    rw [View.read_writes_cons_rows_of_not_mem (size := S384x1024.size) (o := 128) (W := 384) _ _ _ _ _ y rfl rfl (by omega)]
    rw [View.read_writes_cons_rows (size := S128x1024.size) (o := 0) (W := 128) _ _ _ _ _ y rfl rfl rfl, dif_pos (by omega)]

include harg9 in
theorem case5_run (f0 : Buf (Elt F) ((slotM s 0).view.loc (c : Thread nD τ))) (f1 : Buf (Elt F) ((slotM s 1).view.loc (c : Thread nD τ))) (oG oU : Fin 4 → Nat) (eG : oG = ![s.val, 0, 0, 0]) (eU : oU = ![s.val, 1, 0, 0]) (hG hU)
    (fa : Buf (Elt F) (arg9.view.loc (c : Thread nD τ))) (fo : Buf (Elt F) (arg12.view.loc (c : Thread nD τ))) (Q : PUnit → sProp 𝕄) :
    iprop(slotPt c s 0 f0 ∗ slotPt c s 1 f1 ∗ (arg9.view.loc (c : Thread nD τ) ↦[arg9.view.set]{fullShare} fa) ∗ (arg12.view.loc (c : Thread nD τ) ↦[arg12.view.set]{fullShare} fo)
        ∗ (slotPt c s 0 f0 ∗ slotPt c s 1 f1 ∗ (arg9.view.loc (c : Thread nD τ) ↦[arg9.view.set]{fullShare} fa)
          ∗ owns (Val := Elt F) (c : Thread nD τ) arg12 fullShare (out128 (F := F) (arg9.view.read (Elt F) fa)
              (View.readAt (Elt F) (Memref.whole cc0_scratch0 : Memref sig .tc .vmem S2x2x2048x1024 .f32).view (Rect.unit (s := S2x2x2048x1024) ![s.val, 0, 0, 0] S1x1x2048x1024.size (inbS s 0)).toLoadRect f0)
              (View.readAt (Elt F) (Memref.whole cc0_scratch0 : Memref sig .tc .vmem S2x2x2048x1024 .f32).view (Rect.unit (s := S2x2x2048x1024) ![s.val, 1, 0, 0] S1x1x2048x1024.size (inbS s 1)).toLoadRect f1)) -∗ Q ⟨⟩))
      ⊢ wp frame (wpE (defs₀ (F := F)) Variants.none (c : Thread nD τ) none) Set.univ
          (case5 (F := F) arg9 arg12 harg12 (Memref.whole cc0_scratch0) oG oU hG hU) Q := by
  subst eG; subst eU
  unfold case5
  iintro ⟨Hs0, Hs1, Ha, Ho, Hk⟩
  sl_exec
  sl_step
  iapply Hk
  isplitl [Hs0]; · iexact Hs0
  isplitl [Hs1]; · iexact Hs1
  isplitl [Ha]; · iexact Ha
  unfold owns
  iexists _
  isplitr
  swap
  · iexact Ho
  ipureintro
  exact writes128 c arg12 fo (arg9.view.read (Elt F) fa) _ _

theorem writes256 (fo : Buf (Elt F) (arg12.view.loc (c : Thread nD τ))) (A : Vec F S512x2048 .bf16) (g u : Vec F S1x1x2048x1024 .f32) :
    arg12.view.read (Elt F) (arg12.view.writes (Elt F) fo [⟨Rect.unit (s := S512x1024) ![256, 0] S256x1024.size inb_S512x1024_S256x1024_256_0, k0_pay5 (F := F)⟩, ⟨Rect.unit (s := S512x1024) ![0, 0] S256x1024.size inb_S512x1024_S256x1024_0_0, k0_pay4 (F := F) (top256 A) g u⟩]) = out256 (F := F) A g u := by
  funext y
  unfold out256
  by_cases h : 256 ≤ (y (0 : Fin 2)).val
  · rw [dif_neg (by omega)]
    rw [View.read_writes_cons_rows (size := S256x1024.size) (o := 256) (W := 256) _ _ _ _ _ y rfl rfl rfl, dif_pos ⟨h, by have : (y (0 : Fin 2)).val < 512 := (y 0).isLt; omega⟩]
    rfl
  · rw [dif_pos (by omega)]
    rw [View.read_writes_cons_rows_of_not_mem (size := S256x1024.size) (o := 256) (W := 256) _ _ _ _ _ y rfl rfl (by omega)]
    rw [View.read_writes_cons_rows (size := S256x1024.size) (o := 0) (W := 256) _ _ _ _ _ y rfl rfl rfl, dif_pos (by omega)]

include harg9 in
theorem case6_run (f0 : Buf (Elt F) ((slotM s 0).view.loc (c : Thread nD τ))) (f1 : Buf (Elt F) ((slotM s 1).view.loc (c : Thread nD τ))) (oG oU : Fin 4 → Nat) (eG : oG = ![s.val, 0, 0, 0]) (eU : oU = ![s.val, 1, 0, 0]) (hG hU)
    (fa : Buf (Elt F) (arg9.view.loc (c : Thread nD τ))) (fo : Buf (Elt F) (arg12.view.loc (c : Thread nD τ))) (Q : PUnit → sProp 𝕄) :
    iprop(slotPt c s 0 f0 ∗ slotPt c s 1 f1 ∗ (arg9.view.loc (c : Thread nD τ) ↦[arg9.view.set]{fullShare} fa) ∗ (arg12.view.loc (c : Thread nD τ) ↦[arg12.view.set]{fullShare} fo)
        ∗ (slotPt c s 0 f0 ∗ slotPt c s 1 f1 ∗ (arg9.view.loc (c : Thread nD τ) ↦[arg9.view.set]{fullShare} fa)
          ∗ owns (Val := Elt F) (c : Thread nD τ) arg12 fullShare (out256 (F := F) (arg9.view.read (Elt F) fa)
              (View.readAt (Elt F) (Memref.whole cc0_scratch0 : Memref sig .tc .vmem S2x2x2048x1024 .f32).view (Rect.unit (s := S2x2x2048x1024) ![s.val, 0, 0, 0] S1x1x2048x1024.size (inbS s 0)).toLoadRect f0)
              (View.readAt (Elt F) (Memref.whole cc0_scratch0 : Memref sig .tc .vmem S2x2x2048x1024 .f32).view (Rect.unit (s := S2x2x2048x1024) ![s.val, 1, 0, 0] S1x1x2048x1024.size (inbS s 1)).toLoadRect f1)) -∗ Q ⟨⟩))
      ⊢ wp frame (wpE (defs₀ (F := F)) Variants.none (c : Thread nD τ) none) Set.univ
          (case6 (F := F) arg9 arg12 harg12 (Memref.whole cc0_scratch0) oG oU hG hU) Q := by
  subst eG; subst eU
  unfold case6
  iintro ⟨Hs0, Hs1, Ha, Ho, Hk⟩
  sl_exec
  sl_step
  iapply Hk
  isplitl [Hs0]; · iexact Hs0
  isplitl [Hs1]; · iexact Hs1
  isplitl [Ha]; · iexact Ha
  unfold owns
  iexists _
  isplitr
  swap
  · iexact Ho
  ipureintro
  exact writes256 c arg12 fo (arg9.view.read (Elt F) fa) _ _

theorem writes384 (fo : Buf (Elt F) (arg12.view.loc (c : Thread nD τ))) (A : Vec F S512x2048 .bf16) (g u : Vec F S1x1x2048x1024 .f32) :
    arg12.view.read (Elt F) (arg12.view.writes (Elt F) fo [⟨Rect.unit (s := S512x1024) ![384, 0] S128x1024.size inb_S512x1024_S128x1024_384_0, k0_pay7 (F := F)⟩, ⟨Rect.unit (s := S512x1024) ![0, 0] S384x1024.size inb_S512x1024_S384x1024_0_0, k0_pay6 (F := F) (top384 A) g u⟩]) = out384 (F := F) A g u := by
  funext y
  unfold out384
  by_cases h : 384 ≤ (y (0 : Fin 2)).val
  · rw [dif_neg (by omega)]
    rw [View.read_writes_cons_rows (size := S128x1024.size) (o := 384) (W := 128) _ _ _ _ _ y rfl rfl rfl, dif_pos ⟨h, by have : (y (0 : Fin 2)).val < 512 := (y 0).isLt; omega⟩]
    rfl
  · rw [dif_pos (by omega)]
    rw [View.read_writes_cons_rows_of_not_mem (size := S128x1024.size) (o := 384) (W := 128) _ _ _ _ _ y rfl rfl (by omega)]
    rw [View.read_writes_cons_rows (size := S384x1024.size) (o := 0) (W := 384) _ _ _ _ _ y rfl rfl rfl, dif_pos (by omega)]

include harg9 in
theorem case7_run (f0 : Buf (Elt F) ((slotM s 0).view.loc (c : Thread nD τ))) (f1 : Buf (Elt F) ((slotM s 1).view.loc (c : Thread nD τ))) (oG oU : Fin 4 → Nat) (eG : oG = ![s.val, 0, 0, 0]) (eU : oU = ![s.val, 1, 0, 0]) (hG hU)
    (fa : Buf (Elt F) (arg9.view.loc (c : Thread nD τ))) (fo : Buf (Elt F) (arg12.view.loc (c : Thread nD τ))) (Q : PUnit → sProp 𝕄) :
    iprop(slotPt c s 0 f0 ∗ slotPt c s 1 f1 ∗ (arg9.view.loc (c : Thread nD τ) ↦[arg9.view.set]{fullShare} fa) ∗ (arg12.view.loc (c : Thread nD τ) ↦[arg12.view.set]{fullShare} fo)
        ∗ (slotPt c s 0 f0 ∗ slotPt c s 1 f1 ∗ (arg9.view.loc (c : Thread nD τ) ↦[arg9.view.set]{fullShare} fa)
          ∗ owns (Val := Elt F) (c : Thread nD τ) arg12 fullShare (out384 (F := F) (arg9.view.read (Elt F) fa)
              (View.readAt (Elt F) (Memref.whole cc0_scratch0 : Memref sig .tc .vmem S2x2x2048x1024 .f32).view (Rect.unit (s := S2x2x2048x1024) ![s.val, 0, 0, 0] S1x1x2048x1024.size (inbS s 0)).toLoadRect f0)
              (View.readAt (Elt F) (Memref.whole cc0_scratch0 : Memref sig .tc .vmem S2x2x2048x1024 .f32).view (Rect.unit (s := S2x2x2048x1024) ![s.val, 1, 0, 0] S1x1x2048x1024.size (inbS s 1)).toLoadRect f1)) -∗ Q ⟨⟩))
      ⊢ wp frame (wpE (defs₀ (F := F)) Variants.none (c : Thread nD τ) none) Set.univ
          (case7 (F := F) arg9 arg12 harg12 (Memref.whole cc0_scratch0) oG oU hG hU) Q := by
  subst eG; subst eU
  unfold case7
  iintro ⟨Hs0, Hs1, Ha, Ho, Hk⟩
  sl_exec
  sl_step
  iapply Hk
  isplitl [Hs0]; · iexact Hs0
  isplitl [Hs1]; · iexact Hs1
  isplitl [Ha]; · iexact Ha
  unfold owns
  iexists _
  isplitr
  swap
  · iexact Ho
  ipureintro
  exact writes384 c arg12 fo (arg9.view.read (Elt F) fa) _ _

theorem writes512 (fo : Buf (Elt F) (arg12.view.loc (c : Thread nD τ))) (A : Vec F S512x2048 .bf16) (g u : Vec F S1x1x2048x1024 .f32) :
    arg12.view.read (Elt F) (arg12.view.writes (Elt F) fo [⟨Rect.unit (s := S512x1024) ![0, 0] S512x1024.size inb_S512x1024_S512x1024_0_0, k0_pay8 (F := F) (top512 A) g u⟩]) = out512 (F := F) A g u := by
  funext y
  unfold out512
  have : (y (0 : Fin 2)).val < 512 := (y 0).isLt
  rw [dif_pos (by omega)]
  rw [View.read_writes_cons_rows (size := S512x1024.size) (o := 0) (W := 512) _ _ _ _ _ y rfl rfl rfl, dif_pos (by omega)]

include harg9 in
theorem case8_run (f0 : Buf (Elt F) ((slotM s 0).view.loc (c : Thread nD τ))) (f1 : Buf (Elt F) ((slotM s 1).view.loc (c : Thread nD τ))) (oG oU : Fin 4 → Nat) (eG : oG = ![s.val, 0, 0, 0]) (eU : oU = ![s.val, 1, 0, 0]) (hG hU)
    (fa : Buf (Elt F) (arg9.view.loc (c : Thread nD τ))) (fo : Buf (Elt F) (arg12.view.loc (c : Thread nD τ))) (Q : PUnit → sProp 𝕄) :
    iprop(slotPt c s 0 f0 ∗ slotPt c s 1 f1 ∗ (arg9.view.loc (c : Thread nD τ) ↦[arg9.view.set]{fullShare} fa) ∗ (arg12.view.loc (c : Thread nD τ) ↦[arg12.view.set]{fullShare} fo)
        ∗ (slotPt c s 0 f0 ∗ slotPt c s 1 f1 ∗ (arg9.view.loc (c : Thread nD τ) ↦[arg9.view.set]{fullShare} fa)
          ∗ owns (Val := Elt F) (c : Thread nD τ) arg12 fullShare (out512 (F := F) (arg9.view.read (Elt F) fa)
              (View.readAt (Elt F) (Memref.whole cc0_scratch0 : Memref sig .tc .vmem S2x2x2048x1024 .f32).view (Rect.unit (s := S2x2x2048x1024) ![s.val, 0, 0, 0] S1x1x2048x1024.size (inbS s 0)).toLoadRect f0)
              (View.readAt (Elt F) (Memref.whole cc0_scratch0 : Memref sig .tc .vmem S2x2x2048x1024 .f32).view (Rect.unit (s := S2x2x2048x1024) ![s.val, 1, 0, 0] S1x1x2048x1024.size (inbS s 1)).toLoadRect f1)) -∗ Q ⟨⟩))
      ⊢ wp frame (wpE (defs₀ (F := F)) Variants.none (c : Thread nD τ) none) Set.univ
          (case8 (F := F) arg9 arg12 harg12 (Memref.whole cc0_scratch0) oG oU hG hU) Q := by
  subst eG; subst eU
  unfold case8
  iintro ⟨Hs0, Hs1, Ha, Ho, Hk⟩
  sl_exec
  sl_step
  iapply Hk
  isplitl [Hs0]; · iexact Hs0
  isplitl [Hs1]; · iexact Hs1
  isplitl [Ha]; · iexact Ha
  unfold owns
  iexists _
  isplitr
  swap
  · iexact Ho
  ipureintro
  exact writes512 c arg12 fo (arg9.view.read (Elt F) fa) _ _

theorem case9_run (fo : Buf (Elt F) (arg12.view.loc (c : Thread nD τ))) (Q : PUnit → sProp 𝕄) :
    iprop((arg12.view.loc (c : Thread nD τ) ↦[arg12.view.set]{fullShare} fo)
        ∗ (owns (Val := Elt F) (c : Thread nD τ) arg12 fullShare (k0_pay1 (F := F)) -∗ Q ⟨⟩))
      ⊢ wp frame (wpE (defs₀ (F := F)) Variants.none (c : Thread nD τ) none) Set.univ
          (case9 (F := F) arg12 harg12) Q := by
  unfold case9
  iintro ⟨Ho, Hk⟩
  sl_exec
  sl_step
  iapply Hk
  unfold owns
  iexists _
  isplitr
  swap
  · iexact Ho
  ipureintro
  funext y
  have : (y (0 : Fin 2)).val < 512 := (y 0).isLt
  rw [View.read_writes_cons_rows (size := S512x1024.size) (o := 0) (W := 512) _ _ _ _ _ y rfl rfl rfl, dif_pos (by omega)]
  rfl

/-- The output block of a point whose tile counts `n` rows. -/
def outB (n : Nat) (A : Vec F S512x2048 .bf16) (g u : Vec F S1x1x2048x1024 .f32) : Vec F S512x1024 .bf16 :=
  if n = 0 then k0_pay1 (F := F) else if n ≤ 128 then out128 (F := F) A g u else if n ≤ 256 then out256 (F := F) A g u else if n ≤ 384 then out384 (F := F) A g u else out512 (F := F) A g u

theorem cond5 : ∀ n : Fin 513, (k0_cond5 (BitVec.ofNat 32 n.val) = 1#1 ↔ 0 < n.val ∧ n.val ≤ 128) := by decide +kernel
theorem cond6 : ∀ n : Fin 513, (k0_cond6 (BitVec.ofNat 32 n.val) = 1#1 ↔ 128 < n.val ∧ n.val ≤ 256) := by decide +kernel
theorem cond7 : ∀ n : Fin 513, (k0_cond7 (BitVec.ofNat 32 n.val) = 1#1 ↔ 256 < n.val ∧ n.val ≤ 384) := by decide +kernel
theorem cond8 : ∀ n : Fin 513, (k0_cond8 (BitVec.ofNat 32 n.val) = 1#1 ↔ 384 < n.val ∧ n.val ≤ 512) := by decide +kernel
theorem cond9 : ∀ n : Fin 513, (k0_cond9 (BitVec.ofNat 32 n.val) = 1#1 ↔ n.val = 0) := by decide +kernel

theorem chk6 (i : grid0.Coords) {g n : Nat} (hg : g < n) (hn : n ≤ 40) (v12 : BitVec 32) : k0_chk6 i (BitVec.ofNat 32 g) (BitVec.ofNat 32 n) v12 := by
  have s : ∀ w : Fin 2, ∀ a, (![((i 0).val * n + g) % 2, w.val, 0, 0] : Fin 4 → Nat) a + S1x1x2048x1024.size a ≤ S2x2x2048x1024.size a := fun w => inbS ⟨((i 0).val * n + g) % 2, Nat.mod_lt _ (by decide)⟩ w
  unfold k0_chk6
  rw [off26 i hg hn, off27 i hg hn, off28 i hg hn, off29 i hg hn, off30 i hg hn, off31 i hg hn, off32 i hg hn, off33 i hg hn]
  exact ⟨fun _ => s 0, fun _ => s 1, fun _ => s 0, fun _ => s 1, fun _ => s 0, fun _ => s 1, fun _ => s 0, fun _ => s 1⟩

theorem chk1 (i : grid0.Coords) {g n : Nat} (hg : g < n) (hn : n ≤ 40) (v7 : BitVec 32) : k0_chk1 i (BitVec.ofNat 32 g) (BitVec.ofNat 32 n) v7 := by
  have s : ∀ w : Fin 2, ∀ a, (![((i 0).val * n + g) % 2, w.val, 0, 0] : Fin 4 → Nat) a + S1x1x2048x1024.size a ≤ S2x2x2048x1024.size a := fun w => inbS ⟨((i 0).val * n + g) % 2, Nat.mod_lt _ (by decide)⟩ w
  have s' : ∀ w : Fin 2, ∀ a, (![((i 0).val * n + g + 1) % 2, w.val, 0, 0] : Fin 4 → Nat) a + S1x1x2048x1024.size a ≤ S2x2x2048x1024.size a := fun w => inbS ⟨((i 0).val * n + g + 1) % 2, Nat.mod_lt _ (by decide)⟩ w
  have d : ∀ w : Fin 2, ∀ a, (![((i 0).val * n + g) % 2, w.val] : Fin 2 → Nat) a + S1x1.size a ≤ S2x2.size a := fun w => inbC ⟨((i 0).val * n + g) % 2, Nat.mod_lt _ (by decide)⟩ w
  have d' : ∀ w : Fin 2, ∀ a, (![((i 0).val * n + g + 1) % 2, w.val] : Fin 2 → Nat) a + S1x1.size a ≤ S2x2.size a := fun w => inbC ⟨((i 0).val * n + g + 1) % 2, Nat.mod_lt _ (by decide)⟩ w
  unfold k0_chk1
  rw [off3 i hg hn, off4 i hg hn, off6 i hg hn, off7 i hg hn, off9 i hg hn, off10 i hg hn, off12 i hg hn, off13 i hg hn, off15 i hg hn, off16 i hg hn, off18 i hg hn, off19 i hg hn, off20 i hg hn, off21 i hg hn, off23 i hg hn, off24 i hg hn]
  exact ⟨fun _ _ => d 0, fun _ _ => s 0, fun _ _ => d 1, fun _ _ => s 1, fun _ => d 0, fun _ => s 0, fun _ => d 1, fun _ => s 1,
    fun _ _ => d' 0, fun _ _ => s' 0, fun _ _ => d' 1, fun _ _ => s' 1, fun _ _ => d' 0, fun _ _ => s' 0, fun _ _ => d' 1, fun _ _ => s' 1⟩

include harg9 in
/-- A point's products: from the slot that holds its block, its rows and any output buffer, to the output block. -/
theorem compute_run (s : Fin 2) (e : Fin 8) (k : Fin 7) (i : grid0.Coords) {g n : Nat} (hg : g < n) (hn : n ≤ 40) (hs : ((i 0).val * n + g) % 2 = s.val) (v : Fin 513) (v12 : Elt F .i32) (hv12 : v12 = BitVec.ofNat 32 v.val) (hw)
    (fa : Buf (Elt F) (arg9.view.loc (c : Thread nD τ))) (fo : Buf (Elt F) (arg12.view.loc (c : Thread nD τ))) (Q : PUnit → sProp 𝕄) :
    iprop(KEPT c fg fu s e k ∗ (arg9.view.loc (c : Thread nD τ) ↦[arg9.view.set]{fullShare} fa) ∗ (arg12.view.loc (c : Thread nD τ) ↦[arg12.view.set]{fullShare} fo)
        ∗ (KEPT c fg fu s e k ∗ (arg9.view.loc (c : Thread nD τ) ↦[arg9.view.set]{fullShare} fa)
          ∗ owns (Val := Elt F) (c : Thread nD τ) arg12 fullShare (outB (F := F) v.val (arg9.view.read (Elt F) fa) (gW c fg e k) (uW c fu e k)) -∗ Q ⟨⟩))
      ⊢ wp frame (wpE (defs₀ (F := F)) Variants.none (c : Thread nD τ) none) Set.univ
          (computeP (F := F) i arg9 arg12 harg12 (Memref.whole cc0_scratch0) (BitVec.ofNat 32 g) (BitVec.ofNat 32 n) v12 hw) Q := by
  subst hv12
  rw [compute_eq]
  have hv := v.isLt
  by_cases h0 : v.val = 0
  · rw [dif_neg (fun h => absurd ((cond5 v).1 h) (by omega)), dif_neg (fun h => absurd ((cond6 v).1 h) (by omega)), dif_neg (fun h => absurd ((cond7 v).1 h) (by omega)), dif_neg (fun h => absurd ((cond8 v).1 h) (by omega)), dif_pos ((cond9 v).2 h0)]
    simp only [pure_bind]
    unfold outB
    rw [if_pos h0]
    iintro ⟨HK, Ha, Ho, Hk⟩
    iapply (case9_run c arg12 harg12 fo Q)
    isplitl [Ho]; · iexact Ho
    iintro HO
    iapply Hk
    isplitl [HK]; · iexact HK
    isplitl [Ha]; · iexact Ha
    iexact HO
  by_cases h5 : v.val ≤ 128
  · rw [dif_pos ((cond5 v).2 (by omega)), dif_neg (fun h => absurd ((cond6 v).1 h) (by omega)), dif_neg (fun h => absurd ((cond7 v).1 h) (by omega)), dif_neg (fun h => absurd ((cond8 v).1 h) (by omega)), dif_neg (fun h => absurd ((cond9 v).1 h) (by omega))]
    simp only [pure_bind, bind_pure_unit']
    unfold outB
    rw [if_neg h0, if_pos h5]
    unfold KEPT
    iintro ⟨⟨H0, H1, ⟨%f0, H2⟩, ⟨%f1, H3⟩, H4, H5⟩, Ha, Ho, Hk⟩
    have hr := case5_run c s arg9 harg9 arg12 harg12 (landG c fg s e k f0) (landU c fu s e k f1) _ _ (by rw [off26 i hg hn, hs]) (by rw [off27 i hg hn, hs]) (k0_off26_inb i _ _ _ hw ((cond5 v).2 (by omega))) (k0_off27_inb i _ _ _ hw ((cond5 v).2 (by omega))) fa fo Q
    rw [landG_read, landU_read] at hr
    iapply hr
    isplitl [H2]; · iexact H2
    isplitl [H3]; · iexact H3
    isplitl [Ha]; · iexact Ha
    isplitl [Ho]; · iexact Ho
    iintro ⟨H2, H3, Ha, HO⟩
    iapply Hk
    isplitr [Ha HO]
    · isplitl [H0]; · iexact H0
      isplitl [H1]; · iexact H1
      isplitl [H2]; · iexists _; iexact H2
      isplitl [H3]; · iexists _; iexact H3
      isplitl [H4]; · iexact H4
      iexact H5
    isplitl [Ha]; · iexact Ha
    iexact HO
  by_cases h6 : v.val ≤ 256
  · rw [dif_neg (fun h => absurd ((cond5 v).1 h) (by omega)), dif_pos ((cond6 v).2 (by omega)), dif_neg (fun h => absurd ((cond7 v).1 h) (by omega)), dif_neg (fun h => absurd ((cond8 v).1 h) (by omega)), dif_neg (fun h => absurd ((cond9 v).1 h) (by omega))]
    simp only [pure_bind, bind_pure_unit']
    unfold outB
    rw [if_neg h0, if_neg h5, if_pos h6]
    unfold KEPT
    iintro ⟨⟨H0, H1, ⟨%f0, H2⟩, ⟨%f1, H3⟩, H4, H5⟩, Ha, Ho, Hk⟩
    have hr := case6_run c s arg9 harg9 arg12 harg12 (landG c fg s e k f0) (landU c fu s e k f1) _ _ (by rw [off28 i hg hn, hs]) (by rw [off29 i hg hn, hs]) (k0_off28_inb i _ _ _ hw ((cond6 v).2 (by omega))) (k0_off29_inb i _ _ _ hw ((cond6 v).2 (by omega))) fa fo Q
    rw [landG_read, landU_read] at hr
    iapply hr
    isplitl [H2]; · iexact H2
    isplitl [H3]; · iexact H3
    isplitl [Ha]; · iexact Ha
    isplitl [Ho]; · iexact Ho
    iintro ⟨H2, H3, Ha, HO⟩
    iapply Hk
    isplitr [Ha HO]
    · isplitl [H0]; · iexact H0
      isplitl [H1]; · iexact H1
      isplitl [H2]; · iexists _; iexact H2
      isplitl [H3]; · iexists _; iexact H3
      isplitl [H4]; · iexact H4
      iexact H5
    isplitl [Ha]; · iexact Ha
    iexact HO
  by_cases h7 : v.val ≤ 384
  · rw [dif_neg (fun h => absurd ((cond5 v).1 h) (by omega)), dif_neg (fun h => absurd ((cond6 v).1 h) (by omega)), dif_pos ((cond7 v).2 (by omega)), dif_neg (fun h => absurd ((cond8 v).1 h) (by omega)), dif_neg (fun h => absurd ((cond9 v).1 h) (by omega))]
    simp only [pure_bind, bind_pure_unit']
    unfold outB
    rw [if_neg h0, if_neg h5, if_neg h6, if_pos h7]
    unfold KEPT
    iintro ⟨⟨H0, H1, ⟨%f0, H2⟩, ⟨%f1, H3⟩, H4, H5⟩, Ha, Ho, Hk⟩
    have hr := case7_run c s arg9 harg9 arg12 harg12 (landG c fg s e k f0) (landU c fu s e k f1) _ _ (by rw [off30 i hg hn, hs]) (by rw [off31 i hg hn, hs]) (k0_off30_inb i _ _ _ hw ((cond7 v).2 (by omega))) (k0_off31_inb i _ _ _ hw ((cond7 v).2 (by omega))) fa fo Q
    rw [landG_read, landU_read] at hr
    iapply hr
    isplitl [H2]; · iexact H2
    isplitl [H3]; · iexact H3
    isplitl [Ha]; · iexact Ha
    isplitl [Ho]; · iexact Ho
    iintro ⟨H2, H3, Ha, HO⟩
    iapply Hk
    isplitr [Ha HO]
    · isplitl [H0]; · iexact H0
      isplitl [H1]; · iexact H1
      isplitl [H2]; · iexists _; iexact H2
      isplitl [H3]; · iexists _; iexact H3
      isplitl [H4]; · iexact H4
      iexact H5
    isplitl [Ha]; · iexact Ha
    iexact HO
  by_cases h8 : v.val ≤ 512
  · rw [dif_neg (fun h => absurd ((cond5 v).1 h) (by omega)), dif_neg (fun h => absurd ((cond6 v).1 h) (by omega)), dif_neg (fun h => absurd ((cond7 v).1 h) (by omega)), dif_pos ((cond8 v).2 (by omega)), dif_neg (fun h => absurd ((cond9 v).1 h) (by omega))]
    simp only [pure_bind, bind_pure_unit']
    unfold outB
    rw [if_neg h0, if_neg h5, if_neg h6, if_neg h7]
    unfold KEPT
    iintro ⟨⟨H0, H1, ⟨%f0, H2⟩, ⟨%f1, H3⟩, H4, H5⟩, Ha, Ho, Hk⟩
    have hr := case8_run c s arg9 harg9 arg12 harg12 (landG c fg s e k f0) (landU c fu s e k f1) _ _ (by rw [off32 i hg hn, hs]) (by rw [off33 i hg hn, hs]) (k0_off32_inb i _ _ _ hw ((cond8 v).2 (by omega))) (k0_off33_inb i _ _ _ hw ((cond8 v).2 (by omega))) fa fo Q
    rw [landG_read, landU_read] at hr
    iapply hr
    isplitl [H2]; · iexact H2
    isplitl [H3]; · iexact H3
    isplitl [Ha]; · iexact Ha
    isplitl [Ho]; · iexact Ho
    iintro ⟨H2, H3, Ha, HO⟩
    iapply Hk
    isplitr [Ha HO]
    · isplitl [H0]; · iexact H0
      isplitl [H1]; · iexact H1
      isplitl [H2]; · iexists _; iexact H2
      isplitl [H3]; · iexists _; iexact H3
      isplitl [H4]; · iexact H4
      iexact H5
    isplitl [Ha]; · iexact Ha
    iexact HO
  exact absurd hv (by omega)

section
variable {F : FTy → Type} [FloatOps F]
/-- Read a word, go on with it. -/
def readW (M : Memref sig .tc .smem S40 .i32) (o : Fin 1 → Nat) (h : ∀ a, o a + S1.size a ≤ S40.size a)
    (K : Elt F .i32 → Prog (TpuEff nD τ sig (Elt F) Λ₀ .tc) PUnit) : Prog (TpuEff nD τ sig (Elt F) Λ₀ .tc) PUnit := do
  let v ← smemLoad M (Rect.unit (s := S40) o S1.size h) numel1_S1 rfl
  K v
def readOne (M : Memref sig .tc .smem S1 .i32) (K : Elt F .i32 → Prog (TpuEff nD τ sig (Elt F) Λ₀ .tc) PUnit) : Prog (TpuEff nD τ sig (Elt F) Λ₀ .tc) PUnit := do
  let v ← smemLoad M (Rect.unit (s := S1) ![0] S1.size inb_S1_S1_0) numel1_S1 rfl
  K v
/-- A step of the kernel: the words it reads, the streaming part, the rows it reads, the computing part. -/
theorem body_eq (i : grid0.Coords) (arg2 : Memref sig .tc .smem S40 .i32) (harg2 : arg2.IsWhole) (arg3 : Memref sig .tc .smem S1 .i32) (harg3 : arg3.IsWhole) (arg4 : Memref sig .tc .smem S40 .i32) (harg4 : arg4.IsWhole) (arg5 : Memref sig .tc .smem S40 .i32) (harg5 : arg5.IsWhole) (arg6 : Memref sig .tc .smem S40 .i32) (harg6 : arg6.IsWhole) (arg7 : Memref sig .tc .smem S40 .i32) (harg7 : arg7.IsWhole) (arg8 : Memref sig .tc .smem S1 .i32) (harg8 : arg8.IsWhole) (arg9 : Memref sig .tc .vmem S512x2048 .bf16) (harg9 : arg9.IsWhole) (arg10 : Memref sig .tc .hbm S1x8x2048x7168 .f32) (harg10 : arg10.IsWhole) (arg11 : Memref sig .tc .hbm S1x8x2048x7168 .f32) (harg11 : arg11.IsWhole) (arg12 : Memref sig .tc .vmem S512x1024 .bf16) (harg12 : arg12.IsWhole) (arg13 : Memref sig .tc .vmem S2x2x2048x1024 .f32) (harg13 : arg13.IsWhole) (arg14 : DmaSems sig S2x2) :
    cc0_moe_up (F := F) i arg2 harg2 arg3 harg3 arg4 harg4 arg5 harg5 arg6 harg6 arg7 harg7 arg8 harg8 arg9 harg9 arg10 harg10 arg11 harg11 arg12 harg12 arg13 harg13 arg14 =
  readW arg6 (k0_off1 i) (k0_off1_inb i) fun v1 => readOne arg8 fun v2 =>
    withWord arg5 (k0_off1 i) (k0_off1_inb i) (k0_chk1 i v1 v2) (k0_chk1.dec i v1 v2) fun v7 hw1 =>
      streamP i arg2 arg7 arg10 arg11 arg13 arg14 v1 v2 v7 hw1 >>= fun _ =>
        withWord arg4 (k0_off25 i) (k0_off25_inb i) (k0_chk6 i v1 v2) (k0_chk6.dec i v1 v2) fun v12 hw6 =>
          computeP i arg9 arg12 harg12 arg13 v1 v2 v12 hw6 := by
  rw [cc0_moe_up_eq_skeleton]; unfold cc0_moe_up_skel; rw [k0_part1_eq_skeleton]; unfold k0_part1_skel readW readOne withWord streamP computeP
  simp only [bind_assoc, pure_bind, dite_bnd]
end

theorem readW_run (M : Memref sig .tc .smem S40 .i32) (hM : M.IsWhole) (T : Buf (Elt F) (M.view.loc (c : Thread nD τ))) (o : Fin 1 → Nat) (h : ∀ a, o a + S1.size a ≤ S40.size a)
    (K : Elt F .i32 → Prog (TpuEff nD τ sig (Elt F) Λ₀ .tc) PUnit) (Q : PUnit → sProp 𝕄) :
    iprop((M.view.loc (c : Thread nD τ) ↦{fullShare.right} T) ∗ ((M.view.loc (c : Thread nD τ) ↦{fullShare.right} T) -∗ wp frame (wpE (defs₀ (F := F)) Variants.none (c : Thread nD τ) none) Set.univ (K (rdW c M T o h)) Q))
      ⊢ wp frame (wpE (defs₀ (F := F)) Variants.none (c : Thread nD τ) none) Set.univ (readW M o h K) Q := by
  unfold readW
  iintro ⟨HT, Hk⟩
  sl_exec
  iapply Hk
  iexact HT
/-- The one word of the last table as the kernel reads it. -/
abbrev rd1 (M : Memref sig .tc .smem S1 .i32) (T : Buf (Elt F) (M.view.loc (c : Thread nD τ))) : Elt F .i32 :=
  View.readAt (Elt F) M.view (Rect.unit (s := S1) ![0] S1.size inb_S1_S1_0).toLoadRect T (Shape.Idx.first (numel1_S1.symm ▸ Nat.one_pos))
theorem readOne_run (M : Memref sig .tc .smem S1 .i32) (hM : M.IsWhole) (T : Buf (Elt F) (M.view.loc (c : Thread nD τ)))
    (K : Elt F .i32 → Prog (TpuEff nD τ sig (Elt F) Λ₀ .tc) PUnit) (Q : PUnit → sProp 𝕄) :
    iprop((M.view.loc (c : Thread nD τ) ↦{fullShare.right} T) ∗ ((M.view.loc (c : Thread nD τ) ↦{fullShare.right} T) -∗ wp frame (wpE (defs₀ (F := F)) Variants.none (c : Thread nD τ) none) Set.univ (K (rd1 c M T)) Q))
      ⊢ wp frame (wpE (defs₀ (F := F)) Variants.none (c : Thread nD τ) none) Set.univ (readOne M K) Q := by
  unfold readOne
  iintro ⟨HT, Hk⟩
  sl_exec
  iapply Hk
  iexact HT

variable (S : Sched)
abbrev TAt (M : Memref sig .tc .smem S40 .i32) (T : TBuf (F := F) c M) : sProp 𝕄 := M.view.loc (c : Thread nD τ) ↦{fullShare.right} T
abbrev T6At (T : Buf (Elt F) ((Memref.whole main_arg6 : Memref sig .tc .smem S1 .i32).view.loc (c : Thread nD τ))) : sProp 𝕄 := (Memref.whole main_arg6 : Memref sig .tc .smem S1 .i32).view.loc (c : Thread nD τ) ↦{fullShare.right} T

/-- What the words of the other tables are. -/
structure Reads (nv : Nat → Fin 513) (T2 : TBuf (F := F) c (Memref.whole main_arg2)) (T3 : TBuf (F := F) c (Memref.whole main_arg3)) (T4 : TBuf (F := F) c (Memref.whole main_arg4))
    (T6 : Buf (Elt F) ((Memref.whole main_arg6 : Memref sig .tc .smem S1 .i32).view.loc (c : Thread nD τ))) : Prop where
  nv : ∀ (j : Nat) (o : Fin 1 → Nat) (h), j < 40 → o = ![j] → rdW c (Memref.whole main_arg2) T2 o h = BitVec.ofNat 32 (nv j).val
  fst : ∀ (j : Nat) (o : Fin 1 → Nat) (h), j < 40 → o = ![j] → (rdW c (Memref.whole main_arg3) T3 o h = 1#32 ↔ S.fst j)
  grp : ∀ (j : Nat) (o : Fin 1 → Nat) (h), j < 40 → o = ![j] → rdW c (Memref.whole main_arg4) T4 o h = BitVec.ofNat 32 (S.grp j)
  ng : rd1 c (Memref.whole main_arg6) T6 = BitVec.ofNat 32 S.ng

include harg9 in
theorem compute_slots (i : grid0.Coords) (t : Nat) (hk : (i 0).val = t / 40) (v : Fin 513) (v12 : Elt F .i32) (hv12 : v12 = BitVec.ofNat 32 v.val) (hw)
    (fa : Buf (Elt F) (arg9.view.loc (c : Thread nD τ))) (fo : Buf (Elt F) (arg12.view.loc (c : Thread nD τ))) (Q : PUnit → sProp 𝕄) :
    iprop(SLOTS c fg fu S (S.blk t + 1) ∗ (arg9.view.loc (c : Thread nD τ) ↦[arg9.view.set]{fullShare} fa) ∗ (arg12.view.loc (c : Thread nD τ) ↦[arg12.view.set]{fullShare} fo)
        ∗ (SLOTS c fg fu S (S.blk t + 1) ∗ (arg9.view.loc (c : Thread nD τ) ↦[arg9.view.set]{fullShare} fa)
          ∗ owns (Val := Elt F) (c : Thread nD τ) arg12 fullShare (outB (F := F) v.val (arg9.view.read (Elt F) fa) (gW c fg (S.eb (S.blk t)) (kB S (S.blk t))) (uW c fu (S.eb (S.blk t)) (kB S (S.blk t)))) -∗ Q ⟨⟩))
      ⊢ wp frame (wpE (defs₀ (F := F)) Variants.none (c : Thread nD τ) none) Set.univ
          (computeP (F := F) i arg9 arg12 harg12 (Memref.whole cc0_scratch0) (BitVec.ofNat 32 (S.grp (t % 40))) (BitVec.ofNat 32 S.ng) v12 hw) Q := by
  have hjj := j_lt t
  have hg := S.grp_lt hjj
  have hn := S.ng_le
  have e : SLOTS c fg fu S (S.blk t + 1) = iprop(KEPT c fg fu (Sched.sl (S.blk t)) (S.eb (S.blk t)) (kB S (S.blk t))
    ∗ (if S.blk t + 1 < 7 * S.ng then FLY c fg fu (Sched.sl (S.blk t + 1)) (S.eb (S.blk t + 1)) (kB S (S.blk t + 1)) else FREE c fg fu (Sched.sl (S.blk t + 1)))) := by
    unfold SLOTS; rw [if_neg (Nat.succ_ne_zero _)]; rfl
  rw [e]
  iintro ⟨⟨HK, HF⟩, Ha, Ho, Hk⟩
  iapply (compute_run c fg fu arg9 harg9 arg12 harg12 (Sched.sl (S.blk t)) (S.eb (S.blk t)) (kB S (S.blk t)) i hg hn (by rw [blk_coords S i t hk]; rfl) v v12 hv12 hw fa fo Q)
  isplitl [HK]; · iexact HK
  isplitl [Ha]; · iexact Ha
  isplitl [Ho]; · iexact Ho
  iintro ⟨HK, Ha, Hout⟩
  iapply Hk
  isplitl [HK HF]
  · isplitl [HK]; · iexact HK
    iexact HF
  isplitl [Ha]; · iexact Ha
  iexact Hout

include harg9 in
/-- A point's body: the streaming moves on by what the point waits for, the output buffer gets the point's block. -/
theorem body_run (nv : Nat → Fin 513) (T0 : TBuf (F := F) c (Memref.whole main_arg0)) (T5 : TBuf (F := F) c (Memref.whole main_arg5)) (T2 : TBuf (F := F) c (Memref.whole main_arg2)) (T3 : TBuf (F := F) c (Memref.whole main_arg3)) (T4 : TBuf (F := F) c (Memref.whole main_arg4))
    (T6 : Buf (Elt F) ((Memref.whole main_arg6 : Memref sig .tc .smem S1 .i32).view.loc (c : Thread nD τ))) (hW : Words c S T0 T5) (hR : Reads c S nv T2 T3 T4 T6)
    (i : grid0.Coords) (t : Nat) (hk : (i 0).val = t / 40) (hj : (i 1).val = t % 40) (W : Waits sig Unit)
    (h1 h2 h3 h4 h5 h6 h7 h8 h9 h10)
    (fa : Buf (Elt F) (arg9.view.loc (c : Thread nD τ))) (fo : Buf (Elt F) (arg12.view.loc (c : Thread nD τ))) (Q : PUnit → sProp 𝕄) :
    iprop(SLOTS c fg fu S (S.done t) ∗ owes (c : Thread nD τ) 0 W ∗ T0At c T0 ∗ T5At c T5 ∗ TAt c (Memref.whole main_arg2) T2 ∗ TAt c (Memref.whole main_arg3) T3 ∗ TAt c (Memref.whole main_arg4) T4 ∗ T6At c T6
        ∗ (arg9.view.loc (c : Thread nD τ) ↦[arg9.view.set]{fullShare} fa) ∗ (arg12.view.loc (c : Thread nD τ) ↦[arg12.view.set]{fullShare} fo)
        ∗ (SLOTS c fg fu S (S.done (t + 1)) ∗ (∃ W, owes (c : Thread nD τ) 0 W) ∗ T0At c T0 ∗ T5At c T5 ∗ TAt c (Memref.whole main_arg2) T2 ∗ TAt c (Memref.whole main_arg3) T3 ∗ TAt c (Memref.whole main_arg4) T4 ∗ T6At c T6
          ∗ (arg9.view.loc (c : Thread nD τ) ↦[arg9.view.set]{fullShare} fa)
          ∗ owns (Val := Elt F) (c : Thread nD τ) arg12 fullShare (outB (F := F) (nv (t % 40)).val (arg9.view.read (Elt F) fa) (gW c fg (S.eb (S.blk t)) (kB S (S.blk t))) (uW c fu (S.eb (S.blk t)) (kB S (S.blk t)))) -∗ Q ⟨⟩))
      ⊢ wp frame (wpE (defs₀ (F := F)) Variants.none (c : Thread nD τ) none) Set.univ
          (cc0_moe_up (F := F) i (Memref.whole main_arg0) h1 (Memref.whole main_arg1) h2 (Memref.whole main_arg2) h3 (Memref.whole main_arg3) h4 (Memref.whole main_arg4) h5 (Memref.whole main_arg5) h6 (Memref.whole main_arg6) h7
            arg9 harg9 (Memref.whole main_arg8) h8 (Memref.whole main_arg9) h9 arg12 harg12 (Memref.whole cc0_scratch0) h10 cc0_scratch1) Q := by
  have hjj := j_lt t
  have hg := S.grp_lt hjj
  have hn := S.ng_le
  rw [body_eq, S.done_succ t]
  iintro ⟨HS, HO, H0, H5, H2, H3, H4, H6, Ha, Ho, Hk⟩
  iapply (readW_run c (Memref.whole main_arg4) h5 T4)
  isplitl [H4]; · iexact H4
  iintro H4
  rw [hR.grp (t % 40) _ _ hjj (by rw [off1, hj])]
  iapply (readOne_run c (Memref.whole main_arg6) h7 T6)
  isplitl [H6]; · iexact H6
  iintro H6
  rw [hR.ng]
  iapply (word_run c (Memref.whole main_arg3) h4 T3 _ _ _ _ _ (chk1 i hg hn _))
  isplitl [H3]; · iexact H3
  iintro H3
  rw [wp_bind]
  iapply (stream_run c fg fu S T0 T5 i t hk hj hW _ (hR.fst (t % 40) _ _ hjj (by rw [off1, hj])) _ W)
  isplitl [HS]; · iexact HS
  isplitl [HO]; · iexact HO
  isplitl [H0]; · iexact H0
  isplitl [H5]; · iexact H5
  iintro ⟨HS, HO, H0, H5⟩
  iapply (word_run c (Memref.whole main_arg2) h3 T2 _ _ _ _ _ (chk6 i hg hn _))
  isplitl [H2]; · iexact H2
  iintro H2
  iapply (compute_slots c fg fu arg9 harg9 arg12 harg12 S i t hk (nv (t % 40)) _ (hR.nv (t % 40) (k0_off25 i) (k0_off25_inb i) hjj (by rw [off25, hj])) _ fa fo Q)
  isplitl [HS]; · iexact HS
  isplitl [Ha]; · iexact Ha
  isplitl [Ho]; · iexact Ho
  iintro ⟨HS, Ha, Hout⟩
  iapply Hk
  isplitl [HS]; · iexact HS
  isplitl [HO]; · iexact HO
  isplitl [H0]; · iexact H0
  isplitl [H5]; · iexact H5
  isplitl [H2]; · iexact H2
  isplitl [H3]; · iexact H3
  isplitl [H4]; · iexact H4
  isplitl [H6]; · iexact H6
  isplitl [Ha]; · iexact Ha
  iexact Hout

end Cert.MoeUpIdeal.Hand
end
-- ==== Proof.UpIFrame.lean ====
/- The tables as numbers and the pipeline at them. -/
module

public import proofs.«01_k».proof.Proof.UpICompute
public import proofs.«01_k».proof.Proof.Gen.MoeUpIdeal.Launch
public import Idealize.ShloMosaic.Lib.Pipeline.FrameBody
public import Idealize.ShloMosaic.Lib.Affine
public import Idealize.ShloMosaic.Lib.Pointwise.Index

@[expose] public section

set_option synthInstance.maxSize 4096
set_option maxRecDepth 16384

noncomputable section

namespace Cert.MoeUpIdeal.Hand

open Cert.MoeUpIdeal Cert.MoeUpIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

/-- The row tile a point of tile `j` brings in: `j`, cut to the active tiles. -/
def rowTile (j : Nat) (na : BitVec 32) : Nat := (Scalar.maxsi (Scalar.minsi (BitVec.ofNat 32 j) (Scalar.subi na 1#32)) 0#32).toNat

theorem slt_nat (x y : BitVec 32) : (x.slt y = true) = (x.toInt < y.toInt) := by simp [BitVec.slt]
theorem rowTile_le (j : Nat) (hj : j < 40) (na : BitVec 32) : rowTile j na ≤ j := by
  unfold rowTile Scalar.maxsi Scalar.minsi IntOp.maxsi IntOp.minsi
  generalize Scalar.subi na 1#32 = x
  have e : (BitVec.ofNat 32 j).toNat = j := by rw [BitVec.toNat_ofNat]; omega
  simp only [slt_nat, BitVec.toInt_eq_toNat_cond]
  have := x.isLt
  split_ifs <;> simp_all <;> omega
theorem rowTile_eq (j : Nat) (hj : j < 40) (na : BitVec 32) (h : (BitVec.ofNat 32 j).slt na = true) : rowTile j na = j := by
  have e : (BitVec.ofNat 32 j).toNat = j := by rw [BitVec.toNat_ofNat]; omega
  have hn := na.isLt
  rw [slt_nat, BitVec.toInt_eq_toNat_cond, BitVec.toInt_eq_toNat_cond, e] at h
  have h2 : j < na.toNat ∧ na.toNat < 2147483648 := by
    split_ifs at h <;> omega
  have ex : (Scalar.subi na 1#32).toNat = na.toNat - 1 := by
    show (na - 1#32).toNat = _
    rw [BitVec.toNat_sub]; simp; omega
  unfold rowTile Scalar.maxsi Scalar.minsi IntOp.maxsi IntOp.minsi
  generalize Scalar.subi na 1#32 = x at ex ⊢
  simp only [slt_nat, BitVec.toInt_eq_toNat_cond]
  split_ifs <;> simp_all <;> omega

variable (m : (ℓ : Loc nD τ sig) → Buf (Elt F) ℓ) (ρ : Dev nD → PrngReg)

/-- What the tables hold: a schedule's words, every tile's number of valid rows, and no valid row past the active tiles. -/
structure Tables (S : Sched) (nv : Nat → Fin 513) : Prop where
  te : ∀ (c : Dev nD) (j : Fin 40), m ((c : Thread nD τ).loc main_arg0) (ix1 j) = BitVec.ofNat 32 (S.te j.val).val
  na : ∀ (c : Dev nD) (j : Fin 40), (nv j.val).val ≠ 0 → (BitVec.ofNat 32 j.val).slt (m ((c : Thread nD τ).loc main_arg1) (ix1 (0 : Fin 1))) = true
  nv : ∀ (c : Dev nD) (j : Fin 40), m ((c : Thread nD τ).loc main_arg2) (ix1 j) = BitVec.ofNat 32 (nv j.val).val
  fst : ∀ (c : Dev nD) (j : Fin 40), m ((c : Thread nD τ).loc main_arg3) (ix1 j) = 1#32 ↔ S.fst j.val
  grp : ∀ (c : Dev nD) (j : Fin 40), m ((c : Thread nD τ).loc main_arg4) (ix1 j) = BitVec.ofNat 32 (S.grp j.val)
  nx : ∀ (c : Dev nD) (j : Fin 40), S.fst j.val → S.grp j.val + 1 < S.ng → m ((c : Thread nD τ).loc main_arg5) (ix1 j) = BitVec.ofNat 32 (S.nx j.val).val
  ng : ∀ (c : Dev nD), m ((c : Thread nD τ).loc main_arg6) (ix1 (0 : Fin 1)) = BitVec.ofNat 32 S.ng

theorem rd0 (c : Dev nD) (T : TBuf (F := F) c (Memref.whole main_arg0)) (j : Nat) (hj : j < 40) (o : Fin 1 → Nat) (h) (e : o = ![j]) :
    rdW c (Memref.whole main_arg0) T o h = T (ix1 (⟨j, hj⟩ : Fin 40)) := by
  subst e; exact congrArg T (funext fun a => by fin_cases a; exact Fin.ext (by show j + 0 * 1 = j; omega))
theorem rd2 (c : Dev nD) (T : TBuf (F := F) c (Memref.whole main_arg2)) (j : Nat) (hj : j < 40) (o : Fin 1 → Nat) (h) (e : o = ![j]) :
    rdW c (Memref.whole main_arg2) T o h = T (ix1 (⟨j, hj⟩ : Fin 40)) := by
  subst e; exact congrArg T (funext fun a => by fin_cases a; exact Fin.ext (by show j + 0 * 1 = j; omega))
theorem rd3 (c : Dev nD) (T : TBuf (F := F) c (Memref.whole main_arg3)) (j : Nat) (hj : j < 40) (o : Fin 1 → Nat) (h) (e : o = ![j]) :
    rdW c (Memref.whole main_arg3) T o h = T (ix1 (⟨j, hj⟩ : Fin 40)) := by
  subst e; exact congrArg T (funext fun a => by fin_cases a; exact Fin.ext (by show j + 0 * 1 = j; omega))
theorem rd4 (c : Dev nD) (T : TBuf (F := F) c (Memref.whole main_arg4)) (j : Nat) (hj : j < 40) (o : Fin 1 → Nat) (h) (e : o = ![j]) :
    rdW c (Memref.whole main_arg4) T o h = T (ix1 (⟨j, hj⟩ : Fin 40)) := by
  subst e; exact congrArg T (funext fun a => by fin_cases a; exact Fin.ext (by show j + 0 * 1 = j; omega))
theorem rd5 (c : Dev nD) (T : TBuf (F := F) c (Memref.whole main_arg5)) (j : Nat) (hj : j < 40) (o : Fin 1 → Nat) (h) (e : o = ![j]) :
    rdW c (Memref.whole main_arg5) T o h = T (ix1 (⟨j, hj⟩ : Fin 40)) := by
  subst e; exact congrArg T (funext fun a => by fin_cases a; exact Fin.ext (by show j + 0 * 1 = j; omega))
theorem rd6 (c : Dev nD) (T : Buf (Elt F) ((Memref.whole main_arg6 : Memref sig .tc .smem S1 .i32).view.loc (c : Thread nD τ))) :
    rd1 c (Memref.whole main_arg6) T = T (ix1 (0 : Fin 1)) :=
  congrArg T (funext fun a => by fin_cases a; exact Fin.ext (by show 0 + 0 * 1 = 0; rfl))

variable {m} {S : Sched} {nv : Nat → Fin 513} (hT : Tables m S nv)
include hT
theorem words_of (c : Dev nD) : Words c S (m ((c : Thread nD τ).loc main_arg0)) (m ((c : Thread nD τ).loc main_arg5)) :=
  ⟨fun j o h hj e => (rd0 c _ j hj o h e).trans (hT.te c ⟨j, hj⟩), fun j o h hj e hf hn => (rd5 c _ j hj o h e).trans (hT.nx c ⟨j, hj⟩ hf hn)⟩
theorem reads_of (c : Dev nD) : Reads c S nv (m ((c : Thread nD τ).loc main_arg2)) (m ((c : Thread nD τ).loc main_arg3)) (m ((c : Thread nD τ).loc main_arg4)) (m ((c : Thread nD τ).loc main_arg6)) :=
  ⟨fun j o h hj e => (rd2 c _ j hj o h e).trans (hT.nv c ⟨j, hj⟩), fun j o h hj e => by rw [rd3 c _ j hj o h e]; exact hT.fst c ⟨j, hj⟩,
    fun j o h hj e => (rd4 c _ j hj o h e).trans (hT.grp c ⟨j, hj⟩), (rd6 c _).trans (hT.ng c)⟩
omit hT

/-! ## The pipeline at the memory's tables -/

variable (m)
/-- The tables' contents. -/
def pfN : pre0.Contents (Elt F) := fun k => m (((0 : Dev nD) : Thread nD τ).loc (pre0.ref k))

theorem trans_eq (pf : pre0.Contents (Elt F)) (i : grid0.Coords) :
    cc0_transform_0 inb_S1_S1_0 numel1_S1 pf i = ![rowTile (i 1).val (pf.at 1 (Rect.unit (s := S1) ![0] S1.size inb_S1_S1_0) numel1_S1), 0] := rfl
theorem ok_pfN : ok0 (F := F) (pfN m) := fun i => by
  have hle := rowTile_le (i 1).val (i 1).isLt ((pfN m).at 1 (Rect.unit (s := S1) ![0] S1.size inb_S1_S1_0) numel1_S1)
  have hi : (i 1).val < 40 := (i 1).isLt
  refine ⟨fun a => ?_, .inr (Affine.block_words_dvd (s := S20480x2048) (p := EltTy.packing .bf16) (by decide) (by decide))⟩
  rw [trans_eq]
  fin_cases a
  · show (rowTile _ _ + 1) * 512 ≤ 20480; omega
  · show (0 + 1) * 2048 ≤ 2048; omega

def adm : (pcfg0 (F := F)).Adm := ⟨pfN m, ok_pfN m⟩
abbrev cfgA : Pipeline.Cfg sig Λ₀ := cfg0 (F := F) (adm m)
abbrev pcs : Fin 1 → Pipeline.Cfg sig Λ₀ := Pipeline.pin (pcfgs (F := F)) fun _ => adm m

/-- Point `t`'s coordinates. -/
abbrev crd (t : Fin (cfgA m).N) : (cfgA m).grid.Coords := (cfgA m).grid.coords t
abbrev ms0_0 (t : Fin (cfgA m).N) : Memref sig .tc .vmem S512x2048 .bf16 := spec0_0.stage ((cfgA m).slots t (0 : Fin 2))
abbrev hs0_0 (t : Fin (cfgA m).N) : (ms0_0 m t).IsWhole := hstage0_0 (((cfgA m).slots t (0 : Fin 2)).cast nbuf0_0)
abbrev ms0_1 (t : Fin (cfgA m).N) : Memref sig .tc .vmem S512x1024 .bf16 := spec0_1.stage ((cfgA m).slots t (1 : Fin 2))
abbrev hs0_1 (t : Fin (cfgA m).N) : (ms0_1 m t).IsWhole := hstage0_1 (((cfgA m).slots t (1 : Fin 2)).cast nbuf0_1)

/-- Window `w`'s block at point `t`, read off its array at launch. -/
def iblk (c : Dev nD) (w : Fin (cfgA m).W) (t : Fin (cfgA m).N) : (((cfgA m).win w).xblock (crd m t)).Idx → Elt F ((cfgA m).win w).elt :=
  (((cfgA m).win w).blk t).view.read (Elt F) (m (((cfgA m).win w).arr.view.loc (c : Thread nD τ)))

variable (S nv)
/-- What point `t` leaves in the output's buffer. -/
def outT (c : Dev nD) (t : Fin (cfgA m).N) : S512x1024.Idx → Elt F .bf16 :=
  outB (F := F) (nv (t.val % 40)).val (iblk m c (0 : Fin 2) t) (gW c (m ((c : Thread nD τ).loc main_arg8)) (S.eb (S.blk t.val)) (kB S (S.blk t.val))) (uW c (m ((c : Thread nD τ).loc main_arg9)) (S.eb (S.blk t.val)) (kB S (S.blk t.val)))

/-- What is held before point `n`: the slots, the tables, the generator's register, the shares of the weights that are not lent. -/
def Phi (c : Dev nD) (n : Nat) : sProp 𝕄 :=
  iprop(SLOTS c (m ((c : Thread nD τ).loc main_arg8)) (m ((c : Thread nD τ).loc main_arg9)) S (S.done n)
    ∗ T0At c (m ((c : Thread nD τ).loc main_arg0)) ∗ T5At c (m ((c : Thread nD τ).loc main_arg5)) ∗ TAt c (Memref.whole main_arg2) (m ((c : Thread nD τ).loc main_arg2))
    ∗ TAt c (Memref.whole main_arg3) (m ((c : Thread nD τ).loc main_arg3)) ∗ TAt c (Memref.whole main_arg4) (m ((c : Thread nD τ).loc main_arg4)) ∗ T6At c (m ((c : Thread nD τ).loc main_arg6))
    ∗ (((c : Thread nD τ).loc main_arg1) ↦{fullShare.right} m ((c : Thread nD τ).loc main_arg1))
    ∗ (∃ r, prngReg c r)
    ∗ (((c : Thread nD τ).loc main_arg8) ↦{Transfers.shareDrop fullShare 2} m ((c : Thread nD τ).loc main_arg8))
    ∗ (((c : Thread nD τ).loc main_arg9) ↦{Transfers.shareDrop fullShare 2} m ((c : Thread nD τ).loc main_arg9)))

/-- The proof data of the one pipeline on core `c`. -/
def dats (_ : Fin 1) (c : Dev nD) : Dat τ (Elt F) Unit ℕ (Pipeline.UD sig nD τ) ℕ (cfgA m) c where
  A w := m (((cfgA m).win w).arr.view.loc (c : Thread nD τ))
  after w t := match w with
    | ⟨0, _⟩ => iblk m c (0 : Fin 2) t
    | ⟨1, _⟩ => outT m S nv c t
  Φ t := Phi m S c t.val
  q _ := fullShare
  owed _ := 0

theorem after0_0 (c : Dev nD) (t : Fin (cfgA m).N) : (dats m S nv 0 c).after (0 : Fin 2) t = iblk m c (0 : Fin 2) t := rfl
theorem after0_1 (c : Dev nD) (t : Fin (cfgA m).N) : (dats m S nv 0 c).after (1 : Fin 2) t = outT m S nv c t := rfl

theorem phi_eq (c : Dev nD) (t : Fin ((cfgA m).N + 1)) : (dats m S nv 0 c).Φ t = Phi m S c t.val := rfl
theorem owed_eq (c : Dev nD) (t : Fin ((cfgA m).N + 1)) : (dats m S nv 0 c).owed t = 0 := rfl

theorem before0_0 (c : Dev nD) (t : Fin (cfgA m).N) (d) : (dats m S nv 0 c).before (0 : Fin 2) t d = iblk m c (0 : Fin 2) t :=
  ((dats m S nv 0 c).before_in_eq_fetched (0 : Fin 2) rfl (fun _ => rfl) (fun _ _ _ => rfl) (fun t => by rw [after0_0]; unfold Dat.blockOf iblk; rfl) t d).trans
    (by unfold Dat.fetched Dat.blockOf iblk; rfl)

theorem crd0 (t : Fin (cfgA m).N) : ((crd m t) (0 : Fin 2)).val = t.val / 40 := by
  have : ∀ t : Fin grid0.N, ((grid0.coords t) (0 : Fin 2)).val = t.val / 40 := by decide +kernel
  exact this t
theorem crd1 (t : Fin (cfgA m).N) : ((crd m t) (1 : Fin 2)).val = t.val % 40 := by
  have : ∀ t : Fin grid0.N, ((grid0.coords t) (1 : Fin 2)).val = t.val % 40 := by decide +kernel
  exact this t

theorem some_case (n : Fin 513) : (!(k0_cond5 (BitVec.ofNat 32 n.val) == 1#1) && !(k0_cond6 (BitVec.ofNat 32 n.val) == 1#1) && !(k0_cond7 (BitVec.ofNat 32 n.val) == 1#1) && !(k0_cond8 (BitVec.ofNat 32 n.val) == 1#1) && !(k0_cond9 (BitVec.ofNat 32 n.val) == 1#1)) = false := by
  revert n; decide +kernel

variable {S nv}
include hT
theorem idle_out (t : Fin (cfgA m).N) : (cfgA m).idle (1 : Fin 2) ((cfgA m).grid.coords t) = false := by
  have hj := j_lt t.val
  have e : (pfN m).atD 2 (k0_off25 (crd m t)) = BitVec.ofNat 32 (nv (t.val % 40)).val := by
    have h := k0_off25_inb (crd m t)
    unfold Pipeline.Prefetch.Contents.atD
    have h' : ∀ a, k0_off25 (crd m t) a + 1 ≤ S40.size a := fun a => by
      have := h a; fin_cases a; exact this
    refine (dif_pos h').trans ?_
    refine Eq.trans ?_ (hT.nv 0 ⟨t.val % 40, hj⟩)
    refine congrArg (m _) (funext fun a => ?_)
    fin_cases a
    refine Fin.ext ?_
    show k0_off25 (crd m t) 0 = t.val % 40
    rw [off25, crd1]; rfl
  show idle0 (pfN m) 1 (crd m t) = false
  show (!(k0_cond5 ((pfN m).atD 2 (k0_off25 (crd m t))) == 1#1) && !(k0_cond6 ((pfN m).atD 2 (k0_off25 (crd m t))) == 1#1) && !(k0_cond7 ((pfN m).atD 2 (k0_off25 (crd m t))) == 1#1) && !(k0_cond8 ((pfN m).atD 2 (k0_off25 (crd m t))) == 1#1) && !(k0_cond9 ((pfN m).atD 2 (k0_off25 (crd m t))) == 1#1)) = false
  rw [e]
  exact some_case _

end Cert.MoeUpIdeal.Hand
end
-- ==== Proof.UpIObl.lean ====
/- The body's obligation at every point. -/
module

public import proofs.«01_k».proof.Proof.UpIFrame
public import proofs.«01_k».proof.Proof.Gen.MoeUpIdeal.Launch
public import Idealize.ShloMosaic.Lib.Pipeline.FrameBody
public import Idealize.ShloMosaic.Lib.Affine
public import Idealize.ShloMosaic.Lib.Pointwise.Index

@[expose] public section

set_option synthInstance.maxSize 4096
set_option maxRecDepth 16384

noncomputable section

namespace Cert.MoeUpIdeal.Hand

open Cert.MoeUpIdeal Cert.MoeUpIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable (m : (ℓ : Loc nD τ sig) → Buf (Elt F) ℓ) {S : Sched} {nv : Nat → Fin 513} (hT : Tables m S nv)

/-- The body at point `t` on its staging memrefs, as the pipeline calls it. -/
abbrev bodyAt0 (t : Fin (cfgA m).N) : Prog (TpuEff nD τ sig (Elt F) Λ₀ .tc) PUnit :=
  cc0_moe_up (crd m t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _)
    (ms0_0 m t) (hs0_0 m t) (Memref.whole main_arg8) (Memref.isWhole_whole _) (Memref.whole main_arg9) (Memref.isWhole_whole _) (ms0_1 m t) (hs0_1 m t) (Memref.whole cc0_scratch0) (Memref.isWhole_whole _) cc0_scratch1

include hT in
set_option maxHeartbeats 4000000 in
theorem sound_body (c : Dev nD) (t : Fin (cfgA m).N) :
    iprop((dats m S nv 0 c).Φ t.castSucc ∗ (dats m S nv 0 c).owesAt () t.castSucc
        ∗ (∃ d, owns (c : Thread nD τ) (ms0_0 m t) fullShare ((dats m S nv 0 c).before (0 : Fin 2) t d))
        ∗ (∃ d, owns (c : Thread nD τ) (ms0_1 m t) fullShare ((dats m S nv 0 c).before (1 : Fin 2) t d)))
      ⊢ wp frame (wpE (defs₀ (F := F)) Variants.none c none) Set.univ (bodyAt0 m t) fun _ =>
          iprop((dats m S nv 0 c).Φ t.succ ∗ (dats m S nv 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m S nv 0 c).before w t d))
                  | true => owns (c : Thread nD τ) (((cfgA m).win w).stage ((cfgA m).slots t w)) fullShare ((dats m S nv 0 c).after w t)
                | false => owns (c : Thread nD τ) (((cfgA m).win w).stage ((cfgA m).slots t w)) fullShare ((dats m S nv 0 c).after w t)) := by
  rw [bigSep_W0]
  rewrite [idle_out m hT t]
  simp only [before0_0, after0_0, after0_1]
  rewrite [phi_eq, phi_eq, Fin.val_castSucc, Fin.val_succ]
  unfold Phi Dat.owesAt Pipeline.owesWithin
  rewrite [owed_eq, owed_eq]
  iintro ⟨⟨HS, H0, H5, H2, H3, H4, H6, H1, Hr, Hg, Hu⟩, ⟨%W, %hW, HO⟩, ⟨%d0, Ha⟩, ⟨%d1, Ho⟩⟩
  unfold owns
  icases Ha with ⟨%fa, %ea, Ha⟩
  icases Ho with ⟨%fo, %eo, Ho⟩
  iapply (body_run c (m ((c : Thread nD τ).loc main_arg8)) (m ((c : Thread nD τ).loc main_arg9)) (ms0_0 m t) (hs0_0 m t) (ms0_1 m t) (hs0_1 m t) S nv
    (m ((c : Thread nD τ).loc main_arg0)) (m ((c : Thread nD τ).loc main_arg5)) (m ((c : Thread nD τ).loc main_arg2)) (m ((c : Thread nD τ).loc main_arg3)) (m ((c : Thread nD τ).loc main_arg4)) (m ((c : Thread nD τ).loc main_arg6))
    (words_of hT c) (reads_of hT c) (crd m t) t.val (crd0 m t) (crd1 m t) W _ _ _ _ _ _ _ _ _ _ fa fo _)
  isplitl [HS]; · iexact HS
  isplitl [HO]; · iexact HO
  isplitl [H0]; · iexact H0
  isplitl [H5]; · iexact H5
  isplitl [H2]; · iexact H2
  isplitl [H3]; · iexact H3
  isplitl [H4]; · iexact H4
  isplitl [H6]; · iexact H6
  isplitl [Ha]; · iexact Ha
  isplitl [Ho]; · iexact Ho
  iintro ⟨HS, ⟨%W', HO⟩, H0, H5, H2, H3, H4, H6, Ha, Hout⟩
  isplitl [HS H0 H5 H2 H3 H4 H6 H1 Hr Hg Hu]
  · isplitl [HS]; · iexact HS
    isplitl [H0]; · iexact H0
    isplitl [H5]; · iexact H5
    isplitl [H2]; · iexact H2
    isplitl [H3]; · iexact H3
    isplitl [H4]; · iexact H4
    isplitl [H6]; · iexact H6
    isplitl [H1]; · iexact H1
    isplitl [Hr]; · iexact Hr
    isplitl [Hg]; · iexact Hg
    iexact Hu
  isplitl [HO]
  · iexists W'
    isplitr; · ipureintro; exact Set.subset_union_of_subset_left (Set.subset_univ _) _
    iexact HO
  isplitl [Ha]
  · iexists fa; isplitr; · ipureintro; exact ea
    iexact Ha
  rw [ea]
  unfold owns
  icases Hout with ⟨%f', %ef, Hout⟩
  iexists f'
  isplitr; · ipureintro; exact ef
  iexact Hout

include hT in
/-- The library's body obligation, at every point. -/
theorem body_obligation (c : Dev nD) : BodyObligation (dats m S nv 0 c) (defs₀ (F := F)) Variants.none () Set.univ := fun t => by
  rw [bigSep_W0]
  exact sound_body m hT c t

end Cert.MoeUpIdeal.Hand
end
-- ==== Proof.UpILaunch.lean ====
/- The launch: what the region is given makes the first point's invariant, the last one's is given back. -/
module

public import proofs.«01_k».proof.Proof.UpIObl
public import Idealize.ShloMosaic.Lib.Pipeline.Quiescent
public import Idealize.ShloMosaic.Lib.Pipeline.Frame
public import Idealize.ShloMosaic.Lib.Ring
public import Idealize.ShloMosaic.Lib.Claim
public import Idealize.ShloMosaic.Adequacy
public import Idealize.ShloMosaic.Init
public import Idealize.ShloMosaic.Lib.Pipeline.FrameBody
public import Idealize.ShloMosaic.Lib.Affine
public import Idealize.ShloMosaic.Lib.Pointwise.Index

@[expose] public section

set_option synthInstance.maxSize 4096
set_option maxRecDepth 16384

noncomputable section

namespace Cert.MoeUpIdeal.Hand

open Cert.MoeUpIdeal Cert.MoeUpIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

/-! ## The four half-slots of the scratch -/

theorem slot_eq (s w : Fin 2) : (slotM s w).view.set = (Rect.unit (s := S2x2x2048x1024) ![s.val, w.val, 0, 0] S1x1x2048x1024.size (inbS s w)).set :=
  (View.set_reshape _ _).trans (View.set_slice_whole _ _)
theorem slot_set (p : Fin 2 × Fin 2) (x : S2x2x2048x1024.Idx) :
    x ∈ (slotM p.1 p.2).view.set ↔ (x (0 : Fin 4)).val = p.1.val ∧ (x (1 : Fin 4)).val = p.2.val := by
  rw [slot_eq]
  refine Rect.mem_set_unit.trans ⟨fun h => ?_, fun h a => ?_⟩
  · have h0 := h (0 : Fin 4); have h1 := h (1 : Fin 4)
    have e0 : p.1.val ≤ (x (0 : Fin 4)).val ∧ (x (0 : Fin 4)).val < p.1.val + 1 := h0
    have e1 : p.2.val ≤ (x (1 : Fin 4)).val ∧ (x (1 : Fin 4)).val < p.2.val + 1 := h1
    omega
  · have h2 : (x (2 : Fin 4)).val < 2048 := (x (2 : Fin 4)).isLt
    have h3 : (x (3 : Fin 4)).val < 1024 := (x (3 : Fin 4)).isLt
    fin_cases a
    · show p.1.val ≤ (x (0 : Fin 4)).val ∧ (x (0 : Fin 4)).val < p.1.val + 1; omega
    · show p.2.val ≤ (x (1 : Fin 4)).val ∧ (x (1 : Fin 4)).val < p.2.val + 1; omega
    · show 0 ≤ (x (2 : Fin 4)).val ∧ (x (2 : Fin 4)).val < 0 + 2048; omega
    · show 0 ≤ (x (3 : Fin 4)).val ∧ (x (3 : Fin 4)).val < 0 + 1024; omega

/-- The half-slots' elements, as elements of the scratch. -/
def slotI (c : Dev nD) (p : Fin 2 × Fin 2) : Finset (Idx ((c : Thread nD τ).loc cc0_scratch0)) := (slotM p.1 p.2).view.set
theorem slotI_disj (c : Dev nD) (p p' : Fin 2 × Fin 2) (h : p ≠ p') : Disjoint (slotI c p) (slotI c p') := by
  refine Finset.disjoint_left.2 fun x hx hx' => h ?_
  have h1 := (slot_set p x).1 hx
  have h2 := (slot_set p' x).1 hx'
  exact Prod.ext (Fin.ext (h1.1.symm.trans h2.1)) (Fin.ext (h1.2.symm.trans h2.2))
theorem slotI_cover (c : Dev nD) : Finset.univ.biUnion (slotI c) = Finset.univ := by
  refine Finset.eq_univ_iff_forall.2 fun x => Finset.mem_biUnion.2 ?_
  have h0 : ((x : S2x2x2048x1024.Idx) (0 : Fin 4)).val < 2 := ((x : S2x2x2048x1024.Idx) (0 : Fin 4)).isLt
  have h1 : ((x : S2x2x2048x1024.Idx) (1 : Fin 4)).val < 2 := ((x : S2x2x2048x1024.Idx) (1 : Fin 4)).isLt
  exact ⟨(⟨_, h0⟩, ⟨_, h1⟩), Finset.mem_univ _, (slot_set (⟨_, h0⟩, ⟨_, h1⟩) x).2 ⟨rfl, rfl⟩⟩

theorem scratch_split (c : Dev nD) (f : Buf (Elt F) ((c : Thread nD τ).loc cc0_scratch0)) :
    (((c : Thread nD τ).loc cc0_scratch0 ↦{fullShare} f) : sProp 𝕄) ⊢ iprop(slotPt c 0 0 f ∗ slotPt c 0 1 f ∗ slotPt c 1 0 f ∗ slotPt c 1 1 f) := by
  rw [Ring.pointsTo_blocks (slotI c) (slotI_disj c) (slotI_cover c),
    bigSep_univ_eq_bigSepL [((0 : Fin 2), (0 : Fin 2)), (0, 1), (1, 0), (1, 1)] (by decide) (by decide)]
  exact .rfl
theorem scratch_join (c : Dev nD) :
    iprop((∃ f, slotPt c 0 0 f) ∗ (∃ f, slotPt c 0 1 f) ∗ (∃ f, slotPt c 1 0 f) ∗ (∃ f, slotPt c 1 1 f))
      ⊢ (iprop(∃ f : Buf (Elt F) ((c : Thread nD τ).loc cc0_scratch0), ((c : Thread nD τ).loc cc0_scratch0) ↦{fullShare} f) : sProp 𝕄) := by
  refine BIBase.Entails.trans ?_ (Ring.pointsTo_blocks_join_exists (slotI c) (slotI_disj c) (slotI_cover c) default)
  rw [bigSep_univ_eq_bigSepL [((0 : Fin 2), (0 : Fin 2)), (0, 1), (1, 0), (1, 1)] (by decide) (by decide)]
  exact .rfl

variable (m : (ℓ : Loc nD τ sig) → Buf (Elt F) ℓ) (ρ : Dev nD → PrngReg) (S : Sched) (nv : Nat → Fin 513)

abbrev osem0 : Fin 4 → SemLoc sig := ![SemLoc.dma (4 : Fin 8), SemLoc.dma (5 : Fin 8), SemLoc.dma (6 : Fin 8), SemLoc.dma (7 : Fin 8)]
theorem ownSemFacts0 : Pipeline.OwnSemFacts spec0 osem0 := by decide
abbrev H0 : Finset (Ref sig .tc) := {main_arg8, main_arg9}
theorem H0_sub : H0 ⊆ Pipeline.restRefsP sig pre0 spec0 := by decide
abbrev Vm : (c : Dev nD) → (b : Ref sig .tc) → Buf (Elt F) ((c.tc : Thread nD τ).loc b) := fun c b => m ((c : Thread nD τ).loc b)

theorem ownSems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cellK 0 0)) 0 ∗ semVal ((c : Thread nD τ), SemLoc.dma (cellK 0 1)) 0 ∗ semVal ((c : Thread nD τ), SemLoc.dma (cellK 1 0)) 0 ∗ semVal ((c : Thread nD τ), SemLoc.dma (cellK 1 1)) 0) := by
  rw [Pipeline.ownSems0_eq_of_list c osem0 [0, 1, 2, 3] (by decide) (by decide)]
  rfl
theorem bufs_eq (c : Dev nD) : (bigSep H0 (fun b => ((c.tc : Thread nD τ).loc b) ↦{fullShare} Vm m c b) : sProp 𝕄)
    = iprop((((c : Thread nD τ).loc main_arg8) ↦{fullShare} m ((c : Thread nD τ).loc main_arg8)) ∗ (((c : Thread nD τ).loc main_arg9) ↦{fullShare} m ((c : Thread nD τ).loc main_arg9))) := by
  rw [BI.bigSep_eq_bigSepL_of_eq [main_arg8, main_arg9] (by decide) (by decide)]
  rfl
theorem tables_eq (c : Dev nD) : (Pipeline.ΦT (U := Pipeline.UD sig nD τ) pre0 (adm m).1 c : sProp 𝕄)
    = iprop((((c : Thread nD τ).loc main_arg0) ↦{fullShare.right} pfN m 0) ∗ (((c : Thread nD τ).loc main_arg1) ↦{fullShare.right} pfN m 1) ∗ (((c : Thread nD τ).loc main_arg2) ↦{fullShare.right} pfN m 2)
      ∗ (((c : Thread nD τ).loc main_arg3) ↦{fullShare.right} pfN m 3) ∗ (((c : Thread nD τ).loc main_arg4) ↦{fullShare.right} pfN m 4) ∗ (((c : Thread nD τ).loc main_arg5) ↦{fullShare.right} pfN m 5) ∗ (((c : Thread nD τ).loc main_arg6) ↦{fullShare.right} pfN m 6)) := by
  unfold Pipeline.ΦT Pipeline.prefHeld
  rw [show (Finset.univ : Finset (Fin 7)) = insert (0 : Fin 7) (insert (1 : Fin 7) (insert (2 : Fin 7) (insert (3 : Fin 7) (insert (4 : Fin 7) (insert (5 : Fin 7) {(6 : Fin 7)}))))) from by decide,
    bigSep_insert (by decide), bigSep_insert (by decide), bigSep_insert (by decide), bigSep_insert (by decide), bigSep_insert (by decide), bigSep_insert (by decide), bigSep_singleton]
  rfl

/-- The tables' contents are every core's. -/
theorem pfN_eq (c : Dev nD) (k : Fin 7) : m ((c : Thread nD τ).loc (pre0.ref k)) = pfN m k := by
  obtain rfl : c = 0 := Subsingleton.elim _ _
  rfl

theorem toks_split (c : Dev nD) (b : Ref sig .tc) (f : Buf (Elt F) ((c : Thread nD τ).loc b)) :
    (((c : Thread nD τ).loc b ↦{fullShare} f) : sProp 𝕄) ⊢ iprop(((c : Thread nD τ).loc b ↦{Transfers.shareDrop fullShare 2} f)
      ∗ ((c : Thread nD τ).loc b ↦{Transfers.shareTok fullShare 2 0} f) ∗ ((c : Thread nD τ).loc b ↦{Transfers.shareTok fullShare 2 1} f)) := by
  refine (Transfers.pointsTo_toks_split fullShare 2).trans ?_
  rw [bigSep_univ_eq_bigSepL [(0 : Fin 2), (1 : Fin 2)] (by decide) (by decide)]
  exact .rfl
theorem toks_join (c : Dev nD) (b : Ref sig .tc) (f : Buf (Elt F) ((c : Thread nD τ).loc b)) :
    iprop(((c : Thread nD τ).loc b ↦{Transfers.shareDrop fullShare 2} f)
      ∗ ((c : Thread nD τ).loc b ↦{Transfers.shareTok fullShare 2 0} f) ∗ ((c : Thread nD τ).loc b ↦{Transfers.shareTok fullShare 2 1} f)) ⊢ (((c : Thread nD τ).loc b ↦{fullShare} f) : sProp 𝕄) := by
  refine BIBase.Entails.trans ?_ (Transfers.pointsTo_toks_join fullShare 2)
  rw [bigSep_univ_eq_bigSepL [(0 : Fin 2), (1 : Fin 2)] (by decide) (by decide)]
  exact .rfl

/-- What the region hands over makes the first point's invariant. -/
theorem phi_in (c : Dev nD) : iprop(Pipeline.ΦD osem0 spec0 H0 (Vm m) c ∗ Pipeline.ΦT (U := Pipeline.UD sig nD τ) pre0 (adm m).1 c) ⊢ (dats m S nv 0 c).Φ 0 := by
  rw [Pipeline.ΦD_eq, scopedRest0_eq, ownSems_eq, bufs_eq, tables_eq, phi_eq, Fin.val_zero, ← pfN_eq m c 0, ← pfN_eq m c 1, ← pfN_eq m c 2, ← pfN_eq m c 3, ← pfN_eq m c 4, ← pfN_eq m c 5, ← pfN_eq m c 6]
  unfold Phi
  rw [S.done_zero]
  unfold SLOTS FREE
  rw [if_pos rfl]
  iintro ⟨⟨⟨%f, Hf⟩, Hr, ⟨Hc0, Hc1, Hc2, Hc3⟩, ⟨Hg, Hu⟩⟩, ⟨H0, H1, H2, H3, H4, H5, H6⟩⟩
  ihave Hs := (scratch_split c f) $$ Hf
  icases Hs with ⟨Hs0, Hs1, Hs2, Hs3⟩
  ihave Hg' := (toks_split c main_arg8 _) $$ Hg
  icases Hg' with ⟨Hgd, Hg0, Hg1⟩
  ihave Hu' := (toks_split c main_arg9 _) $$ Hu
  icases Hu' with ⟨Hud, Hu0, Hu1⟩
  isplitl [Hc0 Hc1 Hc2 Hc3 Hs0 Hs1 Hs2 Hs3 Hg0 Hg1 Hu0 Hu1]
  · isplitl [Hc0 Hc1 Hs0 Hs1 Hg0 Hu0]
    · isplitl [Hc0]; · iexact Hc0
      isplitl [Hc1]; · iexact Hc1
      isplitl [Hs0]; · iexists f; iexact Hs0
      isplitl [Hs1]; · iexists f; iexact Hs1
      isplitl [Hg0]; · iexact Hg0
      iexact Hu0
    · isplitl [Hc2]; · iexact Hc2
      isplitl [Hc3]; · iexact Hc3
      isplitl [Hs2]; · iexists f; iexact Hs2
      isplitl [Hs3]; · iexists f; iexact Hs3
      isplitl [Hg1]; · iexact Hg1
      iexact Hu1
  isplitl [H0]; · iexact H0
  isplitl [H5]; · iexact H5
  isplitl [H2]; · iexact H2
  isplitl [H3]; · iexact H3
  isplitl [H4]; · iexact H4
  isplitl [H6]; · iexact H6
  isplitl [H1]; · iexact H1
  isplitl [Hr]; · iexact Hr
  isplitl [Hgd]; · iexact Hgd
  iexact Hud

/-- After the last block both slots are at rest. -/
theorem slots_end (c : Dev nD) (fg : WBuf (F := F) c) (fu : UBuf (F := F) c) :
    SLOTS c fg fu S (S.done 280) ⊢ iprop(FREE c fg fu 0 ∗ FREE c fg fu 1) := by
  have e : S.done 280 = 7 * S.ng := S.done_last 7
  have hp := S.ng_pos
  rw [e]
  unfold SLOTS
  rw [if_neg (by omega), if_neg (by omega)]
  have hs : (Sched.sl (7 * S.ng - 1) = 0 ∧ Sched.sl (7 * S.ng) = 1) ∨ (Sched.sl (7 * S.ng - 1) = 1 ∧ Sched.sl (7 * S.ng) = 0) := by
    rcases Nat.mod_two_eq_zero_or_one (7 * S.ng) with h | h
    · exact .inr ⟨Fin.ext (by show _ % 2 = 1; omega), Fin.ext h⟩
    · exact .inl ⟨Fin.ext (by show _ % 2 = 0; omega), Fin.ext h⟩
  rcases hs with ⟨h1, h2⟩ | ⟨h1, h2⟩ <;> rw [h1, h2]
  · iintro ⟨HK, HF⟩
    isplitl [HK]; · iapply (kept_free c fg fu); iexact HK
    iexact HF
  · iintro ⟨HK, HF⟩
    isplitl [HF]; · iexact HF
    iapply (kept_free c fg fu); iexact HK

/-- The last point's invariant gives back what the region takes. -/
theorem phi_out (c : Dev nD) : (dats m S nv 0 c).Φ (Fin.last (cfgA m).N) ⊢ Pipeline.ΦD osem0 spec0 H0 (Vm m) c := by
  rw [Pipeline.ΦD_eq, scopedRest0_eq, ownSems_eq, bufs_eq, phi_eq, show (Fin.last (cfgA m).N).val = 280 from N_0]
  unfold Phi
  iintro ⟨HS, H0, H5, H2, H3, H4, H6, H1, Hr, Hgd, Hud⟩
  ihave HS' := (slots_end S c _ _) $$ HS
  unfold FREE
  icases HS' with ⟨⟨Hc0, Hc1, Hs0, Hs1, Hg0, Hu0⟩, ⟨Hc2, Hc3, Hs2, Hs3, Hg1, Hu1⟩⟩
  isplitl [Hs0 Hs1 Hs2 Hs3]
  · iapply (scratch_join c)
    isplitl [Hs0]; · iexact Hs0
    isplitl [Hs1]; · iexact Hs1
    isplitl [Hs2]; · iexact Hs2
    iexact Hs3
  isplitl [Hr]; · iexact Hr
  isplitl [Hc0 Hc1 Hc2 Hc3]
  · isplitl [Hc0]; · iexact Hc0
    isplitl [Hc1]; · iexact Hc1
    isplitl [Hc2]; · iexact Hc2
    iexact Hc3
  isplitl [Hgd Hg0 Hg1]
  · iapply (toks_join c main_arg8 _)
    isplitl [Hgd]; · iexact Hgd
    isplitl [Hg0]; · iexact Hg0
    iexact Hg1
  iapply (toks_join c main_arg9 _)
  isplitl [Hud]; · iexact Hud
  isplitl [Hu0]; · iexact Hu0
  iexact Hu1

theorem share_eq (c : Dev nD) (w : Fin (cfgA m).W) : (dats m S nv 0 c).share w = fullShare := by unfold Dat.share; split <;> rfl

variable {S nv} (hT : Tables m S nv)
include hT
set_option backward.isDefEq.respectTransparency.types false in
set_option maxHeartbeats 4000000 in
/-- Every weakly fair execution of @main terminates with each array at the computed contents and every counter at zero. -/
theorem run_main : θ_run (defs (F := F)) (onTc (τ := τ) (main (F := F))) (s₀ m ρ) (fun r => Pipeline.FramePost (pcs m) (dats m S nv) 0 (Vm m) r ∧ r.2.sem = fun _ => 0) :=
  Pipeline.θ_run_frameP_dma pcfgs (fun _ => adm m) (dats m S nv) 0 launch0 osem0 defs₀ Variants.none ownSemFacts0 H0 H0_sub m ρ main
    (fun c => (body_obligation m hT c).loose) (fun c w => share_eq m S nv c w) (fun _ _ => rfl) (Vm m)
    (Pipeline.hmainP_region _ 0 defs₀ Variants.none m main fun c => (main_chain c).trans rfl)
    (fun _ w => by fin_cases w <;> rfl) (fun c k => pfN_eq m c k) (phi_in m S nv) (phi_out m S nv)
    _ (fun _ h => h)

end Cert.MoeUpIdeal.Hand
end
-- ==== Proof.UpTables.lean ====
/- The precondition on the tables, read. -/
module

public import proofs.«01_k».proof.Proof.UpSched
public import proofs.«01_k».proof.Proof.Gen.Pre_tables_of_tiles
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_tables_of_tiles

open Cert.Pre_tables_of_tiles.Gen

variable {F : FTy → Type} [FloatOps F]

theorem bit (b : Bool) : BitVec.ofBool b = 1#1 ↔ b = true := by cases b <;> decide
theorem bor (x y : BitVec 1) : IntOp.ori x y = 1#1 ↔ x = 1#1 ∨ y = 1#1 := by revert x y; decide
theorem beq {w : Nat} (x y : BitVec w) : IntOp.cmpi .eq x y = 1#1 ↔ x = y := by simp [IntOp.cmpi, bit]
theorem bne {w : Nat} (x y : BitVec w) : IntOp.cmpi .ne x y = 1#1 ↔ x ≠ y := by simp [IntOp.cmpi, bit]
theorem bslt {w : Nat} (x y : BitVec w) : IntOp.cmpi .slt x y = 1#1 ↔ x.slt y = true := by simp [IntOp.cmpi, bit]
theorem bsle {w : Nat} (x y : BitVec w) : IntOp.cmpi .sle x y = 1#1 ↔ x.sle y = true := by simp [IntOp.cmpi, bit]
theorem bsge {w : Nat} (x y : BitVec w) : IntOp.cmpi .sge x y = 1#1 ↔ y.sle x = true := by simp [IntOp.cmpi, bit]

variable (te : IVec S40 32) (na : IVec S1 32) (nv first group nxt : IVec S40 32) (ng : IVec S1 32)

/-- What the precondition says of a pair of tiles. -/
def pair (j k : Fin 40) : BitVec 1 :=
  IntOp.andi (IntOp.andi (IntOp.andi (IntOp.andi (IntOp.andi
    (IntOp.ori (IntOp.cmpi .eq (nv (ix1 j)) 0#32) (IntOp.cmpi .slt (BitVec.ofNat 32 j.val) (na (ix1 0))))
    (IntOp.ori (IntOp.cmpi .ne (BitVec.ofNat 32 j.val) 0#32) (IntOp.andi (IntOp.cmpi .eq (group (ix1 j)) 0#32) (IntOp.cmpi .eq (first (ix1 j)) 1#32))))
    (IntOp.ori (IntOp.cmpi .ne (BitVec.ofNat 32 k.val) (IntOp.addi (BitVec.ofNat 32 j.val) 1#32))
      (IntOp.cmpi .eq (group (ix1 k)) (IntOp.addi (group (ix1 j)) (if IntOp.cmpi .eq (first (ix1 k)) 1#32 = 1#1 then 1#32 else 0#32)))))
    (IntOp.ori (IntOp.cmpi .ne (BitVec.ofNat 32 j.val) 39#32) (IntOp.cmpi .eq (ng (ix1 0)) (IntOp.addi (group (ix1 j)) 1#32))))
    (IntOp.ori (IntOp.cmpi .ne (group (ix1 j)) (group (ix1 k))) (IntOp.cmpi .eq (te (ix1 j)) (te (ix1 k)))))
    (IntOp.ori (IntOp.ori (IntOp.cmpi .ne (first (ix1 j)) 1#32) (IntOp.cmpi .ne (group (ix1 k)) (IntOp.addi (group (ix1 j)) 1#32)))
      (IntOp.cmpi .eq (nxt (ix1 j)) (te (ix1 k))))

theorem read (a : FVec F S20480x2048 .bf16) (wg wu : FVec F S1x8x2048x7168 .f32)
    (h : fn (F := F) te na nv first group nxt ng a wg wu = fun _ => 1#1) :
    (∀ j : Fin 40, IntOp.andi (IntOp.andi (IntOp.andi (IntOp.cmpi .sge (te (ix1 j)) 0#32) (IntOp.cmpi .slt (te (ix1 j)) 8#32))
      (IntOp.cmpi .sge (nv (ix1 j)) 0#32)) (IntOp.cmpi .sle (nv (ix1 j)) 512#32) = 1#1)
    ∧ ∀ j k : Fin 40, pair te na nv first group nxt ng j k = 1#1 := by
  have h0 := congrFun h (Shape.Idx.first h_S_)
  obtain ⟨h1, h2⟩ := IntOp.andi_eq_one.1 h0
  haveI : Subsingleton S_.Idx := ⟨fun a b => funext fun i => i.elim0⟩
  constructor
  · intro j
    have e := Host.reduce_andi_all _ _ _ _ _ h1 (ix1 j)
    exact e
  · intro j k
    have e := Host.reduce_andi_all _ _ _ _ _ h2 (ix2 j k)
    refine Eq.trans ?_ e
    unfold pair
    refine congrArg₂ IntOp.andi (congrArg₂ IntOp.andi (congrArg₂ IntOp.andi (congrArg₂ IntOp.andi (congrArg₂ IntOp.andi ?_ ?_) ?_) ?_) ?_) ?_
    · refine congrArg₂ IntOp.ori ?_ ?_
      · pointwise; try rfl
      · pointwise; try rfl
    · refine congrArg₂ IntOp.ori ?_ (congrArg₂ IntOp.andi ?_ ?_) <;> (pointwise; try rfl)
    · refine congrArg₂ IntOp.ori ?_ ?_
      · pointwise; try rfl
      · refine congrArg₂ (IntOp.cmpi .eq) ?_ (congrArg₂ IntOp.addi ?_ ?_)
        · pointwise; try rfl
        · pointwise; try rfl
        · show _ = fn_where (F := F) _ _ _ (ix2 j k)
          unfold fn_where
          pointwise; try rfl
    · refine congrArg₂ IntOp.ori ?_ ?_ <;> (pointwise; try rfl)
    · refine congrArg₂ IntOp.ori ?_ ?_ <;> (pointwise; try rfl)
    · refine congrArg₂ IntOp.ori (congrArg₂ IntOp.ori ?_ ?_) ?_ <;> (pointwise; try rfl)

theorem small (x : BitVec 32) (n : Nat) (hn : n < 2147483648) (h1 : (0#32).sle x = true) (h2 : x.slt (BitVec.ofNat 32 n) = true) : x.toNat < n := by
  rw [BitVec.sle_eq_decide, decide_eq_true_eq, BitVec.toInt_eq_toNat_cond (x := x)] at h1
  rw [BitVec.slt_eq_decide, decide_eq_true_eq, BitVec.toInt_eq_toNat_cond, BitVec.toInt_eq_toNat_cond, BitVec.toNat_ofNat] at h2
  have := x.isLt
  simp only [BitVec.toInt_zero] at h1
  split_ifs at h1 h2 <;> omega

theorem small' (x : BitVec 32) (n : Nat) (hn : n < 2147483647) (h1 : (0#32).sle x = true) (h2 : x.sle (BitVec.ofNat 32 n) = true) : x.toNat < n + 1 := by
  rw [BitVec.sle_eq_decide, decide_eq_true_eq, BitVec.toInt_eq_toNat_cond (x := x)] at h1
  rw [BitVec.sle_eq_decide, decide_eq_true_eq, BitVec.toInt_eq_toNat_cond, BitVec.toInt_eq_toNat_cond, BitVec.toNat_ofNat] at h2
  have := x.isLt
  simp only [BitVec.toInt_zero] at h1
  split_ifs at h1 h2 <;> omega

theorem word (x : BitVec 32) (n : Nat) (h : x.toNat = n) : x = BitVec.ofNat 32 n := by
  subst h; exact (BitVec.ofNat_toNat 32 x).symm ▸ (by simp)

/-- The tables as numbers. -/
structure Read (S : Moe.Sched) (v : Nat → Fin 513) : Prop where
  te : ∀ j : Fin 40, te (ix1 j) = BitVec.ofNat 32 (S.te j.val).val
  na : ∀ j : Fin 40, (v j.val).val ≠ 0 → (BitVec.ofNat 32 j.val).slt (na (ix1 (0 : Fin 1))) = true
  nv : ∀ j : Fin 40, nv (ix1 j) = BitVec.ofNat 32 (v j.val).val
  fst : ∀ j : Fin 40, first (ix1 j) = 1#32 ↔ S.fst j.val
  grp : ∀ j : Fin 40, group (ix1 j) = BitVec.ofNat 32 (S.grp j.val)
  nx : ∀ j : Fin 40, S.fst j.val → S.grp j.val + 1 < S.ng → nxt (ix1 j) = BitVec.ofNat 32 (S.nx j.val).val
  ng : ng (ix1 (0 : Fin 1)) = BitVec.ofNat 32 S.ng

/-- The tile of a number. -/
def tile (n : Nat) : Fin 40 := ⟨n % 40, Nat.mod_lt _ (by decide)⟩
theorem tile_val (j : Fin 40) : tile j.val = j := Fin.ext (Nat.mod_eq_of_lt j.isLt)
theorem tile_lt {n : Nat} (h : n < 40) : (tile n).val = n := Nat.mod_eq_of_lt h

theorem ofNat_inj {a b : Nat} (ha : a < 64) (hb : b < 64) : BitVec.ofNat 32 a = BitVec.ofNat 32 b ↔ a = b := by
  constructor
  · intro h
    have := congrArg BitVec.toNat h
    rw [BitVec.toNat_ofNat, BitVec.toNat_ofNat] at this
    omega
  · rintro rfl; rfl

theorem succ_word (n : Nat) : IntOp.addi (BitVec.ofNat 32 n) 1#32 = BitVec.ofNat 32 (n + 1) := (BitVec.ofNat_add n 1).symm

variable {te na nv first group nxt ng}

theorem exists_read (hr : ∀ j : Fin 40, IntOp.andi (IntOp.andi (IntOp.andi (IntOp.cmpi .sge (te (ix1 j)) 0#32) (IntOp.cmpi .slt (te (ix1 j)) 8#32))
      (IntOp.cmpi .sge (nv (ix1 j)) 0#32)) (IntOp.cmpi .sle (nv (ix1 j)) 512#32) = 1#1)
    (hp : ∀ j k : Fin 40, pair te na nv first group nxt ng j k = 1#1) :
    ∃ (S : Moe.Sched) (v : Nat → Fin 513), Read te na nv first group nxt ng S v := by
  simp only [pair, IntOp.andi_eq_one, bor, beq, bne, bslt, bsle, bsge] at hr hp
  have ht : ∀ n, (te (ix1 (tile n))).toNat < 8 := fun n => small _ 8 (by decide) (hr (tile n)).1.1.1 (hr (tile n)).1.1.2
  have hv : ∀ n, (nv (ix1 (tile n))).toNat < 513 := fun n => small' _ 512 (by decide) (hr (tile n)).1.2 (hr (tile n)).2
  have h0 : group (ix1 (tile 0)) = 0#32 ∧ first (ix1 (tile 0)) = 1#32 := by
    rcases (hp (tile 0) (tile 0)).1.1.1.1.2 with h | h
    · exact absurd rfl h
    · exact h
  have hs : ∀ n, n + 1 < 40 → group (ix1 (tile (n + 1))) = IntOp.addi (group (ix1 (tile n))) (if first (ix1 (tile (n + 1))) = 1#32 then 1#32 else 0#32) := by
    intro n hn
    rcases (hp (tile n) (tile (n + 1))).1.1.1.2 with h | h
    · refine absurd ?_ h
      rw [tile_lt hn, tile_lt (by omega : n < 40), succ_word]
    · exact h
  have hle : ∀ n, n < 40 → (group (ix1 (tile n))).toNat ≤ n := by
    intro n
    induction n with
    | zero => intro _; rw [h0.1]; simp
    | succ n ih =>
      intro hn
      have := ih (by omega)
      rw [hs n hn]
      show (_ + _ : BitVec 32).toNat ≤ _
      rw [BitVec.toNat_add]
      split_ifs <;> simp <;> omega
  have hf1 : ∀ n, n + 1 < 40 → first (ix1 (tile (n + 1))) = 1#32 → (group (ix1 (tile (n + 1)))).toNat = (group (ix1 (tile n))).toNat + 1 := by
    intro n hn hf
    have := hle n (by omega)
    rw [hs n hn, if_pos hf]
    show (_ + _ : BitVec 32).toNat = _
    rw [BitVec.toNat_add]; simp; omega
  have hf0 : ∀ n, n + 1 < 40 → ¬first (ix1 (tile (n + 1))) = 1#32 → (group (ix1 (tile (n + 1)))).toNat = (group (ix1 (tile n))).toNat := by
    intro n hn hf
    have := hle n (by omega)
    rw [hs n hn, if_neg hf]
    show (_ + _ : BitVec 32).toNat = _
    rw [BitVec.toNat_add]; rw [BitVec.toNat_zero]; omega
  have hng : ng (ix1 0) = BitVec.ofNat 32 ((group (ix1 (tile 39))).toNat + 1) := by
    rcases (hp (tile 39) (tile 39)).1.1.2 with h | h
    · exact absurd rfl h
    · rw [h, word (group (ix1 (tile 39))) _ rfl, succ_word]
      congr 2
      have := (group (ix1 (tile 39))).isLt
      rw [BitVec.toNat_ofNat]; omega
  have hte : ∀ j k, (group (ix1 (tile j))).toNat = (group (ix1 (tile k))).toNat → te (ix1 (tile j)) = te (ix1 (tile k)) := by
    intro j k e
    rcases (hp (tile j) (tile k)).1.2 with h | h
    · exact absurd (BitVec.eq_of_toNat_eq e) h
    · exact h
  have hnx : ∀ j k, first (ix1 (tile j)) = 1#32 → (group (ix1 (tile k))).toNat = (group (ix1 (tile j))).toNat + 1 → nxt (ix1 (tile j)) = te (ix1 (tile k)) := by
    intro j k hf e
    rcases (hp (tile j) (tile k)).2 with (h | h) | h
    · exact absurd hf h
    · refine absurd ?_ h
      rw [word (group (ix1 (tile j))) _ rfl, succ_word]
      exact word _ _ e
    · exact h
  let S : Moe.Sched :=
    { grp := fun n => (group (ix1 (tile n))).toNat
      fst := fun n => first (ix1 (tile n)) = 1#32
      te := fun n => ⟨_, ht n⟩
      nx := fun n => if h : (nxt (ix1 (tile n))).toNat < 8 then ⟨_, h⟩ else 0
      ng := (group (ix1 (tile 39))).toNat + 1
      grp0 := by rw [h0.1]; rfl
      fst0 := h0.2
      step_fst := hf1
      step_not := hf0
      hng := rfl
      hte := fun j k _ _ e => Fin.ext (congrArg BitVec.toNat (hte j k e))
      hnx := fun j k _ _ hf e => by
        have := hnx j k hf e
        have hk := ht k
        rw [dif_pos (by rw [this]; exact hk)]
        exact Fin.ext (congrArg BitVec.toNat this) }
  refine ⟨S, fun n => ⟨_, hv n⟩, ?_⟩
  refine ⟨fun j => ?_, fun j hj => ?_, fun j => ?_, fun j => ?_, fun j => ?_, fun j hf hl => ?_, hng⟩
  · refine word _ _ ?_
    show _ = (te (ix1 (tile j.val))).toNat
    rw [tile_val]
  · have hj' : (nv (ix1 (tile j.val))).toNat ≠ 0 := hj
    rw [tile_val] at hj'
    rcases (hp j j).1.1.1.1.1 with h | h
    · rw [h] at hj'; exact absurd rfl hj'
    · exact h
  · refine word _ _ ?_
    show _ = (nv (ix1 (tile j.val))).toNat
    rw [tile_val]
  · show _ ↔ first (ix1 (tile j.val)) = 1#32
    rw [tile_val]
  · refine word _ _ ?_
    show _ = (group (ix1 (tile j.val))).toNat
    rw [tile_val]
  · have hl' : S.grp j.val + 1 ≤ S.grp 39 := by have := S.hng; omega
    obtain ⟨k, hk, ek⟩ := S.surj 39 (by omega) _ hl'
    have hf' : first (ix1 (tile j.val)) = 1#32 := hf
    have e := hnx j.val k hf' ek
    have e2 := S.hnx j.val k j.isLt hk hf ek
    rw [e2]
    rw [tile_val] at e
    rw [e]
    exact word _ _ rfl

end Cert.Pre_tables_of_tiles
end
-- ==== Proof.UpIRun.lean ====
/- The run with the arguments' ends named. -/
module

public import proofs.«01_k».proof.Proof.UpILaunch
public import proofs.«01_k».proof.Proof.UpTables

@[expose] public section

set_option maxRecDepth 16384

noncomputable section

namespace Cert.MoeUpIdeal.Hand

open Cert.MoeUpIdeal Cert.MoeUpIdeal.Gen
open Cert.Moe
open Idealize.ShloMosaic Idealize.ShloMosaic.TcCoe Idealize.SL.Sem
open Idealize.ShloMosaic.Pipeline (mem_restRefs_of)

variable {F : FTy → Type} [FloatOps F]
variable (m : (ℓ : Loc nD τ sig) → Buf (Elt F) ℓ) (ρ : Dev nD → PrngReg) {S : Sched} {nv : Nat → Fin 513}

/-- The tables of every core, from the precondition of each. -/
theorem tables_of_pre (h : ∀ c : Dev nD, Cert.Pre_tables_of_tiles.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) = fun _ => 1#1) :
    ∃ (S : Sched) (nv : Nat → Fin 513), Tables m S nv := by
  obtain ⟨h1, h2⟩ := Cert.Pre_tables_of_tiles.read _ _ _ _ _ _ _ _ _ _ (h 0)
  obtain ⟨S, v, r⟩ := Cert.Pre_tables_of_tiles.exists_read h1 h2
  have e : ∀ c : Dev nD, c = 0 := fun c => Subsingleton.elim _ _
  refine ⟨S, v, ⟨fun c j => ?_, fun c j hj => ?_, fun c j => ?_, fun c j => ?_, fun c j => ?_, fun c j hf hl => ?_, fun c => ?_⟩⟩ <;> rw [e c]
  · exact r.te j
  · exact r.na j hj
  · exact r.nv j
  · exact r.fst j
  · exact r.grp j
  · exact r.nx j hf hl
  · exact r.ng

theorem apart (b : Ref sig .tc) (h0 : main_arg7 ≠ b) (h1 : main_v0 ≠ b) : ∀ w, ((pcs m 0).spec w).arr.view.ref ≠ b := fun w => by
  fin_cases w
  · exact h0
  · exact h1

/-- The run: the result at what the pipeline wrote, the arguments as they were, the counters at zero. -/
theorem run (hT : Tables m S nv) : θ_run (defs (F := F)) (onTc (τ := τ) (main (F := F))) ⟨m, fun _ => 0, ρ⟩ (fun r => (∀ c : Dev nD,
      r.2.mem ((c.tc : Thread nD τ).loc main_v0) = (dats m S nv 0 c).arrAt 1 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) := by
  refine (θ_run (defs (F := F)) _ _).mono (fun r h => ⟨fun c => ?_, h.2⟩) (run_main m ρ hT)
  have h1 := h.1 c
  refine ⟨h1.1 1, h1.2 main_arg0 ?_, h1.2 main_arg1 ?_, h1.2 main_arg2 ?_, h1.2 main_arg3 ?_, h1.2 main_arg4 ?_, h1.2 main_arg5 ?_, h1.2 main_arg6 ?_,
    (h1.1 0).trans ((dats m S nv 0 c).arrAt_in 0 rfl _), h1.2 main_arg8 ?_, h1.2 main_arg9 ?_⟩ <;>
  exact mem_restRefs_of _ rfl (apart m _ (by decide) (by decide))

/-- The frame's statement. -/
theorem frame (hT : Tables m S nv) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run (defs (F := F)) _ _).mono (fun _ h => ⟨fun c => (h.1 c).2, h.2⟩) (run m ρ hT)

end Cert.MoeUpIdeal.Hand
end
-- ==== Proof.UpValue.lean ====
/- What the kernel computes over the extended reals: the gated product of each kept row with its expert's two weights. -/
module

public import proofs.«01_k».proof.Proof.UpIRun
public import Idealize.ShloMosaic.Lib.Pipeline.ValueKit
public import Idealize.ShloMosaic.Lib.Pipeline.Covers
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeUpIdeal.Hand

open Cert.MoeUpIdeal Cert.MoeUpIdeal.Gen Cert.Moe

/-- The gate of a value: the value times its logistic. -/
def silu (a : EReal) : EReal := a * Ideal.logistic a

/-- The gated product of row `i` at column `j` with expert `e`'s weights. -/
def gated (A : FVec Ideal S20480x2048 .bf16) (Wg Wu : FVec Ideal S1x8x2048x7168 .f32) (e : Fin 8) (i : Fin 20480) (j : Fin 7168) : EReal :=
  silu (∑ k : Fin 2048, A (ix2 i k) * Wg (ix4 0 e k j)) * ∑ k : Fin 2048, A (ix2 i k) * Wu (ix4 0 e k j)

/-- The result: the rows in the groups of 128 that hold a counted row, multiplied; zero elsewhere. -/
def whole (te : Nat → Fin 8) (nv : Nat → Fin 513) (A : FVec Ideal S20480x2048 .bf16) (Wg Wu : FVec Ideal S1x8x2048x7168 .f32) (i : Fin 20480) (j : Fin 7168) : EReal :=
  if 128 * (i.val % 512 / 128) < (nv (i.val / 512)).val then gated A Wg Wu (te (i.val / 512)) i j else 0

/-- The product of a block's row. -/
def prod (A : Vec Ideal S512x2048 .bf16) (g u : Vec Ideal S1x1x2048x1024 .f32) (r : Fin 512) (q : Fin 1024) : EReal :=
  silu (∑ k : Fin 2048, A (ix2 r k) * g (ix4 0 0 k q)) * ∑ k : Fin 2048, A (ix2 r k) * u (ix4 0 0 k q)

theorem pay2 (A : Vec Ideal S128x2048 .bf16) (g u : Vec Ideal S1x1x2048x1024 .f32) (r : Fin 128) (q : Fin 1024) :
    k0_pay2 A g u (ix2 r q) = silu (∑ k : Fin 2048, A (ix2 r k) * g (ix4 0 0 k q)) * ∑ k : Fin 2048, A (ix2 r k) * u (ix4 0 0 k q) := by
  unfold silu
  pointwise [k0_pay2]
theorem pay4 (A : Vec Ideal S256x2048 .bf16) (g u : Vec Ideal S1x1x2048x1024 .f32) (r : Fin 256) (q : Fin 1024) :
    k0_pay4 A g u (ix2 r q) = silu (∑ k : Fin 2048, A (ix2 r k) * g (ix4 0 0 k q)) * ∑ k : Fin 2048, A (ix2 r k) * u (ix4 0 0 k q) := by
  unfold silu
  pointwise [k0_pay4]
theorem pay6 (A : Vec Ideal S384x2048 .bf16) (g u : Vec Ideal S1x1x2048x1024 .f32) (r : Fin 384) (q : Fin 1024) :
    k0_pay6 A g u (ix2 r q) = silu (∑ k : Fin 2048, A (ix2 r k) * g (ix4 0 0 k q)) * ∑ k : Fin 2048, A (ix2 r k) * u (ix4 0 0 k q) := by
  unfold silu
  pointwise [k0_pay6]
theorem pay8 (A : Vec Ideal S512x2048 .bf16) (g u : Vec Ideal S1x1x2048x1024 .f32) (r : Fin 512) (q : Fin 1024) :
    k0_pay8 A g u (ix2 r q) = silu (∑ k : Fin 2048, A (ix2 r k) * g (ix4 0 0 k q)) * ∑ k : Fin 2048, A (ix2 r k) * u (ix4 0 0 k q) := by
  unfold silu
  pointwise [k0_pay8]
theorem pay1 (y : S512x1024.Idx) : k0_pay1 (F := Ideal) y = 0 := by
  show Ideal.ofBits .bf16 0x0000#16 = 0
  simp [Ideal.ofBits, Ideal.ieee]

theorem local_eq {n : Nat} (r : Fin 512) (q : Fin 1024) (h : r.val < n) (hh) :
    (Rect.unitLocal (s := S512x1024) (off := ![0, 0]) (size := ![n, 1024]) (ix2 r q) hh : (a : Fin 2) → Fin (![n, 1024] a)) = ix2 (⟨r.val, h⟩ : Fin n) q := by
  funext a; fin_cases a <;> rfl

theorem o128 (A : Vec Ideal S512x2048 .bf16) (g u : Vec Ideal S1x1x2048x1024 .f32) (r : Fin 512) (q : Fin 1024) :
    out128 A g u (ix2 r q) = if r.val < 128 then prod A g u r q else 0 := by
  unfold out128
  by_cases h : r.val < 128
  · rw [if_pos h, dif_pos ⟨Nat.zero_le _, by show r.val < 0 + 128; omega⟩]
    refine (congrArg (k0_pay2 (top128 A) g u) (local_eq r q h _)).trans ((pay2 _ g u ⟨r.val, h⟩ q).trans ?_)
    have e : ∀ k, top128 A (ix2 (⟨r.val, h⟩ : Fin 128) k) = A (ix2 r k) := fun k => congrArg A (funext fun a => by fin_cases a <;> exact Fin.ext (by simp [Rect.unit, Rect.emb]))
    simp only [e]; rfl
  · rw [if_neg h, dif_neg (fun hh => h (by have : r.val < 0 + 128 := hh.2; omega)), pay1]
theorem o256 (A : Vec Ideal S512x2048 .bf16) (g u : Vec Ideal S1x1x2048x1024 .f32) (r : Fin 512) (q : Fin 1024) :
    out256 A g u (ix2 r q) = if r.val < 256 then prod A g u r q else 0 := by
  unfold out256
  by_cases h : r.val < 256
  · rw [if_pos h, dif_pos ⟨Nat.zero_le _, by show r.val < 0 + 256; omega⟩]
    refine (congrArg (k0_pay4 (top256 A) g u) (local_eq r q h _)).trans ((pay4 _ g u ⟨r.val, h⟩ q).trans ?_)
    have e : ∀ k, top256 A (ix2 (⟨r.val, h⟩ : Fin 256) k) = A (ix2 r k) := fun k => congrArg A (funext fun a => by fin_cases a <;> exact Fin.ext (by simp [Rect.unit, Rect.emb]))
    simp only [e]; rfl
  · rw [if_neg h, dif_neg (fun hh => h (by have : r.val < 0 + 256 := hh.2; omega)), pay1]
theorem o384 (A : Vec Ideal S512x2048 .bf16) (g u : Vec Ideal S1x1x2048x1024 .f32) (r : Fin 512) (q : Fin 1024) :
    out384 A g u (ix2 r q) = if r.val < 384 then prod A g u r q else 0 := by
  unfold out384
  by_cases h : r.val < 384
  · rw [if_pos h, dif_pos ⟨Nat.zero_le _, by show r.val < 0 + 384; omega⟩]
    refine (congrArg (k0_pay6 (top384 A) g u) (local_eq r q h _)).trans ((pay6 _ g u ⟨r.val, h⟩ q).trans ?_)
    have e : ∀ k, top384 A (ix2 (⟨r.val, h⟩ : Fin 384) k) = A (ix2 r k) := fun k => congrArg A (funext fun a => by fin_cases a <;> exact Fin.ext (by simp [Rect.unit, Rect.emb]))
    simp only [e]; rfl
  · rw [if_neg h, dif_neg (fun hh => h (by have : r.val < 0 + 384 := hh.2; omega)), pay1]
theorem o512 (A : Vec Ideal S512x2048 .bf16) (g u : Vec Ideal S1x1x2048x1024 .f32) (r : Fin 512) (q : Fin 1024) :
    out512 A g u (ix2 r q) = prod A g u r q := by
  unfold out512
  rw [dif_pos ⟨Nat.zero_le _, by show r.val < 0 + 512; omega⟩]
  refine (congrArg (k0_pay8 (top512 A) g u) (local_eq r q r.isLt _)).trans ((pay8 _ g u r q).trans ?_)
  have e : ∀ k, top512 A (ix2 r k) = A (ix2 r k) := fun k => congrArg A (funext fun a => by fin_cases a <;> exact Fin.ext (by simp [Rect.unit, Rect.emb]))
  simp only [e]; rfl

/-- A point's block, whatever it counts. -/
theorem outB_apply (n : Fin 513) (A : Vec Ideal S512x2048 .bf16) (g u : Vec Ideal S1x1x2048x1024 .f32) (r : Fin 512) (q : Fin 1024) :
    outB n.val A g u (ix2 r q) = if 128 * (r.val / 128) < n.val then prod A g u r q else 0 := by
  have hr := r.isLt
  have hn := n.isLt
  unfold outB
  by_cases h0 : n.val = 0
  · rw [if_pos h0, pay1, if_neg (by omega)]
  rw [if_neg h0]
  by_cases h1 : n.val ≤ 128
  · rw [if_pos h1, o128]; exact if_congr (by omega) rfl rfl
  rw [if_neg h1]
  by_cases h2 : n.val ≤ 256
  · rw [if_pos h2, o256]; exact if_congr (by omega) rfl rfl
  rw [if_neg h2]
  by_cases h3 : n.val ≤ 384
  · rw [if_pos h3, o384]; exact if_congr (by omega) rfl rfl
  rw [if_neg h3, o512, if_pos (by omega)]

/-! ## The blocks -/

variable (m : (ℓ : Loc nD τ sig) → Buf (Elt Ideal) ℓ) {S : Sched} {nv : Nat → Fin 513}

theorem gW_apply (c : Dev nD) (W : Buf (Elt Ideal) ((c : Thread nD τ).loc main_arg8)) (e : Fin 8) (k : Fin 7) (l : Fin 2048) (q : Fin 1024) :
    gW c W e k (ix4 0 0 l q) = (W : FVec Ideal S1x8x2048x7168 .f32) (ix4 0 e l ⟨1024 * k.val + q.val, by have := q.isLt; have := k.isLt; omega⟩) := by
  refine congrArg (W : FVec Ideal S1x8x2048x7168 .f32) (funext fun a => ?_)
  fin_cases a <;> exact Fin.ext (by simp [Rect.unit, Rect.emb])
theorem uW_apply (c : Dev nD) (W : Buf (Elt Ideal) ((c : Thread nD τ).loc main_arg9)) (e : Fin 8) (k : Fin 7) (l : Fin 2048) (q : Fin 1024) :
    uW c W e k (ix4 0 0 l q) = (W : FVec Ideal S1x8x2048x7168 .f32) (ix4 0 e l ⟨1024 * k.val + q.val, by have := q.isLt; have := k.isLt; omega⟩) := by
  refine congrArg (W : FVec Ideal S1x8x2048x7168 .f32) (funext fun a => ?_)
  fin_cases a <;> exact Fin.ext (by simp [Rect.unit, Rect.emb])

theorem idxOut : ∀ i : grid0.Coords, cc0_transform_3 i = ![(i 1).val, (i 0).val] := by decide +kernel

theorem covers : ((cfgA m).win (1 : Fin 2)).Covers := by
  have hb : ∀ β : (a : Fin 2) → Fin (![40, 7] a), ∃ i : grid0.Coords, ∀ a, cc0_transform_3 i a = (β a).val := by
    intro β
    have h0 : (β (0 : Fin 2)).val < 40 := (β (0 : Fin 2)).isLt
    have h1 : (β (1 : Fin 2)).val < 7 := (β (1 : Fin 2)).isLt
    refine ⟨fun a => match a with | ⟨0, _⟩ => (⟨(β (1 : Fin 2)).val, h1⟩ : Fin 7) | ⟨1, _⟩ => (⟨(β (0 : Fin 2)).val, h0⟩ : Fin 40), fun a => ?_⟩
    rw [idxOut]
    fin_cases a <;> rfl
  have hs : ∀ a : Fin 2, 0 < S512x1024.size a := by decide
  have hn : ∀ a : Fin 2, ((cfgA m).win (1 : Fin 2)).nblk a = ![40, 7] a := fun a => by
    fin_cases a
    · show (20480 + 512 - 1) / 512 = 40; norm_num
    · show (7168 + 1024 - 1) / 1024 = 7; norm_num
  refine Pipeline.Window.covers_of_indexMap_surj ((cfgA m).win (1 : Fin 2)) rfl hs fun β => ?_
  obtain ⟨i, hi⟩ := hb (fun a => (β a).cast (hn a))
  exact ⟨i, hi⟩

theorem t_lt (t : Fin (cfgA m).N) : t.val < 280 := by
  have h : (cfgA m).N = 280 := (by decide +kernel : grid0.N = 280)
  have := t.isLt
  omega

theorem index1 (t : Fin (cfgA m).N) : ((cfgA m).win (1 : Fin 2)).index t = ![t.val % 40, t.val / 40] := by
  refine (idxOut (crd m t)).trans ?_
  rw [crd0, crd1]

theorem index0 (hT : Tables m S nv) (t : Fin (cfgA m).N) (h : (nv (t.val % 40)).val ≠ 0) : ((cfgA m).win (0 : Fin 2)).index t = ![t.val % 40, 0] := by
  refine (trans_eq (pfN m) (crd m t)).trans ?_
  have e : (pfN m).at 1 (Rect.unit (s := S1) ![0] S1.size inb_S1_S1_0) numel1_S1 = m (((0 : Dev nD) : Thread nD τ).loc main_arg1) (ix1 (0 : Fin 1)) := by
    refine congrArg (m (((0 : Dev nD) : Thread nD τ).loc main_arg1)) (funext fun a => ?_)
    fin_cases a; exact Fin.ext (by show 0 + 0 * 1 = 0; rfl)
  have hj : t.val % 40 < 40 := Nat.mod_lt _ (by decide)
  rw [e, crd1, rowTile_eq _ hj _ (hT.na 0 ⟨t.val % 40, hj⟩ h)]

theorem rows (hT : Tables m S nv) (c : Dev nD) (t : Fin (cfgA m).N) (h : (nv (t.val % 40)).val ≠ 0) (r : Fin 512) (k : Fin 2048) :
    (iblk m c (0 : Fin 2) t : FVec Ideal S512x2048 .bf16) (ix2 r k)
      = (m ((c : Thread nD τ).loc main_arg7) : FVec Ideal S20480x2048 .bf16) (ix2 ⟨t.val % 40 * 512 + r.val, by have := r.isLt; omega⟩ k) := by
  have e := index0 m hT t h
  blk_ext [iblk, e]

/-- The whole result. -/
theorem final (hT : Tables m S nv) (c : Dev nD) :
    (dats m S nv 0 c).arrAt (1 : Fin 2) (cfgA m).N = fun i : S20480x7168.Idx => whole S.te nv (m ((c : Thread nD τ).loc main_arg7))
      (m ((c : Thread nD τ).loc main_arg8)) (m ((c : Thread nD τ).loc main_arg9)) (i 0) (i 1) := by
  refine (dats m S nv 0 c).arrAt_eq_of_covers (1 : Fin 2) _ (covers m) fun t _ y => ?_
  blk_simp
  rw [after0_1]
  obtain ⟨r, q, rfl⟩ : ∃ (r : Fin 512) (q : Fin 1024), y = ix2 r q := ⟨y 0, y 1, eq_ix2 y⟩
  have ht := t_lt m t
  have f : (((View.whole main_v0).slice (((cfgA m).win (1 : Fin 2)).rect t)).emb (ix2 r q) : S20480x7168.Idx) = ix2 ⟨t.val % 40 * 512 + r.val, by have := r.isLt; omega⟩ ⟨t.val / 40 * 1024 + q.val, by have := q.isLt; omega⟩ := by
    blk_ext [index1 m t]
  refine Eq.trans ?_ (congrArg (fun i : S20480x7168.Idx => whole S.te nv (m ((c : Thread nD τ).loc main_arg7))
      (m ((c : Thread nD τ).loc main_arg8)) (m ((c : Thread nD τ).loc main_arg9)) (i 0) (i 1)) f.symm)
  refine (outB_apply (nv (t.val % 40)) _ _ _ r q).trans ?_
  show _ = whole S.te nv _ _ _ (⟨t.val % 40 * 512 + r.val, by have := r.isLt; omega⟩ : Fin 20480) (⟨t.val / 40 * 1024 + q.val, by have := q.isLt; omega⟩ : Fin 7168)
  have hr := r.isLt
  have hi : (t.val % 40 * 512 + r.val) / 512 = t.val % 40 := by omega
  have hm : (t.val % 40 * 512 + r.val) % 512 = r.val := by omega
  unfold whole
  simp only [hi, hm]
  by_cases h : 128 * (r.val / 128) < (nv (t.val % 40)).val
  · rw [if_pos h, if_pos h]
    have hk : kB S (S.blk t.val) = ⟨t.val / 40, by omega⟩ := S.kb_blk 7 (by decide) t.val ⟨t.val / 40, by omega⟩ rfl
    have e : ∀ l : Nat, 1024 * l = l * 1024 := fun l => Nat.mul_comm _ _
    unfold prod gated
    rw [hk, S.eb_blk]
    simp only [rows m hT c t (by omega), gW_apply, uW_apply, e]
  · rw [if_neg h, if_neg h]

end Cert.MoeUpIdeal.Hand
end
-- ==== Proof.UpRef.lean ====
/- The reference of the experts' up projection, read entry by entry. -/
module

public import proofs.«01_k».proof.Proof.UpValue
public import proofs.«01_k».proof.Proof.Gen.MoeUpReferenceIdeal.Run
public import Idealize.ShloMosaic.Lib.Pointwise

@[expose] public section

set_option maxRecDepth 16384

noncomputable section

open Idealize.ShloMosaic Idealize.ShloMosaic.TcCoe Idealize.SL.Sem

namespace Cert.MoeUpReferenceIdeal.Pure

open Cert.MoeUpReferenceIdeal Cert.MoeUpReferenceIdeal.Gen
open Cert.MoeUpIdeal.Hand (silu gated whole)

/-- The expert of each row: its tile's. -/
def expert (te : IVec S40 32) : IVec S20480 32 :=
  shapeCast _ (broadcastInDim S40x512 ![0, 1] bcast_S40x1_S40x512_0_1 (broadcastInDim S40x1 ![0] bcast_S40_S40x1_0 te)) shapeCasts_S40x512_S20480

theorem expert_apply (te : IVec S40 32) (i : Fin 20480) : expert te (ix1 i) = te (ix1 (⟨i.val / 512, by have := i.isLt; omega⟩ : Fin 40)) := by
  pointwise [expert]

/-- Which rows are kept: those of a group of 128 that starts before the tile's count. -/
def kept (nv : IVec S40 32) : IVec S20480 1 :=
  shapeCast _ (cmpi .slt (muli (broadcastInDim S40x4x128 ![] bcast_S_S40x4x128 (constantI S_ 32 128#32)) (iotaInDim S40x4x128 32 1)) (broadcastInDim S40x4x128 ![0, 1, 2] bcast_S40x1x1_S40x4x128_0_1_2 (broadcastInDim S40x1x1 ![0] bcast_S40_S40x1x1_0 nv))) shapeCasts_S40x4x128_S20480

theorem kept_apply (nv : IVec S40 32) (i : Fin 20480) : kept nv (ix1 i)
    = IntOp.cmpi .slt (IntOp.muli 128#32 (BitVec.ofNat 32 (i.val % 512 / 128))) (nv (ix1 (⟨i.val / 512, by have := i.isLt; omega⟩ : Fin 40))) := by
  have e : i.val % 512 / 128 = i.val / 128 % 4 := by omega
  rw [e]
  pointwise [kept]

/-- One expert's weight out of the stack. -/
def weight (W : FVec Ideal S1x8x2048x7168 .f32) (e : Nat) (h : S1x8x2048x7168.Slices ![0, e, 0, 0] S1x1x2048x7168) : FVec Ideal S2048x7168 .f32 :=
  shapeCast _ (extractStridedSlice S1x1x2048x7168 ![0, e, 0, 0] W h) shapeCasts_S1x1x2048x7168_S2048x7168

theorem weight_apply (W : FVec Ideal S1x8x2048x7168 .f32) (e : Fin 8) (h) (k : Fin 2048) (j : Fin 7168) : weight W e.val h (ix2 k j) = W (ix4 0 e k j) := by
  unfold weight
  have p : ∀ Y : FVec Ideal S1x1x2048x7168 .f32, shapeCast S2048x7168 Y shapeCasts_S1x1x2048x7168_S2048x7168 (ix2 k j) = Y (ix4 0 0 k j) := by intro Y; pointwise
  rw [p]
  exact congrArg W (funext fun a => by fin_cases a <;> exact Fin.ext (by simp))

/-- The rows against one expert's weight. -/
def prod (A : FVec Ideal S20480x2048 .bf16) (B : FVec Ideal S2048x7168 .f32) : FVec Ideal S20480x7168 .f32 :=
  Host.dotGeneral dot_S20480x2048_S2048x7168_S20480x7168_1_0_0_1_n_n none (extf .f32 A bitsLt_bf16_f32) B

theorem prod_apply (A : FVec Ideal S20480x2048 .bf16) (B : FVec Ideal S2048x7168 .f32) (i : Fin 20480) (j : Fin 7168) :
    prod A B (ix2 i j) = ∑ k : Fin 2048, A (ix2 i k) * B (ix2 k j) := by
  pointwise [prod]

/-- The gated product. -/
def act (G U : FVec Ideal S20480x7168 .f32) : FVec Ideal S20480x7168 .f32 :=
  mulf (mulf G (Host.divf (broadcastInDim S20480x7168 ![] bcast_S_S20480x7168 (constant S_ .f32 0x3F800000#32)) (addf (broadcastInDim S20480x7168 ![] bcast_S_S20480x7168 (constant S_ .f32 0x3F800000#32)) (Host.exp (Host.negf G))))) U

theorem one : Ideal.ofBits .f32 0x3F800000#32 = (1 : EReal) := by
  rw [show Ideal.ofBits .f32 0x3F800000#32 = ((1 : ℝ) : EReal) from by simp [Ideal.ofBits, Ideal.ieee]; norm_num; rw [← EReal.coe_mul]; norm_num]
  exact EReal.coe_one

theorem act_apply (G U : FVec Ideal S20480x7168 .f32) (i : S20480x7168.Idx) : act G U i = silu (G i) * U i := by
  unfold silu Ideal.logistic
  pointwise [act]

/-- One expert's turn: its rows take its product, the others keep what they had. -/
def pick (te : IVec S40 32) (e : BitVec 32) (n h : FVec Ideal S20480x7168 .f32) : FVec Ideal S20480x7168 .f32 :=
  select (broadcastInDim S20480x7168 ![0, 1] bcast_S20480x1_S20480x7168_0_1 (broadcastInDim S20480x1 ![0] bcast_S20480_S20480x1_0 (cmpi .eq (expert te) (broadcastInDim S20480 ![] bcast_S_S20480 (constantI S_ 32 e))))) n h

theorem pick_apply (te : IVec S40 32) (e : BitVec 32) (n h : FVec Ideal S20480x7168 .f32) (i : Fin 20480) (j : Fin 7168) :
    pick te e n h (ix2 i j) = if IntOp.cmpi .eq (te (ix1 (⟨i.val / 512, by have := i.isLt; omega⟩ : Fin 40))) e = 1#1 then n (ix2 i j) else h (ix2 i j) := by
  rw [← expert_apply te i]
  generalize hE : expert te = E
  unfold pick
  rw [hE]
  pointwise
  rfl

/-- The value of one expert, over its slice of the two weights. -/
def turn (A : FVec Ideal S20480x2048 .bf16) (Wg Wu : FVec Ideal S1x8x2048x7168 .f32) (e : Nat) (h : S1x8x2048x7168.Slices ![0, e, 0, 0] S1x1x2048x7168) : FVec Ideal S20480x7168 .f32 :=
  act (prod A (weight Wg e h)) (prod A (weight Wu e h))

theorem turn_apply (A : FVec Ideal S20480x2048 .bf16) (Wg Wu : FVec Ideal S1x8x2048x7168 .f32) (e : Fin 8) (h) (i : Fin 20480) (j : Fin 7168) :
    turn A Wg Wu e.val h (ix2 i j) = gated A Wg Wu e i j := by
  unfold turn
  rw [act_apply, prod_apply, prod_apply]
  unfold gated
  simp only [weight_apply]

/-- Zeros. -/
def zeros : FVec Ideal S20480x7168 .f32 := broadcastInDim S20480x7168 ![] bcast_S_S20480x7168 (constant S_ .f32 0x00000000#32)
theorem zeros_apply (i : S20480x7168.Idx) : zeros i = 0 := by
  pointwise [zeros]

/-- Every expert's turn. -/
def turns (te : IVec S40 32) (A : FVec Ideal S20480x2048 .bf16) (Wg Wu : FVec Ideal S1x8x2048x7168 .f32) : FVec Ideal S20480x7168 .f32 :=
  pick te 7#32 (turn A Wg Wu 7 slices_S1x8x2048x7168_S1x1x2048x7168_0_7_0_0)
  (pick te 6#32 (turn A Wg Wu 6 slices_S1x8x2048x7168_S1x1x2048x7168_0_6_0_0)
  (pick te 5#32 (turn A Wg Wu 5 slices_S1x8x2048x7168_S1x1x2048x7168_0_5_0_0)
  (pick te 4#32 (turn A Wg Wu 4 slices_S1x8x2048x7168_S1x1x2048x7168_0_4_0_0)
  (pick te 3#32 (turn A Wg Wu 3 slices_S1x8x2048x7168_S1x1x2048x7168_0_3_0_0)
  (pick te 2#32 (turn A Wg Wu 2 slices_S1x8x2048x7168_S1x1x2048x7168_0_2_0_0)
  (pick te 1#32 (turn A Wg Wu 1 slices_S1x8x2048x7168_S1x1x2048x7168_0_1_0_0)
  (pick te 0#32 (turn A Wg Wu 0 slices_S1x8x2048x7168_S1x1x2048x7168_0_0_0_0) zeros)))))))

theorem turns_apply (te : IVec S40 32) (A : FVec Ideal S20480x2048 .bf16) (Wg Wu : FVec Ideal S1x8x2048x7168 .f32) (e : Fin 8) (i : Fin 20480) (j : Fin 7168)
    (h : te (ix1 (⟨i.val / 512, by have := i.isLt; omega⟩ : Fin 40)) = BitVec.ofNat 32 e.val) : turns te A Wg Wu (ix2 i j) = gated A Wg Wu e i j := by
  unfold turns
  simp only [pick_apply]
  rw [h]
  have g : ∀ (n : Nat) (hn : n < 8) (h), turn A Wg Wu n h (ix2 i j) = gated A Wg Wu ⟨n, hn⟩ i j := fun n hn h => turn_apply A Wg Wu ⟨n, hn⟩ h i j
  rw [g 7 (by decide), g 6 (by decide), g 5 (by decide), g 4 (by decide), g 3 (by decide), g 2 (by decide), g 1 (by decide), g 0 (by decide)]
  fin_cases e <;> simp [IntOp.cmpi]

/-- The reference. -/
def ref (te nv : IVec S40 32) (A : FVec Ideal S20480x2048 .bf16) (Wg Wu : FVec Ideal S1x8x2048x7168 .f32) : FVec Ideal S20480x7168 .bf16 :=
  truncf .bf16 (select (broadcastInDim S20480x7168 ![0, 1] bcast_S20480x1_S20480x7168_0_1 (broadcastInDim S20480x1 ![0] bcast_S20480_S20480x1_0 (kept nv))) (turns te A Wg Wu) zeros) bitsLt_bf16_f32

theorem ref_apply (te nv : IVec S40 32) (A : FVec Ideal S20480x2048 .bf16) (Wg Wu : FVec Ideal S1x8x2048x7168 .f32) (i : Fin 20480) (j : Fin 7168) :
    ref te nv A Wg Wu (ix2 i j) = if kept nv (ix1 i) = 1#1 then turns te A Wg Wu (ix2 i j) else zeros (ix2 i j) := by
  unfold ref
  generalize kept nv = K
  generalize turns te A Wg Wu = T
  generalize zeros = Z
  pointwise
  rfl

theorem word : ∀ (g : Fin 4) (n : Fin 513), (IntOp.cmpi .slt (IntOp.muli 128#32 (BitVec.ofNat 32 g.val)) (BitVec.ofNat 32 n.val) = 1#1) ↔ 128 * g.val < n.val := by
  decide +kernel

theorem at' (te nv : IVec S40 32) (A : FVec Ideal S20480x2048 .bf16) (Wg Wu : FVec Ideal S1x8x2048x7168 .f32) (T : Nat → Fin 8) (N : Nat → Fin 513)
    (hte : ∀ j : Fin 40, te (ix1 j) = BitVec.ofNat 32 (T j.val).val) (hnv : ∀ j : Fin 40, nv (ix1 j) = BitVec.ofNat 32 (N j.val).val) (i : Fin 20480) (j : Fin 7168) :
    ref te nv A Wg Wu (ix2 i j) = whole T N A Wg Wu i j := by
  rw [ref_apply, kept_apply, turns_apply te A Wg Wu (T (i.val / 512)) i j (hte ⟨i.val / 512, by have := i.isLt; omega⟩), zeros_apply, hnv]
  unfold whole
  have := word ⟨i.val % 512 / 128, by omega⟩ (N (i.val / 512))
  simp only [this]

/-- The run's term. -/
theorem term (L : Valuation τ sig (Elt Ideal)) :
    (truncf .bf16 (select (broadcastInDim S20480x7168 ![0, 1] bcast_S20480x1_S20480x7168_0_1 (broadcastInDim S20480x1 ![0] bcast_S20480_S20480x1_0 (kept (L (Proc.devRef .tc main_arg2)))))
      (pick (L (Proc.devRef .tc main_arg0)) 7#32 (act (Value.res_main_v101 L) (prod (L (Proc.devRef .tc main_arg7)) (weight (L (Proc.devRef .tc main_arg9)) 7 slices_S1x8x2048x7168_S1x1x2048x7168_0_7_0_0)))
        (pick (L (Proc.devRef .tc main_arg0)) 6#32 (act (Value.res_main_v89 L) (prod (L (Proc.devRef .tc main_arg7)) (weight (L (Proc.devRef .tc main_arg9)) 6 slices_S1x8x2048x7168_S1x1x2048x7168_0_6_0_0)))
          (Value.res_main_v83 L))) zeros) bitsLt_bf16_f32 : FVec Ideal S20480x7168 .bf16)
    = ref (L (Proc.devRef .tc main_arg0)) (L (Proc.devRef .tc main_arg2)) (L (Proc.devRef .tc main_arg7)) (L (Proc.devRef .tc main_arg8)) (L (Proc.devRef .tc main_arg9)) := by
  rfl

end Cert.MoeUpReferenceIdeal.Pure
end
-- ==== Proof.UpClaim.lean ====
/- The claims of the experts' up projection. -/
module

public import proofs.«01_k».proof.Defs
public import proofs.«01_k».proof.Proof.Gen.MoeUp
public import proofs.«01_k».proof.Proof.UpValue
public import proofs.«01_k».proof.Proof.UpRef
public import Idealize.ShloMosaic.Lib.Quiescent

@[expose] public section

set_option maxRecDepth 16384

noncomputable section

open Idealize.ShloMosaic Idealize.ShloMosaic.TcCoe Idealize.SL.Sem

namespace Cert.Proof.MoeUp

/-! The program as compiled and its idealisation are one program here, as nothing is rewritten: what is shown of the one at any float holds of the other. -/

theorem defs₀_eq : (Cert.MoeUp.defs₀ (F := Bits)) = Cert.MoeUpIdeal.defs₀ (F := Bits) := by
  funext p l a
  cases p with
  | tc =>
    match l, a with
    | ⟨0, _⟩, (t, s) => rfl
    | ⟨n + 1, h⟩, _ => exact absurd h (Nat.not_lt.2 (Nat.le_add_left _ _))
  | scScalar _ => rfl
  | scVector _ _ => rfl
theorem defs_eq : (Cert.MoeUp.defs (F := Bits)) = Cert.MoeUpIdeal.defs (F := Bits) :=
  congrArg (Pipeline.defs (Cert.MoeUp.pcfgs (F := Bits))) defs₀_eq
theorem frame : Cert.quiescent_MoeUp := fun m ρ h => by
  obtain ⟨S, nv, hT⟩ := Cert.MoeUpIdeal.Hand.tables_of_pre (F := Bits) m h
  rw [defs_eq]
  exact Cert.MoeUpIdeal.Hand.frame (F := Bits) m ρ hT
theorem frameI : Cert.quiescent_MoeUpIdeal := fun m ρ h => by
  obtain ⟨S, nv, hT⟩ := Cert.MoeUpIdeal.Hand.tables_of_pre m h
  exact Cert.MoeUpIdeal.Hand.frame m ρ hT
theorem frameR : Cert.quiescent_MoeUpReferenceIdeal := fun m ρ _ =>
  (θ_run Cert.MoeUpReferenceIdeal.defs _ _).mono (fun r h => ⟨fun c => (h c).2, sem_eq_zero_of_no_sems (by decide) r.2⟩)
    (Cert.MoeUpReferenceIdeal.Value.run (F := Ideal) m ρ)
theorem frameRP : Cert.quiescent_MoeUpReferenceIdeal_pre_tables_of_tiles := fun m ρ _ =>
  (θ_run Cert.MoeUpReferenceIdeal.defs _ _).mono (fun r h => ⟨fun c => (h c).2, sem_eq_zero_of_no_sems (by decide) r.2⟩)
    (Cert.MoeUpReferenceIdeal.Value.run (F := Ideal) m ρ)

theorem algebraic : Cert.algebraic_MoeUpIdeal_MoeUpReferenceIdeal := by
  intro m ρ m' ρ' hpre hag
  obtain ⟨S, nv, hT⟩ := Cert.MoeUpIdeal.Hand.tables_of_pre m hpre
  refine ⟨fun c => fun i : Cert.MoeUpIdeal.S20480x7168.Idx => Cert.MoeUpIdeal.Hand.whole S.te nv
    (m ((c.tc : Thread Cert.MoeUpIdeal.nD Cert.MoeUpIdeal.τ).loc Cert.MoeUpIdeal.main_arg7))
    (m ((c.tc : Thread Cert.MoeUpIdeal.nD Cert.MoeUpIdeal.τ).loc Cert.MoeUpIdeal.main_arg8))
    (m ((c.tc : Thread Cert.MoeUpIdeal.nD Cert.MoeUpIdeal.τ).loc Cert.MoeUpIdeal.main_arg9)) (i 0) (i 1), ?_, ?_⟩
  · exact (θ_run Cert.MoeUpIdeal.defs _ _).mono (fun _ h c => ⟨(h.1 c).1.trans (Cert.MoeUpIdeal.Hand.final m hT c), (h.1 c).2⟩)
      (Cert.MoeUpIdeal.Hand.run m ρ hT)
  · refine (θ_run Cert.MoeUpReferenceIdeal.defs _ _).mono (fun _ h c => ⟨(h c).1.trans ?_, (h c).2⟩)
      (Cert.MoeUpReferenceIdeal.Value.run (F := Ideal) m' ρ')
    obtain ⟨a0, a1, a2, a3, a4, a5, a6, a7, a8, a9⟩ := hag c
    refine (Cert.MoeUpReferenceIdeal.Pure.term (StableHlo.launchContents m' c)).trans ?_
    show Cert.MoeUpReferenceIdeal.Pure.ref (m' ((c.tc : Thread Cert.MoeUpReferenceIdeal.nD Cert.MoeUpReferenceIdeal.τ).loc Cert.MoeUpReferenceIdeal.main_arg0))
      (m' ((c.tc : Thread Cert.MoeUpReferenceIdeal.nD Cert.MoeUpReferenceIdeal.τ).loc Cert.MoeUpReferenceIdeal.main_arg2))
      (m' ((c.tc : Thread Cert.MoeUpReferenceIdeal.nD Cert.MoeUpReferenceIdeal.τ).loc Cert.MoeUpReferenceIdeal.main_arg7))
      (m' ((c.tc : Thread Cert.MoeUpReferenceIdeal.nD Cert.MoeUpReferenceIdeal.τ).loc Cert.MoeUpReferenceIdeal.main_arg8))
      (m' ((c.tc : Thread Cert.MoeUpReferenceIdeal.nD Cert.MoeUpReferenceIdeal.τ).loc Cert.MoeUpReferenceIdeal.main_arg9)) = _
    rw [a0, a2, a7, a8, a9]
    funext i
    obtain ⟨i, j, rfl⟩ : ∃ (p : Fin 20480) (q : Fin 7168), i = ix2 p q := ⟨i 0, i 1, eq_ix2 i⟩
    exact Cert.MoeUpReferenceIdeal.Pure.at' _ _ _ _ _ S.te nv (hT.te c) (hT.nv c) i j

end Cert.Proof.MoeUp

end
-- ==== Proof.DownBody.lean ====
module

public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option synthInstance.maxSize 4096

noncomputable section

namespace Cert.MoeDownIdeal.Hand

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]

theorem dite_bnd {α β : Type} (c : Prop) [Decidable c] (a : c → Prog (TpuEff nD τ sig (Elt F) Λ₀ .tc) α) (b : ¬ c → Prog (TpuEff nD τ sig (Elt F) Λ₀ .tc) α)
    (k : α → Prog (TpuEff nD τ sig (Elt F) Λ₀ .tc) β) : (if h : c then a h else b h) >>= k = if h : c then a h >>= k else b h >>= k := by
  split <;> rfl
theorem bind_pure_unit' (p : Prog (TpuEff nD τ sig (Elt F) Λ₀ .tc) PUnit) : (p >>= fun _ => pure ⟨⟩) = p := bind_pure p

/-- Begin the copy of a block. -/
def issueOne (sa : Memref sig .tc .hbm S7168x512 .f32) (da : Memref sig .tc .vmem S7168x512 .f32) (ca : DmaSem sig)
    (hsa : sa.view.WordExact) (hda : da.view.WordExact) : Prog (TpuEff nD τ sig (Elt F) Λ₀ .tc) PUnit :=
  Prog.lift (.enqueueDma sa (.here da) (.dma ca) hsa hda ⟨Or.inl rfl, trivial⟩)
/-- Wait for it. -/
def waitOne (sa : Memref sig .tc .hbm S7168x512 .f32) (da : Memref sig .tc .vmem S7168x512 .f32) (ca : DmaSem sig)
    (hsa : sa.view.WordExact) (hda : da.view.WordExact) : Prog (TpuEff nD τ sig (Elt F) Λ₀ .tc) PUnit :=
  Prog.lift (.waitDma2 ca sa da hsa hda)
/-- Read a word of a table, assume a fact of it, go on with both. -/
def withWord (M : Memref sig .tc .smem S40 .i32) (o : Fin 1 → Nat) (h : ∀ a, o a + S1.size a ≤ S40.size a)
    (P : Elt F .i32 → Prop) (dec : ∀ v, Decidable (P v)) (K : ∀ v, P v → Prog (TpuEff nD τ sig (Elt F) Λ₀ .tc) PUnit) : Prog (TpuEff nD τ sig (Elt F) Λ₀ .tc) PUnit := do
  let v ← smemLoad M (Rect.unit (s := S40) o S1.size h) numel1_S1 rfl
  have hw : P v := (← Prog.lift (TpuEff.assume (P v) (dec v))).down
  K v hw
/-- The first block of all is begun. -/
def begin0 (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) (k0_h1 : k0_cond1 v7 = 1#1) (k0_h2 : k0_cond2 i v1 v2 = 1#1) : Prog (TpuEff nD τ sig (Elt F) Λ₀ .tc) PUnit :=
    withWord arg2 (k0_off2 i) (k0_off2_inb i) (fun w => k0_chk2 i v1 v2 v7 w) (fun w => k0_chk2.dec i v1 v2 v7 w) fun w hw =>
      issueOne ((arg10.slice (Rect.unit (s := S1x8x7168x2048) (k0_off5 i w) S1x1x7168x512.size (k0_off5_inb i v1 v2 v7 w hw k0_h1 k0_h2)) (fun _ => rfl)).squeeze S7168x512 squeezes_S1x1x7168x512_S7168x512)
      ((arg12.slice (Rect.unit (s := S2x1x7168x512) (k0_off4 i v1 v2) S1x1x7168x512.size (k0_off4_inb i v1 v2 v7 k0_hw1 k0_h1 k0_h2)) (fun _ => rfl)).squeeze S7168x512 squeezes_S1x1x7168x512_S7168x512)
      ((arg13.slice (Rect.unit (s := S2x1) (k0_off3 i v1 v2) S1x1.size (k0_off3_inb i v1 v2 v7 k0_hw1 k0_h1 k0_h2))).squeeze S_ squeezes_S1x1_S_).sem ((View.wordExact_bits rfl).reshape _ _) ((View.wordExact_bits rfl).reshape _ _)
/-- The next group's block is begun. -/
def beginN (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) (k0_h1 : k0_cond1 v7 = 1#1) (k0_h3 : k0_cond3 v1 v2 = 1#1) : Prog (TpuEff nD τ sig (Elt F) Λ₀ .tc) PUnit :=
    withWord arg7 (k0_off10 i) (k0_off10_inb i) (fun w => k0_chk4 i v1 v2 v7 w) (fun w => k0_chk4.dec i v1 v2 v7 w) fun w hw =>
      issueOne ((arg10.slice (Rect.unit (s := S1x8x7168x2048) (k0_off13 i w) S1x1x7168x512.size (k0_off13_inb i v1 v2 v7 w hw k0_h1 k0_h3)) (fun _ => rfl)).squeeze S7168x512 squeezes_S1x1x7168x512_S7168x512)
      ((arg12.slice (Rect.unit (s := S2x1x7168x512) (k0_off12 i v1 v2) S1x1x7168x512.size (k0_off12_inb i v1 v2 v7 k0_hw1 k0_h1 k0_h3)) (fun _ => rfl)).squeeze S7168x512 squeezes_S1x1x7168x512_S7168x512)
      ((arg13.slice (Rect.unit (s := S2x1) (k0_off11 i v1 v2) S1x1.size (k0_off11_inb i v1 v2 v7 k0_hw1 k0_h1 k0_h3))).squeeze S_ squeezes_S1x1_S_).sem ((View.wordExact_bits rfl).reshape _ _) ((View.wordExact_bits rfl).reshape _ _)
/-- The next column's first block is begun. -/
def beginC (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) (k0_h1 : k0_cond1 v7 = 1#1) (k0_h4 : k0_cond4 i v1 v2 = 1#1) : Prog (TpuEff nD τ sig (Elt F) Λ₀ .tc) PUnit :=
    withWord arg2 ![0] inb_S40_S1_0 (fun w => k0_chk5 i v1 v2 v7 w) (fun w => k0_chk5.dec i v1 v2 v7 w) fun w hw =>
      issueOne ((arg10.slice (Rect.unit (s := S1x8x7168x2048) (k0_off16 i w) S1x1x7168x512.size (k0_off16_inb i v1 v2 v7 w hw k0_h1 k0_h4)) (fun _ => rfl)).squeeze S7168x512 squeezes_S1x1x7168x512_S7168x512)
      ((arg12.slice (Rect.unit (s := S2x1x7168x512) (k0_off15 i v1 v2) S1x1x7168x512.size (k0_off15_inb i v1 v2 v7 k0_hw1 k0_h1 k0_h4)) (fun _ => rfl)).squeeze S7168x512 squeezes_S1x1x7168x512_S7168x512)
      ((arg13.slice (Rect.unit (s := S2x1) (k0_off14 i v1 v2) S1x1.size (k0_off14_inb i v1 v2 v7 k0_hw1 k0_h1 k0_h4))).squeeze S_ squeezes_S1x1_S_).sem ((View.wordExact_bits rfl).reshape _ _) ((View.wordExact_bits rfl).reshape _ _)
/-- The block of this group is waited for. -/
def waitB (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) (k0_h1 : k0_cond1 v7 = 1#1) : Prog (TpuEff nD τ sig (Elt F) Λ₀ .tc) PUnit :=
    withWord arg2 (k0_off6 i) (k0_off6_inb i) (fun w => k0_chk3 i v7 w) (fun w => k0_chk3.dec i v7 w) fun w hw =>
      waitOne ((arg10.slice (Rect.unit (s := S1x8x7168x2048) (k0_off9 i w) S1x1x7168x512.size (k0_off9_inb i v7 w hw k0_h1)) (fun _ => rfl)).squeeze S7168x512 squeezes_S1x1x7168x512_S7168x512)
      ((arg12.slice (Rect.unit (s := S2x1x7168x512) (k0_off8 i v1 v2) S1x1x7168x512.size (k0_off8_inb i v1 v2 v7 k0_hw1 k0_h1)) (fun _ => rfl)).squeeze S7168x512 squeezes_S1x1x7168x512_S7168x512)
      ((arg13.slice (Rect.unit (s := S2x1) (k0_off7 i v1 v2) S1x1.size (k0_off7_inb i v1 v2 v7 k0_hw1 k0_h1))).squeeze S_ squeezes_S1x1_S_).sem ((View.wordExact_bits rfl).reshape _ _) ((View.wordExact_bits rfl).reshape _ _)
/-- The streaming part of a step: the transfers it begins and the ones it waits for, over the words it has read. -/
def streamP (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) : Prog (TpuEff nD τ sig (Elt F) Λ₀ .tc) PUnit :=
    if k0_h1 : k0_cond1 v7 = 1#1 then (do
      if k0_h2 : k0_cond2 i v1 v2 = 1#1 then begin0 i arg2 arg7 arg10 arg12 arg13 v1 v2 v7 k0_hw1 k0_h1 k0_h2 else pure ⟨⟩
      waitB i arg2 arg7 arg10 arg12 arg13 v1 v2 v7 k0_hw1 k0_h1
      if k0_h3 : k0_cond3 v1 v2 = 1#1 then beginN i arg2 arg7 arg10 arg12 arg13 v1 v2 v7 k0_hw1 k0_h1 k0_h3 else pure ⟨⟩
      if k0_h4 : k0_cond4 i v1 v2 = 1#1 then beginC i arg2 arg7 arg10 arg12 arg13 v1 v2 v7 k0_hw1 k0_h1 k0_h4 else pure ⟨⟩) else pure ⟨⟩
/-- The computing part where 128 rows are counted: seven partial products added up. -/
def case5 (arg9 : Memref sig .tc .vmem S512x7168 .bf16) (arg11 : Memref sig .tc .vmem S512x512 .f32) (arg12 : Memref sig .tc .vmem S2x1x7168x512 .f32) (o0 o1 o2 o3 o4 o5 o6 : Fin 4 → Nat) (h0 : ∀ a, o0 a + S1x1x1024x512.size a ≤ S2x1x7168x512.size a) (h1 : ∀ a, o1 a + S1x1x1024x512.size a ≤ S2x1x7168x512.size a) (h2 : ∀ a, o2 a + S1x1x1024x512.size a ≤ S2x1x7168x512.size a) (h3 : ∀ a, o3 a + S1x1x1024x512.size a ≤ S2x1x7168x512.size a) (h4 : ∀ a, o4 a + S1x1x1024x512.size a ≤ S2x1x7168x512.size a) (h5 : ∀ a, o5 a + S1x1x1024x512.size a ≤ S2x1x7168x512.size a) (h6 : ∀ a, o6 a + S1x1x1024x512.size a ≤ S2x1x7168x512.size a) : Prog (TpuEff nD τ sig (Elt F) Λ₀ .tc) PUnit := do
  let v36 : Vec F S128x1024 .bf16 ← Prog.lift (.load arg9 (Rect.unit (s := S512x7168) ![0, 0] S128x1024.size inb_S512x7168_S128x1024_0_0).toLoadRect (View.loadsAt_vmem h_S128x1024))
  let v38 : Vec F S1x1x1024x512 .f32 ← Prog.lift (.load arg12 (Rect.unit (s := S2x1x7168x512) o0 S1x1x1024x512.size h0).toLoadRect (View.loadsAt_vmem h_S1x1x1024x512))
  let v42 : Vec F S128x1024 .bf16 ← Prog.lift (.load arg9 (Rect.unit (s := S512x7168) ![0, 1024] S128x1024.size inb_S512x7168_S128x1024_0_1024).toLoadRect (View.loadsAt_vmem h_S128x1024))
  let v44 : Vec F S1x1x1024x512 .f32 ← Prog.lift (.load arg12 (Rect.unit (s := S2x1x7168x512) o1 S1x1x1024x512.size h1).toLoadRect (View.loadsAt_vmem h_S1x1x1024x512))
  let v49 : Vec F S128x1024 .bf16 ← Prog.lift (.load arg9 (Rect.unit (s := S512x7168) ![0, 2048] S128x1024.size inb_S512x7168_S128x1024_0_2048).toLoadRect (View.loadsAt_vmem h_S128x1024))
  let v51 : Vec F S1x1x1024x512 .f32 ← Prog.lift (.load arg12 (Rect.unit (s := S2x1x7168x512) o2 S1x1x1024x512.size h2).toLoadRect (View.loadsAt_vmem h_S1x1x1024x512))
  let v56 : Vec F S128x1024 .bf16 ← Prog.lift (.load arg9 (Rect.unit (s := S512x7168) ![0, 3072] S128x1024.size inb_S512x7168_S128x1024_0_3072).toLoadRect (View.loadsAt_vmem h_S128x1024))
  let v58 : Vec F S1x1x1024x512 .f32 ← Prog.lift (.load arg12 (Rect.unit (s := S2x1x7168x512) o3 S1x1x1024x512.size h3).toLoadRect (View.loadsAt_vmem h_S1x1x1024x512))
  let v63 : Vec F S128x1024 .bf16 ← Prog.lift (.load arg9 (Rect.unit (s := S512x7168) ![0, 4096] S128x1024.size inb_S512x7168_S128x1024_0_4096).toLoadRect (View.loadsAt_vmem h_S128x1024))
  let v65 : Vec F S1x1x1024x512 .f32 ← Prog.lift (.load arg12 (Rect.unit (s := S2x1x7168x512) o4 S1x1x1024x512.size h4).toLoadRect (View.loadsAt_vmem h_S1x1x1024x512))
  let v70 : Vec F S128x1024 .bf16 ← Prog.lift (.load arg9 (Rect.unit (s := S512x7168) ![0, 5120] S128x1024.size inb_S512x7168_S128x1024_0_5120).toLoadRect (View.loadsAt_vmem h_S128x1024))
  let v72 : Vec F S1x1x1024x512 .f32 ← Prog.lift (.load arg12 (Rect.unit (s := S2x1x7168x512) o5 S1x1x1024x512.size h5).toLoadRect (View.loadsAt_vmem h_S1x1x1024x512))
  let v77 : Vec F S128x1024 .bf16 ← Prog.lift (.load arg9 (Rect.unit (s := S512x7168) ![0, 6144] S128x1024.size inb_S512x7168_S128x1024_0_6144).toLoadRect (View.loadsAt_vmem h_S128x1024))
  let v79 : Vec F S1x1x1024x512 .f32 ← Prog.lift (.load arg12 (Rect.unit (s := S2x1x7168x512) o6 S1x1x1024x512.size h6).toLoadRect (View.loadsAt_vmem h_S1x1x1024x512))
  let v84 : Vec F S128x512 .f32 ← Prog.lift (.load arg11 (Rect.unit (s := S512x512) ![0, 0] S128x512.size inb_S512x512_S128x512_0_0).toLoadRect (View.loadsAt_vmem h_S128x512))
  Prog.lift (.store arg11 (Rect.unit (s := S512x512) ![0, 0] S128x512.size inb_S512x512_S128x512_0_0) (k0_pay10 (k0_pay2 v36 v38 v42 v44 v49 v51 v56 v58) v63 (k0_pay3 v65) v70 v72 v77 v79) Finset.univ (View.stores_vmem_bits_univ h_S128x512 rfl) (.inl rfl))
  let v86 : Vec F S384x512 .f32 ← Prog.lift (.load arg11 (Rect.unit (s := S512x512) ![128, 0] S384x512.size inb_S512x512_S384x512_128_0).toLoadRect (View.loadsAt_vmem h_S384x512))
  Prog.lift (.store arg11 (Rect.unit (s := S512x512) ![128, 0] S384x512.size inb_S512x512_S384x512_128_0) (k0_pay11 (F := F)) Finset.univ (View.stores_vmem_bits_univ h_S384x512 rfl) (.inl rfl))
/-- The computing part where 256 rows are counted: seven partial products added up. -/
def case6 (arg9 : Memref sig .tc .vmem S512x7168 .bf16) (arg11 : Memref sig .tc .vmem S512x512 .f32) (arg12 : Memref sig .tc .vmem S2x1x7168x512 .f32) (o0 o1 o2 o3 o4 o5 o6 : Fin 4 → Nat) (h0 : ∀ a, o0 a + S1x1x1024x512.size a ≤ S2x1x7168x512.size a) (h1 : ∀ a, o1 a + S1x1x1024x512.size a ≤ S2x1x7168x512.size a) (h2 : ∀ a, o2 a + S1x1x1024x512.size a ≤ S2x1x7168x512.size a) (h3 : ∀ a, o3 a + S1x1x1024x512.size a ≤ S2x1x7168x512.size a) (h4 : ∀ a, o4 a + S1x1x1024x512.size a ≤ S2x1x7168x512.size a) (h5 : ∀ a, o5 a + S1x1x1024x512.size a ≤ S2x1x7168x512.size a) (h6 : ∀ a, o6 a + S1x1x1024x512.size a ≤ S2x1x7168x512.size a) : Prog (TpuEff nD τ sig (Elt F) Λ₀ .tc) PUnit := do
  let v36 : Vec F S256x1024 .bf16 ← Prog.lift (.load arg9 (Rect.unit (s := S512x7168) ![0, 0] S256x1024.size inb_S512x7168_S256x1024_0_0).toLoadRect (View.loadsAt_vmem h_S256x1024))
  let v38 : Vec F S1x1x1024x512 .f32 ← Prog.lift (.load arg12 (Rect.unit (s := S2x1x7168x512) o0 S1x1x1024x512.size h0).toLoadRect (View.loadsAt_vmem h_S1x1x1024x512))
  let v42 : Vec F S256x1024 .bf16 ← Prog.lift (.load arg9 (Rect.unit (s := S512x7168) ![0, 1024] S256x1024.size inb_S512x7168_S256x1024_0_1024).toLoadRect (View.loadsAt_vmem h_S256x1024))
  let v44 : Vec F S1x1x1024x512 .f32 ← Prog.lift (.load arg12 (Rect.unit (s := S2x1x7168x512) o1 S1x1x1024x512.size h1).toLoadRect (View.loadsAt_vmem h_S1x1x1024x512))
  let v49 : Vec F S256x1024 .bf16 ← Prog.lift (.load arg9 (Rect.unit (s := S512x7168) ![0, 2048] S256x1024.size inb_S512x7168_S256x1024_0_2048).toLoadRect (View.loadsAt_vmem h_S256x1024))
  let v51 : Vec F S1x1x1024x512 .f32 ← Prog.lift (.load arg12 (Rect.unit (s := S2x1x7168x512) o2 S1x1x1024x512.size h2).toLoadRect (View.loadsAt_vmem h_S1x1x1024x512))
  let v56 : Vec F S256x1024 .bf16 ← Prog.lift (.load arg9 (Rect.unit (s := S512x7168) ![0, 3072] S256x1024.size inb_S512x7168_S256x1024_0_3072).toLoadRect (View.loadsAt_vmem h_S256x1024))
  let v58 : Vec F S1x1x1024x512 .f32 ← Prog.lift (.load arg12 (Rect.unit (s := S2x1x7168x512) o3 S1x1x1024x512.size h3).toLoadRect (View.loadsAt_vmem h_S1x1x1024x512))
  let v63 : Vec F S256x1024 .bf16 ← Prog.lift (.load arg9 (Rect.unit (s := S512x7168) ![0, 4096] S256x1024.size inb_S512x7168_S256x1024_0_4096).toLoadRect (View.loadsAt_vmem h_S256x1024))
  let v65 : Vec F S1x1x1024x512 .f32 ← Prog.lift (.load arg12 (Rect.unit (s := S2x1x7168x512) o4 S1x1x1024x512.size h4).toLoadRect (View.loadsAt_vmem h_S1x1x1024x512))
  let v70 : Vec F S256x1024 .bf16 ← Prog.lift (.load arg9 (Rect.unit (s := S512x7168) ![0, 5120] S256x1024.size inb_S512x7168_S256x1024_0_5120).toLoadRect (View.loadsAt_vmem h_S256x1024))
  let v72 : Vec F S1x1x1024x512 .f32 ← Prog.lift (.load arg12 (Rect.unit (s := S2x1x7168x512) o5 S1x1x1024x512.size h5).toLoadRect (View.loadsAt_vmem h_S1x1x1024x512))
  let v77 : Vec F S256x1024 .bf16 ← Prog.lift (.load arg9 (Rect.unit (s := S512x7168) ![0, 6144] S256x1024.size inb_S512x7168_S256x1024_0_6144).toLoadRect (View.loadsAt_vmem h_S256x1024))
  let v79 : Vec F S1x1x1024x512 .f32 ← Prog.lift (.load arg12 (Rect.unit (s := S2x1x7168x512) o6 S1x1x1024x512.size h6).toLoadRect (View.loadsAt_vmem h_S1x1x1024x512))
  let v84 : Vec F S256x512 .f32 ← Prog.lift (.load arg11 (Rect.unit (s := S512x512) ![0, 0] S256x512.size inb_S512x512_S256x512_0_0).toLoadRect (View.loadsAt_vmem h_S256x512))
  Prog.lift (.store arg11 (Rect.unit (s := S512x512) ![0, 0] S256x512.size inb_S512x512_S256x512_0_0) (k0_pay12 (k0_pay4 v36 v38 v42 v44 v49 v51 v56 v58) v63 (k0_pay5 v65) v70 v72 v77 v79) Finset.univ (View.stores_vmem_bits_univ h_S256x512 rfl) (.inl rfl))
  let v86 : Vec F S256x512 .f32 ← Prog.lift (.load arg11 (Rect.unit (s := S512x512) ![256, 0] S256x512.size inb_S512x512_S256x512_256_0).toLoadRect (View.loadsAt_vmem h_S256x512))
  Prog.lift (.store arg11 (Rect.unit (s := S512x512) ![256, 0] S256x512.size inb_S512x512_S256x512_256_0) (k0_pay13 (F := F)) Finset.univ (View.stores_vmem_bits_univ h_S256x512 rfl) (.inl rfl))
/-- The computing part where 384 rows are counted: seven partial products added up. -/
def case7 (arg9 : Memref sig .tc .vmem S512x7168 .bf16) (arg11 : Memref sig .tc .vmem S512x512 .f32) (arg12 : Memref sig .tc .vmem S2x1x7168x512 .f32) (o0 o1 o2 o3 o4 o5 o6 : Fin 4 → Nat) (h0 : ∀ a, o0 a + S1x1x1024x512.size a ≤ S2x1x7168x512.size a) (h1 : ∀ a, o1 a + S1x1x1024x512.size a ≤ S2x1x7168x512.size a) (h2 : ∀ a, o2 a + S1x1x1024x512.size a ≤ S2x1x7168x512.size a) (h3 : ∀ a, o3 a + S1x1x1024x512.size a ≤ S2x1x7168x512.size a) (h4 : ∀ a, o4 a + S1x1x1024x512.size a ≤ S2x1x7168x512.size a) (h5 : ∀ a, o5 a + S1x1x1024x512.size a ≤ S2x1x7168x512.size a) (h6 : ∀ a, o6 a + S1x1x1024x512.size a ≤ S2x1x7168x512.size a) : Prog (TpuEff nD τ sig (Elt F) Λ₀ .tc) PUnit := do
  let v36 : Vec F S384x1024 .bf16 ← Prog.lift (.load arg9 (Rect.unit (s := S512x7168) ![0, 0] S384x1024.size inb_S512x7168_S384x1024_0_0).toLoadRect (View.loadsAt_vmem h_S384x1024))
  let v38 : Vec F S1x1x1024x512 .f32 ← Prog.lift (.load arg12 (Rect.unit (s := S2x1x7168x512) o0 S1x1x1024x512.size h0).toLoadRect (View.loadsAt_vmem h_S1x1x1024x512))
  let v42 : Vec F S384x1024 .bf16 ← Prog.lift (.load arg9 (Rect.unit (s := S512x7168) ![0, 1024] S384x1024.size inb_S512x7168_S384x1024_0_1024).toLoadRect (View.loadsAt_vmem h_S384x1024))
  let v44 : Vec F S1x1x1024x512 .f32 ← Prog.lift (.load arg12 (Rect.unit (s := S2x1x7168x512) o1 S1x1x1024x512.size h1).toLoadRect (View.loadsAt_vmem h_S1x1x1024x512))
  let v49 : Vec F S384x1024 .bf16 ← Prog.lift (.load arg9 (Rect.unit (s := S512x7168) ![0, 2048] S384x1024.size inb_S512x7168_S384x1024_0_2048).toLoadRect (View.loadsAt_vmem h_S384x1024))
  let v51 : Vec F S1x1x1024x512 .f32 ← Prog.lift (.load arg12 (Rect.unit (s := S2x1x7168x512) o2 S1x1x1024x512.size h2).toLoadRect (View.loadsAt_vmem h_S1x1x1024x512))
  let v56 : Vec F S384x1024 .bf16 ← Prog.lift (.load arg9 (Rect.unit (s := S512x7168) ![0, 3072] S384x1024.size inb_S512x7168_S384x1024_0_3072).toLoadRect (View.loadsAt_vmem h_S384x1024))
  let v58 : Vec F S1x1x1024x512 .f32 ← Prog.lift (.load arg12 (Rect.unit (s := S2x1x7168x512) o3 S1x1x1024x512.size h3).toLoadRect (View.loadsAt_vmem h_S1x1x1024x512))
  let v63 : Vec F S384x1024 .bf16 ← Prog.lift (.load arg9 (Rect.unit (s := S512x7168) ![0, 4096] S384x1024.size inb_S512x7168_S384x1024_0_4096).toLoadRect (View.loadsAt_vmem h_S384x1024))
  let v65 : Vec F S1x1x1024x512 .f32 ← Prog.lift (.load arg12 (Rect.unit (s := S2x1x7168x512) o4 S1x1x1024x512.size h4).toLoadRect (View.loadsAt_vmem h_S1x1x1024x512))
  let v70 : Vec F S384x1024 .bf16 ← Prog.lift (.load arg9 (Rect.unit (s := S512x7168) ![0, 5120] S384x1024.size inb_S512x7168_S384x1024_0_5120).toLoadRect (View.loadsAt_vmem h_S384x1024))
  let v72 : Vec F S1x1x1024x512 .f32 ← Prog.lift (.load arg12 (Rect.unit (s := S2x1x7168x512) o5 S1x1x1024x512.size h5).toLoadRect (View.loadsAt_vmem h_S1x1x1024x512))
  let v77 : Vec F S384x1024 .bf16 ← Prog.lift (.load arg9 (Rect.unit (s := S512x7168) ![0, 6144] S384x1024.size inb_S512x7168_S384x1024_0_6144).toLoadRect (View.loadsAt_vmem h_S384x1024))
  let v79 : Vec F S1x1x1024x512 .f32 ← Prog.lift (.load arg12 (Rect.unit (s := S2x1x7168x512) o6 S1x1x1024x512.size h6).toLoadRect (View.loadsAt_vmem h_S1x1x1024x512))
  let v84 : Vec F S384x512 .f32 ← Prog.lift (.load arg11 (Rect.unit (s := S512x512) ![0, 0] S384x512.size inb_S512x512_S384x512_0_0).toLoadRect (View.loadsAt_vmem h_S384x512))
  Prog.lift (.store arg11 (Rect.unit (s := S512x512) ![0, 0] S384x512.size inb_S512x512_S384x512_0_0) (k0_pay14 (k0_pay6 v36 v38 v42 v44 v49 v51 v56 v58) v63 (k0_pay7 v65) v70 v72 v77 v79) Finset.univ (View.stores_vmem_bits_univ h_S384x512 rfl) (.inl rfl))
  let v86 : Vec F S128x512 .f32 ← Prog.lift (.load arg11 (Rect.unit (s := S512x512) ![384, 0] S128x512.size inb_S512x512_S128x512_384_0).toLoadRect (View.loadsAt_vmem h_S128x512))
  Prog.lift (.store arg11 (Rect.unit (s := S512x512) ![384, 0] S128x512.size inb_S512x512_S128x512_384_0) (k0_pay15 (F := F)) Finset.univ (View.stores_vmem_bits_univ h_S128x512 rfl) (.inl rfl))
/-- The computing part where 512 rows are counted: seven partial products added up. -/
def case8 (arg9 : Memref sig .tc .vmem S512x7168 .bf16) (arg11 : Memref sig .tc .vmem S512x512 .f32) (arg12 : Memref sig .tc .vmem S2x1x7168x512 .f32) (o0 o1 o2 o3 o4 o5 o6 : Fin 4 → Nat) (h0 : ∀ a, o0 a + S1x1x1024x512.size a ≤ S2x1x7168x512.size a) (h1 : ∀ a, o1 a + S1x1x1024x512.size a ≤ S2x1x7168x512.size a) (h2 : ∀ a, o2 a + S1x1x1024x512.size a ≤ S2x1x7168x512.size a) (h3 : ∀ a, o3 a + S1x1x1024x512.size a ≤ S2x1x7168x512.size a) (h4 : ∀ a, o4 a + S1x1x1024x512.size a ≤ S2x1x7168x512.size a) (h5 : ∀ a, o5 a + S1x1x1024x512.size a ≤ S2x1x7168x512.size a) (h6 : ∀ a, o6 a + S1x1x1024x512.size a ≤ S2x1x7168x512.size a) : Prog (TpuEff nD τ sig (Elt F) Λ₀ .tc) PUnit := do
  let v36 : Vec F S512x1024 .bf16 ← Prog.lift (.load arg9 (Rect.unit (s := S512x7168) ![0, 0] S512x1024.size inb_S512x7168_S512x1024_0_0).toLoadRect (View.loadsAt_vmem h_S512x1024))
  let v38 : Vec F S1x1x1024x512 .f32 ← Prog.lift (.load arg12 (Rect.unit (s := S2x1x7168x512) o0 S1x1x1024x512.size h0).toLoadRect (View.loadsAt_vmem h_S1x1x1024x512))
  let v42 : Vec F S512x1024 .bf16 ← Prog.lift (.load arg9 (Rect.unit (s := S512x7168) ![0, 1024] S512x1024.size inb_S512x7168_S512x1024_0_1024).toLoadRect (View.loadsAt_vmem h_S512x1024))
  let v44 : Vec F S1x1x1024x512 .f32 ← Prog.lift (.load arg12 (Rect.unit (s := S2x1x7168x512) o1 S1x1x1024x512.size h1).toLoadRect (View.loadsAt_vmem h_S1x1x1024x512))
  let v49 : Vec F S512x1024 .bf16 ← Prog.lift (.load arg9 (Rect.unit (s := S512x7168) ![0, 2048] S512x1024.size inb_S512x7168_S512x1024_0_2048).toLoadRect (View.loadsAt_vmem h_S512x1024))
  let v51 : Vec F S1x1x1024x512 .f32 ← Prog.lift (.load arg12 (Rect.unit (s := S2x1x7168x512) o2 S1x1x1024x512.size h2).toLoadRect (View.loadsAt_vmem h_S1x1x1024x512))
  let v56 : Vec F S512x1024 .bf16 ← Prog.lift (.load arg9 (Rect.unit (s := S512x7168) ![0, 3072] S512x1024.size inb_S512x7168_S512x1024_0_3072).toLoadRect (View.loadsAt_vmem h_S512x1024))
  let v58 : Vec F S1x1x1024x512 .f32 ← Prog.lift (.load arg12 (Rect.unit (s := S2x1x7168x512) o3 S1x1x1024x512.size h3).toLoadRect (View.loadsAt_vmem h_S1x1x1024x512))
  let v63 : Vec F S512x1024 .bf16 ← Prog.lift (.load arg9 (Rect.unit (s := S512x7168) ![0, 4096] S512x1024.size inb_S512x7168_S512x1024_0_4096).toLoadRect (View.loadsAt_vmem h_S512x1024))
  let v65 : Vec F S1x1x1024x512 .f32 ← Prog.lift (.load arg12 (Rect.unit (s := S2x1x7168x512) o4 S1x1x1024x512.size h4).toLoadRect (View.loadsAt_vmem h_S1x1x1024x512))
  let v70 : Vec F S512x1024 .bf16 ← Prog.lift (.load arg9 (Rect.unit (s := S512x7168) ![0, 5120] S512x1024.size inb_S512x7168_S512x1024_0_5120).toLoadRect (View.loadsAt_vmem h_S512x1024))
  let v72 : Vec F S1x1x1024x512 .f32 ← Prog.lift (.load arg12 (Rect.unit (s := S2x1x7168x512) o5 S1x1x1024x512.size h5).toLoadRect (View.loadsAt_vmem h_S1x1x1024x512))
  let v77 : Vec F S512x1024 .bf16 ← Prog.lift (.load arg9 (Rect.unit (s := S512x7168) ![0, 6144] S512x1024.size inb_S512x7168_S512x1024_0_6144).toLoadRect (View.loadsAt_vmem h_S512x1024))
  let v79 : Vec F S1x1x1024x512 .f32 ← Prog.lift (.load arg12 (Rect.unit (s := S2x1x7168x512) o6 S1x1x1024x512.size h6).toLoadRect (View.loadsAt_vmem h_S1x1x1024x512))
  let v84 : Vec F S512x512 .f32 ← Prog.lift (.load arg11 (Rect.unit (s := S512x512) ![0, 0] S512x512.size inb_S512x512_S512x512_0_0).toLoadRect (View.loadsAt_vmem h_S512x512))
  Prog.lift (.store arg11 (Rect.unit (s := S512x512) ![0, 0] S512x512.size inb_S512x512_S512x512_0_0) (k0_pay16 (k0_pay8 v36 v38 v42 v44 v49 v51 v56 v58) v63 (k0_pay9 v65) v70 v72 v77 v79) Finset.univ (View.stores_vmem_bits_univ h_S512x512 rfl) (.inl rfl))
/-- The computing part where no row is counted. -/
def case9 (arg11 : Memref sig .tc .vmem S512x512 .f32) : Prog (TpuEff nD τ sig (Elt F) Λ₀ .tc) PUnit := do
  let v37 : Vec F S512x512 .f32 ← Prog.lift (.load arg11 (Rect.unit (s := S512x512) ![0, 0] S512x512.size inb_S512x512_S512x512_0_0).toLoadRect (View.loadsAt_vmem h_S512x512))
  Prog.lift (.store arg11 (Rect.unit (s := S512x512) ![0, 0] S512x512.size inb_S512x512_S512x512_0_0) (k0_pay1 (F := F)) Finset.univ (View.stores_vmem_bits_univ h_S512x512 rfl) (.inl rfl))
/-- The computing part of a step, over the words it has read. -/
def computeP (i : grid0.Coords) (arg9 : Memref sig .tc .vmem S512x7168 .bf16) (arg11 : Memref sig .tc .vmem S512x512 .f32) (arg12 : Memref sig .tc .vmem S2x1x7168x512 .f32) (v1 v2 v12 : Elt F .i32) (k0_hw6 : k0_chk6 i v1 v2 v12) : Prog (TpuEff nD τ sig (Elt F) Λ₀ .tc) PUnit := do
  if k0_h5 : k0_cond5 v12 = 1#1 then case5 arg9 arg11 arg12 (k0_off18 i v1 v2) (k0_off19 i v1 v2) (k0_off20 i v1 v2) (k0_off21 i v1 v2) (k0_off22 i v1 v2) (k0_off23 i v1 v2) (k0_off24 i v1 v2) (k0_off18_inb i v1 v2 v12 k0_hw6 k0_h5) (k0_off19_inb i v1 v2 v12 k0_hw6 k0_h5) (k0_off20_inb i v1 v2 v12 k0_hw6 k0_h5) (k0_off21_inb i v1 v2 v12 k0_hw6 k0_h5) (k0_off22_inb i v1 v2 v12 k0_hw6 k0_h5) (k0_off23_inb i v1 v2 v12 k0_hw6 k0_h5) (k0_off24_inb i v1 v2 v12 k0_hw6 k0_h5) else pure ⟨⟩
  if k0_h6 : k0_cond6 v12 = 1#1 then case6 arg9 arg11 arg12 (k0_off25 i v1 v2) (k0_off26 i v1 v2) (k0_off27 i v1 v2) (k0_off28 i v1 v2) (k0_off29 i v1 v2) (k0_off30 i v1 v2) (k0_off31 i v1 v2) (k0_off25_inb i v1 v2 v12 k0_hw6 k0_h6) (k0_off26_inb i v1 v2 v12 k0_hw6 k0_h6) (k0_off27_inb i v1 v2 v12 k0_hw6 k0_h6) (k0_off28_inb i v1 v2 v12 k0_hw6 k0_h6) (k0_off29_inb i v1 v2 v12 k0_hw6 k0_h6) (k0_off30_inb i v1 v2 v12 k0_hw6 k0_h6) (k0_off31_inb i v1 v2 v12 k0_hw6 k0_h6) else pure ⟨⟩
  if k0_h7 : k0_cond7 v12 = 1#1 then case7 arg9 arg11 arg12 (k0_off32 i v1 v2) (k0_off33 i v1 v2) (k0_off34 i v1 v2) (k0_off35 i v1 v2) (k0_off36 i v1 v2) (k0_off37 i v1 v2) (k0_off38 i v1 v2) (k0_off32_inb i v1 v2 v12 k0_hw6 k0_h7) (k0_off33_inb i v1 v2 v12 k0_hw6 k0_h7) (k0_off34_inb i v1 v2 v12 k0_hw6 k0_h7) (k0_off35_inb i v1 v2 v12 k0_hw6 k0_h7) (k0_off36_inb i v1 v2 v12 k0_hw6 k0_h7) (k0_off37_inb i v1 v2 v12 k0_hw6 k0_h7) (k0_off38_inb i v1 v2 v12 k0_hw6 k0_h7) else pure ⟨⟩
  if k0_h8 : k0_cond8 v12 = 1#1 then case8 arg9 arg11 arg12 (k0_off39 i v1 v2) (k0_off40 i v1 v2) (k0_off41 i v1 v2) (k0_off42 i v1 v2) (k0_off43 i v1 v2) (k0_off44 i v1 v2) (k0_off45 i v1 v2) (k0_off39_inb i v1 v2 v12 k0_hw6 k0_h8) (k0_off40_inb i v1 v2 v12 k0_hw6 k0_h8) (k0_off41_inb i v1 v2 v12 k0_hw6 k0_h8) (k0_off42_inb i v1 v2 v12 k0_hw6 k0_h8) (k0_off43_inb i v1 v2 v12 k0_hw6 k0_h8) (k0_off44_inb i v1 v2 v12 k0_hw6 k0_h8) (k0_off45_inb i v1 v2 v12 k0_hw6 k0_h8) else pure ⟨⟩
  if k0_h9 : k0_cond9 v12 = 1#1 then case9 arg11 else pure ⟨⟩
/-- Read a word, go on with it. -/
def readW (M : Memref sig .tc .smem S40 .i32) (o : Fin 1 → Nat) (h : ∀ a, o a + S1.size a ≤ S40.size a)
    (K : Elt F .i32 → Prog (TpuEff nD τ sig (Elt F) Λ₀ .tc) PUnit) : Prog (TpuEff nD τ sig (Elt F) Λ₀ .tc) PUnit := do
  let v ← smemLoad M (Rect.unit (s := S40) o S1.size h) numel1_S1 rfl
  K v
def readOne (M : Memref sig .tc .smem S1 .i32) (K : Elt F .i32 → Prog (TpuEff nD τ sig (Elt F) Λ₀ .tc) PUnit) : Prog (TpuEff nD τ sig (Elt F) Λ₀ .tc) PUnit := do
  let v ← smemLoad M (Rect.unit (s := S1) ![0] S1.size inb_S1_S1_0) numel1_S1 rfl
  K v
set_option maxHeartbeats 4000000 in
/-- A step of the kernel: the words it reads, the streaming part, the rows it reads, the computing part. -/
theorem body_eq (i : grid0.Coords) (arg2 : Memref sig .tc .smem S40 .i32) (harg2 : arg2.IsWhole) (arg3 : Memref sig .tc .smem S1 .i32) (harg3 : arg3.IsWhole) (arg4 : Memref sig .tc .smem S40 .i32) (harg4 : arg4.IsWhole) (arg5 : Memref sig .tc .smem S40 .i32) (harg5 : arg5.IsWhole) (arg6 : Memref sig .tc .smem S40 .i32) (harg6 : arg6.IsWhole) (arg7 : Memref sig .tc .smem S40 .i32) (harg7 : arg7.IsWhole) (arg8 : Memref sig .tc .smem S1 .i32) (harg8 : arg8.IsWhole) (arg9 : Memref sig .tc .vmem S512x7168 .bf16) (harg9 : arg9.IsWhole) (arg10 : Memref sig .tc .hbm S1x8x7168x2048 .f32) (harg10 : arg10.IsWhole) (arg11 : Memref sig .tc .vmem S512x512 .f32) (harg11 : arg11.IsWhole) (arg12 : Memref sig .tc .vmem S2x1x7168x512 .f32) (harg12 : arg12.IsWhole) (arg13 : DmaSems sig S2x1) :
    cc0_moe_down (F := F) i arg2 harg2 arg3 harg3 arg4 harg4 arg5 harg5 arg6 harg6 arg7 harg7 arg8 harg8 arg9 harg9 arg10 harg10 arg11 harg11 arg12 harg12 arg13 =
  readW arg6 (k0_off1 i) (k0_off1_inb i) fun v1 => readOne arg8 fun v2 =>
    withWord arg5 (k0_off1 i) (k0_off1_inb i) (k0_chk1 i v1 v2) (k0_chk1.dec i v1 v2) fun v7 hw1 =>
      streamP i arg2 arg7 arg10 arg12 arg13 v1 v2 v7 hw1 >>= fun _ =>
        withWord arg4 (k0_off17 i) (k0_off17_inb i) (k0_chk6 i v1 v2) (k0_chk6.dec i v1 v2) fun v12 hw6 =>
          computeP i arg9 arg11 arg12 v1 v2 v12 hw6 := by
  rw [cc0_moe_down_eq_skeleton]; unfold cc0_moe_down_skel; rw [k0_part5_eq_skeleton]; unfold k0_part5_skel
  rw [k0_part1_eq_skeleton, k0_part2_eq_skeleton, k0_part3_eq_skeleton, k0_part4_eq_skeleton]
  unfold k0_part1_skel k0_part2_skel k0_part3_skel k0_part4_skel readW readOne withWord streamP computeP begin0 waitB beginN beginC issueOne waitOne withWord case5 case6 case7 case8 case9
  simp only [bind_assoc, pure_bind, dite_bnd, bind_pure_unit']
end

variable {F : FTy → Type} [FloatOps F]
local notation "𝕄" => MT nD τ sig Unit (Elt F) ℕ (Pipeline.UD sig nD τ) ℕ

theorem inbS (s : Fin 2) : ∀ a, (![s.val, 0, 0, 0] : Fin 4 → Nat) a + S1x1x7168x512.size a ≤ S2x1x7168x512.size a := by
  have := s.isLt; intro a; fin_cases a
  · show s.val + 1 ≤ 2; omega
  · show 0 + 1 ≤ 1; omega
  · show 0 + 7168 ≤ 7168; omega
  · show 0 + 512 ≤ 512; omega
theorem inbP (s : Fin 2) (j : Fin 7) : ∀ a, (![s.val, 0, 1024 * j.val, 0] : Fin 4 → Nat) a + S1x1x1024x512.size a ≤ S2x1x7168x512.size a := by
  have := s.isLt; have := j.isLt; intro a; fin_cases a
  · show s.val + 1 ≤ 2; omega
  · show 0 + 1 ≤ 1; omega
  · show 1024 * j.val + 1024 ≤ 7168; omega
  · show 0 + 512 ≤ 512; omega
theorem inbW (e : Fin 8) (k : Fin 4) : ∀ a, (![0, e.val, 0, 512 * k.val] : Fin 4 → Nat) a + S1x1x7168x512.size a ≤ S1x8x7168x2048.size a := by
  have := e.isLt; have := k.isLt; intro a; fin_cases a
  · show 0 + 1 ≤ 1; omega
  · show e.val + 1 ≤ 8; omega
  · show 0 + 7168 ≤ 7168; omega
  · show 512 * k.val + 512 ≤ 2048; omega
theorem inbC (s : Fin 2) : ∀ a, (![s.val, 0] : Fin 2 → Nat) a + S1x1.size a ≤ S2x1.size a := by
  have := s.isLt; intro a; fin_cases a
  · show s.val + 1 ≤ 2; omega
  · show 0 + 1 ≤ 1; omega
/-- Slot `s` of the scratch. -/
def slotM (s : Fin 2) : Memref sig .tc .vmem S7168x512 .f32 :=
  ((Memref.whole cc0_scratch0 : Memref sig .tc .vmem S2x1x7168x512 .f32).slice (Rect.unit (s := S2x1x7168x512) ![s.val, 0, 0, 0] S1x1x7168x512.size (inbS s)) (fun _ => rfl)).squeeze S7168x512 squeezes_S1x1x7168x512_S7168x512
/-- Expert `e`'s column block `k` of the weights. -/
def srcG (e : Fin 8) (k : Fin 4) : Memref sig .tc .hbm S7168x512 .f32 :=
  ((Memref.whole main_arg8 : Memref sig .tc .hbm S1x8x7168x2048 .f32).slice (Rect.unit (s := S1x8x7168x2048) ![0, e.val, 0, 512 * k.val] S1x1x7168x512.size (inbW e k)) (fun _ => rfl)).squeeze S7168x512 squeezes_S1x1x7168x512_S7168x512
/-- The semaphore of slot `s`. -/
def cellK (s : Fin 2) : DmaSem sig := ⟨4 + s.val, by have := s.isLt; show _ < 6; omega⟩
theorem cell_eq (s : Fin 2) : ((cc0_scratch1.slice (Rect.unit (s := S2x1) ![s.val, 0] S1x1.size (inbC s))).squeeze S_ squeezes_S1x1_S_).sem = cellK s := by
  fin_cases s <;> rfl
abbrev WBuf (c : Dev nD) : Type := Buf (Elt F) ((Memref.whole main_arg8 : Memref sig .tc .hbm S1x8x7168x2048 .f32).view.loc (c : Thread nD τ))

section
variable (c : Dev nD) (fg : WBuf (F := F) c)
/-- Slot `s`'s read token of the weights, over the elements `S`. -/
abbrev tokG (s : Fin 2) (S : Finset (Idx ((Memref.whole main_arg8 : Memref sig .tc .hbm S1x8x7168x2048 .f32).view.loc (c : Thread nD τ)))) : sProp 𝕄 :=
  (Memref.whole main_arg8 : Memref sig .tc .hbm S1x8x7168x2048 .f32).view.loc (c : Thread nD τ) ↦[S]{Transfers.shareTok fullShare 2 s} fg
abbrev slotPt (s : Fin 2) (f : Buf (Elt F) ((slotM s).view.loc (c : Thread nD τ))) : sProp 𝕄 :=
  (slotM s).view.loc (c : Thread nD τ) ↦[(slotM s).view.set]{fullShare} f
abbrev landG (s : Fin 2) (e : Fin 8) (k : Fin 4) (f : Buf (Elt F) ((slotM s).view.loc (c : Thread nD τ))) : Buf (Elt F) ((slotM s).view.loc (c : Thread nD τ)) :=
  (slotM s).view.writes (Elt F) f [⟨Rect.whole S7168x512, ReadAs.same.apply ((srcG e k).view.read (Elt F) fg)⟩]

/-- Slot `s` at rest: its semaphore at zero, itself at anything, its token whole. -/
def FREE (s : Fin 2) : sProp 𝕄 :=
  iprop(semVal ((c : Thread nD τ), SemLoc.dma (cellK s)) 0 ∗ (∃ f, slotPt c s f) ∗ tokG c fg s Finset.univ)
/-- Slot `s` at rest, holding expert `e`'s column block `k` of the weights. -/
def KEPT (s : Fin 2) (e : Fin 8) (k : Fin 4) : sProp 𝕄 :=
  iprop(semVal ((c : Thread nD τ), SemLoc.dma (cellK s)) 0 ∗ (∃ f, slotPt c s (landG c fg s e k f)) ∗ tokG c fg s Finset.univ)
/-- Slot `s` with the copy of that block under way. -/
def FLY (s : Fin 2) (e : Fin 8) (k : Fin 4) : sProp 𝕄 :=
  iprop((∃ f, Transfers.Flight (countersEmb (U := Pipeline.UD sig nD τ)) (c : Thread nD τ) (SemLoc.dma (cellK s)) () 458752
            iprop(slotPt c s (landG c fg s e k f) ∗ tokG c fg s (srcG e k).view.set))
    ∗ tokG c fg s (Finset.univ \ (srcG e k).view.set))

theorem issue_run (s : Fin 2) (e : Fin 8) (k : Fin 4) (h1 h2) (Q : PUnit → sProp 𝕄) :
    iprop(FREE c fg s ∗ (FLY c fg s e k -∗ Q ⟨⟩))
      ⊢ wp frame (wpE (defs₀ (F := F)) Variants.none (c : Thread nD τ) none) Set.univ
          (issueOne (F := F) (srcG e k) (slotM s) (cellK s) h1 h2) Q := by
  unfold FREE FLY issueOne
  iintro ⟨⟨Hc0, ⟨%f0, Hs0⟩, Ht0⟩, Hk⟩
  sl_exec
  sl_step
  iapply Hk
  isplitl [Hc0]; · iexists f0; iexact Hc0
  iexact Ht0

theorem wait_run (s : Fin 2) (e : Fin 8) (k : Fin 4) (h1 h2) (W : Waits sig Unit) (Q : PUnit → sProp 𝕄) :
    iprop(FLY c fg s e k ∗ owes (c : Thread nD τ) 0 W ∗ (KEPT c fg s e k ∗ (∃ W, owes (c : Thread nD τ) 0 W) -∗ Q ⟨⟩))
      ⊢ wp frame (wpE (defs₀ (F := F)) Variants.none (c : Thread nD τ) none) Set.univ
          (waitOne (F := F) (srcG e k) (slotM s) (cellK s) h1 h2) Q := by
  unfold KEPT FLY waitOne
  iintro ⟨⟨⟨%f0, Hc0⟩, Ht0⟩, HO, Hk⟩
  sl_exec
  sl_step
  iapply Hk
  isplitr [HO]
  · isplitl [Hc0]; · iexact Hc0
    isplitl [Hc0_dst]; · iexists _; iexact Hc0_dst
    iexact Ht0
  · iexists _; iexact HO
end
theorem issue_congr {sa sa' : Memref sig .tc .hbm S7168x512 .f32} {da da' : Memref sig .tc .vmem S7168x512 .f32} {ca ca' : DmaSem sig}
    (h1 : sa = sa') (h3 : da = da') (h5 : ca = ca') (p r) :
    issueOne (F := F) sa da ca p r = issueOne sa' da' ca' (h1 ▸ p) (h3 ▸ r) := by
  subst h1 h3 h5; rfl
theorem wait_congr {sa sa' : Memref sig .tc .hbm S7168x512 .f32} {da da' : Memref sig .tc .vmem S7168x512 .f32} {ca ca' : DmaSem sig}
    (h1 : sa = sa') (h3 : da = da') (h5 : ca = ca') (p r) :
    waitOne (F := F) sa da ca p r = waitOne sa' da' ca' (h1 ▸ p) (h3 ▸ r) := by
  subst h1 h3 h5; rfl
theorem slot_of {o : Fin 4 → Nat} {s : Fin 2} (h : o = ![s.val, 0, 0, 0]) (p : ∀ a, o a + S1x1x7168x512.size a ≤ S2x1x7168x512.size a) :
    ((Memref.whole cc0_scratch0 : Memref sig .tc .vmem S2x1x7168x512 .f32).slice (Rect.unit (s := S2x1x7168x512) o S1x1x7168x512.size p) (fun _ => rfl)).squeeze S7168x512 squeezes_S1x1x7168x512_S7168x512 = slotM s := by
  subst h; rfl
theorem srcG_of {o : Fin 4 → Nat} {e : Fin 8} {k : Fin 4} (h : o = ![0, e.val, 0, 512 * k.val]) (p : ∀ a, o a + S1x1x7168x512.size a ≤ S1x8x7168x2048.size a) :
    ((Memref.whole main_arg8 : Memref sig .tc .hbm S1x8x7168x2048 .f32).slice (Rect.unit (s := S1x8x7168x2048) o S1x1x7168x512.size p) (fun _ => rfl)).squeeze S7168x512 squeezes_S1x1x7168x512_S7168x512 = srcG e k := by
  subst h; rfl
theorem cell_of {o : Fin 2 → Nat} {s : Fin 2} (h : o = ![s.val, 0]) (p : ∀ a, o a + S1x1.size a ≤ S2x1.size a) :
    ((cc0_scratch1.slice (Rect.unit (s := S2x1) o S1x1.size p)).squeeze S_ squeezes_S1x1_S_).sem = cellK s := by
  subst h; exact cell_eq s

section
variable (c : Dev nD) (fg : WBuf (F := F) c)
abbrev TBuf (c : Dev nD) (M : Memref sig .tc .smem S40 .i32) : Type := Buf (Elt F) (M.view.loc (c : Thread nD τ))
/-- Word `j` of a table as the kernel reads it. -/
abbrev rdW (M : Memref sig .tc .smem S40 .i32) (T : Buf (Elt F) (M.view.loc (c : Thread nD τ))) (o : Fin 1 → Nat) (h : ∀ a, o a + S1.size a ≤ S40.size a) : Elt F .i32 :=
  View.readAt (Elt F) M.view (Rect.unit (s := S40) o S1.size h).toLoadRect T (Shape.Idx.first (numel1_S1.symm ▸ Nat.one_pos))

/-- A word read from a table and a fact assumed of it, before a program that uses both. -/
theorem word_run (M : Memref sig .tc .smem S40 .i32) (hM : M.IsWhole) (T : Buf (Elt F) (M.view.loc (c : Thread nD τ))) (o : Fin 1 → Nat) (h : ∀ a, o a + S1.size a ≤ S40.size a)
    (P : Elt F .i32 → Prop) (dec : ∀ v, Decidable (P v)) (K : ∀ v, P v → Prog (TpuEff nD τ sig (Elt F) Λ₀ .tc) PUnit) (hP : P (rdW c M T o h)) (Q : PUnit → sProp 𝕄) :
    iprop((M.view.loc (c : Thread nD τ) ↦{fullShare.right} T) ∗ ((M.view.loc (c : Thread nD τ) ↦{fullShare.right} T) -∗ wp frame (wpE (defs₀ (F := F)) Variants.none (c : Thread nD τ) none) Set.univ (K _ hP) Q))
      ⊢ wp frame (wpE (defs₀ (F := F)) Variants.none (c : Thread nD τ) none) Set.univ (withWord M o h P dec K) Q := by
  unfold withWord
  iintro ⟨HT, Hk⟩
  sl_exec
  iapply Hk
  iexact HT

theorem begin0_run (i : grid0.Coords) (v1 v2 v7 : Elt F .i32) (hw1 h1 h2) (s : Fin 2) (e : Fin 8) (k : Fin 4)
    (T0 : Buf (Elt F) ((Memref.whole main_arg0 : Memref sig .tc .smem S40 .i32).view.loc (c : Thread nD τ)))
    (ho3 : k0_off3 i v1 v2 = ![s.val, 0]) (ho4 : k0_off4 i v1 v2 = ![s.val, 0, 0, 0])
    (hoW : k0_off5 i (rdW c (Memref.whole main_arg0) T0 (k0_off2 i) (k0_off2_inb i)) = ![0, e.val, 0, 512 * k.val]) (Q : PUnit → sProp 𝕄) :
    iprop(FREE c fg s ∗ ((Memref.whole main_arg0 : Memref sig .tc .smem S40 .i32).view.loc (c : Thread nD τ) ↦{fullShare.right} T0)
        ∗ (FLY c fg s e k ∗ ((Memref.whole main_arg0 : Memref sig .tc .smem S40 .i32).view.loc (c : Thread nD τ) ↦{fullShare.right} T0) -∗ Q ⟨⟩))
      ⊢ wp frame (wpE (defs₀ (F := F)) Variants.none (c : Thread nD τ) none) Set.univ
          (begin0 (F := F) i (Memref.whole main_arg0) (Memref.whole main_arg5) (Memref.whole main_arg8) (Memref.whole cc0_scratch0) cc0_scratch1 v1 v2 v7 hw1 h1 h2) Q := by
  have hchk : k0_chk2 i v1 v2 v7 (rdW c (Memref.whole main_arg0) T0 (k0_off2 i) (k0_off2_inb i)) := by
    intro _ _; rw [hoW]; exact inbW e k
  unfold begin0
  iintro ⟨HF, HT, Hk⟩
  iapply (word_run c (Memref.whole main_arg0) (Memref.isWhole_whole _) T0 (k0_off2 i) (k0_off2_inb i) _ _ _ hchk Q)
  isplitl [HT]; · iexact HT
  iintro HT
  rw [issue_congr (srcG_of hoW _) (slot_of (s := s) ho4 _) (cell_of (s := s) ho3 _)]
  iapply (issue_run c fg s e k _ _ Q)
  isplitl [HF]; · iexact HF
  iintro HF
  iapply Hk
  isplitl [HF]; · iexact HF
  iexact HT

theorem beginN_run (i : grid0.Coords) (v1 v2 v7 : Elt F .i32) (hw1 h1 h3) (s : Fin 2) (e : Fin 8) (k : Fin 4)
    (T0 : Buf (Elt F) ((Memref.whole main_arg5 : Memref sig .tc .smem S40 .i32).view.loc (c : Thread nD τ)))
    (ho3 : k0_off11 i v1 v2 = ![s.val, 0]) (ho4 : k0_off12 i v1 v2 = ![s.val, 0, 0, 0])
    (hoW : k0_off13 i (rdW c (Memref.whole main_arg5) T0 (k0_off10 i) (k0_off10_inb i)) = ![0, e.val, 0, 512 * k.val]) (Q : PUnit → sProp 𝕄) :
    iprop(FREE c fg s ∗ ((Memref.whole main_arg5 : Memref sig .tc .smem S40 .i32).view.loc (c : Thread nD τ) ↦{fullShare.right} T0)
        ∗ (FLY c fg s e k ∗ ((Memref.whole main_arg5 : Memref sig .tc .smem S40 .i32).view.loc (c : Thread nD τ) ↦{fullShare.right} T0) -∗ Q ⟨⟩))
      ⊢ wp frame (wpE (defs₀ (F := F)) Variants.none (c : Thread nD τ) none) Set.univ
          (beginN (F := F) i (Memref.whole main_arg0) (Memref.whole main_arg5) (Memref.whole main_arg8) (Memref.whole cc0_scratch0) cc0_scratch1 v1 v2 v7 hw1 h1 h3) Q := by
  have hchk : k0_chk4 i v1 v2 v7 (rdW c (Memref.whole main_arg5) T0 (k0_off10 i) (k0_off10_inb i)) := by
    intro _ _; rw [hoW]; exact inbW e k
  unfold beginN
  iintro ⟨HF, HT, Hk⟩
  iapply (word_run c (Memref.whole main_arg5) (Memref.isWhole_whole _) T0 (k0_off10 i) (k0_off10_inb i) _ _ _ hchk Q)
  isplitl [HT]; · iexact HT
  iintro HT
  rw [issue_congr (srcG_of hoW _) (slot_of (s := s) ho4 _) (cell_of (s := s) ho3 _)]
  iapply (issue_run c fg s e k _ _ Q)
  isplitl [HF]; · iexact HF
  iintro HF
  iapply Hk
  isplitl [HF]; · iexact HF
  iexact HT

theorem beginC_run (i : grid0.Coords) (v1 v2 v7 : Elt F .i32) (hw1 h1 h4) (s : Fin 2) (e : Fin 8) (k : Fin 4)
    (T0 : Buf (Elt F) ((Memref.whole main_arg0 : Memref sig .tc .smem S40 .i32).view.loc (c : Thread nD τ)))
    (ho3 : k0_off14 i v1 v2 = ![s.val, 0]) (ho4 : k0_off15 i v1 v2 = ![s.val, 0, 0, 0])
    (hoW : k0_off16 i (rdW c (Memref.whole main_arg0) T0 ![0] inb_S40_S1_0) = ![0, e.val, 0, 512 * k.val]) (Q : PUnit → sProp 𝕄) :
    iprop(FREE c fg s ∗ ((Memref.whole main_arg0 : Memref sig .tc .smem S40 .i32).view.loc (c : Thread nD τ) ↦{fullShare.right} T0)
        ∗ (FLY c fg s e k ∗ ((Memref.whole main_arg0 : Memref sig .tc .smem S40 .i32).view.loc (c : Thread nD τ) ↦{fullShare.right} T0) -∗ Q ⟨⟩))
      ⊢ wp frame (wpE (defs₀ (F := F)) Variants.none (c : Thread nD τ) none) Set.univ
          (beginC (F := F) i (Memref.whole main_arg0) (Memref.whole main_arg5) (Memref.whole main_arg8) (Memref.whole cc0_scratch0) cc0_scratch1 v1 v2 v7 hw1 h1 h4) Q := by
  have hchk : k0_chk5 i v1 v2 v7 (rdW c (Memref.whole main_arg0) T0 ![0] inb_S40_S1_0) := by
    intro _ _; rw [hoW]; exact inbW e k
  unfold beginC
  iintro ⟨HF, HT, Hk⟩
  iapply (word_run c (Memref.whole main_arg0) (Memref.isWhole_whole _) T0 ![0] inb_S40_S1_0 _ _ _ hchk Q)
  isplitl [HT]; · iexact HT
  iintro HT
  rw [issue_congr (srcG_of hoW _) (slot_of (s := s) ho4 _) (cell_of (s := s) ho3 _)]
  iapply (issue_run c fg s e k _ _ Q)
  isplitl [HF]; · iexact HF
  iintro HF
  iapply Hk
  isplitl [HF]; · iexact HF
  iexact HT

theorem waitB_run (i : grid0.Coords) (v1 v2 v7 : Elt F .i32) (hw1 h1) (s : Fin 2) (e : Fin 8) (k : Fin 4)
    (T0 : Buf (Elt F) ((Memref.whole main_arg0 : Memref sig .tc .smem S40 .i32).view.loc (c : Thread nD τ)))
    (ho3 : k0_off7 i v1 v2 = ![s.val, 0]) (ho4 : k0_off8 i v1 v2 = ![s.val, 0, 0, 0])
    (hoW : k0_off9 i (rdW c (Memref.whole main_arg0) T0 (k0_off6 i) (k0_off6_inb i)) = ![0, e.val, 0, 512 * k.val]) (W : Waits sig Unit) (Q : PUnit → sProp 𝕄) :
    iprop(FLY c fg s e k ∗ owes (c : Thread nD τ) 0 W ∗ ((Memref.whole main_arg0 : Memref sig .tc .smem S40 .i32).view.loc (c : Thread nD τ) ↦{fullShare.right} T0)
        ∗ (KEPT c fg s e k ∗ (∃ W, owes (c : Thread nD τ) 0 W) ∗ ((Memref.whole main_arg0 : Memref sig .tc .smem S40 .i32).view.loc (c : Thread nD τ) ↦{fullShare.right} T0) -∗ Q ⟨⟩))
      ⊢ wp frame (wpE (defs₀ (F := F)) Variants.none (c : Thread nD τ) none) Set.univ
          (waitB (F := F) i (Memref.whole main_arg0) (Memref.whole main_arg5) (Memref.whole main_arg8) (Memref.whole cc0_scratch0) cc0_scratch1 v1 v2 v7 hw1 h1) Q := by
  have hchk : k0_chk3 i v7 (rdW c (Memref.whole main_arg0) T0 (k0_off6 i) (k0_off6_inb i)) := by
    intro _; rw [hoW]; exact inbW e k
  unfold waitB
  iintro ⟨HF, HO, HT, Hk⟩
  iapply (word_run c (Memref.whole main_arg0) (Memref.isWhole_whole _) T0 (k0_off6 i) (k0_off6_inb i) _ _ _ hchk Q)
  isplitl [HT]; · iexact HT
  iintro HT
  rw [wait_congr (srcG_of hoW _) (slot_of (s := s) ho4 _) (cell_of (s := s) ho3 _)]
  iapply (wait_run c fg s e k _ _ W Q)
  isplitl [HF]; · iexact HF
  isplitl [HO]; · iexact HO
  iintro ⟨HF, HO⟩
  iapply Hk
  isplitl [HF]; · iexact HF
  isplitl [HO]; · iexact HO
  iexact HT

end
end Cert.MoeDownIdeal.Hand
end
-- ==== Proof.DownWord.lean ====
/- The words the kernel computes with, as numbers. -/
module

public import proofs.«01_k».proof.Proof.DownBody

@[expose] public section
noncomputable section
namespace Cert.MoeDownIdeal.Hand
open Cert.MoeDownIdeal Cert.MoeDownIdeal.Gen
open Idealize.ShloMosaic Idealize.ShloMosaic.TcCoe Idealize.ShloMosaic.WordCmp

theorem rem2 : ∀ m : Fin 400, Scalar.remsi (BitVec.ofNat 32 m.val) 2#32 = BitVec.ofNat 32 (m.val % 2) := by decide +kernel
theorem blkW {k g n : Nat} : Scalar.addi (Scalar.muli (BitVec.ofNat 32 k) (BitVec.ofNat 32 n)) (BitVec.ofNat 32 g) = BitVec.ofNat 32 (k * n + g) := by
  show IntOp.addi (IntOp.muli _ _) _ = _; rw [muli_ofNat, addi_ofNat]
theorem lt400 {k g n : Nat} (hk : k < 4) (hg : g < n) (hn : n ≤ 40) : k * n + g < 400 := by
  have : k * n ≤ 3 * n := Nat.mul_le_mul_right _ (by omega)
  omega
theorem slotW {k g n : Nat} (hk : k < 4) (hg : g < n) (hn : n ≤ 40) : Scalar.remsi (Scalar.addi (Scalar.muli (BitVec.ofNat 32 k) (BitVec.ofNat 32 n)) (BitVec.ofNat 32 g)) 2#32 = BitVec.ofNat 32 ((k * n + g) % 2) := by
  rw [blkW]; exact rem2 ⟨_, lt400 hk hg hn⟩
theorem otherW (b : Nat) : (Scalar.subi 1#32 (BitVec.ofNat 32 (b % 2))).toNat = (b + 1) % 2 := by
  rcases Nat.mod_two_eq_zero_or_one b with h | h <;> rw [h]
  · rw [show (b + 1) % 2 = 1 from by omega]; decide
  · rw [show (b + 1) % 2 = 0 from by omega]; decide
theorem nat2 (b : Nat) : (BitVec.ofNat 32 (b % 2)).toNat = b % 2 := by rw [BitVec.toNat_ofNat]; exact Nat.mod_eq_of_lt (by omega)
theorem colW : ∀ k : Fin 4, (Scalar.muli (BitVec.ofNat 32 k.val) 512#32).toNat = 512 * k.val := by decide
theorem colW' : ∀ k : Fin 4, (Scalar.muli (Scalar.addi (BitVec.ofNat 32 k.val) 1#32) 512#32).toNat = 512 * (k.val + 1) := by decide
theorem off3 (i : grid0.Coords) {g n : Nat} (hg : g < n) (hn : n ≤ 40) : k0_off3 i (BitVec.ofNat 32 g) (BitVec.ofNat 32 n) = ![((i 0).val * n + g) % 2, 0] := by
  show ![(Scalar.remsi _ _).toNat, 0] = _; rw [slotW (i 0).isLt hg hn, nat2]
theorem off7 (i : grid0.Coords) {g n : Nat} (hg : g < n) (hn : n ≤ 40) : k0_off7 i (BitVec.ofNat 32 g) (BitVec.ofNat 32 n) = ![((i 0).val * n + g) % 2, 0] := by
  show ![(Scalar.remsi _ _).toNat, 0] = _; rw [slotW (i 0).isLt hg hn, nat2]
theorem off11 (i : grid0.Coords) {g n : Nat} (hg : g < n) (hn : n ≤ 40) : k0_off11 i (BitVec.ofNat 32 g) (BitVec.ofNat 32 n) = ![((i 0).val * n + g + 1) % 2, 0] := by
  show ![(Scalar.subi _ (Scalar.remsi _ _)).toNat, 0] = _; rw [slotW (i 0).isLt hg hn, otherW]
theorem off14 (i : grid0.Coords) {g n : Nat} (hg : g < n) (hn : n ≤ 40) : k0_off14 i (BitVec.ofNat 32 g) (BitVec.ofNat 32 n) = ![((i 0).val * n + g + 1) % 2, 0] := by
  show ![(Scalar.subi _ (Scalar.remsi _ _)).toNat, 0] = _; rw [slotW (i 0).isLt hg hn, otherW]
theorem off4 (i : grid0.Coords) {g n : Nat} (hg : g < n) (hn : n ≤ 40) : k0_off4 i (BitVec.ofNat 32 g) (BitVec.ofNat 32 n) = ![((i 0).val * n + g) % 2, 0, 0, 0] := by
  show ![(Scalar.remsi _ _).toNat, 0, 0, 0] = _; rw [slotW (i 0).isLt hg hn, nat2]
theorem off8 (i : grid0.Coords) {g n : Nat} (hg : g < n) (hn : n ≤ 40) : k0_off8 i (BitVec.ofNat 32 g) (BitVec.ofNat 32 n) = ![((i 0).val * n + g) % 2, 0, 0, 0] := by
  show ![(Scalar.remsi _ _).toNat, 0, 0, 0] = _; rw [slotW (i 0).isLt hg hn, nat2]
theorem off12 (i : grid0.Coords) {g n : Nat} (hg : g < n) (hn : n ≤ 40) : k0_off12 i (BitVec.ofNat 32 g) (BitVec.ofNat 32 n) = ![((i 0).val * n + g + 1) % 2, 0, 0, 0] := by
  show ![(Scalar.subi _ (Scalar.remsi _ _)).toNat, 0, 0, 0] = _; rw [slotW (i 0).isLt hg hn, otherW]
theorem off15 (i : grid0.Coords) {g n : Nat} (hg : g < n) (hn : n ≤ 40) : k0_off15 i (BitVec.ofNat 32 g) (BitVec.ofNat 32 n) = ![((i 0).val * n + g + 1) % 2, 0, 0, 0] := by
  show ![(Scalar.subi _ (Scalar.remsi _ _)).toNat, 0, 0, 0] = _; rw [slotW (i 0).isLt hg hn, otherW]
theorem off18 (i : grid0.Coords) {g n : Nat} (hg : g < n) (hn : n ≤ 40) : k0_off18 i (BitVec.ofNat 32 g) (BitVec.ofNat 32 n) = ![((i 0).val * n + g) % 2, 0, 0, 0] := by
  show ![(Scalar.remsi _ _).toNat, 0, 0, 0] = _; rw [slotW (i 0).isLt hg hn, nat2]
theorem off19 (i : grid0.Coords) {g n : Nat} (hg : g < n) (hn : n ≤ 40) : k0_off19 i (BitVec.ofNat 32 g) (BitVec.ofNat 32 n) = ![((i 0).val * n + g) % 2, 0, 1024, 0] := by
  show ![(Scalar.remsi _ _).toNat, 0, 1024, 0] = _; rw [slotW (i 0).isLt hg hn, nat2]
theorem off20 (i : grid0.Coords) {g n : Nat} (hg : g < n) (hn : n ≤ 40) : k0_off20 i (BitVec.ofNat 32 g) (BitVec.ofNat 32 n) = ![((i 0).val * n + g) % 2, 0, 2048, 0] := by
  show ![(Scalar.remsi _ _).toNat, 0, 2048, 0] = _; rw [slotW (i 0).isLt hg hn, nat2]
theorem off21 (i : grid0.Coords) {g n : Nat} (hg : g < n) (hn : n ≤ 40) : k0_off21 i (BitVec.ofNat 32 g) (BitVec.ofNat 32 n) = ![((i 0).val * n + g) % 2, 0, 3072, 0] := by
  show ![(Scalar.remsi _ _).toNat, 0, 3072, 0] = _; rw [slotW (i 0).isLt hg hn, nat2]
theorem off22 (i : grid0.Coords) {g n : Nat} (hg : g < n) (hn : n ≤ 40) : k0_off22 i (BitVec.ofNat 32 g) (BitVec.ofNat 32 n) = ![((i 0).val * n + g) % 2, 0, 4096, 0] := by
  show ![(Scalar.remsi _ _).toNat, 0, 4096, 0] = _; rw [slotW (i 0).isLt hg hn, nat2]
theorem off23 (i : grid0.Coords) {g n : Nat} (hg : g < n) (hn : n ≤ 40) : k0_off23 i (BitVec.ofNat 32 g) (BitVec.ofNat 32 n) = ![((i 0).val * n + g) % 2, 0, 5120, 0] := by
  show ![(Scalar.remsi _ _).toNat, 0, 5120, 0] = _; rw [slotW (i 0).isLt hg hn, nat2]
theorem off24 (i : grid0.Coords) {g n : Nat} (hg : g < n) (hn : n ≤ 40) : k0_off24 i (BitVec.ofNat 32 g) (BitVec.ofNat 32 n) = ![((i 0).val * n + g) % 2, 0, 6144, 0] := by
  show ![(Scalar.remsi _ _).toNat, 0, 6144, 0] = _; rw [slotW (i 0).isLt hg hn, nat2]
theorem off25 (i : grid0.Coords) {g n : Nat} (hg : g < n) (hn : n ≤ 40) : k0_off25 i (BitVec.ofNat 32 g) (BitVec.ofNat 32 n) = ![((i 0).val * n + g) % 2, 0, 0, 0] := by
  show ![(Scalar.remsi _ _).toNat, 0, 0, 0] = _; rw [slotW (i 0).isLt hg hn, nat2]
theorem off26 (i : grid0.Coords) {g n : Nat} (hg : g < n) (hn : n ≤ 40) : k0_off26 i (BitVec.ofNat 32 g) (BitVec.ofNat 32 n) = ![((i 0).val * n + g) % 2, 0, 1024, 0] := by
  show ![(Scalar.remsi _ _).toNat, 0, 1024, 0] = _; rw [slotW (i 0).isLt hg hn, nat2]
theorem off27 (i : grid0.Coords) {g n : Nat} (hg : g < n) (hn : n ≤ 40) : k0_off27 i (BitVec.ofNat 32 g) (BitVec.ofNat 32 n) = ![((i 0).val * n + g) % 2, 0, 2048, 0] := by
  show ![(Scalar.remsi _ _).toNat, 0, 2048, 0] = _; rw [slotW (i 0).isLt hg hn, nat2]
theorem off28 (i : grid0.Coords) {g n : Nat} (hg : g < n) (hn : n ≤ 40) : k0_off28 i (BitVec.ofNat 32 g) (BitVec.ofNat 32 n) = ![((i 0).val * n + g) % 2, 0, 3072, 0] := by
  show ![(Scalar.remsi _ _).toNat, 0, 3072, 0] = _; rw [slotW (i 0).isLt hg hn, nat2]
theorem off29 (i : grid0.Coords) {g n : Nat} (hg : g < n) (hn : n ≤ 40) : k0_off29 i (BitVec.ofNat 32 g) (BitVec.ofNat 32 n) = ![((i 0).val * n + g) % 2, 0, 4096, 0] := by
  show ![(Scalar.remsi _ _).toNat, 0, 4096, 0] = _; rw [slotW (i 0).isLt hg hn, nat2]
theorem off30 (i : grid0.Coords) {g n : Nat} (hg : g < n) (hn : n ≤ 40) : k0_off30 i (BitVec.ofNat 32 g) (BitVec.ofNat 32 n) = ![((i 0).val * n + g) % 2, 0, 5120, 0] := by
  show ![(Scalar.remsi _ _).toNat, 0, 5120, 0] = _; rw [slotW (i 0).isLt hg hn, nat2]
theorem off31 (i : grid0.Coords) {g n : Nat} (hg : g < n) (hn : n ≤ 40) : k0_off31 i (BitVec.ofNat 32 g) (BitVec.ofNat 32 n) = ![((i 0).val * n + g) % 2, 0, 6144, 0] := by
  show ![(Scalar.remsi _ _).toNat, 0, 6144, 0] = _; rw [slotW (i 0).isLt hg hn, nat2]
theorem off32 (i : grid0.Coords) {g n : Nat} (hg : g < n) (hn : n ≤ 40) : k0_off32 i (BitVec.ofNat 32 g) (BitVec.ofNat 32 n) = ![((i 0).val * n + g) % 2, 0, 0, 0] := by
  show ![(Scalar.remsi _ _).toNat, 0, 0, 0] = _; rw [slotW (i 0).isLt hg hn, nat2]
theorem off33 (i : grid0.Coords) {g n : Nat} (hg : g < n) (hn : n ≤ 40) : k0_off33 i (BitVec.ofNat 32 g) (BitVec.ofNat 32 n) = ![((i 0).val * n + g) % 2, 0, 1024, 0] := by
  show ![(Scalar.remsi _ _).toNat, 0, 1024, 0] = _; rw [slotW (i 0).isLt hg hn, nat2]
theorem off34 (i : grid0.Coords) {g n : Nat} (hg : g < n) (hn : n ≤ 40) : k0_off34 i (BitVec.ofNat 32 g) (BitVec.ofNat 32 n) = ![((i 0).val * n + g) % 2, 0, 2048, 0] := by
  show ![(Scalar.remsi _ _).toNat, 0, 2048, 0] = _; rw [slotW (i 0).isLt hg hn, nat2]
theorem off35 (i : grid0.Coords) {g n : Nat} (hg : g < n) (hn : n ≤ 40) : k0_off35 i (BitVec.ofNat 32 g) (BitVec.ofNat 32 n) = ![((i 0).val * n + g) % 2, 0, 3072, 0] := by
  show ![(Scalar.remsi _ _).toNat, 0, 3072, 0] = _; rw [slotW (i 0).isLt hg hn, nat2]
theorem off36 (i : grid0.Coords) {g n : Nat} (hg : g < n) (hn : n ≤ 40) : k0_off36 i (BitVec.ofNat 32 g) (BitVec.ofNat 32 n) = ![((i 0).val * n + g) % 2, 0, 4096, 0] := by
  show ![(Scalar.remsi _ _).toNat, 0, 4096, 0] = _; rw [slotW (i 0).isLt hg hn, nat2]
theorem off37 (i : grid0.Coords) {g n : Nat} (hg : g < n) (hn : n ≤ 40) : k0_off37 i (BitVec.ofNat 32 g) (BitVec.ofNat 32 n) = ![((i 0).val * n + g) % 2, 0, 5120, 0] := by
  show ![(Scalar.remsi _ _).toNat, 0, 5120, 0] = _; rw [slotW (i 0).isLt hg hn, nat2]
theorem off38 (i : grid0.Coords) {g n : Nat} (hg : g < n) (hn : n ≤ 40) : k0_off38 i (BitVec.ofNat 32 g) (BitVec.ofNat 32 n) = ![((i 0).val * n + g) % 2, 0, 6144, 0] := by
  show ![(Scalar.remsi _ _).toNat, 0, 6144, 0] = _; rw [slotW (i 0).isLt hg hn, nat2]
theorem off39 (i : grid0.Coords) {g n : Nat} (hg : g < n) (hn : n ≤ 40) : k0_off39 i (BitVec.ofNat 32 g) (BitVec.ofNat 32 n) = ![((i 0).val * n + g) % 2, 0, 0, 0] := by
  show ![(Scalar.remsi _ _).toNat, 0, 0, 0] = _; rw [slotW (i 0).isLt hg hn, nat2]
theorem off40 (i : grid0.Coords) {g n : Nat} (hg : g < n) (hn : n ≤ 40) : k0_off40 i (BitVec.ofNat 32 g) (BitVec.ofNat 32 n) = ![((i 0).val * n + g) % 2, 0, 1024, 0] := by
  show ![(Scalar.remsi _ _).toNat, 0, 1024, 0] = _; rw [slotW (i 0).isLt hg hn, nat2]
theorem off41 (i : grid0.Coords) {g n : Nat} (hg : g < n) (hn : n ≤ 40) : k0_off41 i (BitVec.ofNat 32 g) (BitVec.ofNat 32 n) = ![((i 0).val * n + g) % 2, 0, 2048, 0] := by
  show ![(Scalar.remsi _ _).toNat, 0, 2048, 0] = _; rw [slotW (i 0).isLt hg hn, nat2]
theorem off42 (i : grid0.Coords) {g n : Nat} (hg : g < n) (hn : n ≤ 40) : k0_off42 i (BitVec.ofNat 32 g) (BitVec.ofNat 32 n) = ![((i 0).val * n + g) % 2, 0, 3072, 0] := by
  show ![(Scalar.remsi _ _).toNat, 0, 3072, 0] = _; rw [slotW (i 0).isLt hg hn, nat2]
theorem off43 (i : grid0.Coords) {g n : Nat} (hg : g < n) (hn : n ≤ 40) : k0_off43 i (BitVec.ofNat 32 g) (BitVec.ofNat 32 n) = ![((i 0).val * n + g) % 2, 0, 4096, 0] := by
  show ![(Scalar.remsi _ _).toNat, 0, 4096, 0] = _; rw [slotW (i 0).isLt hg hn, nat2]
theorem off44 (i : grid0.Coords) {g n : Nat} (hg : g < n) (hn : n ≤ 40) : k0_off44 i (BitVec.ofNat 32 g) (BitVec.ofNat 32 n) = ![((i 0).val * n + g) % 2, 0, 5120, 0] := by
  show ![(Scalar.remsi _ _).toNat, 0, 5120, 0] = _; rw [slotW (i 0).isLt hg hn, nat2]
theorem off45 (i : grid0.Coords) {g n : Nat} (hg : g < n) (hn : n ≤ 40) : k0_off45 i (BitVec.ofNat 32 g) (BitVec.ofNat 32 n) = ![((i 0).val * n + g) % 2, 0, 6144, 0] := by
  show ![(Scalar.remsi _ _).toNat, 0, 6144, 0] = _; rw [slotW (i 0).isLt hg hn, nat2]
theorem off5 (i : grid0.Coords) (w : BitVec 32) : k0_off5 i w = ![0, w.toNat, 0, 512 * (i 0).val] := by
  show ![0, w.toNat, 0, (Scalar.muli _ _).toNat] = _; rw [colW (i 0)]
theorem off9 (i : grid0.Coords) (w : BitVec 32) : k0_off9 i w = ![0, w.toNat, 0, 512 * (i 0).val] := by
  show ![0, w.toNat, 0, (Scalar.muli _ _).toNat] = _; rw [colW (i 0)]
theorem off13 (i : grid0.Coords) (w : BitVec 32) : k0_off13 i w = ![0, w.toNat, 0, 512 * (i 0).val] := by
  show ![0, w.toNat, 0, (Scalar.muli _ _).toNat] = _; rw [colW (i 0)]
theorem off16 (i : grid0.Coords) (w : BitVec 32) : k0_off16 i w = ![0, w.toNat, 0, 512 * ((i 0).val + 1)] := by
  show ![0, w.toNat, 0, (Scalar.muli (Scalar.addi _ _) _).toNat] = _; rw [colW' (i 0)]
theorem off1 (i : grid0.Coords) : k0_off1 i = ![(i 1).val] := by
  show ![(BitVec.ofNat 32 (i 1).val).toNat] = _; rw [BitVec.toNat_ofNat, Nat.mod_eq_of_lt (lt_of_lt_of_le (i 1).isLt (by decide))]
theorem off2 (i : grid0.Coords) : k0_off2 i = ![(i 1).val] := by
  show ![(BitVec.ofNat 32 (i 1).val).toNat] = _; rw [BitVec.toNat_ofNat, Nat.mod_eq_of_lt (lt_of_lt_of_le (i 1).isLt (by decide))]
theorem off6 (i : grid0.Coords) : k0_off6 i = ![(i 1).val] := by
  show ![(BitVec.ofNat 32 (i 1).val).toNat] = _; rw [BitVec.toNat_ofNat, Nat.mod_eq_of_lt (lt_of_lt_of_le (i 1).isLt (by decide))]
theorem off10 (i : grid0.Coords) : k0_off10 i = ![(i 1).val] := by
  show ![(BitVec.ofNat 32 (i 1).val).toNat] = _; rw [BitVec.toNat_ofNat, Nat.mod_eq_of_lt (lt_of_lt_of_le (i 1).isLt (by decide))]
theorem off17 (i : grid0.Coords) : k0_off17 i = ![(i 1).val] := by
  show ![(BitVec.ofNat 32 (i 1).val).toNat] = _; rw [BitVec.toNat_ofNat, Nat.mod_eq_of_lt (lt_of_lt_of_le (i 1).isLt (by decide))]
theorem cond1 (w : BitVec 32) : k0_cond1 w = 1#1 ↔ w = 1#32 := by
  unfold k0_cond1; simp only [scalar_cmpi_eq, cmpi_eq_eq, scalar_extui_ofBool]
  by_cases h : w = 1#32 <;> simp [h] <;> decide
theorem cond2 (i : grid0.Coords) {g n : Nat} (hg : g < n) (hn : n ≤ 40) : k0_cond2 i (BitVec.ofNat 32 g) (BitVec.ofNat 32 n) = 1#1 ↔ (i 0).val * n + g = 0 := by
  unfold k0_cond2; simp only [blkW, scalar_cmpi_eq, cmpi_eq_eq_toNat, scalar_extui_ofBool]
  rw [BitVec.toNat_ofNat, Nat.mod_eq_of_lt (lt_of_lt_of_le (lt400 (i 0).isLt hg hn) (by decide))]
  generalize (i 0).val * n + g = b
  show Scalar.cmpi .ne (if decide (b = 0) = true then 1#32 else 0#32) 0#32 = _ ↔ _
  by_cases h : b = 0
  · rw [if_pos (by simpa using h)]; exact ⟨fun _ => h, fun _ => by decide⟩
  · rw [if_neg (by simpa using h)]; exact ⟨fun h' => absurd h' (by decide), fun h' => absurd h' h⟩
theorem cond3 {g n : Nat} (hg : g < n) (hn : n ≤ 40) : k0_cond3 (BitVec.ofNat 32 g) (BitVec.ofNat 32 n) = 1#1 ↔ g + 1 < n := by
  unfold k0_cond3; show Scalar.cmpi .ne (Scalar.extui (IntOp.cmpi .slt (IntOp.addi (BitVec.ofNat 32 g) (BitVec.ofNat 32 1)) (BitVec.ofNat 32 n))) 0#32 = _ ↔ _
  rw [addi_ofNat, cmpi_slt_ofNat (by show _ < 2147483648; omega) (by show _ < 2147483648; omega), scalar_extui_ofBool]
  by_cases h : g + 1 < n <;> simp [h] <;> decide
theorem cond4 (i : grid0.Coords) {g n : Nat} (hg : g < n) (hn : n ≤ 40) : k0_cond4 i (BitVec.ofNat 32 g) (BitVec.ofNat 32 n) = 1#1 ↔ ¬g + 1 < n ∧ (i 0).val + 1 < 4 := by
  have hk : (i 0).val < 4 := (i 0).isLt
  unfold k0_cond4; show Scalar.cmpi .ne (Scalar.extui (Scalar.andi (Scalar.xori (IntOp.cmpi .slt (IntOp.addi (BitVec.ofNat 32 g) (BitVec.ofNat 32 1)) (BitVec.ofNat 32 n)) 1#1) (IntOp.cmpi .slt (IntOp.addi (BitVec.ofNat 32 (i 0).val) (BitVec.ofNat 32 1)) (BitVec.ofNat 32 4)))) 0#32 = _ ↔ _
  rw [addi_ofNat, addi_ofNat, cmpi_slt_ofNat (by show _ < 2147483648; omega) (by show _ < 2147483648; omega), cmpi_slt_ofNat (by show _ < 2147483648; omega) (by show _ < 2147483648; omega)]
  by_cases h : g + 1 < n <;> by_cases h' : (i 0).val + 1 < 4 <;> simp only [h, h', decide_true, decide_false] <;> decide
end Cert.MoeDownIdeal.Hand
end
-- ==== Proof.DownStream.lean ====
/- One point's part of the stream of expert weights, against the schedule. -/
module

public import proofs.«01_k».proof.Proof.DownBody
public import proofs.«01_k».proof.Proof.UpSched
public import proofs.«01_k».proof.Proof.DownWord

@[expose] public section

set_option synthInstance.maxSize 4096

noncomputable section

namespace Cert.MoeDownIdeal.Hand

open Cert.MoeDownIdeal Cert.MoeDownIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The two parts that begin a later block. -/
def nextP (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) (k0_h1 : k0_cond1 v7 = 1#1) : Prog (TpuEff nD τ sig (Elt F) Λ₀ .tc) PUnit :=
  (if k0_h3 : k0_cond3 v1 v2 = 1#1 then beginN i arg2 arg7 arg10 arg12 arg13 v1 v2 v7 k0_hw1 k0_h1 k0_h3 else pure ⟨⟩) >>= fun _ =>
    if k0_h4 : k0_cond4 i v1 v2 = 1#1 then beginC i arg2 arg7 arg10 arg12 arg13 v1 v2 v7 k0_hw1 k0_h1 k0_h4 else pure ⟨⟩
theorem stream_eq' (i : grid0.Coords) (arg2 : Memref sig .tc .smem S40 .i32) (arg7 : Memref sig .tc .smem S40 .i32) (arg10 : Memref sig .tc .hbm S1x8x7168x2048 .f32) (arg12 : Memref sig .tc .vmem S2x1x7168x512 .f32) (arg13 : DmaSems sig S2x1) (v1 v2 v7 : Elt F .i32) (k0_hw1 : k0_chk1 i v1 v2 v7) :
    streamP i arg2 arg7 arg10 arg12 arg13 v1 v2 v7 k0_hw1 = if k0_h1 : k0_cond1 v7 = 1#1 then
      ((if k0_h2 : k0_cond2 i v1 v2 = 1#1 then begin0 i arg2 arg7 arg10 arg12 arg13 v1 v2 v7 k0_hw1 k0_h1 k0_h2 else pure ⟨⟩) >>= fun _ =>
        (waitB i arg2 arg7 arg10 arg12 arg13 v1 v2 v7 k0_hw1 k0_h1 >>= fun _ => nextP i arg2 arg7 arg10 arg12 arg13 v1 v2 v7 k0_hw1 k0_h1)) else pure ⟨⟩ := by
  unfold streamP nextP; simp only [dite_bnd, pure_bind]

variable (c : Dev nD) (fg : WBuf (F := F) c) (S : Sched)

abbrev kB (b : Nat) : Fin 4 := S.kb 4 (by decide) b

/-- What the streaming holds once `n` blocks have been waited for. -/
def SLOTS (n : Nat) : sProp 𝕄 :=
  if n = 0 then iprop(FREE c fg 0 ∗ FREE c fg 1)
  else iprop(KEPT c fg (Sched.sl (n - 1)) (S.eb (n - 1)) (kB S (n - 1))
    ∗ (if n < 4 * S.ng then FLY c fg (Sched.sl n) (S.eb n) (kB S n) else FREE c fg (Sched.sl n)))

theorem kept_free (s : Fin 2) (e : Fin 8) (k : Fin 4) : KEPT c fg s e k ⊢ FREE c fg s := by
  unfold KEPT FREE
  iintro ⟨H0, ⟨%f0, H2⟩, H4⟩
  isplitl [H0]; · iexact H0
  isplitl [H2]; · iexists _; iexact H2
  iexact H4

theorem sl_pred (b : Nat) (h : b ≠ 0) : Sched.sl (b - 1) = Sched.sl (b + 1) := Fin.ext (by show (b - 1) % 2 = (b + 1) % 2; omega)

theorem slots_start (b : Nat) (h : b ≠ 0) (hb : b < 4 * S.ng) :
    SLOTS c fg S b ⊢ iprop(FLY c fg (Sched.sl b) (S.eb b) (kB S b) ∗ FREE c fg (Sched.sl (b + 1))) := by
  unfold SLOTS
  rw [if_neg h, if_pos hb, ← sl_pred b h]
  iintro ⟨HK, HF⟩
  isplitl [HF]; · iexact HF
  iapply (kept_free c fg); iexact HK

abbrev T0At (T0 : TBuf (F := F) c (Memref.whole main_arg0)) : sProp 𝕄 := (Memref.whole main_arg0 : Memref sig .tc .smem S40 .i32).view.loc (c : Thread nD τ) ↦{fullShare.right} T0
abbrev T5At (T5 : TBuf (F := F) c (Memref.whole main_arg5)) : sProp 𝕄 := (Memref.whole main_arg5 : Memref sig .tc .smem S40 .i32).view.loc (c : Thread nD τ) ↦{fullShare.right} T5

/-- What the words of the two tables of experts are. -/
structure Words (T0 : TBuf (F := F) c (Memref.whole main_arg0)) (T5 : TBuf (F := F) c (Memref.whole main_arg5)) : Prop where
  te : ∀ (j : Nat) (o : Fin 1 → Nat) (h), j < 40 → o = ![j] → rdW c (Memref.whole main_arg0) T0 o h = BitVec.ofNat 32 (S.te j).val
  nx : ∀ (j : Nat) (o : Fin 1 → Nat) (h), j < 40 → o = ![j] → S.fst j → S.grp j + 1 < S.ng → rdW c (Memref.whole main_arg5) T5 o h = BitVec.ofNat 32 (S.nx j).val

theorem j_lt (t : Nat) : t % 40 < 40 := Nat.mod_lt _ (by decide)
theorem nat8 (e : Fin 8) : (BitVec.ofNat 32 e.val).toNat = e.val := by rw [BitVec.toNat_ofNat]; exact Nat.mod_eq_of_lt (lt_of_lt_of_le e.isLt (by decide))

variable (T0 : TBuf (F := F) c (Memref.whole main_arg0)) (T5 : TBuf (F := F) c (Memref.whole main_arg5))

theorem blk_coords (i : grid0.Coords) (t : Nat) (hk : (i 0).val = t / 40) : (i 0).val * S.ng + S.grp (t % 40) = S.blk t := by unfold Sched.blk; rw [hk]
theorem k_lt (i : grid0.Coords) (t : Nat) (hk : (i 0).val = t / 40) : t / 40 < 4 := by rw [← hk]; exact (i 0).isLt

section
variable (i : grid0.Coords) (t : Nat) (hk : (i 0).val = t / 40) (hj : (i 1).val = t % 40) (hW : Words c S T0 T5)
include hk hj hW
/-- The first block is begun, or is under way already. -/
theorem first_run (v7 : Elt F .i32) (hw1 h1) (Q : PUnit → sProp 𝕄) (hf : S.fst (t % 40)) :
    iprop(SLOTS c fg S (S.blk t) ∗ T0At c T0
        ∗ ((FLY c fg (Sched.sl (S.blk t)) (S.eb (S.blk t)) (kB S (S.blk t)) ∗ FREE c fg (Sched.sl (S.blk t + 1))) ∗ T0At c T0 -∗ Q ⟨⟩))
      ⊢ wp frame (wpE (defs₀ (F := F)) Variants.none (c : Thread nD τ) none) Set.univ
          (if h2 : k0_cond2 i (BitVec.ofNat 32 (S.grp (t % 40))) (BitVec.ofNat 32 S.ng) = 1#1 then
            begin0 (F := F) i (Memref.whole main_arg0) (Memref.whole main_arg5) (Memref.whole main_arg8) (Memref.whole cc0_scratch0) cc0_scratch1 (BitVec.ofNat 32 (S.grp (t % 40))) (BitVec.ofNat 32 S.ng) v7 hw1 h1 h2
          else pure ⟨⟩) Q := by
  have hg := S.grp_lt (j_lt t)
  have hn := S.ng_le
  have hb := blk_coords S i t hk
  by_cases h2 : k0_cond2 i (BitVec.ofNat 32 (S.grp (t % 40))) (BitVec.ofNat 32 S.ng) = 1#1
  · have h0 : S.blk t = 0 := by rw [← hb]; exact (cond2 i hg hn).1 h2
    have hz := (S.blk_zero t).1 h0
    have he := S.eb_blk t
    have hkb : kB S (S.blk t) = i 0 := S.kb_blk 4 (by decide) t (i 0) hk.symm
    rw [dif_pos h2, he, hkb]
    rw [show Sched.sl (S.blk t) = 0 from Fin.ext (by show _ % 2 = 0; rw [h0]), show Sched.sl (S.blk t + 1) = 1 from Fin.ext (by show _ % 2 = 1; rw [h0])]
    unfold SLOTS
    rw [if_pos h0]
    iintro ⟨⟨HF, HG⟩, HT, Hk⟩
    iapply (begin0_run c fg i _ _ v7 hw1 h1 h2 0 (S.te (t % 40)) (i 0) T0
      (by rw [off3 i hg hn, hb, h0]; rfl) (by rw [off4 i hg hn, hb, h0]; rfl)
      (by rw [hW.te (t % 40) _ _ (j_lt t) (by rw [off2, hj]), off5, nat8]) Q)
    isplitl [HF]; · iexact HF
    isplitl [HT]; · iexact HT
    iintro ⟨HF, HT⟩
    iapply Hk
    isplitr [HT]
    · isplitl [HF]; · iexact HF
      iexact HG
    iexact HT
  · have h0 : S.blk t ≠ 0 := fun h => h2 ((cond2 i hg hn).2 (by rw [hb]; exact h))
    rw [dif_neg h2]
    iintro ⟨HS, HT, Hk⟩
    rw [wp_pure]
    imodintro
    iapply Hk
    isplitr [HT]
    · iapply (slots_start c fg S (S.blk t) h0 (S.blk_lt 4 t (k_lt i t hk))); iexact HS
    iexact HT

/-- This point's block is waited for. -/
theorem wait_step (v7 : Elt F .i32) (hw1 h1) (W : Waits sig Unit) (Q : PUnit → sProp 𝕄) :
    iprop(FLY c fg (Sched.sl (S.blk t)) (S.eb (S.blk t)) (kB S (S.blk t)) ∗ owes (c : Thread nD τ) 0 W ∗ T0At c T0
        ∗ (KEPT c fg (Sched.sl (S.blk t)) (S.eb (S.blk t)) (kB S (S.blk t)) ∗ (∃ W, owes (c : Thread nD τ) 0 W) ∗ T0At c T0 -∗ Q ⟨⟩))
      ⊢ wp frame (wpE (defs₀ (F := F)) Variants.none (c : Thread nD τ) none) Set.univ
          (waitB (F := F) i (Memref.whole main_arg0) (Memref.whole main_arg5) (Memref.whole main_arg8) (Memref.whole cc0_scratch0) cc0_scratch1 (BitVec.ofNat 32 (S.grp (t % 40))) (BitVec.ofNat 32 S.ng) v7 hw1 h1) Q := by
  have hg := S.grp_lt (j_lt t)
  have hn := S.ng_le
  have hb := blk_coords S i t hk
  have he := S.eb_blk t
  have hkb : kB S (S.blk t) = i 0 := S.kb_blk 4 (by decide) t (i 0) hk.symm
  rw [he, hkb]
  exact waitB_run c fg i _ _ v7 hw1 h1 (Sched.sl (S.blk t)) (S.te (t % 40)) (i 0) T0
      (by rw [off7 i hg hn, hb]; rfl) (by rw [off8 i hg hn, hb]; rfl)
      (by rw [hW.te (t % 40) _ _ (j_lt t) (by rw [off6, hj]), off9, nat8]) W Q

/-- The next block is begun, the next group's or the next column's first, if there is one. -/
theorem next_run (v7 : Elt F .i32) (hw1 h1) (Q : PUnit → sProp 𝕄) (hf : S.fst (t % 40)) :
    iprop(FREE c fg (Sched.sl (S.blk t + 1)) ∗ T0At c T0 ∗ T5At c T5
        ∗ ((if S.blk t + 1 < 4 * S.ng then FLY c fg (Sched.sl (S.blk t + 1)) (S.eb (S.blk t + 1)) (kB S (S.blk t + 1)) else FREE c fg (Sched.sl (S.blk t + 1))) ∗ T0At c T0 ∗ T5At c T5 -∗ Q ⟨⟩))
      ⊢ wp frame (wpE (defs₀ (F := F)) Variants.none (c : Thread nD τ) none) Set.univ
          (nextP (F := F) i (Memref.whole main_arg0) (Memref.whole main_arg5) (Memref.whole main_arg8) (Memref.whole cc0_scratch0) cc0_scratch1 (BitVec.ofNat 32 (S.grp (t % 40))) (BitVec.ofNat 32 S.ng) v7 hw1 h1) Q := by
  have hg := S.grp_lt (j_lt t)
  have hn := S.ng_le
  have hb := blk_coords S i t hk
  have hkl := k_lt i t hk
  unfold nextP
  rw [wp_bind]
  by_cases h3 : S.grp (t % 40) + 1 < S.ng
  · have h4 : ¬k0_cond4 i (BitVec.ofNat 32 (S.grp (t % 40))) (BitVec.ofNat 32 S.ng) = 1#1 := fun h => ((cond4 i hg hn).1 h).1 h3
    have hkb : kB S (S.blk t + 1) = i 0 := S.kb_next 4 (by decide) t (i 0) hk.symm h3
    rw [dif_pos ((cond3 hg hn).2 h3), if_pos (S.next_lt 4 t hkl h3), S.eb_next t hf h3, hkb]
    iintro ⟨HF, HT, HN, Hk⟩
    iapply (beginN_run c fg i _ _ v7 hw1 h1 _ (Sched.sl (S.blk t + 1)) (S.nx (t % 40)) (i 0) T5
      (by rw [off11 i hg hn, hb]; rfl) (by rw [off12 i hg hn, hb]; rfl)
      (by rw [hW.nx (t % 40) _ _ (j_lt t) (by rw [off10, hj]) hf h3, off13, nat8]) _)
    isplitl [HF]; · iexact HF
    isplitl [HN]; · iexact HN
    iintro ⟨HF, HN⟩
    rw [dif_neg h4, wp_pure]
    imodintro
    iapply Hk
    isplitl [HF]; · iexact HF
    isplitl [HT]; · iexact HT
    iexact HN
  · rw [dif_neg (fun h => h3 ((cond3 hg hn).1 h)), wp_pure]
    by_cases h4 : t / 40 + 1 < 4
    · have h4' : k0_cond4 i (BitVec.ofNat 32 (S.grp (t % 40))) (BitVec.ofNat 32 S.ng) = 1#1 := (cond4 i hg hn).2 ⟨h3, by rw [hk]; exact h4⟩
      have hkb : kB S (S.blk t + 1) = ⟨t / 40 + 1, h4⟩ := S.kb_last 4 (by decide) t ⟨t / 40 + 1, h4⟩ rfl h3
      rw [dif_pos h4', if_pos (S.last_lt 4 t h4 h3), S.eb_last t h3, hkb]
      iintro ⟨HF, HT, HN, Hk⟩
      imodintro
      iapply (beginC_run c fg i _ _ v7 hw1 h1 h4' (Sched.sl (S.blk t + 1)) (S.te 0) ⟨t / 40 + 1, h4⟩ T0
        (by rw [off14 i hg hn, hb]; rfl) (by rw [off15 i hg hn, hb]; rfl)
        (by rw [hW.te 0 _ _ (by decide) rfl, off16, nat8, hk]) Q)
      isplitl [HF]; · iexact HF
      isplitl [HT]; · iexact HT
      iintro ⟨HF, HT⟩
      iapply Hk
      isplitl [HF]; · iexact HF
      isplitl [HT]; · iexact HT
      iexact HN
    · have h4' : ¬k0_cond4 i (BitVec.ofNat 32 (S.grp (t % 40))) (BitVec.ofNat 32 S.ng) = 1#1 := fun h => h4 (by have := ((cond4 i hg hn).1 h).2; rwa [hk] at this)
      rw [dif_neg h4', wp_pure, if_neg (by rw [S.end_eq 4 t (by omega) h3]; exact lt_irrefl _)]
      iintro ⟨HF, HT, HN, Hk⟩
      imodintro
      imodintro
      iapply Hk
      isplitl [HF]; · iexact HF
      isplitl [HT]; · iexact HT
      iexact HN

/-- A point's part of the stream: the blocks waited for go from `done t` to `done (t + 1)`. -/
theorem stream_run (v7 : Elt F .i32) (h7 : v7 = 1#32 ↔ S.fst (t % 40)) (hw1) (W : Waits sig Unit) (Q : PUnit → sProp 𝕄) :
    iprop(SLOTS c fg S (S.done t) ∗ owes (c : Thread nD τ) 0 W ∗ T0At c T0 ∗ T5At c T5
        ∗ (SLOTS c fg S (S.blk t + 1) ∗ (∃ W, owes (c : Thread nD τ) 0 W) ∗ T0At c T0 ∗ T5At c T5 -∗ Q ⟨⟩))
      ⊢ wp frame (wpE (defs₀ (F := F)) Variants.none (c : Thread nD τ) none) Set.univ
          (streamP (F := F) i (Memref.whole main_arg0) (Memref.whole main_arg5) (Memref.whole main_arg8) (Memref.whole cc0_scratch0) cc0_scratch1 (BitVec.ofNat 32 (S.grp (t % 40))) (BitVec.ofNat 32 S.ng) v7 hw1) Q := by
  rw [stream_eq']
  by_cases hf : S.fst (t % 40)
  · have h1 : k0_cond1 v7 = 1#1 := (cond1 v7).2 (h7.2 hf)
    rw [dif_pos h1, S.done_fst t hf, wp_bind]
    iintro ⟨HS, HO, HT, HN, Hk⟩
    iapply (first_run c fg S T0 T5 i t hk hj hW v7 hw1 h1 _ hf)
    isplitl [HS]; · iexact HS
    isplitl [HT]; · iexact HT
    iintro ⟨⟨HF, HG⟩, HT⟩
    rw [wp_bind]
    iapply (wait_step c fg S T0 T5 i t hk hj hW v7 hw1 h1 W _)
    isplitl [HF]; · iexact HF
    isplitl [HO]; · iexact HO
    isplitl [HT]; · iexact HT
    iintro ⟨HK, HO, HT⟩
    iapply (next_run c fg S T0 T5 i t hk hj hW v7 hw1 h1 _ hf)
    isplitl [HG]; · iexact HG
    isplitl [HT]; · iexact HT
    isplitl [HN]; · iexact HN
    iintro ⟨HF, HT, HN⟩
    iapply Hk
    isplitl [HK HF]
    · unfold SLOTS
      rw [if_neg (Nat.succ_ne_zero _), Nat.add_sub_cancel]
      isplitl [HK]; · iexact HK
      iexact HF
    isplitl [HO]; · iexact HO
    isplitl [HT]; · iexact HT
    iexact HN
  · have h1 : ¬k0_cond1 v7 = 1#1 := fun h => hf (h7.1 ((cond1 v7).1 h))
    rw [dif_neg h1, S.done_not t hf, wp_pure]
    iintro ⟨HS, HO, HT, HN, Hk⟩
    imodintro
    iapply Hk
    isplitl [HS]; · iexact HS
    isplitl [HO]; · iexists _; iexact HO
    isplitl [HT]; · iexact HT
    iexact HN
end

end Cert.MoeDownIdeal.Hand

end
-- ==== Proof.DownCompute.lean ====
/- One point's products, over the block its slot holds, and the whole of a point's body. -/
module

public import proofs.«01_k».proof.Proof.DownStream
public import Idealize.ShloMosaic.Lib.WritesUnit

@[expose] public section

set_option synthInstance.maxSize 4096

noncomputable section

namespace Cert.MoeDownIdeal.Hand

open Cert.MoeDownIdeal Cert.MoeDownIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- Two boxes of one size that read the same once their unit axes are dropped read the same. -/
theorem readAt_of_squeeze {κ κ' : Kind} {sp sp' : Space} {e : EltTy} {d d' size : Fin 4 → Nat} (M : Memref sig κ sp ⟨4, d⟩ e) (M' : Memref sig κ' sp' ⟨4, d'⟩ e)
    (o o' : Fin 4 → Nat) (inb : ∀ a, o a + size a ≤ d a) (inb' : ∀ a, o' a + size a ≤ d' a) {sh : Shape} (hq : (⟨4, size⟩ : Shape).Squeezes sh) (f) (f')
    (h : ((M.slice (Rect.unit (s := ⟨4, d⟩) o size inb) (fun _ => rfl)).squeeze sh hq).view.read (Elt F) f = ((M'.slice (Rect.unit (s := ⟨4, d'⟩) o' size inb') (fun _ => rfl)).squeeze sh hq).view.read (Elt F) f') :
    View.readAt (Elt F) M.view (Rect.unit (s := ⟨4, d⟩) o size inb) f = View.readAt (Elt F) M'.view (Rect.unit (s := ⟨4, d'⟩) o' size inb') f' := by
  funext x
  have e : ∀ x, Shape.reshapeEquiv hq.numel_eq ((Shape.reshapeEquiv hq.numel_eq).symm x) = x := fun x => Equiv.apply_symm_apply _ x
  have := congrFun h ((Shape.reshapeEquiv hq.numel_eq).symm x)
  rw [← e x]
  exact this

variable (c : Dev nD) (fg : WBuf (F := F) c)

/-- Expert `e`'s column block `k` of the weights as a load of it reads it. -/
def gW (e : Fin 8) (k : Fin 4) : Vec F S1x1x7168x512 .f32 :=
  View.readAt (Elt F) (Memref.whole main_arg8 : Memref sig .tc .hbm S1x8x7168x2048 .f32).view (Rect.unit (s := S1x8x7168x2048) ![0, e.val, 0, 512 * k.val] S1x1x7168x512.size (inbW e k)) fg
theorem inbJ (j : Fin 7) : ∀ a, (![0, 0, 1024 * j.val, 0] : Fin 4 → Nat) a + S1x1x1024x512.size a ≤ S1x1x7168x512.size a := by
  have := j.isLt; intro a; fin_cases a
  · show 0 + 1 ≤ 1; omega
  · show 0 + 1 ≤ 1; omega
  · show 1024 * j.val + 1024 ≤ 7168; omega
  · show 0 + 512 ≤ 512; omega
/-- The 1024 rows `j` of a block. -/
def part (g : Vec F S1x1x7168x512 .f32) (j : Fin 7) : Vec F S1x1x1024x512 .f32 := View.ld g (Rect.unit (s := S1x1x7168x512) ![0, 0, 1024 * j.val, 0] S1x1x1024x512.size (inbJ j))
/-- A slot's 1024 rows `j` as a load of them reads them. -/
abbrev chunk (s : Fin 2) (j : Fin 7) (f : Buf (Elt F) ((slotM s).view.loc (c : Thread nD τ))) : Vec F S1x1x1024x512 .f32 :=
  View.readAt (Elt F) (Memref.whole cc0_scratch0 : Memref sig .tc .vmem S2x1x7168x512 .f32).view (Rect.unit (s := S2x1x7168x512) ![s.val, 0, 1024 * j.val, 0] S1x1x1024x512.size (inbP s j)).toLoadRect f

theorem landG_read (s : Fin 2) (e : Fin 8) (k : Fin 4) (f0) :
    View.readAt (Elt F) (Memref.whole cc0_scratch0 : Memref sig .tc .vmem S2x1x7168x512 .f32).view (Rect.unit (s := S2x1x7168x512) ![s.val, 0, 0, 0] S1x1x7168x512.size (inbS s)).toLoadRect (landG c fg s e k f0) = gW c fg e k := by
  refine readAt_of_squeeze (Memref.whole cc0_scratch0 : Memref sig .tc .vmem S2x1x7168x512 .f32) (Memref.whole main_arg8 : Memref sig .tc .hbm S1x8x7168x2048 .f32) _ _ _ _ squeezes_S1x1x7168x512_S7168x512 _ _ ?_
  exact View.read_writes_whole (slotM s).view f0 ((srcG e k).view.read (Elt F) fg)
theorem chunk_part (s : Fin 2) (j : Fin 7) (f) : chunk (F := F) c s j f = part (View.readAt (Elt F) (Memref.whole cc0_scratch0 : Memref sig .tc .vmem S2x1x7168x512 .f32).view (Rect.unit (s := S2x1x7168x512) ![s.val, 0, 0, 0] S1x1x7168x512.size (inbS s)).toLoadRect f) j := by
  funext x
  refine congrArg f (congrArg _ (funext fun a => ?_))
  fin_cases a <;> refine Fin.ext ?_
  · show s.val + 1 * (x (0 : Fin 4)).val = s.val + 1 * (0 + 1 * (x (0 : Fin 4)).val); omega
  · show 0 + 1 * (x (1 : Fin 4)).val = 0 + 1 * (0 + 1 * (x (1 : Fin 4)).val); omega
  · show 1024 * j.val + 1 * (x (2 : Fin 4)).val = 0 + 1 * (1024 * j.val + 1 * (x (2 : Fin 4)).val); omega
  · show 0 + 1 * (x (3 : Fin 4)).val = 0 + 1 * (0 + 1 * (x (3 : Fin 4)).val); omega
theorem chunk_land (s : Fin 2) (e : Fin 8) (k : Fin 4) (j : Fin 7) (f0) : chunk (F := F) c s j (landG c fg s e k f0) = part (gW c fg e k) j := by
  rw [chunk_part, landG_read]

theorem inbT128 (j : Fin 7) : ∀ a, (![0, 1024 * j.val] : Fin 2 → Nat) a + S128x1024.size a ≤ S512x7168.size a := by
  have := j.isLt; intro a; fin_cases a
  · show 0 + 128 ≤ 512; omega
  · show 1024 * j.val + 1024 ≤ 7168; omega
/-- The 1024 columns `j` of the rows the case multiplies. -/
def top128 (A : Vec F S512x7168 .bf16) (j : Fin 7) : Vec F S128x1024 .bf16 := View.ld A (Rect.unit (s := S512x7168) ![0, 1024 * j.val] S128x1024.size (inbT128 j))
/-- The seven partial products added up. -/
def sum128 (A : Vec F S512x7168 .bf16) (w : Fin 7 → Vec F S1x1x1024x512 .f32) : FVec F S128x512 .f32 :=
  k0_pay10 (F := F) (k0_pay2 (F := F) (top128 A 0) (w 0) (top128 A 1) (w 1) (top128 A 2) (w 2) (top128 A 3) (w 3)) (top128 A 4) (k0_pay3 (F := F) (w 4)) (top128 A 5) (w 5) (top128 A 6) (w 6)
/-- The output block where 128 rows are counted. -/
def out128 (A : Vec F S512x7168 .bf16) (w : Fin 7 → Vec F S1x1x1024x512 .f32) : Vec F S512x512 .f32 := fun y =>
  if h : 0 ≤ (y (0 : Fin 2)).val ∧ (y (0 : Fin 2)).val < 0 + 128 then sum128 (F := F) A w (Rect.unitLocal (s := S512x512) (off := ![0, 0]) (size := S128x512.size) y (Rect.unit_rows_mem y rfl rfl h)) else k0_pay1 (F := F) y

theorem inbT256 (j : Fin 7) : ∀ a, (![0, 1024 * j.val] : Fin 2 → Nat) a + S256x1024.size a ≤ S512x7168.size a := by
  have := j.isLt; intro a; fin_cases a
  · show 0 + 256 ≤ 512; omega
  · show 1024 * j.val + 1024 ≤ 7168; omega
/-- The 1024 columns `j` of the rows the case multiplies. -/
def top256 (A : Vec F S512x7168 .bf16) (j : Fin 7) : Vec F S256x1024 .bf16 := View.ld A (Rect.unit (s := S512x7168) ![0, 1024 * j.val] S256x1024.size (inbT256 j))
/-- The seven partial products added up. -/
def sum256 (A : Vec F S512x7168 .bf16) (w : Fin 7 → Vec F S1x1x1024x512 .f32) : FVec F S256x512 .f32 :=
  k0_pay12 (F := F) (k0_pay4 (F := F) (top256 A 0) (w 0) (top256 A 1) (w 1) (top256 A 2) (w 2) (top256 A 3) (w 3)) (top256 A 4) (k0_pay5 (F := F) (w 4)) (top256 A 5) (w 5) (top256 A 6) (w 6)
/-- The output block where 256 rows are counted. -/
def out256 (A : Vec F S512x7168 .bf16) (w : Fin 7 → Vec F S1x1x1024x512 .f32) : Vec F S512x512 .f32 := fun y =>
  if h : 0 ≤ (y (0 : Fin 2)).val ∧ (y (0 : Fin 2)).val < 0 + 256 then sum256 (F := F) A w (Rect.unitLocal (s := S512x512) (off := ![0, 0]) (size := S256x512.size) y (Rect.unit_rows_mem y rfl rfl h)) else k0_pay1 (F := F) y

theorem inbT384 (j : Fin 7) : ∀ a, (![0, 1024 * j.val] : Fin 2 → Nat) a + S384x1024.size a ≤ S512x7168.size a := by
  have := j.isLt; intro a; fin_cases a
  · show 0 + 384 ≤ 512; omega
  · show 1024 * j.val + 1024 ≤ 7168; omega
/-- The 1024 columns `j` of the rows the case multiplies. -/
def top384 (A : Vec F S512x7168 .bf16) (j : Fin 7) : Vec F S384x1024 .bf16 := View.ld A (Rect.unit (s := S512x7168) ![0, 1024 * j.val] S384x1024.size (inbT384 j))
/-- The seven partial products added up. -/
def sum384 (A : Vec F S512x7168 .bf16) (w : Fin 7 → Vec F S1x1x1024x512 .f32) : FVec F S384x512 .f32 :=
  k0_pay14 (F := F) (k0_pay6 (F := F) (top384 A 0) (w 0) (top384 A 1) (w 1) (top384 A 2) (w 2) (top384 A 3) (w 3)) (top384 A 4) (k0_pay7 (F := F) (w 4)) (top384 A 5) (w 5) (top384 A 6) (w 6)
/-- The output block where 384 rows are counted. -/
def out384 (A : Vec F S512x7168 .bf16) (w : Fin 7 → Vec F S1x1x1024x512 .f32) : Vec F S512x512 .f32 := fun y =>
  if h : 0 ≤ (y (0 : Fin 2)).val ∧ (y (0 : Fin 2)).val < 0 + 384 then sum384 (F := F) A w (Rect.unitLocal (s := S512x512) (off := ![0, 0]) (size := S384x512.size) y (Rect.unit_rows_mem y rfl rfl h)) else k0_pay1 (F := F) y

theorem inbT512 (j : Fin 7) : ∀ a, (![0, 1024 * j.val] : Fin 2 → Nat) a + S512x1024.size a ≤ S512x7168.size a := by
  have := j.isLt; intro a; fin_cases a
  · show 0 + 512 ≤ 512; omega
  · show 1024 * j.val + 1024 ≤ 7168; omega
/-- The 1024 columns `j` of the rows the case multiplies. -/
def top512 (A : Vec F S512x7168 .bf16) (j : Fin 7) : Vec F S512x1024 .bf16 := View.ld A (Rect.unit (s := S512x7168) ![0, 1024 * j.val] S512x1024.size (inbT512 j))
/-- The seven partial products added up. -/
def sum512 (A : Vec F S512x7168 .bf16) (w : Fin 7 → Vec F S1x1x1024x512 .f32) : FVec F S512x512 .f32 :=
  k0_pay16 (F := F) (k0_pay8 (F := F) (top512 A 0) (w 0) (top512 A 1) (w 1) (top512 A 2) (w 2) (top512 A 3) (w 3)) (top512 A 4) (k0_pay9 (F := F) (w 4)) (top512 A 5) (w 5) (top512 A 6) (w 6)
/-- The output block where 512 rows are counted. -/
def out512 (A : Vec F S512x7168 .bf16) (w : Fin 7 → Vec F S1x1x1024x512 .f32) : Vec F S512x512 .f32 := fun y =>
  if h : 0 ≤ (y (0 : Fin 2)).val ∧ (y (0 : Fin 2)).val < 0 + 512 then sum512 (F := F) A w (Rect.unitLocal (s := S512x512) (off := ![0, 0]) (size := S512x512.size) y (Rect.unit_rows_mem y rfl rfl h)) else k0_pay1 (F := F) y

variable (s : Fin 2) (arg9 : Memref sig .tc .vmem S512x7168 .bf16) (harg9 : arg9.IsWhole) (arg11 : Memref sig .tc .vmem S512x512 .f32) (harg11 : arg11.IsWhole)

theorem writes128 (fo : Buf (Elt F) (arg11.view.loc (c : Thread nD τ))) (v : FVec F S128x512 .f32) :
    arg11.view.read (Elt F) (arg11.view.writes (Elt F) fo [⟨Rect.unit (s := S512x512) ![128, 0] S384x512.size inb_S512x512_S384x512_128_0, k0_pay11 (F := F)⟩, ⟨Rect.unit (s := S512x512) ![0, 0] S128x512.size inb_S512x512_S128x512_0_0, v⟩]) = fun y => if h : 0 ≤ (y (0 : Fin 2)).val ∧ (y (0 : Fin 2)).val < 0 + 128 then v (Rect.unitLocal (s := S512x512) (off := ![0, 0]) (size := S128x512.size) y (Rect.unit_rows_mem y rfl rfl h)) else k0_pay1 (F := F) y := by
  funext y
  by_cases h : 128 ≤ (y (0 : Fin 2)).val
  · rw [dif_neg (by omega)]
    rw [View.read_writes_cons_rows (size := S384x512.size) (o := 128) (W := 384) _ _ _ _ _ y rfl rfl rfl, dif_pos ⟨h, by have : (y (0 : Fin 2)).val < 512 := (y 0).isLt; omega⟩]
    rfl
  · rw [dif_pos (by omega)]
    rw [View.read_writes_cons_rows_of_not_mem (size := S384x512.size) (o := 128) (W := 384) _ _ _ _ _ y rfl rfl (by omega)]
    rw [View.read_writes_cons_rows (size := S128x512.size) (o := 0) (W := 128) _ _ _ _ _ y rfl rfl rfl, dif_pos (by omega)]

include harg9 in
set_option maxHeartbeats 2000000 in
theorem case5_run (f0 : Buf (Elt F) ((slotM s).view.loc (c : Thread nD τ))) (o0 o1 o2 o3 o4 o5 o6 : Fin 4 → Nat) (e0 : o0 = ![s.val, 0, 0, 0]) (e1 : o1 = ![s.val, 0, 1024, 0]) (e2 : o2 = ![s.val, 0, 2048, 0]) (e3 : o3 = ![s.val, 0, 3072, 0]) (e4 : o4 = ![s.val, 0, 4096, 0]) (e5 : o5 = ![s.val, 0, 5120, 0]) (e6 : o6 = ![s.val, 0, 6144, 0]) (h0 h1 h2 h3 h4 h5 h6)
    (fa : Buf (Elt F) (arg9.view.loc (c : Thread nD τ))) (fo : Buf (Elt F) (arg11.view.loc (c : Thread nD τ))) (w : Fin 7 → Vec F S1x1x1024x512 .f32) (hw : ∀ j, chunk (F := F) c s j f0 = w j) (Q : PUnit → sProp 𝕄) :
    iprop(slotPt c s f0 ∗ (arg9.view.loc (c : Thread nD τ) ↦[arg9.view.set]{fullShare} fa) ∗ (arg11.view.loc (c : Thread nD τ) ↦[arg11.view.set]{fullShare} fo)
        ∗ (slotPt c s f0 ∗ (arg9.view.loc (c : Thread nD τ) ↦[arg9.view.set]{fullShare} fa)
          ∗ owns (Val := Elt F) (c : Thread nD τ) arg11 fullShare (out128 (F := F) (arg9.view.read (Elt F) fa) w) -∗ Q ⟨⟩))
      ⊢ wp frame (wpE (defs₀ (F := F)) Variants.none (c : Thread nD τ) none) Set.univ
          (case5 (F := F) arg9 arg11 (Memref.whole cc0_scratch0) o0 o1 o2 o3 o4 o5 o6 h0 h1 h2 h3 h4 h5 h6) Q := by
  subst e0 e1 e2 e3 e4 e5 e6
  obtain rfl : (fun j => chunk (F := F) c s j f0) = w := funext hw
  unfold case5
  iintro ⟨Hs0, Ha, Ho, Hk⟩
  sl_exec
  sl_step
  iapply Hk
  isplitl [Hs0]; · iexact Hs0
  isplitl [Ha]; · iexact Ha
  unfold owns
  iexists _
  isplitr
  swap
  · iexact Ho
  ipureintro
  exact writes128 c arg11 fo (sum128 (F := F) (arg9.view.read (Elt F) fa) fun j => chunk c s j f0)

theorem writes256 (fo : Buf (Elt F) (arg11.view.loc (c : Thread nD τ))) (v : FVec F S256x512 .f32) :
    arg11.view.read (Elt F) (arg11.view.writes (Elt F) fo [⟨Rect.unit (s := S512x512) ![256, 0] S256x512.size inb_S512x512_S256x512_256_0, k0_pay13 (F := F)⟩, ⟨Rect.unit (s := S512x512) ![0, 0] S256x512.size inb_S512x512_S256x512_0_0, v⟩]) = fun y => if h : 0 ≤ (y (0 : Fin 2)).val ∧ (y (0 : Fin 2)).val < 0 + 256 then v (Rect.unitLocal (s := S512x512) (off := ![0, 0]) (size := S256x512.size) y (Rect.unit_rows_mem y rfl rfl h)) else k0_pay1 (F := F) y := by
  funext y
  by_cases h : 256 ≤ (y (0 : Fin 2)).val
  · rw [dif_neg (by omega)]
    rw [View.read_writes_cons_rows (size := S256x512.size) (o := 256) (W := 256) _ _ _ _ _ y rfl rfl rfl, dif_pos ⟨h, by have : (y (0 : Fin 2)).val < 512 := (y 0).isLt; omega⟩]
    rfl
  · rw [dif_pos (by omega)]
    rw [View.read_writes_cons_rows_of_not_mem (size := S256x512.size) (o := 256) (W := 256) _ _ _ _ _ y rfl rfl (by omega)]
    rw [View.read_writes_cons_rows (size := S256x512.size) (o := 0) (W := 256) _ _ _ _ _ y rfl rfl rfl, dif_pos (by omega)]

include harg9 in
set_option maxHeartbeats 2000000 in
theorem case6_run (f0 : Buf (Elt F) ((slotM s).view.loc (c : Thread nD τ))) (o0 o1 o2 o3 o4 o5 o6 : Fin 4 → Nat) (e0 : o0 = ![s.val, 0, 0, 0]) (e1 : o1 = ![s.val, 0, 1024, 0]) (e2 : o2 = ![s.val, 0, 2048, 0]) (e3 : o3 = ![s.val, 0, 3072, 0]) (e4 : o4 = ![s.val, 0, 4096, 0]) (e5 : o5 = ![s.val, 0, 5120, 0]) (e6 : o6 = ![s.val, 0, 6144, 0]) (h0 h1 h2 h3 h4 h5 h6)
    (fa : Buf (Elt F) (arg9.view.loc (c : Thread nD τ))) (fo : Buf (Elt F) (arg11.view.loc (c : Thread nD τ))) (w : Fin 7 → Vec F S1x1x1024x512 .f32) (hw : ∀ j, chunk (F := F) c s j f0 = w j) (Q : PUnit → sProp 𝕄) :
    iprop(slotPt c s f0 ∗ (arg9.view.loc (c : Thread nD τ) ↦[arg9.view.set]{fullShare} fa) ∗ (arg11.view.loc (c : Thread nD τ) ↦[arg11.view.set]{fullShare} fo)
        ∗ (slotPt c s f0 ∗ (arg9.view.loc (c : Thread nD τ) ↦[arg9.view.set]{fullShare} fa)
          ∗ owns (Val := Elt F) (c : Thread nD τ) arg11 fullShare (out256 (F := F) (arg9.view.read (Elt F) fa) w) -∗ Q ⟨⟩))
      ⊢ wp frame (wpE (defs₀ (F := F)) Variants.none (c : Thread nD τ) none) Set.univ
          (case6 (F := F) arg9 arg11 (Memref.whole cc0_scratch0) o0 o1 o2 o3 o4 o5 o6 h0 h1 h2 h3 h4 h5 h6) Q := by
  subst e0 e1 e2 e3 e4 e5 e6
  obtain rfl : (fun j => chunk (F := F) c s j f0) = w := funext hw
  unfold case6
  iintro ⟨Hs0, Ha, Ho, Hk⟩
  sl_exec
  sl_step
  iapply Hk
  isplitl [Hs0]; · iexact Hs0
  isplitl [Ha]; · iexact Ha
  unfold owns
  iexists _
  isplitr
  swap
  · iexact Ho
  ipureintro
  exact writes256 c arg11 fo (sum256 (F := F) (arg9.view.read (Elt F) fa) fun j => chunk c s j f0)

theorem writes384 (fo : Buf (Elt F) (arg11.view.loc (c : Thread nD τ))) (v : FVec F S384x512 .f32) :
    arg11.view.read (Elt F) (arg11.view.writes (Elt F) fo [⟨Rect.unit (s := S512x512) ![384, 0] S128x512.size inb_S512x512_S128x512_384_0, k0_pay15 (F := F)⟩, ⟨Rect.unit (s := S512x512) ![0, 0] S384x512.size inb_S512x512_S384x512_0_0, v⟩]) = fun y => if h : 0 ≤ (y (0 : Fin 2)).val ∧ (y (0 : Fin 2)).val < 0 + 384 then v (Rect.unitLocal (s := S512x512) (off := ![0, 0]) (size := S384x512.size) y (Rect.unit_rows_mem y rfl rfl h)) else k0_pay1 (F := F) y := by
  funext y
  by_cases h : 384 ≤ (y (0 : Fin 2)).val
  · rw [dif_neg (by omega)]
    rw [View.read_writes_cons_rows (size := S128x512.size) (o := 384) (W := 128) _ _ _ _ _ y rfl rfl rfl, dif_pos ⟨h, by have : (y (0 : Fin 2)).val < 512 := (y 0).isLt; omega⟩]
    rfl
  · rw [dif_pos (by omega)]
    rw [View.read_writes_cons_rows_of_not_mem (size := S128x512.size) (o := 384) (W := 128) _ _ _ _ _ y rfl rfl (by omega)]
    rw [View.read_writes_cons_rows (size := S384x512.size) (o := 0) (W := 384) _ _ _ _ _ y rfl rfl rfl, dif_pos (by omega)]

include harg9 in
set_option maxHeartbeats 2000000 in
theorem case7_run (f0 : Buf (Elt F) ((slotM s).view.loc (c : Thread nD τ))) (o0 o1 o2 o3 o4 o5 o6 : Fin 4 → Nat) (e0 : o0 = ![s.val, 0, 0, 0]) (e1 : o1 = ![s.val, 0, 1024, 0]) (e2 : o2 = ![s.val, 0, 2048, 0]) (e3 : o3 = ![s.val, 0, 3072, 0]) (e4 : o4 = ![s.val, 0, 4096, 0]) (e5 : o5 = ![s.val, 0, 5120, 0]) (e6 : o6 = ![s.val, 0, 6144, 0]) (h0 h1 h2 h3 h4 h5 h6)
    (fa : Buf (Elt F) (arg9.view.loc (c : Thread nD τ))) (fo : Buf (Elt F) (arg11.view.loc (c : Thread nD τ))) (w : Fin 7 → Vec F S1x1x1024x512 .f32) (hw : ∀ j, chunk (F := F) c s j f0 = w j) (Q : PUnit → sProp 𝕄) :
    iprop(slotPt c s f0 ∗ (arg9.view.loc (c : Thread nD τ) ↦[arg9.view.set]{fullShare} fa) ∗ (arg11.view.loc (c : Thread nD τ) ↦[arg11.view.set]{fullShare} fo)
        ∗ (slotPt c s f0 ∗ (arg9.view.loc (c : Thread nD τ) ↦[arg9.view.set]{fullShare} fa)
          ∗ owns (Val := Elt F) (c : Thread nD τ) arg11 fullShare (out384 (F := F) (arg9.view.read (Elt F) fa) w) -∗ Q ⟨⟩))
      ⊢ wp frame (wpE (defs₀ (F := F)) Variants.none (c : Thread nD τ) none) Set.univ
          (case7 (F := F) arg9 arg11 (Memref.whole cc0_scratch0) o0 o1 o2 o3 o4 o5 o6 h0 h1 h2 h3 h4 h5 h6) Q := by
  subst e0 e1 e2 e3 e4 e5 e6
  obtain rfl : (fun j => chunk (F := F) c s j f0) = w := funext hw
  unfold case7
  iintro ⟨Hs0, Ha, Ho, Hk⟩
  sl_exec
  sl_step
  iapply Hk
  isplitl [Hs0]; · iexact Hs0
  isplitl [Ha]; · iexact Ha
  unfold owns
  iexists _
  isplitr
  swap
  · iexact Ho
  ipureintro
  exact writes384 c arg11 fo (sum384 (F := F) (arg9.view.read (Elt F) fa) fun j => chunk c s j f0)

theorem writes512 (fo : Buf (Elt F) (arg11.view.loc (c : Thread nD τ))) (v : FVec F S512x512 .f32) :
    arg11.view.read (Elt F) (arg11.view.writes (Elt F) fo [⟨Rect.unit (s := S512x512) ![0, 0] S512x512.size inb_S512x512_S512x512_0_0, v⟩]) = fun y => if h : 0 ≤ (y (0 : Fin 2)).val ∧ (y (0 : Fin 2)).val < 0 + 512 then v (Rect.unitLocal (s := S512x512) (off := ![0, 0]) (size := S512x512.size) y (Rect.unit_rows_mem y rfl rfl h)) else k0_pay1 (F := F) y := by
  funext y
  have : (y (0 : Fin 2)).val < 512 := (y 0).isLt
  rw [dif_pos (by omega)]
  rw [View.read_writes_cons_rows (size := S512x512.size) (o := 0) (W := 512) _ _ _ _ _ y rfl rfl rfl, dif_pos (by omega)]

include harg9 in
set_option maxHeartbeats 2000000 in
theorem case8_run (f0 : Buf (Elt F) ((slotM s).view.loc (c : Thread nD τ))) (o0 o1 o2 o3 o4 o5 o6 : Fin 4 → Nat) (e0 : o0 = ![s.val, 0, 0, 0]) (e1 : o1 = ![s.val, 0, 1024, 0]) (e2 : o2 = ![s.val, 0, 2048, 0]) (e3 : o3 = ![s.val, 0, 3072, 0]) (e4 : o4 = ![s.val, 0, 4096, 0]) (e5 : o5 = ![s.val, 0, 5120, 0]) (e6 : o6 = ![s.val, 0, 6144, 0]) (h0 h1 h2 h3 h4 h5 h6)
    (fa : Buf (Elt F) (arg9.view.loc (c : Thread nD τ))) (fo : Buf (Elt F) (arg11.view.loc (c : Thread nD τ))) (w : Fin 7 → Vec F S1x1x1024x512 .f32) (hw : ∀ j, chunk (F := F) c s j f0 = w j) (Q : PUnit → sProp 𝕄) :
    iprop(slotPt c s f0 ∗ (arg9.view.loc (c : Thread nD τ) ↦[arg9.view.set]{fullShare} fa) ∗ (arg11.view.loc (c : Thread nD τ) ↦[arg11.view.set]{fullShare} fo)
        ∗ (slotPt c s f0 ∗ (arg9.view.loc (c : Thread nD τ) ↦[arg9.view.set]{fullShare} fa)
          ∗ owns (Val := Elt F) (c : Thread nD τ) arg11 fullShare (out512 (F := F) (arg9.view.read (Elt F) fa) w) -∗ Q ⟨⟩))
      ⊢ wp frame (wpE (defs₀ (F := F)) Variants.none (c : Thread nD τ) none) Set.univ
          (case8 (F := F) arg9 arg11 (Memref.whole cc0_scratch0) o0 o1 o2 o3 o4 o5 o6 h0 h1 h2 h3 h4 h5 h6) Q := by
  subst e0 e1 e2 e3 e4 e5 e6
  obtain rfl : (fun j => chunk (F := F) c s j f0) = w := funext hw
  unfold case8
  iintro ⟨Hs0, Ha, Ho, Hk⟩
  sl_exec
  sl_step
  iapply Hk
  isplitl [Hs0]; · iexact Hs0
  isplitl [Ha]; · iexact Ha
  unfold owns
  iexists _
  isplitr
  swap
  · iexact Ho
  ipureintro
  exact writes512 c arg11 fo (sum512 (F := F) (arg9.view.read (Elt F) fa) fun j => chunk c s j f0)

theorem case9_run (fo : Buf (Elt F) (arg11.view.loc (c : Thread nD τ))) (Q : PUnit → sProp 𝕄) :
    iprop((arg11.view.loc (c : Thread nD τ) ↦[arg11.view.set]{fullShare} fo)
        ∗ (owns (Val := Elt F) (c : Thread nD τ) arg11 fullShare (k0_pay1 (F := F)) -∗ Q ⟨⟩))
      ⊢ wp frame (wpE (defs₀ (F := F)) Variants.none (c : Thread nD τ) none) Set.univ
          (case9 (F := F) arg11) Q := by
  unfold case9
  iintro ⟨Ho, Hk⟩
  sl_exec
  sl_step
  iapply Hk
  unfold owns
  iexists _
  isplitr
  swap
  · iexact Ho
  ipureintro
  funext y
  have : (y (0 : Fin 2)).val < 512 := (y 0).isLt
  rw [View.read_writes_cons_rows (size := S512x512.size) (o := 0) (W := 512) _ _ _ _ _ y rfl rfl rfl, dif_pos (by omega)]
  rfl

/-- The output block of a point whose tile counts `n` rows. -/
def outB (n : Nat) (A : Vec F S512x7168 .bf16) (w : Fin 7 → Vec F S1x1x1024x512 .f32) : Vec F S512x512 .f32 :=
  if n = 0 then k0_pay1 (F := F) else if n ≤ 128 then out128 (F := F) A w else if n ≤ 256 then out256 (F := F) A w else if n ≤ 384 then out384 (F := F) A w else out512 (F := F) A w

theorem cond5 : ∀ n : Fin 513, (k0_cond5 (BitVec.ofNat 32 n.val) = 1#1 ↔ 0 < n.val ∧ n.val ≤ 128) := by decide +kernel
theorem cond6 : ∀ n : Fin 513, (k0_cond6 (BitVec.ofNat 32 n.val) = 1#1 ↔ 128 < n.val ∧ n.val ≤ 256) := by decide +kernel
theorem cond7 : ∀ n : Fin 513, (k0_cond7 (BitVec.ofNat 32 n.val) = 1#1 ↔ 256 < n.val ∧ n.val ≤ 384) := by decide +kernel
theorem cond8 : ∀ n : Fin 513, (k0_cond8 (BitVec.ofNat 32 n.val) = 1#1 ↔ 384 < n.val ∧ n.val ≤ 512) := by decide +kernel
theorem cond9 : ∀ n : Fin 513, (k0_cond9 (BitVec.ofNat 32 n.val) = 1#1 ↔ n.val = 0) := by decide +kernel

theorem chk6 (i : grid0.Coords) {g n : Nat} (hg : g < n) (hn : n ≤ 40) (v12 : BitVec 32) : k0_chk6 i (BitVec.ofNat 32 g) (BitVec.ofNat 32 n) v12 := by
  have s : ∀ j : Fin 7, ∀ a, (![((i 0).val * n + g) % 2, 0, 1024 * j.val, 0] : Fin 4 → Nat) a + S1x1x1024x512.size a ≤ S2x1x7168x512.size a := fun j => inbP ⟨((i 0).val * n + g) % 2, Nat.mod_lt _ (by decide)⟩ j
  unfold k0_chk6
  rw [off18 i hg hn, off19 i hg hn, off20 i hg hn, off21 i hg hn, off22 i hg hn, off23 i hg hn, off24 i hg hn, off25 i hg hn, off26 i hg hn, off27 i hg hn, off28 i hg hn, off29 i hg hn, off30 i hg hn, off31 i hg hn, off32 i hg hn, off33 i hg hn, off34 i hg hn, off35 i hg hn, off36 i hg hn, off37 i hg hn, off38 i hg hn, off39 i hg hn, off40 i hg hn, off41 i hg hn, off42 i hg hn, off43 i hg hn, off44 i hg hn, off45 i hg hn]
  exact ⟨fun _ => s 0, fun _ => s 1, fun _ => s 2, fun _ => s 3, fun _ => s 4, fun _ => s 5, fun _ => s 6, fun _ => s 0, fun _ => s 1, fun _ => s 2, fun _ => s 3, fun _ => s 4, fun _ => s 5, fun _ => s 6, fun _ => s 0, fun _ => s 1, fun _ => s 2, fun _ => s 3, fun _ => s 4, fun _ => s 5, fun _ => s 6, fun _ => s 0, fun _ => s 1, fun _ => s 2, fun _ => s 3, fun _ => s 4, fun _ => s 5, fun _ => s 6⟩

theorem chk1 (i : grid0.Coords) {g n : Nat} (hg : g < n) (hn : n ≤ 40) (v7 : BitVec 32) : k0_chk1 i (BitVec.ofNat 32 g) (BitVec.ofNat 32 n) v7 := by
  have s : ∀ a, (![((i 0).val * n + g) % 2, 0, 0, 0] : Fin 4 → Nat) a + S1x1x7168x512.size a ≤ S2x1x7168x512.size a := inbS ⟨((i 0).val * n + g) % 2, Nat.mod_lt _ (by decide)⟩
  have s' : ∀ a, (![((i 0).val * n + g + 1) % 2, 0, 0, 0] : Fin 4 → Nat) a + S1x1x7168x512.size a ≤ S2x1x7168x512.size a := inbS ⟨((i 0).val * n + g + 1) % 2, Nat.mod_lt _ (by decide)⟩
  have d : ∀ a, (![((i 0).val * n + g) % 2, 0] : Fin 2 → Nat) a + S1x1.size a ≤ S2x1.size a := inbC ⟨((i 0).val * n + g) % 2, Nat.mod_lt _ (by decide)⟩
  have d' : ∀ a, (![((i 0).val * n + g + 1) % 2, 0] : Fin 2 → Nat) a + S1x1.size a ≤ S2x1.size a := inbC ⟨((i 0).val * n + g + 1) % 2, Nat.mod_lt _ (by decide)⟩
  unfold k0_chk1
  rw [off3 i hg hn, off4 i hg hn, off7 i hg hn, off8 i hg hn, off11 i hg hn, off12 i hg hn, off14 i hg hn, off15 i hg hn]
  exact ⟨fun _ _ => d, fun _ _ => s, fun _ => d, fun _ => s, fun _ _ => d', fun _ _ => s', fun _ _ => d', fun _ _ => s'⟩

include harg9 in
/-- A point's products: from the slot that holds its block, its rows and any output buffer, to the output block. -/
theorem compute_run (s : Fin 2) (e : Fin 8) (k : Fin 4) (i : grid0.Coords) {g n : Nat} (hg : g < n) (hn : n ≤ 40) (hs : ((i 0).val * n + g) % 2 = s.val) (v : Fin 513) (v12 : Elt F .i32) (hv12 : v12 = BitVec.ofNat 32 v.val) (hw)
    (fa : Buf (Elt F) (arg9.view.loc (c : Thread nD τ))) (fo : Buf (Elt F) (arg11.view.loc (c : Thread nD τ))) (Q : PUnit → sProp 𝕄) :
    iprop(KEPT c fg s e k ∗ (arg9.view.loc (c : Thread nD τ) ↦[arg9.view.set]{fullShare} fa) ∗ (arg11.view.loc (c : Thread nD τ) ↦[arg11.view.set]{fullShare} fo)
        ∗ (KEPT c fg s e k ∗ (arg9.view.loc (c : Thread nD τ) ↦[arg9.view.set]{fullShare} fa)
          ∗ owns (Val := Elt F) (c : Thread nD τ) arg11 fullShare (outB (F := F) v.val (arg9.view.read (Elt F) fa) (part (gW c fg e k))) -∗ Q ⟨⟩))
      ⊢ wp frame (wpE (defs₀ (F := F)) Variants.none (c : Thread nD τ) none) Set.univ
          (computeP (F := F) i arg9 arg11 (Memref.whole cc0_scratch0) (BitVec.ofNat 32 g) (BitVec.ofNat 32 n) v12 hw) Q := by
  subst hv12
  unfold computeP
  have hv := v.isLt
  by_cases h0 : v.val = 0
  · rw [dif_neg (fun h => absurd ((cond5 v).1 h) (by omega)), dif_neg (fun h => absurd ((cond6 v).1 h) (by omega)), dif_neg (fun h => absurd ((cond7 v).1 h) (by omega)), dif_neg (fun h => absurd ((cond8 v).1 h) (by omega)), dif_pos ((cond9 v).2 h0)]
    simp only [pure_bind]
    unfold outB
    rw [if_pos h0]
    iintro ⟨HK, Ha, Ho, Hk⟩
    iapply (case9_run c arg11 fo Q)
    isplitl [Ho]; · iexact Ho
    iintro HO
    iapply Hk
    isplitl [HK]; · iexact HK
    isplitl [Ha]; · iexact Ha
    iexact HO
  by_cases h5 : v.val ≤ 128
  · rw [dif_pos ((cond5 v).2 (by omega)), dif_neg (fun h => absurd ((cond6 v).1 h) (by omega)), dif_neg (fun h => absurd ((cond7 v).1 h) (by omega)), dif_neg (fun h => absurd ((cond8 v).1 h) (by omega)), dif_neg (fun h => absurd ((cond9 v).1 h) (by omega))]
    simp only [pure_bind, bind_pure_unit']
    unfold outB
    rw [if_neg h0, if_pos h5]
    unfold KEPT
    iintro ⟨⟨H0, ⟨%f0, H2⟩, H4⟩, Ha, Ho, Hk⟩
    have hr := case5_run c s arg9 harg9 arg11 (landG c fg s e k f0) _ _ _ _ _ _ _ (by rw [off18 i hg hn, hs]) (by rw [off19 i hg hn, hs]) (by rw [off20 i hg hn, hs]) (by rw [off21 i hg hn, hs]) (by rw [off22 i hg hn, hs]) (by rw [off23 i hg hn, hs]) (by rw [off24 i hg hn, hs]) (k0_off18_inb i _ _ _ hw ((cond5 v).2 (by omega))) (k0_off19_inb i _ _ _ hw ((cond5 v).2 (by omega))) (k0_off20_inb i _ _ _ hw ((cond5 v).2 (by omega))) (k0_off21_inb i _ _ _ hw ((cond5 v).2 (by omega))) (k0_off22_inb i _ _ _ hw ((cond5 v).2 (by omega))) (k0_off23_inb i _ _ _ hw ((cond5 v).2 (by omega))) (k0_off24_inb i _ _ _ hw ((cond5 v).2 (by omega))) fa fo (part (gW c fg e k)) (fun j => chunk_land c fg s e k j f0) Q
    iapply hr
    isplitl [H2]; · iexact H2
    isplitl [Ha]; · iexact Ha
    isplitl [Ho]; · iexact Ho
    iintro ⟨H2, Ha, HO⟩
    iapply Hk
    isplitr [Ha HO]
    · isplitl [H0]; · iexact H0
      isplitl [H2]; · iexists _; iexact H2
      iexact H4
    isplitl [Ha]; · iexact Ha
    iexact HO
  by_cases h6 : v.val ≤ 256
  · rw [dif_neg (fun h => absurd ((cond5 v).1 h) (by omega)), dif_pos ((cond6 v).2 (by omega)), dif_neg (fun h => absurd ((cond7 v).1 h) (by omega)), dif_neg (fun h => absurd ((cond8 v).1 h) (by omega)), dif_neg (fun h => absurd ((cond9 v).1 h) (by omega))]
    simp only [pure_bind, bind_pure_unit']
    unfold outB
    rw [if_neg h0, if_neg h5, if_pos h6]
    unfold KEPT
    iintro ⟨⟨H0, ⟨%f0, H2⟩, H4⟩, Ha, Ho, Hk⟩
    have hr := case6_run c s arg9 harg9 arg11 (landG c fg s e k f0) _ _ _ _ _ _ _ (by rw [off25 i hg hn, hs]) (by rw [off26 i hg hn, hs]) (by rw [off27 i hg hn, hs]) (by rw [off28 i hg hn, hs]) (by rw [off29 i hg hn, hs]) (by rw [off30 i hg hn, hs]) (by rw [off31 i hg hn, hs]) (k0_off25_inb i _ _ _ hw ((cond6 v).2 (by omega))) (k0_off26_inb i _ _ _ hw ((cond6 v).2 (by omega))) (k0_off27_inb i _ _ _ hw ((cond6 v).2 (by omega))) (k0_off28_inb i _ _ _ hw ((cond6 v).2 (by omega))) (k0_off29_inb i _ _ _ hw ((cond6 v).2 (by omega))) (k0_off30_inb i _ _ _ hw ((cond6 v).2 (by omega))) (k0_off31_inb i _ _ _ hw ((cond6 v).2 (by omega))) fa fo (part (gW c fg e k)) (fun j => chunk_land c fg s e k j f0) Q
    iapply hr
    isplitl [H2]; · iexact H2
    isplitl [Ha]; · iexact Ha
    isplitl [Ho]; · iexact Ho
    iintro ⟨H2, Ha, HO⟩
    iapply Hk
    isplitr [Ha HO]
    · isplitl [H0]; · iexact H0
      isplitl [H2]; · iexists _; iexact H2
      iexact H4
    isplitl [Ha]; · iexact Ha
    iexact HO
  by_cases h7 : v.val ≤ 384
  · rw [dif_neg (fun h => absurd ((cond5 v).1 h) (by omega)), dif_neg (fun h => absurd ((cond6 v).1 h) (by omega)), dif_pos ((cond7 v).2 (by omega)), dif_neg (fun h => absurd ((cond8 v).1 h) (by omega)), dif_neg (fun h => absurd ((cond9 v).1 h) (by omega))]
    simp only [pure_bind, bind_pure_unit']
    unfold outB
    rw [if_neg h0, if_neg h5, if_neg h6, if_pos h7]
    unfold KEPT
    iintro ⟨⟨H0, ⟨%f0, H2⟩, H4⟩, Ha, Ho, Hk⟩
    have hr := case7_run c s arg9 harg9 arg11 (landG c fg s e k f0) _ _ _ _ _ _ _ (by rw [off32 i hg hn, hs]) (by rw [off33 i hg hn, hs]) (by rw [off34 i hg hn, hs]) (by rw [off35 i hg hn, hs]) (by rw [off36 i hg hn, hs]) (by rw [off37 i hg hn, hs]) (by rw [off38 i hg hn, hs]) (k0_off32_inb i _ _ _ hw ((cond7 v).2 (by omega))) (k0_off33_inb i _ _ _ hw ((cond7 v).2 (by omega))) (k0_off34_inb i _ _ _ hw ((cond7 v).2 (by omega))) (k0_off35_inb i _ _ _ hw ((cond7 v).2 (by omega))) (k0_off36_inb i _ _ _ hw ((cond7 v).2 (by omega))) (k0_off37_inb i _ _ _ hw ((cond7 v).2 (by omega))) (k0_off38_inb i _ _ _ hw ((cond7 v).2 (by omega))) fa fo (part (gW c fg e k)) (fun j => chunk_land c fg s e k j f0) Q
    iapply hr
    isplitl [H2]; · iexact H2
    isplitl [Ha]; · iexact Ha
    isplitl [Ho]; · iexact Ho
    iintro ⟨H2, Ha, HO⟩
    iapply Hk
    isplitr [Ha HO]
    · isplitl [H0]; · iexact H0
      isplitl [H2]; · iexists _; iexact H2
      iexact H4
    isplitl [Ha]; · iexact Ha
    iexact HO
  by_cases h8 : v.val ≤ 512
  · rw [dif_neg (fun h => absurd ((cond5 v).1 h) (by omega)), dif_neg (fun h => absurd ((cond6 v).1 h) (by omega)), dif_neg (fun h => absurd ((cond7 v).1 h) (by omega)), dif_pos ((cond8 v).2 (by omega)), dif_neg (fun h => absurd ((cond9 v).1 h) (by omega))]
    simp only [pure_bind, bind_pure_unit']
    unfold outB
    rw [if_neg h0, if_neg h5, if_neg h6, if_neg h7]
    unfold KEPT
    iintro ⟨⟨H0, ⟨%f0, H2⟩, H4⟩, Ha, Ho, Hk⟩
    have hr := case8_run c s arg9 harg9 arg11 (landG c fg s e k f0) _ _ _ _ _ _ _ (by rw [off39 i hg hn, hs]) (by rw [off40 i hg hn, hs]) (by rw [off41 i hg hn, hs]) (by rw [off42 i hg hn, hs]) (by rw [off43 i hg hn, hs]) (by rw [off44 i hg hn, hs]) (by rw [off45 i hg hn, hs]) (k0_off39_inb i _ _ _ hw ((cond8 v).2 (by omega))) (k0_off40_inb i _ _ _ hw ((cond8 v).2 (by omega))) (k0_off41_inb i _ _ _ hw ((cond8 v).2 (by omega))) (k0_off42_inb i _ _ _ hw ((cond8 v).2 (by omega))) (k0_off43_inb i _ _ _ hw ((cond8 v).2 (by omega))) (k0_off44_inb i _ _ _ hw ((cond8 v).2 (by omega))) (k0_off45_inb i _ _ _ hw ((cond8 v).2 (by omega))) fa fo (part (gW c fg e k)) (fun j => chunk_land c fg s e k j f0) Q
    iapply hr
    isplitl [H2]; · iexact H2
    isplitl [Ha]; · iexact Ha
    isplitl [Ho]; · iexact Ho
    iintro ⟨H2, Ha, HO⟩
    iapply Hk
    isplitr [Ha HO]
    · isplitl [H0]; · iexact H0
      isplitl [H2]; · iexists _; iexact H2
      iexact H4
    isplitl [Ha]; · iexact Ha
    iexact HO
  exact absurd hv (by omega)

theorem readW_run (M : Memref sig .tc .smem S40 .i32) (hM : M.IsWhole) (T : Buf (Elt F) (M.view.loc (c : Thread nD τ))) (o : Fin 1 → Nat) (h : ∀ a, o a + S1.size a ≤ S40.size a)
    (K : Elt F .i32 → Prog (TpuEff nD τ sig (Elt F) Λ₀ .tc) PUnit) (Q : PUnit → sProp 𝕄) :
    iprop((M.view.loc (c : Thread nD τ) ↦{fullShare.right} T) ∗ ((M.view.loc (c : Thread nD τ) ↦{fullShare.right} T) -∗ wp frame (wpE (defs₀ (F := F)) Variants.none (c : Thread nD τ) none) Set.univ (K (rdW c M T o h)) Q))
      ⊢ wp frame (wpE (defs₀ (F := F)) Variants.none (c : Thread nD τ) none) Set.univ (readW M o h K) Q := by
  unfold readW
  iintro ⟨HT, Hk⟩
  sl_exec
  iapply Hk
  iexact HT
/-- The one word of the last table as the kernel reads it. -/
abbrev rd1 (M : Memref sig .tc .smem S1 .i32) (T : Buf (Elt F) (M.view.loc (c : Thread nD τ))) : Elt F .i32 :=
  View.readAt (Elt F) M.view (Rect.unit (s := S1) ![0] S1.size inb_S1_S1_0).toLoadRect T (Shape.Idx.first (numel1_S1.symm ▸ Nat.one_pos))
theorem readOne_run (M : Memref sig .tc .smem S1 .i32) (hM : M.IsWhole) (T : Buf (Elt F) (M.view.loc (c : Thread nD τ)))
    (K : Elt F .i32 → Prog (TpuEff nD τ sig (Elt F) Λ₀ .tc) PUnit) (Q : PUnit → sProp 𝕄) :
    iprop((M.view.loc (c : Thread nD τ) ↦{fullShare.right} T) ∗ ((M.view.loc (c : Thread nD τ) ↦{fullShare.right} T) -∗ wp frame (wpE (defs₀ (F := F)) Variants.none (c : Thread nD τ) none) Set.univ (K (rd1 c M T)) Q))
      ⊢ wp frame (wpE (defs₀ (F := F)) Variants.none (c : Thread nD τ) none) Set.univ (readOne M K) Q := by
  unfold readOne
  iintro ⟨HT, Hk⟩
  sl_exec
  iapply Hk
  iexact HT

variable (S : Sched)
abbrev TAt (M : Memref sig .tc .smem S40 .i32) (T : TBuf (F := F) c M) : sProp 𝕄 := M.view.loc (c : Thread nD τ) ↦{fullShare.right} T
abbrev T6At (T : Buf (Elt F) ((Memref.whole main_arg6 : Memref sig .tc .smem S1 .i32).view.loc (c : Thread nD τ))) : sProp 𝕄 := (Memref.whole main_arg6 : Memref sig .tc .smem S1 .i32).view.loc (c : Thread nD τ) ↦{fullShare.right} T

/-- What the words of the other tables are. -/
structure Reads (nv : Nat → Fin 513) (T2 : TBuf (F := F) c (Memref.whole main_arg2)) (T3 : TBuf (F := F) c (Memref.whole main_arg3)) (T4 : TBuf (F := F) c (Memref.whole main_arg4))
    (T6 : Buf (Elt F) ((Memref.whole main_arg6 : Memref sig .tc .smem S1 .i32).view.loc (c : Thread nD τ))) : Prop where
  nv : ∀ (j : Nat) (o : Fin 1 → Nat) (h), j < 40 → o = ![j] → rdW c (Memref.whole main_arg2) T2 o h = BitVec.ofNat 32 (nv j).val
  fst : ∀ (j : Nat) (o : Fin 1 → Nat) (h), j < 40 → o = ![j] → (rdW c (Memref.whole main_arg3) T3 o h = 1#32 ↔ S.fst j)
  grp : ∀ (j : Nat) (o : Fin 1 → Nat) (h), j < 40 → o = ![j] → rdW c (Memref.whole main_arg4) T4 o h = BitVec.ofNat 32 (S.grp j)
  ng : rd1 c (Memref.whole main_arg6) T6 = BitVec.ofNat 32 S.ng

include harg9 in
theorem compute_slots (i : grid0.Coords) (t : Nat) (hk : (i 0).val = t / 40) (v : Fin 513) (v12 : Elt F .i32) (hv12 : v12 = BitVec.ofNat 32 v.val) (hw)
    (fa : Buf (Elt F) (arg9.view.loc (c : Thread nD τ))) (fo : Buf (Elt F) (arg11.view.loc (c : Thread nD τ))) (Q : PUnit → sProp 𝕄) :
    iprop(SLOTS c fg S (S.blk t + 1) ∗ (arg9.view.loc (c : Thread nD τ) ↦[arg9.view.set]{fullShare} fa) ∗ (arg11.view.loc (c : Thread nD τ) ↦[arg11.view.set]{fullShare} fo)
        ∗ (SLOTS c fg S (S.blk t + 1) ∗ (arg9.view.loc (c : Thread nD τ) ↦[arg9.view.set]{fullShare} fa)
          ∗ owns (Val := Elt F) (c : Thread nD τ) arg11 fullShare (outB (F := F) v.val (arg9.view.read (Elt F) fa) (part (gW c fg (S.eb (S.blk t)) (kB S (S.blk t))))) -∗ Q ⟨⟩))
      ⊢ wp frame (wpE (defs₀ (F := F)) Variants.none (c : Thread nD τ) none) Set.univ
          (computeP (F := F) i arg9 arg11 (Memref.whole cc0_scratch0) (BitVec.ofNat 32 (S.grp (t % 40))) (BitVec.ofNat 32 S.ng) v12 hw) Q := by
  have hjj := j_lt t
  have hg := S.grp_lt hjj
  have hn := S.ng_le
  have e : SLOTS c fg S (S.blk t + 1) = iprop(KEPT c fg (Sched.sl (S.blk t)) (S.eb (S.blk t)) (kB S (S.blk t))
    ∗ (if S.blk t + 1 < 4 * S.ng then FLY c fg (Sched.sl (S.blk t + 1)) (S.eb (S.blk t + 1)) (kB S (S.blk t + 1)) else FREE c fg (Sched.sl (S.blk t + 1)))) := by
    unfold SLOTS; rw [if_neg (Nat.succ_ne_zero _)]; rfl
  rw [e]
  iintro ⟨⟨HK, HF⟩, Ha, Ho, Hk⟩
  iapply (compute_run c fg arg9 harg9 arg11 (Sched.sl (S.blk t)) (S.eb (S.blk t)) (kB S (S.blk t)) i hg hn (by rw [blk_coords S i t hk]; rfl) v v12 hv12 hw fa fo Q)
  isplitl [HK]; · iexact HK
  isplitl [Ha]; · iexact Ha
  isplitl [Ho]; · iexact Ho
  iintro ⟨HK, Ha, Hout⟩
  iapply Hk
  isplitl [HK HF]
  · isplitl [HK]; · iexact HK
    iexact HF
  isplitl [Ha]; · iexact Ha
  iexact Hout

include harg9 in
/-- A point's body: the streaming moves on by what the point waits for, the output buffer gets the point's block. -/
theorem body_run (nv : Nat → Fin 513) (T0 : TBuf (F := F) c (Memref.whole main_arg0)) (T5 : TBuf (F := F) c (Memref.whole main_arg5)) (T2 : TBuf (F := F) c (Memref.whole main_arg2)) (T3 : TBuf (F := F) c (Memref.whole main_arg3)) (T4 : TBuf (F := F) c (Memref.whole main_arg4))
    (T6 : Buf (Elt F) ((Memref.whole main_arg6 : Memref sig .tc .smem S1 .i32).view.loc (c : Thread nD τ))) (hW : Words c S T0 T5) (hR : Reads c S nv T2 T3 T4 T6)
    (i : grid0.Coords) (t : Nat) (hk : (i 0).val = t / 40) (hj : (i 1).val = t % 40) (W : Waits sig Unit)
    (h1 h2 h3 h4 h5 h6 h7 h8 h10)
    (fa : Buf (Elt F) (arg9.view.loc (c : Thread nD τ))) (fo : Buf (Elt F) (arg11.view.loc (c : Thread nD τ))) (Q : PUnit → sProp 𝕄) :
    iprop(SLOTS c fg S (S.done t) ∗ owes (c : Thread nD τ) 0 W ∗ T0At c T0 ∗ T5At c T5 ∗ TAt c (Memref.whole main_arg2) T2 ∗ TAt c (Memref.whole main_arg3) T3 ∗ TAt c (Memref.whole main_arg4) T4 ∗ T6At c T6
        ∗ (arg9.view.loc (c : Thread nD τ) ↦[arg9.view.set]{fullShare} fa) ∗ (arg11.view.loc (c : Thread nD τ) ↦[arg11.view.set]{fullShare} fo)
        ∗ (SLOTS c fg S (S.done (t + 1)) ∗ (∃ W, owes (c : Thread nD τ) 0 W) ∗ T0At c T0 ∗ T5At c T5 ∗ TAt c (Memref.whole main_arg2) T2 ∗ TAt c (Memref.whole main_arg3) T3 ∗ TAt c (Memref.whole main_arg4) T4 ∗ T6At c T6
          ∗ (arg9.view.loc (c : Thread nD τ) ↦[arg9.view.set]{fullShare} fa)
          ∗ owns (Val := Elt F) (c : Thread nD τ) arg11 fullShare (outB (F := F) (nv (t % 40)).val (arg9.view.read (Elt F) fa) (part (gW c fg (S.eb (S.blk t)) (kB S (S.blk t))))) -∗ Q ⟨⟩))
      ⊢ wp frame (wpE (defs₀ (F := F)) Variants.none (c : Thread nD τ) none) Set.univ
          (cc0_moe_down (F := F) i (Memref.whole main_arg0) h1 (Memref.whole main_arg1) h2 (Memref.whole main_arg2) h3 (Memref.whole main_arg3) h4 (Memref.whole main_arg4) h5 (Memref.whole main_arg5) h6 (Memref.whole main_arg6) h7
            arg9 harg9 (Memref.whole main_arg8) h8 arg11 harg11 (Memref.whole cc0_scratch0) h10 cc0_scratch1) Q := by
  have hjj := j_lt t
  have hg := S.grp_lt hjj
  have hn := S.ng_le
  rw [body_eq, S.done_succ t]
  iintro ⟨HS, HO, H0, H5, H2, H3, H4, H6, Ha, Ho, Hk⟩
  iapply (readW_run c (Memref.whole main_arg4) h5 T4)
  isplitl [H4]; · iexact H4
  iintro H4
  rw [hR.grp (t % 40) _ _ hjj (by rw [off1, hj])]
  iapply (readOne_run c (Memref.whole main_arg6) h7 T6)
  isplitl [H6]; · iexact H6
  iintro H6
  rw [hR.ng]
  iapply (word_run c (Memref.whole main_arg3) h4 T3 _ _ _ _ _ (chk1 i hg hn _))
  isplitl [H3]; · iexact H3
  iintro H3
  rw [wp_bind]
  iapply (stream_run c fg S T0 T5 i t hk hj hW _ (hR.fst (t % 40) _ _ hjj (by rw [off1, hj])) _ W)
  isplitl [HS]; · iexact HS
  isplitl [HO]; · iexact HO
  isplitl [H0]; · iexact H0
  isplitl [H5]; · iexact H5
  iintro ⟨HS, HO, H0, H5⟩
  iapply (word_run c (Memref.whole main_arg2) h3 T2 _ _ _ _ _ (chk6 i hg hn _))
  isplitl [H2]; · iexact H2
  iintro H2
  iapply (compute_slots c fg arg9 harg9 arg11 S i t hk (nv (t % 40)) _ (hR.nv (t % 40) (k0_off17 i) (k0_off17_inb i) hjj (by rw [off17, hj])) _ fa fo Q)
  isplitl [HS]; · iexact HS
  isplitl [Ha]; · iexact Ha
  isplitl [Ho]; · iexact Ho
  iintro ⟨HS, Ha, Hout⟩
  iapply Hk
  isplitl [HS]; · iexact HS
  isplitl [HO]; · iexact HO
  isplitl [H0]; · iexact H0
  isplitl [H5]; · iexact H5
  isplitl [H2]; · iexact H2
  isplitl [H3]; · iexact H3
  isplitl [H4]; · iexact H4
  isplitl [H6]; · iexact H6
  isplitl [Ha]; · iexact Ha
  iexact Hout

end Cert.MoeDownIdeal.Hand
end
-- ==== Proof.DownFrame.lean ====
/- The tables as numbers and the pipeline at them. -/
module

public import proofs.«01_k».proof.Proof.DownCompute
public import proofs.«01_k».proof.Proof.Gen.MoeDownIdeal.Launch
public import Idealize.ShloMosaic.Lib.Pipeline.FrameBody
public import Idealize.ShloMosaic.Lib.Affine
public import Idealize.ShloMosaic.Lib.Pointwise.Index

@[expose] public section

set_option synthInstance.maxSize 4096
set_option maxRecDepth 16384

noncomputable section

namespace Cert.MoeDownIdeal.Hand

open Cert.MoeDownIdeal Cert.MoeDownIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

/-- The row tile a point of tile `j` brings in: `j`, cut to the active tiles. -/
def rowTile (j : Nat) (na : BitVec 32) : Nat := (Scalar.maxsi (Scalar.minsi (BitVec.ofNat 32 j) (Scalar.subi na 1#32)) 0#32).toNat

theorem slt_nat (x y : BitVec 32) : (x.slt y = true) = (x.toInt < y.toInt) := by simp [BitVec.slt]
theorem rowTile_le (j : Nat) (hj : j < 40) (na : BitVec 32) : rowTile j na ≤ j := by
  unfold rowTile Scalar.maxsi Scalar.minsi IntOp.maxsi IntOp.minsi
  generalize Scalar.subi na 1#32 = x
  have e : (BitVec.ofNat 32 j).toNat = j := by rw [BitVec.toNat_ofNat]; omega
  simp only [slt_nat, BitVec.toInt_eq_toNat_cond]
  have := x.isLt
  split_ifs <;> simp_all <;> omega
theorem rowTile_eq (j : Nat) (hj : j < 40) (na : BitVec 32) (h : (BitVec.ofNat 32 j).slt na = true) : rowTile j na = j := by
  have e : (BitVec.ofNat 32 j).toNat = j := by rw [BitVec.toNat_ofNat]; omega
  have hn := na.isLt
  rw [slt_nat, BitVec.toInt_eq_toNat_cond, BitVec.toInt_eq_toNat_cond, e] at h
  have h2 : j < na.toNat ∧ na.toNat < 2147483648 := by
    split_ifs at h <;> omega
  have ex : (Scalar.subi na 1#32).toNat = na.toNat - 1 := by
    show (na - 1#32).toNat = _
    rw [BitVec.toNat_sub]; simp; omega
  unfold rowTile Scalar.maxsi Scalar.minsi IntOp.maxsi IntOp.minsi
  generalize Scalar.subi na 1#32 = x at ex ⊢
  simp only [slt_nat, BitVec.toInt_eq_toNat_cond]
  split_ifs <;> simp_all <;> omega

variable (m : (ℓ : Loc nD τ sig) → Buf (Elt F) ℓ) (ρ : Dev nD → PrngReg)

/-- What the tables hold: a schedule's words, every tile's number of valid rows, and no valid row past the active tiles. -/
structure Tables (S : Sched) (nv : Nat → Fin 513) : Prop where
  te : ∀ (c : Dev nD) (j : Fin 40), m ((c : Thread nD τ).loc main_arg0) (ix1 j) = BitVec.ofNat 32 (S.te j.val).val
  na : ∀ (c : Dev nD) (j : Fin 40), (nv j.val).val ≠ 0 → (BitVec.ofNat 32 j.val).slt (m ((c : Thread nD τ).loc main_arg1) (ix1 (0 : Fin 1))) = true
  nv : ∀ (c : Dev nD) (j : Fin 40), m ((c : Thread nD τ).loc main_arg2) (ix1 j) = BitVec.ofNat 32 (nv j.val).val
  fst : ∀ (c : Dev nD) (j : Fin 40), m ((c : Thread nD τ).loc main_arg3) (ix1 j) = 1#32 ↔ S.fst j.val
  grp : ∀ (c : Dev nD) (j : Fin 40), m ((c : Thread nD τ).loc main_arg4) (ix1 j) = BitVec.ofNat 32 (S.grp j.val)
  nx : ∀ (c : Dev nD) (j : Fin 40), S.fst j.val → S.grp j.val + 1 < S.ng → m ((c : Thread nD τ).loc main_arg5) (ix1 j) = BitVec.ofNat 32 (S.nx j.val).val
  ng : ∀ (c : Dev nD), m ((c : Thread nD τ).loc main_arg6) (ix1 (0 : Fin 1)) = BitVec.ofNat 32 S.ng

theorem rd0 (c : Dev nD) (T : TBuf (F := F) c (Memref.whole main_arg0)) (j : Nat) (hj : j < 40) (o : Fin 1 → Nat) (h) (e : o = ![j]) :
    rdW c (Memref.whole main_arg0) T o h = T (ix1 (⟨j, hj⟩ : Fin 40)) := by
  subst e; exact congrArg T (funext fun a => by fin_cases a; exact Fin.ext (by show j + 0 * 1 = j; omega))
theorem rd2 (c : Dev nD) (T : TBuf (F := F) c (Memref.whole main_arg2)) (j : Nat) (hj : j < 40) (o : Fin 1 → Nat) (h) (e : o = ![j]) :
    rdW c (Memref.whole main_arg2) T o h = T (ix1 (⟨j, hj⟩ : Fin 40)) := by
  subst e; exact congrArg T (funext fun a => by fin_cases a; exact Fin.ext (by show j + 0 * 1 = j; omega))
theorem rd3 (c : Dev nD) (T : TBuf (F := F) c (Memref.whole main_arg3)) (j : Nat) (hj : j < 40) (o : Fin 1 → Nat) (h) (e : o = ![j]) :
    rdW c (Memref.whole main_arg3) T o h = T (ix1 (⟨j, hj⟩ : Fin 40)) := by
  subst e; exact congrArg T (funext fun a => by fin_cases a; exact Fin.ext (by show j + 0 * 1 = j; omega))
theorem rd4 (c : Dev nD) (T : TBuf (F := F) c (Memref.whole main_arg4)) (j : Nat) (hj : j < 40) (o : Fin 1 → Nat) (h) (e : o = ![j]) :
    rdW c (Memref.whole main_arg4) T o h = T (ix1 (⟨j, hj⟩ : Fin 40)) := by
  subst e; exact congrArg T (funext fun a => by fin_cases a; exact Fin.ext (by show j + 0 * 1 = j; omega))
theorem rd5 (c : Dev nD) (T : TBuf (F := F) c (Memref.whole main_arg5)) (j : Nat) (hj : j < 40) (o : Fin 1 → Nat) (h) (e : o = ![j]) :
    rdW c (Memref.whole main_arg5) T o h = T (ix1 (⟨j, hj⟩ : Fin 40)) := by
  subst e; exact congrArg T (funext fun a => by fin_cases a; exact Fin.ext (by show j + 0 * 1 = j; omega))
theorem rd6 (c : Dev nD) (T : Buf (Elt F) ((Memref.whole main_arg6 : Memref sig .tc .smem S1 .i32).view.loc (c : Thread nD τ))) :
    rd1 c (Memref.whole main_arg6) T = T (ix1 (0 : Fin 1)) :=
  congrArg T (funext fun a => by fin_cases a; exact Fin.ext (by show 0 + 0 * 1 = 0; rfl))

variable {m} {S : Sched} {nv : Nat → Fin 513} (hT : Tables m S nv)
include hT
theorem words_of (c : Dev nD) : Words c S (m ((c : Thread nD τ).loc main_arg0)) (m ((c : Thread nD τ).loc main_arg5)) :=
  ⟨fun j o h hj e => (rd0 c _ j hj o h e).trans (hT.te c ⟨j, hj⟩), fun j o h hj e hf hn => (rd5 c _ j hj o h e).trans (hT.nx c ⟨j, hj⟩ hf hn)⟩
theorem reads_of (c : Dev nD) : Reads c S nv (m ((c : Thread nD τ).loc main_arg2)) (m ((c : Thread nD τ).loc main_arg3)) (m ((c : Thread nD τ).loc main_arg4)) (m ((c : Thread nD τ).loc main_arg6)) :=
  ⟨fun j o h hj e => (rd2 c _ j hj o h e).trans (hT.nv c ⟨j, hj⟩), fun j o h hj e => by rw [rd3 c _ j hj o h e]; exact hT.fst c ⟨j, hj⟩,
    fun j o h hj e => (rd4 c _ j hj o h e).trans (hT.grp c ⟨j, hj⟩), (rd6 c _).trans (hT.ng c)⟩
omit hT

/-! ## The pipeline at the memory's tables -/

variable (m)
/-- The tables' contents. -/
def pfN : pre0.Contents (Elt F) := fun k => m (((0 : Dev nD) : Thread nD τ).loc (pre0.ref k))

theorem trans_eq (pf : pre0.Contents (Elt F)) (i : grid0.Coords) :
    cc0_transform_0 inb_S1_S1_0 numel1_S1 pf i = ![rowTile (i 1).val (pf.at 1 (Rect.unit (s := S1) ![0] S1.size inb_S1_S1_0) numel1_S1), 0] := rfl
theorem ok_pfN : ok0 (F := F) (pfN m) := fun i => by
  have hle := rowTile_le (i 1).val (i 1).isLt ((pfN m).at 1 (Rect.unit (s := S1) ![0] S1.size inb_S1_S1_0) numel1_S1)
  have hi : (i 1).val < 40 := (i 1).isLt
  refine ⟨fun a => ?_, .inr (Affine.block_words_dvd (s := S20480x7168) (p := EltTy.packing .bf16) (by decide) (by decide))⟩
  rw [trans_eq]
  fin_cases a
  · show (rowTile _ _ + 1) * 512 ≤ 20480; omega
  · show (0 + 1) * 7168 ≤ 7168; omega

def adm : (pcfg0 (F := F)).Adm := ⟨pfN m, ok_pfN m⟩
abbrev cfgA : Pipeline.Cfg sig Λ₀ := cfg0 (F := F) (adm m)
abbrev pcs : Fin 1 → Pipeline.Cfg sig Λ₀ := Pipeline.pin (pcfgs (F := F)) fun _ => adm m

/-- Point `t`'s coordinates. -/
abbrev crd (t : Fin (cfgA m).N) : (cfgA m).grid.Coords := (cfgA m).grid.coords t
abbrev ms0_0 (t : Fin (cfgA m).N) : Memref sig .tc .vmem S512x7168 .bf16 := spec0_0.stage ((cfgA m).slots t (0 : Fin 2))
abbrev hs0_0 (t : Fin (cfgA m).N) : (ms0_0 m t).IsWhole := hstage0_0 (((cfgA m).slots t (0 : Fin 2)).cast nbuf0_0)
abbrev ms0_1 (t : Fin (cfgA m).N) : Memref sig .tc .vmem S512x512 .f32 := spec0_1.stage ((cfgA m).slots t (1 : Fin 2))
abbrev hs0_1 (t : Fin (cfgA m).N) : (ms0_1 m t).IsWhole := hstage0_1 (((cfgA m).slots t (1 : Fin 2)).cast nbuf0_1)

/-- Window `w`'s block at point `t`, read off its array at launch. -/
def iblk (c : Dev nD) (w : Fin (cfgA m).W) (t : Fin (cfgA m).N) : (((cfgA m).win w).xblock (crd m t)).Idx → Elt F ((cfgA m).win w).elt :=
  (((cfgA m).win w).blk t).view.read (Elt F) (m (((cfgA m).win w).arr.view.loc (c : Thread nD τ)))

variable (S nv)
/-- What point `t` leaves in the output's buffer. -/
def outT (c : Dev nD) (t : Fin (cfgA m).N) : S512x512.Idx → Elt F .f32 :=
  outB (F := F) (nv (t.val % 40)).val (iblk m c (0 : Fin 2) t) (part (gW c (m ((c : Thread nD τ).loc main_arg8)) (S.eb (S.blk t.val)) (kB S (S.blk t.val))))

/-- What is held before point `n`: the slots, the tables, the generator's register, the shares of the weights that are not lent. -/
def Phi (c : Dev nD) (n : Nat) : sProp 𝕄 :=
  iprop(SLOTS c (m ((c : Thread nD τ).loc main_arg8)) S (S.done n)
    ∗ T0At c (m ((c : Thread nD τ).loc main_arg0)) ∗ T5At c (m ((c : Thread nD τ).loc main_arg5)) ∗ TAt c (Memref.whole main_arg2) (m ((c : Thread nD τ).loc main_arg2))
    ∗ TAt c (Memref.whole main_arg3) (m ((c : Thread nD τ).loc main_arg3)) ∗ TAt c (Memref.whole main_arg4) (m ((c : Thread nD τ).loc main_arg4)) ∗ T6At c (m ((c : Thread nD τ).loc main_arg6))
    ∗ (((c : Thread nD τ).loc main_arg1) ↦{fullShare.right} m ((c : Thread nD τ).loc main_arg1))
    ∗ (∃ r, prngReg c r)
    ∗ (((c : Thread nD τ).loc main_arg8) ↦{Transfers.shareDrop fullShare 2} m ((c : Thread nD τ).loc main_arg8)))

/-- The proof data of the one pipeline on core `c`. -/
def dats (_ : Fin 1) (c : Dev nD) : Dat τ (Elt F) Unit ℕ (Pipeline.UD sig nD τ) ℕ (cfgA m) c where
  A w := m (((cfgA m).win w).arr.view.loc (c : Thread nD τ))
  after w t := match w with
    | ⟨0, _⟩ => iblk m c (0 : Fin 2) t
    | ⟨1, _⟩ => outT m S nv c t
  Φ t := Phi m S c t.val
  q _ := fullShare
  owed _ := 0

theorem after0_0 (c : Dev nD) (t : Fin (cfgA m).N) : (dats m S nv 0 c).after (0 : Fin 2) t = iblk m c (0 : Fin 2) t := rfl
theorem after0_1 (c : Dev nD) (t : Fin (cfgA m).N) : (dats m S nv 0 c).after (1 : Fin 2) t = outT m S nv c t := rfl

theorem phi_eq (c : Dev nD) (t : Fin ((cfgA m).N + 1)) : (dats m S nv 0 c).Φ t = Phi m S c t.val := rfl
theorem owed_eq (c : Dev nD) (t : Fin ((cfgA m).N + 1)) : (dats m S nv 0 c).owed t = 0 := rfl

theorem before0_0 (c : Dev nD) (t : Fin (cfgA m).N) (d) : (dats m S nv 0 c).before (0 : Fin 2) t d = iblk m c (0 : Fin 2) t :=
  ((dats m S nv 0 c).before_in_eq_fetched (0 : Fin 2) rfl (fun _ => rfl) (fun _ _ _ => rfl) (fun t => by rw [after0_0]; unfold Dat.blockOf iblk; rfl) t d).trans
    (by unfold Dat.fetched Dat.blockOf iblk; rfl)

theorem crd0 (t : Fin (cfgA m).N) : ((crd m t) (0 : Fin 2)).val = t.val / 40 := by
  have : ∀ t : Fin grid0.N, ((grid0.coords t) (0 : Fin 2)).val = t.val / 40 := by decide +kernel
  exact this t
theorem crd1 (t : Fin (cfgA m).N) : ((crd m t) (1 : Fin 2)).val = t.val % 40 := by
  have : ∀ t : Fin grid0.N, ((grid0.coords t) (1 : Fin 2)).val = t.val % 40 := by decide +kernel
  exact this t

theorem some_case (n : Fin 513) : (!(k0_cond5 (BitVec.ofNat 32 n.val) == 1#1) && !(k0_cond6 (BitVec.ofNat 32 n.val) == 1#1) && !(k0_cond7 (BitVec.ofNat 32 n.val) == 1#1) && !(k0_cond8 (BitVec.ofNat 32 n.val) == 1#1) && !(k0_cond9 (BitVec.ofNat 32 n.val) == 1#1)) = false := by
  revert n; decide +kernel

variable {S nv}
include hT
theorem idle_out (t : Fin (cfgA m).N) : (cfgA m).idle (1 : Fin 2) ((cfgA m).grid.coords t) = false := by
  have hj := j_lt t.val
  have e : (pfN m).atD 2 (k0_off17 (crd m t)) = BitVec.ofNat 32 (nv (t.val % 40)).val := by
    have h := k0_off17_inb (crd m t)
    unfold Pipeline.Prefetch.Contents.atD
    have h' : ∀ a, k0_off17 (crd m t) a + 1 ≤ S40.size a := fun a => by
      have := h a; fin_cases a; exact this
    refine (dif_pos h').trans ?_
    refine Eq.trans ?_ (hT.nv 0 ⟨t.val % 40, hj⟩)
    refine congrArg (m _) (funext fun a => ?_)
    fin_cases a
    refine Fin.ext ?_
    show k0_off17 (crd m t) 0 = t.val % 40
    rw [off17, crd1]; rfl
  show idle0 (pfN m) 1 (crd m t) = false
  show (!(k0_cond5 ((pfN m).atD 2 (k0_off17 (crd m t))) == 1#1) && !(k0_cond6 ((pfN m).atD 2 (k0_off17 (crd m t))) == 1#1) && !(k0_cond7 ((pfN m).atD 2 (k0_off17 (crd m t))) == 1#1) && !(k0_cond8 ((pfN m).atD 2 (k0_off17 (crd m t))) == 1#1) && !(k0_cond9 ((pfN m).atD 2 (k0_off17 (crd m t))) == 1#1)) = false
  rw [e]
  exact some_case _

end Cert.MoeDownIdeal.Hand
end
-- ==== Proof.DownObl.lean ====
/- The body's obligation at every point. -/
module

public import proofs.«01_k».proof.Proof.DownFrame
public import proofs.«01_k».proof.Proof.Gen.MoeDownIdeal.Launch
public import Idealize.ShloMosaic.Lib.Pipeline.FrameBody
public import Idealize.ShloMosaic.Lib.Affine
public import Idealize.ShloMosaic.Lib.Pointwise.Index

@[expose] public section

set_option synthInstance.maxSize 4096
set_option maxRecDepth 16384

noncomputable section

namespace Cert.MoeDownIdeal.Hand

open Cert.MoeDownIdeal Cert.MoeDownIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable (m : (ℓ : Loc nD τ sig) → Buf (Elt F) ℓ) {S : Sched} {nv : Nat → Fin 513} (hT : Tables m S nv)

/-- The body at point `t` on its staging memrefs, as the pipeline calls it. -/
abbrev bodyAt0 (t : Fin (cfgA m).N) : Prog (TpuEff nD τ sig (Elt F) Λ₀ .tc) PUnit :=
  cc0_moe_down (crd m t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _)
    (ms0_0 m t) (hs0_0 m t) (Memref.whole main_arg8) (Memref.isWhole_whole _) (ms0_1 m t) (hs0_1 m t) (Memref.whole cc0_scratch0) (Memref.isWhole_whole _) cc0_scratch1

include hT in
set_option maxHeartbeats 4000000 in
theorem sound_body (c : Dev nD) (t : Fin (cfgA m).N) :
    iprop((dats m S nv 0 c).Φ t.castSucc ∗ (dats m S nv 0 c).owesAt () t.castSucc
        ∗ (∃ d, owns (c : Thread nD τ) (ms0_0 m t) fullShare ((dats m S nv 0 c).before (0 : Fin 2) t d))
        ∗ (∃ d, owns (c : Thread nD τ) (ms0_1 m t) fullShare ((dats m S nv 0 c).before (1 : Fin 2) t d)))
      ⊢ wp frame (wpE (defs₀ (F := F)) Variants.none c none) Set.univ (bodyAt0 m t) fun _ =>
          iprop((dats m S nv 0 c).Φ t.succ ∗ (dats m S nv 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m S nv 0 c).before w t d))
                  | true => owns (c : Thread nD τ) (((cfgA m).win w).stage ((cfgA m).slots t w)) fullShare ((dats m S nv 0 c).after w t)
                | false => owns (c : Thread nD τ) (((cfgA m).win w).stage ((cfgA m).slots t w)) fullShare ((dats m S nv 0 c).after w t)) := by
  rw [bigSep_W0]
  rewrite [idle_out m hT t]
  simp only [before0_0, after0_0, after0_1]
  rewrite [phi_eq, phi_eq, Fin.val_castSucc, Fin.val_succ]
  unfold Phi Dat.owesAt Pipeline.owesWithin
  rewrite [owed_eq, owed_eq]
  iintro ⟨⟨HS, H0, H5, H2, H3, H4, H6, H1, Hr, Hg⟩, ⟨%W, %hW, HO⟩, ⟨%d0, Ha⟩, ⟨%d1, Ho⟩⟩
  unfold owns
  icases Ha with ⟨%fa, %ea, Ha⟩
  icases Ho with ⟨%fo, %eo, Ho⟩
  iapply (body_run c (m ((c : Thread nD τ).loc main_arg8)) (ms0_0 m t) (hs0_0 m t) (ms0_1 m t) (hs0_1 m t) S nv
    (m ((c : Thread nD τ).loc main_arg0)) (m ((c : Thread nD τ).loc main_arg5)) (m ((c : Thread nD τ).loc main_arg2)) (m ((c : Thread nD τ).loc main_arg3)) (m ((c : Thread nD τ).loc main_arg4)) (m ((c : Thread nD τ).loc main_arg6))
    (words_of hT c) (reads_of hT c) (crd m t) t.val (crd0 m t) (crd1 m t) W _ _ _ _ _ _ _ _ _ fa fo _)
  isplitl [HS]; · iexact HS
  isplitl [HO]; · iexact HO
  isplitl [H0]; · iexact H0
  isplitl [H5]; · iexact H5
  isplitl [H2]; · iexact H2
  isplitl [H3]; · iexact H3
  isplitl [H4]; · iexact H4
  isplitl [H6]; · iexact H6
  isplitl [Ha]; · iexact Ha
  isplitl [Ho]; · iexact Ho
  iintro ⟨HS, ⟨%W', HO⟩, H0, H5, H2, H3, H4, H6, Ha, Hout⟩
  isplitl [HS H0 H5 H2 H3 H4 H6 H1 Hr Hg]
  · isplitl [HS]; · iexact HS
    isplitl [H0]; · iexact H0
    isplitl [H5]; · iexact H5
    isplitl [H2]; · iexact H2
    isplitl [H3]; · iexact H3
    isplitl [H4]; · iexact H4
    isplitl [H6]; · iexact H6
    isplitl [H1]; · iexact H1
    isplitl [Hr]; · iexact Hr
    iexact Hg
  isplitl [HO]
  · iexists W'
    isplitr; · ipureintro; exact Set.subset_union_of_subset_left (Set.subset_univ _) _
    iexact HO
  isplitl [Ha]
  · iexists fa; isplitr; · ipureintro; exact ea
    iexact Ha
  rw [ea]
  unfold owns
  icases Hout with ⟨%f', %ef, Hout⟩
  iexists f'
  isplitr; · ipureintro; exact ef
  iexact Hout

include hT in
/-- The library's body obligation, at every point. -/
theorem body_obligation (c : Dev nD) : BodyObligation (dats m S nv 0 c) (defs₀ (F := F)) Variants.none () Set.univ := fun t => by
  rw [bigSep_W0]
  exact sound_body m hT c t

end Cert.MoeDownIdeal.Hand
end
-- ==== Proof.DownLaunch.lean ====
/- The launch: what the region is given makes the first point's invariant, the last one's is given back. -/
module

public import proofs.«01_k».proof.Proof.DownObl
public import Idealize.ShloMosaic.Lib.Pipeline.Quiescent
public import Idealize.ShloMosaic.Lib.Pipeline.Frame
public import Idealize.ShloMosaic.Lib.Ring
public import Idealize.ShloMosaic.Lib.Claim
public import Idealize.ShloMosaic.Adequacy
public import Idealize.ShloMosaic.Init
public import Idealize.ShloMosaic.Lib.Pipeline.FrameBody
public import Idealize.ShloMosaic.Lib.Affine
public import Idealize.ShloMosaic.Lib.Pointwise.Index

@[expose] public section

set_option synthInstance.maxSize 4096
set_option maxRecDepth 16384

noncomputable section

namespace Cert.MoeDownIdeal.Hand

open Cert.MoeDownIdeal Cert.MoeDownIdeal.Gen
open Cert.Moe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (Pipeline.UD sig nD τ) ℕ

/-! ## The two slots of the scratch -/

theorem slot_eq (s : Fin 2) : (slotM s).view.set = (Rect.unit (s := S2x1x7168x512) ![s.val, 0, 0, 0] S1x1x7168x512.size (inbS s)).set :=
  (View.set_reshape _ _).trans (View.set_slice_whole _ _)
theorem slot_set (s : Fin 2) (x : S2x1x7168x512.Idx) : x ∈ (slotM s).view.set ↔ (x (0 : Fin 4)).val = s.val := by
  rw [slot_eq]
  refine Rect.mem_set_unit.trans ⟨fun h => ?_, fun h a => ?_⟩
  · have h0 := h (0 : Fin 4)
    have e0 : s.val ≤ (x (0 : Fin 4)).val ∧ (x (0 : Fin 4)).val < s.val + 1 := h0
    omega
  · have h1 : (x (1 : Fin 4)).val < 1 := (x (1 : Fin 4)).isLt
    have h2 : (x (2 : Fin 4)).val < 7168 := (x (2 : Fin 4)).isLt
    have h3 : (x (3 : Fin 4)).val < 512 := (x (3 : Fin 4)).isLt
    fin_cases a
    · show s.val ≤ (x (0 : Fin 4)).val ∧ (x (0 : Fin 4)).val < s.val + 1; omega
    · show 0 ≤ (x (1 : Fin 4)).val ∧ (x (1 : Fin 4)).val < 0 + 1; omega
    · show 0 ≤ (x (2 : Fin 4)).val ∧ (x (2 : Fin 4)).val < 0 + 7168; omega
    · show 0 ≤ (x (3 : Fin 4)).val ∧ (x (3 : Fin 4)).val < 0 + 512; omega

/-- The slots' elements, as elements of the scratch. -/
def slotI (c : Dev nD) (s : Fin 2) : Finset (Idx ((c : Thread nD τ).loc cc0_scratch0)) := (slotM s).view.set
theorem slotI_disj (c : Dev nD) (p p' : Fin 2) (h : p ≠ p') : Disjoint (slotI c p) (slotI c p') := by
  refine Finset.disjoint_left.2 fun x hx hx' => h ?_
  have h1 := (slot_set p x).1 hx
  have h2 := (slot_set p' x).1 hx'
  exact Fin.ext (h1.symm.trans h2)
theorem slotI_cover (c : Dev nD) : Finset.univ.biUnion (slotI c) = Finset.univ := by
  refine Finset.eq_univ_iff_forall.2 fun x => Finset.mem_biUnion.2 ?_
  have h0 : ((x : S2x1x7168x512.Idx) (0 : Fin 4)).val < 2 := ((x : S2x1x7168x512.Idx) (0 : Fin 4)).isLt
  exact ⟨(⟨_, h0⟩ : Fin 2), Finset.mem_univ _, (slot_set (⟨_, h0⟩ : Fin 2) x).2 rfl⟩

theorem scratch_split (c : Dev nD) (f : Buf (Elt F) ((c : Thread nD τ).loc cc0_scratch0)) :
    (((c : Thread nD τ).loc cc0_scratch0 ↦{fullShare} f) : sProp 𝕄) ⊢ iprop(slotPt c 0 f ∗ slotPt c 1 f) := by
  rw [Ring.pointsTo_blocks (slotI c) (slotI_disj c) (slotI_cover c),
    bigSep_univ_eq_bigSepL [(0 : Fin 2), (1 : Fin 2)] (by decide) (by decide)]
  exact .rfl
theorem scratch_join (c : Dev nD) :
    iprop((∃ f, slotPt c 0 f) ∗ (∃ f, slotPt c 1 f))
      ⊢ (iprop(∃ f : Buf (Elt F) ((c : Thread nD τ).loc cc0_scratch0), ((c : Thread nD τ).loc cc0_scratch0) ↦{fullShare} f) : sProp 𝕄) := by
  refine BIBase.Entails.trans ?_ (Ring.pointsTo_blocks_join_exists (slotI c) (slotI_disj c) (slotI_cover c) default)
  rw [bigSep_univ_eq_bigSepL [(0 : Fin 2), (1 : Fin 2)] (by decide) (by decide)]
  exact .rfl

variable (m : (ℓ : Loc nD τ sig) → Buf (Elt F) ℓ) (ρ : Dev nD → PrngReg) (S : Sched) (nv : Nat → Fin 513)

abbrev osem0 : Fin 2 → SemLoc sig := ![SemLoc.dma (4 : Fin 6), SemLoc.dma (5 : Fin 6)]
theorem ownSemFacts0 : Pipeline.OwnSemFacts spec0 osem0 := by decide
abbrev H0 : Finset (Ref sig .tc) := {main_arg8}
theorem H0_sub : H0 ⊆ Pipeline.restRefsP sig pre0 spec0 := by decide
abbrev Vm : (c : Dev nD) → (b : Ref sig .tc) → Buf (Elt F) ((c.tc : Thread nD τ).loc b) := fun c b => m ((c : Thread nD τ).loc b)

theorem ownSems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (cellK 0)) 0 ∗ semVal ((c : Thread nD τ), SemLoc.dma (cellK 1)) 0) := by
  rw [Pipeline.ownSems0_eq_of_list c osem0 [0, 1] (by decide) (by decide)]
  rfl
theorem bufs_eq (c : Dev nD) : (bigSep H0 (fun b => ((c.tc : Thread nD τ).loc b) ↦{fullShare} Vm m c b) : sProp 𝕄)
    = iprop(((c : Thread nD τ).loc main_arg8) ↦{fullShare} m ((c : Thread nD τ).loc main_arg8)) := by
  rw [BI.bigSep_eq_bigSepL_of_eq [main_arg8] (by decide) (by decide)]
  rfl
theorem tables_eq (c : Dev nD) : (Pipeline.ΦT (U := Pipeline.UD sig nD τ) pre0 (adm m).1 c : sProp 𝕄)
    = iprop((((c : Thread nD τ).loc main_arg0) ↦{fullShare.right} pfN m 0) ∗ (((c : Thread nD τ).loc main_arg1) ↦{fullShare.right} pfN m 1) ∗ (((c : Thread nD τ).loc main_arg2) ↦{fullShare.right} pfN m 2)
      ∗ (((c : Thread nD τ).loc main_arg3) ↦{fullShare.right} pfN m 3) ∗ (((c : Thread nD τ).loc main_arg4) ↦{fullShare.right} pfN m 4) ∗ (((c : Thread nD τ).loc main_arg5) ↦{fullShare.right} pfN m 5) ∗ (((c : Thread nD τ).loc main_arg6) ↦{fullShare.right} pfN m 6)) := by
  unfold Pipeline.ΦT Pipeline.prefHeld
  rw [show (Finset.univ : Finset (Fin 7)) = insert (0 : Fin 7) (insert (1 : Fin 7) (insert (2 : Fin 7) (insert (3 : Fin 7) (insert (4 : Fin 7) (insert (5 : Fin 7) {(6 : Fin 7)}))))) from by decide,
    bigSep_insert (by decide), bigSep_insert (by decide), bigSep_insert (by decide), bigSep_insert (by decide), bigSep_insert (by decide), bigSep_insert (by decide), bigSep_singleton]
  rfl

/-- The tables' contents are every core's. -/
theorem pfN_eq (c : Dev nD) (k : Fin 7) : m ((c : Thread nD τ).loc (pre0.ref k)) = pfN m k := by
  obtain rfl : c = 0 := Subsingleton.elim _ _
  rfl

theorem toks_split (c : Dev nD) (b : Ref sig .tc) (f : Buf (Elt F) ((c : Thread nD τ).loc b)) :
    (((c : Thread nD τ).loc b ↦{fullShare} f) : sProp 𝕄) ⊢ iprop(((c : Thread nD τ).loc b ↦{Transfers.shareDrop fullShare 2} f)
      ∗ ((c : Thread nD τ).loc b ↦{Transfers.shareTok fullShare 2 0} f) ∗ ((c : Thread nD τ).loc b ↦{Transfers.shareTok fullShare 2 1} f)) := by
  refine (Transfers.pointsTo_toks_split fullShare 2).trans ?_
  rw [bigSep_univ_eq_bigSepL [(0 : Fin 2), (1 : Fin 2)] (by decide) (by decide)]
  exact .rfl
theorem toks_join (c : Dev nD) (b : Ref sig .tc) (f : Buf (Elt F) ((c : Thread nD τ).loc b)) :
    iprop(((c : Thread nD τ).loc b ↦{Transfers.shareDrop fullShare 2} f)
      ∗ ((c : Thread nD τ).loc b ↦{Transfers.shareTok fullShare 2 0} f) ∗ ((c : Thread nD τ).loc b ↦{Transfers.shareTok fullShare 2 1} f)) ⊢ (((c : Thread nD τ).loc b ↦{fullShare} f) : sProp 𝕄) := by
  refine BIBase.Entails.trans ?_ (Transfers.pointsTo_toks_join fullShare 2)
  rw [bigSep_univ_eq_bigSepL [(0 : Fin 2), (1 : Fin 2)] (by decide) (by decide)]
  exact .rfl

/-- What the region hands over makes the first point's invariant. -/
theorem phi_in (c : Dev nD) : iprop(Pipeline.ΦD osem0 spec0 H0 (Vm m) c ∗ Pipeline.ΦT (U := Pipeline.UD sig nD τ) pre0 (adm m).1 c) ⊢ (dats m S nv 0 c).Φ 0 := by
  rw [Pipeline.ΦD_eq, scopedRest0_eq, ownSems_eq, bufs_eq, tables_eq, phi_eq, Fin.val_zero, ← pfN_eq m c 0, ← pfN_eq m c 1, ← pfN_eq m c 2, ← pfN_eq m c 3, ← pfN_eq m c 4, ← pfN_eq m c 5, ← pfN_eq m c 6]
  unfold Phi
  rw [S.done_zero]
  unfold SLOTS FREE
  rw [if_pos rfl]
  iintro ⟨⟨⟨%f, Hf⟩, Hr, ⟨Hc0, Hc1⟩, Hg⟩, ⟨H0, H1, H2, H3, H4, H5, H6⟩⟩
  ihave Hs := (scratch_split c f) $$ Hf
  icases Hs with ⟨Hs0, Hs1⟩
  ihave Hg' := (toks_split c main_arg8 _) $$ Hg
  icases Hg' with ⟨Hgd, Hg0, Hg1⟩
  isplitl [Hc0 Hc1 Hs0 Hs1 Hg0 Hg1]
  · isplitl [Hc0 Hs0 Hg0]
    · isplitl [Hc0]; · iexact Hc0
      isplitl [Hs0]; · iexists f; iexact Hs0
      iexact Hg0
    · isplitl [Hc1]; · iexact Hc1
      isplitl [Hs1]; · iexists f; iexact Hs1
      iexact Hg1
  isplitl [H0]; · iexact H0
  isplitl [H5]; · iexact H5
  isplitl [H2]; · iexact H2
  isplitl [H3]; · iexact H3
  isplitl [H4]; · iexact H4
  isplitl [H6]; · iexact H6
  isplitl [H1]; · iexact H1
  isplitl [Hr]; · iexact Hr
  iexact Hgd

/-- After the last block both slots are at rest. -/
theorem slots_end (c : Dev nD) (fg : WBuf (F := F) c) :
    SLOTS c fg S (S.done 160) ⊢ iprop(FREE c fg 0 ∗ FREE c fg 1) := by
  have e : S.done 160 = 4 * S.ng := S.done_last 4
  have hp := S.ng_pos
  rw [e]
  unfold SLOTS
  rw [if_neg (by omega), if_neg (by omega)]
  have hs : (Sched.sl (4 * S.ng - 1) = 0 ∧ Sched.sl (4 * S.ng) = 1) ∨ (Sched.sl (4 * S.ng - 1) = 1 ∧ Sched.sl (4 * S.ng) = 0) := by
    rcases Nat.mod_two_eq_zero_or_one (4 * S.ng) with h | h
    · exact .inr ⟨Fin.ext (by show _ % 2 = 1; omega), Fin.ext h⟩
    · exact .inl ⟨Fin.ext (by show _ % 2 = 0; omega), Fin.ext h⟩
  rcases hs with ⟨h1, h2⟩ | ⟨h1, h2⟩ <;> rw [h1, h2]
  · iintro ⟨HK, HF⟩
    isplitl [HK]; · iapply (kept_free c fg); iexact HK
    iexact HF
  · iintro ⟨HK, HF⟩
    isplitl [HF]; · iexact HF
    iapply (kept_free c fg); iexact HK

/-- The last point's invariant gives back what the region takes. -/
theorem phi_out (c : Dev nD) : (dats m S nv 0 c).Φ (Fin.last (cfgA m).N) ⊢ Pipeline.ΦD osem0 spec0 H0 (Vm m) c := by
  rw [Pipeline.ΦD_eq, scopedRest0_eq, ownSems_eq, bufs_eq, phi_eq, show (Fin.last (cfgA m).N).val = 160 from N_0]
  unfold Phi
  iintro ⟨HS, H0, H5, H2, H3, H4, H6, H1, Hr, Hgd⟩
  ihave HS' := (slots_end S c _) $$ HS
  unfold FREE
  icases HS' with ⟨⟨Hc0, Hs0, Hg0⟩, ⟨Hc1, Hs1, Hg1⟩⟩
  isplitl [Hs0 Hs1]
  · iapply (scratch_join c)
    isplitl [Hs0]; · iexact Hs0
    iexact Hs1
  isplitl [Hr]; · iexact Hr
  isplitl [Hc0 Hc1]
  · isplitl [Hc0]; · iexact Hc0
    iexact Hc1
  iapply (toks_join c main_arg8 _)
  isplitl [Hgd]; · iexact Hgd
  isplitl [Hg0]; · iexact Hg0
  iexact Hg1

theorem share_eq (c : Dev nD) (w : Fin (cfgA m).W) : (dats m S nv 0 c).share w = fullShare := by unfold Dat.share; split <;> rfl

variable {S nv} (hT : Tables m S nv)
include hT
set_option backward.isDefEq.respectTransparency.types false in
set_option maxHeartbeats 4000000 in
/-- Every weakly fair execution of @main terminates with each array at the computed contents and every counter at zero. -/
theorem run_main : θ_run (defs (F := F)) (onTc (τ := τ) (main (F := F))) (s₀ m ρ) (fun r => Pipeline.FramePost (pcs m) (dats m S nv) 0 (Vm m) r ∧ r.2.sem = fun _ => 0) :=
  Pipeline.θ_run_frameP_dma pcfgs (fun _ => adm m) (dats m S nv) 0 launch0 osem0 defs₀ Variants.none ownSemFacts0 H0 H0_sub m ρ main
    (fun c => (body_obligation m hT c).loose) (fun c w => share_eq m S nv c w) (fun _ _ => rfl) (Vm m)
    (Pipeline.hmainP_region _ 0 defs₀ Variants.none m main fun c => (main_chain c).trans rfl)
    (fun _ w => by fin_cases w <;> rfl) (fun c k => pfN_eq m c k) (phi_in m S nv) (phi_out m S nv)
    _ (fun _ h => h)

end Cert.MoeDownIdeal.Hand
end
-- ==== Proof.DownTables.lean ====
/- The precondition on the down projection's tables: the up projection's, as the tables are the same. -/
module

public import proofs.«01_k».proof.Proof.UpTables
public import proofs.«01_k».proof.Proof.Gen.Pre_tables_of_tiles_down

@[expose] public section

set_option maxRecDepth 16384

noncomputable section

open Idealize.ShloMosaic Idealize.ShloMosaic.TcCoe Idealize.SL.Sem

namespace Cert.Pre_tables_of_tiles_down

variable {F : FTy → Type} [FloatOps F]

/-- The predicate reads the tables alone. -/
theorem same (te : IVec S40 32) (na : IVec S1 32) (nv first group nxt : IVec S40 32) (ng : IVec S1 32) (a : FVec F S20480x7168 .bf16) (w : FVec F S1x8x7168x2048 .f32)
    (a' : FVec F Cert.Pre_tables_of_tiles.S20480x2048 .bf16) (wg wu : FVec F Cert.Pre_tables_of_tiles.S1x8x2048x7168 .f32) :
    fn (F := F) te na nv first group nxt ng a w = Cert.Pre_tables_of_tiles.fn (F := F) te na nv first group nxt ng a' wg wu := rfl

theorem read (te : IVec S40 32) (na : IVec S1 32) (nv first group nxt : IVec S40 32) (ng : IVec S1 32) (a : FVec F S20480x7168 .bf16) (w : FVec F S1x8x7168x2048 .f32)
    (h : fn (F := F) te na nv first group nxt ng a w = fun _ => 1#1) :
    (∀ j : Fin 40, IntOp.andi (IntOp.andi (IntOp.andi (IntOp.cmpi .sge (te (ix1 j)) 0#32) (IntOp.cmpi .slt (te (ix1 j)) 8#32))
      (IntOp.cmpi .sge (nv (ix1 j)) 0#32)) (IntOp.cmpi .sle (nv (ix1 j)) 512#32) = 1#1)
    ∧ ∀ j k : Fin 40, Cert.Pre_tables_of_tiles.pair te na nv first group nxt ng j k = 1#1 :=
  Cert.Pre_tables_of_tiles.read te na nv first group nxt ng (constant _ .bf16 0#16) (constant _ .f32 0#32) (constant _ .f32 0#32)
    ((same te na nv first group nxt ng a w _ _ _).symm.trans h)

end Cert.Pre_tables_of_tiles_down
end
-- ==== Proof.DownRun.lean ====
/- The run with the arguments' ends named. -/
module

public import proofs.«01_k».proof.Proof.DownLaunch
public import proofs.«01_k».proof.Proof.DownTables

@[expose] public section

set_option maxRecDepth 16384

noncomputable section

namespace Cert.MoeDownIdeal.Hand

open Cert.MoeDownIdeal Cert.MoeDownIdeal.Gen
open Cert.Moe
open Idealize.ShloMosaic Idealize.ShloMosaic.TcCoe Idealize.SL.Sem
open Idealize.ShloMosaic.Pipeline (mem_restRefs_of)

variable {F : FTy → Type} [FloatOps F]
variable (m : (ℓ : Loc nD τ sig) → Buf (Elt F) ℓ) (ρ : Dev nD → PrngReg) {S : Sched} {nv : Nat → Fin 513}

/-- The tables of every core, from the precondition of each. -/
theorem tables_of_pre (h : ∀ c : Dev nD, Cert.Pre_tables_of_tiles_down.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) = fun _ => 1#1) :
    ∃ (S : Sched) (nv : Nat → Fin 513), Tables m S nv := by
  obtain ⟨h1, h2⟩ := Cert.Pre_tables_of_tiles_down.read _ _ _ _ _ _ _ _ _ (h 0)
  obtain ⟨S, v, r⟩ := Cert.Pre_tables_of_tiles.exists_read h1 h2
  have e : ∀ c : Dev nD, c = 0 := fun c => Subsingleton.elim _ _
  refine ⟨S, v, ⟨fun c j => ?_, fun c j hj => ?_, fun c j => ?_, fun c j => ?_, fun c j => ?_, fun c j hf hl => ?_, fun c => ?_⟩⟩ <;> rw [e c]
  · exact r.te j
  · exact r.na j hj
  · exact r.nv j
  · exact r.fst j
  · exact r.grp j
  · exact r.nx j hf hl
  · exact r.ng

theorem apart (b : Ref sig .tc) (h0 : main_arg7 ≠ b) (h1 : main_v0 ≠ b) : ∀ w, ((pcs m 0).spec w).arr.view.ref ≠ b := fun w => by
  fin_cases w
  · exact h0
  · exact h1

/-- The run: the result at what the pipeline wrote, the arguments as they were, the counters at zero. -/
theorem run (hT : Tables m S nv) : θ_run (defs (F := F)) (onTc (τ := τ) (main (F := F))) ⟨m, fun _ => 0, ρ⟩ (fun r => (∀ c : Dev nD,
      r.2.mem ((c.tc : Thread nD τ).loc main_v0) = (dats m S nv 0 c).arrAt 1 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  refine (θ_run (defs (F := F)) _ _).mono (fun r h => ⟨fun c => ?_, h.2⟩) (run_main m ρ hT)
  have h1 := h.1 c
  refine ⟨h1.1 1, h1.2 main_arg0 ?_, h1.2 main_arg1 ?_, h1.2 main_arg2 ?_, h1.2 main_arg3 ?_, h1.2 main_arg4 ?_, h1.2 main_arg5 ?_, h1.2 main_arg6 ?_,
    (h1.1 0).trans ((dats m S nv 0 c).arrAt_in 0 rfl _), h1.2 main_arg8 ?_⟩ <;>
  exact mem_restRefs_of _ rfl (apart m _ (by decide) (by decide))

/-- The frame's statement. -/
theorem frame (hT : Tables m S nv) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run (defs (F := F)) _ _).mono (fun _ h => ⟨fun c => (h.1 c).2, h.2⟩) (run m ρ hT)

end Cert.MoeDownIdeal.Hand
end
-- ==== Proof.DownValue.lean ====
/- What the kernel computes over the extended reals: the product of each kept row with its expert's weight. -/
module

public import proofs.«01_k».proof.Proof.DownRun
public import Idealize.ShloMosaic.Lib.Pipeline.ValueKit
public import Idealize.ShloMosaic.Lib.Pipeline.Covers
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeDownIdeal.Hand

open Cert.MoeDownIdeal Cert.MoeDownIdeal.Gen Cert.Moe

/-- The product of row `i` with column `j` of expert `e`'s weight. -/
def mul (A : FVec Ideal S20480x7168 .bf16) (W : FVec Ideal S1x8x7168x2048 .f32) (e : Fin 8) (i : Fin 20480) (j : Fin 2048) : EReal :=
  ∑ k : Fin 7168, A (ix2 i k) * W (ix4 0 e k j)

/-- The result: the rows in the groups of 128 that hold a counted row, multiplied; zero elsewhere. -/
def whole (te : Nat → Fin 8) (nv : Nat → Fin 513) (A : FVec Ideal S20480x7168 .bf16) (W : FVec Ideal S1x8x7168x2048 .f32) (i : Fin 20480) (j : Fin 2048) : EReal :=
  if 128 * (i.val % 512 / 128) < (nv (i.val / 512)).val then mul A W (te (i.val / 512)) i j else 0

/-- The product of a block's row. -/
def prod (A : Vec Ideal S512x7168 .bf16) (g : Vec Ideal S1x1x7168x512 .f32) (r : Fin 512) (q : Fin 512) : EReal :=
  ∑ k : Fin 7168, A (ix2 r k) * g (ix4 0 0 k q)

/-- A sum over the 7168 columns is the sum of seven sums over 1024. -/
theorem split7 (f : Fin 7168 → EReal) : ∑ k : Fin 7168, f k = ∑ j : Fin 7, ∑ l : Fin 1024, f ⟨1024 * j.val + l.val, by have := j.isLt; have := l.isLt; omega⟩ := by
  rw [← Fintype.sum_prod_type' (f := fun (j : Fin 7) (l : Fin 1024) => f ⟨1024 * j.val + l.val, by have := j.isLt; have := l.isLt; omega⟩)]
  exact (Equiv.sum_comp (finProdFinEquiv : Fin 7 × Fin 1024 ≃ Fin (7 * 1024)) f).symm.trans (Finset.sum_congr rfl fun p _ => congrArg f (Fin.ext (Nat.add_comm _ _)))

theorem part_apply (g : Vec Ideal S1x1x7168x512 .f32) (j : Fin 7) (l : Fin 1024) (q : Fin 512) :
    part g j (ix4 0 0 l q) = g (ix4 0 0 (⟨1024 * j.val + l.val, by have := j.isLt; have := l.isLt; omega⟩ : Fin 7168) q) := by
  refine congrArg g (funext fun a => ?_)
  fin_cases a <;> exact Fin.ext (by simp [Rect.unit, Rect.emb])

theorem pay10 (a0 : Vec Ideal S128x1024 .bf16) (w0 : Vec Ideal S1x1x1024x512 .f32) (a1 : Vec Ideal S128x1024 .bf16) (w1 : Vec Ideal S1x1x1024x512 .f32) (a2 : Vec Ideal S128x1024 .bf16) (w2 : Vec Ideal S1x1x1024x512 .f32) (a3 : Vec Ideal S128x1024 .bf16) (w3 : Vec Ideal S1x1x1024x512 .f32) (a4 : Vec Ideal S128x1024 .bf16) (w4 : Vec Ideal S1x1x1024x512 .f32) (a5 : Vec Ideal S128x1024 .bf16) (w5 : Vec Ideal S1x1x1024x512 .f32) (a6 : Vec Ideal S128x1024 .bf16) (w6 : Vec Ideal S1x1x1024x512 .f32) (r : Fin 128) (q : Fin 512) :
    k0_pay10 (k0_pay2 a0 w0 a1 w1 a2 w2 a3 w3) a4 (k0_pay3 w4) a5 w5 a6 w6 (ix2 r q) = (∑ l : Fin 1024, a0 (ix2 r l) * w0 (ix4 0 0 l q)) + (∑ l : Fin 1024, a1 (ix2 r l) * w1 (ix4 0 0 l q)) + (∑ l : Fin 1024, a2 (ix2 r l) * w2 (ix4 0 0 l q)) + (∑ l : Fin 1024, a3 (ix2 r l) * w3 (ix4 0 0 l q)) + (∑ l : Fin 1024, a4 (ix2 r l) * w4 (ix4 0 0 l q)) + (∑ l : Fin 1024, a5 (ix2 r l) * w5 (ix4 0 0 l q)) + (∑ l : Fin 1024, a6 (ix2 r l) * w6 (ix4 0 0 l q)) := by
  pointwise [k0_pay10, k0_pay2, k0_pay3]
theorem sum128_apply (A : Vec Ideal S512x7168 .bf16) (g : Vec Ideal S1x1x7168x512 .f32) (r : Fin 512) (h : r.val < 128) (q : Fin 512) :
    sum128 A (part g) (ix2 (⟨r.val, h⟩ : Fin 128) q) = prod A g r q := by
  have e : ∀ (j : Fin 7) (l : Fin 1024), top128 A j (ix2 (⟨r.val, h⟩ : Fin 128) l) = A (ix2 r (⟨1024 * j.val + l.val, by have := j.isLt; have := l.isLt; omega⟩ : Fin 7168)) := fun j l =>
    congrArg A (funext fun a => by fin_cases a <;> exact Fin.ext (by simp [Rect.unit, Rect.emb]))
  unfold sum128 prod
  rw [pay10, split7, Fin.sum_univ_seven]
  simp only [e, part_apply]
theorem pay12 (a0 : Vec Ideal S256x1024 .bf16) (w0 : Vec Ideal S1x1x1024x512 .f32) (a1 : Vec Ideal S256x1024 .bf16) (w1 : Vec Ideal S1x1x1024x512 .f32) (a2 : Vec Ideal S256x1024 .bf16) (w2 : Vec Ideal S1x1x1024x512 .f32) (a3 : Vec Ideal S256x1024 .bf16) (w3 : Vec Ideal S1x1x1024x512 .f32) (a4 : Vec Ideal S256x1024 .bf16) (w4 : Vec Ideal S1x1x1024x512 .f32) (a5 : Vec Ideal S256x1024 .bf16) (w5 : Vec Ideal S1x1x1024x512 .f32) (a6 : Vec Ideal S256x1024 .bf16) (w6 : Vec Ideal S1x1x1024x512 .f32) (r : Fin 256) (q : Fin 512) :
    k0_pay12 (k0_pay4 a0 w0 a1 w1 a2 w2 a3 w3) a4 (k0_pay5 w4) a5 w5 a6 w6 (ix2 r q) = (∑ l : Fin 1024, a0 (ix2 r l) * w0 (ix4 0 0 l q)) + (∑ l : Fin 1024, a1 (ix2 r l) * w1 (ix4 0 0 l q)) + (∑ l : Fin 1024, a2 (ix2 r l) * w2 (ix4 0 0 l q)) + (∑ l : Fin 1024, a3 (ix2 r l) * w3 (ix4 0 0 l q)) + (∑ l : Fin 1024, a4 (ix2 r l) * w4 (ix4 0 0 l q)) + (∑ l : Fin 1024, a5 (ix2 r l) * w5 (ix4 0 0 l q)) + (∑ l : Fin 1024, a6 (ix2 r l) * w6 (ix4 0 0 l q)) := by
  pointwise [k0_pay12, k0_pay4, k0_pay5]
theorem sum256_apply (A : Vec Ideal S512x7168 .bf16) (g : Vec Ideal S1x1x7168x512 .f32) (r : Fin 512) (h : r.val < 256) (q : Fin 512) :
    sum256 A (part g) (ix2 (⟨r.val, h⟩ : Fin 256) q) = prod A g r q := by
  have e : ∀ (j : Fin 7) (l : Fin 1024), top256 A j (ix2 (⟨r.val, h⟩ : Fin 256) l) = A (ix2 r (⟨1024 * j.val + l.val, by have := j.isLt; have := l.isLt; omega⟩ : Fin 7168)) := fun j l =>
    congrArg A (funext fun a => by fin_cases a <;> exact Fin.ext (by simp [Rect.unit, Rect.emb]))
  unfold sum256 prod
  rw [pay12, split7, Fin.sum_univ_seven]
  simp only [e, part_apply]
theorem pay14 (a0 : Vec Ideal S384x1024 .bf16) (w0 : Vec Ideal S1x1x1024x512 .f32) (a1 : Vec Ideal S384x1024 .bf16) (w1 : Vec Ideal S1x1x1024x512 .f32) (a2 : Vec Ideal S384x1024 .bf16) (w2 : Vec Ideal S1x1x1024x512 .f32) (a3 : Vec Ideal S384x1024 .bf16) (w3 : Vec Ideal S1x1x1024x512 .f32) (a4 : Vec Ideal S384x1024 .bf16) (w4 : Vec Ideal S1x1x1024x512 .f32) (a5 : Vec Ideal S384x1024 .bf16) (w5 : Vec Ideal S1x1x1024x512 .f32) (a6 : Vec Ideal S384x1024 .bf16) (w6 : Vec Ideal S1x1x1024x512 .f32) (r : Fin 384) (q : Fin 512) :
    k0_pay14 (k0_pay6 a0 w0 a1 w1 a2 w2 a3 w3) a4 (k0_pay7 w4) a5 w5 a6 w6 (ix2 r q) = (∑ l : Fin 1024, a0 (ix2 r l) * w0 (ix4 0 0 l q)) + (∑ l : Fin 1024, a1 (ix2 r l) * w1 (ix4 0 0 l q)) + (∑ l : Fin 1024, a2 (ix2 r l) * w2 (ix4 0 0 l q)) + (∑ l : Fin 1024, a3 (ix2 r l) * w3 (ix4 0 0 l q)) + (∑ l : Fin 1024, a4 (ix2 r l) * w4 (ix4 0 0 l q)) + (∑ l : Fin 1024, a5 (ix2 r l) * w5 (ix4 0 0 l q)) + (∑ l : Fin 1024, a6 (ix2 r l) * w6 (ix4 0 0 l q)) := by
  pointwise [k0_pay14, k0_pay6, k0_pay7]
theorem sum384_apply (A : Vec Ideal S512x7168 .bf16) (g : Vec Ideal S1x1x7168x512 .f32) (r : Fin 512) (h : r.val < 384) (q : Fin 512) :
    sum384 A (part g) (ix2 (⟨r.val, h⟩ : Fin 384) q) = prod A g r q := by
  have e : ∀ (j : Fin 7) (l : Fin 1024), top384 A j (ix2 (⟨r.val, h⟩ : Fin 384) l) = A (ix2 r (⟨1024 * j.val + l.val, by have := j.isLt; have := l.isLt; omega⟩ : Fin 7168)) := fun j l =>
    congrArg A (funext fun a => by fin_cases a <;> exact Fin.ext (by simp [Rect.unit, Rect.emb]))
  unfold sum384 prod
  rw [pay14, split7, Fin.sum_univ_seven]
  simp only [e, part_apply]
theorem pay16 (a0 : Vec Ideal S512x1024 .bf16) (w0 : Vec Ideal S1x1x1024x512 .f32) (a1 : Vec Ideal S512x1024 .bf16) (w1 : Vec Ideal S1x1x1024x512 .f32) (a2 : Vec Ideal S512x1024 .bf16) (w2 : Vec Ideal S1x1x1024x512 .f32) (a3 : Vec Ideal S512x1024 .bf16) (w3 : Vec Ideal S1x1x1024x512 .f32) (a4 : Vec Ideal S512x1024 .bf16) (w4 : Vec Ideal S1x1x1024x512 .f32) (a5 : Vec Ideal S512x1024 .bf16) (w5 : Vec Ideal S1x1x1024x512 .f32) (a6 : Vec Ideal S512x1024 .bf16) (w6 : Vec Ideal S1x1x1024x512 .f32) (r : Fin 512) (q : Fin 512) :
    k0_pay16 (k0_pay8 a0 w0 a1 w1 a2 w2 a3 w3) a4 (k0_pay9 w4) a5 w5 a6 w6 (ix2 r q) = (∑ l : Fin 1024, a0 (ix2 r l) * w0 (ix4 0 0 l q)) + (∑ l : Fin 1024, a1 (ix2 r l) * w1 (ix4 0 0 l q)) + (∑ l : Fin 1024, a2 (ix2 r l) * w2 (ix4 0 0 l q)) + (∑ l : Fin 1024, a3 (ix2 r l) * w3 (ix4 0 0 l q)) + (∑ l : Fin 1024, a4 (ix2 r l) * w4 (ix4 0 0 l q)) + (∑ l : Fin 1024, a5 (ix2 r l) * w5 (ix4 0 0 l q)) + (∑ l : Fin 1024, a6 (ix2 r l) * w6 (ix4 0 0 l q)) := by
  pointwise [k0_pay16, k0_pay8, k0_pay9]
theorem sum512_apply (A : Vec Ideal S512x7168 .bf16) (g : Vec Ideal S1x1x7168x512 .f32) (r : Fin 512) (h : r.val < 512) (q : Fin 512) :
    sum512 A (part g) (ix2 (⟨r.val, h⟩ : Fin 512) q) = prod A g r q := by
  have e : ∀ (j : Fin 7) (l : Fin 1024), top512 A j (ix2 (⟨r.val, h⟩ : Fin 512) l) = A (ix2 r (⟨1024 * j.val + l.val, by have := j.isLt; have := l.isLt; omega⟩ : Fin 7168)) := fun j l =>
    congrArg A (funext fun a => by fin_cases a <;> exact Fin.ext (by simp [Rect.unit, Rect.emb]))
  unfold sum512 prod
  rw [pay16, split7, Fin.sum_univ_seven]
  simp only [e, part_apply]
theorem pay1 (y : S512x512.Idx) : k0_pay1 (F := Ideal) y = 0 := by
  show Ideal.ofBits .f32 0x00000000#32 = 0
  simp [Ideal.ofBits, Ideal.ieee]

theorem local_eq {n : Nat} (r : Fin 512) (q : Fin 512) (h : r.val < n) (hh) :
    (Rect.unitLocal (s := S512x512) (off := ![0, 0]) (size := ![n, 512]) (ix2 r q) hh : (a : Fin 2) → Fin (![n, 512] a)) = ix2 (⟨r.val, h⟩ : Fin n) q := by
  funext a; fin_cases a <;> rfl

theorem o128 (A : Vec Ideal S512x7168 .bf16) (g : Vec Ideal S1x1x7168x512 .f32) (r : Fin 512) (q : Fin 512) :
    out128 A (part g) (ix2 r q) = if r.val < 128 then prod A g r q else 0 := by
  unfold out128
  by_cases h : r.val < 128
  · rw [if_pos h, dif_pos ⟨Nat.zero_le _, by show r.val < 0 + 128; omega⟩]
    exact (congrArg (sum128 A (part g)) (local_eq r q h _)).trans (sum128_apply A g r h q)
  · rw [if_neg h, dif_neg (fun hh => h (by have : r.val < 0 + 128 := hh.2; omega)), pay1]
theorem o256 (A : Vec Ideal S512x7168 .bf16) (g : Vec Ideal S1x1x7168x512 .f32) (r : Fin 512) (q : Fin 512) :
    out256 A (part g) (ix2 r q) = if r.val < 256 then prod A g r q else 0 := by
  unfold out256
  by_cases h : r.val < 256
  · rw [if_pos h, dif_pos ⟨Nat.zero_le _, by show r.val < 0 + 256; omega⟩]
    exact (congrArg (sum256 A (part g)) (local_eq r q h _)).trans (sum256_apply A g r h q)
  · rw [if_neg h, dif_neg (fun hh => h (by have : r.val < 0 + 256 := hh.2; omega)), pay1]
theorem o384 (A : Vec Ideal S512x7168 .bf16) (g : Vec Ideal S1x1x7168x512 .f32) (r : Fin 512) (q : Fin 512) :
    out384 A (part g) (ix2 r q) = if r.val < 384 then prod A g r q else 0 := by
  unfold out384
  by_cases h : r.val < 384
  · rw [if_pos h, dif_pos ⟨Nat.zero_le _, by show r.val < 0 + 384; omega⟩]
    exact (congrArg (sum384 A (part g)) (local_eq r q h _)).trans (sum384_apply A g r h q)
  · rw [if_neg h, dif_neg (fun hh => h (by have : r.val < 0 + 384 := hh.2; omega)), pay1]
theorem o512 (A : Vec Ideal S512x7168 .bf16) (g : Vec Ideal S1x1x7168x512 .f32) (r : Fin 512) (q : Fin 512) :
    out512 A (part g) (ix2 r q) = prod A g r q := by
  unfold out512
  rw [dif_pos ⟨Nat.zero_le _, by show r.val < 0 + 512; omega⟩]
  exact (congrArg (sum512 A (part g)) (local_eq r q r.isLt _)).trans (sum512_apply A g r r.isLt q)

/-- A point's block, whatever it counts. -/
theorem outB_apply (n : Fin 513) (A : Vec Ideal S512x7168 .bf16) (g : Vec Ideal S1x1x7168x512 .f32) (r : Fin 512) (q : Fin 512) :
    outB n.val A (part g) (ix2 r q) = if 128 * (r.val / 128) < n.val then prod A g r q else 0 := by
  have hr := r.isLt
  have hn := n.isLt
  unfold outB
  by_cases h0 : n.val = 0
  · rw [if_pos h0, pay1, if_neg (by omega)]
  rw [if_neg h0]
  by_cases h1 : n.val ≤ 128
  · rw [if_pos h1, o128]; exact if_congr (by omega) rfl rfl
  rw [if_neg h1]
  by_cases h2 : n.val ≤ 256
  · rw [if_pos h2, o256]; exact if_congr (by omega) rfl rfl
  rw [if_neg h2]
  by_cases h3 : n.val ≤ 384
  · rw [if_pos h3, o384]; exact if_congr (by omega) rfl rfl
  rw [if_neg h3, o512, if_pos (by omega)]

/-! ## The blocks -/

variable (m : (ℓ : Loc nD τ sig) → Buf (Elt Ideal) ℓ) {S : Sched} {nv : Nat → Fin 513}

theorem gW_apply (c : Dev nD) (W : Buf (Elt Ideal) ((c : Thread nD τ).loc main_arg8)) (e : Fin 8) (k : Fin 4) (l : Fin 7168) (q : Fin 512) :
    gW c W e k (ix4 0 0 l q) = (W : FVec Ideal S1x8x7168x2048 .f32) (ix4 0 e l ⟨512 * k.val + q.val, by have := q.isLt; have := k.isLt; omega⟩) := by
  refine congrArg (W : FVec Ideal S1x8x7168x2048 .f32) (funext fun a => ?_)
  fin_cases a <;> exact Fin.ext (by simp [Rect.unit, Rect.emb])
theorem idxOut : ∀ i : grid0.Coords, cc0_transform_2 i = ![(i 1).val, (i 0).val] := by decide +kernel

theorem covers : ((cfgA m).win (1 : Fin 2)).Covers := by
  have hb : ∀ β : (a : Fin 2) → Fin (![40, 4] a), ∃ i : grid0.Coords, ∀ a, cc0_transform_2 i a = (β a).val := by
    intro β
    have h0 : (β (0 : Fin 2)).val < 40 := (β (0 : Fin 2)).isLt
    have h1 : (β (1 : Fin 2)).val < 4 := (β (1 : Fin 2)).isLt
    refine ⟨fun a => match a with | ⟨0, _⟩ => (⟨(β (1 : Fin 2)).val, h1⟩ : Fin 4) | ⟨1, _⟩ => (⟨(β (0 : Fin 2)).val, h0⟩ : Fin 40), fun a => ?_⟩
    rw [idxOut]
    fin_cases a <;> rfl
  have hs : ∀ a : Fin 2, 0 < S512x512.size a := by decide
  have hn : ∀ a : Fin 2, ((cfgA m).win (1 : Fin 2)).nblk a = ![40, 4] a := fun a => by
    fin_cases a
    · show (20480 + 512 - 1) / 512 = 40; norm_num
    · show (2048 + 512 - 1) / 512 = 4; norm_num
  refine Pipeline.Window.covers_of_indexMap_surj ((cfgA m).win (1 : Fin 2)) rfl hs fun β => ?_
  obtain ⟨i, hi⟩ := hb (fun a => (β a).cast (hn a))
  exact ⟨i, hi⟩

theorem t_lt (t : Fin (cfgA m).N) : t.val < 160 := by
  have h : (cfgA m).N = 160 := (by decide +kernel : grid0.N = 160)
  have := t.isLt
  omega

theorem index1 (t : Fin (cfgA m).N) : ((cfgA m).win (1 : Fin 2)).index t = ![t.val % 40, t.val / 40] := by
  refine (idxOut (crd m t)).trans ?_
  rw [crd0, crd1]

theorem index0 (hT : Tables m S nv) (t : Fin (cfgA m).N) (h : (nv (t.val % 40)).val ≠ 0) : ((cfgA m).win (0 : Fin 2)).index t = ![t.val % 40, 0] := by
  refine (trans_eq (pfN m) (crd m t)).trans ?_
  have e : (pfN m).at 1 (Rect.unit (s := S1) ![0] S1.size inb_S1_S1_0) numel1_S1 = m (((0 : Dev nD) : Thread nD τ).loc main_arg1) (ix1 (0 : Fin 1)) := by
    refine congrArg (m (((0 : Dev nD) : Thread nD τ).loc main_arg1)) (funext fun a => ?_)
    fin_cases a; exact Fin.ext (by show 0 + 0 * 1 = 0; rfl)
  have hj : t.val % 40 < 40 := Nat.mod_lt _ (by decide)
  rw [e, crd1, rowTile_eq _ hj _ (hT.na 0 ⟨t.val % 40, hj⟩ h)]

theorem rows (hT : Tables m S nv) (c : Dev nD) (t : Fin (cfgA m).N) (h : (nv (t.val % 40)).val ≠ 0) (r : Fin 512) (k : Fin 7168) :
    (iblk m c (0 : Fin 2) t : FVec Ideal S512x7168 .bf16) (ix2 r k)
      = (m ((c : Thread nD τ).loc main_arg7) : FVec Ideal S20480x7168 .bf16) (ix2 ⟨t.val % 40 * 512 + r.val, by have := r.isLt; omega⟩ k) := by
  have e := index0 m hT t h
  blk_ext [iblk, e]

/-- The whole result. -/
theorem final (hT : Tables m S nv) (c : Dev nD) :
    (dats m S nv 0 c).arrAt (1 : Fin 2) (cfgA m).N = fun i : S20480x2048.Idx => whole S.te nv (m ((c : Thread nD τ).loc main_arg7))
      (m ((c : Thread nD τ).loc main_arg8)) (i 0) (i 1) := by
  refine (dats m S nv 0 c).arrAt_eq_of_covers (1 : Fin 2) _ (covers m) fun t _ y => ?_
  blk_simp
  rw [after0_1]
  obtain ⟨r, q, rfl⟩ : ∃ (r : Fin 512) (q : Fin 512), y = ix2 r q := ⟨y 0, y 1, eq_ix2 y⟩
  have ht := t_lt m t
  have f : (((View.whole main_v0).slice (((cfgA m).win (1 : Fin 2)).rect t)).emb (ix2 r q) : S20480x2048.Idx) = ix2 ⟨t.val % 40 * 512 + r.val, by have := r.isLt; omega⟩ ⟨t.val / 40 * 512 + q.val, by have := q.isLt; omega⟩ := by
    blk_ext [index1 m t]
  refine Eq.trans ?_ (congrArg (fun i : S20480x2048.Idx => whole S.te nv (m ((c : Thread nD τ).loc main_arg7))
      (m ((c : Thread nD τ).loc main_arg8)) (i 0) (i 1)) f.symm)
  refine (outB_apply (nv (t.val % 40)) _ _ r q).trans ?_
  show _ = whole S.te nv _ _ (⟨t.val % 40 * 512 + r.val, by have := r.isLt; omega⟩ : Fin 20480) (⟨t.val / 40 * 512 + q.val, by have := q.isLt; omega⟩ : Fin 2048)
  have hr := r.isLt
  have hi : (t.val % 40 * 512 + r.val) / 512 = t.val % 40 := by omega
  have hm : (t.val % 40 * 512 + r.val) % 512 = r.val := by omega
  unfold whole
  simp only [hi, hm]
  by_cases h : 128 * (r.val / 128) < (nv (t.val % 40)).val
  · rw [if_pos h, if_pos h]
    have hk : kB S (S.blk t.val) = ⟨t.val / 40, by omega⟩ := S.kb_blk 4 (by decide) t.val ⟨t.val / 40, by omega⟩ rfl
    have e : ∀ l : Nat, 512 * l = l * 512 := fun l => Nat.mul_comm _ _
    unfold prod mul
    rw [hk, S.eb_blk]
    simp only [rows m hT c t (by omega), gW_apply, e]
  · rw [if_neg h, if_neg h]

end Cert.MoeDownIdeal.Hand
end
-- ==== Proof.DownRef.lean ====
/- The reference of the experts' down projection, read entry by entry. -/
module

public import proofs.«01_k».proof.Proof.DownValue
public import proofs.«01_k».proof.Proof.Gen.MoeDownReferenceIdeal.Run
public import Idealize.ShloMosaic.Lib.Pointwise

@[expose] public section

set_option maxRecDepth 16384

noncomputable section

open Idealize.ShloMosaic Idealize.ShloMosaic.TcCoe Idealize.SL.Sem

namespace Cert.MoeDownReferenceIdeal.Pure

open Cert.MoeDownReferenceIdeal Cert.MoeDownReferenceIdeal.Gen
open Cert.MoeDownIdeal.Hand (mul whole)

/-- The expert of each row: its tile's. -/
def expert (te : IVec S40 32) : IVec S20480 32 :=
  shapeCast _ (broadcastInDim S40x512 ![0, 1] bcast_S40x1_S40x512_0_1 (broadcastInDim S40x1 ![0] bcast_S40_S40x1_0 te)) shapeCasts_S40x512_S20480

theorem expert_apply (te : IVec S40 32) (i : Fin 20480) : expert te (ix1 i) = te (ix1 (⟨i.val / 512, by have := i.isLt; omega⟩ : Fin 40)) := by
  pointwise [expert]

/-- Which rows are kept: those of a group of 128 that starts before the tile's count. -/
def kept (nv : IVec S40 32) : IVec S20480 1 :=
  shapeCast _ (cmpi .slt (muli (broadcastInDim S40x4x128 ![] bcast_S_S40x4x128 (constantI S_ 32 128#32)) (iotaInDim S40x4x128 32 1)) (broadcastInDim S40x4x128 ![0, 1, 2] bcast_S40x1x1_S40x4x128_0_1_2 (broadcastInDim S40x1x1 ![0] bcast_S40_S40x1x1_0 nv))) shapeCasts_S40x4x128_S20480

theorem kept_apply (nv : IVec S40 32) (i : Fin 20480) : kept nv (ix1 i)
    = IntOp.cmpi .slt (IntOp.muli 128#32 (BitVec.ofNat 32 (i.val % 512 / 128))) (nv (ix1 (⟨i.val / 512, by have := i.isLt; omega⟩ : Fin 40))) := by
  have e : i.val % 512 / 128 = i.val / 128 % 4 := by omega
  rw [e]
  pointwise [kept]

/-- One expert's weight out of the stack. -/
def weight (W : FVec Ideal S1x8x7168x2048 .f32) (e : Nat) (h : S1x8x7168x2048.Slices ![0, e, 0, 0] S1x1x7168x2048) : FVec Ideal S7168x2048 .f32 :=
  shapeCast _ (extractStridedSlice S1x1x7168x2048 ![0, e, 0, 0] W h) shapeCasts_S1x1x7168x2048_S7168x2048

theorem weight_apply (W : FVec Ideal S1x8x7168x2048 .f32) (e : Fin 8) (h) (k : Fin 7168) (j : Fin 2048) : weight W e.val h (ix2 k j) = W (ix4 0 e k j) := by
  unfold weight
  have p : ∀ Y : FVec Ideal S1x1x7168x2048 .f32, shapeCast S7168x2048 Y shapeCasts_S1x1x7168x2048_S7168x2048 (ix2 k j) = Y (ix4 0 0 k j) := by intro Y; pointwise
  rw [p]
  exact congrArg W (funext fun a => by fin_cases a <;> exact Fin.ext (by simp))

/-- The rows against one expert's weight. -/
def prod (A : FVec Ideal S20480x7168 .bf16) (B : FVec Ideal S7168x2048 .f32) : FVec Ideal S20480x2048 .f32 :=
  Host.dotGeneral dot_S20480x7168_S7168x2048_S20480x2048_1_0_0_1_n_n none (extf .f32 A bitsLt_bf16_f32) B

theorem prod_apply (A : FVec Ideal S20480x7168 .bf16) (B : FVec Ideal S7168x2048 .f32) (i : Fin 20480) (j : Fin 2048) :
    prod A B (ix2 i j) = ∑ k : Fin 7168, A (ix2 i k) * B (ix2 k j) := by
  pointwise [prod]

/-- One expert's turn: its rows take its product, the others keep what they had. -/
def pick (te : IVec S40 32) (e : BitVec 32) (n h : FVec Ideal S20480x2048 .f32) : FVec Ideal S20480x2048 .f32 :=
  select (broadcastInDim S20480x2048 ![0, 1] bcast_S20480x1_S20480x2048_0_1 (broadcastInDim S20480x1 ![0] bcast_S20480_S20480x1_0 (cmpi .eq (expert te) (broadcastInDim S20480 ![] bcast_S_S20480 (constantI S_ 32 e))))) n h

theorem pick_apply (te : IVec S40 32) (e : BitVec 32) (n h : FVec Ideal S20480x2048 .f32) (i : Fin 20480) (j : Fin 2048) :
    pick te e n h (ix2 i j) = if IntOp.cmpi .eq (te (ix1 (⟨i.val / 512, by have := i.isLt; omega⟩ : Fin 40))) e = 1#1 then n (ix2 i j) else h (ix2 i j) := by
  rw [← expert_apply te i]
  generalize hE : expert te = E
  unfold pick
  rw [hE]
  pointwise
  rfl

/-- The value of one expert, over its slice of the weights. -/
def turn (A : FVec Ideal S20480x7168 .bf16) (W : FVec Ideal S1x8x7168x2048 .f32) (e : Nat) (h : S1x8x7168x2048.Slices ![0, e, 0, 0] S1x1x7168x2048) : FVec Ideal S20480x2048 .f32 :=
  prod A (weight W e h)

theorem turn_apply (A : FVec Ideal S20480x7168 .bf16) (W : FVec Ideal S1x8x7168x2048 .f32) (e : Fin 8) (h) (i : Fin 20480) (j : Fin 2048) :
    turn A W e.val h (ix2 i j) = mul A W e i j := by
  unfold turn
  rw [prod_apply]
  unfold mul
  simp only [weight_apply]

/-- Zeros. -/
def zeros : FVec Ideal S20480x2048 .f32 := broadcastInDim S20480x2048 ![] bcast_S_S20480x2048 (constant S_ .f32 0x00000000#32)
theorem zeros_apply (i : S20480x2048.Idx) : zeros i = 0 := by
  pointwise [zeros]

/-- Every expert's turn. -/
def turns (te : IVec S40 32) (A : FVec Ideal S20480x7168 .bf16) (W : FVec Ideal S1x8x7168x2048 .f32) : FVec Ideal S20480x2048 .f32 :=
  pick te 7#32 (turn A W 7 slices_S1x8x7168x2048_S1x1x7168x2048_0_7_0_0)
  (pick te 6#32 (turn A W 6 slices_S1x8x7168x2048_S1x1x7168x2048_0_6_0_0)
  (pick te 5#32 (turn A W 5 slices_S1x8x7168x2048_S1x1x7168x2048_0_5_0_0)
  (pick te 4#32 (turn A W 4 slices_S1x8x7168x2048_S1x1x7168x2048_0_4_0_0)
  (pick te 3#32 (turn A W 3 slices_S1x8x7168x2048_S1x1x7168x2048_0_3_0_0)
  (pick te 2#32 (turn A W 2 slices_S1x8x7168x2048_S1x1x7168x2048_0_2_0_0)
  (pick te 1#32 (turn A W 1 slices_S1x8x7168x2048_S1x1x7168x2048_0_1_0_0)
  (pick te 0#32 (turn A W 0 slices_S1x8x7168x2048_S1x1x7168x2048_0_0_0_0) zeros)))))))

theorem turns_apply (te : IVec S40 32) (A : FVec Ideal S20480x7168 .bf16) (W : FVec Ideal S1x8x7168x2048 .f32) (e : Fin 8) (i : Fin 20480) (j : Fin 2048)
    (h : te (ix1 (⟨i.val / 512, by have := i.isLt; omega⟩ : Fin 40)) = BitVec.ofNat 32 e.val) : turns te A W (ix2 i j) = mul A W e i j := by
  unfold turns
  simp only [pick_apply]
  rw [h]
  have g : ∀ (n : Nat) (hn : n < 8) (h), turn A W n h (ix2 i j) = mul A W ⟨n, hn⟩ i j := fun n hn h => turn_apply A W ⟨n, hn⟩ h i j
  rw [g 7 (by decide), g 6 (by decide), g 5 (by decide), g 4 (by decide), g 3 (by decide), g 2 (by decide), g 1 (by decide), g 0 (by decide)]
  fin_cases e <;> simp [IntOp.cmpi]

/-- The reference. -/
def ref (te nv : IVec S40 32) (A : FVec Ideal S20480x7168 .bf16) (W : FVec Ideal S1x8x7168x2048 .f32) : FVec Ideal S20480x2048 .f32 :=
  select (broadcastInDim S20480x2048 ![0, 1] bcast_S20480x1_S20480x2048_0_1 (broadcastInDim S20480x1 ![0] bcast_S20480_S20480x1_0 (kept nv))) (turns te A W) zeros

theorem ref_apply (te nv : IVec S40 32) (A : FVec Ideal S20480x7168 .bf16) (W : FVec Ideal S1x8x7168x2048 .f32) (i : Fin 20480) (j : Fin 2048) :
    ref te nv A W (ix2 i j) = if kept nv (ix1 i) = 1#1 then turns te A W (ix2 i j) else zeros (ix2 i j) := by
  unfold ref
  generalize kept nv = K
  generalize turns te A W = T
  generalize zeros = Z
  pointwise
  rfl

theorem word : ∀ (g : Fin 4) (n : Fin 513), (IntOp.cmpi .slt (IntOp.muli 128#32 (BitVec.ofNat 32 g.val)) (BitVec.ofNat 32 n.val) = 1#1) ↔ 128 * g.val < n.val := by
  decide +kernel

theorem at' (te nv : IVec S40 32) (A : FVec Ideal S20480x7168 .bf16) (W : FVec Ideal S1x8x7168x2048 .f32) (T : Nat → Fin 8) (N : Nat → Fin 513)
    (hte : ∀ j : Fin 40, te (ix1 j) = BitVec.ofNat 32 (T j.val).val) (hnv : ∀ j : Fin 40, nv (ix1 j) = BitVec.ofNat 32 (N j.val).val) (i : Fin 20480) (j : Fin 2048) :
    ref te nv A W (ix2 i j) = whole T N A W i j := by
  rw [ref_apply, kept_apply, turns_apply te A W (T (i.val / 512)) i j (hte ⟨i.val / 512, by have := i.isLt; omega⟩), zeros_apply, hnv]
  unfold whole
  have := word ⟨i.val % 512 / 128, by omega⟩ (N (i.val / 512))
  simp only [this]

/-- The run's term. -/
theorem term (m : (ℓ : Loc nD τ sig) → Buf (Elt Ideal) ℓ) (c : Dev nD) :
    Value.res_main_v69 m c
    = ref (m ((c.tc : Thread nD τ).loc main_arg0)) (m ((c.tc : Thread nD τ).loc main_arg2)) (m ((c.tc : Thread nD τ).loc main_arg7)) (m ((c.tc : Thread nD τ).loc main_arg8)) := by
  rfl

end Cert.MoeDownReferenceIdeal.Pure
end
-- ==== Proof.DownClaim.lean ====
/- The claims of the experts' down projection. -/
module

public import proofs.«01_k».proof.Defs
public import proofs.«01_k».proof.Proof.Gen.MoeDown
public import proofs.«01_k».proof.Proof.DownValue
public import proofs.«01_k».proof.Proof.DownRef
public import Idealize.ShloMosaic.Lib.Quiescent

@[expose] public section

set_option maxRecDepth 16384

noncomputable section

open Idealize.ShloMosaic Idealize.ShloMosaic.TcCoe Idealize.SL.Sem

namespace Cert.Proof.MoeDown

/-! The program as compiled and its idealisation are one program here, as nothing is rewritten: what is shown of the one at any float holds of the other. -/

theorem defs₀_eq : (Cert.MoeDown.defs₀ (F := Bits)) = Cert.MoeDownIdeal.defs₀ (F := Bits) := by
  funext p l a
  cases p with
  | tc =>
    match l, a with
    | ⟨0, _⟩, (t, s) => rfl
    | ⟨n + 1, h⟩, _ => exact absurd h (Nat.not_lt.2 (Nat.le_add_left _ _))
  | scScalar _ => rfl
  | scVector _ _ => rfl
theorem defs_eq : (Cert.MoeDown.defs (F := Bits)) = Cert.MoeDownIdeal.defs (F := Bits) :=
  congrArg (Pipeline.defs (Cert.MoeDown.pcfgs (F := Bits))) defs₀_eq
theorem frame : Cert.quiescent_MoeDown := fun m ρ h => by
  obtain ⟨S, nv, hT⟩ := Cert.MoeDownIdeal.Hand.tables_of_pre (F := Bits) m h
  rw [defs_eq]
  exact Cert.MoeDownIdeal.Hand.frame (F := Bits) m ρ hT
theorem frameI : Cert.quiescent_MoeDownIdeal := fun m ρ h => by
  obtain ⟨S, nv, hT⟩ := Cert.MoeDownIdeal.Hand.tables_of_pre m h
  exact Cert.MoeDownIdeal.Hand.frame m ρ hT
theorem frameR : Cert.quiescent_MoeDownReferenceIdeal := fun m ρ _ =>
  (θ_run Cert.MoeDownReferenceIdeal.defs _ _).mono (fun r h => ⟨fun c => (h c).2, sem_eq_zero_of_no_sems (by decide) r.2⟩)
    (Cert.MoeDownReferenceIdeal.Value.run (F := Ideal) m ρ)
theorem frameRP : Cert.quiescent_MoeDownReferenceIdeal_pre_tables_of_tiles_down := fun m ρ _ =>
  (θ_run Cert.MoeDownReferenceIdeal.defs _ _).mono (fun r h => ⟨fun c => (h c).2, sem_eq_zero_of_no_sems (by decide) r.2⟩)
    (Cert.MoeDownReferenceIdeal.Value.run (F := Ideal) m ρ)

theorem algebraic : Cert.algebraic_MoeDownIdeal_MoeDownReferenceIdeal := by
  intro m ρ m' ρ' hpre hag
  obtain ⟨S, nv, hT⟩ := Cert.MoeDownIdeal.Hand.tables_of_pre m hpre
  refine ⟨fun c => fun i : Cert.MoeDownIdeal.S20480x2048.Idx => Cert.MoeDownIdeal.Hand.whole S.te nv
    (m ((c.tc : Thread Cert.MoeDownIdeal.nD Cert.MoeDownIdeal.τ).loc Cert.MoeDownIdeal.main_arg7))
    (m ((c.tc : Thread Cert.MoeDownIdeal.nD Cert.MoeDownIdeal.τ).loc Cert.MoeDownIdeal.main_arg8)) (i 0) (i 1), ?_, ?_⟩
  · exact (θ_run Cert.MoeDownIdeal.defs _ _).mono (fun _ h c => ⟨(h.1 c).1.trans (Cert.MoeDownIdeal.Hand.final m hT c), (h.1 c).2⟩)
      (Cert.MoeDownIdeal.Hand.run m ρ hT)
  · refine (θ_run Cert.MoeDownReferenceIdeal.defs _ _).mono (fun _ h c => ⟨(h c).1.trans ?_, (h c).2⟩)
      (Cert.MoeDownReferenceIdeal.Value.run (F := Ideal) m' ρ')
    obtain ⟨a0, a1, a2, a3, a4, a5, a6, a7, a8⟩ := hag c
    refine (Cert.MoeDownReferenceIdeal.Pure.term m' c).trans ?_
    show Cert.MoeDownReferenceIdeal.Pure.ref (m' ((c.tc : Thread Cert.MoeDownReferenceIdeal.nD Cert.MoeDownReferenceIdeal.τ).loc Cert.MoeDownReferenceIdeal.main_arg0))
      (m' ((c.tc : Thread Cert.MoeDownReferenceIdeal.nD Cert.MoeDownReferenceIdeal.τ).loc Cert.MoeDownReferenceIdeal.main_arg2))
      (m' ((c.tc : Thread Cert.MoeDownReferenceIdeal.nD Cert.MoeDownReferenceIdeal.τ).loc Cert.MoeDownReferenceIdeal.main_arg7))
      (m' ((c.tc : Thread Cert.MoeDownReferenceIdeal.nD Cert.MoeDownReferenceIdeal.τ).loc Cert.MoeDownReferenceIdeal.main_arg8)) = _
    rw [a0, a2, a7, a8]
    funext i
    obtain ⟨i, j, rfl⟩ : ∃ (p : Fin 20480) (q : Fin 2048), i = ix2 p q := ⟨i 0, i 1, eq_ix2 i⟩
    exact Cert.MoeDownReferenceIdeal.Pure.at' _ _ _ _ S.te nv (hT.te c) (hT.nv c) i j

end Cert.Proof.MoeDown

end
-- ==== Proof.MemKV.lean ====
/- The projection of the memory's keys and values: each column block of the product of the rows with the weights. -/
module

public import proofs.«01_k».proof.Defs
public import proofs.«01_k».proof.Proof.Gen.MemKV.Frame
public import proofs.«01_k».proof.Proof.Gen.MemKVIdeal.Value
public import proofs.«01_k».proof.Proof.Gen.MemKVReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MemKVIdeal.Pure

open Cert.MemKVIdeal Cert.MemKVIdeal.Gen

/-- The product at row `i`, column `j`. -/
def whole (X : FVec Ideal S1024x2048 .bf16) (W : FVec Ideal S2x2048x1536 .f32) (i : Fin 1024) (j : Fin 1536) : EReal :=
  ∑ k : Fin 2048, X (ix2 i k) * W (ix3 0 k j)

theorem pay (X : Vec Ideal S1024x2048 .bf16) (W : Vec Ideal S1x2048x768 .f32) (r : Fin 1024) (q : Fin 768) :
    k0_pay1 X W (ix2 r q) = ∑ k : Fin 2048, X (ix2 r k) * W (ix3 0 k q) := by
  pointwise [k0_pay1]

variable (m : (ℓ : Loc nD τ sig) → Buf (Elt Ideal) ℓ)

theorem idx : ∀ t : Fin cfg0.N, win0_0.index t = ![0, 0] ∧ win0_1.index t = ![0, 0, t.val]
    ∧ win0_2.index t = ![0, t.val] ∧ t.val < 2 :=
  (by decide +kernel : ∀ t : Fin grid0.N, _)

theorem final (c : Dev nD) :
    (dats m 0 c).arrAt 2 (cfgs 0).N = fun i : S1024x1536.Idx => whole (m ((c : Thread nD τ).loc main_arg0)) (m ((c : Thread nD τ).loc main_arg1)) (i 0) (i 1) := by
  refine (dats m 0 c).arrAt_eq_of_covers 2 _ (by decide +kernel) fun t _ y => ?_
  blk_simp
  rw [after0_2]; frame_out
  obtain ⟨r, q, rfl⟩ : ∃ (r : Fin 1024) (q : Fin 768), y = ix2 r q := ⟨y 0, y 1, eq_ix2 y⟩
  have e0 : ∀ (r : Fin 1024) (k : Fin 2048), (iblk m c 0 t : FVec Ideal S1024x2048 .bf16) (ix2 r k)
      = ((m ((c : Thread nD τ).loc main_arg0)) : FVec Ideal S1024x2048 .bf16) (ix2 r k) := by
    intro r k; blk_ext [iblk, V, idx t]
  have e1 : ∀ (k : Fin 2048) (q : Fin 768), (iblk m c 1 t : FVec Ideal S1x2048x768 .f32) (ix3 0 k q)
      = ((m ((c : Thread nD τ).loc main_arg1)) : FVec Ideal S2x2048x1536 .f32) (ix3 0 k ⟨t.val * 768 + q.val, by have := (idx t).2.2.2; have := q.isLt; omega⟩) := by
    intro k q; blk_ext [iblk, V, idx t]
  have f : (((View.whole main_v0).slice (win0_2.rect t)).emb (ix2 r q) : S1024x1536.Idx) = ix2 r ⟨t.val * 768 + q.val, by have := (idx t).2.2.2; have := q.isLt; omega⟩ := by
    blk_ext [idx t]
  refine Eq.trans ?_ (congrArg (fun i : S1024x1536.Idx => whole (m ((c : Thread nD τ).loc main_arg0)) (m ((c : Thread nD τ).loc main_arg1)) (i 0) (i 1)) f.symm)
  refine (pay _ _ r q).trans ?_
  show _ = whole _ _ _ _
  unfold whole
  simp only [View.ld_unit_zero, e0, e1]
  try rfl

end Cert.MemKVIdeal.Pure

namespace Cert.Proof.MemKV

theorem frame : Cert.quiescent_MemKV := fun m ρ _ => Cert.MemKV.Gen.frame m ρ
theorem frameI : Cert.quiescent_MemKVIdeal := fun m ρ _ => Cert.MemKVIdeal.Gen.frame m ρ
theorem frameR : Cert.quiescent_MemKVReferenceIdeal := fun m ρ _ =>
  (θ_run Cert.MemKVReferenceIdeal.defs _ _).mono (fun r h => ⟨fun c => (h c).2, sem_eq_zero_of_no_sems (by decide) r.2⟩)
    (Cert.MemKVReferenceIdeal.Value.run (F := Ideal) m ρ)

open Cert.MemKVReferenceIdeal Cert.MemKVReferenceIdeal.Gen in
/-- The reference's result at an index. -/
theorem ref (X : FVec Ideal S1024x2048 .bf16) (W : FVec Ideal S2x2048x1536 .f32) (i : Fin 1024) (j : Fin 1536) :
    ((truncf .bf16 (Host.dotGeneral dot_S1024x2048_S2048x1536_S1024x1536_1_0_0_1_n_n none (extf .f32 X bitsLt_bf16_f32) (shapeCast _ (extractStridedSlice S1x2048x1536 ![0, 0, 0] W slices_S2x2048x1536_S1x2048x1536_0_0_0) shapeCasts_S1x2048x1536_S2048x1536)) bitsLt_bf16_f32) : FVec Ideal S1024x1536 .bf16) (ix2 i j) = Cert.MemKVIdeal.Pure.whole X W i j := by
  pointwise [Cert.MemKVIdeal.Pure.whole]

theorem algebraic : Cert.algebraic_MemKVIdeal_MemKVReferenceIdeal := by
  intro m ρ m' ρ' _ hag
  refine ⟨fun c => fun i : Cert.MemKVIdeal.S1024x1536.Idx => Cert.MemKVIdeal.Pure.whole
    (m ((c.tc : Thread Cert.MemKVIdeal.nD Cert.MemKVIdeal.τ).loc Cert.MemKVIdeal.main_arg0))
    (m ((c.tc : Thread Cert.MemKVIdeal.nD Cert.MemKVIdeal.τ).loc Cert.MemKVIdeal.main_arg1)) (i 0) (i 1), ?_, ?_⟩
  · exact (θ_run Cert.MemKVIdeal.defs _ _).mono (fun _ h c => ⟨(h c).1.trans (Cert.MemKVIdeal.Pure.final m c), (h c).2⟩)
      (Cert.MemKVIdeal.Value.run_blocks (F := Ideal) m ρ)
  · refine (θ_run Cert.MemKVReferenceIdeal.defs _ _).mono (fun _ h c => ⟨(h c).1.trans ?_, (h c).2⟩)
      (Cert.MemKVReferenceIdeal.Value.run (F := Ideal) m' ρ')
    rw [(hag c).1, (hag c).2]
    funext i
    obtain ⟨i, j, rfl⟩ : ∃ (p : Fin 1024) (q : Fin 1536), i = ix2 p q := ⟨i 0, i 1, eq_ix2 i⟩
    exact ref _ _ i j

end Cert.Proof.MemKV

end
-- ==== Proof.NormMix.lean ====
/- The norm before the mixer: each block of rows normalised. -/
module

public import proofs.«01_k».proof.Defs
public import proofs.«01_k».proof.Proof.Gen.NormMix.Frame
public import proofs.«01_k».proof.Proof.Gen.NormMixIdeal.Value
public import proofs.«01_k».proof.Proof.Gen.NormMixReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormMixIdeal.Pure

open Cert.NormMixIdeal Cert.NormMixIdeal.Gen

/-- The normalised entry: the row's entry over the root of the row's mean square, times the gain. -/
def nrow {n : ℕ} (X : Fin n → Fin 2048 → EReal) (g : Fin 2048 → EReal) (i : Fin n) (k : Fin 2048) : EReal :=
  X i k * Ideal.rsqrt (Ideal.div (∑ l : Fin 2048, X i l * X i l) (Ideal.ofBits .f32 0x45000000#32) + Ideal.ofBits .f32 0x358637BD#32) * g k

/-- The normalised rows at row `i`, column `k`. -/
def whole (X : FVec Ideal S8192x2048 .f32) (g : FVec Ideal S2048 .f32) (i : Fin 8192) (k : Fin 2048) : EReal :=
  nrow (fun i k => X (ix2 i k)) (fun k => g (ix1 k)) i k

theorem pay (X : Vec Ideal S512x2048 .f32) (g : Vec Ideal S1x2048 .f32) (r : Fin 512) (k : Fin 2048) :
    k0_pay1 X g (ix2 r k) = nrow (fun i k => X (ix2 i k)) (fun k => g (ix2 0 k)) r k := by
  unfold nrow
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The gain's row, laid out by the reshape. -/
theorem cast_g (g : FVec Ideal S2048 .f32) (k : Fin 2048) : shapeCast S1x2048 g shapeCasts_S2048_S1x2048 (ix2 0 k) = g (ix1 k) := by
  pointwise

theorem gain (c : Dev nD) (t : Fin cfg0.N) (k : Fin 2048) :
    (iblk m c 1 t : FVec Ideal S1x2048 .f32) (ix2 0 k) = (m ((c : Thread nD τ).loc main_arg1) : FVec Ideal S2048 .f32) (ix1 k) := by
  have e : V m c main_v0 = shapeCast S1x2048 (m ((c : Thread nD τ).loc main_arg1) : FVec Ideal S2048 .f32) shapeCasts_S2048_S1x2048 := by
    unfold V; after_results; try rfl
  refine Eq.trans ?_ (cast_g _ k)
  refine Eq.trans (b := (V m c main_v0 : FVec Ideal S1x2048 .f32) (ix2 0 k)) ?_ (congrFun e _)
  blk_ext [iblk, idx t]

theorem rows (c : Dev nD) (t : Fin cfg0.N) (r : Fin 512) (k : Fin 2048) : (iblk m c 0 t : FVec Ideal S512x2048 .f32) (ix2 r k)
    = ((m ((c : Thread nD τ).loc main_arg0)) : FVec Ideal S8192x2048 .f32) (ix2 ⟨t.val * 512 + r.val, by have := (idx t).2.2.2; have := r.isLt; omega⟩ k) := by
  blk_ext [iblk, V_main_arg0, idx t]

theorem final (c : Dev nD) :
    (dats m 0 c).arrAt 2 (cfgs 0).N = fun i : S8192x2048.Idx => whole (m ((c : Thread nD τ).loc main_arg0)) (m ((c : Thread nD τ).loc main_arg1)) (i 0) (i 1) := by
  refine (dats m 0 c).arrAt_eq_of_covers 2 _ (by decide +kernel) fun t _ y => ?_
  blk_simp
  rw [after0_2]; frame_out
  obtain ⟨r, k, rfl⟩ : ∃ (r : Fin 512) (k : Fin 2048), y = ix2 r k := ⟨y 0, y 1, eq_ix2 y⟩
  have f : (((View.whole main_v1).slice (win0_2.rect t)).emb (ix2 r k) : S8192x2048.Idx) = ix2 ⟨t.val * 512 + r.val, by have := (idx t).2.2.2; have := r.isLt; omega⟩ k := by
    blk_ext [idx t]
  refine Eq.trans ?_ (congrArg (fun i : S8192x2048.Idx => whole (m ((c : Thread nD τ).loc main_arg0)) (m ((c : Thread nD τ).loc main_arg1)) (i 0) (i 1)) f.symm)
  refine (pay _ _ r k).trans ?_
  show _ = whole _ _ _ _
  unfold whole nrow
  simp only [View.ld_unit_zero, rows, gain]
  try rfl

end Cert.NormMixIdeal.Pure

namespace Cert.Proof.NormMix

theorem frame : Cert.quiescent_NormMix := fun m ρ _ => Cert.NormMix.Gen.frame m ρ
theorem frameI : Cert.quiescent_NormMixIdeal := fun m ρ _ => Cert.NormMixIdeal.Gen.frame m ρ
theorem frameR : Cert.quiescent_NormMixReferenceIdeal := fun m ρ _ =>
  (θ_run Cert.NormMixReferenceIdeal.defs _ _).mono (fun r h => ⟨fun c => (h c).2, sem_eq_zero_of_no_sems (by decide) r.2⟩)
    (Cert.NormMixReferenceIdeal.Value.run (F := Ideal) m ρ)

open Cert.NormMixReferenceIdeal Cert.NormMixReferenceIdeal.Gen in
/-- The reference's result at an index. -/
theorem ref (X : FVec Ideal S8192x2048 .f32) (g : FVec Ideal S2048 .f32) (i : Fin 8192) (k : Fin 2048) :
    ((truncf .bf16 (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32) : FVec Ideal S8192x2048 .bf16) (ix2 i k) = Cert.NormMixIdeal.Pure.whole X g i k := by
  unfold Cert.NormMixIdeal.Pure.whole Cert.NormMixIdeal.Pure.nrow
  pointwise

theorem algebraic : Cert.algebraic_NormMixIdeal_NormMixReferenceIdeal := by
  intro m ρ m' ρ' _ hag
  refine ⟨fun c => fun i : Cert.NormMixIdeal.S8192x2048.Idx => Cert.NormMixIdeal.Pure.whole
    (m ((c.tc : Thread Cert.NormMixIdeal.nD Cert.NormMixIdeal.τ).loc Cert.NormMixIdeal.main_arg0))
    (m ((c.tc : Thread Cert.NormMixIdeal.nD Cert.NormMixIdeal.τ).loc Cert.NormMixIdeal.main_arg1)) (i 0) (i 1), ?_, ?_⟩
  · exact (θ_run Cert.NormMixIdeal.defs _ _).mono (fun _ h c => ⟨(h c).1.trans (Cert.NormMixIdeal.Pure.final m c), (h c).2⟩)
      (Cert.NormMixIdeal.Value.run_blocks (F := Ideal) m ρ)
  · refine (θ_run Cert.NormMixReferenceIdeal.defs _ _).mono (fun _ h c => ⟨(h c).1.trans ?_, (h c).2⟩)
      (Cert.NormMixReferenceIdeal.Value.run (F := Ideal) m' ρ')
    rw [(hag c).1, (hag c).2]
    funext i
    obtain ⟨i, k, rfl⟩ : ∃ (p : Fin 8192) (q : Fin 2048), i = ix2 p q := ⟨i 0, i 1, eq_ix2 i⟩
    exact ref _ _ i k

end Cert.Proof.NormMix

end
-- ==== Proof.NormMem.lean ====
/- The norm of the memory: each block of rows normalised. -/
module

public import proofs.«01_k».proof.Defs
public import proofs.«01_k».proof.Proof.Gen.NormMem.Frame
public import proofs.«01_k».proof.Proof.Gen.NormMemIdeal.Value
public import proofs.«01_k».proof.Proof.Gen.NormMemReferenceIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormMemIdeal.Pure

open Cert.NormMemIdeal Cert.NormMemIdeal.Gen

/-- The normalised entry: the row's entry over the root of the row's mean square, times the gain. -/
def nrow {n : ℕ} (X : Fin n → Fin 2048 → EReal) (g : Fin 2048 → EReal) (i : Fin n) (k : Fin 2048) : EReal :=
  X i k * Ideal.rsqrt (Ideal.div (∑ l : Fin 2048, X i l * X i l) (Ideal.ofBits .f32 0x45000000#32) + Ideal.ofBits .f32 0x358637BD#32) * g k

/-- The normalised rows at row `i`, column `k`. -/
def whole (X : FVec Ideal S1024x2048 .f32) (g : FVec Ideal S2048 .f32) (i : Fin 1024) (k : Fin 2048) : EReal :=
  nrow (fun i k => X (ix2 i k)) (fun k => g (ix1 k)) i k

theorem pay (X : Vec Ideal S512x2048 .f32) (g : Vec Ideal S1x2048 .f32) (r : Fin 512) (k : Fin 2048) :
    k0_pay1 X g (ix2 r k) = nrow (fun i k => X (ix2 i k)) (fun k => g (ix2 0 k)) r k := by
  unfold nrow
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 2 :=
  (by decide +kernel : ∀ t : Fin grid0.N, _)

/-- The gain's row, laid out by the reshape. -/
theorem cast_g (g : FVec Ideal S2048 .f32) (k : Fin 2048) : shapeCast S1x2048 g shapeCasts_S2048_S1x2048 (ix2 0 k) = g (ix1 k) := by
  pointwise

theorem gain (c : Dev nD) (t : Fin cfg0.N) (k : Fin 2048) :
    (iblk m c 1 t : FVec Ideal S1x2048 .f32) (ix2 0 k) = (m ((c : Thread nD τ).loc main_arg1) : FVec Ideal S2048 .f32) (ix1 k) := by
  have e : V m c main_v0 = shapeCast S1x2048 (m ((c : Thread nD τ).loc main_arg1) : FVec Ideal S2048 .f32) shapeCasts_S2048_S1x2048 := by
    unfold V; after_results; try rfl
  refine Eq.trans ?_ (cast_g _ k)
  refine Eq.trans (b := (V m c main_v0 : FVec Ideal S1x2048 .f32) (ix2 0 k)) ?_ (congrFun e _)
  blk_ext [iblk, idx t]

theorem rows (c : Dev nD) (t : Fin cfg0.N) (r : Fin 512) (k : Fin 2048) : (iblk m c 0 t : FVec Ideal S512x2048 .f32) (ix2 r k)
    = ((m ((c : Thread nD τ).loc main_arg0)) : FVec Ideal S1024x2048 .f32) (ix2 ⟨t.val * 512 + r.val, by have := (idx t).2.2.2; have := r.isLt; omega⟩ k) := by
  blk_ext [iblk, V_main_arg0, idx t]

theorem final (c : Dev nD) :
    (dats m 0 c).arrAt 2 (cfgs 0).N = fun i : S1024x2048.Idx => whole (m ((c : Thread nD τ).loc main_arg0)) (m ((c : Thread nD τ).loc main_arg1)) (i 0) (i 1) := by
  refine (dats m 0 c).arrAt_eq_of_covers 2 _ (by decide +kernel) fun t _ y => ?_
  blk_simp
  rw [after0_2]; frame_out
  obtain ⟨r, k, rfl⟩ : ∃ (r : Fin 512) (k : Fin 2048), y = ix2 r k := ⟨y 0, y 1, eq_ix2 y⟩
  have f : (((View.whole main_v1).slice (win0_2.rect t)).emb (ix2 r k) : S1024x2048.Idx) = ix2 ⟨t.val * 512 + r.val, by have := (idx t).2.2.2; have := r.isLt; omega⟩ k := by
    blk_ext [idx t]
  refine Eq.trans ?_ (congrArg (fun i : S1024x2048.Idx => whole (m ((c : Thread nD τ).loc main_arg0)) (m ((c : Thread nD τ).loc main_arg1)) (i 0) (i 1)) f.symm)
  refine (pay _ _ r k).trans ?_
  show _ = whole _ _ _ _
  unfold whole nrow
  simp only [View.ld_unit_zero, rows, gain]
  try rfl

end Cert.NormMemIdeal.Pure

namespace Cert.Proof.NormMem

theorem frame : Cert.quiescent_NormMem := fun m ρ _ => Cert.NormMem.Gen.frame m ρ
theorem frameI : Cert.quiescent_NormMemIdeal := fun m ρ _ => Cert.NormMemIdeal.Gen.frame m ρ
theorem frameR : Cert.quiescent_NormMemReferenceIdeal := fun m ρ _ =>
  (θ_run Cert.NormMemReferenceIdeal.defs _ _).mono (fun r h => ⟨fun c => (h c).2, sem_eq_zero_of_no_sems (by decide) r.2⟩)
    (Cert.NormMemReferenceIdeal.Value.run (F := Ideal) m ρ)

open Cert.NormMemReferenceIdeal Cert.NormMemReferenceIdeal.Gen in
/-- The reference's result at an index. -/
theorem ref (X : FVec Ideal S1024x2048 .f32) (g : FVec Ideal S2048 .f32) (i : Fin 1024) (k : Fin 2048) :
    ((truncf .bf16 (mulf (mulf X (broadcastInDim S1024x2048 ![0, 1] bcast_S1024x1_S1024x2048_0_1 (Host.rsqrt (addf (Host.divf (broadcastInDim S1024x1 ![0] bcast_S1024_S1024x1_0 (Host.reduceAdd (mulf X X) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 g))) bitsLt_bf16_f32) : FVec Ideal S1024x2048 .bf16) (ix2 i k) = Cert.NormMemIdeal.Pure.whole X g i k := by
  unfold Cert.NormMemIdeal.Pure.whole Cert.NormMemIdeal.Pure.nrow
  pointwise

theorem algebraic : Cert.algebraic_NormMemIdeal_NormMemReferenceIdeal := by
  intro m ρ m' ρ' _ hag
  refine ⟨fun c => fun i : Cert.NormMemIdeal.S1024x2048.Idx => Cert.NormMemIdeal.Pure.whole
    (m ((c.tc : Thread Cert.NormMemIdeal.nD Cert.NormMemIdeal.τ).loc Cert.NormMemIdeal.main_arg0))
    (m ((c.tc : Thread Cert.NormMemIdeal.nD Cert.NormMemIdeal.τ).loc Cert.NormMemIdeal.main_arg1)) (i 0) (i 1), ?_, ?_⟩
  · exact (θ_run Cert.NormMemIdeal.defs _ _).mono (fun _ h c => ⟨(h c).1.trans (Cert.NormMemIdeal.Pure.final m c), (h c).2⟩)
      (Cert.NormMemIdeal.Value.run_blocks (F := Ideal) m ρ)
  · refine (θ_run Cert.NormMemReferenceIdeal.defs _ _).mono (fun _ h c => ⟨(h c).1.trans ?_, (h c).2⟩)
      (Cert.NormMemReferenceIdeal.Value.run (F := Ideal) m' ρ')
    rw [(hag c).1, (hag c).2]
    funext i
    obtain ⟨i, k, rfl⟩ : ∃ (p : Fin 1024) (q : Fin 2048), i = ix2 p q := ⟨i 0, i 1, eq_ix2 i⟩
    exact ref _ _ i k

end Cert.Proof.NormMem

end
-- ==== Proof.NearPure.lean ====
/- What one grid point of the neighbourhood attention computes for one head, read at an index. -/
module

public import proofs.«01_k».proof.Proof.Gen.NearIdeal.Frame
public import proofs.«01_k».proof.Proof.Softmax
public import Idealize.ShloMosaic.Lib.Pointwise

@[expose] public section

set_option maxRecDepth 16384

noncomputable section

namespace Cert.NearIdeal.Pure

open Idealize.ShloMosaic Idealize.ShloMosaic.TcCoe Cert.NearIdeal Cert.NearIdeal.Gen Cert.Softmax

/-- The scores of one head: its queries times the keys, scaled, with the table added. -/
def scores (k : FVec Ideal S1x768x128 .bf16) (q : FVec Ideal S1x256x128 .bf16) (b : FVec Ideal S1x1x256x768 .f32) :
    FVec Ideal S256x768 .f32 :=
  addf (mulf (matmul dot_S256x128_S768x128_S256x768_1_1_0_0_n_n none
      (shapeCast S256x128 q shapeCasts_S1x256x128_S256x128) (shapeCast S768x128 k shapeCasts_S1x768x128_S768x128)
      (constant S256x768 .f32 0x00000000#32))
    (broadcast S256x768 (Scalar.ofBits .f32 0x3DB504F3#32)))
    (shapeCast S256x768 b shapeCasts_S1x1x256x768_S256x768)

/-- The weighted values and the weights' sum, side by side. -/
def weighted (s : FVec Ideal S256x768 .f32) (v : FVec Ideal S1x768x128 .bf16) : FVec Ideal S256x256 .f32 :=
  matmul dot_S256x768_S768x256_S256x256_1_0_0_1_n_n none
    (exp (truncf .bf16 (subf s (broadcastTo S256x768 (shapeCast S256x1
      (multiReduction .maximumf [1] S256 s 0xFF800000#32 reduces_S256x768_S256 (.inl rfl) rfl) shapeCasts_S256_S256x1)
      broadcasts_S256x1_S256x768)) bitsLt_bf16_f32))
    (concatenate S768x256 1 [⟨S768x128, shapeCast S768x128 v shapeCasts_S1x768x128_S768x128⟩,
      ⟨S768x128, broadcast S768x128 (Scalar.ofBits .bf16 0x3F80#16)⟩] concatenates_S768x128_S768x128_S768x256_d1)
    (constant S256x256 .f32 0x00000000#32)

/-- One head's output. -/
def head (k v : FVec Ideal S1x768x128 .bf16) (q : FVec Ideal S1x256x128 .bf16) (b : FVec Ideal S1x1x256x768 .f32) :
    FVec Ideal S1x256x128 .bf16 :=
  shapeCast S1x256x128 (truncf .bf16 (divf
    (extractStridedSlice S256x128 ![0, 0] (weighted (scores k q b) v) slices_S256x256_o0_0_S256x128)
    (extractStridedSlice S256x128 ![0, 128] (weighted (scores k q b) v) slices_S256x256_o0_128_S256x128)) bitsLt_bf16_f32)
    shapeCasts_S256x128_S1x256x128

section
variable (k v : FVec Ideal S1x768x128 .bf16) (q : FVec Ideal S1x256x128 .bf16) (b : FVec Ideal S1x1x256x768 .f32)

theorem head0 : k0_pay3 (F := Ideal) (k0_pay2 k v q b) = head k v q b := rfl
theorem head1 : k0_pay4 (F := Ideal) k v q b = head k v q b := rfl
theorem head2 : k0_pay6 (F := Ideal) (k0_pay5 k) v q b = head k v q b := rfl
theorem head3 : k0_pay9 (F := Ideal) (k0_pay7 v) (k0_pay8 k q) b = head k v q b := rfl
theorem head4 : k0_pay12 (F := Ideal) (k0_pay10 v) (k0_pay11 k q b) = head k v q b := rfl
theorem head5 : k0_pay1 (F := Ideal) (k0_pay13 k q b) (k0_pay14 v) = head k v q b := rfl

/-- The scale of the scores as an extended real. -/
abbrev scl : EReal := Ideal.ofBits .f32 0x3DB504F3#32

theorem scl_real : ∃ c : ℝ, 0 ≤ c ∧ scl = (c : EReal) := by
  have h : scl = (((2 : ℝ) ^ (-27 : ℤ) * 11863283 : ℝ) : EReal) := by
    simp [scl, Ideal.ofBits, Ideal.ieee, -EReal.coe_mul]
    norm_num
  exact ⟨_, by positivity, h⟩

theorem neg_inf : Ideal.ofBits .f32 0xFF800000#32 = ⊥ := by
  simp [Ideal.ofBits, Ideal.ieee]

/-- A row's attention: the values weighted by the softmax of the scores. -/
def att (s v : Fin 768 → EReal) : EReal :=
  ∑ m, v m * Ideal.div (Ideal.exp (s m - Finset.univ.fold max ⊥ s)) (∑ m, Ideal.exp (s m - Finset.univ.fold max ⊥ s))

theorem scores_apply (r : Fin 256) (m : Fin 768) :
    scores k q b (ix2 r m) = (∑ e : Fin 128, q (ix3 0 r e) * k (ix3 0 m e)) * scl + b (ix4 0 0 r m) := by
  pointwise [scores]

theorem weighted_apply (s : FVec Ideal S256x768 .f32) (r : Fin 256) (d : Fin 256) :
    weighted s v (ix2 r d) = ∑ x : Fin 768, Ideal.exp (s (ix2 r x) - Finset.univ.fold max ⊥ (fun x => s (ix2 r x))) *
        if h : d.val < 128 then v (ix3 0 x ⟨d.val, h⟩) else 1 := by
  pointwise [weighted]
  rw [neg_inf]

theorem head_apply' (r : Fin 256) (d : Fin 128) : head k v q b (ix3 0 r d)
    = Ideal.div (weighted (scores k q b) v (ix2 r ⟨d.val, by have := d.isLt; omega⟩))
      (weighted (scores k q b) v (ix2 r ⟨128 + d.val, by have := d.isLt; omega⟩)) := by
  pointwise [head]

theorem head_apply (hq : ∀ i, Fin' (q i)) (hk : ∀ i, Fin' (k i)) (hb : ∀ i, Fin' (b i)) (r : Fin 256) (d : Fin 128) :
    head k v q b (ix3 0 r d)
      = att (fun m => (∑ e : Fin 128, q (ix3 0 r e) * k (ix3 0 m e)) * scl + b (ix4 0 0 r m)) (fun m => v (ix3 0 m d)) := by
  rw [head_apply', weighted_apply, weighted_apply]
  have hd := d.isLt
  simp only [hd, dif_pos, show ¬ (128 + d.val < 128) by omega, dif_neg, not_false_eq_true, mul_one]
  simp only [scores_apply]
  refine softmax (by omega) _ _ fun m => ?_
  obtain ⟨c, -, hc⟩ := scl_real
  exact ((Fin'.sum _ _ fun e _ => (hq _).mul (hk _)).mul ⟨c, hc⟩).add (hb _)

end

end Cert.NearIdeal.Pure

end
-- ==== Proof.NearValue.lean ====
/- The neighbourhood attention's result array after the run: one whole-array function of the two arguments. -/
module

public import proofs.«01_k».proof.Proof.NearPure
public import proofs.«01_k».proof.Proof.Gen.NearIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NearIdeal.Pure

open Cert.NearIdeal Cert.NearIdeal.Gen Cert.Softmax

/-- The column `128 * (col / 128) + e`: lane `e` of the head that column `col` belongs to. -/
def hcol (col : Fin 768) (e : Fin 128) : Fin 768 := ⟨col.val / 128 * 128 + e.val, by have := col.isLt; have := e.isLt; omega⟩

/-- The first key of a step: the twelve rows of 64 around the step's own four, kept inside the image. -/
def start (s : ℕ) : ℕ := min (s - 1) 5 * 256

/-- Which of the three tables a step adds: the first step's, the last step's, or the one of all the steps between. -/
def which (s : ℕ) : ℕ := if s = 0 then 0 else if s = 7 then 2 else 1

/-- A key's place in the array. -/
def key (s : ℕ) (m : Fin 768) : Fin 2048 := ⟨start s + m.val, by have := m.isLt; unfold start; omega⟩

/-- A column's head. -/
def hd (col : Fin 768) : Fin 6 := ⟨col.val / 128, by have := col.isLt; omega⟩

/-- A step's table. -/
def tab (s : ℕ) : Fin 3 := ⟨which s, by unfold which; split <;> [omega; split <;> omega]⟩

/-- The attention of a step's block of 256 queries over its 768 keys and values, at row `r` and column `col`. -/
def blk (s : ℕ) (X0 : FVec Ideal S1x256x768 .bf16) (X1 X2 : FVec Ideal S1x2048x768 .bf16) (X3 : FVec Ideal S1x6x256x768 .f32)
    (r : Fin 256) (col : Fin 768) : EReal :=
  att (fun m => (∑ e : Fin 128, X0 (ix3 0 r (hcol col e)) * X1 (ix3 0 (key s m) (hcol col e))) * scl + X3 (ix4 0 (hd col) r m))
    (fun m => X2 (ix3 0 (key s m) col))

/-- The whole attention: batch `b`, query `q`, column `col` of the result. -/
def whole (Z : FVec Ideal S4x2048x6144 .bf16) (T : FVec Ideal S3x6x256x768 .f32) (b : Fin 4) (q : Fin 2048) (col : Fin 768) : EReal :=
  att (fun m => (∑ e : Fin 128, Z (ix3 b q ⟨(hcol col e).val, by have := (hcol col e).isLt; omega⟩)
      * Z (ix3 b (key (q.val / 256) m) ⟨768 + (hcol col e).val, by have := (hcol col e).isLt; omega⟩)) * scl
      + T (ix4 (tab (q.val / 256)) (hd col) ⟨q.val % 256, by omega⟩ m))
    (fun m => Z (ix3 b (key (q.val / 256) m) ⟨1536 + col.val, by have := col.isLt; omega⟩))

/-- One head's payload inside the block. -/
theorem head_blk (s : ℕ) (h W : ℕ) (hW : W = 128 * h) (hh : h < 6)
    (X0 : FVec Ideal S1x256x768 .bf16) (X1 X2 : FVec Ideal S1x2048x768 .bf16) (X3 : FVec Ideal S1x6x256x768 .f32)
    (h0 : ∀ i, Fin' (X0 i)) (h1 : ∀ i, Fin' (X1 i)) (h3 : ∀ i, Fin' (X3 i))
    (k v : FVec Ideal S1x768x128 .bf16) (q : FVec Ideal S1x256x128 .bf16) (b : FVec Ideal S1x1x256x768 .f32)
    (hq : ∀ (z : Fin 1) (r : Fin 256) (d : Fin 128), q (ix3 z r d) = X0 (ix3 0 r ⟨W + d.val, by have := d.isLt; omega⟩))
    (hk : ∀ (z : Fin 1) (r : Fin 768) (d : Fin 128), k (ix3 z r d) = X1 (ix3 0 (key s r) ⟨W + d.val, by have := d.isLt; omega⟩))
    (hv : ∀ (z : Fin 1) (r : Fin 768) (d : Fin 128), v (ix3 z r d) = X2 (ix3 0 (key s r) ⟨W + d.val, by have := d.isLt; omega⟩))
    (hb : ∀ (z z' : Fin 1) (r : Fin 256) (m : Fin 768), b (ix4 z z' r m) = X3 (ix4 0 ⟨h, hh⟩ r m))
    (r : Fin 256) (d : Fin 128) (col : Fin 768) (hc : col.val = W + d.val) :
    head k v q b (ix3 0 r d) = blk s X0 X1 X2 X3 r col := by
  have hq' : ∀ i, Fin' (q i) := fun i => by
    rw [eq_ix3 i]; exact (hq (i 0) (i 1) (i 2)) ▸ h0 _
  have hk' : ∀ i, Fin' (k i) := fun i => by
    rw [eq_ix3 i]; exact (hk (i 0) (i 1) (i 2)) ▸ h1 _
  have hb' : ∀ i, Fin' (b i) := fun i => by
    rw [eq_ix4 i]; exact (hb (i 0) (i 1) (i 2) (i 3)) ▸ h3 _
  rw [head_apply k v q b hq' hk' hb']
  have hdl := d.isLt
  unfold blk
  have e2 : hd col = ⟨h, hh⟩ := Fin.ext (by simp only [hd]; omega)
  have e3 : (⟨W + d.val, by omega⟩ : Fin 768) = col := Fin.ext hc.symm
  congr 1
  · funext m
    rw [hb, e2]
    congr 2
    refine Finset.sum_congr rfl fun e _ => ?_
    have he := e.isLt
    have e1 : (⟨W + e.val, by omega⟩ : Fin 768) = hcol col e := Fin.ext (by simp only [hcol]; omega)
    rw [hq, hk, e1]
  · funext m
    rw [hv, e3]

variable (m : (ℓ : Loc nD τ sig) → Buf (Elt Ideal) ℓ)

/-- The windows' block indices at every grid point. -/
theorem idx : ∀ t : Fin cfg0.N, win0_0.index t = ![t.val / 8, t.val % 8, 0] ∧ win0_1.index t = ![t.val / 8, 0, 1]
    ∧ win0_2.index t = ![t.val / 8, 0, 2] ∧ win0_3.index t = ![which (t.val % 8), 0, 0, 0]
    ∧ win0_4.index t = ![t.val / 8, t.val % 8, 0] ∧ t.val < 32 :=
  (by decide +kernel : ∀ t : Fin grid0.N, _)

/-- Where each head's keys and values start. -/
theorem offs : ∀ t : Fin cfg0.N, k0_off1 (grid0.coords t) = ![0, start (t.val % 8), 0]
    ∧ k0_off2 (grid0.coords t) = ![0, start (t.val % 8), 128] ∧ k0_off3 (grid0.coords t) = ![0, start (t.val % 8), 256]
    ∧ k0_off4 (grid0.coords t) = ![0, start (t.val % 8), 384] ∧ k0_off5 (grid0.coords t) = ![0, start (t.val % 8), 512]
    ∧ k0_off6 (grid0.coords t) = ![0, start (t.val % 8), 640] :=
  (by decide +kernel : ∀ t : Fin grid0.N, _)

/-- One head's payload over the loads the body makes of its blocks. -/
theorem head_ld (s : ℕ) (h W : ℕ) (hW : W = 128 * h) (hh : h < 6)
    (X0 : FVec Ideal S1x256x768 .bf16) (X1 X2 : FVec Ideal S1x2048x768 .bf16) (X3 : FVec Ideal S1x6x256x768 .f32)
    (h0 : ∀ i, Fin' (X0 i)) (h1 : ∀ i, Fin' (X1 i)) (h3 : ∀ i, Fin' (X3 i))
    (off : Fin 3 → ℕ) (ho : off = ![0, start s, W]) (inb inb0 inb3)
    (x : S1x256x128.Idx) (r : Fin 256) (col : Fin 768) (hr : r.val = (x 1).val) (hc : col.val = W + (x 2).val) :
    head (View.ld (Val := Elt Ideal) (e' := .bf16) X1 (Rect.unit (s := S1x2048x768) off S1x768x128.size inb))
      (View.ld (Val := Elt Ideal) (e' := .bf16) X2 (Rect.unit (s := S1x2048x768) off S1x768x128.size inb))
      (View.ld (Val := Elt Ideal) (e' := .bf16) X0 (Rect.unit (s := S1x256x768) ![0, 0, W] S1x256x128.size inb0))
      (View.ld (Val := Elt Ideal) (S := S1x6x256x768) (e' := .f32) X3 (Rect.unit (s := S1x6x256x768) ![0, h, 0, 0] S1x1x256x768.size inb3)) x
      = blk s X0 X1 X2 X3 r col := by
  subst ho
  obtain ⟨z, r', d, rfl⟩ : ∃ (z : Fin 1) (r : Fin 256) (d : Fin 128), x = ix3 z r d := ⟨x 0, x 1, x 2, eq_ix3 x⟩
  obtain rfl : z = 0 := Subsingleton.elim _ _
  obtain rfl : r = r' := Fin.ext hr
  refine head_blk s h W hW hh X0 X1 X2 X3 h0 h1 h3 _ _ _ _ ?_ ?_ ?_ ?_ r d col hc
  · intro z r d; obtain rfl : z = 0 := Subsingleton.elim _ _
    exact View.ld_unit_apply_of _ _ _ _ _ _ fun a => by fin_cases a <;> simp [ix3]
  · intro z r d; obtain rfl : z = 0 := Subsingleton.elim _ _
    exact View.ld_unit_apply_of _ _ _ _ _ _ fun a => by fin_cases a <;> simp [ix3, key]
  · intro z r d; obtain rfl : z = 0 := Subsingleton.elim _ _
    exact View.ld_unit_apply_of _ _ _ _ _ _ fun a => by fin_cases a <;> simp [ix3, key]
  · intro z z' r d; obtain rfl : z = 0 := Subsingleton.elim _ _; obtain rfl : z' = 0 := Subsingleton.elim _ _
    exact View.ld_unit_apply_of _ _ _ _ _ _ fun a => by fin_cases a <;> simp [ix4]

theorem outs (c : Dev nD) (t : Fin cfg0.N)
    (h0 : ∀ i, Fin' ((iblk m c 0 t : FVec Ideal S1x256x768 .bf16) i))
    (h1 : ∀ i, Fin' ((iblk m c 1 t : FVec Ideal S1x2048x768 .bf16) i))
    (h3 : ∀ i, Fin' ((iblk m c 3 t : FVec Ideal S1x6x256x768 .f32) i)) (r : Fin 256) (col : Fin 768) :
    (dats m 0 c).after 4 t (ix3 0 r col)
      = blk (t.val % 8) (iblk m c 0 t) (iblk m c 1 t) (iblk m c 2 t) (iblk m c 3 t) r col := by
  rw [after0_4]
  unfold outsAt0
  frame_out
  have o := offs t
  canon_tiles x p
  · exact (congrFun (head5 _ _ _ _) x).trans (head_ld _ 5 640 rfl (by omega) _ _ _ _ h0 h1 h3 _ o.2.2.2.2.2 _ _ _ x r col p1 p2)
  · exact (congrFun (head4 _ _ _ _) x).trans (head_ld _ 4 512 rfl (by omega) _ _ _ _ h0 h1 h3 _ o.2.2.2.2.1 _ _ _ x r col p1 p2)
  · exact (congrFun (head3 _ _ _ _) x).trans (head_ld _ 3 384 rfl (by omega) _ _ _ _ h0 h1 h3 _ o.2.2.2.1 _ _ _ x r col p1 p2)
  · exact (congrFun (head2 _ _ _ _) x).trans (head_ld _ 2 256 rfl (by omega) _ _ _ _ h0 h1 h3 _ o.2.2.1 _ _ _ x r col p1 p2)
  · exact (congrFun (head1 _ _ _ _) x).trans (head_ld _ 1 128 rfl (by omega) _ _ _ _ h0 h1 h3 _ o.2.1 _ _ _ x r col p1 p2)
  · exact (congrFun (head0 _ _ _ _) x).trans (head_ld _ 0 0 rfl (by omega) _ _ _ _ h0 h1 h3 _ o.1 _ _ _ x r col p1 (p2.trans (Nat.zero_add _).symm))

theorem final (c : Dev nD)
    (hz : ∀ (b : Fin 4) (s : Fin 2048) (d : Fin 1536), Fin' ((m ((c : Thread nD τ).loc main_arg0) : FVec Ideal S4x2048x6144 .bf16) (ix3 b s ⟨d.val, by have := d.isLt; omega⟩)))
    (ht : ∀ i, Fin' ((m ((c : Thread nD τ).loc main_arg1) : FVec Ideal S3x6x256x768 .f32) i)) :
    (dats m 0 c).arrAt 4 (cfgs 0).N
      = fun i : S4x2048x768.Idx => whole (m ((c : Thread nD τ).loc main_arg0)) (m ((c : Thread nD τ).loc main_arg1)) (i 0) (i 1) (i 2) := by
  refine (dats m 0 c).arrAt_eq_of_covers 4 _ (by decide +kernel) fun t _ y => ?_
  blk_simp
  obtain ⟨z, r, col, rfl⟩ : ∃ (z : Fin 1) (r : Fin 256) (col : Fin 768), y = ix3 z r col := ⟨y 0, y 1, y 2, eq_ix3 y⟩
  obtain rfl : z = 0 := Subsingleton.elim _ _
  have e0 : ∀ (r : Fin 256) (d : Fin 768), (iblk m c 0 t : FVec Ideal S1x256x768 .bf16) (ix3 0 r d)
      = (m ((c : Thread nD τ).loc main_arg0) : FVec Ideal S4x2048x6144 .bf16)
        (ix3 ⟨t.val / 8, by have := (idx t).2.2.2.2.2; omega⟩ ⟨t.val % 8 * 256 + r.val, by have := r.isLt; omega⟩ ⟨d.val, by have := d.isLt; omega⟩) := by
    intro r d; blk_ext [iblk, V, idx t]
  have e1 : ∀ (r : Fin 2048) (d : Fin 768), (iblk m c 1 t : FVec Ideal S1x2048x768 .bf16) (ix3 0 r d)
      = (m ((c : Thread nD τ).loc main_arg0) : FVec Ideal S4x2048x6144 .bf16)
        (ix3 ⟨t.val / 8, by have := (idx t).2.2.2.2.2; omega⟩ r ⟨768 + d.val, by have := d.isLt; omega⟩) := by
    intro r d; blk_ext [iblk, V, idx t]
  have e2 : ∀ (r : Fin 2048) (d : Fin 768), (iblk m c 2 t : FVec Ideal S1x2048x768 .bf16) (ix3 0 r d)
      = (m ((c : Thread nD τ).loc main_arg0) : FVec Ideal S4x2048x6144 .bf16)
        (ix3 ⟨t.val / 8, by have := (idx t).2.2.2.2.2; omega⟩ r ⟨1536 + d.val, by have := d.isLt; omega⟩) := by
    intro r d; blk_ext [iblk, V, idx t]
  have e3 : ∀ (h : Fin 6) (r : Fin 256) (d : Fin 768), (iblk m c 3 t : FVec Ideal S1x6x256x768 .f32) (ix4 0 h r d)
      = (m ((c : Thread nD τ).loc main_arg1) : FVec Ideal S3x6x256x768 .f32) (ix4 (tab (t.val % 8)) h r d) := by
    intro h r d; blk_ext [iblk, V, idx t, tab]
  refine (outs m c t ?_ ?_ ?_ r col).trans ?_
  · intro i
    obtain ⟨z, r, d, rfl⟩ : ∃ (z : Fin 1) (r : Fin 256) (d : Fin 768), i = ix3 z r d := ⟨i 0, i 1, i 2, eq_ix3 (n0 := 1) (n1 := 256) (n2 := 768) i⟩
    obtain rfl : z = 0 := Subsingleton.elim _ _
    exact (e0 r d) ▸ hz _ _ ⟨d.val, by have := d.isLt; omega⟩
  · intro i
    obtain ⟨z, r, d, rfl⟩ : ∃ (z : Fin 1) (r : Fin 2048) (d : Fin 768), i = ix3 z r d := ⟨i 0, i 1, i 2, eq_ix3 (n0 := 1) (n1 := 2048) (n2 := 768) i⟩
    obtain rfl : z = 0 := Subsingleton.elim _ _
    exact (e1 r d) ▸ hz _ _ ⟨768 + d.val, by have := d.isLt; omega⟩
  · intro i
    obtain ⟨z, h, r, d, rfl⟩ : ∃ (z : Fin 1) (h : Fin 6) (r : Fin 256) (d : Fin 768), i = ix4 z h r d := ⟨i 0, i 1, i 2, i 3, eq_ix4 (n0 := 1) (n1 := 6) (n2 := 256) (n3 := 768) i⟩
    obtain rfl : z = 0 := Subsingleton.elim _ _
    exact (e3 h r d) ▸ ht _
  have f : (((View.whole main_v0).slice (win0_4.rect t)).emb (ix3 0 r col) : S4x2048x768.Idx)
      = ix3 ⟨t.val / 8, by have := (idx t).2.2.2.2.2; omega⟩ ⟨t.val % 8 * 256 + r.val, by have := r.isLt; omega⟩ col := by
    blk_ext [idx t]
  refine Eq.trans ?_ (congrArg (fun i : S4x2048x768.Idx => whole (m ((c : Thread nD τ).loc main_arg0)) (m ((c : Thread nD τ).loc main_arg1)) (i 0) (i 1) (i 2)) f.symm)
  show _ = whole _ _ (⟨t.val / 8, _⟩ : Fin 4) (⟨t.val % 8 * 256 + r.val, _⟩ : Fin 2048) col
  have hr := r.isLt
  have g1 : (t.val % 8 * 256 + r.val) / 256 = t.val % 8 := by omega
  have g2 : (t.val % 8 * 256 + r.val) % 256 = r.val := by omega
  unfold blk whole
  simp only [e0, e1, e2, e3, g1, g2]

end Cert.NearIdeal.Pure

end
-- ==== Proof.NearRef.lean ====
/- The neighbourhood attention's reference, read at an index. -/
module

public import proofs.«01_k».proof.Proof.NearPure
public import proofs.«01_k».proof.Proof.NearValue
public import proofs.«01_k».proof.Proof.Gen.NearReferenceIdeal.Run

@[expose] public section

set_option maxRecDepth 16384

noncomputable section

namespace Cert.NearReferenceIdeal.Pure

open Idealize.ShloMosaic Idealize.ShloMosaic.TcCoe Cert.NearReferenceIdeal Cert.NearReferenceIdeal.Gen Cert.Softmax
open Cert.NearIdeal.Pure (scl att whole hcol hd key start tab which scl_real neg_inf)

/-- The 768 rows each of the eight steps attends to, side by side. -/
def near (X : FVec Ideal S4x2048x768 .f32) : FVec Ideal S4x8x768x768 .f32 :=
  concatenate S4x8x768x768 1 [⟨S4x1x768x768, broadcastInDim S4x1x768x768 ![0, 2, 3] bcast_S4x768x768_S4x1x768x768_0_2_3 (extractStridedSlice S4x768x768 ![0, 0, 0] X slices_S4x2048x768_S4x768x768_0_0_0)⟩,
    ⟨S4x1x768x768, broadcastInDim S4x1x768x768 ![0, 2, 3] bcast_S4x768x768_S4x1x768x768_0_2_3 (extractStridedSlice S4x768x768 ![0, 0, 0] X slices_S4x2048x768_S4x768x768_0_0_0)⟩,
    ⟨S4x1x768x768, broadcastInDim S4x1x768x768 ![0, 2, 3] bcast_S4x768x768_S4x1x768x768_0_2_3 (extractStridedSlice S4x768x768 ![0, 256, 0] X slices_S4x2048x768_S4x768x768_0_256_0)⟩,
    ⟨S4x1x768x768, broadcastInDim S4x1x768x768 ![0, 2, 3] bcast_S4x768x768_S4x1x768x768_0_2_3 (extractStridedSlice S4x768x768 ![0, 512, 0] X slices_S4x2048x768_S4x768x768_0_512_0)⟩,
    ⟨S4x1x768x768, broadcastInDim S4x1x768x768 ![0, 2, 3] bcast_S4x768x768_S4x1x768x768_0_2_3 (extractStridedSlice S4x768x768 ![0, 768, 0] X slices_S4x2048x768_S4x768x768_0_768_0)⟩,
    ⟨S4x1x768x768, broadcastInDim S4x1x768x768 ![0, 2, 3] bcast_S4x768x768_S4x1x768x768_0_2_3 (extractStridedSlice S4x768x768 ![0, 1024, 0] X slices_S4x2048x768_S4x768x768_0_1024_0)⟩,
    ⟨S4x1x768x768, broadcastInDim S4x1x768x768 ![0, 2, 3] bcast_S4x768x768_S4x1x768x768_0_2_3 (extractStridedSlice S4x768x768 ![0, 1280, 0] X slices_S4x2048x768_S4x768x768_0_1280_0)⟩,
    ⟨S4x1x768x768, broadcastInDim S4x1x768x768 ![0, 2, 3] bcast_S4x768x768_S4x1x768x768_0_2_3 (extractStridedSlice S4x768x768 ![0, 1280, 0] X slices_S4x2048x768_S4x768x768_0_1280_0)⟩]
    concatenates_S4x1x768x768_S4x1x768x768_S4x1x768x768_S4x1x768x768_S4x1x768x768_S4x1x768x768_S4x1x768x768_S4x1x768x768_S4x8x768x768_d1

/-- Each step's table. -/
def own (T : FVec Ideal S3x6x256x768 .f32) : FVec Ideal S8x6x256x768 .f32 :=
  concatenate S8x6x256x768 0 [⟨S1x6x256x768, broadcastInDim S1x6x256x768 ![1, 2, 3] bcast_S6x256x768_S1x6x256x768_1_2_3 (shapeCast _ (extractStridedSlice S1x6x256x768 ![0, 0, 0, 0] T slices_S3x6x256x768_S1x6x256x768_0_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![1, 0, 0, 0] T slices_S3x6x256x768_S1x6x256x768_1_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![1, 0, 0, 0] T slices_S3x6x256x768_S1x6x256x768_1_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![1, 0, 0, 0] T slices_S3x6x256x768_S1x6x256x768_1_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![1, 0, 0, 0] T slices_S3x6x256x768_S1x6x256x768_1_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![1, 0, 0, 0] T slices_S3x6x256x768_S1x6x256x768_1_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![1, 0, 0, 0] T slices_S3x6x256x768_S1x6x256x768_1_0_0_0) shapeCasts_S1x6x256x768_S6x256x768)⟩,
    ⟨S1x6x256x768, broadcastInDim S1x6x256x768 ![1, 2, 3] bcast_S6x256x768_S1x6x256x768_1_2_3 (shapeCast _ (extractStridedSlice S1x6x256x768 ![2, 0, 0, 0] T slices_S3x6x256x768_S1x6x256x768_2_0_0_0) shapeCasts_S1x6x256x768_S6x256x768)⟩]
    concatenates_S1x6x256x768_S1x6x256x768_S1x6x256x768_S1x6x256x768_S1x6x256x768_S1x6x256x768_S1x6x256x768_S1x6x256x768_S8x6x256x768_d0

/-- The queries, the keys and the values out of the argument's columns. -/
def rq (Z : FVec Ideal S4x2048x6144 .bf16) : FVec Ideal S4x2048x768 .f32 :=
  extractStridedSlice S4x2048x768 ![0, 0, 0] (extf .f32 Z bitsLt_bf16_f32) slices_S4x2048x6144_S4x2048x768_0_0_0
@[inherit_doc rq] def rk (Z : FVec Ideal S4x2048x6144 .bf16) : FVec Ideal S4x2048x768 .f32 :=
  extractStridedSlice S4x2048x768 ![0, 0, 768] (extf .f32 Z bitsLt_bf16_f32) slices_S4x2048x6144_S4x2048x768_0_0_768
@[inherit_doc rq] def rv (Z : FVec Ideal S4x2048x6144 .bf16) : FVec Ideal S4x2048x768 .f32 :=
  extractStridedSlice S4x2048x768 ![0, 0, 1536] (extf .f32 Z bitsLt_bf16_f32) slices_S4x2048x6144_S4x2048x768_0_0_1536

/-- The reference's scores, per batch, step, head, query and key. -/
def rscore (Q : FVec Ideal S4x2048x768 .f32) (K : FVec Ideal S4x8x768x768 .f32) (B : FVec Ideal S8x6x256x768 .f32) :
    FVec Ideal S4x8x6x256x768 .f32 :=
  addf (Host.dotGeneral dot_S4x8x256x6x128_S4x8x768x6x128_S4x8x6x256x768_4_4_2_2_013_013 none
      (mulf (shapeCast _ Q shapeCasts_S4x2048x768_S4x8x256x6x128)
        (broadcastInDim S4x8x256x6x128 ![] bcast_S_S4x8x256x6x128 (constant S_ .f32 0x3DB504F3#32)))
      (shapeCast _ K shapeCasts_S4x8x768x768_S4x8x768x6x128))
    (broadcastInDim S4x8x6x256x768 ![0, 1, 2, 3, 4] bcast_S1x8x6x256x768_S4x8x6x256x768_0_1_2_3_4
      (broadcastInDim S1x8x6x256x768 ![1, 2, 3, 4] bcast_S8x6x256x768_S1x8x6x256x768_1_2_3_4 B))

/-- The largest score of each query, at least minus infinity. -/
def rtop (S : FVec Ideal S4x8x6x256x768 .f32) : FVec Ideal S4x8x6x256 .f32 :=
  maximumf (broadcastInDim S4x8x6x256 ![] bcast_S_S4x8x6x256 (constant S_ .f32 0xFF800000#32))
    (Host.reduce FloatOps.maximumf S (constant S_ .f32 0xFF800000#32) reducesTo_S4x8x6x256x768_S4x8x6x256_d4 h_S_)

/-- The exponentials of the scores less the largest. -/
def rexp (S : FVec Ideal S4x8x6x256x768 .f32) : FVec Ideal S4x8x6x256x768 .f32 :=
  Host.exp (subf S (broadcastInDim S4x8x6x256x768 ![0, 1, 2, 3, 4] bcast_S4x8x6x256x1_S4x8x6x256x768_0_1_2_3_4
    (broadcastInDim S4x8x6x256x1 ![0, 1, 2, 3] bcast_S4x8x6x256_S4x8x6x256x1_0_1_2_3 (rtop S))))

/-- The softmax's weights out of the exponentials. -/
def rweight (E : FVec Ideal S4x8x6x256x768 .f32) : FVec Ideal S4x8x6x256x768 .f32 :=
  Host.divf E (broadcastInDim S4x8x6x256x768 ![0, 1, 2, 3, 4] bcast_S4x8x6x256x1_S4x8x6x256x768_0_1_2_3_4
    (broadcastInDim S4x8x6x256x1 ![0, 1, 2, 3] bcast_S4x8x6x256_S4x8x6x256x1_0_1_2_3
      (Host.reduceAdd E (constant S_ .f32 0x00000000#32) reducesTo_S4x8x6x256x768_S4x8x6x256_d4 h_S_)))

/-- The weighted values, head dimension before the queries. -/
def rout (V : FVec Ideal S4x8x768x768 .f32) (W : FVec Ideal S4x8x6x256x768 .f32) : FVec Ideal S4x8x6x128x256 .f32 :=
  Host.dotGeneral dot_S4x8x768x6x128_S4x8x6x256x768_S4x8x6x128x256_2_4_4_3_013_012 none
    (shapeCast _ V shapeCasts_S4x8x768x768_S4x8x768x6x128) W

/-- The result's own layout. -/
def rlay (O : FVec Ideal S4x8x6x128x256 .f32) : FVec Ideal S4x2048x768 .bf16 :=
  truncf .bf16 (shapeCast _ (transpose S4x8x256x6x128 [0, 1, 4, 2, 3] O transposes_S4x8x6x128x256_S4x8x256x6x128_0_1_4_2_3)
    shapeCasts_S4x8x256x6x128_S4x2048x768) bitsLt_bf16_f32

/-- The reference's result as a function of its two arguments. -/
def ref (Z : FVec Ideal S4x2048x6144 .bf16) (T : FVec Ideal S3x6x256x768 .f32) : FVec Ideal S4x2048x768 .bf16 :=
  rlay (rout (near (rv Z)) (rweight (rexp (rscore (rq Z) (near (rk Z)) (own T)))))

theorem run_eq (m : (ℓ : Loc nD τ sig) → Buf (Elt Ideal) ℓ) (c : Dev nD) :
    Cert.NearReferenceIdeal.Value.res_main_v76 m c
      = ref (m ((c.tc : Thread nD τ).loc main_arg0)) (m ((c.tc : Thread nD τ).loc main_arg1)) := rfl

theorem near_apply (X : FVec Ideal S4x2048x768 .f32) (b : Fin 4) (s : Fin 8) (m : Fin 768) (d : Fin 768) :
    near X (ix4 b s m d) = X (ix3 b (key s.val m) d) := by
  unfold near
  concat_tiles i h
  all_goals
    obtain rfl : i = ix4 b 0 m d := funext fun a => Fin.ext (by fin_cases a <;> [exact h0; exact h1; exact h2; exact h3])
    refine Eq.trans (b := X (ix3 b ⟨start s.val + m.val, (key s.val m).isLt⟩ d)) ?_ rfl
    have h' : s.val = _ := h
    simp only [h']
    pointwise
    first
      | done
      | rfl
      | exact congrArg (fun z : Fin 2048 => X (ix3 b z d)) (Fin.ext (Nat.zero_add _).symm)

theorem own_apply (T : FVec Ideal S3x6x256x768 .f32) (s : Fin 8) (h : Fin 6) (q : Fin 256) (m : Fin 768) :
    own T (ix4 s h q m) = T (ix4 (tab s.val) h q m) := by
  unfold own
  concat_tiles i p
  all_goals
    obtain rfl : i = ix4 0 h q m := funext fun a => Fin.ext (by fin_cases a <;> [exact p0; exact p1; exact p2; exact p3])
    have h' : s.val = _ := p
    simp only [h']
    pointwise
    try rfl

theorem rq_apply (Z : FVec Ideal S4x2048x6144 .bf16) (b : Fin 4) (s : Fin 2048) (d : Fin 768) :
    rq Z (ix3 b s d) = Z (ix3 b s ⟨d.val, by have := d.isLt; omega⟩) := by
  pointwise [rq]

theorem rk_apply (Z : FVec Ideal S4x2048x6144 .bf16) (b : Fin 4) (s : Fin 2048) (d : Fin 768) :
    rk Z (ix3 b s d) = Z (ix3 b s ⟨768 + d.val, by have := d.isLt; omega⟩) := by
  pointwise [rk]

theorem rv_apply (Z : FVec Ideal S4x2048x6144 .bf16) (b : Fin 4) (s : Fin 2048) (d : Fin 768) :
    rv Z (ix3 b s d) = Z (ix3 b s ⟨1536 + d.val, by have := d.isLt; omega⟩) := by
  pointwise [rv]

theorem rscore_apply (Q : FVec Ideal S4x2048x768 .f32) (K : FVec Ideal S4x8x768x768 .f32) (B : FVec Ideal S8x6x256x768 .f32)
    (b : Fin 4) (s : Fin 8) (h : Fin 6) (q : Fin 256) (k : Fin 768) :
    rscore Q K B (ix5 b s h q k)
      = (∑ e : Fin 128, Q (ix3 b ⟨s.val * 256 + q.val, by have := s.isLt; have := q.isLt; omega⟩ ⟨h.val * 128 + e.val, by have := h.isLt; have := e.isLt; omega⟩) * scl
        * K (ix4 b s k ⟨h.val * 128 + e.val, by have := h.isLt; have := e.isLt; omega⟩)) + B (ix4 s h q k) := by
  pointwise [rscore]

theorem reduce_apply (X : FVec Ideal S4x8x6x256x768 .f32) (b : Fin 4) (s : Fin 8) (h : Fin 6) (q : Fin 256) :
    Host.reduce FloatOps.maximumf X (constant S_ .f32 0xFF800000#32) reducesTo_S4x8x6x256x768_S4x8x6x256_d4 h_S_ (ix4 b s h q)
      = Finset.univ.fold max (Ideal.ofBits .f32 0xFF800000#32) (fun k => X (ix5 b s h q k)) := by
  pointwise

theorem floor_apply (X : FVec Ideal S4x8x6x256 .f32) (b : Fin 4) (s : Fin 8) (h : Fin 6) (q : Fin 256) :
    maximumf (broadcastInDim S4x8x6x256 ![] bcast_S_S4x8x6x256 (constant S_ .f32 0xFF800000#32)) X (ix4 b s h q)
      = max (Ideal.ofBits .f32 0xFF800000#32) (X (ix4 b s h q)) := by
  pointwise

theorem rtop_apply (S : FVec Ideal S4x8x6x256x768 .f32) (b : Fin 4) (s : Fin 8) (h : Fin 6) (q : Fin 256) :
    rtop S (ix4 b s h q) = Finset.univ.fold max ⊥ (fun k => S (ix5 b s h q k)) := by
  unfold rtop
  rw [floor_apply, reduce_apply, neg_inf]
  exact max_eq_right bot_le

theorem rexp_apply (S : FVec Ideal S4x8x6x256x768 .f32) (b : Fin 4) (s : Fin 8) (h : Fin 6) (q : Fin 256) (k : Fin 768) :
    rexp S (ix5 b s h q k) = Ideal.exp (S (ix5 b s h q k) - rtop S (ix4 b s h q)) := by
  pointwise [rexp]

theorem rweight_apply (E : FVec Ideal S4x8x6x256x768 .f32) (b : Fin 4) (s : Fin 8) (h : Fin 6) (q : Fin 256) (k : Fin 768) :
    rweight E (ix5 b s h q k) = Ideal.div (E (ix5 b s h q k)) (∑ k, E (ix5 b s h q k)) := by
  pointwise [rweight]

theorem rout_apply (V : FVec Ideal S4x8x768x768 .f32) (W : FVec Ideal S4x8x6x256x768 .f32)
    (b : Fin 4) (s : Fin 8) (h : Fin 6) (e : Fin 128) (q : Fin 256) :
    rout V W (ix5 b s h e q) = ∑ k : Fin 768, V (ix4 b s k ⟨h.val * 128 + e.val, by have := h.isLt; have := e.isLt; omega⟩) * W (ix5 b s h q k) := by
  pointwise [rout]

theorem rlay_apply (O : FVec Ideal S4x8x6x128x256 .f32) (b : Fin 4) (q : Fin 2048) (col : Fin 768) :
    rlay O (ix3 b q col) = O (ix5 b ⟨q.val / 256, by have := q.isLt; omega⟩ (hd col) ⟨col.val % 128, by omega⟩ ⟨q.val % 256, by omega⟩) := by
  pointwise [rlay, hd]

/-- The reference's result at an index: the same attention, the scale moved out of the scores' sums. -/
theorem ref_apply (Z : FVec Ideal S4x2048x6144 .bf16) (T : FVec Ideal S3x6x256x768 .f32) (b : Fin 4) (q : Fin 2048) (col : Fin 768) :
    ref Z T (ix3 b q col) = whole Z T b q col := by
  unfold ref
  rw [rlay_apply, rout_apply]
  simp only [rweight_apply, rexp_apply, rtop_apply]
  have hcl := col.isLt
  have hql := q.isLt
  have hs : ∀ k : Fin 768, rscore (rq Z) (near (rk Z)) (own T) (ix5 b ⟨q.val / 256, by omega⟩ (hd col) ⟨q.val % 256, by omega⟩ k)
      = (∑ e : Fin 128, Z (ix3 b q ⟨(hcol col e).val, by have := (hcol col e).isLt; omega⟩)
      * Z (ix3 b (key (q.val / 256) k) ⟨768 + (hcol col e).val, by have := (hcol col e).isLt; omega⟩)) * scl
      + T (ix4 (tab (q.val / 256)) (hd col) ⟨q.val % 256, by omega⟩ k) := by
    intro k
    obtain ⟨c, hc, hs⟩ := scl_real
    rw [rscore_apply, own_apply, hs, sum_mul_real _ _ _ hc]
    congr 1
    refine Finset.sum_congr rfl fun e _ => ?_
    have e1 : (⟨q.val / 256 * 256 + q.val % 256, by omega⟩ : Fin 2048) = q := Fin.ext (by simp only; omega)
    rw [rq_apply, near_apply, rk_apply, e1]
    exact mul_right_comm _ _ _
  simp only [hs, near_apply, rv_apply]
  unfold whole att
  refine Finset.sum_congr rfl fun k _ => ?_
  have hc : (⟨1536 + ((hd col).val * 128 + col.val % 128), by simp only [hd]; omega⟩ : Fin 6144) = ⟨1536 + col.val, by omega⟩ :=
    Fin.ext (by simp only [hd]; omega)
  rw [hc]

end Cert.NearReferenceIdeal.Pure

end
-- ==== Proof.NearClaim.lean ====
/- The neighbourhood attention's claims. -/
module

public import proofs.«01_k».proof.Defs
public import proofs.«01_k».proof.Proof.NearValue
public import proofs.«01_k».proof.Proof.NearRef
public import proofs.«01_k».proof.Proof.Gen.Near.Frame
public import proofs.«01_k».proof.Proof.Gen.NearIdeal.Frame
public import proofs.«01_k».proof.Proof.Gen.NearIdeal.Value
public import proofs.«01_k».proof.Proof.Gen.NearReferenceIdeal.Run
public import proofs.«01_k».proof.Proof.Gen.Pre_finite_near_scores
public import Idealize.ShloMosaic.Lib.ReduceAll
public import Idealize.ShloMosaic.Lib.Quiescent
public import Idealize.ShloMosaic.Lib.Pointwise

@[expose] public section

set_option maxRecDepth 16384

noncomputable section

open Idealize.ShloMosaic Idealize.ShloMosaic.TcCoe Idealize.SL.Sem Cert.Softmax

namespace Cert.Pre_finite_near_scores

open Cert.Pre_finite_near_scores.Gen

/-- The precondition, read: the queries, the keys and the tables are real numbers. -/
theorem finite (Z : FVec Ideal S4x2048x6144 .bf16) (T : FVec Ideal S3x6x256x768 .f32) (h : fn (F := Ideal) Z T = fun _ => 1#1) :
    (∀ (b : Fin 4) (s : Fin 2048) (d : Fin 1536), Fin' (Z (ix3 b s ⟨d.val, by have := d.isLt; omega⟩)))
    ∧ ∀ i, Fin' (T i) := by
  have h0 := congrFun h (Shape.Idx.first h_S_)
  obtain ⟨h1, h2⟩ := IntOp.andi_eq_one.1 h0
  haveI : Subsingleton S_.Idx := ⟨fun a b => funext fun i => i.elim0⟩
  have top : Ideal.ofBits .f32 0x7F800000#32 = (⊤ : EReal) := by simp [Ideal.ofBits, Ideal.ieee]
  constructor
  · intro b s d
    have e := Host.reduce_andi_all _ _ _ _ _ h1 (ix3 b s d)
    refine Fin'.of_abs_lt ?_
    have e' : Ideal.cmp .olt (max (Z (ix3 b s ⟨d.val, by have := d.isLt; omega⟩)) (-(Z (ix3 b s ⟨d.val, by have := d.isLt; omega⟩)))) (Ideal.ofBits .f32 0x7F800000#32) = 1#1 := by
      refine Eq.trans ?_ e
      pointwise
      rfl
    rw [top] at e'
    by_contra hn
    simp [Ideal.cmp, hn] at e'
  · intro i
    obtain ⟨a, b, c, d, rfl⟩ : ∃ (a : Fin 3) (b : Fin 6) (c : Fin 256) (d : Fin 768), i = ix4 a b c d := ⟨i 0, i 1, i 2, i 3, eq_ix4 i⟩
    have e := Host.reduce_andi_all _ _ _ _ _ h2 (ix4 a b c d)
    refine Fin'.of_abs_lt ?_
    have e' : Ideal.cmp .olt (max (T (ix4 a b c d)) (-(T (ix4 a b c d)))) (Ideal.ofBits .f32 0x7F800000#32) = 1#1 := by
      refine Eq.trans ?_ e
      pointwise
      rfl
    rw [top] at e'
    by_contra hn
    simp [Ideal.cmp, hn] at e'

end Cert.Pre_finite_near_scores

namespace Cert.Proof.Near

theorem frame : Cert.quiescent_Near := fun m ρ _ => Cert.Near.Gen.frame m ρ
theorem frameI : Cert.quiescent_NearIdeal := fun m ρ _ => Cert.NearIdeal.Gen.frame m ρ
theorem frameIP : Cert.quiescent_NearIdeal_pre_finite_near_scores := fun m ρ _ => Cert.NearIdeal.Gen.frame m ρ
theorem frameR : Cert.quiescent_NearReferenceIdeal := fun m ρ _ =>
  (θ_run Cert.NearReferenceIdeal.defs _ _).mono (fun r h => ⟨fun c => (h c).2, sem_eq_zero_of_no_sems (by decide) r.2⟩)
    (Cert.NearReferenceIdeal.Value.run (F := Ideal) m ρ)
theorem frameRP : Cert.quiescent_NearReferenceIdeal_pre_finite_near_scores := fun m ρ _ =>
  (θ_run Cert.NearReferenceIdeal.defs _ _).mono (fun r h => ⟨fun c => (h c).2, sem_eq_zero_of_no_sems (by decide) r.2⟩)
    (Cert.NearReferenceIdeal.Value.run (F := Ideal) m ρ)

theorem algebraic : Cert.algebraic_NearIdeal_NearReferenceIdeal_pre_finite_near_scores := by
  intro m ρ m' ρ' hpre hag
  refine ⟨fun c => fun i : Cert.NearIdeal.S4x2048x768.Idx =>
    Cert.NearIdeal.Pure.whole (m ((c.tc : Thread Cert.NearIdeal.nD Cert.NearIdeal.τ).loc Cert.NearIdeal.main_arg0))
      (m ((c.tc : Thread Cert.NearIdeal.nD Cert.NearIdeal.τ).loc Cert.NearIdeal.main_arg1)) (i 0) (i 1) (i 2), ?_, ?_⟩
  · refine (θ_run Cert.NearIdeal.defs _ _).mono (fun _ h c => ⟨(h c).1.trans ?_, (h c).2⟩) (Cert.NearIdeal.Value.run_blocks (F := Ideal) m ρ)
    have hf := Cert.Pre_finite_near_scores.finite _ _ (hpre c)
    exact Cert.NearIdeal.Pure.final m c hf.1 hf.2
  · refine (θ_run Cert.NearReferenceIdeal.defs _ _).mono (fun _ h c => ⟨(h c).1.trans ?_, (h c).2⟩) (Cert.NearReferenceIdeal.Value.run (F := Ideal) m' ρ')
    rw [Cert.NearReferenceIdeal.Pure.run_eq, (hag c).1, (hag c).2]
    funext i
    obtain ⟨b, s, col, rfl⟩ : ∃ (b : Fin 4) (s : Fin 2048) (col : Fin 768), i = ix3 b s col := ⟨i 0, i 1, i 2, eq_ix3 i⟩
    exact Cert.NearReferenceIdeal.Pure.ref_apply _ _ b s col

end Cert.Proof.Near

end
-- ==== Proof.FourierPure.lean ====
/- The Fourier mixing's payloads, read at an index: the fold and the twiddled difference of the channel transform's two halves, and the two position transforms. -/
module

public import proofs.«01_k».proof.Proof.Gen.FourierIdeal.Skeleton
public import proofs.«01_k».proof.Proof.Softmax
public import Idealize.ShloMosaic.Lib.Pointwise

@[expose] public section

set_option maxRecDepth 16384

noncomputable section

namespace Cert.FourierIdeal.Pure

open Idealize.ShloMosaic Idealize.ShloMosaic.TcCoe Cert.FourierIdeal Cert.FourierIdeal.Gen

/-- Row `k` of the upper half of a group's transformed channels. -/
def top (u : Fin 2048 → Fin 128 → EReal) (C : Fin 128 → Fin 256 → EReal) (k : Fin 1024) (e : Fin 256) : EReal :=
  ∑ c : Fin 128, u ⟨k.val, by have := k.isLt; omega⟩ c * C c e

/-- Row `k` of the lower half. -/
def bot (u : Fin 2048 → Fin 128 → EReal) (C : Fin 128 → Fin 256 → EReal) (k : Fin 1024) (e : Fin 256) : EReal :=
  ∑ c : Fin 128, u ⟨1024 + k.val, by have := k.isLt; omega⟩ c * C c e

/-- The column of the cosines' half of the channel table. -/
def cc (d : Fin 128) : Fin 256 := ⟨d.val, by have := d.isLt; omega⟩

/-- The column of the sines' half of the channel table. -/
def sc (d : Fin 128) : Fin 256 := ⟨128 + d.val, by have := d.isLt; omega⟩

/-- The folded halves. -/
def fold (u : Fin 2048 → Fin 128 → EReal) (C : Fin 128 → Fin 256 → EReal) (k : Fin 1024) (e : Fin 256) : EReal := top u C k e + bot u C k e

/-- The halves' difference. -/
def diff (u : Fin 2048 → Fin 128 → EReal) (C : Fin 128 → Fin 256 → EReal) (k : Fin 1024) (e : Fin 256) : EReal := top u C k e - bot u C k e

/-- A group's columns of the first scratch: the folded cosines over the folded sines. -/
def evenCol (u : Fin 2048 → Fin 128 → EReal) (C : Fin 128 → Fin 256 → EReal) (k : Fin 2048) (d : Fin 128) : EReal :=
  if h : k.val < 1024 then fold u C ⟨k.val, h⟩ (cc d) else fold u C ⟨k.val - 1024, by have := k.isLt; omega⟩ (sc d)

/-- A group's columns of the second scratch: the difference turned by the twiddles. -/
def oddCol (u : Fin 2048 → Fin 128 → EReal) (C : Fin 128 → Fin 256 → EReal) (x y : Fin 1024 → Fin 128 → EReal) (k : Fin 2048) (d : Fin 128) : EReal :=
  if h : k.val < 1024 then x ⟨k.val, h⟩ d * diff u C ⟨k.val, h⟩ (cc d) - y ⟨k.val, h⟩ d * diff u C ⟨k.val, h⟩ (sc d)
  else y ⟨k.val - 1024, by have := k.isLt; omega⟩ d * diff u C ⟨k.val - 1024, by have := k.isLt; omega⟩ (cc d)
    + x ⟨k.val - 1024, by have := k.isLt; omega⟩ d * diff u C ⟨k.val - 1024, by have := k.isLt; omega⟩ (sc d)

/-- The scale. -/
def nrm : EReal := Ideal.ofBits .f32 0x3B000000#32

variable (U : FVec Ideal S1x2048x128 .bf16) (C : FVec Ideal S128x256 .bf16) (X Y : FVec Ideal S1024x128 .f32)

theorem pay7 (k : Fin 1024) (e : Fin 256) : k0_pay7 (F := Ideal) U C (ix2 k e) = top (fun n c => U (ix3 0 n c)) (fun c e => C (ix2 c e)) k e := by
  unfold top
  pointwise [k0_pay7, k0_pay6]

theorem pay8 (k : Fin 1024) (e : Fin 256) : k0_pay8 (F := Ideal) U C (ix2 k e) = bot (fun n c => U (ix3 0 n c)) (fun c e => C (ix2 c e)) k e := by
  unfold bot
  pointwise [k0_pay8, k0_pay6]

theorem pay9 (k : Fin 1024) (e : Fin 256) : k0_pay9 (F := Ideal) U C (ix2 k e) = fold (fun n c => U (ix3 0 n c)) (fun c e => C (ix2 c e)) k e := by
  unfold fold
  rw [← pay7, ← pay8]
  pointwise [k0_pay9]

theorem pay10 (k : Fin 1024) (e : Fin 256) : k0_pay10 (F := Ideal) U C (ix2 k e) = diff (fun n c => U (ix3 0 n c)) (fun c e => C (ix2 c e)) k e := by
  unfold diff
  rw [← pay7, ← pay8]
  pointwise [k0_pay10]

theorem pay13 (k : Fin 1024) (d : Fin 128) : k0_pay13 (F := Ideal) U C (ix2 k d) = fold (fun n c => U (ix3 0 n c)) (fun c e => C (ix2 c e)) k (cc d) := by
  rw [← pay9]
  unfold cc
  pointwise [k0_pay13]

theorem pay14 (k : Fin 1024) (d : Fin 128) : k0_pay14 (F := Ideal) U C (ix2 k d) = fold (fun n c => U (ix3 0 n c)) (fun c e => C (ix2 c e)) k (sc d) := by
  rw [← pay9]
  unfold sc
  pointwise [k0_pay14]

theorem pay15 (k : Fin 1024) (d : Fin 128) : k0_pay15 (F := Ideal) X Y U C (ix2 k d)
    = X (ix2 k d) * diff (fun n c => U (ix3 0 n c)) (fun c e => C (ix2 c e)) k (cc d) - Y (ix2 k d) * diff (fun n c => U (ix3 0 n c)) (fun c e => C (ix2 c e)) k (sc d) := by
  rw [← pay10, ← pay10]
  unfold sc cc
  pointwise [k0_pay15, k0_pay11, k0_pay12, k0_pay4, k0_pay5]

theorem pay16 (k : Fin 1024) (d : Fin 128) : k0_pay16 (F := Ideal) X Y U C (ix2 k d)
    = Y (ix2 k d) * diff (fun n c => U (ix3 0 n c)) (fun c e => C (ix2 c e)) k (cc d) + X (ix2 k d) * diff (fun n c => U (ix3 0 n c)) (fun c e => C (ix2 c e)) k (sc d) := by
  rw [← pay10, ← pay10]
  unfold sc cc
  pointwise [k0_pay16, k0_pay11, k0_pay12, k0_pay4, k0_pay5]

/-- The other groups' payloads are the first group's. -/
theorem pay24 : k0_pay24 (F := Ideal) U C = k0_pay13 (F := Ideal) U C := rfl
theorem pay25 : k0_pay25 (F := Ideal) U C = k0_pay14 (F := Ideal) U C := rfl
theorem pay26 : k0_pay26 (F := Ideal) (k0_pay4 (F := Ideal) X) (k0_pay5 (F := Ideal) Y) U C = k0_pay15 (F := Ideal) X Y U C := rfl
theorem pay27 : k0_pay27 (F := Ideal) (k0_pay4 (F := Ideal) X) (k0_pay5 (F := Ideal) Y) U C = k0_pay16 (F := Ideal) X Y U C := rfl
theorem pay36 : k0_pay36 (F := Ideal) (k0_pay28 (F := Ideal) U) C = k0_pay13 (F := Ideal) U C := rfl
theorem pay37 : k0_pay37 (F := Ideal) (k0_pay28 (F := Ideal) U) C = k0_pay14 (F := Ideal) U C := rfl
theorem pay38 : k0_pay38 (F := Ideal) (k0_pay4 (F := Ideal) X) (k0_pay5 (F := Ideal) Y) (k0_pay28 (F := Ideal) U) C = k0_pay15 (F := Ideal) X Y U C := rfl
theorem pay39 : k0_pay39 (F := Ideal) (k0_pay4 (F := Ideal) X) (k0_pay5 (F := Ideal) Y) (k0_pay28 (F := Ideal) U) C = k0_pay16 (F := Ideal) X Y U C := rfl
theorem pay47 : k0_pay47 (F := Ideal) (k0_pay43 (F := Ideal) U C) = k0_pay13 (F := Ideal) U C := rfl
theorem pay48 : k0_pay48 (F := Ideal) (k0_pay43 (F := Ideal) U C) = k0_pay14 (F := Ideal) U C := rfl
theorem pay49 : k0_pay49 (F := Ideal) (k0_pay4 (F := Ideal) X) (k0_pay5 (F := Ideal) Y) (k0_pay45 (F := Ideal) U C) (k0_pay46 (F := Ideal) U C) = k0_pay15 (F := Ideal) X Y U C := rfl
theorem pay50 : k0_pay50 (F := Ideal) (k0_pay4 (F := Ideal) X) (k0_pay5 (F := Ideal) Y) (k0_pay45 (F := Ideal) U C) (k0_pay46 (F := Ideal) U C) = k0_pay16 (F := Ideal) X Y U C := rfl
theorem pay58 : k0_pay58 (F := Ideal) U C = k0_pay13 (F := Ideal) U C := rfl
theorem pay59 : k0_pay59 (F := Ideal) (k0_pay54 (F := Ideal) U C) = k0_pay14 (F := Ideal) U C := rfl
theorem pay60 : k0_pay60 (F := Ideal) (k0_pay4 (F := Ideal) X) (k0_pay5 (F := Ideal) Y) (k0_pay56 (F := Ideal) U C) (k0_pay57 (F := Ideal) U C) = k0_pay15 (F := Ideal) X Y U C := rfl
theorem pay61 : k0_pay61 (F := Ideal) (k0_pay4 (F := Ideal) X) (k0_pay5 (F := Ideal) Y) (k0_pay56 (F := Ideal) U C) (k0_pay57 (F := Ideal) U C) = k0_pay16 (F := Ideal) X Y U C := rfl
theorem pay69 : k0_pay69 (F := Ideal) U C = k0_pay13 (F := Ideal) U C := rfl
theorem pay70 : k0_pay70 (F := Ideal) U C = k0_pay14 (F := Ideal) U C := rfl
theorem pay71 : k0_pay71 (F := Ideal) (k0_pay4 (F := Ideal) X) (k0_pay5 (F := Ideal) Y) (k0_pay67 (F := Ideal) U C) (k0_pay68 (F := Ideal) U C) = k0_pay15 (F := Ideal) X Y U C := rfl
theorem pay72 : k0_pay72 (F := Ideal) (k0_pay4 (F := Ideal) X) (k0_pay5 (F := Ideal) Y) (k0_pay67 (F := Ideal) U C) (k0_pay68 (F := Ideal) U C) = k0_pay16 (F := Ideal) X Y U C := rfl

variable (P : FVec Ideal S512x2048 .bf16) (W : FVec Ideal S2048x768 .bf16)

/-- A position transform. -/
theorem pay73 (p : Fin 512) (col : Fin 768) : k0_pay73 (F := Ideal) P W (ix2 p col) = (∑ k : Fin 2048, P (ix2 p k) * W (ix2 k col)) * nrm := by
  unfold nrm
  pointwise [k0_pay73]

theorem pay74 : k0_pay74 (F := Ideal) P W = k0_pay73 (F := Ideal) P W := rfl

end Cert.FourierIdeal.Pure

end
-- ==== Proof.FourierValue.lean ====
/- The Fourier mixing's result array after the run: one whole-array function of the five arguments. -/
module

public import proofs.«01_k».proof.Proof.FourierPure
public import proofs.«01_k».proof.Proof.Gen.FourierIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FourierIdeal.Pure

open Cert.FourierIdeal Cert.FourierIdeal.Gen Cert.Softmax

variable (m : (ℓ : Loc nD τ sig) → Buf (Elt Ideal) ℓ)

theorem idx : ∀ t : Fin cfg0.N, win0_0.index t = ![t.val / 2, 0, 6] ∧ win0_1.index t = ![0, 0]
    ∧ win0_2.index t = ![0, 0] ∧ win0_3.index t = ![0, 0] ∧ win0_4.index t = ![t.val % 2, 0]
    ∧ win0_5.index t = ![t.val / 2, t.val % 2, 0] ∧ t.val < 8 :=
  (by decide +kernel : ∀ t : Fin grid0.N, _)

/-- The column `128 * (col / 128) + e`: lane `e` of the group that column `col` belongs to. -/
def gcol (col : Fin 768) (e : Fin 128) : Fin 768 := ⟨col.val / 128 * 128 + e.val, by have := col.isLt; have := e.isLt; omega⟩

/-- A column's lane in its group. -/
def lane (col : Fin 768) : Fin 128 := ⟨col.val % 128, by omega⟩

/-- The first scratch of a block. -/
def evenBlk (Z : Fin 2048 → Fin 768 → EReal) (C : Fin 128 → Fin 256 → EReal) (k : Fin 2048) (col : Fin 768) : EReal :=
  evenCol (fun n e => Z n (gcol col e)) C k (lane col)

/-- The second scratch of a block. -/
def oddBlk (Z : Fin 2048 → Fin 768 → EReal) (C : Fin 128 → Fin 256 → EReal) (x y : Fin 1024 → Fin 128 → EReal) (k : Fin 2048) (col : Fin 768) : EReal :=
  oddCol (fun n e => Z n (gcol col e)) C x y k (lane col)

/-- Two row-interleaved arrays: row `2 p` is the first's row `p`, row `2 p + 1` the second's. -/
def mix (A B : Fin 512 → Fin 768 → EReal) (r : Fin 1024) (col : Fin 768) : EReal :=
  if r.val % 2 = 0 then A ⟨r.val / 2, by have := r.isLt; omega⟩ col else B ⟨r.val / 2, by have := r.isLt; omega⟩ col

/-- The channels a group's load takes. -/
theorem grp (X0 : FVec Ideal S1x2048x768 .bf16) (W : ℕ) (hW : W % 128 = 0) (inb) (col : Fin 768) (d : Fin 128) (hc : col.val = W + d.val) :
    (fun n e => (View.ld (Val := Elt Ideal) (e' := .bf16) X0 (Rect.unit (s := S1x2048x768) ![0, 0, W] S1x2048x128.size inb) : FVec Ideal S1x2048x128 .bf16) (ix3 0 n e))
      = fun n e => X0 (ix3 0 n (gcol col e)) := by
  funext n e
  have hd := d.isLt
  have h : (View.ld (Val := Elt Ideal) (e' := .bf16) X0 (Rect.unit (s := S1x2048x768) ![0, 0, W] S1x2048x128.size inb) : FVec Ideal S1x2048x128 .bf16) (ix3 0 n e)
      = X0 (ix3 0 n ⟨W + e.val, by have := e.isLt; have := col.isLt; omega⟩) :=
    View.ld_unit_apply_of _ _ _ _ _ _ fun a => by fin_cases a <;> simp [ix3]
  refine h.trans ?_
  exact congrArg (fun z : Fin 768 => X0 (ix3 0 n z)) (Fin.ext (by simp only [gcol]; omega))

theorem lane_eq (W : ℕ) (hW : W % 128 = 0) (col : Fin 768) (d : Fin 128) (hc : col.val = W + d.val) : lane col = d :=
  Fin.ext (by have := d.isLt; simp only [lane]; omega)

section
variable (X0 : FVec Ideal S1x2048x768 .bf16) (X1 : FVec Ideal S128x256 .bf16) (X2 X3 : FVec Ideal S1024x128 .f32)
  (W : ℕ) (hW : W % 128 = 0) (inb : ∀ a, (![0, 0, W] : Fin 3 → ℕ) a + S1x2048x128.size a ≤ S1x2048x768.size a) (x : S1024x128.Idx) (k : Fin 2048) (col : Fin 768)

include hW
theorem even_lo (hk : k.val = (x 0).val) (hc : col.val = W + (x 1).val) :
    k0_pay13 (F := Ideal) (View.ld (Val := Elt Ideal) (e' := .bf16) X0 (Rect.unit (s := S1x2048x768) ![0, 0, W] S1x2048x128.size inb)) X1 x
      = evenBlk (fun n e => X0 (ix3 0 n e)) (fun c e => X1 (ix2 c e)) k col := by
  obtain ⟨r, d, rfl⟩ : ∃ (r : Fin 1024) (d : Fin 128), x = ix2 r d := ⟨x 0, x 1, eq_ix2 x⟩
  have hr := r.isLt
  have hk' : k.val = r.val := hk
  rw [pay13, grp X0 W hW inb col d hc]
  unfold evenBlk evenCol
  rw [dif_pos (by omega), lane_eq W hW col d hc]
  exact congrArg (fun z => fold _ _ z _) (Fin.ext hk'.symm)

theorem even_hi (hk : k.val = 1024 + (x 0).val) (hc : col.val = W + (x 1).val) :
    k0_pay14 (F := Ideal) (View.ld (Val := Elt Ideal) (e' := .bf16) X0 (Rect.unit (s := S1x2048x768) ![0, 0, W] S1x2048x128.size inb)) X1 x
      = evenBlk (fun n e => X0 (ix3 0 n e)) (fun c e => X1 (ix2 c e)) k col := by
  obtain ⟨r, d, rfl⟩ : ∃ (r : Fin 1024) (d : Fin 128), x = ix2 r d := ⟨x 0, x 1, eq_ix2 x⟩
  have hr := r.isLt
  have hk' : k.val = 1024 + r.val := hk
  rw [pay14, grp X0 W hW inb col d hc]
  unfold evenBlk evenCol
  rw [dif_neg (by omega), lane_eq W hW col d hc]
  exact congrArg (fun z => fold _ _ z _) (Fin.ext (by simp only; omega))

theorem odd_lo (hk : k.val = (x 0).val) (hc : col.val = W + (x 1).val) :
    k0_pay15 (F := Ideal) X2 X3 (View.ld (Val := Elt Ideal) (e' := .bf16) X0 (Rect.unit (s := S1x2048x768) ![0, 0, W] S1x2048x128.size inb)) X1 x
      = oddBlk (fun n e => X0 (ix3 0 n e)) (fun c e => X1 (ix2 c e)) (fun k d => X2 (ix2 k d)) (fun k d => X3 (ix2 k d)) k col := by
  obtain ⟨r, d, rfl⟩ : ∃ (r : Fin 1024) (d : Fin 128), x = ix2 r d := ⟨x 0, x 1, eq_ix2 x⟩
  have hr := r.isLt
  have hk' : k.val = r.val := hk
  rw [pay15, grp X0 W hW inb col d hc]
  unfold oddBlk oddCol
  have e : (⟨k.val, by omega⟩ : Fin 1024) = r := Fin.ext hk'
  rw [dif_pos (by omega), lane_eq W hW col d hc, e]

theorem odd_hi (hk : k.val = 1024 + (x 0).val) (hc : col.val = W + (x 1).val) :
    k0_pay16 (F := Ideal) X2 X3 (View.ld (Val := Elt Ideal) (e' := .bf16) X0 (Rect.unit (s := S1x2048x768) ![0, 0, W] S1x2048x128.size inb)) X1 x
      = oddBlk (fun n e => X0 (ix3 0 n e)) (fun c e => X1 (ix2 c e)) (fun k d => X2 (ix2 k d)) (fun k d => X3 (ix2 k d)) k col := by
  obtain ⟨r, d, rfl⟩ : ∃ (r : Fin 1024) (d : Fin 128), x = ix2 r d := ⟨x 0, x 1, eq_ix2 x⟩
  have hr := r.isLt
  have hk' : k.val = 1024 + r.val := hk
  rw [pay16, grp X0 W hW inb col d hc]
  unfold oddBlk oddCol
  have e : (⟨k.val - 1024, by omega⟩ : Fin 1024) = r := Fin.ext (by simp only; omega)
  rw [dif_neg (by omega), lane_eq W hW col d hc, e]

end

/-- What the first scratch holds after an even point. -/
theorem even_A (c : Dev nD) (t : Fin cfg0.N) (hn : t.val % 2 = 0) (k : Fin 2048) (col : Fin 768) :
    ((outsAt0 m c t.val t.isLt).2.1 : FVec Ideal S2048x768 .bf16) (ix2 k col)
      = evenBlk (fun n e => (iblk m c 0 t : FVec Ideal S1x2048x768 .bf16) (ix3 0 n e)) (fun c' e => (iblk m c 1 t : FVec Ideal S128x256 .bf16) (ix2 c' e)) k col := by
  rw [outsAt0_A m c t hn]; frame_out
  canon_tiles x p
  · exact (congrFun (pay70 _ _) x).trans (even_hi _ _ 640 rfl _ x k col p0 p1)
  · exact (congrFun (pay69 _ _) x).trans (even_lo _ _ 640 rfl _ x k col p0 p1)
  · exact (congrFun (pay59 _ _) x).trans (even_hi _ _ 512 rfl _ x k col p0 p1)
  · exact (congrFun (pay58 _ _) x).trans (even_lo _ _ 512 rfl _ x k col p0 p1)
  · exact (congrFun (pay48 _ _) x).trans (even_hi _ _ 384 rfl _ x k col p0 p1)
  · exact (congrFun (pay47 _ _) x).trans (even_lo _ _ 384 rfl _ x k col p0 p1)
  · exact (congrFun (pay37 _ _) x).trans (even_hi _ _ 256 rfl _ x k col p0 p1)
  · exact (congrFun (pay36 _ _) x).trans (even_lo _ _ 256 rfl _ x k col p0 p1)
  · exact (congrFun (pay25 _ _) x).trans (even_hi _ _ 128 rfl _ x k col p0 p1)
  · exact (congrFun (pay24 _ _) x).trans (even_lo _ _ 128 rfl _ x k col p0 p1)
  · exact (even_hi _ _ 0 rfl _ x k col p0 (p1.trans (Nat.zero_add _).symm))
  · exact (even_lo _ _ 0 rfl _ x k col p0 (p1.trans (Nat.zero_add _).symm))
/-- What the second scratch holds after an even point. -/
theorem odd_A (c : Dev nD) (t : Fin cfg0.N) (hn : t.val % 2 = 0) (k : Fin 2048) (col : Fin 768) :
    ((outsAt0 m c t.val t.isLt).2.2 : FVec Ideal S2048x768 .bf16) (ix2 k col)
      = oddBlk (fun n e => (iblk m c 0 t : FVec Ideal S1x2048x768 .bf16) (ix3 0 n e)) (fun c' e => (iblk m c 1 t : FVec Ideal S128x256 .bf16) (ix2 c' e))
        (fun k d => (iblk m c 2 t : FVec Ideal S1024x128 .f32) (ix2 k d)) (fun k d => (iblk m c 3 t : FVec Ideal S1024x128 .f32) (ix2 k d)) k col := by
  rw [outsAt0_A m c t hn]; frame_out
  canon_tiles x p
  · exact (congrFun (pay72 _ _ _ _) x).trans (odd_hi _ _ _ _ 640 rfl _ x k col p0 p1)
  · exact (congrFun (pay71 _ _ _ _) x).trans (odd_lo _ _ _ _ 640 rfl _ x k col p0 p1)
  · exact (congrFun (pay61 _ _ _ _) x).trans (odd_hi _ _ _ _ 512 rfl _ x k col p0 p1)
  · exact (congrFun (pay60 _ _ _ _) x).trans (odd_lo _ _ _ _ 512 rfl _ x k col p0 p1)
  · exact (congrFun (pay50 _ _ _ _) x).trans (odd_hi _ _ _ _ 384 rfl _ x k col p0 p1)
  · exact (congrFun (pay49 _ _ _ _) x).trans (odd_lo _ _ _ _ 384 rfl _ x k col p0 p1)
  · exact (congrFun (pay39 _ _ _ _) x).trans (odd_hi _ _ _ _ 256 rfl _ x k col p0 p1)
  · exact (congrFun (pay38 _ _ _ _) x).trans (odd_lo _ _ _ _ 256 rfl _ x k col p0 p1)
  · exact (congrFun (pay27 _ _ _ _) x).trans (odd_hi _ _ _ _ 128 rfl _ x k col p0 p1)
  · exact (congrFun (pay26 _ _ _ _) x).trans (odd_lo _ _ _ _ 128 rfl _ x k col p0 p1)
  · exact (odd_hi _ _ _ _ 0 rfl _ x k col p0 (p1.trans (Nat.zero_add _).symm))
  · exact (odd_lo _ _ _ _ 0 rfl _ x k col p0 (p1.trans (Nat.zero_add _).symm))

/-- Two strided stores read back: the rows alternate. -/
theorem pair (h : ℕ) (inb1 inb0 sp1 sp0 inb) (L : List (View.Piece (Elt Ideal) S6x1024x128 .f32)) (a1 a0 : FVec Ideal S1x512x128 .f32) (r : Fin 1024) (d : Fin 128) :
    ((View.whole cc0_scratch2).readCov (⟨({off := ![h, 1, 0], size := ![1, 512, 128], stride := ![1, 2, 1], inb := inb1, stride_pos := sp1} : Rect S6x1024x128), a1⟩
      :: ⟨({off := ![h, 0, 0], size := ![1, 512, 128], stride := ![1, 2, 1], inb := inb0, stride_pos := sp0} : Rect S6x1024x128), a0⟩ :: L)
      (Rect.unit (s := S6x1024x128) ![h, 0, 0] ![1, 1024, 128] inb).toLoadRect : FVec Ideal S1x1024x128 .f32) (ix3 0 r d)
      = if r.val % 2 = 0 then a0 (ix3 0 ⟨r.val / 2, by have := r.isLt; omega⟩ d) else a1 (ix3 0 ⟨r.val / 2, by have := r.isLt; omega⟩ d) := by
  rw [View.readCov_eq_canon']
  have hr := r.isLt
  beta_reduce
  by_cases hp : r.val % 2 = 0
  · rw [if_pos hp]
    have e : (Rect.unit (s := S6x1024x128) ![h, 0, 0] ![1, 1024, 128] inb).toLoadRect.idx (ix3 0 r d)
        = ({off := ![h, 0, 0], size := ![1, 512, 128], stride := ![1, 2, 1], inb := inb0, stride_pos := sp0} : Rect S6x1024x128).emb (ix3 0 ⟨r.val / 2, by omega⟩ d) := by
      funext a
      apply Fin.ext
      fin_cases a
      · show h + 1 * 0 = h + 1 * 0; rfl
      · show 0 + 1 * r.val = 0 + 2 * (r.val / 2); omega
      · show 0 + 1 * d.val = 0 + 1 * d.val; rfl
    rw [View.canon_cons_of_not_mem]
    · rw [e, View.canon_cons_emb]
    · intro hm
      obtain ⟨y, hy⟩ := LoadRect.exists_idx_of_mem _ hm
      have h1 := congrArg (fun i : S6x1024x128.Idx => (i 1).val) hy
      have h2 : 1 + 2 * (y 1).val = 0 + 1 * r.val := h1
      omega
  · rw [if_neg hp]
    have e : (Rect.unit (s := S6x1024x128) ![h, 0, 0] ![1, 1024, 128] inb).toLoadRect.idx (ix3 0 r d)
        = ({off := ![h, 1, 0], size := ![1, 512, 128], stride := ![1, 2, 1], inb := inb1, stride_pos := sp1} : Rect S6x1024x128).emb (ix3 0 ⟨r.val / 2, by omega⟩ d) := by
      funext a
      apply Fin.ext
      fin_cases a
      · show h + 1 * 0 = h + 1 * 0; rfl
      · show 0 + 1 * r.val = 1 + 2 * (r.val / 2); omega
      · show 0 + 1 * d.val = 0 + 1 * d.val; rfl
    rw [e, View.canon_cons_emb]

theorem pay3 (X : FVec Ideal S1x1024x128 .f32) (r : Fin 1024) (d : Fin 128) : k0_pay3 (F := Ideal) X (ix3 0 r d) = X (ix3 0 r d) := by
  pointwise [k0_pay3]

/-- A whole load of a scratch the point itself has filled. -/
theorem read_scr0 (L : List (View.Piece (Elt Ideal) S2048x768 .bf16)) (inb) :
    (View.whole cc0_scratch0).readCov L (Rect.unit (s := S2048x768) ![0, 0] ![2048, 768] inb).toLoadRect = View.canon L := by
  rw [View.readCov_eq_canon']
  funext j
  refine congrArg (View.canon L) (funext fun a => Fin.ext ?_)
  fin_cases a
  · show 0 + 1 * (j 0).val = (j 0).val; omega
  · show 0 + 1 * (j 1).val = (j 1).val; omega

@[inherit_doc read_scr0] theorem read_scr1 (L : List (View.Piece (Elt Ideal) S2048x768 .bf16)) (inb) :
    (View.whole cc0_scratch1).readCov L (Rect.unit (s := S2048x768) ![0, 0] ![2048, 768] inb).toLoadRect = View.canon L := by
  rw [View.readCov_eq_canon']
  funext j
  refine congrArg (View.canon L) (funext fun a => Fin.ext ?_)
  fin_cases a
  · show 0 + 1 * (j 0).val = (j 0).val; omega
  · show 0 + 1 * (j 1).val = (j 1).val; omega

/-- A group of the output block. -/
theorem out_grp (h W : ℕ) (inb1 inb0 sp1 sp0 inb) (L : List (View.Piece (Elt Ideal) S6x1024x128 .f32)) (a1 a0 : FVec Ideal S1x512x128 .f32) (A0 A1 : FVec Ideal S512x768 .f32)
    (h0 : ∀ (p : Fin 512) (d : Fin 128) (col : Fin 768), col.val = W + d.val → a0 (ix3 0 p d) = A0 (ix2 p col))
    (h1 : ∀ (p : Fin 512) (d : Fin 128) (col : Fin 768), col.val = W + d.val → a1 (ix3 0 p d) = A1 (ix2 p col))
    (x : S1x1024x128.Idx) (r : Fin 1024) (col : Fin 768) (hr : r.val = (x 1).val) (hc : col.val = W + (x 2).val) :
    k0_pay3 (F := Ideal) ((View.whole cc0_scratch2).readCov (⟨({off := ![h, 1, 0], size := ![1, 512, 128], stride := ![1, 2, 1], inb := inb1, stride_pos := sp1} : Rect S6x1024x128), a1⟩
      :: ⟨({off := ![h, 0, 0], size := ![1, 512, 128], stride := ![1, 2, 1], inb := inb0, stride_pos := sp0} : Rect S6x1024x128), a0⟩ :: L)
      (Rect.unit (s := S6x1024x128) ![h, 0, 0] ![1, 1024, 128] inb).toLoadRect) x
      = mix (fun p col => A0 (ix2 p col)) (fun p col => A1 (ix2 p col)) r col := by
  obtain ⟨z, r', d, rfl⟩ : ∃ (z : Fin 1) (r : Fin 1024) (d : Fin 128), x = ix3 z r d := ⟨x 0, x 1, x 2, eq_ix3 x⟩
  obtain rfl : z = 0 := Subsingleton.elim _ _
  obtain rfl : r = r' := Fin.ext hr
  rw [pay3]
  refine (pair h inb1 inb0 sp1 sp0 inb L a1 a0 r d).trans ?_
  unfold mix
  rw [h0 _ d col hc, h1 _ d col hc]

/-- A block of 128 columns, with a leading axis. -/
theorem cut (W : ℕ) (hs : S512x768.Slices ![0, W] S512x128) (A : FVec Ideal S512x768 .f32) (p : Fin 512) (d : Fin 128) (col : Fin 768) (hc : col.val = W + d.val) :
    (shapeCast S1x512x128 (extractStridedSlice S512x128 ![0, W] A hs) shapeCasts_S512x128_S1x512x128 : FVec Ideal S1x512x128 .f32) (ix3 0 p d) = A (ix2 p col) := by
  refine Eq.trans (b := (extractStridedSlice S512x128 ![0, W] A hs : FVec Ideal S512x128 .f32) (ix2 p d)) (by pointwise) ?_
  refine congrArg A ?_
  funext a
  apply Fin.ext
  fin_cases a
  · exact Nat.zero_add _
  · exact hc.symm

section
variable (P : FVec Ideal S512x2048 .bf16) (V : FVec Ideal S2048x768 .bf16) (p : Fin 512) (d : Fin 128) (col : Fin 768)

theorem cut_e0 (hc : col.val = 0 + d.val) : k0_pay75 (F := Ideal) P V (ix3 0 p d) = k0_pay73 (F := Ideal) P V (ix2 p col) := cut 0 slices_S512x768_o0_0_S512x128 (k0_pay73 (F := Ideal) P V) p d col hc
theorem cut_o0 (hc : col.val = 0 + d.val) : k0_pay76 (F := Ideal) P V (ix3 0 p d) = k0_pay73 (F := Ideal) P V (ix2 p col) := cut 0 slices_S512x768_o0_0_S512x128 (k0_pay73 (F := Ideal) P V) p d col hc
theorem cut_e1 (hc : col.val = 128 + d.val) : k0_pay79 (F := Ideal) (k0_pay78 (F := Ideal) P V) (ix3 0 p d) = k0_pay73 (F := Ideal) P V (ix2 p col) := cut 128 slices_S512x768_o0_128_S512x128 (k0_pay73 (F := Ideal) P V) p d col hc
theorem cut_o1 (hc : col.val = 128 + d.val) : k0_pay80 (F := Ideal) (k0_pay74 (F := Ideal) P V) (ix3 0 p d) = k0_pay73 (F := Ideal) P V (ix2 p col) := cut 128 slices_S512x768_o0_128_S512x128 (k0_pay73 (F := Ideal) P V) p d col hc
theorem cut_e2 (hc : col.val = 256 + d.val) : k0_pay82 (F := Ideal) (k0_pay73 (F := Ideal) P V) (ix3 0 p d) = k0_pay73 (F := Ideal) P V (ix2 p col) := cut 256 slices_S512x768_o0_256_S512x128 (k0_pay73 (F := Ideal) P V) p d col hc
theorem cut_o2 (hc : col.val = 256 + d.val) : k0_pay83 (F := Ideal) (k0_pay74 (F := Ideal) P V) (ix3 0 p d) = k0_pay73 (F := Ideal) P V (ix2 p col) := cut 256 slices_S512x768_o0_256_S512x128 (k0_pay73 (F := Ideal) P V) p d col hc
theorem cut_e3 (hc : col.val = 384 + d.val) : k0_pay86 (F := Ideal) (k0_pay85 (F := Ideal) (k0_pay73 (F := Ideal) P V)) (ix3 0 p d) = k0_pay73 (F := Ideal) P V (ix2 p col) := cut 384 slices_S512x768_o0_384_S512x128 (k0_pay73 (F := Ideal) P V) p d col hc
theorem cut_o3 (hc : col.val = 384 + d.val) : k0_pay87 (F := Ideal) (k0_pay74 (F := Ideal) P V) (ix3 0 p d) = k0_pay73 (F := Ideal) P V (ix2 p col) := cut 384 slices_S512x768_o0_384_S512x128 (k0_pay73 (F := Ideal) P V) p d col hc
theorem cut_e4 (hc : col.val = 512 + d.val) : k0_pay89 (F := Ideal) (k0_pay73 (F := Ideal) P V) (ix3 0 p d) = k0_pay73 (F := Ideal) P V (ix2 p col) := cut 512 slices_S512x768_o0_512_S512x128 (k0_pay73 (F := Ideal) P V) p d col hc
theorem cut_o4 (hc : col.val = 512 + d.val) : k0_pay90 (F := Ideal) (k0_pay74 (F := Ideal) P V) (ix3 0 p d) = k0_pay73 (F := Ideal) P V (ix2 p col) := cut 512 slices_S512x768_o0_512_S512x128 (k0_pay73 (F := Ideal) P V) p d col hc
theorem cut_e5 (hc : col.val = 640 + d.val) : k0_pay1 (F := Ideal) (k0_pay92 (F := Ideal) (k0_pay73 (F := Ideal) P V)) (ix3 0 p d) = k0_pay73 (F := Ideal) P V (ix2 p col) := cut 640 slices_S512x768_o0_640_S512x128 (k0_pay73 (F := Ideal) P V) p d col hc
theorem cut_o5 (hc : col.val = 640 + d.val) : k0_pay2 (F := Ideal) (k0_pay74 (F := Ideal) P V) (ix3 0 p d) = k0_pay73 (F := Ideal) P V (ix2 p col) := cut 640 slices_S512x768_o0_640_S512x128 (k0_pay73 (F := Ideal) P V) p d col hc

end

set_option maxHeartbeats 1600000 in
theorem out_A (c : Dev nD) (t : Fin cfg0.N) (hn : t.val % 2 = 0) (r : Fin 1024) (col : Fin 768) :
    ((outsAt0 m c t.val t.isLt).1 : FVec Ideal S1x1024x768 .bf16) (ix3 0 r col)
      = mix (fun p col => k0_pay73 (F := Ideal) (iblk m c 4 t) (outsAt0 m c t.val t.isLt).2.1 (ix2 p col))
          (fun p col => k0_pay73 (F := Ideal) (iblk m c 4 t) (outsAt0 m c t.val t.isLt).2.2 (ix2 p col)) r col := by
  rw [outsAt0_A m c t hn]; frame_out
  simp only [read_scr0, read_scr1]
  canon_tiles x p
  · exact out_grp 5 640 _ _ _ _ _ _ _ _ (k0_pay73 (F := Ideal) _ _) (k0_pay73 (F := Ideal) _ _) (fun p d col hc => cut_e5 _ _ p d col hc) (fun p d col hc => cut_o5 _ _ p d col hc) x r col p1 p2
  · exact out_grp 4 512 _ _ _ _ _ _ _ _ (k0_pay73 (F := Ideal) _ _) (k0_pay73 (F := Ideal) _ _) (fun p d col hc => cut_e4 _ _ p d col hc) (fun p d col hc => cut_o4 _ _ p d col hc) x r col p1 p2
  · exact out_grp 3 384 _ _ _ _ _ _ _ _ (k0_pay73 (F := Ideal) _ _) (k0_pay73 (F := Ideal) _ _) (fun p d col hc => cut_e3 _ _ p d col hc) (fun p d col hc => cut_o3 _ _ p d col hc) x r col p1 p2
  · exact out_grp 2 256 _ _ _ _ _ _ _ _ (k0_pay73 (F := Ideal) _ _) (k0_pay73 (F := Ideal) _ _) (fun p d col hc => cut_e2 _ _ p d col hc) (fun p d col hc => cut_o2 _ _ p d col hc) x r col p1 p2
  · exact out_grp 1 128 _ _ _ _ _ _ _ _ (k0_pay73 (F := Ideal) _ _) (k0_pay73 (F := Ideal) _ _) (fun p d col hc => cut_e1 _ _ p d col hc) (fun p d col hc => cut_o1 _ _ p d col hc) x r col p1 p2
  · exact out_grp 0 0 _ _ _ _ _ _ _ _ (k0_pay73 (F := Ideal) _ _) (k0_pay73 (F := Ideal) _ _) (fun p d col hc => cut_e0 _ _ p d col hc) (fun p d col hc => cut_o0 _ _ p d col hc) x r col p1 (p2.trans (Nat.zero_add _).symm)

set_option maxHeartbeats 1600000 in
theorem out_B (c : Dev nD) (t : Fin cfg0.N) (hn : ¬ t.val % 2 = 0) (r : Fin 1024) (col : Fin 768) :
    ((outsAt0 m c t.val t.isLt).1 : FVec Ideal S1x1024x768 .bf16) (ix3 0 r col)
      = mix (fun p col => k0_pay73 (F := Ideal) (iblk m c 4 t) (outsAt0 m c t.val t.isLt).2.1 (ix2 p col))
          (fun p col => k0_pay73 (F := Ideal) (iblk m c 4 t) (outsAt0 m c t.val t.isLt).2.2 (ix2 p col)) r col := by
  rw [outsAt0_B m c t hn]; frame_out
  simp only [read_unread_whole]
  canon_tiles x p
  · exact out_grp 5 640 _ _ _ _ _ _ _ _ (k0_pay73 (F := Ideal) _ _) (k0_pay73 (F := Ideal) _ _) (fun p d col hc => cut_e5 _ _ p d col hc) (fun p d col hc => cut_o5 _ _ p d col hc) x r col p1 p2
  · exact out_grp 4 512 _ _ _ _ _ _ _ _ (k0_pay73 (F := Ideal) _ _) (k0_pay73 (F := Ideal) _ _) (fun p d col hc => cut_e4 _ _ p d col hc) (fun p d col hc => cut_o4 _ _ p d col hc) x r col p1 p2
  · exact out_grp 3 384 _ _ _ _ _ _ _ _ (k0_pay73 (F := Ideal) _ _) (k0_pay73 (F := Ideal) _ _) (fun p d col hc => cut_e3 _ _ p d col hc) (fun p d col hc => cut_o3 _ _ p d col hc) x r col p1 p2
  · exact out_grp 2 256 _ _ _ _ _ _ _ _ (k0_pay73 (F := Ideal) _ _) (k0_pay73 (F := Ideal) _ _) (fun p d col hc => cut_e2 _ _ p d col hc) (fun p d col hc => cut_o2 _ _ p d col hc) x r col p1 p2
  · exact out_grp 1 128 _ _ _ _ _ _ _ _ (k0_pay73 (F := Ideal) _ _) (k0_pay73 (F := Ideal) _ _) (fun p d col hc => cut_e1 _ _ p d col hc) (fun p d col hc => cut_o1 _ _ p d col hc) x r col p1 p2
  · exact out_grp 0 0 _ _ _ _ _ _ _ _ (k0_pay73 (F := Ideal) _ _) (k0_pay73 (F := Ideal) _ _) (fun p d col hc => cut_e0 _ _ p d col hc) (fun p d col hc => cut_o0 _ _ p d col hc) x r col p1 (p2.trans (Nat.zero_add _).symm)

/-- The first scratch over a batch's rows: the whole transform's even inputs. -/
def ev (Z : FVec Ideal S4x2048x6144 .bf16) (C : FVec Ideal S128x256 .bf16) (b : Fin 4) (k : Fin 2048) (col : Fin 768) : EReal :=
  evenBlk (fun n e => Z (ix3 b n ⟨4608 + e.val, by have := e.isLt; omega⟩)) (fun c e => C (ix2 c e)) k col

/-- The second scratch over a batch's rows: the whole transform's odd inputs. -/
def od (Z : FVec Ideal S4x2048x6144 .bf16) (C : FVec Ideal S128x256 .bf16) (x y : FVec Ideal S1024 .f32) (b : Fin 4) (k : Fin 2048) (col : Fin 768) : EReal :=
  oddBlk (fun n e => Z (ix3 b n ⟨4608 + e.val, by have := e.isLt; omega⟩)) (fun c e => C (ix2 c e)) (fun k _ => x (ix1 k)) (fun k _ => y (ix1 k)) k col

/-- The whole result: the even rows' transform and the odd rows', in turn. -/
def whole (Z : FVec Ideal S4x2048x6144 .bf16) (C : FVec Ideal S128x256 .bf16) (x y : FVec Ideal S1024 .f32) (P : FVec Ideal S1024x2048 .bf16)
    (b : Fin 4) (s : Fin 2048) (col : Fin 768) : EReal :=
  if s.val % 2 = 0 then (∑ k : Fin 2048, P (ix2 ⟨s.val / 2, by have := s.isLt; omega⟩ k) * ev Z C b k col) * nrm
  else (∑ k : Fin 2048, P (ix2 ⟨s.val / 2, by have := s.isLt; omega⟩ k) * od Z C x y b k col) * nrm

theorem rows (c : Dev nD) (t : Fin cfg0.N) (n : Fin 2048) (e : Fin 768) : (iblk m c 0 t : FVec Ideal S1x2048x768 .bf16) (ix3 0 n e)
    = ((m ((c : Thread nD τ).loc main_arg0)) : FVec Ideal S4x2048x6144 .bf16) (ix3 ⟨t.val / 2, by have := (idx t).2.2.2.2.2.2; omega⟩ n ⟨4608 + e.val, by have := e.isLt; omega⟩) := by
  blk_ext [iblk, V_main_arg0, idx t]

theorem chan (c : Dev nD) (t : Fin cfg0.N) (n : Fin 128) (e : Fin 256) : (iblk m c 1 t : FVec Ideal S128x256 .bf16) (ix2 n e)
    = ((m ((c : Thread nD τ).loc main_arg1)) : FVec Ideal S128x256 .bf16) (ix2 n e) := by
  blk_ext [iblk, V_main_arg1, idx t]

theorem spread (g : FVec Ideal S1024 .f32) (k : Fin 1024) (d : Fin 128) :
    (broadcastInDim S1024x128 ![0, 1] bcast_S1024x1_S1024x128_0_1 (broadcastInDim S1024x1 ![0] bcast_S1024_S1024x1_0 g) : FVec Ideal S1024x128 .f32) (ix2 k d) = g (ix1 k) := by
  pointwise

theorem twc (c : Dev nD) (t : Fin cfg0.N) (k : Fin 1024) (d : Fin 128) :
    (iblk m c 2 t : FVec Ideal S1024x128 .f32) (ix2 k d) = (m ((c : Thread nD τ).loc main_arg2) : FVec Ideal S1024 .f32) (ix1 k) := by
  have e : V m c main_v1 = broadcastInDim S1024x128 ![0, 1] bcast_S1024x1_S1024x128_0_1 (broadcastInDim S1024x1 ![0] bcast_S1024_S1024x1_0 (m ((c : Thread nD τ).loc main_arg2) : FVec Ideal S1024 .f32)) := by
    unfold V; after_results; try rfl
  refine Eq.trans ?_ (spread _ k d)
  refine Eq.trans (b := (V m c main_v1 : FVec Ideal S1024x128 .f32) (ix2 k d)) ?_ (congrFun e _)
  blk_ext [iblk, idx t]

theorem tws (c : Dev nD) (t : Fin cfg0.N) (k : Fin 1024) (d : Fin 128) :
    (iblk m c 3 t : FVec Ideal S1024x128 .f32) (ix2 k d) = (m ((c : Thread nD τ).loc main_arg3) : FVec Ideal S1024 .f32) (ix1 k) := by
  have e : V m c main_v3 = broadcastInDim S1024x128 ![0, 1] bcast_S1024x1_S1024x128_0_1 (broadcastInDim S1024x1 ![0] bcast_S1024_S1024x1_0 (m ((c : Thread nD τ).loc main_arg3) : FVec Ideal S1024 .f32)) := by
    unfold V; after_results; try rfl
  refine Eq.trans ?_ (spread _ k d)
  refine Eq.trans (b := (V m c main_v3 : FVec Ideal S1024x128 .f32) (ix2 k d)) ?_ (congrFun e _)
  blk_ext [iblk, idx t]

/-- Both scratches after an even point, over the arguments. -/
theorem scr_A (c : Dev nD) (t : Fin cfg0.N) (hn : t.val % 2 = 0) (k : Fin 2048) (col : Fin 768) :
    ((outsAt0 m c t.val t.isLt).2.1 : FVec Ideal S2048x768 .bf16) (ix2 k col)
      = ev (m ((c : Thread nD τ).loc main_arg0)) (m ((c : Thread nD τ).loc main_arg1)) ⟨t.val / 2, by have := (idx t).2.2.2.2.2.2; omega⟩ k col
    ∧ ((outsAt0 m c t.val t.isLt).2.2 : FVec Ideal S2048x768 .bf16) (ix2 k col)
      = od (m ((c : Thread nD τ).loc main_arg0)) (m ((c : Thread nD τ).loc main_arg1)) (m ((c : Thread nD τ).loc main_arg2)) (m ((c : Thread nD τ).loc main_arg3)) ⟨t.val / 2, by have := (idx t).2.2.2.2.2.2; omega⟩ k col := by
  constructor
  · refine (even_A m c t hn k col).trans ?_
    unfold ev
    simp only [rows, chan]
  · refine (odd_A m c t hn k col).trans ?_
    unfold od
    simp only [rows, chan, twc, tws]

/-- Both scratches after any point. -/
theorem scr (c : Dev nD) (t : Fin cfg0.N) (k : Fin 2048) (col : Fin 768) :
    ((outsAt0 m c t.val t.isLt).2.1 : FVec Ideal S2048x768 .bf16) (ix2 k col)
      = ev (m ((c : Thread nD τ).loc main_arg0)) (m ((c : Thread nD τ).loc main_arg1)) ⟨t.val / 2, by have := (idx t).2.2.2.2.2.2; omega⟩ k col
    ∧ ((outsAt0 m c t.val t.isLt).2.2 : FVec Ideal S2048x768 .bf16) (ix2 k col)
      = od (m ((c : Thread nD τ).loc main_arg0)) (m ((c : Thread nD τ).loc main_arg1)) (m ((c : Thread nD τ).loc main_arg2)) (m ((c : Thread nD τ).loc main_arg3)) ⟨t.val / 2, by have := (idx t).2.2.2.2.2.2; omega⟩ k col := by
  by_cases hn : t.val % 2 = 0
  · exact scr_A m c t hn k col
  · have ht := t.isLt
    have h := scr_A m c ⟨t.val - 1, by omega⟩ (by simp only; omega) k col
    have e : (t.val - 1) / 2 = t.val / 2 := by omega
    simp only [e] at h
    rw [outsAt0_B m c t hn]
    exact h

theorem out (c : Dev nD) (t : Fin cfg0.N) (r : Fin 1024) (col : Fin 768) :
    ((outsAt0 m c t.val t.isLt).1 : FVec Ideal S1x1024x768 .bf16) (ix3 0 r col)
      = mix (fun p col => k0_pay73 (F := Ideal) (iblk m c 4 t) (outsAt0 m c t.val t.isLt).2.1 (ix2 p col))
          (fun p col => k0_pay73 (F := Ideal) (iblk m c 4 t) (outsAt0 m c t.val t.isLt).2.2 (ix2 p col)) r col := by
  by_cases hn : t.val % 2 = 0
  · exact out_A m c t hn r col
  · exact out_B m c t hn r col

theorem final (c : Dev nD) :
    (dats m 0 c).arrAt 5 (cfgs 0).N = fun i : S4x2048x768.Idx => whole (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t _ y => ?_
  blk_simp
  rw [after0_5]
  obtain ⟨z, r, col, rfl⟩ : ∃ (z : Fin 1) (r : Fin 1024) (col : Fin 768), y = ix3 z r col := ⟨y 0, y 1, y 2, eq_ix3 y⟩
  obtain rfl : z = 0 := Subsingleton.elim _ _
  have ht := (idx t).2.2.2.2.2.2
  have hr := r.isLt
  have e4 : ∀ (p : Fin 512) (k : Fin 2048), (iblk m c 4 t : FVec Ideal S512x2048 .bf16) (ix2 p k)
      = ((m ((c : Thread nD τ).loc main_arg4)) : FVec Ideal S1024x2048 .bf16) (ix2 ⟨t.val % 2 * 512 + p.val, by have := p.isLt; omega⟩ k) := by
    intro p k; blk_ext [iblk, V_main_arg4, idx t]
  have f : (((View.whole main_v4).slice (win0_5.rect t)).emb (ix3 0 r col) : S4x2048x768.Idx) = ix3 ⟨t.val / 2, by omega⟩ ⟨t.val % 2 * 1024 + r.val, by omega⟩ col := by
    blk_ext [idx t]
  refine Eq.trans ?_ (congrArg (fun i : S4x2048x768.Idx => whole (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) (i 2)) f.symm)
  refine (out m c t r col).trans ?_
  show _ = whole _ _ _ _ _ ⟨t.val / 2, by omega⟩ ⟨t.val % 2 * 1024 + r.val, by omega⟩ col
  unfold whole mix
  have h2 : (t.val % 2 * 1024 + r.val) % 2 = r.val % 2 := by omega
  have h3 : (t.val % 2 * 1024 + r.val) / 2 = t.val % 2 * 512 + r.val / 2 := by omega
  simp only [pay73, e4, (scr m c t _ _).1, (scr m c t _ _).2, h2, h3]

end Cert.FourierIdeal.Pure

end
-- ==== Proof.FourierRef.lean ====
/- The Fourier mixing's reference, read at an index. -/
module

public import proofs.«01_k».proof.Proof.FourierPure
public import proofs.«01_k».proof.Proof.FourierValue
public import proofs.«01_k».proof.Proof.Gen.FourierReferenceIdeal.Run

@[expose] public section

set_option maxRecDepth 16384

noncomputable section

namespace Cert.FourierReferenceIdeal.Pure

open Idealize.ShloMosaic Idealize.ShloMosaic.TcCoe Cert.FourierReferenceIdeal Cert.FourierReferenceIdeal.Gen Cert.Softmax
open Cert.FourierIdeal.Pure (whole ev od evenBlk oddBlk evenCol oddCol fold diff top bot cc sc nrm gcol lane)

/-- The rows' channels in six groups. -/
def urows (Z : FVec Ideal S4x2048x6144 .bf16) : FVec Ideal S4x2048x6x128 .f32 :=
  shapeCast _ (extf .f32 (extractStridedSlice S4x2048x768 ![0, 0, 4608] Z slices_S4x2048x6144_S4x2048x768_0_0_4608) bitsLt_bf16_f32) shapeCasts_S4x2048x768_S4x2048x6x128

/-- The two channel transforms. -/
def re (U : FVec Ideal S4x2048x6x128 .f32) (C : FVec Ideal S128x256 .bf16) : FVec Ideal S4x2048x6x128 .f32 :=
  Host.dotGeneral dot_S4x2048x6x128_S128x128_S4x2048x6x128_3_0_012_1_n_n none U (extf .f32 (extractStridedSlice S128x128 ![0, 0] C slices_S128x256_S128x128_0_0) bitsLt_bf16_f32)
@[inherit_doc re] def im (U : FVec Ideal S4x2048x6x128 .f32) (C : FVec Ideal S128x256 .bf16) : FVec Ideal S4x2048x6x128 .f32 :=
  Host.dotGeneral dot_S4x2048x6x128_S128x128_S4x2048x6x128_3_0_012_1_n_n none U (extf .f32 (extractStridedSlice S128x128 ![0, 128] C slices_S128x256_S128x128_0_128) bitsLt_bf16_f32)

/-- The half-length table's cosines and sines. -/
def ce (P : FVec Ideal S1024x2048 .bf16) : FVec Ideal S1024x1024 .f32 :=
  extf .f32 (extractStridedSlice S1024x1024 ![0, 0] P slices_S1024x2048_S1024x1024_0_0) bitsLt_bf16_f32
@[inherit_doc ce] def se (P : FVec Ideal S1024x2048 .bf16) : FVec Ideal S1024x1024 .f32 :=
  Host.negf (extf .f32 (extractStridedSlice S1024x1024 ![0, 1024] P slices_S1024x2048_S1024x1024_0_1024) bitsLt_bf16_f32)

/-- A vector of the twiddles under every row. -/
def tw (v : FVec Ideal S1024 .f32) : FVec Ideal S1024x1024 .f32 :=
  broadcastInDim S1024x1024 ![0, 1] bcast_S1x1024_S1024x1024_0_1 (broadcastInDim S1x1024 ![1] bcast_S1024_S1x1024_1 v)

/-- The odd rows' cosines and sines, by the addition of angles. -/
def co (E S : FVec Ideal S1024x1024 .f32) (x y : FVec Ideal S1024 .f32) : FVec Ideal S1024x1024 .f32 := subf (mulf E (tw x)) (mulf S (tw y))
@[inherit_doc co] def so (E S : FVec Ideal S1024x1024 .f32) (x y : FVec Ideal S1024 .f32) : FVec Ideal S1024x1024 .f32 := addf (mulf S (tw x)) (mulf E (tw y))

/-- Two arrays side by side. -/
def side (A B : FVec Ideal S1024x1024 .f32) : FVec Ideal S1024x2048 .f32 :=
  concatenate S1024x2048 1 [⟨S1024x1024, A⟩, ⟨S1024x1024, B⟩] concatenates_S1024x1024_S1024x1024_S1024x2048_d1

/-- Two arrays' rows in turn. -/
def turn (A B : FVec Ideal S1024x2048 .f32) : FVec Ideal S1024x2x2048 .f32 :=
  concatenate S1024x2x2048 1 [⟨S1024x1x2048, broadcastInDim S1024x1x2048 ![0, 2] bcast_S1024x2048_S1024x1x2048_0_2 A⟩,
    ⟨S1024x1x2048, broadcastInDim S1024x1x2048 ![0, 2] bcast_S1024x2048_S1024x1x2048_0_2 B⟩] concatenates_S1024x1x2048_S1024x1x2048_S1024x2x2048_d1

/-- The transform's matrix out of its even and odd rows' first halves. -/
def mat (E O : FVec Ideal S1024x1024 .f32) : FVec Ideal S2048x2048 .f32 :=
  shapeCast _ (turn (side E E) (side O (Host.negf O))) shapeCasts_S1024x2x2048_S2048x2048

/-- A position transform. -/
def pos (X : FVec Ideal S4x2048x6x128 .f32) (M : FVec Ideal S2048x2048 .f32) : FVec Ideal S4x2048x6x128 .f32 :=
  transpose S4x2048x6x128 [0, 3, 1, 2] (Host.dotGeneral dot_S4x2048x6x128_S2048x2048_S4x6x128x2048_1_1_023_0_n_n none X M) transposes_S4x6x128x2048_S4x2048x6x128_0_3_1_2

/-- The difference, scaled, in the result's layout. -/
def lay (A B : FVec Ideal S4x2048x6x128 .f32) : FVec Ideal S4x2048x768 .bf16 :=
  truncf .bf16 (shapeCast _ (mulf (subf A B) (broadcastInDim S4x2048x6x128 ![] bcast_S_S4x2048x6x128 (constant S_ .f32 0x3B000000#32))) shapeCasts_S4x2048x6x128_S4x2048x768) bitsLt_bf16_f32

/-- The reference's result as a function of its arguments. -/
def ref (Z : FVec Ideal S4x2048x6144 .bf16) (C : FVec Ideal S128x256 .bf16) (x y : FVec Ideal S1024 .f32) (P : FVec Ideal S1024x2048 .bf16) : FVec Ideal S4x2048x768 .bf16 :=
  lay (pos (re (urows Z) C) (mat (ce P) (co (ce P) (se P) x y))) (pos (im (urows Z) C) (mat (se P) (so (ce P) (se P) x y)))

theorem run_eq (m : (ℓ : Loc nD τ sig) → Buf (Elt Ideal) ℓ) (c : Dev nD) :
    Cert.FourierReferenceIdeal.Value.res_main_v50 m c
      = ref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-- A column's group. -/
def grp (col : Fin 768) : Fin 6 := ⟨col.val / 128, by have := col.isLt; omega⟩

theorem urows_apply (Z : FVec Ideal S4x2048x6144 .bf16) (b : Fin 4) (n : Fin 2048) (col : Fin 768) (e : Fin 128) :
    urows Z (ix4 b n (grp col) e) = Z (ix3 b n ⟨4608 + (gcol col e).val, by have := (gcol col e).isLt; omega⟩) := by
  unfold grp gcol
  pointwise [urows]

theorem re_apply (U : FVec Ideal S4x2048x6x128 .f32) (C : FVec Ideal S128x256 .bf16) (b : Fin 4) (n : Fin 2048) (g : Fin 6) (d : Fin 128) :
    re U C (ix4 b n g d) = ∑ c : Fin 128, U (ix4 b n g c) * C (ix2 c (cc d)) := by
  unfold cc
  pointwise [re]

theorem im_apply (U : FVec Ideal S4x2048x6x128 .f32) (C : FVec Ideal S128x256 .bf16) (b : Fin 4) (n : Fin 2048) (g : Fin 6) (d : Fin 128) :
    im U C (ix4 b n g d) = ∑ c : Fin 128, U (ix4 b n g c) * C (ix2 c (sc d)) := by
  unfold sc
  pointwise [im]

/-- A column of the table's first half, and of its second. -/
def lo (k : Fin 1024) : Fin 2048 := ⟨k.val, by have := k.isLt; omega⟩
@[inherit_doc lo] def hi (k : Fin 1024) : Fin 2048 := ⟨1024 + k.val, by have := k.isLt; omega⟩

theorem ce_apply (P : FVec Ideal S1024x2048 .bf16) (p k : Fin 1024) : ce P (ix2 p k) = P (ix2 p (lo k)) := by
  unfold lo
  pointwise [ce]
theorem se_apply (P : FVec Ideal S1024x2048 .bf16) (p k : Fin 1024) : se P (ix2 p k) = -P (ix2 p (hi k)) := by
  unfold hi
  pointwise [se]
theorem co_apply (E S : FVec Ideal S1024x1024 .f32) (x y : FVec Ideal S1024 .f32) (p k : Fin 1024) :
    co E S x y (ix2 p k) = E (ix2 p k) * x (ix1 k) - S (ix2 p k) * y (ix1 k) := by
  pointwise [co, tw]
theorem so_apply (E S : FVec Ideal S1024x1024 .f32) (x y : FVec Ideal S1024 .f32) (p k : Fin 1024) :
    so E S x y (ix2 p k) = S (ix2 p k) * x (ix1 k) + E (ix2 p k) * y (ix1 k) := by
  pointwise [so, tw]

theorem side_lo (A B : FVec Ideal S1024x1024 .f32) (p k : Fin 1024) : side A B (ix2 p (lo k)) = A (ix2 p k) :=
  concatenate_pair_apply_left 1 A B _ (ix2 p (lo k)) rfl (ix2 p k) fun b => by fin_cases b <;> rfl
theorem side_hi (A B : FVec Ideal S1024x1024 .f32) (p k : Fin 1024) : side A B (ix2 p (hi k)) = B (ix2 p k) :=
  concatenate_pair_apply_right 1 A B _ (ix2 p (hi k)) rfl rfl (ix2 p k)
    (fun b hb => by fin_cases b <;> first | rfl | exact absurd rfl hb) (by show k.val + 1024 = 1024 + k.val; omega)

theorem turn_apply (A B : FVec Ideal S1024x2048 .f32) (p : Fin 1024) (e : Fin 2) (n : Fin 2048) :
    turn A B (ix3 p e n) = if e.val = 0 then A (ix2 p n) else B (ix2 p n) := by
  unfold turn
  concat_tiles i h
  all_goals
    obtain rfl : i = ix3 p 0 n := funext fun a => Fin.ext (by fin_cases a <;> [exact h0; exact h1; exact h2])
    have h' : e.val = _ := h
    simp only [h']
    pointwise
    try simp

theorem mat_apply (E O : FVec Ideal S1024x1024 .f32) (s n : Fin 2048) :
    mat E O (ix2 s n) = turn (side E E) (side O (Host.negf O)) (ix3 ⟨s.val / 2, by have := s.isLt; omega⟩ ⟨s.val % 2, by omega⟩ n) := by
  pointwise [mat]

theorem pos_apply (X : FVec Ideal S4x2048x6x128 .f32) (M : FVec Ideal S2048x2048 .f32) (b : Fin 4) (s : Fin 2048) (g : Fin 6) (d : Fin 128) :
    pos X M (ix4 b s g d) = ∑ n : Fin 2048, X (ix4 b n g d) * M (ix2 s n) := by
  pointwise [pos]

theorem lay_apply (A B : FVec Ideal S4x2048x6x128 .f32) (b : Fin 4) (s : Fin 2048) (col : Fin 768) :
    lay A B (ix3 b s col) = (A (ix4 b s (grp col) (lane col)) - B (ix4 b s (grp col) (lane col))) * nrm := by
  unfold grp lane nrm
  pointwise [lay]

theorem neg_apply (O : FVec Ideal S1024x1024 .f32) (i : S1024x1024.Idx) : (Host.negf O : FVec Ideal S1024x1024 .f32) i = -O i := by
  pointwise

/-- The matrix's entries, by the row's parity and the column's half. -/
theorem mat_even_lo (E O : FVec Ideal S1024x1024 .f32) (s : Fin 2048) (h : s.val % 2 = 0) (k : Fin 1024) :
    mat E O (ix2 s (lo k)) = E (ix2 ⟨s.val / 2, by have := s.isLt; omega⟩ k) := by
  rw [mat_apply, turn_apply, if_pos h, side_lo]
theorem mat_even_hi (E O : FVec Ideal S1024x1024 .f32) (s : Fin 2048) (h : s.val % 2 = 0) (k : Fin 1024) :
    mat E O (ix2 s (hi k)) = E (ix2 ⟨s.val / 2, by have := s.isLt; omega⟩ k) := by
  rw [mat_apply, turn_apply, if_pos h, side_hi]
theorem mat_odd_lo (E O : FVec Ideal S1024x1024 .f32) (s : Fin 2048) (h : ¬ s.val % 2 = 0) (k : Fin 1024) :
    mat E O (ix2 s (lo k)) = O (ix2 ⟨s.val / 2, by have := s.isLt; omega⟩ k) := by
  rw [mat_apply, turn_apply, if_neg h, side_lo]
theorem mat_odd_hi (E O : FVec Ideal S1024x1024 .f32) (s : Fin 2048) (h : ¬ s.val % 2 = 0) (k : Fin 1024) :
    mat E O (ix2 s (hi k)) = -O (ix2 ⟨s.val / 2, by have := s.isLt; omega⟩ k) := by
  rw [mat_apply, turn_apply, if_neg h, side_hi, neg_apply]

/-- A sum over 2048 indices, by halves. -/
theorem split {M : Type} [AddCommMonoid M] (F : Fin 2048 → M) : ∑ n : Fin 2048, F n = ∑ k : Fin 1024, (F (lo k) + F (hi k)) := by
  rw [Finset.sum_add_distrib]
  exact Fin.sum_univ_add (a := 1024) (b := 1024) F

theorem coe_sum {n : ℕ} (f : Fin n → ℝ) : (∑ i, ((f i : ℝ) : EReal)) = ((∑ i, f i : ℝ) : EReal) :=
  (map_sum (⟨⟨Real.toEReal, EReal.coe_zero⟩, EReal.coe_add⟩ : ℝ →+ EReal) f Finset.univ).symm

/-- A row of a channel transform over the reals. -/
def g (u : Fin 2048 → Fin 128 → ℝ) (C : Fin 128 → Fin 256 → ℝ) (n : Fin 2048) (e : Fin 256) : ℝ := ∑ c : Fin 128, u n c * C c e

theorem g_coe (u : Fin 2048 → Fin 128 → ℝ) (C : Fin 128 → Fin 256 → ℝ) (n : Fin 2048) (e : Fin 256) :
    (∑ c : Fin 128, (u n c : EReal) * (C c e : EReal)) = (g u C n e : EReal) := by
  unfold g
  rw [← coe_sum]
  exact Finset.sum_congr rfl fun c _ => (EReal.coe_mul _ _).symm

theorem fold_coe (u : Fin 2048 → Fin 128 → ℝ) (C : Fin 128 → Fin 256 → ℝ) (k : Fin 1024) (e : Fin 256) :
    fold (fun n c => (u n c : EReal)) (fun c e => (C c e : EReal)) k e = ((g u C (lo k) e + g u C (hi k) e : ℝ) : EReal) := by
  rw [EReal.coe_add, ← g_coe, ← g_coe]
  rfl

theorem diff_coe (u : Fin 2048 → Fin 128 → ℝ) (C : Fin 128 → Fin 256 → ℝ) (k : Fin 1024) (e : Fin 256) :
    diff (fun n c => (u n c : EReal)) (fun c e => (C c e : EReal)) k e = ((g u C (lo k) e - g u C (hi k) e : ℝ) : EReal) := by
  rw [EReal.coe_sub, ← g_coe, ← g_coe]
  rfl

theorem even_lo (u : Fin 2048 → Fin 128 → EReal) (C : Fin 128 → Fin 256 → EReal) (k : Fin 1024) (d : Fin 128) :
    evenCol u C (lo k) d = fold u C k (cc d) := by
  unfold evenCol
  rw [dif_pos (show (lo k).val < 1024 from k.isLt)]
  rfl
theorem even_hi (u : Fin 2048 → Fin 128 → EReal) (C : Fin 128 → Fin 256 → EReal) (k : Fin 1024) (d : Fin 128) :
    evenCol u C (hi k) d = fold u C k (sc d) := by
  unfold evenCol
  have e : (⟨(hi k).val - 1024, by have := (hi k).isLt; omega⟩ : Fin 1024) = k := Fin.ext (by simp [hi])
  rw [dif_neg (show ¬ (hi k).val < 1024 by simp [hi]), e]
theorem odd_lo (u : Fin 2048 → Fin 128 → EReal) (C : Fin 128 → Fin 256 → EReal) (x y : Fin 1024 → Fin 128 → EReal) (k : Fin 1024) (d : Fin 128) :
    oddCol u C x y (lo k) d = x k d * diff u C k (cc d) - y k d * diff u C k (sc d) := by
  unfold oddCol
  rw [dif_pos (show (lo k).val < 1024 from k.isLt)]
  rfl
theorem odd_hi (u : Fin 2048 → Fin 128 → EReal) (C : Fin 128 → Fin 256 → EReal) (x y : Fin 1024 → Fin 128 → EReal) (k : Fin 1024) (d : Fin 128) :
    oddCol u C x y (hi k) d = y k d * diff u C k (cc d) + x k d * diff u C k (sc d) := by
  unfold oddCol
  have e : (⟨(hi k).val - 1024, by have := (hi k).isLt; omega⟩ : Fin 1024) = k := Fin.ext (by simp [hi])
  rw [dif_neg (show ¬ (hi k).val < 1024 by simp [hi]), e]

/-- The reference is the kernel's function, where the arguments are real. -/
theorem ref_apply (Z : FVec Ideal S4x2048x6144 .bf16) (C : FVec Ideal S128x256 .bf16) (x y : FVec Ideal S1024 .f32) (P : FVec Ideal S1024x2048 .bf16)
    (hZ : ∀ (b : Fin 4) (n : Fin 2048) (e : Fin 768), Fin' (Z (ix3 b n ⟨4608 + e.val, by have := e.isLt; omega⟩)))
    (hC : ∀ i, Fin' (C i)) (hx : ∀ i, Fin' (x i)) (hy : ∀ i, Fin' (y i)) (hP : ∀ i, Fin' (P i)) (b : Fin 4) (s : Fin 2048) (col : Fin 768) :
    ref Z C x y P (ix3 b s col) = whole Z C x y P b s col := by
  choose z hz using hZ b
  choose c hc using hC
  choose x' hx using hx
  choose y' hy using hy
  choose p hp using hP
  have hre : ∀ n, re (urows Z) C (ix4 b n (grp col) (lane col)) = (g (fun n e => z n (gcol col e)) (fun a e => c (ix2 a e)) n (cc (lane col)) : EReal) := by
    intro n
    rw [re_apply, ← g_coe]
    exact Finset.sum_congr rfl fun e _ => by rw [urows_apply, hz, hc]
  have him : ∀ n, im (urows Z) C (ix4 b n (grp col) (lane col)) = (g (fun n e => z n (gcol col e)) (fun a e => c (ix2 a e)) n (sc (lane col)) : EReal) := by
    intro n
    rw [im_apply, ← g_coe]
    exact Finset.sum_congr rfl fun e _ => by rw [urows_apply, hz, hc]
  have hev : ∀ k, ev Z C b k col = evenCol (fun n e => (z n (gcol col e) : EReal)) (fun a e => (c (ix2 a e) : EReal)) k (lane col) := by
    intro k
    unfold ev evenBlk
    simp only [hz, hc]
  have hod : ∀ k, od Z C x y b k col = oddCol (fun n e => (z n (gcol col e) : EReal)) (fun a e => (c (ix2 a e) : EReal)) (fun k _ => (x' (ix1 k) : EReal)) (fun k _ => (y' (ix1 k) : EReal)) k (lane col) := by
    intro k
    unfold od oddBlk
    simp only [hz, hc, hx, hy]
  have fc := fold_coe (fun n e => z n (gcol col e)) (fun a e => c (ix2 a e))
  have dc := diff_coe (fun n e => z n (gcol col e)) (fun a e => c (ix2 a e))
  unfold ref whole
  rw [lay_apply, pos_apply, pos_apply]
  by_cases h : s.val % 2 = 0
  · rw [if_pos h]
    refine congrArg (· * nrm) ?_
    simp only [split, mat_even_lo _ _ s h, mat_even_hi _ _ s h, hre, him, hev, even_lo, even_hi, fc, ce_apply, se_apply, hp,
      ← EReal.coe_neg, ← EReal.coe_mul, ← EReal.coe_add, coe_sum, ← EReal.coe_sub]
    refine congrArg Real.toEReal ?_
    rw [← Finset.sum_sub_distrib]
    exact Finset.sum_congr rfl fun k _ => by ring
  · rw [if_neg h]
    refine congrArg (· * nrm) ?_
    simp only [split, mat_odd_lo _ _ s h, mat_odd_hi _ _ s h, hre, him, hod, odd_lo, odd_hi, dc, co_apply, so_apply, ce_apply, se_apply, hp, hx, hy,
      ← EReal.coe_neg, ← EReal.coe_mul, ← EReal.coe_add, ← EReal.coe_sub, coe_sum]
    refine congrArg Real.toEReal ?_
    rw [← Finset.sum_sub_distrib]
    exact Finset.sum_congr rfl fun k _ => by ring

end Cert.FourierReferenceIdeal.Pure

end
-- ==== Proof.FourierClaim.lean ====
/- The Fourier mixing's claims. -/
module

public import proofs.«01_k».proof.Defs
public import proofs.«01_k».proof.Proof.FourierValue
public import proofs.«01_k».proof.Proof.FourierRef
public import proofs.«01_k».proof.Proof.Gen.Fourier.Frame
public import proofs.«01_k».proof.Proof.Gen.FourierIdeal.Frame
public import proofs.«01_k».proof.Proof.Gen.FourierIdeal.Value
public import proofs.«01_k».proof.Proof.Gen.FourierReferenceIdeal.Run
public import proofs.«01_k».proof.Proof.Gen.Pre_finite_transform
public import Idealize.ShloMosaic.Lib.ReduceAll
public import Idealize.ShloMosaic.Lib.Quiescent
public import Idealize.ShloMosaic.Lib.Pointwise

@[expose] public section

set_option maxRecDepth 16384

noncomputable section

open Idealize.ShloMosaic Idealize.ShloMosaic.TcCoe Idealize.SL.Sem Cert.Softmax

namespace Cert.Pre_finite_transform

open Cert.Pre_finite_transform.Gen

/-- The precondition, read: the transformed channels, the tables and the twiddles are real numbers. -/
theorem finite (Z : FVec Ideal S4x2048x6144 .bf16) (C : FVec Ideal S128x256 .bf16) (x y : FVec Ideal S1024 .f32) (P : FVec Ideal S1024x2048 .bf16)
    (h : fn (F := Ideal) Z C x y P = fun _ => 1#1) :
    (∀ (b : Fin 4) (n : Fin 2048) (e : Fin 768), Fin' (Z (ix3 b n ⟨4608 + e.val, by have := e.isLt; omega⟩)))
    ∧ (∀ i, Fin' (C i)) ∧ (∀ i, Fin' (x i)) ∧ (∀ i, Fin' (y i)) ∧ ∀ i, Fin' (P i) := by
  have h0 := congrFun h (Shape.Idx.first h_S_)
  obtain ⟨h12, h345⟩ := IntOp.andi_eq_one.1 h0
  obtain ⟨h1, h2⟩ := IntOp.andi_eq_one.1 h12
  obtain ⟨h34, h5⟩ := IntOp.andi_eq_one.1 h345
  obtain ⟨h3, h4⟩ := IntOp.andi_eq_one.1 h34
  haveI : Subsingleton S_.Idx := ⟨fun a b => funext fun i => i.elim0⟩
  have top : Ideal.ofBits .f32 0x7F800000#32 = (⊤ : EReal) := by simp [Ideal.ofBits, Ideal.ieee]
  have fin (a : EReal) (e' : Ideal.cmp .olt (max a (-a)) (Ideal.ofBits .f32 0x7F800000#32) = 1#1) : Fin' a := by
    refine Fin'.of_abs_lt ?_
    rw [top] at e'
    by_contra hn
    simp [Ideal.cmp, hn] at e'
  refine ⟨?_, ?_, ?_, ?_, ?_⟩
  · intro b n d
    refine fin _ (Eq.trans ?_ (Host.reduce_andi_all _ _ _ _ _ h1 (ix3 b n d)))
    pointwise
    rfl
  · intro i
    obtain ⟨a, b, rfl⟩ : ∃ (a : Fin 128) (b : Fin 256), i = ix2 a b := ⟨i 0, i 1, eq_ix2 i⟩
    refine fin _ (Eq.trans ?_ (Host.reduce_andi_all _ _ _ _ _ h2 (ix2 a b)))
    pointwise
    rfl
  · intro i
    obtain ⟨a, rfl⟩ : ∃ a : Fin 1024, i = ix1 a := ⟨i 0, eq_ix1 i⟩
    refine fin _ (Eq.trans ?_ (Host.reduce_andi_all _ _ _ _ _ h3 (ix1 a)))
    pointwise
    rfl
  · intro i
    obtain ⟨a, rfl⟩ : ∃ a : Fin 1024, i = ix1 a := ⟨i 0, eq_ix1 i⟩
    refine fin _ (Eq.trans ?_ (Host.reduce_andi_all _ _ _ _ _ h4 (ix1 a)))
    pointwise
    rfl
  · intro i
    obtain ⟨a, b, rfl⟩ : ∃ (a : Fin 1024) (b : Fin 2048), i = ix2 a b := ⟨i 0, i 1, eq_ix2 i⟩
    refine fin _ (Eq.trans ?_ (Host.reduce_andi_all _ _ _ _ _ h5 (ix2 a b)))
    pointwise
    rfl

end Cert.Pre_finite_transform

namespace Cert.Proof.Fourier

theorem frame : Cert.quiescent_Fourier := fun m ρ _ => Cert.Fourier.Gen.frame m ρ
theorem frameI : Cert.quiescent_FourierIdeal := fun m ρ _ => Cert.FourierIdeal.Gen.frame m ρ
theorem frameIP : Cert.quiescent_FourierIdeal_pre_finite_transform := fun m ρ _ => Cert.FourierIdeal.Gen.frame m ρ
theorem frameR : Cert.quiescent_FourierReferenceIdeal := fun m ρ _ =>
  (θ_run Cert.FourierReferenceIdeal.defs _ _).mono (fun r h => ⟨fun c => (h c).2, sem_eq_zero_of_no_sems (by decide) r.2⟩)
    (Cert.FourierReferenceIdeal.Value.run (F := Ideal) m ρ)
theorem frameRP : Cert.quiescent_FourierReferenceIdeal_pre_finite_transform := fun m ρ _ =>
  (θ_run Cert.FourierReferenceIdeal.defs _ _).mono (fun r h => ⟨fun c => (h c).2, sem_eq_zero_of_no_sems (by decide) r.2⟩)
    (Cert.FourierReferenceIdeal.Value.run (F := Ideal) m ρ)

theorem algebraic : Cert.algebraic_FourierIdeal_FourierReferenceIdeal_pre_finite_transform := by
  intro m ρ m' ρ' hpre hag
  refine ⟨fun c => fun i : Cert.FourierIdeal.S4x2048x768.Idx =>
    Cert.FourierIdeal.Pure.whole
      (m ((c.tc : Thread Cert.FourierIdeal.nD Cert.FourierIdeal.τ).loc Cert.FourierIdeal.main_arg0))
      (m ((c.tc : Thread Cert.FourierIdeal.nD Cert.FourierIdeal.τ).loc Cert.FourierIdeal.main_arg1))
      (m ((c.tc : Thread Cert.FourierIdeal.nD Cert.FourierIdeal.τ).loc Cert.FourierIdeal.main_arg2))
      (m ((c.tc : Thread Cert.FourierIdeal.nD Cert.FourierIdeal.τ).loc Cert.FourierIdeal.main_arg3))
      (m ((c.tc : Thread Cert.FourierIdeal.nD Cert.FourierIdeal.τ).loc Cert.FourierIdeal.main_arg4)) (i 0) (i 1) (i 2), ?_, ?_⟩
  · exact (θ_run Cert.FourierIdeal.defs _ _).mono (fun _ h c => ⟨(h c).1.trans (Cert.FourierIdeal.Pure.final m c), (h c).2⟩) (Cert.FourierIdeal.Value.run_blocks (F := Ideal) m ρ)
  · refine (θ_run Cert.FourierReferenceIdeal.defs _ _).mono (fun _ h c => ⟨(h c).1.trans ?_, (h c).2⟩) (Cert.FourierReferenceIdeal.Value.run (F := Ideal) m' ρ')
    obtain ⟨f0, f1, f2, f3, f4⟩ := Cert.Pre_finite_transform.finite _ _ _ _ _ (hpre c)
    rw [Cert.FourierReferenceIdeal.Pure.run_eq, (hag c).1, (hag c).2.1, (hag c).2.2.1, (hag c).2.2.2.1, (hag c).2.2.2.2]
    funext i
    obtain ⟨b, s, col, rfl⟩ : ∃ (b : Fin 4) (s : Fin 2048) (col : Fin 768), i = ix3 b s col := ⟨i 0, i 1, i 2, eq_ix3 i⟩
    exact Cert.FourierReferenceIdeal.Pure.ref_apply _ _ _ _ _ f0 f1 f2 f3 f4 b s col

end Cert.Proof.Fourier

end
-- ==== Proof.lean ====
/- The certificate: every claim of Defs.lean, proved. -/
module

public import proofs.«01_k».proof.Defs
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossReferenceIdeal
public import proofs.«01_k».proof.Proof.Gen.CrossIdeal.Value
public import proofs.«01_k».proof.Proof.Gen.Pre_finite_scores
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.DenseUp
public import proofs.«01_k».proof.Proof.Gen.DenseUp.Skeleton
public import proofs.«01_k».proof.Proof.Gen.DenseUp.Launch
public import proofs.«01_k».proof.Proof.Gen.DenseUp.Points
public import proofs.«01_k».proof.Proof.Gen.DenseUp.Frame
public import proofs.«01_k».proof.Proof.Gen.DenseUpIdeal
public import proofs.«01_k».proof.Proof.Gen.DenseUpIdeal.Skeleton
public import proofs.«01_k».proof.Proof.Gen.DenseUpIdeal.Launch
public import proofs.«01_k».proof.Proof.Gen.DenseUpIdeal.Points
public import proofs.«01_k».proof.Proof.Gen.DenseUpIdeal.Frame
public import proofs.«01_k».proof.Proof.Gen.DenseUpReferenceIdeal
public import proofs.«01_k».proof.Proof.Gen.DenseDown
public import proofs.«01_k».proof.Proof.Gen.DenseDown.Skeleton
public import proofs.«01_k».proof.Proof.Gen.DenseDown.Launch
public import proofs.«01_k».proof.Proof.Gen.DenseDown.Points
public import proofs.«01_k».proof.Proof.Gen.DenseDown.Frame
public import proofs.«01_k».proof.Proof.Gen.DenseDownIdeal
public import proofs.«01_k».proof.Proof.Gen.DenseDownIdeal.Skeleton
public import proofs.«01_k».proof.Proof.Gen.DenseDownIdeal.Launch
public import proofs.«01_k».proof.Proof.Gen.DenseDownIdeal.Points
public import proofs.«01_k».proof.Proof.Gen.DenseDownIdeal.Frame
public import proofs.«01_k».proof.Proof.Gen.DenseDownReferenceIdeal
public import proofs.«01_k».proof.Proof.Gen.MergeIdeal.Value
public import proofs.«01_k».proof.Proof.Gen.MergeReferenceIdeal.Run
public import proofs.«01_k».proof.Proof.Gen.InProjIdeal.Value
public import proofs.«01_k».proof.Proof.Gen.InProjReferenceIdeal.Run
public import proofs.«01_k».proof.Proof.Gen.OutProjIdeal.Value
public import proofs.«01_k».proof.Proof.Gen.OutProjReferenceIdeal.Run
public import proofs.«01_k».proof.Proof.Gen.DenseUpIdeal.Value
public import proofs.«01_k».proof.Proof.Gen.DenseUpReferenceIdeal.Run
public import proofs.«01_k».proof.Proof.Gen.DenseDownIdeal.Value
public import proofs.«01_k».proof.Proof.Gen.DenseDownReferenceIdeal.Run
public import proofs.«01_k».proof.Proof.Gen.CrossReferenceIdeal.Run
public import proofs.«01_k».proof.Proof.Gen.MoeUp
public import proofs.«01_k».proof.Proof.Gen.MoeUp.Skeleton
public import proofs.«01_k».proof.Proof.Gen.MoeUp.Launch
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.MoeUpReferenceIdeal
public import proofs.«01_k».proof.Proof.Gen.MoeUpReferenceIdeal.Run
public import proofs.«01_k».proof.Proof.Gen.Pre_tables_of_tiles
public import proofs.«01_k».proof.Proof.Gen.MoeDown
public import proofs.«01_k».proof.Proof.Gen.MoeDown.Skeleton
public import proofs.«01_k».proof.Proof.Gen.MoeDown.Launch
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownReferenceIdeal
public import proofs.«01_k».proof.Proof.Gen.MoeDownReferenceIdeal.Run
public import proofs.«01_k».proof.Proof.Gen.Pre_tables_of_tiles_down
public import proofs.«01_k».proof.Proof.Gen.MemKV
public import proofs.«01_k».proof.Proof.Gen.MemKV.Skeleton
public import proofs.«01_k».proof.Proof.Gen.MemKV.Launch
public import proofs.«01_k».proof.Proof.Gen.MemKV.Points
public import proofs.«01_k».proof.Proof.Gen.MemKV.Frame
public import proofs.«01_k».proof.Proof.Gen.MemKVIdeal
public import proofs.«01_k».proof.Proof.Gen.MemKVIdeal.Skeleton
public import proofs.«01_k».proof.Proof.Gen.MemKVIdeal.Launch
public import proofs.«01_k».proof.Proof.Gen.MemKVIdeal.Points
public import proofs.«01_k».proof.Proof.Gen.MemKVIdeal.Frame
public import proofs.«01_k».proof.Proof.Gen.MemKVReferenceIdeal
public import proofs.«01_k».proof.Proof.Gen.MemKVIdeal.Value
public import proofs.«01_k».proof.Proof.Gen.MemKVReferenceIdeal.Run
public import proofs.«01_k».proof.Proof.Gen.NormMix
public import proofs.«01_k».proof.Proof.Gen.NormMix.Skeleton
public import proofs.«01_k».proof.Proof.Gen.NormMix.Launch
public import proofs.«01_k».proof.Proof.Gen.NormMix.Points
public import proofs.«01_k».proof.Proof.Gen.NormMix.Frame
public import proofs.«01_k».proof.Proof.Gen.NormMixIdeal
public import proofs.«01_k».proof.Proof.Gen.NormMixIdeal.Skeleton
public import proofs.«01_k».proof.Proof.Gen.NormMixIdeal.Launch
public import proofs.«01_k».proof.Proof.Gen.NormMixIdeal.Points
public import proofs.«01_k».proof.Proof.Gen.NormMixIdeal.Frame
public import proofs.«01_k».proof.Proof.Gen.NormMixReferenceIdeal
public import proofs.«01_k».proof.Proof.Gen.NormMixIdeal.Value
public import proofs.«01_k».proof.Proof.Gen.NormMixReferenceIdeal.Run
public import proofs.«01_k».proof.Proof.Gen.NormMem
public import proofs.«01_k».proof.Proof.Gen.NormMem.Skeleton
public import proofs.«01_k».proof.Proof.Gen.NormMem.Launch
public import proofs.«01_k».proof.Proof.Gen.NormMem.Points
public import proofs.«01_k».proof.Proof.Gen.NormMem.Frame
public import proofs.«01_k».proof.Proof.Gen.NormMemIdeal
public import proofs.«01_k».proof.Proof.Gen.NormMemIdeal.Skeleton
public import proofs.«01_k».proof.Proof.Gen.NormMemIdeal.Launch
public import proofs.«01_k».proof.Proof.Gen.NormMemIdeal.Points
public import proofs.«01_k».proof.Proof.Gen.NormMemIdeal.Frame
public import proofs.«01_k».proof.Proof.Gen.NormMemReferenceIdeal
public import proofs.«01_k».proof.Proof.Gen.NormMemIdeal.Value
public import proofs.«01_k».proof.Proof.Gen.NormMemReferenceIdeal.Run
public import proofs.«01_k».proof.Proof.Gen.Near
public import proofs.«01_k».proof.Proof.Gen.Near.Skeleton
public import proofs.«01_k».proof.Proof.Gen.Near.Launch
public import proofs.«01_k».proof.Proof.Gen.Near.Points
public import proofs.«01_k».proof.Proof.Gen.Near.Frame
public import proofs.«01_k».proof.Proof.Gen.NearIdeal
public import proofs.«01_k».proof.Proof.Gen.NearIdeal.Skeleton
public import proofs.«01_k».proof.Proof.Gen.NearIdeal.Launch
public import proofs.«01_k».proof.Proof.Gen.NearIdeal.Points
public import proofs.«01_k».proof.Proof.Gen.NearIdeal.Frame
public import proofs.«01_k».proof.Proof.Gen.NearReferenceIdeal
public import proofs.«01_k».proof.Proof.Gen.NearIdeal.Value
public import proofs.«01_k».proof.Proof.Gen.NearReferenceIdeal.Run
public import proofs.«01_k».proof.Proof.Gen.Fourier
public import proofs.«01_k».proof.Proof.Gen.Fourier.Skeleton
public import proofs.«01_k».proof.Proof.Gen.Fourier.Launch
public import proofs.«01_k».proof.Proof.Gen.Fourier.Points
public import proofs.«01_k».proof.Proof.Gen.Fourier.Frame
public import proofs.«01_k».proof.Proof.Gen.FourierIdeal
public import proofs.«01_k».proof.Proof.Gen.FourierIdeal.Skeleton
public import proofs.«01_k».proof.Proof.Gen.FourierIdeal.Launch
public import proofs.«01_k».proof.Proof.Gen.FourierIdeal.Points
public import proofs.«01_k».proof.Proof.Gen.FourierIdeal.Frame
public import proofs.«01_k».proof.Proof.Gen.FourierReferenceIdeal
public import proofs.«01_k».proof.Proof.Gen.FourierIdeal.Value
public import proofs.«01_k».proof.Proof.Gen.FourierReferenceIdeal.Run
public import proofs.«01_k».proof.Proof.Gen.Pre_finite_transform
public import proofs.«01_k».proof.Proof.Gen.Pre_finite_near_scores
public import proofs.«01_k».proof.Proof.CrossClaim
public import proofs.«01_k».proof.Proof.MergeClaim
public import proofs.«01_k».proof.Proof.InProj
public import proofs.«01_k».proof.Proof.OutProj
public import proofs.«01_k».proof.Proof.DenseUp
public import proofs.«01_k».proof.Proof.DenseDown
public import proofs.«01_k».proof.Proof.UpClaim
public import proofs.«01_k».proof.Proof.DownClaim
public import proofs.«01_k».proof.Proof.MemKV
public import proofs.«01_k».proof.Proof.NormMix
public import proofs.«01_k».proof.Proof.NormMem
public import proofs.«01_k».proof.Proof.NearClaim
public import proofs.«01_k».proof.Proof.FourierClaim
public import Idealize.ShloMosaic.Adequacy
public import Idealize.ShloMosaic.Init

@[expose] public section

noncomputable section

namespace Cert.Proof

theorem claim : Cert.Claim := ⟨Cert.Cross.Gen.facts, Cert.CrossIdeal.Gen.facts, Cert.CrossReferenceIdeal.Gen.facts,
  Cert.Merge.Gen.facts, Cert.MergeIdeal.Gen.facts, Cert.MergeReferenceIdeal.Gen.facts,
  Cert.InProj.Gen.facts, Cert.InProjIdeal.Gen.facts, Cert.InProjReferenceIdeal.Gen.facts,
  Cert.OutProj.Gen.facts, Cert.OutProjIdeal.Gen.facts, Cert.OutProjReferenceIdeal.Gen.facts,
  Cert.DenseUp.Gen.facts, Cert.DenseUpIdeal.Gen.facts, Cert.DenseUpReferenceIdeal.Gen.facts,
  Cert.DenseDown.Gen.facts, Cert.DenseDownIdeal.Gen.facts, Cert.DenseDownReferenceIdeal.Gen.facts,
  Cert.MoeUp.Gen.facts, Cert.MoeUpIdeal.Gen.facts, Cert.MoeUpReferenceIdeal.Gen.facts,
  Cert.MoeDown.Gen.facts, Cert.MoeDownIdeal.Gen.facts, Cert.MoeDownReferenceIdeal.Gen.facts,
  Cert.MemKV.Gen.facts, Cert.MemKVIdeal.Gen.facts, Cert.MemKVReferenceIdeal.Gen.facts,
  Cert.NormMix.Gen.facts, Cert.NormMixIdeal.Gen.facts, Cert.NormMixReferenceIdeal.Gen.facts,
  Cert.NormMem.Gen.facts, Cert.NormMemIdeal.Gen.facts, Cert.NormMemReferenceIdeal.Gen.facts,
  Cert.Near.Gen.facts, Cert.NearIdeal.Gen.facts, Cert.NearReferenceIdeal.Gen.facts,
  Cert.Fourier.Gen.facts, Cert.FourierIdeal.Gen.facts, Cert.FourierReferenceIdeal.Gen.facts,
  Cert.Pre_finite_scores.Gen.facts, Cert.Pre_tables_of_tiles.Gen.facts, Cert.Pre_tables_of_tiles_down.Gen.facts, Cert.Pre_finite_near_scores.Gen.facts, Cert.Pre_finite_transform.Gen.facts,
  Cross.frame, Cross.frameI, Cross.frameIP, Cross.frameR, Cross.frameRP,
  Merge.frame, Merge.frameI, Merge.frameR,
  InProj.frame, InProj.frameI, InProj.frameR,
  OutProj.frame, OutProj.frameI, OutProj.frameR,
  DenseUp.frame, DenseUp.frameI, DenseUp.frameR,
  DenseDown.frame, DenseDown.frameI, DenseDown.frameR,
  MoeUp.frame, MoeUp.frameI, MoeUp.frameR, MoeUp.frameRP,
  MoeDown.frame, MoeDown.frameI, MoeDown.frameR, MoeDown.frameRP,
  MemKV.frame, MemKV.frameI, MemKV.frameR,
  NormMix.frame, NormMix.frameI, NormMix.frameR,
  NormMem.frame, NormMem.frameI, NormMem.frameR,
  Near.frame, Near.frameI, Near.frameIP, Near.frameR, Near.frameRP,
  Fourier.frame, Fourier.frameI, Fourier.frameIP, Fourier.frameR, Fourier.frameRP,
  trivial, Cross.algebraic,
  trivial, Merge.algebraic,
  trivial, InProj.algebraic,
  trivial, OutProj.algebraic,
  trivial, DenseUp.algebraic,
  trivial, DenseDown.algebraic,
  trivial, MoeUp.algebraic,
  trivial, MoeDown.algebraic,
  trivial, MemKV.algebraic,
  trivial, NormMix.algebraic,
  trivial, NormMem.algebraic,
  trivial, Near.algebraic,
  trivial, Fourier.algebraic⟩

end Cert.Proof

end
